-- ==== Defs.lean ====
def Pre_Layers (m : (ℓ : Loc Cert.Layers.nD Cert.Layers.τ Cert.Layers.sig) → Buf (Elt Bits) ℓ) : Prop :=
  True

def Pre_LayersIdeal (m : (ℓ : Loc Cert.LayersIdeal.nD Cert.LayersIdeal.τ Cert.LayersIdeal.sig) → Buf (Elt Ideal) ℓ) : Prop :=
  True

def Pre_LayersIdeal_counted [hPre_counted : Cert.Pre_counted.Facts] (m : (ℓ : Loc Cert.LayersIdeal.nD Cert.LayersIdeal.τ Cert.LayersIdeal.sig) → Buf (Elt Ideal) ℓ) : Prop :=
  ∀ c : Dev Cert.LayersIdeal.nD,
    (Cert.Pre_counted.fn (F := Ideal) (m ((c.tc : Thread Cert.LayersIdeal.nD Cert.LayersIdeal.τ).loc Cert.LayersIdeal.main_arg0)) (m ((c.tc : Thread Cert.LayersIdeal.nD Cert.LayersIdeal.τ).loc Cert.LayersIdeal.main_arg1)) (m ((c.tc : Thread Cert.LayersIdeal.nD Cert.LayersIdeal.τ).loc Cert.LayersIdeal.main_arg2)) (m ((c.tc : Thread Cert.LayersIdeal.nD Cert.LayersIdeal.τ).loc Cert.LayersIdeal.main_arg3)) (m ((c.tc : Thread Cert.LayersIdeal.nD Cert.LayersIdeal.τ).loc Cert.LayersIdeal.main_arg4)) (m ((c.tc : Thread Cert.LayersIdeal.nD Cert.LayersIdeal.τ).loc Cert.LayersIdeal.main_arg5)) (m ((c.tc : Thread Cert.LayersIdeal.nD Cert.LayersIdeal.τ).loc Cert.LayersIdeal.main_arg6)) (m ((c.tc : Thread Cert.LayersIdeal.nD Cert.LayersIdeal.τ).loc Cert.LayersIdeal.main_arg7)) (m ((c.tc : Thread Cert.LayersIdeal.nD Cert.LayersIdeal.τ).loc Cert.LayersIdeal.main_arg8)) (m ((c.tc : Thread Cert.LayersIdeal.nD Cert.LayersIdeal.τ).loc Cert.LayersIdeal.main_arg9)) (m ((c.tc : Thread Cert.LayersIdeal.nD Cert.LayersIdeal.τ).loc Cert.LayersIdeal.main_arg10)) (m ((c.tc : Thread Cert.LayersIdeal.nD Cert.LayersIdeal.τ).loc Cert.LayersIdeal.main_arg11)) (m ((c.tc : Thread Cert.LayersIdeal.nD Cert.LayersIdeal.τ).loc Cert.LayersIdeal.main_arg12)) (m ((c.tc : Thread Cert.LayersIdeal.nD Cert.LayersIdeal.τ).loc Cert.LayersIdeal.main_arg13)) (m ((c.tc : Thread Cert.LayersIdeal.nD Cert.LayersIdeal.τ).loc Cert.LayersIdeal.main_arg14)) (m ((c.tc : Thread Cert.LayersIdeal.nD Cert.LayersIdeal.τ).loc Cert.LayersIdeal.main_arg15)) (m ((c.tc : Thread Cert.LayersIdeal.nD Cert.LayersIdeal.τ).loc Cert.LayersIdeal.main_arg16)) (m ((c.tc : Thread Cert.LayersIdeal.nD Cert.LayersIdeal.τ).loc Cert.LayersIdeal.main_arg17))) = (fun _ => 1#1)

def Pre_LayersRefIdeal (m : (ℓ : Loc Cert.LayersRefIdeal.nD Cert.LayersRefIdeal.τ Cert.LayersRefIdeal.sig) → Buf (Elt Ideal) ℓ) : Prop :=
  True

def Pre_LayersRefIdeal_counted [hPre_counted : Cert.Pre_counted.Facts] (m : (ℓ : Loc Cert.LayersRefIdeal.nD Cert.LayersRefIdeal.τ Cert.LayersRefIdeal.sig) → Buf (Elt Ideal) ℓ) : Prop :=
  ∀ c : Dev Cert.LayersRefIdeal.nD,
    (Cert.Pre_counted.fn (F := Ideal) (m ((c.tc : Thread Cert.LayersRefIdeal.nD Cert.LayersRefIdeal.τ).loc Cert.LayersRefIdeal.main_arg0)) (m ((c.tc : Thread Cert.LayersRefIdeal.nD Cert.LayersRefIdeal.τ).loc Cert.LayersRefIdeal.main_arg1)) (m ((c.tc : Thread Cert.LayersRefIdeal.nD Cert.LayersRefIdeal.τ).loc Cert.LayersRefIdeal.main_arg2)) (m ((c.tc : Thread Cert.LayersRefIdeal.nD Cert.LayersRefIdeal.τ).loc Cert.LayersRefIdeal.main_arg3)) (m ((c.tc : Thread Cert.LayersRefIdeal.nD Cert.LayersRefIdeal.τ).loc Cert.LayersRefIdeal.main_arg4)) (m ((c.tc : Thread Cert.LayersRefIdeal.nD Cert.LayersRefIdeal.τ).loc Cert.LayersRefIdeal.main_arg5)) (m ((c.tc : Thread Cert.LayersRefIdeal.nD Cert.LayersRefIdeal.τ).loc Cert.LayersRefIdeal.main_arg6)) (m ((c.tc : Thread Cert.LayersRefIdeal.nD Cert.LayersRefIdeal.τ).loc Cert.LayersRefIdeal.main_arg7)) (m ((c.tc : Thread Cert.LayersRefIdeal.nD Cert.LayersRefIdeal.τ).loc Cert.LayersRefIdeal.main_arg8)) (m ((c.tc : Thread Cert.LayersRefIdeal.nD Cert.LayersRefIdeal.τ).loc Cert.LayersRefIdeal.main_arg9)) (m ((c.tc : Thread Cert.LayersRefIdeal.nD Cert.LayersRefIdeal.τ).loc Cert.LayersRefIdeal.main_arg10)) (m ((c.tc : Thread Cert.LayersRefIdeal.nD Cert.LayersRefIdeal.τ).loc Cert.LayersRefIdeal.main_arg11)) (m ((c.tc : Thread Cert.LayersRefIdeal.nD Cert.LayersRefIdeal.τ).loc Cert.LayersRefIdeal.main_arg12)) (m ((c.tc : Thread Cert.LayersRefIdeal.nD Cert.LayersRefIdeal.τ).loc Cert.LayersRefIdeal.main_arg13)) (m ((c.tc : Thread Cert.LayersRefIdeal.nD Cert.LayersRefIdeal.τ).loc Cert.LayersRefIdeal.main_arg14)) (m ((c.tc : Thread Cert.LayersRefIdeal.nD Cert.LayersRefIdeal.τ).loc Cert.LayersRefIdeal.main_arg15)) (m ((c.tc : Thread Cert.LayersRefIdeal.nD Cert.LayersRefIdeal.τ).loc Cert.LayersRefIdeal.main_arg16)) (m ((c.tc : Thread Cert.LayersRefIdeal.nD Cert.LayersRefIdeal.τ).loc Cert.LayersRefIdeal.main_arg17))) = (fun _ => 1#1)

def Pre_Head [hPre_in_range : Cert.Pre_in_range.Facts] (m : (ℓ : Loc Cert.Head.nD Cert.Head.τ Cert.Head.sig) → Buf (Elt Bits) ℓ) : Prop :=
  ∀ c : Dev Cert.Head.nD,
    (Cert.Pre_in_range.fn (F := Bits) (m ((c.tc : Thread Cert.Head.nD Cert.Head.τ).loc Cert.Head.main_arg0)) (m ((c.tc : Thread Cert.Head.nD Cert.Head.τ).loc Cert.Head.main_arg1)) (m ((c.tc : Thread Cert.Head.nD Cert.Head.τ).loc Cert.Head.main_arg2)) (m ((c.tc : Thread Cert.Head.nD Cert.Head.τ).loc Cert.Head.main_arg3)) (m ((c.tc : Thread Cert.Head.nD Cert.Head.τ).loc Cert.Head.main_arg4))) = (fun _ => 1#1)

def Pre_HeadIdeal [hPre_in_range : Cert.Pre_in_range.Facts] (m : (ℓ : Loc Cert.HeadIdeal.nD Cert.HeadIdeal.τ Cert.HeadIdeal.sig) → Buf (Elt Ideal) ℓ) : Prop :=
  ∀ c : Dev Cert.HeadIdeal.nD,
    (Cert.Pre_in_range.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_in_range [hPre_in_range : Cert.Pre_in_range.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_in_range.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4))) = (fun _ => 1#1)

def quiescent_Layers [hLayers : Cert.Layers.Facts] : Prop :=
  ∀ (m : (ℓ : Loc Cert.Layers.nD Cert.Layers.τ Cert.Layers.sig) → Buf (Elt Bits) ℓ) (g : Dev Cert.Layers.nD → PrngReg), Pre_Layers m →
    θ_run (Cert.Layers.defs (F := Bits)) (onTc (τ := Cert.Layers.τ) (Cert.Layers.main (F := Bits))) ⟨m, fun _ => 0, g⟩ (fun r => (∀ c : Dev Cert.Layers.nD,
      r.2.mem ((c.tc : Thread Cert.Layers.nD Cert.Layers.τ).loc Cert.Layers.main_arg0) = m ((c.tc : Thread Cert.Layers.nD Cert.Layers.τ).loc Cert.Layers.main_arg0)
      ∧ r.2.mem ((c.tc : Thread Cert.Layers.nD Cert.Layers.τ).loc Cert.Layers.main_arg1) = m ((c.tc : Thread Cert.Layers.nD Cert.Layers.τ).loc Cert.Layers.main_arg1)
      ∧ r.2.mem ((c.tc : Thread Cert.Layers.nD Cert.Layers.τ).loc Cert.Layers.main_arg2) = m ((c.tc : Thread Cert.Layers.nD Cert.Layers.τ).loc Cert.Layers.main_arg2)
      ∧ r.2.mem ((c.tc : Thread Cert.Layers.nD Cert.Layers.τ).loc Cert.Layers.main_arg3) = m ((c.tc : Thread Cert.Layers.nD Cert.Layers.τ).loc Cert.Layers.main_arg3)
      ∧ r.2.mem ((c.tc : Thread Cert.Layers.nD Cert.Layers.τ).loc Cert.Layers.main_arg4) = m ((c.tc : Thread Cert.Layers.nD Cert.Layers.τ).loc Cert.Layers.main_arg4)
      ∧ r.2.mem ((c.tc : Thread Cert.Layers.nD Cert.Layers.τ).loc Cert.Layers.main_arg5) = m ((c.tc : Thread Cert.Layers.nD Cert.Layers.τ).loc Cert.Layers.main_arg5)
      ∧ r.2.mem ((c.tc : Thread Cert.Layers.nD Cert.Layers.τ).loc Cert.Layers.main_arg6) = m ((c.tc : Thread Cert.Layers.nD Cert.Layers.τ).loc Cert.Layers.main_arg6)
      ∧ r.2.mem ((c.tc : Thread Cert.Layers.nD Cert.Layers.τ).loc Cert.Layers.main_arg7) = m ((c.tc : Thread Cert.Layers.nD Cert.Layers.τ).loc Cert.Layers.main_arg7)
      ∧ r.2.mem ((c.tc : Thread Cert.Layers.nD Cert.Layers.τ).loc Cert.Layers.main_arg8) = m ((c.tc : Thread Cert.Layers.nD Cert.Layers.τ).loc Cert.Layers.main_arg8)
      ∧ r.2.mem ((c.tc : Thread Cert.Layers.nD Cert.Layers.τ).loc Cert.Layers.main_arg9) = m ((c.tc : Thread Cert.Layers.nD Cert.Layers.τ).loc Cert.Layers.main_arg9)
      ∧ r.2.mem ((c.tc : Thread Cert.Layers.nD Cert.Layers.τ).loc Cert.Layers.main_arg10) = m ((c.tc : Thread Cert.Layers.nD Cert.Layers.τ).loc Cert.Layers.main_arg10)
      ∧ r.2.mem ((c.tc : Thread Cert.Layers.nD Cert.Layers.τ).loc Cert.Layers.main_arg11) = m ((c.tc : Thread Cert.Layers.nD Cert.Layers.τ).loc Cert.Layers.main_arg11)
      ∧ r.2.mem ((c.tc : Thread Cert.Layers.nD Cert.Layers.τ).loc Cert.Layers.main_arg12) = m ((c.tc : Thread Cert.Layers.nD Cert.Layers.τ).loc Cert.Layers.main_arg12)
      ∧ r.2.mem ((c.tc : Thread Cert.Layers.nD Cert.Layers.τ).loc Cert.Layers.main_arg13) = m ((c.tc : Thread Cert.Layers.nD Cert.Layers.τ).loc Cert.Layers.main_arg13)
      ∧ r.2.mem ((c.tc : Thread Cert.Layers.nD Cert.Layers.τ).loc Cert.Layers.main_arg14) = m ((c.tc : Thread Cert.Layers.nD Cert.Layers.τ).loc Cert.Layers.main_arg14)
      ∧ r.2.mem ((c.tc : Thread Cert.Layers.nD Cert.Layers.τ).loc Cert.Layers.main_arg15) = m ((c.tc : Thread Cert.Layers.nD Cert.Layers.τ).loc Cert.Layers.main_arg15)
      ∧ r.2.mem ((c.tc : Thread Cert.Layers.nD Cert.Layers.τ).loc Cert.Layers.main_arg16) = m ((c.tc : Thread Cert.Layers.nD Cert.Layers.τ).loc Cert.Layers.main_arg16)
      ∧ r.2.mem ((c.tc : Thread Cert.Layers.nD Cert.Layers.τ).loc Cert.Layers.main_arg17) = m ((c.tc : Thread Cert.Layers.nD Cert.Layers.τ).loc Cert.Layers.main_arg17))
      ∧ r.2.sem = fun _ => 0)

def quiescent_LayersIdeal [hLayersIdeal : Cert.LayersIdeal.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
      ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
      ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
      ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11)
      ∧ r.2.mem ((c.tc : Thread Cert.LayersIdeal.nD Cert.LayersIdeal.τ).loc Cert.LayersIdeal.main_arg12) = m ((c.tc : Thread Cert.LayersIdeal.nD Cert.LayersIdeal.τ).loc Cert.LayersIdeal.main_arg12)
      ∧ r.2.mem ((c.tc : Thread Cert.LayersIdeal.nD Cert.LayersIdeal.τ).loc Cert.LayersIdeal.main_arg13) = m ((c.tc : Thread Cert.LayersIdeal.nD Cert.LayersIdeal.τ).loc Cert.LayersIdeal.main_arg13)
      ∧ r.2.mem ((c.tc : Thread Cert.LayersIdeal.nD Cert.LayersIdeal.τ).loc Cert.LayersIdeal.main_arg14) = m ((c.tc : Thread Cert.LayersIdeal.nD Cert.LayersIdeal.τ).loc Cert.LayersIdeal.main_arg14)
      ∧ r.2.mem ((c.tc : Thread Cert.LayersIdeal.nD Cert.LayersIdeal.τ).loc Cert.LayersIdeal.main_arg15) = m ((c.tc : Thread Cert.LayersIdeal.nD Cert.LayersIdeal.τ).loc Cert.LayersIdeal.main_arg15)
      ∧ r.2.mem ((c.tc : Thread Cert.LayersIdeal.nD Cert.LayersIdeal.τ).loc Cert.LayersIdeal.main_arg16) = m ((c.tc : Thread Cert.LayersIdeal.nD Cert.LayersIdeal.τ).loc Cert.LayersIdeal.main_arg16)
      ∧ r.2.mem ((c.tc : Thread Cert.LayersIdeal.nD Cert.LayersIdeal.τ).loc Cert.LayersIdeal.main_arg17) = m ((c.tc : Thread Cert.LayersIdeal.nD Cert.LayersIdeal.τ).loc Cert.LayersIdeal.main_arg17))
      ∧ r.2.sem = fun _ => 0)

def quiescent_LayersIdeal_pre_counted [hLayersIdeal : Cert.LayersIdeal.Facts] [hPre_counted : Cert.Pre_counted.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal_counted m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
      ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
      ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
      ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11)
      ∧ r.2.mem ((c.tc : Thread Cert.LayersIdeal.nD Cert.LayersIdeal.τ).loc Cert.LayersIdeal.main_arg12) = m ((c.tc : Thread Cert.LayersIdeal.nD Cert.LayersIdeal.τ).loc Cert.LayersIdeal.main_arg12)
      ∧ r.2.mem ((c.tc : Thread Cert.LayersIdeal.nD Cert.LayersIdeal.τ).loc Cert.LayersIdeal.main_arg13) = m ((c.tc : Thread Cert.LayersIdeal.nD Cert.LayersIdeal.τ).loc Cert.LayersIdeal.main_arg13)
      ∧ r.2.mem ((c.tc : Thread Cert.LayersIdeal.nD Cert.LayersIdeal.τ).loc Cert.LayersIdeal.main_arg14) = m ((c.tc : Thread Cert.LayersIdeal.nD Cert.LayersIdeal.τ).loc Cert.LayersIdeal.main_arg14)
      ∧ r.2.mem ((c.tc : Thread Cert.LayersIdeal.nD Cert.LayersIdeal.τ).loc Cert.LayersIdeal.main_arg15) = m ((c.tc : Thread Cert.LayersIdeal.nD Cert.LayersIdeal.τ).loc Cert.LayersIdeal.main_arg15)
      ∧ r.2.mem ((c.tc : Thread Cert.LayersIdeal.nD Cert.LayersIdeal.τ).loc Cert.LayersIdeal.main_arg16) = m ((c.tc : Thread Cert.LayersIdeal.nD Cert.LayersIdeal.τ).loc Cert.LayersIdeal.main_arg16)
      ∧ r.2.mem ((c.tc : Thread Cert.LayersIdeal.nD Cert.LayersIdeal.τ).loc Cert.LayersIdeal.main_arg17) = m ((c.tc : Thread Cert.LayersIdeal.nD Cert.LayersIdeal.τ).loc Cert.LayersIdeal.main_arg17))
      ∧ r.2.sem = fun _ => 0)

def quiescent_LayersRefIdeal [hLayersRefIdeal : Cert.LayersRefIdeal.Facts] : Prop :=
  ∀ (m : (ℓ : Loc Cert.LayersRefIdeal.nD Cert.LayersRefIdeal.τ Cert.LayersRefIdeal.sig) → Buf (Elt Ideal) ℓ) (g : Dev Cert.LayersRefIdeal.nD → PrngReg), Pre_LayersRefIdeal m →
    θ_run (Cert.LayersRefIdeal.defs (F := Ideal)) (onTc (τ := Cert.LayersRefIdeal.τ) (Cert.LayersRefIdeal.main (F := Ideal))) ⟨m, fun _ => 0, g⟩ (fun r => (∀ c : Dev Cert.LayersRefIdeal.nD,
      r.2.mem ((c.tc : Thread Cert.LayersRefIdeal.nD Cert.LayersRefIdeal.τ).loc Cert.LayersRefIdeal.main_arg0) = m ((c.tc : Thread Cert.LayersRefIdeal.nD Cert.LayersRefIdeal.τ).loc Cert.LayersRefIdeal.main_arg0)
      ∧ r.2.mem ((c.tc : Thread Cert.LayersRefIdeal.nD Cert.LayersRefIdeal.τ).loc Cert.LayersRefIdeal.main_arg1) = m ((c.tc : Thread Cert.LayersRefIdeal.nD Cert.LayersRefIdeal.τ).loc Cert.LayersRefIdeal.main_arg1)
      ∧ r.2.mem ((c.tc : Thread Cert.LayersRefIdeal.nD Cert.LayersRefIdeal.τ).loc Cert.LayersRefIdeal.main_arg2) = m ((c.tc : Thread Cert.LayersRefIdeal.nD Cert.LayersRefIdeal.τ).loc Cert.LayersRefIdeal.main_arg2)
      ∧ r.2.mem ((c.tc : Thread Cert.LayersRefIdeal.nD Cert.LayersRefIdeal.τ).loc Cert.LayersRefIdeal.main_arg3) = m ((c.tc : Thread Cert.LayersRefIdeal.nD Cert.LayersRefIdeal.τ).loc Cert.LayersRefIdeal.main_arg3)
      ∧ r.2.mem ((c.tc : Thread Cert.LayersRefIdeal.nD Cert.LayersRefIdeal.τ).loc Cert.LayersRefIdeal.main_arg4) = m ((c.tc : Thread Cert.LayersRefIdeal.nD Cert.LayersRefIdeal.τ).loc Cert.LayersRefIdeal.main_arg4)
      ∧ r.2.mem ((c.tc : Thread Cert.LayersRefIdeal.nD Cert.LayersRefIdeal.τ).loc Cert.LayersRefIdeal.main_arg5) = m ((c.tc : Thread Cert.LayersRefIdeal.nD Cert.LayersRefIdeal.τ).loc Cert.LayersRefIdeal.main_arg5)
      ∧ r.2.mem ((c.tc : Thread Cert.LayersRefIdeal.nD Cert.LayersRefIdeal.τ).loc Cert.LayersRefIdeal.main_arg6) = m ((c.tc : Thread Cert.LayersRefIdeal.nD Cert.LayersRefIdeal.τ).loc Cert.LayersRefIdeal.main_arg6)
      ∧ r.2.mem ((c.tc : Thread Cert.LayersRefIdeal.nD Cert.LayersRefIdeal.τ).loc Cert.LayersRefIdeal.main_arg7) = m ((c.tc : Thread Cert.LayersRefIdeal.nD Cert.LayersRefIdeal.τ).loc Cert.LayersRefIdeal.main_arg7)
      ∧ r.2.mem ((c.tc : Thread Cert.LayersRefIdeal.nD Cert.LayersRefIdeal.τ).loc Cert.LayersRefIdeal.main_arg8) = m ((c.tc : Thread Cert.LayersRefIdeal.nD Cert.LayersRefIdeal.τ).loc Cert.LayersRefIdeal.main_arg8)
      ∧ r.2.mem ((c.tc : Thread Cert.LayersRefIdeal.nD Cert.LayersRefIdeal.τ).loc Cert.LayersRefIdeal.main_arg9) = m ((c.tc : Thread Cert.LayersRefIdeal.nD Cert.LayersRefIdeal.τ).loc Cert.LayersRefIdeal.main_arg9)
      ∧ r.2.mem ((c.tc : Thread Cert.LayersRefIdeal.nD Cert.LayersRefIdeal.τ).loc Cert.LayersRefIdeal.main_arg10) = m ((c.tc : Thread Cert.LayersRefIdeal.nD Cert.LayersRefIdeal.τ).loc Cert.LayersRefIdeal.main_arg10)
      ∧ r.2.mem ((c.tc : Thread Cert.LayersRefIdeal.nD Cert.LayersRefIdeal.τ).loc Cert.LayersRefIdeal.main_arg11) = m ((c.tc : Thread Cert.LayersRefIdeal.nD Cert.LayersRefIdeal.τ).loc Cert.LayersRefIdeal.main_arg11)
      ∧ r.2.mem ((c.tc : Thread Cert.LayersRefIdeal.nD Cert.LayersRefIdeal.τ).loc Cert.LayersRefIdeal.main_arg12) = m ((c.tc : Thread Cert.LayersRefIdeal.nD Cert.LayersRefIdeal.τ).loc Cert.LayersRefIdeal.main_arg12)
      ∧ r.2.mem ((c.tc : Thread Cert.LayersRefIdeal.nD Cert.LayersRefIdeal.τ).loc Cert.LayersRefIdeal.main_arg13) = m ((c.tc : Thread Cert.LayersRefIdeal.nD Cert.LayersRefIdeal.τ).loc Cert.LayersRefIdeal.main_arg13)
      ∧ r.2.mem ((c.tc : Thread Cert.LayersRefIdeal.nD Cert.LayersRefIdeal.τ).loc Cert.LayersRefIdeal.main_arg14) = m ((c.tc : Thread Cert.LayersRefIdeal.nD Cert.LayersRefIdeal.τ).loc Cert.LayersRefIdeal.main_arg14)
      ∧ r.2.mem ((c.tc : Thread Cert.LayersRefIdeal.nD Cert.LayersRefIdeal.τ).loc Cert.LayersRefIdeal.main_arg15) = m ((c.tc : Thread Cert.LayersRefIdeal.nD Cert.LayersRefIdeal.τ).loc Cert.LayersRefIdeal.main_arg15)
      ∧ r.2.mem ((c.tc : Thread Cert.LayersRefIdeal.nD Cert.LayersRefIdeal.τ).loc Cert.LayersRefIdeal.main_arg16) = m ((c.tc : Thread Cert.LayersRefIdeal.nD Cert.LayersRefIdeal.τ).loc Cert.LayersRefIdeal.main_arg16)
      ∧ r.2.mem ((c.tc : Thread Cert.LayersRefIdeal.nD Cert.LayersRefIdeal.τ).loc Cert.LayersRefIdeal.main_arg17) = m ((c.tc : Thread Cert.LayersRefIdeal.nD Cert.LayersRefIdeal.τ).loc Cert.LayersRefIdeal.main_arg17))
      ∧ r.2.sem = fun _ => 0)

def quiescent_LayersRefIdeal_pre_counted [hLayersRefIdeal : Cert.LayersRefIdeal.Facts] [hPre_counted : Cert.Pre_counted.Facts] : Prop :=
  ∀ (m : (ℓ : Loc Cert.LayersRefIdeal.nD Cert.LayersRefIdeal.τ Cert.LayersRefIdeal.sig) → Buf (Elt Ideal) ℓ) (g : Dev Cert.LayersRefIdeal.nD → PrngReg), Pre_LayersRefIdeal_counted m →
    θ_run (Cert.LayersRefIdeal.defs (F := Ideal)) (onTc (τ := Cert.LayersRefIdeal.τ) (Cert.LayersRefIdeal.main (F := Ideal))) ⟨m, fun _ => 0, g⟩ (fun r => (∀ c : Dev Cert.LayersRefIdeal.nD,
      r.2.mem ((c.tc : Thread Cert.LayersRefIdeal.nD Cert.LayersRefIdeal.τ).loc Cert.LayersRefIdeal.main_arg0) = m ((c.tc : Thread Cert.LayersRefIdeal.nD Cert.LayersRefIdeal.τ).loc Cert.LayersRefIdeal.main_arg0)
      ∧ r.2.mem ((c.tc : Thread Cert.LayersRefIdeal.nD Cert.LayersRefIdeal.τ).loc Cert.LayersRefIdeal.main_arg1) = m ((c.tc : Thread Cert.LayersRefIdeal.nD Cert.LayersRefIdeal.τ).loc Cert.LayersRefIdeal.main_arg1)
      ∧ r.2.mem ((c.tc : Thread Cert.LayersRefIdeal.nD Cert.LayersRefIdeal.τ).loc Cert.LayersRefIdeal.main_arg2) = m ((c.tc : Thread Cert.LayersRefIdeal.nD Cert.LayersRefIdeal.τ).loc Cert.LayersRefIdeal.main_arg2)
      ∧ r.2.mem ((c.tc : Thread Cert.LayersRefIdeal.nD Cert.LayersRefIdeal.τ).loc Cert.LayersRefIdeal.main_arg3) = m ((c.tc : Thread Cert.LayersRefIdeal.nD Cert.LayersRefIdeal.τ).loc Cert.LayersRefIdeal.main_arg3)
      ∧ r.2.mem ((c.tc : Thread Cert.LayersRefIdeal.nD Cert.LayersRefIdeal.τ).loc Cert.LayersRefIdeal.main_arg4) = m ((c.tc : Thread Cert.LayersRefIdeal.nD Cert.LayersRefIdeal.τ).loc Cert.LayersRefIdeal.main_arg4)
      ∧ r.2.mem ((c.tc : Thread Cert.LayersRefIdeal.nD Cert.LayersRefIdeal.τ).loc Cert.LayersRefIdeal.main_arg5) = m ((c.tc : Thread Cert.LayersRefIdeal.nD Cert.LayersRefIdeal.τ).loc Cert.LayersRefIdeal.main_arg5)
      ∧ r.2.mem ((c.tc : Thread Cert.LayersRefIdeal.nD Cert.LayersRefIdeal.τ).loc Cert.LayersRefIdeal.main_arg6) = m ((c.tc : Thread Cert.LayersRefIdeal.nD Cert.LayersRefIdeal.τ).loc Cert.LayersRefIdeal.main_arg6)
      ∧ r.2.mem ((c.tc : Thread Cert.LayersRefIdeal.nD Cert.LayersRefIdeal.τ).loc Cert.LayersRefIdeal.main_arg7) = m ((c.tc : Thread Cert.LayersRefIdeal.nD Cert.LayersRefIdeal.τ).loc Cert.LayersRefIdeal.main_arg7)
      ∧ r.2.mem ((c.tc : Thread Cert.LayersRefIdeal.nD Cert.LayersRefIdeal.τ).loc Cert.LayersRefIdeal.main_arg8) = m ((c.tc : Thread Cert.LayersRefIdeal.nD Cert.LayersRefIdeal.τ).loc Cert.LayersRefIdeal.main_arg8)
      ∧ r.2.mem ((c.tc : Thread Cert.LayersRefIdeal.nD Cert.LayersRefIdeal.τ).loc Cert.LayersRefIdeal.main_arg9) = m ((c.tc : Thread Cert.LayersRefIdeal.nD Cert.LayersRefIdeal.τ).loc Cert.LayersRefIdeal.main_arg9)
      ∧ r.2.mem ((c.tc : Thread Cert.LayersRefIdeal.nD Cert.LayersRefIdeal.τ).loc Cert.LayersRefIdeal.main_arg10) = m ((c.tc : Thread Cert.LayersRefIdeal.nD Cert.LayersRefIdeal.τ).loc Cert.LayersRefIdeal.main_arg10)
      ∧ r.2.mem ((c.tc : Thread Cert.LayersRefIdeal.nD Cert.LayersRefIdeal.τ).loc Cert.LayersRefIdeal.main_arg11) = m ((c.tc : Thread Cert.LayersRefIdeal.nD Cert.LayersRefIdeal.τ).loc Cert.LayersRefIdeal.main_arg11)
      ∧ r.2.mem ((c.tc : Thread Cert.LayersRefIdeal.nD Cert.LayersRefIdeal.τ).loc Cert.LayersRefIdeal.main_arg12) = m ((c.tc : Thread Cert.LayersRefIdeal.nD Cert.LayersRefIdeal.τ).loc Cert.LayersRefIdeal.main_arg12)
      ∧ r.2.mem ((c.tc : Thread Cert.LayersRefIdeal.nD Cert.LayersRefIdeal.τ).loc Cert.LayersRefIdeal.main_arg13) = m ((c.tc : Thread Cert.LayersRefIdeal.nD Cert.LayersRefIdeal.τ).loc Cert.LayersRefIdeal.main_arg13)
      ∧ r.2.mem ((c.tc : Thread Cert.LayersRefIdeal.nD Cert.LayersRefIdeal.τ).loc Cert.LayersRefIdeal.main_arg14) = m ((c.tc : Thread Cert.LayersRefIdeal.nD Cert.LayersRefIdeal.τ).loc Cert.LayersRefIdeal.main_arg14)
      ∧ r.2.mem ((c.tc : Thread Cert.LayersRefIdeal.nD Cert.LayersRefIdeal.τ).loc Cert.LayersRefIdeal.main_arg15) = m ((c.tc : Thread Cert.LayersRefIdeal.nD Cert.LayersRefIdeal.τ).loc Cert.LayersRefIdeal.main_arg15)
      ∧ r.2.mem ((c.tc : Thread Cert.LayersRefIdeal.nD Cert.LayersRefIdeal.τ).loc Cert.LayersRefIdeal.main_arg16) = m ((c.tc : Thread Cert.LayersRefIdeal.nD Cert.LayersRefIdeal.τ).loc Cert.LayersRefIdeal.main_arg16)
      ∧ r.2.mem ((c.tc : Thread Cert.LayersRefIdeal.nD Cert.LayersRefIdeal.τ).loc Cert.LayersRefIdeal.main_arg17) = m ((c.tc : Thread Cert.LayersRefIdeal.nD Cert.LayersRefIdeal.τ).loc Cert.LayersRefIdeal.main_arg17))
      ∧ r.2.sem = fun _ => 0)

def quiescent_Head [hHead : Cert.Head.Facts] [hPre_in_range : Cert.Pre_in_range.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] [hPre_in_range : Cert.Pre_in_range.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_HeadRefIdeal_pre_in_range [hHeadRefIdeal : Cert.HeadRefIdeal.Facts] [hPre_in_range : Cert.Pre_in_range.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_in_range m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def preserves_Layers_LayersIdeal : Prop :=
  True

def algebraic_LayersIdeal_LayersRefIdeal_pre_counted [hLayersIdeal : Cert.LayersIdeal.Facts] [hLayersRefIdeal : Cert.LayersRefIdeal.Facts] [hPre_counted : Cert.Pre_counted.Facts] : Prop :=
  ∀ (m : (ℓ : Loc Cert.LayersIdeal.nD Cert.LayersIdeal.τ Cert.LayersIdeal.sig) → Buf (Elt Ideal) ℓ) (g : Dev Cert.LayersIdeal.nD → PrngReg)
    (m' : (ℓ : Loc Cert.LayersRefIdeal.nD Cert.LayersRefIdeal.τ Cert.LayersRefIdeal.sig) → Buf (Elt Ideal) ℓ) (g' : Dev Cert.LayersRefIdeal.nD → PrngReg), Pre_LayersIdeal_counted m →
    (∀ c : Dev Cert.LayersIdeal.nD,
      m' ((c.tc : Thread Cert.LayersRefIdeal.nD Cert.LayersRefIdeal.τ).loc Cert.LayersRefIdeal.main_arg0) = m ((c.tc : Thread Cert.LayersIdeal.nD Cert.LayersIdeal.τ).loc Cert.LayersIdeal.main_arg0)
      ∧ m' ((c.tc : Thread Cert.LayersRefIdeal.nD Cert.LayersRefIdeal.τ).loc Cert.LayersRefIdeal.main_arg1) = m ((c.tc : Thread Cert.LayersIdeal.nD Cert.LayersIdeal.τ).loc Cert.LayersIdeal.main_arg1)
      ∧ m' ((c.tc : Thread Cert.LayersRefIdeal.nD Cert.LayersRefIdeal.τ).loc Cert.LayersRefIdeal.main_arg2) = m ((c.tc : Thread Cert.LayersIdeal.nD Cert.LayersIdeal.τ).loc Cert.LayersIdeal.main_arg2)
      ∧ m' ((c.tc : Thread Cert.LayersRefIdeal.nD Cert.LayersRefIdeal.τ).loc Cert.LayersRefIdeal.main_arg3) = m ((c.tc : Thread Cert.LayersIdeal.nD Cert.LayersIdeal.τ).loc Cert.LayersIdeal.main_arg3)
      ∧ m' ((c.tc : Thread Cert.LayersRefIdeal.nD Cert.LayersRefIdeal.τ).loc Cert.LayersRefIdeal.main_arg4) = m ((c.tc : Thread Cert.LayersIdeal.nD Cert.LayersIdeal.τ).loc Cert.LayersIdeal.main_arg4)
      ∧ m' ((c.tc : Thread Cert.LayersRefIdeal.nD Cert.LayersRefIdeal.τ).loc Cert.LayersRefIdeal.main_arg5) = m ((c.tc : Thread Cert.LayersIdeal.nD Cert.LayersIdeal.τ).loc Cert.LayersIdeal.main_arg5)
      ∧ m' ((c.tc : Thread Cert.LayersRefIdeal.nD Cert.LayersRefIdeal.τ).loc Cert.LayersRefIdeal.main_arg6) = m ((c.tc : Thread Cert.LayersIdeal.nD Cert.LayersIdeal.τ).loc Cert.LayersIdeal.main_arg6)
      ∧ m' ((c.tc : Thread Cert.LayersRefIdeal.nD Cert.LayersRefIdeal.τ).loc Cert.LayersRefIdeal.main_arg7) = m ((c.tc : Thread Cert.LayersIdeal.nD Cert.LayersIdeal.τ).loc Cert.LayersIdeal.main_arg7)
      ∧ m' ((c.tc : Thread Cert.LayersRefIdeal.nD Cert.LayersRefIdeal.τ).loc Cert.LayersRefIdeal.main_arg8) = m ((c.tc : Thread Cert.LayersIdeal.nD Cert.LayersIdeal.τ).loc Cert.LayersIdeal.main_arg8)
      ∧ m' ((c.tc : Thread Cert.LayersRefIdeal.nD Cert.LayersRefIdeal.τ).loc Cert.LayersRefIdeal.main_arg9) = m ((c.tc : Thread Cert.LayersIdeal.nD Cert.LayersIdeal.τ).loc Cert.LayersIdeal.main_arg9)
      ∧ m' ((c.tc : Thread Cert.LayersRefIdeal.nD Cert.LayersRefIdeal.τ).loc Cert.LayersRefIdeal.main_arg10) = m ((c.tc : Thread Cert.LayersIdeal.nD Cert.LayersIdeal.τ).loc Cert.LayersIdeal.main_arg10)
      ∧ m' ((c.tc : Thread Cert.LayersRefIdeal.nD Cert.LayersRefIdeal.τ).loc Cert.LayersRefIdeal.main_arg11) = m ((c.tc : Thread Cert.LayersIdeal.nD Cert.LayersIdeal.τ).loc Cert.LayersIdeal.main_arg11)
      ∧ m' ((c.tc : Thread Cert.LayersRefIdeal.nD Cert.LayersRefIdeal.τ).loc Cert.LayersRefIdeal.main_arg12) = m ((c.tc : Thread Cert.LayersIdeal.nD Cert.LayersIdeal.τ).loc Cert.LayersIdeal.main_arg12)
      ∧ m' ((c.tc : Thread Cert.LayersRefIdeal.nD Cert.LayersRefIdeal.τ).loc Cert.LayersRefIdeal.main_arg13) = m ((c.tc : Thread Cert.LayersIdeal.nD Cert.LayersIdeal.τ).loc Cert.LayersIdeal.main_arg13)
      ∧ m' ((c.tc : Thread Cert.LayersRefIdeal.nD Cert.LayersRefIdeal.τ).loc Cert.LayersRefIdeal.main_arg14) = m ((c.tc : Thread Cert.LayersIdeal.nD Cert.LayersIdeal.τ).loc Cert.LayersIdeal.main_arg14)
      ∧ m' ((c.tc : Thread Cert.LayersRefIdeal.nD Cert.LayersRefIdeal.τ).loc Cert.LayersRefIdeal.main_arg15) = m ((c.tc : Thread Cert.LayersIdeal.nD Cert.LayersIdeal.τ).loc Cert.LayersIdeal.main_arg15)
      ∧ m' ((c.tc : Thread Cert.LayersRefIdeal.nD Cert.LayersRefIdeal.τ).loc Cert.LayersRefIdeal.main_arg16) = m ((c.tc : Thread Cert.LayersIdeal.nD Cert.LayersIdeal.τ).loc Cert.LayersIdeal.main_arg16)
      ∧ m' ((c.tc : Thread Cert.LayersRefIdeal.nD Cert.LayersRefIdeal.τ).loc Cert.LayersRefIdeal.main_arg17) = m ((c.tc : Thread Cert.LayersIdeal.nD Cert.LayersIdeal.τ).loc Cert.LayersIdeal.main_arg17)) →
    ∃ (v0 : (c : Dev Cert.LayersIdeal.nD) → Buf (Elt Ideal) ((c.tc : Thread Cert.LayersIdeal.nD Cert.LayersIdeal.τ).loc Cert.LayersIdeal.main_v8_0)) (v1 : (c : Dev Cert.LayersIdeal.nD) → Buf (Elt Ideal) ((c.tc : Thread Cert.LayersIdeal.nD Cert.LayersIdeal.τ).loc Cert.LayersIdeal.main_v8_1)) (v2 : (c : Dev Cert.LayersIdeal.nD) → Buf (Elt Ideal) ((c.tc : Thread Cert.LayersIdeal.nD Cert.LayersIdeal.τ).loc Cert.LayersIdeal.main_v8_2)) (v3 : (c : Dev Cert.LayersIdeal.nD) → Buf (Elt Ideal) ((c.tc : Thread Cert.LayersIdeal.nD Cert.LayersIdeal.τ).loc Cert.LayersIdeal.main_v8_3)) (v4 : (c : Dev Cert.LayersIdeal.nD) → Buf (Elt Ideal) ((c.tc : Thread Cert.LayersIdeal.nD Cert.LayersIdeal.τ).loc Cert.LayersIdeal.main_v8_4)) (v5 : (c : Dev Cert.LayersIdeal.nD) → Buf (Elt Ideal) ((c.tc : Thread Cert.LayersIdeal.nD Cert.LayersIdeal.τ).loc Cert.LayersIdeal.main_v8_5)),
      θ_run (Cert.LayersIdeal.defs (F := Ideal)) (onTc (τ := Cert.LayersIdeal.τ) (Cert.LayersIdeal.main (F := Ideal))) ⟨m, fun _ => 0, g⟩ (fun r => ∀ c : Dev Cert.LayersIdeal.nD,
          r.2.mem ((c.tc : Thread Cert.LayersIdeal.nD Cert.LayersIdeal.τ).loc Cert.LayersIdeal.main_v8_0) = v0 c
          ∧ r.2.mem ((c.tc : Thread Cert.LayersIdeal.nD Cert.LayersIdeal.τ).loc Cert.LayersIdeal.main_v8_1) = v1 c
          ∧ r.2.mem ((c.tc : Thread Cert.LayersIdeal.nD Cert.LayersIdeal.τ).loc Cert.LayersIdeal.main_v8_2) = v2 c
          ∧ r.2.mem ((c.tc : Thread Cert.LayersIdeal.nD Cert.LayersIdeal.τ).loc Cert.LayersIdeal.main_v8_3) = v3 c
          ∧ r.2.mem ((c.tc : Thread Cert.LayersIdeal.nD Cert.LayersIdeal.τ).loc Cert.LayersIdeal.main_v8_4) = v4 c
          ∧ r.2.mem ((c.tc : Thread Cert.LayersIdeal.nD Cert.LayersIdeal.τ).loc Cert.LayersIdeal.main_v8_5) = v5 c
          ∧ r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
          ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
          ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
          ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
          ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
          ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
          ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
          ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
          ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
          ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
          ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
          ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11)
          ∧ r.2.mem ((c.tc : Thread Cert.LayersIdeal.nD Cert.LayersIdeal.τ).loc Cert.LayersIdeal.main_arg12) = m ((c.tc : Thread Cert.LayersIdeal.nD Cert.LayersIdeal.τ).loc Cert.LayersIdeal.main_arg12)
          ∧ r.2.mem ((c.tc : Thread Cert.LayersIdeal.nD Cert.LayersIdeal.τ).loc Cert.LayersIdeal.main_arg13) = m ((c.tc : Thread Cert.LayersIdeal.nD Cert.LayersIdeal.τ).loc Cert.LayersIdeal.main_arg13)
          ∧ r.2.mem ((c.tc : Thread Cert.LayersIdeal.nD Cert.LayersIdeal.τ).loc Cert.LayersIdeal.main_arg14) = m ((c.tc : Thread Cert.LayersIdeal.nD Cert.LayersIdeal.τ).loc Cert.LayersIdeal.main_arg14)
          ∧ r.2.mem ((c.tc : Thread Cert.LayersIdeal.nD Cert.LayersIdeal.τ).loc Cert.LayersIdeal.main_arg15) = m ((c.tc : Thread Cert.LayersIdeal.nD Cert.LayersIdeal.τ).loc Cert.LayersIdeal.main_arg15)
          ∧ r.2.mem ((c.tc : Thread Cert.LayersIdeal.nD Cert.LayersIdeal.τ).loc Cert.LayersIdeal.main_arg16) = m ((c.tc : Thread Cert.LayersIdeal.nD Cert.LayersIdeal.τ).loc Cert.LayersIdeal.main_arg16)
          ∧ r.2.mem ((c.tc : Thread Cert.LayersIdeal.nD Cert.LayersIdeal.τ).loc Cert.LayersIdeal.main_arg17) = m ((c.tc : Thread Cert.LayersIdeal.nD Cert.LayersIdeal.τ).loc Cert.LayersIdeal.main_arg17))
      ∧ θ_run (Cert.LayersRefIdeal.defs (F := Ideal)) (onTc (τ := Cert.LayersRefIdeal.τ) (Cert.LayersRefIdeal.main (F := Ideal))) ⟨m', fun _ => 0, g'⟩ (fun r => ∀ c : Dev Cert.LayersRefIdeal.nD,
          r.2.mem ((c.tc : Thread Cert.LayersRefIdeal.nD Cert.LayersRefIdeal.τ).loc Cert.LayersRefIdeal.main_v24) = v0 c
          ∧ r.2.mem ((c.tc : Thread Cert.LayersRefIdeal.nD Cert.LayersRefIdeal.τ).loc Cert.LayersRefIdeal.main_v25) = v1 c
          ∧ r.2.mem ((c.tc : Thread Cert.LayersRefIdeal.nD Cert.LayersRefIdeal.τ).loc Cert.LayersRefIdeal.main_v28) = v2 c
          ∧ r.2.mem ((c.tc : Thread Cert.LayersRefIdeal.nD Cert.LayersRefIdeal.τ).loc Cert.LayersRefIdeal.main_v29) = v3 c
          ∧ r.2.mem ((c.tc : Thread Cert.LayersRefIdeal.nD Cert.LayersRefIdeal.τ).loc Cert.LayersRefIdeal.main_v32) = v4 c
          ∧ r.2.mem ((c.tc : Thread Cert.LayersRefIdeal.nD Cert.LayersRefIdeal.τ).loc Cert.LayersRefIdeal.main_v33) = v5 c
          ∧ r.2.mem ((c.tc : Thread Cert.LayersRefIdeal.nD Cert.LayersRefIdeal.τ).loc Cert.LayersRefIdeal.main_arg0) = m' ((c.tc : Thread Cert.LayersRefIdeal.nD Cert.LayersRefIdeal.τ).loc Cert.LayersRefIdeal.main_arg0)
          ∧ r.2.mem ((c.tc : Thread Cert.LayersRefIdeal.nD Cert.LayersRefIdeal.τ).loc Cert.LayersRefIdeal.main_arg1) = m' ((c.tc : Thread Cert.LayersRefIdeal.nD Cert.LayersRefIdeal.τ).loc Cert.LayersRefIdeal.main_arg1)
          ∧ r.2.mem ((c.tc : Thread Cert.LayersRefIdeal.nD Cert.LayersRefIdeal.τ).loc Cert.LayersRefIdeal.main_arg2) = m' ((c.tc : Thread Cert.LayersRefIdeal.nD Cert.LayersRefIdeal.τ).loc Cert.LayersRefIdeal.main_arg2)
          ∧ r.2.mem ((c.tc : Thread Cert.LayersRefIdeal.nD Cert.LayersRefIdeal.τ).loc Cert.LayersRefIdeal.main_arg3) = m' ((c.tc : Thread Cert.LayersRefIdeal.nD Cert.LayersRefIdeal.τ).loc Cert.LayersRefIdeal.main_arg3)
          ∧ r.2.mem ((c.tc : Thread Cert.LayersRefIdeal.nD Cert.LayersRefIdeal.τ).loc Cert.LayersRefIdeal.main_arg4) = m' ((c.tc : Thread Cert.LayersRefIdeal.nD Cert.LayersRefIdeal.τ).loc Cert.LayersRefIdeal.main_arg4)
          ∧ r.2.mem ((c.tc : Thread Cert.LayersRefIdeal.nD Cert.LayersRefIdeal.τ).loc Cert.LayersRefIdeal.main_arg5) = m' ((c.tc : Thread Cert.LayersRefIdeal.nD Cert.LayersRefIdeal.τ).loc Cert.LayersRefIdeal.main_arg5)
          ∧ r.2.mem ((c.tc : Thread Cert.LayersRefIdeal.nD Cert.LayersRefIdeal.τ).loc Cert.LayersRefIdeal.main_arg6) = m' ((c.tc : Thread Cert.LayersRefIdeal.nD Cert.LayersRefIdeal.τ).loc Cert.LayersRefIdeal.main_arg6)
          ∧ r.2.mem ((c.tc : Thread Cert.LayersRefIdeal.nD Cert.LayersRefIdeal.τ).loc Cert.LayersRefIdeal.main_arg7) = m' ((c.tc : Thread Cert.LayersRefIdeal.nD Cert.LayersRefIdeal.τ).loc Cert.LayersRefIdeal.main_arg7)
          ∧ r.2.mem ((c.tc : Thread Cert.LayersRefIdeal.nD Cert.LayersRefIdeal.τ).loc Cert.LayersRefIdeal.main_arg8) = m' ((c.tc : Thread Cert.LayersRefIdeal.nD Cert.LayersRefIdeal.τ).loc Cert.LayersRefIdeal.main_arg8)
          ∧ r.2.mem ((c.tc : Thread Cert.LayersRefIdeal.nD Cert.LayersRefIdeal.τ).loc Cert.LayersRefIdeal.main_arg9) = m' ((c.tc : Thread Cert.LayersRefIdeal.nD Cert.LayersRefIdeal.τ).loc Cert.LayersRefIdeal.main_arg9)
          ∧ r.2.mem ((c.tc : Thread Cert.LayersRefIdeal.nD Cert.LayersRefIdeal.τ).loc Cert.LayersRefIdeal.main_arg10) = m' ((c.tc : Thread Cert.LayersRefIdeal.nD Cert.LayersRefIdeal.τ).loc Cert.LayersRefIdeal.main_arg10)
          ∧ r.2.mem ((c.tc : Thread Cert.LayersRefIdeal.nD Cert.LayersRefIdeal.τ).loc Cert.LayersRefIdeal.main_arg11) = m' ((c.tc : Thread Cert.LayersRefIdeal.nD Cert.LayersRefIdeal.τ).loc Cert.LayersRefIdeal.main_arg11)
          ∧ r.2.mem ((c.tc : Thread Cert.LayersRefIdeal.nD Cert.LayersRefIdeal.τ).loc Cert.LayersRefIdeal.main_arg12) = m' ((c.tc : Thread Cert.LayersRefIdeal.nD Cert.LayersRefIdeal.τ).loc Cert.LayersRefIdeal.main_arg12)
          ∧ r.2.mem ((c.tc : Thread Cert.LayersRefIdeal.nD Cert.LayersRefIdeal.τ).loc Cert.LayersRefIdeal.main_arg13) = m' ((c.tc : Thread Cert.LayersRefIdeal.nD Cert.LayersRefIdeal.τ).loc Cert.LayersRefIdeal.main_arg13)
          ∧ r.2.mem ((c.tc : Thread Cert.LayersRefIdeal.nD Cert.LayersRefIdeal.τ).loc Cert.LayersRefIdeal.main_arg14) = m' ((c.tc : Thread Cert.LayersRefIdeal.nD Cert.LayersRefIdeal.τ).loc Cert.LayersRefIdeal.main_arg14)
          ∧ r.2.mem ((c.tc : Thread Cert.LayersRefIdeal.nD Cert.LayersRefIdeal.τ).loc Cert.LayersRefIdeal.main_arg15) = m' ((c.tc : Thread Cert.LayersRefIdeal.nD Cert.LayersRefIdeal.τ).loc Cert.LayersRefIdeal.main_arg15)
          ∧ r.2.mem ((c.tc : Thread Cert.LayersRefIdeal.nD Cert.LayersRefIdeal.τ).loc Cert.LayersRefIdeal.main_arg16) = m' ((c.tc : Thread Cert.LayersRefIdeal.nD Cert.LayersRefIdeal.τ).loc Cert.LayersRefIdeal.main_arg16)
          ∧ r.2.mem ((c.tc : Thread Cert.LayersRefIdeal.nD Cert.LayersRefIdeal.τ).loc Cert.LayersRefIdeal.main_arg17) = m' ((c.tc : Thread Cert.LayersRefIdeal.nD Cert.LayersRefIdeal.τ).loc Cert.LayersRefIdeal.main_arg17))

def preserves_Head_HeadIdeal : Prop :=
  True

def algebraic_HeadIdeal_HeadRefIdeal [hHeadIdeal : Cert.HeadIdeal.Facts] [hHeadRefIdeal : Cert.HeadRefIdeal.Facts] [hPre_in_range : Cert.Pre_in_range.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v0)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v18) = v0 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4))

def Claim : Prop :=
  ∃ (hLayers : Cert.Layers.Facts) (hLayersIdeal : Cert.LayersIdeal.Facts) (hLayersRefIdeal : Cert.LayersRefIdeal.Facts) (hHead : Cert.Head.Facts) (hHeadIdeal : Cert.HeadIdeal.Facts) (hHeadRefIdeal : Cert.HeadRefIdeal.Facts) (hPre_counted : Cert.Pre_counted.Facts) (hPre_in_range : Cert.Pre_in_range.Facts),
    quiescent_Layers (hLayers := hLayers)
    ∧ quiescent_LayersIdeal (hLayersIdeal := hLayersIdeal)
    ∧ quiescent_LayersIdeal_pre_counted (hLayersIdeal := hLayersIdeal) (hPre_counted := hPre_counted)
    ∧ quiescent_LayersRefIdeal (hLayersRefIdeal := hLayersRefIdeal)
    ∧ quiescent_LayersRefIdeal_pre_counted (hLayersRefIdeal := hLayersRefIdeal) (hPre_counted := hPre_counted)
    ∧ quiescent_Head (hHead := hHead) (hPre_in_range := hPre_in_range)
    ∧ quiescent_HeadIdeal (hHeadIdeal := hHeadIdeal) (hPre_in_range := hPre_in_range)
    ∧ quiescent_HeadRefIdeal (hHeadRefIdeal := hHeadRefIdeal)
    ∧ quiescent_HeadRefIdeal_pre_in_range (hHeadRefIdeal := hHeadRefIdeal) (hPre_in_range := hPre_in_range)
    ∧ preserves_Layers_LayersIdeal
    ∧ algebraic_LayersIdeal_LayersRefIdeal_pre_counted (hLayersIdeal := hLayersIdeal) (hLayersRefIdeal := hLayersRefIdeal) (hPre_counted := hPre_counted)
    ∧ preserves_Head_HeadIdeal
    ∧ algebraic_HeadIdeal_HeadRefIdeal (hHeadIdeal := hHeadIdeal) (hHeadRefIdeal := hHeadRefIdeal) (hPre_in_range := hPre_in_range)
-- ==== Pre_counted.lean ====
abbrev S2 : Shape := ⟨1, ![2]⟩
abbrev S192x576 : Shape := ⟨2, ![192, 576]⟩
abbrev S2x96x32 : Shape := ⟨3, ![2, 96, 32]⟩
abbrev S30x2x3x2048x64 : Shape := ⟨5, ![30, 2, 3, 2048, 64]⟩
abbrev S30x2x3x2048 : Shape := ⟨4, ![30, 2, 3, 2048]⟩
abbrev S30x576 : Shape := ⟨2, ![30, 576]⟩
abbrev S30x576x960 : Shape := ⟨3, ![30, 576, 960]⟩
abbrev S30x960 : Shape := ⟨2, ![30, 960]⟩
abbrev S30x9x64x576 : Shape := ⟨4, ![30, 9, 64, 576]⟩
abbrev S30x576x3072 : Shape := ⟨3, ![30, 576, 3072]⟩
abbrev S30x3072 : Shape := ⟨2, ![30, 3072]⟩
abbrev S30x1536x576 : Shape := ⟨3, ![30, 1536, 576]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : IVec S2 32) (main_arg1 : FVec F S192x576 .f32) (main_arg2 : FVec F S2x96x32 .f32) (main_arg3 : FVec F S2x96x32 .f32) (main_arg4 : IVec S30x2x3x2048x64 8) (main_arg5 : FVec F S30x2x3x2048 .f32) (main_arg6 : IVec S30x2x3x2048x64 8) (main_arg7 : FVec F S30x2x3x2048 .f32) (main_arg8 : FVec F S30x576 .f32) (main_arg9 : FVec F S30x576 .f32) (main_arg10 : IVec S30x576x960 8) (main_arg11 : FVec F S30x960 .f32) (main_arg12 : IVec S30x9x64x576 8) (main_arg13 : FVec F S30x576 .f32) (main_arg14 : IVec S30x576x3072 8) (main_arg15 : FVec F S30x3072 .f32) (main_arg16 : IVec S30x1536x576 8) (main_arg17 : FVec F S30x576 .f32) : IVec S_ 1 :=
  let main_c : IVec S_ 32 := constantI S_ 32 0#32
  let main_v0 : IVec S2 32 := broadcastInDim S2 ![] bcast_S_S2 main_c
  let main_v1 : IVec S2 1 := cmpi .sge main_arg0 main_v0
  let main_c_0 : IVec S_ 1 := constantI S_ 1 1#1
  let main_v2 : IVec S_ 1 := (fun x v => Host.reduce IntOp.andi x v reducesTo_S2_S_d0 h_S_) main_v1 main_c_0
  main_v2
-- ==== Pre_in_range.lean ====
abbrev S2 : Shape := ⟨1, ![2]⟩
abbrev S30x192x576 : Shape := ⟨3, ![30, 192, 576]⟩
abbrev S1x576 : Shape := ⟨2, ![1, 576]⟩
abbrev S576x49152 : Shape := ⟨2, ![576, 49152]⟩
abbrev S1x49152 : Shape := ⟨2, ![1, 49152]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : IVec S2 32) (main_arg1 : FVec F S30x192x576 .f32) (main_arg2 : FVec F S1x576 .f32) (main_arg3 : IVec S576x49152 8) (main_arg4 : FVec F S1x49152 .f32) : IVec S_ 1 :=
  let main_c : IVec S_ 32 := constantI S_ 32 0#32
  let main_v0 : IVec S2 32 := broadcastInDim S2 ![] bcast_S_S2 main_c
  let main_v1 : IVec S2 1 := cmpi .sge main_arg0 main_v0
  let main_c_0 : IVec S_ 32 := constantI S_ 32 96#32
  let main_v2 : IVec S2 32 := broadcastInDim S2 ![] bcast_S_S2 main_c_0
  let main_v3 : IVec S2 1 := cmpi .slt main_arg0 main_v2
  let main_v4 : IVec S2 1 := andi main_v1 main_v3
  let main_c_1 : IVec S_ 1 := constantI S_ 1 1#1
  let main_v5 : IVec S_ 1 := (fun x v => Host.reduce IntOp.andi x v reducesTo_S2_S_d0 h_S_) main_v4 main_c_1
  main_v5
-- ==== Layers.lean ====
abbrev S2 : Shape := ⟨1, ![2]⟩
abbrev S192x576 : Shape := ⟨2, ![192, 576]⟩
abbrev S2x96x32 : Shape := ⟨3, ![2, 96, 32]⟩
abbrev S30x2x3x2048x64 : Shape := ⟨5, ![30, 2, 3, 2048, 64]⟩
abbrev S30x2x3x2048 : Shape := ⟨4, ![30, 2, 3, 2048]⟩
abbrev S30x576 : Shape := ⟨2, ![30, 576]⟩
abbrev S30x576x960 : Shape := ⟨3, ![30, 576, 960]⟩
abbrev S30x960 : Shape := ⟨2, ![30, 960]⟩
abbrev S30x9x64x576 : Shape := ⟨4, ![30, 9, 64, 576]⟩
abbrev S30x576x3072 : Shape := ⟨3, ![30, 576, 3072]⟩
abbrev S30x3072 : Shape := ⟨2, ![30, 3072]⟩
abbrev S30x1536x576 : Shape := ⟨3, ![30, 1536, 576]⟩
abbrev S2x32x96 : Shape := ⟨3, ![2, 32, 96]⟩
abbrev S30x2x3x64x2048 : Shape := ⟨5, ![30, 2, 3, 64, 2048]⟩
abbrev S30x3x2x2048 : Shape := ⟨4, ![30, 3, 2, 2048]⟩
abbrev S30x576x576 : Shape := ⟨3, ![30, 576, 576]⟩
abbrev S30x576x1536 : Shape := ⟨3, ![30, 576, 1536]⟩
abbrev S30x192x576 : Shape := ⟨3, ![30, 192, 576]⟩
abbrev S30x2x9x64x96 : Shape := ⟨5, ![30, 2, 9, 64, 96]⟩
abbrev S30x2x3x64x96 : Shape := ⟨5, ![30, 2, 3, 64, 96]⟩
abbrev S30x3x2x96 : Shape := ⟨4, ![30, 3, 2, 96]⟩
abbrev S1x2x3x64x2048 : Shape := ⟨5, ![1, 2, 3, 64, 2048]⟩
abbrev S1x3x2x2048 : Shape := ⟨4, ![1, 3, 2, 2048]⟩
abbrev S1x576x960 : Shape := ⟨3, ![1, 576, 960]⟩
abbrev S1x576x576 : Shape := ⟨3, ![1, 576, 576]⟩
abbrev S1x576x3072 : Shape := ⟨3, ![1, 576, 3072]⟩
abbrev S1x576x1536 : Shape := ⟨3, ![1, 576, 1536]⟩
abbrev S1x192x576 : Shape := ⟨3, ![1, 192, 576]⟩
abbrev S1x2x9x64x96 : Shape := ⟨5, ![1, 2, 9, 64, 96]⟩
abbrev S1x2x3x64x96 : Shape := ⟨5, ![1, 2, 3, 64, 96]⟩
abbrev S1x3x2x96 : Shape := ⟨4, ![1, 3, 2, 96]⟩
abbrev S2x96x128 : Shape := ⟨3, ![2, 96, 128]⟩
abbrev S2x3x288x128 : Shape := ⟨4, ![2, 3, 288, 128]⟩
abbrev S2x3x64x128 : Shape := ⟨4, ![2, 3, 64, 128]⟩
abbrev S2x3x1x128 : Shape := ⟨4, ![2, 3, 1, 128]⟩
abbrev S3x288x2048 : Shape := ⟨3, ![3, 288, 2048]⟩
abbrev S192x640 : Shape := ⟨2, ![192, 640]⟩
abbrev S2x9x96x128 : Shape := ⟨4, ![2, 9, 96, 128]⟩
abbrev S1x32x96 : Shape := ⟨3, ![1, 32, 96]⟩
abbrev S32x96 : Shape := ⟨2, ![32, 96]⟩
abbrev S128x96 : Shape := ⟨2, ![128, 96]⟩
abbrev S96x128 : Shape := ⟨2, ![96, 128]⟩
abbrev S1x96x128 : Shape := ⟨3, ![1, 96, 128]⟩
abbrev S1x576 : Shape := ⟨2, ![1, 576]⟩
abbrev S192 : Shape := ⟨1, ![192]⟩
abbrev S192x1 : Shape := ⟨2, ![192, 1]⟩
abbrev S576x960 : Shape := ⟨2, ![576, 960]⟩
abbrev S192x960 : Shape := ⟨2, ![192, 960]⟩
abbrev S1x960 : Shape := ⟨2, ![1, 960]⟩
abbrev S1x1x96x128 : Shape := ⟨4, ![1, 1, 96, 128]⟩
abbrev S96x64 : Shape := ⟨2, ![96, 64]⟩
abbrev S64x96 : Shape := ⟨2, ![64, 96]⟩
abbrev S448x96 : Shape := ⟨2, ![448, 96]⟩
abbrev S384x96 : Shape := ⟨2, ![384, 96]⟩
abbrev S96 : Shape := ⟨1, ![96]⟩
abbrev S1x96 : Shape := ⟨2, ![1, 96]⟩
abbrev S1x1x1x64x96 : Shape := ⟨5, ![1, 1, 1, 64, 96]⟩
abbrev S1x1x1x96 : Shape := ⟨4, ![1, 1, 1, 96]⟩
abbrev S1x1x64x96 : Shape := ⟨4, ![1, 1, 64, 96]⟩
abbrev S288x128 : Shape := ⟨2, ![288, 128]⟩
abbrev S1x256 : Shape := ⟨2, ![1, 256]⟩
abbrev S1 : Shape := ⟨1, ![1]⟩
abbrev S1x1x288x128 : Shape := ⟨4, ![1, 1, 288, 128]⟩
abbrev S1x1x1x64x256 : Shape := ⟨5, ![1, 1, 1, 64, 256]⟩
abbrev S64x256 : Shape := ⟨2, ![64, 256]⟩
abbrev S1x1x1x256 : Shape := ⟨4, ![1, 1, 1, 256]⟩
abbrev S128x256 : Shape := ⟨2, ![128, 256]⟩
abbrev S288x256 : Shape := ⟨2, ![288, 256]⟩
abbrev S1x288x256 : Shape := ⟨3, ![1, 288, 256]⟩
abbrev S1x1x64x128 : Shape := ⟨4, ![1, 1, 64, 128]⟩
abbrev S64x128 : Shape := ⟨2, ![64, 128]⟩
abbrev S1x1x1x128 : Shape := ⟨4, ![1, 1, 1, 128]⟩
abbrev S1x128 : Shape := ⟨2, ![1, 128]⟩
abbrev S128x128 : Shape := ⟨2, ![128, 128]⟩
abbrev S288 : Shape := ⟨1, ![288]⟩
abbrev S288x1 : Shape := ⟨2, ![288, 1]⟩
abbrev S288x2176 : Shape := ⟨2, ![288, 2176]⟩
abbrev S64x2176 : Shape := ⟨2, ![64, 2176]⟩
abbrev S128x2176 : Shape := ⟨2, ![128, 2176]⟩
abbrev S288x1920 : Shape := ⟨2, ![288, 1920]⟩
abbrev S64x1920 : Shape := ⟨2, ![64, 1920]⟩
abbrev S128x1920 : Shape := ⟨2, ![128, 1920]⟩
abbrev S288x1664 : Shape := ⟨2, ![288, 1664]⟩
abbrev S64x1664 : Shape := ⟨2, ![64, 1664]⟩
abbrev S128x1664 : Shape := ⟨2, ![128, 1664]⟩
abbrev S288x1408 : Shape := ⟨2, ![288, 1408]⟩
abbrev S64x1408 : Shape := ⟨2, ![64, 1408]⟩
abbrev S128x1408 : Shape := ⟨2, ![128, 1408]⟩
abbrev S288x1152 : Shape := ⟨2, ![288, 1152]⟩
abbrev S64x1152 : Shape := ⟨2, ![64, 1152]⟩
abbrev S128x1152 : Shape := ⟨2, ![128, 1152]⟩
abbrev S288x896 : Shape := ⟨2, ![288, 896]⟩
abbrev S64x896 : Shape := ⟨2, ![64, 896]⟩
abbrev S128x896 : Shape := ⟨2, ![128, 896]⟩
abbrev S288x640 : Shape := ⟨2, ![288, 640]⟩
abbrev S64x640 : Shape := ⟨2, ![64, 640]⟩
abbrev S128x640 : Shape := ⟨2, ![128, 640]⟩
abbrev S288x384 : Shape := ⟨2, ![288, 384]⟩
abbrev S64x384 : Shape := ⟨2, ![64, 384]⟩
abbrev S128x384 : Shape := ⟨2, ![128, 384]⟩
abbrev S576x576 : Shape := ⟨2, ![576, 576]⟩
abbrev S1x576x256 : Shape := ⟨3, ![1, 576, 256]⟩
abbrev S576x256 : Shape := ⟨2, ![576, 256]⟩
abbrev S192x256 : Shape := ⟨2, ![192, 256]⟩
abbrev S192x1536 : Shape := ⟨2, ![192, 1536]⟩
abbrev S576x1536 : Shape := ⟨2, ![576, 1536]⟩

abbrev nBuf : Space → Nat
  | .hbm => 31
  | .vmem => 48
  | .smem => 1
  | _ => 0

abbrev bufTy : (tb : Table) → Fin (tcTables nBuf tb) → BufTy
  | .hbm, ⟨0, _⟩ => ⟨S192x576, .f32⟩
  | .hbm, ⟨1, _⟩ => ⟨S2x96x32, .f32⟩
  | .hbm, ⟨2, _⟩ => ⟨S2x96x32, .f32⟩
  | .hbm, ⟨3, _⟩ => ⟨S30x2x3x2048x64, .i8⟩
  | .hbm, ⟨4, _⟩ => ⟨S30x2x3x2048, .f32⟩
  | .hbm, ⟨5, _⟩ => ⟨S30x2x3x2048x64, .i8⟩
  | .hbm, ⟨6, _⟩ => ⟨S30x2x3x2048, .f32⟩
  | .hbm, ⟨7, _⟩ => ⟨S30x576, .f32⟩
  | .hbm, ⟨8, _⟩ => ⟨S30x576, .f32⟩
  | .hbm, ⟨9, _⟩ => ⟨S30x576x960, .i8⟩
  | .hbm, ⟨10, _⟩ => ⟨S30x960, .f32⟩
  | .hbm, ⟨11, _⟩ => ⟨S30x9x64x576, .i8⟩
  | .hbm, ⟨12, _⟩ => ⟨S30x576, .f32⟩
  | .hbm, ⟨13, _⟩ => ⟨S30x576x3072, .i8⟩
  | .hbm, ⟨14, _⟩ => ⟨S30x3072, .f32⟩
  | .hbm, ⟨15, _⟩ => ⟨S30x1536x576, .i8⟩
  | .hbm, ⟨16, _⟩ => ⟨S30x576, .f32⟩
  | .hbm, ⟨17, _⟩ => ⟨S2x32x96, .f32⟩
  | .hbm, ⟨18, _⟩ => ⟨S2x32x96, .f32⟩
  | .hbm, ⟨19, _⟩ => ⟨S30x2x3x64x2048, .i8⟩
  | .hbm, ⟨20, _⟩ => ⟨S30x3x2x2048, .f32⟩
  | .hbm, ⟨21, _⟩ => ⟨S30x2x3x64x2048, .i8⟩
  | .hbm, ⟨22, _⟩ => ⟨S30x3x2x2048, .f32⟩
  | .hbm, ⟨23, _⟩ => ⟨S30x576x576, .i8⟩
  | .hbm, ⟨24, _⟩ => ⟨S30x576x1536, .i8⟩
  | .hbm, ⟨25, _⟩ => ⟨S30x192x576, .f32⟩
  | .hbm, ⟨26, _⟩ => ⟨S30x2x9x64x96, .f32⟩
  | .hbm, ⟨27, _⟩ => ⟨S30x2x3x64x96, .i8⟩
  | .hbm, ⟨28, _⟩ => ⟨S30x3x2x96, .f32⟩
  | .hbm, ⟨29, _⟩ => ⟨S30x2x3x64x96, .i8⟩
  | .hbm, ⟨30, _⟩ => ⟨S30x3x2x96, .f32⟩
  | .local _ .vmem, ⟨0, _⟩ => ⟨S192x576, .f32⟩
  | .local _ .vmem, ⟨1, _⟩ => ⟨S2x32x96, .f32⟩
  | .local _ .vmem, ⟨2, _⟩ => ⟨S2x32x96, .f32⟩
  | .local _ .vmem, ⟨3, _⟩ => ⟨S1x2x3x64x2048, .i8⟩
  | .local _ .vmem, ⟨4, _⟩ => ⟨S1x2x3x64x2048, .i8⟩
  | .local _ .vmem, ⟨5, _⟩ => ⟨S1x3x2x2048, .f32⟩
  | .local _ .vmem, ⟨6, _⟩ => ⟨S1x3x2x2048, .f32⟩
  | .local _ .vmem, ⟨7, _⟩ => ⟨S1x2x3x64x2048, .i8⟩
  | .local _ .vmem, ⟨8, _⟩ => ⟨S1x2x3x64x2048, .i8⟩
  | .local _ .vmem, ⟨9, _⟩ => ⟨S1x3x2x2048, .f32⟩
  | .local _ .vmem, ⟨10, _⟩ => ⟨S1x3x2x2048, .f32⟩
  | .local _ .vmem, ⟨11, _⟩ => ⟨S30x576, .f32⟩
  | .local _ .vmem, ⟨12, _⟩ => ⟨S30x576, .f32⟩
  | .local _ .vmem, ⟨13, _⟩ => ⟨S1x576x960, .i8⟩
  | .local _ .vmem, ⟨14, _⟩ => ⟨S1x576x960, .i8⟩
  | .local _ .vmem, ⟨15, _⟩ => ⟨S30x960, .f32⟩
  | .local _ .vmem, ⟨16, _⟩ => ⟨S1x576x576, .i8⟩
  | .local _ .vmem, ⟨17, _⟩ => ⟨S1x576x576, .i8⟩
  | .local _ .vmem, ⟨18, _⟩ => ⟨S30x576, .f32⟩
  | .local _ .vmem, ⟨19, _⟩ => ⟨S1x576x3072, .i8⟩
  | .local _ .vmem, ⟨20, _⟩ => ⟨S1x576x3072, .i8⟩
  | .local _ .vmem, ⟨21, _⟩ => ⟨S30x3072, .f32⟩
  | .local _ .vmem, ⟨22, _⟩ => ⟨S1x576x1536, .i8⟩
  | .local _ .vmem, ⟨23, _⟩ => ⟨S1x576x1536, .i8⟩
  | .local _ .vmem, ⟨24, _⟩ => ⟨S30x576, .f32⟩
  | .local _ .vmem, ⟨25, _⟩ => ⟨S1x192x576, .f32⟩
  | .local _ .vmem, ⟨26, _⟩ => ⟨S1x192x576, .f32⟩
  | .local _ .vmem, ⟨27, _⟩ => ⟨S1x2x9x64x96, .f32⟩
  | .local _ .vmem, ⟨28, _⟩ => ⟨S1x2x9x64x96, .f32⟩
  | .local _ .vmem, ⟨29, _⟩ => ⟨S1x2x3x64x96, .i8⟩
  | .local _ .vmem, ⟨30, _⟩ => ⟨S1x2x3x64x96, .i8⟩
  | .local _ .vmem, ⟨31, _⟩ => ⟨S1x3x2x96, .f32⟩
  | .local _ .vmem, ⟨32, _⟩ => ⟨S1x3x2x96, .f32⟩
  | .local _ .vmem, ⟨33, _⟩ => ⟨S1x2x3x64x96, .i8⟩
  | .local _ .vmem, ⟨34, _⟩ => ⟨S1x2x3x64x96, .i8⟩
  | .local _ .vmem, ⟨35, _⟩ => ⟨S1x3x2x96, .f32⟩
  | .local _ .vmem, ⟨36, _⟩ => ⟨S1x3x2x96, .f32⟩
  | .local _ .vmem, ⟨37, _⟩ => ⟨S192x576, .f32⟩
  | .local _ .vmem, ⟨38, _⟩ => ⟨S2x96x128, .f32⟩
  | .local _ .vmem, ⟨39, _⟩ => ⟨S2x96x128, .f32⟩
  | .local _ .vmem, ⟨40, _⟩ => ⟨S2x3x288x128, .bf16⟩
  | .local _ .vmem, ⟨41, _⟩ => ⟨S2x3x64x128, .bf16⟩
  | .local _ .vmem, ⟨42, _⟩ => ⟨S2x3x64x128, .bf16⟩
  | .local _ .vmem, ⟨43, _⟩ => ⟨S2x3x1x128, .f32⟩
  | .local _ .vmem, ⟨44, _⟩ => ⟨S2x3x1x128, .f32⟩
  | .local _ .vmem, ⟨45, _⟩ => ⟨S3x288x2048, .f32⟩
  | .local _ .vmem, ⟨46, _⟩ => ⟨S192x640, .bf16⟩
  | .local _ .vmem, ⟨47, _⟩ => ⟨S2x9x96x128, .f32⟩
  | .local _ .smem, ⟨0, _⟩ => ⟨S2, .i32⟩
  | _, _ => ⟨S192x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_arg16 : Ref sig .tc := ⟨.hbm, 15, rfl⟩
abbrev main_arg17 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_v8_3 : Ref sig .tc := ⟨.hbm, 28, rfl⟩
abbrev main_v8_4 : Ref sig .tc := ⟨.hbm, 29, rfl⟩
abbrev main_v8_5 : Ref sig .tc := ⟨.hbm, 30, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_scratch3 : Ref sig .tc := ⟨.vmem, 40, rfl⟩
abbrev cc0_scratch4 : Ref sig .tc := ⟨.vmem, 41, rfl⟩
abbrev cc0_scratch5 : Ref sig .tc := ⟨.vmem, 42, rfl⟩
abbrev cc0_scratch6 : Ref sig .tc := ⟨.vmem, 43, rfl⟩
abbrev cc0_scratch7 : Ref sig .tc := ⟨.vmem, 44, rfl⟩
abbrev cc0_scratch8 : Ref sig .tc := ⟨.vmem, 45, rfl⟩
abbrev cc0_scratch9 : Ref sig .tc := ⟨.vmem, 46, rfl⟩
abbrev cc0_scratch10 : Ref sig .tc := ⟨.vmem, 47, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36

abbrev nD : Nat := 1
abbrev τ : Topo := Topo.v7x

variable {F : FTy → Type} [FloatOps F]

abbrev grid0 : Pipeline.Grid := ⟨1, ![30], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v11 : Index := Scalar.indexCast arg0
  let c0_3 : Index := 0#32
  ![v11.toNat, 0]
def k0_off2 (i : grid0.Coords) : Fin 2 → Nat :=
  let arg0 : BitVec 32 := BitVec.ofNat 32 (i 0).val
  let v30 : Index := Scalar.indexCast arg0
  let c0_10 : Index := 0#32
  ![v30.toNat, 0]
@[reducible] def k0_t1_loop : Scf.Loop 32 :=
  let c0_i32_470 : BitVec 32 := 0#32
  let c2_i32 : BitVec 32 := 2#32
  let v742 : BitVec 32 := Scalar.addi c0_i32_470 c2_i32
  let c1_i32 : BitVec 32 := 1#32
  ⟨c0_i32_470, v742, c1_i32⟩
def k0_off3 (k0_t1 : Fin k0_t1_loop.trips) : Fin 1 → Nat :=
  let c0_i32_470 : BitVec 32 := 0#32
  let c1_i32 : BitVec 32 := 1#32
  let arg36 : BitVec 32 := Scf.iv c0_i32_470 c1_i32 k0_t1
  let v1071 : Index := Scalar.indexCast arg36
  ![v1071.toNat]
def k0_off4 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1094 : Index := Scalar.indexCast arg36
  let c0_735 : Index := 0#32
  let c0_736 : Index := 0#32
  let c0_737 : Index := 0#32
  ![v1094.toNat, 0, 0, 0]
def k0_off5 (k0_t1 : Fin k0_t1_loop.trips) : Fin 5 → Nat :=
  let c0_739 : Index := 0#32
  let c0_i32_470 : BitVec 32 := 0#32
  let c1_i32 : BitVec 32 := 1#32
  let arg36 : BitVec 32 := Scf.iv c0_i32_470 c1_i32 k0_t1
  let v1098 : Index := Scalar.indexCast arg36
  let c0_740 : Index := 0#32
  let c0_741 : Index := 0#32
  let c0_742 : Index := 0#32
  ![0, v1098.toNat, 0, 0, 0]
def k0_off6 (k0_t1 : Fin k0_t1_loop.trips) : Fin 4 → Nat :=
  let c0_743 : Index := 0#32
  let c0_744 : Index := 0#32
  let c0_i32_470 : BitVec 32 := 0#32
  let c1_i32 : BitVec 32 := 1#32
  let arg36 : BitVec 32 := Scf.iv c0_i32_470 c1_i32 k0_t1
  let v1101 : Index := Scalar.indexCast arg36
  let c0_745 : Index := 0#32
  ![0, 0, v1101.toNat, 0]
def k0_off7 (k0_t1 : Fin k0_t1_loop.trips) : Fin 5 → Nat :=
  let c0_751 : Index := 0#32
  let c0_i32_470 : BitVec 32 := 0#32
  let c1_i32 : BitVec 32 := 1#32
  let arg36 : BitVec 32 := Scf.iv c0_i32_470 c1_i32 k0_t1
  let v1118 : Index := Scalar.indexCast arg36
  let c0_752 : Index := 0#32
  let c0_753 : Index := 0#32
  let c256_754 : Index := 256#32
  ![0, v1118.toNat, 0, 0, 256]
def k0_off8 (k0_t1 : Fin k0_t1_loop.trips) : Fin 4 → Nat :=
  let c0_755 : Index := 0#32
  let c0_756 : Index := 0#32
  let c0_i32_470 : BitVec 32 := 0#32
  let c1_i32 : BitVec 32 := 1#32
  let arg36 : BitVec 32 := Scf.iv c0_i32_470 c1_i32 k0_t1
  let v1121 : Index := Scalar.indexCast arg36
  let c256_757 : Index := 256#32
  ![0, 0, v1121.toNat, 256]
def k0_off9 (k0_t1 : Fin k0_t1_loop.trips) : Fin 5 → Nat :=
  let c0_763 : Index := 0#32
  let c0_i32_470 : BitVec 32 := 0#32
  let c1_i32 : BitVec 32 := 1#32
  let arg36 : BitVec 32 := Scf.iv c0_i32_470 c1_i32 k0_t1
  let v1138 : Index := Scalar.indexCast arg36
  let c0_764 : Index := 0#32
  let c0_765 : Index := 0#32
  let c512_766 : Index := 512#32
  ![0, v1138.toNat, 0, 0, 512]
def k0_off10 (k0_t1 : Fin k0_t1_loop.trips) : Fin 4 → Nat :=
  let c0_767 : Index := 0#32
  let c0_768 : Index := 0#32
  let c0_i32_470 : BitVec 32 := 0#32
  let c1_i32 : BitVec 32 := 1#32
  let arg36 : BitVec 32 := Scf.iv c0_i32_470 c1_i32 k0_t1
  let v1141 : Index := Scalar.indexCast arg36
  let c512_769 : Index := 512#32
  ![0, 0, v1141.toNat, 512]
def k0_off11 (k0_t1 : Fin k0_t1_loop.trips) : Fin 5 → Nat :=
  let c0_775 : Index := 0#32
  let c0_i32_470 : BitVec 32 := 0#32
  let c1_i32 : BitVec 32 := 1#32
  let arg36 : BitVec 32 := Scf.iv c0_i32_470 c1_i32 k0_t1
  let v1158 : Index := Scalar.indexCast arg36
  let c0_776 : Index := 0#32
  let c0_777 : Index := 0#32
  let c768_778 : Index := 768#32
  ![0, v1158.toNat, 0, 0, 768]
def k0_off12 (k0_t1 : Fin k0_t1_loop.trips) : Fin 4 → Nat :=
  let c0_779 : Index := 0#32
  let c0_780 : Index := 0#32
  let c0_i32_470 : BitVec 32 := 0#32
  let c1_i32 : BitVec 32 := 1#32
  let arg36 : BitVec 32 := Scf.iv c0_i32_470 c1_i32 k0_t1
  let v1161 : Index := Scalar.indexCast arg36
  let c768_781 : Index := 768#32
  ![0, 0, v1161.toNat, 768]
def k0_off13 (k0_t1 : Fin k0_t1_loop.trips) : Fin 5 → Nat :=
  let c0_787 : Index := 0#32
  let c0_i32_470 : BitVec 32 := 0#32
  let c1_i32 : BitVec 32 := 1#32
  let arg36 : BitVec 32 := Scf.iv c0_i32_470 c1_i32 k0_t1
  let v1178 : Index := Scalar.indexCast arg36
  let c0_788 : Index := 0#32
  let c0_789 : Index := 0#32
  let c1024_790 : Index := 1024#32
  ![0, v1178.toNat, 0, 0, 1024]
def k0_off14 (k0_t1 : Fin k0_t1_loop.trips) : Fin 4 → Nat :=
  let c0_791 : Index := 0#32
  let c0_792 : Index := 0#32
  let c0_i32_470 : BitVec 32 := 0#32
  let c1_i32 : BitVec 32 := 1#32
  let arg36 : BitVec 32 := Scf.iv c0_i32_470 c1_i32 k0_t1
  let v1181 : Index := Scalar.indexCast arg36
  let c1024_793 : Index := 1024#32
  ![0, 0, v1181.toNat, 1024]
def k0_off15 (k0_t1 : Fin k0_t1_loop.trips) : Fin 5 → Nat :=
  let c0_799 : Index := 0#32
  let c0_i32_470 : BitVec 32 := 0#32
  let c1_i32 : BitVec 32 := 1#32
  let arg36 : BitVec 32 := Scf.iv c0_i32_470 c1_i32 k0_t1
  let v1198 : Index := Scalar.indexCast arg36
  let c0_800 : Index := 0#32
  let c0_801 : Index := 0#32
  let c1280_802 : Index := 1280#32
  ![0, v1198.toNat, 0, 0, 1280]
def k0_off16 (k0_t1 : Fin k0_t1_loop.trips) : Fin 4 → Nat :=
  let c0_803 : Index := 0#32
  let c0_804 : Index := 0#32
  let c0_i32_470 : BitVec 32 := 0#32
  let c1_i32 : BitVec 32 := 1#32
  let arg36 : BitVec 32 := Scf.iv c0_i32_470 c1_i32 k0_t1
  let v1201 : Index := Scalar.indexCast arg36
  let c1280_805 : Index := 1280#32
  ![0, 0, v1201.toNat, 1280]
def k0_off17 (k0_t1 : Fin k0_t1_loop.trips) : Fin 5 → Nat :=
  let c0_811 : Index := 0#32
  let c0_i32_470 : BitVec 32 := 0#32
  let c1_i32 : BitVec 32 := 1#32
  let arg36 : BitVec 32 := Scf.iv c0_i32_470 c1_i32 k0_t1
  let v1218 : Index := Scalar.indexCast arg36
  let c0_812 : Index := 0#32
  let c0_813 : Index := 0#32
  let c1536_814 : Index := 1536#32
  ![0, v1218.toNat, 0, 0, 1536]
def k0_off18 (k0_t1 : Fin k0_t1_loop.trips) : Fin 4 → Nat :=
  let c0_815 : Index := 0#32
  let c0_816 : Index := 0#32
  let c0_i32_470 : BitVec 32 := 0#32
  let c1_i32 : BitVec 32 := 1#32
  let arg36 : BitVec 32 := Scf.iv c0_i32_470 c1_i32 k0_t1
  let v1221 : Index := Scalar.indexCast arg36
  let c1536_817 : Index := 1536#32
  ![0, 0, v1221.toNat, 1536]
def k0_off19 (k0_t1 : Fin k0_t1_loop.trips) : Fin 5 → Nat :=
  let c0_823 : Index := 0#32
  let c0_i32_470 : BitVec 32 := 0#32
  let c1_i32 : BitVec 32 := 1#32
  let arg36 : BitVec 32 := Scf.iv c0_i32_470 c1_i32 k0_t1
  let v1238 : Index := Scalar.indexCast arg36
  let c0_824 : Index := 0#32
  let c0_825 : Index := 0#32
  let c1792_826 : Index := 1792#32
  ![0, v1238.toNat, 0, 0, 1792]
def k0_off20 (k0_t1 : Fin k0_t1_loop.trips) : Fin 4 → Nat :=
  let c0_827 : Index := 0#32
  let c0_828 : Index := 0#32
  let c0_i32_470 : BitVec 32 := 0#32
  let c1_i32 : BitVec 32 := 1#32
  let arg36 : BitVec 32 := Scf.iv c0_i32_470 c1_i32 k0_t1
  let v1241 : Index := Scalar.indexCast arg36
  let c1792_829 : Index := 1792#32
  ![0, 0, v1241.toNat, 1792]
def k0_off21 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1264 : Index := Scalar.indexCast arg36
  let c0_836 : Index := 0#32
  let c0_837 : Index := 0#32
  let c0_838 : Index := 0#32
  ![v1264.toNat, 0, 0, 0]
def k0_off22 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1267 : Index := Scalar.indexCast arg36
  let c0_839 : Index := 0#32
  let c0_840 : Index := 0#32
  let c0_841 : Index := 0#32
  ![v1267.toNat, 0, 0, 0]
def k0_off23 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1455 : Index := Scalar.indexCast arg36
  let c0_934 : Index := 0#32
  let c0_935 : Index := 0#32
  let c0_936 : Index := 0#32
  ![v1455.toNat, 0, 0, 0]
def k0_off24 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1460 : Index := Scalar.indexCast arg36
  let c1_937 : Index := 1#32
  let c0_938 : Index := 0#32
  let c0_939 : Index := 0#32
  ![v1460.toNat, 1, 0, 0]
def k0_off25 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1465 : Index := Scalar.indexCast arg36
  let c2_940 : Index := 2#32
  let c0_941 : Index := 0#32
  let c0_942 : Index := 0#32
  ![v1465.toNat, 2, 0, 0]
def k0_off26 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1469 : Index := Scalar.indexCast arg36
  let c1_943 : Index := 1#32
  let c0_944 : Index := 0#32
  let c0_945 : Index := 0#32
  ![v1469.toNat, 1, 0, 0]
def k0_off27 (k0_t1 : Fin k0_t1_loop.trips) : Fin 5 → Nat :=
  let c0_947 : Index := 0#32
  let c0_i32_470 : BitVec 32 := 0#32
  let c1_i32 : BitVec 32 := 1#32
  let arg36 : BitVec 32 := Scf.iv c0_i32_470 c1_i32 k0_t1
  let v1473 : Index := Scalar.indexCast arg36
  let c1_948 : Index := 1#32
  let c0_949 : Index := 0#32
  let c0_950 : Index := 0#32
  ![0, v1473.toNat, 1, 0, 0]
def k0_off28 (k0_t1 : Fin k0_t1_loop.trips) : Fin 4 → Nat :=
  let c0_951 : Index := 0#32
  let c1_952 : Index := 1#32
  let c0_i32_470 : BitVec 32 := 0#32
  let c1_i32 : BitVec 32 := 1#32
  let arg36 : BitVec 32 := Scf.iv c0_i32_470 c1_i32 k0_t1
  let v1476 : Index := Scalar.indexCast arg36
  let c0_953 : Index := 0#32
  ![0, 1, v1476.toNat, 0]
def k0_off29 (k0_t1 : Fin k0_t1_loop.trips) : Fin 5 → Nat :=
  let c0_959 : Index := 0#32
  let c0_i32_470 : BitVec 32 := 0#32
  let c1_i32 : BitVec 32 := 1#32
  let arg36 : BitVec 32 := Scf.iv c0_i32_470 c1_i32 k0_t1
  let v1493 : Index := Scalar.indexCast arg36
  let c1_960 : Index := 1#32
  let c0_961 : Index := 0#32
  let c256_962 : Index := 256#32
  ![0, v1493.toNat, 1, 0, 256]
def k0_off30 (k0_t1 : Fin k0_t1_loop.trips) : Fin 4 → Nat :=
  let c0_963 : Index := 0#32
  let c1_964 : Index := 1#32
  let c0_i32_470 : BitVec 32 := 0#32
  let c1_i32 : BitVec 32 := 1#32
  let arg36 : BitVec 32 := Scf.iv c0_i32_470 c1_i32 k0_t1
  let v1496 : Index := Scalar.indexCast arg36
  let c256_965 : Index := 256#32
  ![0, 1, v1496.toNat, 256]
def k0_off31 (k0_t1 : Fin k0_t1_loop.trips) : Fin 5 → Nat :=
  let c0_971 : Index := 0#32
  let c0_i32_470 : BitVec 32 := 0#32
  let c1_i32 : BitVec 32 := 1#32
  let arg36 : BitVec 32 := Scf.iv c0_i32_470 c1_i32 k0_t1
  let v1513 : Index := Scalar.indexCast arg36
  let c1_972 : Index := 1#32
  let c0_973 : Index := 0#32
  let c512_974 : Index := 512#32
  ![0, v1513.toNat, 1, 0, 512]
def k0_off32 (k0_t1 : Fin k0_t1_loop.trips) : Fin 4 → Nat :=
  let c0_975 : Index := 0#32
  let c1_976 : Index := 1#32
  let c0_i32_470 : BitVec 32 := 0#32
  let c1_i32 : BitVec 32 := 1#32
  let arg36 : BitVec 32 := Scf.iv c0_i32_470 c1_i32 k0_t1
  let v1516 : Index := Scalar.indexCast arg36
  let c512_977 : Index := 512#32
  ![0, 1, v1516.toNat, 512]
def k0_off33 (k0_t1 : Fin k0_t1_loop.trips) : Fin 5 → Nat :=
  let c0_983 : Index := 0#32
  let c0_i32_470 : BitVec 32 := 0#32
  let c1_i32 : BitVec 32 := 1#32
  let arg36 : BitVec 32 := Scf.iv c0_i32_470 c1_i32 k0_t1
  let v1533 : Index := Scalar.indexCast arg36
  let c1_984 : Index := 1#32
  let c0_985 : Index := 0#32
  let c768_986 : Index := 768#32
  ![0, v1533.toNat, 1, 0, 768]
def k0_off34 (k0_t1 : Fin k0_t1_loop.trips) : Fin 4 → Nat :=
  let c0_987 : Index := 0#32
  let c1_988 : Index := 1#32
  let c0_i32_470 : BitVec 32 := 0#32
  let c1_i32 : BitVec 32 := 1#32
  let arg36 : BitVec 32 := Scf.iv c0_i32_470 c1_i32 k0_t1
  let v1536 : Index := Scalar.indexCast arg36
  let c768_989 : Index := 768#32
  ![0, 1, v1536.toNat, 768]
def k0_off35 (k0_t1 : Fin k0_t1_loop.trips) : Fin 5 → Nat :=
  let c0_995 : Index := 0#32
  let c0_i32_470 : BitVec 32 := 0#32
  let c1_i32 : BitVec 32 := 1#32
  let arg36 : BitVec 32 := Scf.iv c0_i32_470 c1_i32 k0_t1
  let v1553 : Index := Scalar.indexCast arg36
  let c1_996 : Index := 1#32
  let c0_997 : Index := 0#32
  let c1024_998 : Index := 1024#32
  ![0, v1553.toNat, 1, 0, 1024]
def k0_off36 (k0_t1 : Fin k0_t1_loop.trips) : Fin 4 → Nat :=
  let c0_999 : Index := 0#32
  let c1_1000 : Index := 1#32
  let c0_i32_470 : BitVec 32 := 0#32
  let c1_i32 : BitVec 32 := 1#32
  let arg36 : BitVec 32 := Scf.iv c0_i32_470 c1_i32 k0_t1
  let v1556 : Index := Scalar.indexCast arg36
  let c1024_1001 : Index := 1024#32
  ![0, 1, v1556.toNat, 1024]
def k0_off37 (k0_t1 : Fin k0_t1_loop.trips) : Fin 5 → Nat :=
  let c0_1007 : Index := 0#32
  let c0_i32_470 : BitVec 32 := 0#32
  let c1_i32 : BitVec 32 := 1#32
  let arg36 : BitVec 32 := Scf.iv c0_i32_470 c1_i32 k0_t1
  let v1573 : Index := Scalar.indexCast arg36
  let c1_1008 : Index := 1#32
  let c0_1009 : Index := 0#32
  let c1280_1010 : Index := 1280#32
  ![0, v1573.toNat, 1, 0, 1280]
def k0_off38 (k0_t1 : Fin k0_t1_loop.trips) : Fin 4 → Nat :=
  let c0_1011 : Index := 0#32
  let c1_1012 : Index := 1#32
  let c0_i32_470 : BitVec 32 := 0#32
  let c1_i32 : BitVec 32 := 1#32
  let arg36 : BitVec 32 := Scf.iv c0_i32_470 c1_i32 k0_t1
  let v1576 : Index := Scalar.indexCast arg36
  let c1280_1013 : Index := 1280#32
  ![0, 1, v1576.toNat, 1280]
def k0_off39 (k0_t1 : Fin k0_t1_loop.trips) : Fin 5 → Nat :=
  let c0_1019 : Index := 0#32
  let c0_i32_470 : BitVec 32 := 0#32
  let c1_i32 : BitVec 32 := 1#32
  let arg36 : BitVec 32 := Scf.iv c0_i32_470 c1_i32 k0_t1
  let v1593 : Index := Scalar.indexCast arg36
  let c1_1020 : Index := 1#32
  let c0_1021 : Index := 0#32
  let c1536_1022 : Index := 1536#32
  ![0, v1593.toNat, 1, 0, 1536]
def k0_off40 (k0_t1 : Fin k0_t1_loop.trips) : Fin 4 → Nat :=
  let c0_1023 : Index := 0#32
  let c1_1024 : Index := 1#32
  let c0_i32_470 : BitVec 32 := 0#32
  let c1_i32 : BitVec 32 := 1#32
  let arg36 : BitVec 32 := Scf.iv c0_i32_470 c1_i32 k0_t1
  let v1596 : Index := Scalar.indexCast arg36
  let c1536_1025 : Index := 1536#32
  ![0, 1, v1596.toNat, 1536]
def k0_off41 (k0_t1 : Fin k0_t1_loop.trips) : Fin 5 → Nat :=
  let c0_1031 : Index := 0#32
  let c0_i32_470 : BitVec 32 := 0#32
  let c1_i32 : BitVec 32 := 1#32
  let arg36 : BitVec 32 := Scf.iv c0_i32_470 c1_i32 k0_t1
  let v1613 : Index := Scalar.indexCast arg36
  let c1_1032 : Index := 1#32
  let c0_1033 : Index := 0#32
  let c1792_1034 : Index := 1792#32
  ![0, v1613.toNat, 1, 0, 1792]
def k0_off42 (k0_t1 : Fin k0_t1_loop.trips) : Fin 4 → Nat :=
  let c0_1035 : Index := 0#32
  let c1_1036 : Index := 1#32
  let c0_i32_470 : BitVec 32 := 0#32
  let c1_i32 : BitVec 32 := 1#32
  let arg36 : BitVec 32 := Scf.iv c0_i32_470 c1_i32 k0_t1
  let v1616 : Index := Scalar.indexCast arg36
  let c1792_1037 : Index := 1792#32
  ![0, 1, v1616.toNat, 1792]
def k0_off43 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1639 : Index := Scalar.indexCast arg36
  let c1_1044 : Index := 1#32
  let c0_1045 : Index := 0#32
  let c0_1046 : Index := 0#32
  ![v1639.toNat, 1, 0, 0]
def k0_off44 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1642 : Index := Scalar.indexCast arg36
  let c1_1047 : Index := 1#32
  let c0_1048 : Index := 0#32
  let c0_1049 : Index := 0#32
  ![v1642.toNat, 1, 0, 0]
def k0_off45 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1830 : Index := Scalar.indexCast arg36
  let c3_1142 : Index := 3#32
  let c0_1143 : Index := 0#32
  let c0_1144 : Index := 0#32
  ![v1830.toNat, 3, 0, 0]
def k0_off46 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1835 : Index := Scalar.indexCast arg36
  let c4_1145 : Index := 4#32
  let c0_1146 : Index := 0#32
  let c0_1147 : Index := 0#32
  ![v1835.toNat, 4, 0, 0]
def k0_off47 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1840 : Index := Scalar.indexCast arg36
  let c5_1148 : Index := 5#32
  let c0_1149 : Index := 0#32
  let c0_1150 : Index := 0#32
  ![v1840.toNat, 5, 0, 0]
def k0_off48 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1844 : Index := Scalar.indexCast arg36
  let c2_1151 : Index := 2#32
  let c0_1152 : Index := 0#32
  let c0_1153 : Index := 0#32
  ![v1844.toNat, 2, 0, 0]
def k0_off49 (k0_t1 : Fin k0_t1_loop.trips) : Fin 5 → Nat :=
  let c0_1155 : Index := 0#32
  let c0_i32_470 : BitVec 32 := 0#32
  let c1_i32 : BitVec 32 := 1#32
  let arg36 : BitVec 32 := Scf.iv c0_i32_470 c1_i32 k0_t1
  let v1848 : Index := Scalar.indexCast arg36
  let c2_1156 : Index := 2#32
  let c0_1157 : Index := 0#32
  let c0_1158 : Index := 0#32
  ![0, v1848.toNat, 2, 0, 0]
def k0_off50 (k0_t1 : Fin k0_t1_loop.trips) : Fin 4 → Nat :=
  let c0_1159 : Index := 0#32
  let c2_1160 : Index := 2#32
  let c0_i32_470 : BitVec 32 := 0#32
  let c1_i32 : BitVec 32 := 1#32
  let arg36 : BitVec 32 := Scf.iv c0_i32_470 c1_i32 k0_t1
  let v1851 : Index := Scalar.indexCast arg36
  let c0_1161 : Index := 0#32
  ![0, 2, v1851.toNat, 0]
def k0_off51 (k0_t1 : Fin k0_t1_loop.trips) : Fin 5 → Nat :=
  let c0_1167 : Index := 0#32
  let c0_i32_470 : BitVec 32 := 0#32
  let c1_i32 : BitVec 32 := 1#32
  let arg36 : BitVec 32 := Scf.iv c0_i32_470 c1_i32 k0_t1
  let v1868 : Index := Scalar.indexCast arg36
  let c2_1168 : Index := 2#32
  let c0_1169 : Index := 0#32
  let c256_1170 : Index := 256#32
  ![0, v1868.toNat, 2, 0, 256]
def k0_off52 (k0_t1 : Fin k0_t1_loop.trips) : Fin 4 → Nat :=
  let c0_1171 : Index := 0#32
  let c2_1172 : Index := 2#32
  let c0_i32_470 : BitVec 32 := 0#32
  let c1_i32 : BitVec 32 := 1#32
  let arg36 : BitVec 32 := Scf.iv c0_i32_470 c1_i32 k0_t1
  let v1871 : Index := Scalar.indexCast arg36
  let c256_1173 : Index := 256#32
  ![0, 2, v1871.toNat, 256]
def k0_off53 (k0_t1 : Fin k0_t1_loop.trips) : Fin 5 → Nat :=
  let c0_1179 : Index := 0#32
  let c0_i32_470 : BitVec 32 := 0#32
  let c1_i32 : BitVec 32 := 1#32
  let arg36 : BitVec 32 := Scf.iv c0_i32_470 c1_i32 k0_t1
  let v1888 : Index := Scalar.indexCast arg36
  let c2_1180 : Index := 2#32
  let c0_1181 : Index := 0#32
  let c512_1182 : Index := 512#32
  ![0, v1888.toNat, 2, 0, 512]
def k0_off54 (k0_t1 : Fin k0_t1_loop.trips) : Fin 4 → Nat :=
  let c0_1183 : Index := 0#32
  let c2_1184 : Index := 2#32
  let c0_i32_470 : BitVec 32 := 0#32
  let c1_i32 : BitVec 32 := 1#32
  let arg36 : BitVec 32 := Scf.iv c0_i32_470 c1_i32 k0_t1
  let v1891 : Index := Scalar.indexCast arg36
  let c512_1185 : Index := 512#32
  ![0, 2, v1891.toNat, 512]
def k0_off55 (k0_t1 : Fin k0_t1_loop.trips) : Fin 5 → Nat :=
  let c0_1191 : Index := 0#32
  let c0_i32_470 : BitVec 32 := 0#32
  let c1_i32 : BitVec 32 := 1#32
  let arg36 : BitVec 32 := Scf.iv c0_i32_470 c1_i32 k0_t1
  let v1908 : Index := Scalar.indexCast arg36
  let c2_1192 : Index := 2#32
  let c0_1193 : Index := 0#32
  let c768_1194 : Index := 768#32
  ![0, v1908.toNat, 2, 0, 768]
def k0_off56 (k0_t1 : Fin k0_t1_loop.trips) : Fin 4 → Nat :=
  let c0_1195 : Index := 0#32
  let c2_1196 : Index := 2#32
  let c0_i32_470 : BitVec 32 := 0#32
  let c1_i32 : BitVec 32 := 1#32
  let arg36 : BitVec 32 := Scf.iv c0_i32_470 c1_i32 k0_t1
  let v1911 : Index := Scalar.indexCast arg36
  let c768_1197 : Index := 768#32
  ![0, 2, v1911.toNat, 768]
def k0_off57 (k0_t1 : Fin k0_t1_loop.trips) : Fin 5 → Nat :=
  let c0_1203 : Index := 0#32
  let c0_i32_470 : BitVec 32 := 0#32
  let c1_i32 : BitVec 32 := 1#32
  let arg36 : BitVec 32 := Scf.iv c0_i32_470 c1_i32 k0_t1
  let v1928 : Index := Scalar.indexCast arg36
  let c2_1204 : Index := 2#32
  let c0_1205 : Index := 0#32
  let c1024_1206 : Index := 1024#32
  ![0, v1928.toNat, 2, 0, 1024]
def k0_off58 (k0_t1 : Fin k0_t1_loop.trips) : Fin 4 → Nat :=
  let c0_1207 : Index := 0#32
  let c2_1208 : Index := 2#32
  let c0_i32_470 : BitVec 32 := 0#32
  let c1_i32 : BitVec 32 := 1#32
  let arg36 : BitVec 32 := Scf.iv c0_i32_470 c1_i32 k0_t1
  let v1931 : Index := Scalar.indexCast arg36
  let c1024_1209 : Index := 1024#32
  ![0, 2, v1931.toNat, 1024]
def k0_off59 (k0_t1 : Fin k0_t1_loop.trips) : Fin 5 → Nat :=
  let c0_1215 : Index := 0#32
  let c0_i32_470 : BitVec 32 := 0#32
  let c1_i32 : BitVec 32 := 1#32
  let arg36 : BitVec 32 := Scf.iv c0_i32_470 c1_i32 k0_t1
  let v1948 : Index := Scalar.indexCast arg36
  let c2_1216 : Index := 2#32
  let c0_1217 : Index := 0#32
  let c1280_1218 : Index := 1280#32
  ![0, v1948.toNat, 2, 0, 1280]
def k0_off60 (k0_t1 : Fin k0_t1_loop.trips) : Fin 4 → Nat :=
  let c0_1219 : Index := 0#32
  let c2_1220 : Index := 2#32
  let c0_i32_470 : BitVec 32 := 0#32
  let c1_i32 : BitVec 32 := 1#32
  let arg36 : BitVec 32 := Scf.iv c0_i32_470 c1_i32 k0_t1
  let v1951 : Index := Scalar.indexCast arg36
  let c1280_1221 : Index := 1280#32
  ![0, 2, v1951.toNat, 1280]
def k0_off61 (k0_t1 : Fin k0_t1_loop.trips) : Fin 5 → Nat :=
  let c0_1227 : Index := 0#32
  let c0_i32_470 : BitVec 32 := 0#32
  let c1_i32 : BitVec 32 := 1#32
  let arg36 : BitVec 32 := Scf.iv c0_i32_470 c1_i32 k0_t1
  let v1968 : Index := Scalar.indexCast arg36
  let c2_1228 : Index := 2#32
  let c0_1229 : Index := 0#32
  let c1536_1230 : Index := 1536#32
  ![0, v1968.toNat, 2, 0, 1536]
def k0_off62 (k0_t1 : Fin k0_t1_loop.trips) : Fin 4 → Nat :=
  let c0_1231 : Index := 0#32
  let c2_1232 : Index := 2#32
  let c0_i32_470 : BitVec 32 := 0#32
  let c1_i32 : BitVec 32 := 1#32
  let arg36 : BitVec 32 := Scf.iv c0_i32_470 c1_i32 k0_t1
  let v1971 : Index := Scalar.indexCast arg36
  let c1536_1233 : Index := 1536#32
  ![0, 2, v1971.toNat, 1536]
def k0_off63 (k0_t1 : Fin k0_t1_loop.trips) : Fin 5 → Nat :=
  let c0_1239 : Index := 0#32
  let c0_i32_470 : BitVec 32 := 0#32
  let c1_i32 : BitVec 32 := 1#32
  let arg36 : BitVec 32 := Scf.iv c0_i32_470 c1_i32 k0_t1
  let v1988 : Index := Scalar.indexCast arg36
  let c2_1240 : Index := 2#32
  let c0_1241 : Index := 0#32
  let c1792_1242 : Index := 1792#32
  ![0, v1988.toNat, 2, 0, 1792]
def k0_off64 (k0_t1 : Fin k0_t1_loop.trips) : Fin 4 → Nat :=
  let c0_1243 : Index := 0#32
  let c2_1244 : Index := 2#32
  let c0_i32_470 : BitVec 32 := 0#32
  let c1_i32 : BitVec 32 := 1#32
  let arg36 : BitVec 32 := Scf.iv c0_i32_470 c1_i32 k0_t1
  let v1991 : Index := Scalar.indexCast arg36
  let c1792_1245 : Index := 1792#32
  ![0, 2, v1991.toNat, 1792]
def k0_off65 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v2014 : Index := Scalar.indexCast arg36
  let c2_1252 : Index := 2#32
  let c0_1253 : Index := 0#32
  let c0_1254 : Index := 0#32
  ![v2014.toNat, 2, 0, 0]
def k0_off66 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v2017 : Index := Scalar.indexCast arg36
  let c2_1255 : Index := 2#32
  let c0_1256 : Index := 0#32
  let c0_1257 : Index := 0#32
  ![v2017.toNat, 2, 0, 0]
def k0_off67 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v2205 : Index := Scalar.indexCast arg36
  let c6_1350 : Index := 6#32
  let c0_1351 : Index := 0#32
  let c0_1352 : Index := 0#32
  ![v2205.toNat, 6, 0, 0]
def k0_off68 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v2210 : Index := Scalar.indexCast arg36
  let c7_1353 : Index := 7#32
  let c0_1354 : Index := 0#32
  let c0_1355 : Index := 0#32
  ![v2210.toNat, 7, 0, 0]
def k0_off69 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v2215 : Index := Scalar.indexCast arg36
  let c8_1356 : Index := 8#32
  let c0_1357 : Index := 0#32
  let c0_1358 : Index := 0#32
  ![v2215.toNat, 8, 0, 0]
def k0_off70 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1094 : Index := Scalar.indexCast arg36
  let c0_735 : Index := 0#32
  let c0_736 : Index := 0#32
  let c0_737 : Index := 0#32
  ![v1094.toNat, 0, 0, 0]
def k0_off71 (k0_t1 : Fin k0_t1_loop.trips) : Fin 5 → Nat :=
  let c0_739 : Index := 0#32
  let c0_i32_470 : BitVec 32 := 0#32
  let c1_i32 : BitVec 32 := 1#32
  let arg36 : BitVec 32 := Scf.iv c0_i32_470 c1_i32 k0_t1
  let v1098 : Index := Scalar.indexCast arg36
  let c0_740 : Index := 0#32
  let c0_741 : Index := 0#32
  let c0_742 : Index := 0#32
  ![0, v1098.toNat, 0, 0, 0]
def k0_off72 (k0_t1 : Fin k0_t1_loop.trips) : Fin 4 → Nat :=
  let c0_743 : Index := 0#32
  let c0_744 : Index := 0#32
  let c0_i32_470 : BitVec 32 := 0#32
  let c1_i32 : BitVec 32 := 1#32
  let arg36 : BitVec 32 := Scf.iv c0_i32_470 c1_i32 k0_t1
  let v1101 : Index := Scalar.indexCast arg36
  let c0_745 : Index := 0#32
  ![0, 0, v1101.toNat, 0]
def k0_off73 (k0_t1 : Fin k0_t1_loop.trips) : Fin 5 → Nat :=
  let c0_751 : Index := 0#32
  let c0_i32_470 : BitVec 32 := 0#32
  let c1_i32 : BitVec 32 := 1#32
  let arg36 : BitVec 32 := Scf.iv c0_i32_470 c1_i32 k0_t1
  let v1118 : Index := Scalar.indexCast arg36
  let c0_752 : Index := 0#32
  let c0_753 : Index := 0#32
  let c256_754 : Index := 256#32
  ![0, v1118.toNat, 0, 0, 256]
def k0_off74 (k0_t1 : Fin k0_t1_loop.trips) : Fin 4 → Nat :=
  let c0_755 : Index := 0#32
  let c0_756 : Index := 0#32
  let c0_i32_470 : BitVec 32 := 0#32
  let c1_i32 : BitVec 32 := 1#32
  let arg36 : BitVec 32 := Scf.iv c0_i32_470 c1_i32 k0_t1
  let v1121 : Index := Scalar.indexCast arg36
  let c256_757 : Index := 256#32
  ![0, 0, v1121.toNat, 256]
def k0_off75 (k0_t1 : Fin k0_t1_loop.trips) : Fin 5 → Nat :=
  let c0_763 : Index := 0#32
  let c0_i32_470 : BitVec 32 := 0#32
  let c1_i32 : BitVec 32 := 1#32
  let arg36 : BitVec 32 := Scf.iv c0_i32_470 c1_i32 k0_t1
  let v1138 : Index := Scalar.indexCast arg36
  let c0_764 : Index := 0#32
  let c0_765 : Index := 0#32
  let c512_766 : Index := 512#32
  ![0, v1138.toNat, 0, 0, 512]
def k0_off76 (k0_t1 : Fin k0_t1_loop.trips) : Fin 4 → Nat :=
  let c0_767 : Index := 0#32
  let c0_768 : Index := 0#32
  let c0_i32_470 : BitVec 32 := 0#32
  let c1_i32 : BitVec 32 := 1#32
  let arg36 : BitVec 32 := Scf.iv c0_i32_470 c1_i32 k0_t1
  let v1141 : Index := Scalar.indexCast arg36
  let c512_769 : Index := 512#32
  ![0, 0, v1141.toNat, 512]
def k0_off77 (k0_t1 : Fin k0_t1_loop.trips) : Fin 5 → Nat :=
  let c0_775 : Index := 0#32
  let c0_i32_470 : BitVec 32 := 0#32
  let c1_i32 : BitVec 32 := 1#32
  let arg36 : BitVec 32 := Scf.iv c0_i32_470 c1_i32 k0_t1
  let v1158 : Index := Scalar.indexCast arg36
  let c0_776 : Index := 0#32
  let c0_777 : Index := 0#32
  let c768_778 : Index := 768#32
  ![0, v1158.toNat, 0, 0, 768]
def k0_off78 (k0_t1 : Fin k0_t1_loop.trips) : Fin 4 → Nat :=
  let c0_779 : Index := 0#32
  let c0_780 : Index := 0#32
  let c0_i32_470 : BitVec 32 := 0#32
  let c1_i32 : BitVec 32 := 1#32
  let arg36 : BitVec 32 := Scf.iv c0_i32_470 c1_i32 k0_t1
  let v1161 : Index := Scalar.indexCast arg36
  let c768_781 : Index := 768#32
  ![0, 0, v1161.toNat, 768]
def k0_off79 (k0_t1 : Fin k0_t1_loop.trips) : Fin 5 → Nat :=
  let c0_787 : Index := 0#32
  let c0_i32_470 : BitVec 32 := 0#32
  let c1_i32 : BitVec 32 := 1#32
  let arg36 : BitVec 32 := Scf.iv c0_i32_470 c1_i32 k0_t1
  let v1178 : Index := Scalar.indexCast arg36
  let c0_788 : Index := 0#32
  let c0_789 : Index := 0#32
  let c1024_790 : Index := 1024#32
  ![0, v1178.toNat, 0, 0, 1024]
def k0_off80 (k0_t1 : Fin k0_t1_loop.trips) : Fin 4 → Nat :=
  let c0_791 : Index := 0#32
  let c0_792 : Index := 0#32
  let c0_i32_470 : BitVec 32 := 0#32
  let c1_i32 : BitVec 32 := 1#32
  let arg36 : BitVec 32 := Scf.iv c0_i32_470 c1_i32 k0_t1
  let v1181 : Index := Scalar.indexCast arg36
  let c1024_793 : Index := 1024#32
  ![0, 0, v1181.toNat, 1024]
def k0_off81 (k0_t1 : Fin k0_t1_loop.trips) : Fin 5 → Nat :=
  let c0_799 : Index := 0#32
  let c0_i32_470 : BitVec 32 := 0#32
  let c1_i32 : BitVec 32 := 1#32
  let arg36 : BitVec 32 := Scf.iv c0_i32_470 c1_i32 k0_t1
  let v1198 : Index := Scalar.indexCast arg36
  let c0_800 : Index := 0#32
  let c0_801 : Index := 0#32
  let c1280_802 : Index := 1280#32
  ![0, v1198.toNat, 0, 0, 1280]
def k0_off82 (k0_t1 : Fin k0_t1_loop.trips) : Fin 4 → Nat :=
  let c0_803 : Index := 0#32
  let c0_804 : Index := 0#32
  let c0_i32_470 : BitVec 32 := 0#32
  let c1_i32 : BitVec 32 := 1#32
  let arg36 : BitVec 32 := Scf.iv c0_i32_470 c1_i32 k0_t1
  let v1201 : Index := Scalar.indexCast arg36
  let c1280_805 : Index := 1280#32
  ![0, 0, v1201.toNat, 1280]
def k0_off83 (k0_t1 : Fin k0_t1_loop.trips) : Fin 5 → Nat :=
  let c0_811 : Index := 0#32
  let c0_i32_470 : BitVec 32 := 0#32
  let c1_i32 : BitVec 32 := 1#32
  let arg36 : BitVec 32 := Scf.iv c0_i32_470 c1_i32 k0_t1
  let v1218 : Index := Scalar.indexCast arg36
  let c0_812 : Index := 0#32
  let c0_813 : Index := 0#32
  let c1536_814 : Index := 1536#32
  ![0, v1218.toNat, 0, 0, 1536]
def k0_off84 (k0_t1 : Fin k0_t1_loop.trips) : Fin 4 → Nat :=
  let c0_815 : Index := 0#32
  let c0_816 : Index := 0#32
  let c0_i32_470 : BitVec 32 := 0#32
  let c1_i32 : BitVec 32 := 1#32
  let arg36 : BitVec 32 := Scf.iv c0_i32_470 c1_i32 k0_t1
  let v1221 : Index := Scalar.indexCast arg36
  let c1536_817 : Index := 1536#32
  ![0, 0, v1221.toNat, 1536]
def k0_off85 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1244 : Index := Scalar.indexCast arg36
  let c0_824 : Index := 0#32
  let c0_825 : Index := 0#32
  let c0_826 : Index := 0#32
  ![v1244.toNat, 0, 0, 0]
def k0_off86 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1247 : Index := Scalar.indexCast arg36
  let c0_827 : Index := 0#32
  let c0_828 : Index := 0#32
  let c0_829 : Index := 0#32
  ![v1247.toNat, 0, 0, 0]
def k0_off87 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1416 : Index := Scalar.indexCast arg36
  let c0_912 : Index := 0#32
  let c0_913 : Index := 0#32
  let c0_914 : Index := 0#32
  ![v1416.toNat, 0, 0, 0]
def k0_off88 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1421 : Index := Scalar.indexCast arg36
  let c1_915 : Index := 1#32
  let c0_916 : Index := 0#32
  let c0_917 : Index := 0#32
  ![v1421.toNat, 1, 0, 0]
def k0_off89 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1426 : Index := Scalar.indexCast arg36
  let c2_918 : Index := 2#32
  let c0_919 : Index := 0#32
  let c0_920 : Index := 0#32
  ![v1426.toNat, 2, 0, 0]
def k0_off90 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1430 : Index := Scalar.indexCast arg36
  let c1_921 : Index := 1#32
  let c0_922 : Index := 0#32
  let c0_923 : Index := 0#32
  ![v1430.toNat, 1, 0, 0]
def k0_off91 (k0_t1 : Fin k0_t1_loop.trips) : Fin 5 → Nat :=
  let c0_925 : Index := 0#32
  let c0_i32_470 : BitVec 32 := 0#32
  let c1_i32 : BitVec 32 := 1#32
  let arg36 : BitVec 32 := Scf.iv c0_i32_470 c1_i32 k0_t1
  let v1434 : Index := Scalar.indexCast arg36
  let c1_926 : Index := 1#32
  let c0_927 : Index := 0#32
  let c0_928 : Index := 0#32
  ![0, v1434.toNat, 1, 0, 0]
def k0_off92 (k0_t1 : Fin k0_t1_loop.trips) : Fin 4 → Nat :=
  let c0_929 : Index := 0#32
  let c1_930 : Index := 1#32
  let c0_i32_470 : BitVec 32 := 0#32
  let c1_i32 : BitVec 32 := 1#32
  let arg36 : BitVec 32 := Scf.iv c0_i32_470 c1_i32 k0_t1
  let v1437 : Index := Scalar.indexCast arg36
  let c0_931 : Index := 0#32
  ![0, 1, v1437.toNat, 0]
def k0_off93 (k0_t1 : Fin k0_t1_loop.trips) : Fin 5 → Nat :=
  let c0_937 : Index := 0#32
  let c0_i32_470 : BitVec 32 := 0#32
  let c1_i32 : BitVec 32 := 1#32
  let arg36 : BitVec 32 := Scf.iv c0_i32_470 c1_i32 k0_t1
  let v1454 : Index := Scalar.indexCast arg36
  let c1_938 : Index := 1#32
  let c0_939 : Index := 0#32
  let c256_940 : Index := 256#32
  ![0, v1454.toNat, 1, 0, 256]
def k0_off94 (k0_t1 : Fin k0_t1_loop.trips) : Fin 4 → Nat :=
  let c0_941 : Index := 0#32
  let c1_942 : Index := 1#32
  let c0_i32_470 : BitVec 32 := 0#32
  let c1_i32 : BitVec 32 := 1#32
  let arg36 : BitVec 32 := Scf.iv c0_i32_470 c1_i32 k0_t1
  let v1457 : Index := Scalar.indexCast arg36
  let c256_943 : Index := 256#32
  ![0, 1, v1457.toNat, 256]
def k0_off95 (k0_t1 : Fin k0_t1_loop.trips) : Fin 5 → Nat :=
  let c0_949 : Index := 0#32
  let c0_i32_470 : BitVec 32 := 0#32
  let c1_i32 : BitVec 32 := 1#32
  let arg36 : BitVec 32 := Scf.iv c0_i32_470 c1_i32 k0_t1
  let v1474 : Index := Scalar.indexCast arg36
  let c1_950 : Index := 1#32
  let c0_951 : Index := 0#32
  let c512_952 : Index := 512#32
  ![0, v1474.toNat, 1, 0, 512]
def k0_off96 (k0_t1 : Fin k0_t1_loop.trips) : Fin 4 → Nat :=
  let c0_953 : Index := 0#32
  let c1_954 : Index := 1#32
  let c0_i32_470 : BitVec 32 := 0#32
  let c1_i32 : BitVec 32 := 1#32
  let arg36 : BitVec 32 := Scf.iv c0_i32_470 c1_i32 k0_t1
  let v1477 : Index := Scalar.indexCast arg36
  let c512_955 : Index := 512#32
  ![0, 1, v1477.toNat, 512]
def k0_off97 (k0_t1 : Fin k0_t1_loop.trips) : Fin 5 → Nat :=
  let c0_961 : Index := 0#32
  let c0_i32_470 : BitVec 32 := 0#32
  let c1_i32 : BitVec 32 := 1#32
  let arg36 : BitVec 32 := Scf.iv c0_i32_470 c1_i32 k0_t1
  let v1494 : Index := Scalar.indexCast arg36
  let c1_962 : Index := 1#32
  let c0_963 : Index := 0#32
  let c768_964 : Index := 768#32
  ![0, v1494.toNat, 1, 0, 768]
def k0_off98 (k0_t1 : Fin k0_t1_loop.trips) : Fin 4 → Nat :=
  let c0_965 : Index := 0#32
  let c1_966 : Index := 1#32
  let c0_i32_470 : BitVec 32 := 0#32
  let c1_i32 : BitVec 32 := 1#32
  let arg36 : BitVec 32 := Scf.iv c0_i32_470 c1_i32 k0_t1
  let v1497 : Index := Scalar.indexCast arg36
  let c768_967 : Index := 768#32
  ![0, 1, v1497.toNat, 768]
def k0_off99 (k0_t1 : Fin k0_t1_loop.trips) : Fin 5 → Nat :=
  let c0_973 : Index := 0#32
  let c0_i32_470 : BitVec 32 := 0#32
  let c1_i32 : BitVec 32 := 1#32
  let arg36 : BitVec 32 := Scf.iv c0_i32_470 c1_i32 k0_t1
  let v1514 : Index := Scalar.indexCast arg36
  let c1_974 : Index := 1#32
  let c0_975 : Index := 0#32
  let c1024_976 : Index := 1024#32
  ![0, v1514.toNat, 1, 0, 1024]
def k0_off100 (k0_t1 : Fin k0_t1_loop.trips) : Fin 4 → Nat :=
  let c0_977 : Index := 0#32
  let c1_978 : Index := 1#32
  let c0_i32_470 : BitVec 32 := 0#32
  let c1_i32 : BitVec 32 := 1#32
  let arg36 : BitVec 32 := Scf.iv c0_i32_470 c1_i32 k0_t1
  let v1517 : Index := Scalar.indexCast arg36
  let c1024_979 : Index := 1024#32
  ![0, 1, v1517.toNat, 1024]
def k0_off101 (k0_t1 : Fin k0_t1_loop.trips) : Fin 5 → Nat :=
  let c0_985 : Index := 0#32
  let c0_i32_470 : BitVec 32 := 0#32
  let c1_i32 : BitVec 32 := 1#32
  let arg36 : BitVec 32 := Scf.iv c0_i32_470 c1_i32 k0_t1
  let v1534 : Index := Scalar.indexCast arg36
  let c1_986 : Index := 1#32
  let c0_987 : Index := 0#32
  let c1280_988 : Index := 1280#32
  ![0, v1534.toNat, 1, 0, 1280]
def k0_off102 (k0_t1 : Fin k0_t1_loop.trips) : Fin 4 → Nat :=
  let c0_989 : Index := 0#32
  let c1_990 : Index := 1#32
  let c0_i32_470 : BitVec 32 := 0#32
  let c1_i32 : BitVec 32 := 1#32
  let arg36 : BitVec 32 := Scf.iv c0_i32_470 c1_i32 k0_t1
  let v1537 : Index := Scalar.indexCast arg36
  let c1280_991 : Index := 1280#32
  ![0, 1, v1537.toNat, 1280]
def k0_off103 (k0_t1 : Fin k0_t1_loop.trips) : Fin 5 → Nat :=
  let c0_997 : Index := 0#32
  let c0_i32_470 : BitVec 32 := 0#32
  let c1_i32 : BitVec 32 := 1#32
  let arg36 : BitVec 32 := Scf.iv c0_i32_470 c1_i32 k0_t1
  let v1554 : Index := Scalar.indexCast arg36
  let c1_998 : Index := 1#32
  let c0_999 : Index := 0#32
  let c1536_1000 : Index := 1536#32
  ![0, v1554.toNat, 1, 0, 1536]
def k0_off104 (k0_t1 : Fin k0_t1_loop.trips) : Fin 4 → Nat :=
  let c0_1001 : Index := 0#32
  let c1_1002 : Index := 1#32
  let c0_i32_470 : BitVec 32 := 0#32
  let c1_i32 : BitVec 32 := 1#32
  let arg36 : BitVec 32 := Scf.iv c0_i32_470 c1_i32 k0_t1
  let v1557 : Index := Scalar.indexCast arg36
  let c1536_1003 : Index := 1536#32
  ![0, 1, v1557.toNat, 1536]
def k0_off105 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1580 : Index := Scalar.indexCast arg36
  let c1_1010 : Index := 1#32
  let c0_1011 : Index := 0#32
  let c0_1012 : Index := 0#32
  ![v1580.toNat, 1, 0, 0]
def k0_off106 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1583 : Index := Scalar.indexCast arg36
  let c1_1013 : Index := 1#32
  let c0_1014 : Index := 0#32
  let c0_1015 : Index := 0#32
  ![v1583.toNat, 1, 0, 0]
def k0_off107 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1752 : Index := Scalar.indexCast arg36
  let c3_1098 : Index := 3#32
  let c0_1099 : Index := 0#32
  let c0_1100 : Index := 0#32
  ![v1752.toNat, 3, 0, 0]
def k0_off108 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1757 : Index := Scalar.indexCast arg36
  let c4_1101 : Index := 4#32
  let c0_1102 : Index := 0#32
  let c0_1103 : Index := 0#32
  ![v1757.toNat, 4, 0, 0]
def k0_off109 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1762 : Index := Scalar.indexCast arg36
  let c5_1104 : Index := 5#32
  let c0_1105 : Index := 0#32
  let c0_1106 : Index := 0#32
  ![v1762.toNat, 5, 0, 0]
def k0_off110 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1766 : Index := Scalar.indexCast arg36
  let c2_1107 : Index := 2#32
  let c0_1108 : Index := 0#32
  let c0_1109 : Index := 0#32
  ![v1766.toNat, 2, 0, 0]
def k0_off111 (k0_t1 : Fin k0_t1_loop.trips) : Fin 5 → Nat :=
  let c0_1111 : Index := 0#32
  let c0_i32_470 : BitVec 32 := 0#32
  let c1_i32 : BitVec 32 := 1#32
  let arg36 : BitVec 32 := Scf.iv c0_i32_470 c1_i32 k0_t1
  let v1770 : Index := Scalar.indexCast arg36
  let c2_1112 : Index := 2#32
  let c0_1113 : Index := 0#32
  let c0_1114 : Index := 0#32
  ![0, v1770.toNat, 2, 0, 0]
def k0_off112 (k0_t1 : Fin k0_t1_loop.trips) : Fin 4 → Nat :=
  let c0_1115 : Index := 0#32
  let c2_1116 : Index := 2#32
  let c0_i32_470 : BitVec 32 := 0#32
  let c1_i32 : BitVec 32 := 1#32
  let arg36 : BitVec 32 := Scf.iv c0_i32_470 c1_i32 k0_t1
  let v1773 : Index := Scalar.indexCast arg36
  let c0_1117 : Index := 0#32
  ![0, 2, v1773.toNat, 0]
def k0_off113 (k0_t1 : Fin k0_t1_loop.trips) : Fin 5 → Nat :=
  let c0_1123 : Index := 0#32
  let c0_i32_470 : BitVec 32 := 0#32
  let c1_i32 : BitVec 32 := 1#32
  let arg36 : BitVec 32 := Scf.iv c0_i32_470 c1_i32 k0_t1
  let v1790 : Index := Scalar.indexCast arg36
  let c2_1124 : Index := 2#32
  let c0_1125 : Index := 0#32
  let c256_1126 : Index := 256#32
  ![0, v1790.toNat, 2, 0, 256]
def k0_off114 (k0_t1 : Fin k0_t1_loop.trips) : Fin 4 → Nat :=
  let c0_1127 : Index := 0#32
  let c2_1128 : Index := 2#32
  let c0_i32_470 : BitVec 32 := 0#32
  let c1_i32 : BitVec 32 := 1#32
  let arg36 : BitVec 32 := Scf.iv c0_i32_470 c1_i32 k0_t1
  let v1793 : Index := Scalar.indexCast arg36
  let c256_1129 : Index := 256#32
  ![0, 2, v1793.toNat, 256]
def k0_off115 (k0_t1 : Fin k0_t1_loop.trips) : Fin 5 → Nat :=
  let c0_1135 : Index := 0#32
  let c0_i32_470 : BitVec 32 := 0#32
  let c1_i32 : BitVec 32 := 1#32
  let arg36 : BitVec 32 := Scf.iv c0_i32_470 c1_i32 k0_t1
  let v1810 : Index := Scalar.indexCast arg36
  let c2_1136 : Index := 2#32
  let c0_1137 : Index := 0#32
  let c512_1138 : Index := 512#32
  ![0, v1810.toNat, 2, 0, 512]
def k0_off116 (k0_t1 : Fin k0_t1_loop.trips) : Fin 4 → Nat :=
  let c0_1139 : Index := 0#32
  let c2_1140 : Index := 2#32
  let c0_i32_470 : BitVec 32 := 0#32
  let c1_i32 : BitVec 32 := 1#32
  let arg36 : BitVec 32 := Scf.iv c0_i32_470 c1_i32 k0_t1
  let v1813 : Index := Scalar.indexCast arg36
  let c512_1141 : Index := 512#32
  ![0, 2, v1813.toNat, 512]
def k0_off117 (k0_t1 : Fin k0_t1_loop.trips) : Fin 5 → Nat :=
  let c0_1147 : Index := 0#32
  let c0_i32_470 : BitVec 32 := 0#32
  let c1_i32 : BitVec 32 := 1#32
  let arg36 : BitVec 32 := Scf.iv c0_i32_470 c1_i32 k0_t1
  let v1830 : Index := Scalar.indexCast arg36
  let c2_1148 : Index := 2#32
  let c0_1149 : Index := 0#32
  let c768_1150 : Index := 768#32
  ![0, v1830.toNat, 2, 0, 768]
def k0_off118 (k0_t1 : Fin k0_t1_loop.trips) : Fin 4 → Nat :=
  let c0_1151 : Index := 0#32
  let c2_1152 : Index := 2#32
  let c0_i32_470 : BitVec 32 := 0#32
  let c1_i32 : BitVec 32 := 1#32
  let arg36 : BitVec 32 := Scf.iv c0_i32_470 c1_i32 k0_t1
  let v1833 : Index := Scalar.indexCast arg36
  let c768_1153 : Index := 768#32
  ![0, 2, v1833.toNat, 768]
def k0_off119 (k0_t1 : Fin k0_t1_loop.trips) : Fin 5 → Nat :=
  let c0_1159 : Index := 0#32
  let c0_i32_470 : BitVec 32 := 0#32
  let c1_i32 : BitVec 32 := 1#32
  let arg36 : BitVec 32 := Scf.iv c0_i32_470 c1_i32 k0_t1
  let v1850 : Index := Scalar.indexCast arg36
  let c2_1160 : Index := 2#32
  let c0_1161 : Index := 0#32
  let c1024_1162 : Index := 1024#32
  ![0, v1850.toNat, 2, 0, 1024]
def k0_off120 (k0_t1 : Fin k0_t1_loop.trips) : Fin 4 → Nat :=
  let c0_1163 : Index := 0#32
  let c2_1164 : Index := 2#32
  let c0_i32_470 : BitVec 32 := 0#32
  let c1_i32 : BitVec 32 := 1#32
  let arg36 : BitVec 32 := Scf.iv c0_i32_470 c1_i32 k0_t1
  let v1853 : Index := Scalar.indexCast arg36
  let c1024_1165 : Index := 1024#32
  ![0, 2, v1853.toNat, 1024]
def k0_off121 (k0_t1 : Fin k0_t1_loop.trips) : Fin 5 → Nat :=
  let c0_1171 : Index := 0#32
  let c0_i32_470 : BitVec 32 := 0#32
  let c1_i32 : BitVec 32 := 1#32
  let arg36 : BitVec 32 := Scf.iv c0_i32_470 c1_i32 k0_t1
  let v1870 : Index := Scalar.indexCast arg36
  let c2_1172 : Index := 2#32
  let c0_1173 : Index := 0#32
  let c1280_1174 : Index := 1280#32
  ![0, v1870.toNat, 2, 0, 1280]
def k0_off122 (k0_t1 : Fin k0_t1_loop.trips) : Fin 4 → Nat :=
  let c0_1175 : Index := 0#32
  let c2_1176 : Index := 2#32
  let c0_i32_470 : BitVec 32 := 0#32
  let c1_i32 : BitVec 32 := 1#32
  let arg36 : BitVec 32 := Scf.iv c0_i32_470 c1_i32 k0_t1
  let v1873 : Index := Scalar.indexCast arg36
  let c1280_1177 : Index := 1280#32
  ![0, 2, v1873.toNat, 1280]
def k0_off123 (k0_t1 : Fin k0_t1_loop.trips) : Fin 5 → Nat :=
  let c0_1183 : Index := 0#32
  let c0_i32_470 : BitVec 32 := 0#32
  let c1_i32 : BitVec 32 := 1#32
  let arg36 : BitVec 32 := Scf.iv c0_i32_470 c1_i32 k0_t1
  let v1890 : Index := Scalar.indexCast arg36
  let c2_1184 : Index := 2#32
  let c0_1185 : Index := 0#32
  let c1536_1186 : Index := 1536#32
  ![0, v1890.toNat, 2, 0, 1536]
def k0_off124 (k0_t1 : Fin k0_t1_loop.trips) : Fin 4 → Nat :=
  let c0_1187 : Index := 0#32
  let c2_1188 : Index := 2#32
  let c0_i32_470 : BitVec 32 := 0#32
  let c1_i32 : BitVec 32 := 1#32
  let arg36 : BitVec 32 := Scf.iv c0_i32_470 c1_i32 k0_t1
  let v1893 : Index := Scalar.indexCast arg36
  let c1536_1189 : Index := 1536#32
  ![0, 2, v1893.toNat, 1536]
def k0_off125 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1916 : Index := Scalar.indexCast arg36
  let c2_1196 : Index := 2#32
  let c0_1197 : Index := 0#32
  let c0_1198 : Index := 0#32
  ![v1916.toNat, 2, 0, 0]
def k0_off126 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1919 : Index := Scalar.indexCast arg36
  let c2_1199 : Index := 2#32
  let c0_1200 : Index := 0#32
  let c0_1201 : Index := 0#32
  ![v1919.toNat, 2, 0, 0]
def k0_off127 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v2088 : Index := Scalar.indexCast arg36
  let c6_1284 : Index := 6#32
  let c0_1285 : Index := 0#32
  let c0_1286 : Index := 0#32
  ![v2088.toNat, 6, 0, 0]
def k0_off128 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v2093 : Index := Scalar.indexCast arg36
  let c7_1287 : Index := 7#32
  let c0_1288 : Index := 0#32
  let c0_1289 : Index := 0#32
  ![v2093.toNat, 7, 0, 0]
def k0_off129 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v2098 : Index := Scalar.indexCast arg36
  let c8_1290 : Index := 8#32
  let c0_1291 : Index := 0#32
  let c0_1292 : Index := 0#32
  ![v2098.toNat, 8, 0, 0]
def k0_off130 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1092 : Index := Scalar.indexCast arg36
  let c0_733 : Index := 0#32
  let c0_734 : Index := 0#32
  let c0_735 : Index := 0#32
  ![v1092.toNat, 0, 0, 0]
def k0_off131 (k0_t1 : Fin k0_t1_loop.trips) : Fin 5 → Nat :=
  let c0_737 : Index := 0#32
  let c0_i32_470 : BitVec 32 := 0#32
  let c1_i32 : BitVec 32 := 1#32
  let arg36 : BitVec 32 := Scf.iv c0_i32_470 c1_i32 k0_t1
  let v1096 : Index := Scalar.indexCast arg36
  let c0_738 : Index := 0#32
  let c0_739 : Index := 0#32
  let c0_740 : Index := 0#32
  ![0, v1096.toNat, 0, 0, 0]
def k0_off132 (k0_t1 : Fin k0_t1_loop.trips) : Fin 4 → Nat :=
  let c0_741 : Index := 0#32
  let c0_742 : Index := 0#32
  let c0_i32_470 : BitVec 32 := 0#32
  let c1_i32 : BitVec 32 := 1#32
  let arg36 : BitVec 32 := Scf.iv c0_i32_470 c1_i32 k0_t1
  let v1099 : Index := Scalar.indexCast arg36
  let c0_743 : Index := 0#32
  ![0, 0, v1099.toNat, 0]
def k0_off133 (k0_t1 : Fin k0_t1_loop.trips) : Fin 5 → Nat :=
  let c0_749 : Index := 0#32
  let c0_i32_470 : BitVec 32 := 0#32
  let c1_i32 : BitVec 32 := 1#32
  let arg36 : BitVec 32 := Scf.iv c0_i32_470 c1_i32 k0_t1
  let v1116 : Index := Scalar.indexCast arg36
  let c0_750 : Index := 0#32
  let c0_751 : Index := 0#32
  let c256_752 : Index := 256#32
  ![0, v1116.toNat, 0, 0, 256]
def k0_off134 (k0_t1 : Fin k0_t1_loop.trips) : Fin 4 → Nat :=
  let c0_753 : Index := 0#32
  let c0_754 : Index := 0#32
  let c0_i32_470 : BitVec 32 := 0#32
  let c1_i32 : BitVec 32 := 1#32
  let arg36 : BitVec 32 := Scf.iv c0_i32_470 c1_i32 k0_t1
  let v1119 : Index := Scalar.indexCast arg36
  let c256_755 : Index := 256#32
  ![0, 0, v1119.toNat, 256]
def k0_off135 (k0_t1 : Fin k0_t1_loop.trips) : Fin 5 → Nat :=
  let c0_761 : Index := 0#32
  let c0_i32_470 : BitVec 32 := 0#32
  let c1_i32 : BitVec 32 := 1#32
  let arg36 : BitVec 32 := Scf.iv c0_i32_470 c1_i32 k0_t1
  let v1136 : Index := Scalar.indexCast arg36
  let c0_762 : Index := 0#32
  let c0_763 : Index := 0#32
  let c512_764 : Index := 512#32
  ![0, v1136.toNat, 0, 0, 512]
def k0_off136 (k0_t1 : Fin k0_t1_loop.trips) : Fin 4 → Nat :=
  let c0_765 : Index := 0#32
  let c0_766 : Index := 0#32
  let c0_i32_470 : BitVec 32 := 0#32
  let c1_i32 : BitVec 32 := 1#32
  let arg36 : BitVec 32 := Scf.iv c0_i32_470 c1_i32 k0_t1
  let v1139 : Index := Scalar.indexCast arg36
  let c512_767 : Index := 512#32
  ![0, 0, v1139.toNat, 512]
def k0_off137 (k0_t1 : Fin k0_t1_loop.trips) : Fin 5 → Nat :=
  let c0_773 : Index := 0#32
  let c0_i32_470 : BitVec 32 := 0#32
  let c1_i32 : BitVec 32 := 1#32
  let arg36 : BitVec 32 := Scf.iv c0_i32_470 c1_i32 k0_t1
  let v1156 : Index := Scalar.indexCast arg36
  let c0_774 : Index := 0#32
  let c0_775 : Index := 0#32
  let c768_776 : Index := 768#32
  ![0, v1156.toNat, 0, 0, 768]
def k0_off138 (k0_t1 : Fin k0_t1_loop.trips) : Fin 4 → Nat :=
  let c0_777 : Index := 0#32
  let c0_778 : Index := 0#32
  let c0_i32_470 : BitVec 32 := 0#32
  let c1_i32 : BitVec 32 := 1#32
  let arg36 : BitVec 32 := Scf.iv c0_i32_470 c1_i32 k0_t1
  let v1159 : Index := Scalar.indexCast arg36
  let c768_779 : Index := 768#32
  ![0, 0, v1159.toNat, 768]
def k0_off139 (k0_t1 : Fin k0_t1_loop.trips) : Fin 5 → Nat :=
  let c0_785 : Index := 0#32
  let c0_i32_470 : BitVec 32 := 0#32
  let c1_i32 : BitVec 32 := 1#32
  let arg36 : BitVec 32 := Scf.iv c0_i32_470 c1_i32 k0_t1
  let v1176 : Index := Scalar.indexCast arg36
  let c0_786 : Index := 0#32
  let c0_787 : Index := 0#32
  let c1024_788 : Index := 1024#32
  ![0, v1176.toNat, 0, 0, 1024]
def k0_off140 (k0_t1 : Fin k0_t1_loop.trips) : Fin 4 → Nat :=
  let c0_789 : Index := 0#32
  let c0_790 : Index := 0#32
  let c0_i32_470 : BitVec 32 := 0#32
  let c1_i32 : BitVec 32 := 1#32
  let arg36 : BitVec 32 := Scf.iv c0_i32_470 c1_i32 k0_t1
  let v1179 : Index := Scalar.indexCast arg36
  let c1024_791 : Index := 1024#32
  ![0, 0, v1179.toNat, 1024]
def k0_off141 (k0_t1 : Fin k0_t1_loop.trips) : Fin 5 → Nat :=
  let c0_797 : Index := 0#32
  let c0_i32_470 : BitVec 32 := 0#32
  let c1_i32 : BitVec 32 := 1#32
  let arg36 : BitVec 32 := Scf.iv c0_i32_470 c1_i32 k0_t1
  let v1196 : Index := Scalar.indexCast arg36
  let c0_798 : Index := 0#32
  let c0_799 : Index := 0#32
  let c1280_800 : Index := 1280#32
  ![0, v1196.toNat, 0, 0, 1280]
def k0_off142 (k0_t1 : Fin k0_t1_loop.trips) : Fin 4 → Nat :=
  let c0_801 : Index := 0#32
  let c0_802 : Index := 0#32
  let c0_i32_470 : BitVec 32 := 0#32
  let c1_i32 : BitVec 32 := 1#32
  let arg36 : BitVec 32 := Scf.iv c0_i32_470 c1_i32 k0_t1
  let v1199 : Index := Scalar.indexCast arg36
  let c1280_803 : Index := 1280#32
  ![0, 0, v1199.toNat, 1280]
def k0_off143 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1222 : Index := Scalar.indexCast arg36
  let c0_810 : Index := 0#32
  let c0_811 : Index := 0#32
  let c0_812 : Index := 0#32
  ![v1222.toNat, 0, 0, 0]
def k0_off144 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1225 : Index := Scalar.indexCast arg36
  let c0_813 : Index := 0#32
  let c0_814 : Index := 0#32
  let c0_815 : Index := 0#32
  ![v1225.toNat, 0, 0, 0]
def k0_off145 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1375 : Index := Scalar.indexCast arg36
  let c0_888 : Index := 0#32
  let c0_889 : Index := 0#32
  let c0_890 : Index := 0#32
  ![v1375.toNat, 0, 0, 0]
def k0_off146 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1380 : Index := Scalar.indexCast arg36
  let c1_891 : Index := 1#32
  let c0_892 : Index := 0#32
  let c0_893 : Index := 0#32
  ![v1380.toNat, 1, 0, 0]
def k0_off147 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1385 : Index := Scalar.indexCast arg36
  let c2_894 : Index := 2#32
  let c0_895 : Index := 0#32
  let c0_896 : Index := 0#32
  ![v1385.toNat, 2, 0, 0]
def k0_off148 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1389 : Index := Scalar.indexCast arg36
  let c1_897 : Index := 1#32
  let c0_898 : Index := 0#32
  let c0_899 : Index := 0#32
  ![v1389.toNat, 1, 0, 0]
def k0_off149 (k0_t1 : Fin k0_t1_loop.trips) : Fin 5 → Nat :=
  let c0_901 : Index := 0#32
  let c0_i32_470 : BitVec 32 := 0#32
  let c1_i32 : BitVec 32 := 1#32
  let arg36 : BitVec 32 := Scf.iv c0_i32_470 c1_i32 k0_t1
  let v1393 : Index := Scalar.indexCast arg36
  let c1_902 : Index := 1#32
  let c0_903 : Index := 0#32
  let c0_904 : Index := 0#32
  ![0, v1393.toNat, 1, 0, 0]
def k0_off150 (k0_t1 : Fin k0_t1_loop.trips) : Fin 4 → Nat :=
  let c0_905 : Index := 0#32
  let c1_906 : Index := 1#32
  let c0_i32_470 : BitVec 32 := 0#32
  let c1_i32 : BitVec 32 := 1#32
  let arg36 : BitVec 32 := Scf.iv c0_i32_470 c1_i32 k0_t1
  let v1396 : Index := Scalar.indexCast arg36
  let c0_907 : Index := 0#32
  ![0, 1, v1396.toNat, 0]
def k0_off151 (k0_t1 : Fin k0_t1_loop.trips) : Fin 5 → Nat :=
  let c0_913 : Index := 0#32
  let c0_i32_470 : BitVec 32 := 0#32
  let c1_i32 : BitVec 32 := 1#32
  let arg36 : BitVec 32 := Scf.iv c0_i32_470 c1_i32 k0_t1
  let v1413 : Index := Scalar.indexCast arg36
  let c1_914 : Index := 1#32
  let c0_915 : Index := 0#32
  let c256_916 : Index := 256#32
  ![0, v1413.toNat, 1, 0, 256]
def k0_off152 (k0_t1 : Fin k0_t1_loop.trips) : Fin 4 → Nat :=
  let c0_917 : Index := 0#32
  let c1_918 : Index := 1#32
  let c0_i32_470 : BitVec 32 := 0#32
  let c1_i32 : BitVec 32 := 1#32
  let arg36 : BitVec 32 := Scf.iv c0_i32_470 c1_i32 k0_t1
  let v1416 : Index := Scalar.indexCast arg36
  let c256_919 : Index := 256#32
  ![0, 1, v1416.toNat, 256]
def k0_off153 (k0_t1 : Fin k0_t1_loop.trips) : Fin 5 → Nat :=
  let c0_925 : Index := 0#32
  let c0_i32_470 : BitVec 32 := 0#32
  let c1_i32 : BitVec 32 := 1#32
  let arg36 : BitVec 32 := Scf.iv c0_i32_470 c1_i32 k0_t1
  let v1433 : Index := Scalar.indexCast arg36
  let c1_926 : Index := 1#32
  let c0_927 : Index := 0#32
  let c512_928 : Index := 512#32
  ![0, v1433.toNat, 1, 0, 512]
def k0_off154 (k0_t1 : Fin k0_t1_loop.trips) : Fin 4 → Nat :=
  let c0_929 : Index := 0#32
  let c1_930 : Index := 1#32
  let c0_i32_470 : BitVec 32 := 0#32
  let c1_i32 : BitVec 32 := 1#32
  let arg36 : BitVec 32 := Scf.iv c0_i32_470 c1_i32 k0_t1
  let v1436 : Index := Scalar.indexCast arg36
  let c512_931 : Index := 512#32
  ![0, 1, v1436.toNat, 512]
def k0_off155 (k0_t1 : Fin k0_t1_loop.trips) : Fin 5 → Nat :=
  let c0_937 : Index := 0#32
  let c0_i32_470 : BitVec 32 := 0#32
  let c1_i32 : BitVec 32 := 1#32
  let arg36 : BitVec 32 := Scf.iv c0_i32_470 c1_i32 k0_t1
  let v1453 : Index := Scalar.indexCast arg36
  let c1_938 : Index := 1#32
  let c0_939 : Index := 0#32
  let c768_940 : Index := 768#32
  ![0, v1453.toNat, 1, 0, 768]
def k0_off156 (k0_t1 : Fin k0_t1_loop.trips) : Fin 4 → Nat :=
  let c0_941 : Index := 0#32
  let c1_942 : Index := 1#32
  let c0_i32_470 : BitVec 32 := 0#32
  let c1_i32 : BitVec 32 := 1#32
  let arg36 : BitVec 32 := Scf.iv c0_i32_470 c1_i32 k0_t1
  let v1456 : Index := Scalar.indexCast arg36
  let c768_943 : Index := 768#32
  ![0, 1, v1456.toNat, 768]
def k0_off157 (k0_t1 : Fin k0_t1_loop.trips) : Fin 5 → Nat :=
  let c0_949 : Index := 0#32
  let c0_i32_470 : BitVec 32 := 0#32
  let c1_i32 : BitVec 32 := 1#32
  let arg36 : BitVec 32 := Scf.iv c0_i32_470 c1_i32 k0_t1
  let v1473 : Index := Scalar.indexCast arg36
  let c1_950 : Index := 1#32
  let c0_951 : Index := 0#32
  let c1024_952 : Index := 1024#32
  ![0, v1473.toNat, 1, 0, 1024]
def k0_off158 (k0_t1 : Fin k0_t1_loop.trips) : Fin 4 → Nat :=
  let c0_953 : Index := 0#32
  let c1_954 : Index := 1#32
  let c0_i32_470 : BitVec 32 := 0#32
  let c1_i32 : BitVec 32 := 1#32
  let arg36 : BitVec 32 := Scf.iv c0_i32_470 c1_i32 k0_t1
  let v1476 : Index := Scalar.indexCast arg36
  let c1024_955 : Index := 1024#32
  ![0, 1, v1476.toNat, 1024]
def k0_off159 (k0_t1 : Fin k0_t1_loop.trips) : Fin 5 → Nat :=
  let c0_961 : Index := 0#32
  let c0_i32_470 : BitVec 32 := 0#32
  let c1_i32 : BitVec 32 := 1#32
  let arg36 : BitVec 32 := Scf.iv c0_i32_470 c1_i32 k0_t1
  let v1493 : Index := Scalar.indexCast arg36
  let c1_962 : Index := 1#32
  let c0_963 : Index := 0#32
  let c1280_964 : Index := 1280#32
  ![0, v1493.toNat, 1, 0, 1280]
def k0_off160 (k0_t1 : Fin k0_t1_loop.trips) : Fin 4 → Nat :=
  let c0_965 : Index := 0#32
  let c1_966 : Index := 1#32
  let c0_i32_470 : BitVec 32 := 0#32
  let c1_i32 : BitVec 32 := 1#32
  let arg36 : BitVec 32 := Scf.iv c0_i32_470 c1_i32 k0_t1
  let v1496 : Index := Scalar.indexCast arg36
  let c1280_967 : Index := 1280#32
  ![0, 1, v1496.toNat, 1280]
def k0_off161 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1519 : Index := Scalar.indexCast arg36
  let c1_974 : Index := 1#32
  let c0_975 : Index := 0#32
  let c0_976 : Index := 0#32
  ![v1519.toNat, 1, 0, 0]
def k0_off162 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1522 : Index := Scalar.indexCast arg36
  let c1_977 : Index := 1#32
  let c0_978 : Index := 0#32
  let c0_979 : Index := 0#32
  ![v1522.toNat, 1, 0, 0]
def k0_off163 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1672 : Index := Scalar.indexCast arg36
  let c3_1052 : Index := 3#32
  let c0_1053 : Index := 0#32
  let c0_1054 : Index := 0#32
  ![v1672.toNat, 3, 0, 0]
def k0_off164 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1677 : Index := Scalar.indexCast arg36
  let c4_1055 : Index := 4#32
  let c0_1056 : Index := 0#32
  let c0_1057 : Index := 0#32
  ![v1677.toNat, 4, 0, 0]
def k0_off165 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1682 : Index := Scalar.indexCast arg36
  let c5_1058 : Index := 5#32
  let c0_1059 : Index := 0#32
  let c0_1060 : Index := 0#32
  ![v1682.toNat, 5, 0, 0]
def k0_off166 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1686 : Index := Scalar.indexCast arg36
  let c2_1061 : Index := 2#32
  let c0_1062 : Index := 0#32
  let c0_1063 : Index := 0#32
  ![v1686.toNat, 2, 0, 0]
def k0_off167 (k0_t1 : Fin k0_t1_loop.trips) : Fin 5 → Nat :=
  let c0_1065 : Index := 0#32
  let c0_i32_470 : BitVec 32 := 0#32
  let c1_i32 : BitVec 32 := 1#32
  let arg36 : BitVec 32 := Scf.iv c0_i32_470 c1_i32 k0_t1
  let v1690 : Index := Scalar.indexCast arg36
  let c2_1066 : Index := 2#32
  let c0_1067 : Index := 0#32
  let c0_1068 : Index := 0#32
  ![0, v1690.toNat, 2, 0, 0]
def k0_off168 (k0_t1 : Fin k0_t1_loop.trips) : Fin 4 → Nat :=
  let c0_1069 : Index := 0#32
  let c2_1070 : Index := 2#32
  let c0_i32_470 : BitVec 32 := 0#32
  let c1_i32 : BitVec 32 := 1#32
  let arg36 : BitVec 32 := Scf.iv c0_i32_470 c1_i32 k0_t1
  let v1693 : Index := Scalar.indexCast arg36
  let c0_1071 : Index := 0#32
  ![0, 2, v1693.toNat, 0]
def k0_off169 (k0_t1 : Fin k0_t1_loop.trips) : Fin 5 → Nat :=
  let c0_1077 : Index := 0#32
  let c0_i32_470 : BitVec 32 := 0#32
  let c1_i32 : BitVec 32 := 1#32
  let arg36 : BitVec 32 := Scf.iv c0_i32_470 c1_i32 k0_t1
  let v1710 : Index := Scalar.indexCast arg36
  let c2_1078 : Index := 2#32
  let c0_1079 : Index := 0#32
  let c256_1080 : Index := 256#32
  ![0, v1710.toNat, 2, 0, 256]
def k0_off170 (k0_t1 : Fin k0_t1_loop.trips) : Fin 4 → Nat :=
  let c0_1081 : Index := 0#32
  let c2_1082 : Index := 2#32
  let c0_i32_470 : BitVec 32 := 0#32
  let c1_i32 : BitVec 32 := 1#32
  let arg36 : BitVec 32 := Scf.iv c0_i32_470 c1_i32 k0_t1
  let v1713 : Index := Scalar.indexCast arg36
  let c256_1083 : Index := 256#32
  ![0, 2, v1713.toNat, 256]
def k0_off171 (k0_t1 : Fin k0_t1_loop.trips) : Fin 5 → Nat :=
  let c0_1089 : Index := 0#32
  let c0_i32_470 : BitVec 32 := 0#32
  let c1_i32 : BitVec 32 := 1#32
  let arg36 : BitVec 32 := Scf.iv c0_i32_470 c1_i32 k0_t1
  let v1730 : Index := Scalar.indexCast arg36
  let c2_1090 : Index := 2#32
  let c0_1091 : Index := 0#32
  let c512_1092 : Index := 512#32
  ![0, v1730.toNat, 2, 0, 512]
def k0_off172 (k0_t1 : Fin k0_t1_loop.trips) : Fin 4 → Nat :=
  let c0_1093 : Index := 0#32
  let c2_1094 : Index := 2#32
  let c0_i32_470 : BitVec 32 := 0#32
  let c1_i32 : BitVec 32 := 1#32
  let arg36 : BitVec 32 := Scf.iv c0_i32_470 c1_i32 k0_t1
  let v1733 : Index := Scalar.indexCast arg36
  let c512_1095 : Index := 512#32
  ![0, 2, v1733.toNat, 512]
def k0_off173 (k0_t1 : Fin k0_t1_loop.trips) : Fin 5 → Nat :=
  let c0_1101 : Index := 0#32
  let c0_i32_470 : BitVec 32 := 0#32
  let c1_i32 : BitVec 32 := 1#32
  let arg36 : BitVec 32 := Scf.iv c0_i32_470 c1_i32 k0_t1
  let v1750 : Index := Scalar.indexCast arg36
  let c2_1102 : Index := 2#32
  let c0_1103 : Index := 0#32
  let c768_1104 : Index := 768#32
  ![0, v1750.toNat, 2, 0, 768]
def k0_off174 (k0_t1 : Fin k0_t1_loop.trips) : Fin 4 → Nat :=
  let c0_1105 : Index := 0#32
  let c2_1106 : Index := 2#32
  let c0_i32_470 : BitVec 32 := 0#32
  let c1_i32 : BitVec 32 := 1#32
  let arg36 : BitVec 32 := Scf.iv c0_i32_470 c1_i32 k0_t1
  let v1753 : Index := Scalar.indexCast arg36
  let c768_1107 : Index := 768#32
  ![0, 2, v1753.toNat, 768]
def k0_off175 (k0_t1 : Fin k0_t1_loop.trips) : Fin 5 → Nat :=
  let c0_1113 : Index := 0#32
  let c0_i32_470 : BitVec 32 := 0#32
  let c1_i32 : BitVec 32 := 1#32
  let arg36 : BitVec 32 := Scf.iv c0_i32_470 c1_i32 k0_t1
  let v1770 : Index := Scalar.indexCast arg36
  let c2_1114 : Index := 2#32
  let c0_1115 : Index := 0#32
  let c1024_1116 : Index := 1024#32
  ![0, v1770.toNat, 2, 0, 1024]
def k0_off176 (k0_t1 : Fin k0_t1_loop.trips) : Fin 4 → Nat :=
  let c0_1117 : Index := 0#32
  let c2_1118 : Index := 2#32
  let c0_i32_470 : BitVec 32 := 0#32
  let c1_i32 : BitVec 32 := 1#32
  let arg36 : BitVec 32 := Scf.iv c0_i32_470 c1_i32 k0_t1
  let v1773 : Index := Scalar.indexCast arg36
  let c1024_1119 : Index := 1024#32
  ![0, 2, v1773.toNat, 1024]
def k0_off177 (k0_t1 : Fin k0_t1_loop.trips) : Fin 5 → Nat :=
  let c0_1125 : Index := 0#32
  let c0_i32_470 : BitVec 32 := 0#32
  let c1_i32 : BitVec 32 := 1#32
  let arg36 : BitVec 32 := Scf.iv c0_i32_470 c1_i32 k0_t1
  let v1790 : Index := Scalar.indexCast arg36
  let c2_1126 : Index := 2#32
  let c0_1127 : Index := 0#32
  let c1280_1128 : Index := 1280#32
  ![0, v1790.toNat, 2, 0, 1280]
def k0_off178 (k0_t1 : Fin k0_t1_loop.trips) : Fin 4 → Nat :=
  let c0_1129 : Index := 0#32
  let c2_1130 : Index := 2#32
  let c0_i32_470 : BitVec 32 := 0#32
  let c1_i32 : BitVec 32 := 1#32
  let arg36 : BitVec 32 := Scf.iv c0_i32_470 c1_i32 k0_t1
  let v1793 : Index := Scalar.indexCast arg36
  let c1280_1131 : Index := 1280#32
  ![0, 2, v1793.toNat, 1280]
def k0_off179 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1816 : Index := Scalar.indexCast arg36
  let c2_1138 : Index := 2#32
  let c0_1139 : Index := 0#32
  let c0_1140 : Index := 0#32
  ![v1816.toNat, 2, 0, 0]
def k0_off180 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1819 : Index := Scalar.indexCast arg36
  let c2_1141 : Index := 2#32
  let c0_1142 : Index := 0#32
  let c0_1143 : Index := 0#32
  ![v1819.toNat, 2, 0, 0]
def k0_off181 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1969 : Index := Scalar.indexCast arg36
  let c6_1216 : Index := 6#32
  let c0_1217 : Index := 0#32
  let c0_1218 : Index := 0#32
  ![v1969.toNat, 6, 0, 0]
def k0_off182 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1974 : Index := Scalar.indexCast arg36
  let c7_1219 : Index := 7#32
  let c0_1220 : Index := 0#32
  let c0_1221 : Index := 0#32
  ![v1974.toNat, 7, 0, 0]
def k0_off183 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1979 : Index := Scalar.indexCast arg36
  let c8_1222 : Index := 8#32
  let c0_1223 : Index := 0#32
  let c0_1224 : Index := 0#32
  ![v1979.toNat, 8, 0, 0]
def k0_off184 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1090 : Index := Scalar.indexCast arg36
  let c0_731 : Index := 0#32
  let c0_732 : Index := 0#32
  let c0_733 : Index := 0#32
  ![v1090.toNat, 0, 0, 0]
def k0_off185 (k0_t1 : Fin k0_t1_loop.trips) : Fin 5 → Nat :=
  let c0_735 : Index := 0#32
  let c0_i32_470 : BitVec 32 := 0#32
  let c1_i32 : BitVec 32 := 1#32
  let arg36 : BitVec 32 := Scf.iv c0_i32_470 c1_i32 k0_t1
  let v1094 : Index := Scalar.indexCast arg36
  let c0_736 : Index := 0#32
  let c0_737 : Index := 0#32
  let c0_738 : Index := 0#32
  ![0, v1094.toNat, 0, 0, 0]
def k0_off186 (k0_t1 : Fin k0_t1_loop.trips) : Fin 4 → Nat :=
  let c0_739 : Index := 0#32
  let c0_740 : Index := 0#32
  let c0_i32_470 : BitVec 32 := 0#32
  let c1_i32 : BitVec 32 := 1#32
  let arg36 : BitVec 32 := Scf.iv c0_i32_470 c1_i32 k0_t1
  let v1097 : Index := Scalar.indexCast arg36
  let c0_741 : Index := 0#32
  ![0, 0, v1097.toNat, 0]
def k0_off187 (k0_t1 : Fin k0_t1_loop.trips) : Fin 5 → Nat :=
  let c0_747 : Index := 0#32
  let c0_i32_470 : BitVec 32 := 0#32
  let c1_i32 : BitVec 32 := 1#32
  let arg36 : BitVec 32 := Scf.iv c0_i32_470 c1_i32 k0_t1
  let v1114 : Index := Scalar.indexCast arg36
  let c0_748 : Index := 0#32
  let c0_749 : Index := 0#32
  let c256_750 : Index := 256#32
  ![0, v1114.toNat, 0, 0, 256]
def k0_off188 (k0_t1 : Fin k0_t1_loop.trips) : Fin 4 → Nat :=
  let c0_751 : Index := 0#32
  let c0_752 : Index := 0#32
  let c0_i32_470 : BitVec 32 := 0#32
  let c1_i32 : BitVec 32 := 1#32
  let arg36 : BitVec 32 := Scf.iv c0_i32_470 c1_i32 k0_t1
  let v1117 : Index := Scalar.indexCast arg36
  let c256_753 : Index := 256#32
  ![0, 0, v1117.toNat, 256]
def k0_off189 (k0_t1 : Fin k0_t1_loop.trips) : Fin 5 → Nat :=
  let c0_759 : Index := 0#32
  let c0_i32_470 : BitVec 32 := 0#32
  let c1_i32 : BitVec 32 := 1#32
  let arg36 : BitVec 32 := Scf.iv c0_i32_470 c1_i32 k0_t1
  let v1134 : Index := Scalar.indexCast arg36
  let c0_760 : Index := 0#32
  let c0_761 : Index := 0#32
  let c512_762 : Index := 512#32
  ![0, v1134.toNat, 0, 0, 512]
def k0_off190 (k0_t1 : Fin k0_t1_loop.trips) : Fin 4 → Nat :=
  let c0_763 : Index := 0#32
  let c0_764 : Index := 0#32
  let c0_i32_470 : BitVec 32 := 0#32
  let c1_i32 : BitVec 32 := 1#32
  let arg36 : BitVec 32 := Scf.iv c0_i32_470 c1_i32 k0_t1
  let v1137 : Index := Scalar.indexCast arg36
  let c512_765 : Index := 512#32
  ![0, 0, v1137.toNat, 512]
def k0_off191 (k0_t1 : Fin k0_t1_loop.trips) : Fin 5 → Nat :=
  let c0_771 : Index := 0#32
  let c0_i32_470 : BitVec 32 := 0#32
  let c1_i32 : BitVec 32 := 1#32
  let arg36 : BitVec 32 := Scf.iv c0_i32_470 c1_i32 k0_t1
  let v1154 : Index := Scalar.indexCast arg36
  let c0_772 : Index := 0#32
  let c0_773 : Index := 0#32
  let c768_774 : Index := 768#32
  ![0, v1154.toNat, 0, 0, 768]
def k0_off192 (k0_t1 : Fin k0_t1_loop.trips) : Fin 4 → Nat :=
  let c0_775 : Index := 0#32
  let c0_776 : Index := 0#32
  let c0_i32_470 : BitVec 32 := 0#32
  let c1_i32 : BitVec 32 := 1#32
  let arg36 : BitVec 32 := Scf.iv c0_i32_470 c1_i32 k0_t1
  let v1157 : Index := Scalar.indexCast arg36
  let c768_777 : Index := 768#32
  ![0, 0, v1157.toNat, 768]
def k0_off193 (k0_t1 : Fin k0_t1_loop.trips) : Fin 5 → Nat :=
  let c0_783 : Index := 0#32
  let c0_i32_470 : BitVec 32 := 0#32
  let c1_i32 : BitVec 32 := 1#32
  let arg36 : BitVec 32 := Scf.iv c0_i32_470 c1_i32 k0_t1
  let v1174 : Index := Scalar.indexCast arg36
  let c0_784 : Index := 0#32
  let c0_785 : Index := 0#32
  let c1024_786 : Index := 1024#32
  ![0, v1174.toNat, 0, 0, 1024]
def k0_off194 (k0_t1 : Fin k0_t1_loop.trips) : Fin 4 → Nat :=
  let c0_787 : Index := 0#32
  let c0_788 : Index := 0#32
  let c0_i32_470 : BitVec 32 := 0#32
  let c1_i32 : BitVec 32 := 1#32
  let arg36 : BitVec 32 := Scf.iv c0_i32_470 c1_i32 k0_t1
  let v1177 : Index := Scalar.indexCast arg36
  let c1024_789 : Index := 1024#32
  ![0, 0, v1177.toNat, 1024]
def k0_off195 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1200 : Index := Scalar.indexCast arg36
  let c0_796 : Index := 0#32
  let c0_797 : Index := 0#32
  let c0_798 : Index := 0#32
  ![v1200.toNat, 0, 0, 0]
def k0_off196 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1203 : Index := Scalar.indexCast arg36
  let c0_799 : Index := 0#32
  let c0_800 : Index := 0#32
  let c0_801 : Index := 0#32
  ![v1203.toNat, 0, 0, 0]
def k0_off197 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1334 : Index := Scalar.indexCast arg36
  let c0_864 : Index := 0#32
  let c0_865 : Index := 0#32
  let c0_866 : Index := 0#32
  ![v1334.toNat, 0, 0, 0]
def k0_off198 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1339 : Index := Scalar.indexCast arg36
  let c1_867 : Index := 1#32
  let c0_868 : Index := 0#32
  let c0_869 : Index := 0#32
  ![v1339.toNat, 1, 0, 0]
def k0_off199 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1344 : Index := Scalar.indexCast arg36
  let c2_870 : Index := 2#32
  let c0_871 : Index := 0#32
  let c0_872 : Index := 0#32
  ![v1344.toNat, 2, 0, 0]
def k0_off200 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1348 : Index := Scalar.indexCast arg36
  let c1_873 : Index := 1#32
  let c0_874 : Index := 0#32
  let c0_875 : Index := 0#32
  ![v1348.toNat, 1, 0, 0]
def k0_off201 (k0_t1 : Fin k0_t1_loop.trips) : Fin 5 → Nat :=
  let c0_877 : Index := 0#32
  let c0_i32_470 : BitVec 32 := 0#32
  let c1_i32 : BitVec 32 := 1#32
  let arg36 : BitVec 32 := Scf.iv c0_i32_470 c1_i32 k0_t1
  let v1352 : Index := Scalar.indexCast arg36
  let c1_878 : Index := 1#32
  let c0_879 : Index := 0#32
  let c0_880 : Index := 0#32
  ![0, v1352.toNat, 1, 0, 0]
def k0_off202 (k0_t1 : Fin k0_t1_loop.trips) : Fin 4 → Nat :=
  let c0_881 : Index := 0#32
  let c1_882 : Index := 1#32
  let c0_i32_470 : BitVec 32 := 0#32
  let c1_i32 : BitVec 32 := 1#32
  let arg36 : BitVec 32 := Scf.iv c0_i32_470 c1_i32 k0_t1
  let v1355 : Index := Scalar.indexCast arg36
  let c0_883 : Index := 0#32
  ![0, 1, v1355.toNat, 0]
def k0_off203 (k0_t1 : Fin k0_t1_loop.trips) : Fin 5 → Nat :=
  let c0_889 : Index := 0#32
  let c0_i32_470 : BitVec 32 := 0#32
  let c1_i32 : BitVec 32 := 1#32
  let arg36 : BitVec 32 := Scf.iv c0_i32_470 c1_i32 k0_t1
  let v1372 : Index := Scalar.indexCast arg36
  let c1_890 : Index := 1#32
  let c0_891 : Index := 0#32
  let c256_892 : Index := 256#32
  ![0, v1372.toNat, 1, 0, 256]
def k0_off204 (k0_t1 : Fin k0_t1_loop.trips) : Fin 4 → Nat :=
  let c0_893 : Index := 0#32
  let c1_894 : Index := 1#32
  let c0_i32_470 : BitVec 32 := 0#32
  let c1_i32 : BitVec 32 := 1#32
  let arg36 : BitVec 32 := Scf.iv c0_i32_470 c1_i32 k0_t1
  let v1375 : Index := Scalar.indexCast arg36
  let c256_895 : Index := 256#32
  ![0, 1, v1375.toNat, 256]
def k0_off205 (k0_t1 : Fin k0_t1_loop.trips) : Fin 5 → Nat :=
  let c0_901 : Index := 0#32
  let c0_i32_470 : BitVec 32 := 0#32
  let c1_i32 : BitVec 32 := 1#32
  let arg36 : BitVec 32 := Scf.iv c0_i32_470 c1_i32 k0_t1
  let v1392 : Index := Scalar.indexCast arg36
  let c1_902 : Index := 1#32
  let c0_903 : Index := 0#32
  let c512_904 : Index := 512#32
  ![0, v1392.toNat, 1, 0, 512]
def k0_off206 (k0_t1 : Fin k0_t1_loop.trips) : Fin 4 → Nat :=
  let c0_905 : Index := 0#32
  let c1_906 : Index := 1#32
  let c0_i32_470 : BitVec 32 := 0#32
  let c1_i32 : BitVec 32 := 1#32
  let arg36 : BitVec 32 := Scf.iv c0_i32_470 c1_i32 k0_t1
  let v1395 : Index := Scalar.indexCast arg36
  let c512_907 : Index := 512#32
  ![0, 1, v1395.toNat, 512]
def k0_off207 (k0_t1 : Fin k0_t1_loop.trips) : Fin 5 → Nat :=
  let c0_913 : Index := 0#32
  let c0_i32_470 : BitVec 32 := 0#32
  let c1_i32 : BitVec 32 := 1#32
  let arg36 : BitVec 32 := Scf.iv c0_i32_470 c1_i32 k0_t1
  let v1412 : Index := Scalar.indexCast arg36
  let c1_914 : Index := 1#32
  let c0_915 : Index := 0#32
  let c768_916 : Index := 768#32
  ![0, v1412.toNat, 1, 0, 768]
def k0_off208 (k0_t1 : Fin k0_t1_loop.trips) : Fin 4 → Nat :=
  let c0_917 : Index := 0#32
  let c1_918 : Index := 1#32
  let c0_i32_470 : BitVec 32 := 0#32
  let c1_i32 : BitVec 32 := 1#32
  let arg36 : BitVec 32 := Scf.iv c0_i32_470 c1_i32 k0_t1
  let v1415 : Index := Scalar.indexCast arg36
  let c768_919 : Index := 768#32
  ![0, 1, v1415.toNat, 768]
def k0_off209 (k0_t1 : Fin k0_t1_loop.trips) : Fin 5 → Nat :=
  let c0_925 : Index := 0#32
  let c0_i32_470 : BitVec 32 := 0#32
  let c1_i32 : BitVec 32 := 1#32
  let arg36 : BitVec 32 := Scf.iv c0_i32_470 c1_i32 k0_t1
  let v1432 : Index := Scalar.indexCast arg36
  let c1_926 : Index := 1#32
  let c0_927 : Index := 0#32
  let c1024_928 : Index := 1024#32
  ![0, v1432.toNat, 1, 0, 1024]
def k0_off210 (k0_t1 : Fin k0_t1_loop.trips) : Fin 4 → Nat :=
  let c0_929 : Index := 0#32
  let c1_930 : Index := 1#32
  let c0_i32_470 : BitVec 32 := 0#32
  let c1_i32 : BitVec 32 := 1#32
  let arg36 : BitVec 32 := Scf.iv c0_i32_470 c1_i32 k0_t1
  let v1435 : Index := Scalar.indexCast arg36
  let c1024_931 : Index := 1024#32
  ![0, 1, v1435.toNat, 1024]
def k0_off211 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1458 : Index := Scalar.indexCast arg36
  let c1_938 : Index := 1#32
  let c0_939 : Index := 0#32
  let c0_940 : Index := 0#32
  ![v1458.toNat, 1, 0, 0]
def k0_off212 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1461 : Index := Scalar.indexCast arg36
  let c1_941 : Index := 1#32
  let c0_942 : Index := 0#32
  let c0_943 : Index := 0#32
  ![v1461.toNat, 1, 0, 0]
def k0_off213 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1592 : Index := Scalar.indexCast arg36
  let c3_1006 : Index := 3#32
  let c0_1007 : Index := 0#32
  let c0_1008 : Index := 0#32
  ![v1592.toNat, 3, 0, 0]
def k0_off214 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1597 : Index := Scalar.indexCast arg36
  let c4_1009 : Index := 4#32
  let c0_1010 : Index := 0#32
  let c0_1011 : Index := 0#32
  ![v1597.toNat, 4, 0, 0]
def k0_off215 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1602 : Index := Scalar.indexCast arg36
  let c5_1012 : Index := 5#32
  let c0_1013 : Index := 0#32
  let c0_1014 : Index := 0#32
  ![v1602.toNat, 5, 0, 0]
def k0_off216 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1606 : Index := Scalar.indexCast arg36
  let c2_1015 : Index := 2#32
  let c0_1016 : Index := 0#32
  let c0_1017 : Index := 0#32
  ![v1606.toNat, 2, 0, 0]
def k0_off217 (k0_t1 : Fin k0_t1_loop.trips) : Fin 5 → Nat :=
  let c0_1019 : Index := 0#32
  let c0_i32_470 : BitVec 32 := 0#32
  let c1_i32 : BitVec 32 := 1#32
  let arg36 : BitVec 32 := Scf.iv c0_i32_470 c1_i32 k0_t1
  let v1610 : Index := Scalar.indexCast arg36
  let c2_1020 : Index := 2#32
  let c0_1021 : Index := 0#32
  let c0_1022 : Index := 0#32
  ![0, v1610.toNat, 2, 0, 0]
def k0_off218 (k0_t1 : Fin k0_t1_loop.trips) : Fin 4 → Nat :=
  let c0_1023 : Index := 0#32
  let c2_1024 : Index := 2#32
  let c0_i32_470 : BitVec 32 := 0#32
  let c1_i32 : BitVec 32 := 1#32
  let arg36 : BitVec 32 := Scf.iv c0_i32_470 c1_i32 k0_t1
  let v1613 : Index := Scalar.indexCast arg36
  let c0_1025 : Index := 0#32
  ![0, 2, v1613.toNat, 0]
def k0_off219 (k0_t1 : Fin k0_t1_loop.trips) : Fin 5 → Nat :=
  let c0_1031 : Index := 0#32
  let c0_i32_470 : BitVec 32 := 0#32
  let c1_i32 : BitVec 32 := 1#32
  let arg36 : BitVec 32 := Scf.iv c0_i32_470 c1_i32 k0_t1
  let v1630 : Index := Scalar.indexCast arg36
  let c2_1032 : Index := 2#32
  let c0_1033 : Index := 0#32
  let c256_1034 : Index := 256#32
  ![0, v1630.toNat, 2, 0, 256]
def k0_off220 (k0_t1 : Fin k0_t1_loop.trips) : Fin 4 → Nat :=
  let c0_1035 : Index := 0#32
  let c2_1036 : Index := 2#32
  let c0_i32_470 : BitVec 32 := 0#32
  let c1_i32 : BitVec 32 := 1#32
  let arg36 : BitVec 32 := Scf.iv c0_i32_470 c1_i32 k0_t1
  let v1633 : Index := Scalar.indexCast arg36
  let c256_1037 : Index := 256#32
  ![0, 2, v1633.toNat, 256]
def k0_off221 (k0_t1 : Fin k0_t1_loop.trips) : Fin 5 → Nat :=
  let c0_1043 : Index := 0#32
  let c0_i32_470 : BitVec 32 := 0#32
  let c1_i32 : BitVec 32 := 1#32
  let arg36 : BitVec 32 := Scf.iv c0_i32_470 c1_i32 k0_t1
  let v1650 : Index := Scalar.indexCast arg36
  let c2_1044 : Index := 2#32
  let c0_1045 : Index := 0#32
  let c512_1046 : Index := 512#32
  ![0, v1650.toNat, 2, 0, 512]
def k0_off222 (k0_t1 : Fin k0_t1_loop.trips) : Fin 4 → Nat :=
  let c0_1047 : Index := 0#32
  let c2_1048 : Index := 2#32
  let c0_i32_470 : BitVec 32 := 0#32
  let c1_i32 : BitVec 32 := 1#32
  let arg36 : BitVec 32 := Scf.iv c0_i32_470 c1_i32 k0_t1
  let v1653 : Index := Scalar.indexCast arg36
  let c512_1049 : Index := 512#32
  ![0, 2, v1653.toNat, 512]
def k0_off223 (k0_t1 : Fin k0_t1_loop.trips) : Fin 5 → Nat :=
  let c0_1055 : Index := 0#32
  let c0_i32_470 : BitVec 32 := 0#32
  let c1_i32 : BitVec 32 := 1#32
  let arg36 : BitVec 32 := Scf.iv c0_i32_470 c1_i32 k0_t1
  let v1670 : Index := Scalar.indexCast arg36
  let c2_1056 : Index := 2#32
  let c0_1057 : Index := 0#32
  let c768_1058 : Index := 768#32
  ![0, v1670.toNat, 2, 0, 768]
def k0_off224 (k0_t1 : Fin k0_t1_loop.trips) : Fin 4 → Nat :=
  let c0_1059 : Index := 0#32
  let c2_1060 : Index := 2#32
  let c0_i32_470 : BitVec 32 := 0#32
  let c1_i32 : BitVec 32 := 1#32
  let arg36 : BitVec 32 := Scf.iv c0_i32_470 c1_i32 k0_t1
  let v1673 : Index := Scalar.indexCast arg36
  let c768_1061 : Index := 768#32
  ![0, 2, v1673.toNat, 768]
def k0_off225 (k0_t1 : Fin k0_t1_loop.trips) : Fin 5 → Nat :=
  let c0_1067 : Index := 0#32
  let c0_i32_470 : BitVec 32 := 0#32
  let c1_i32 : BitVec 32 := 1#32
  let arg36 : BitVec 32 := Scf.iv c0_i32_470 c1_i32 k0_t1
  let v1690 : Index := Scalar.indexCast arg36
  let c2_1068 : Index := 2#32
  let c0_1069 : Index := 0#32
  let c1024_1070 : Index := 1024#32
  ![0, v1690.toNat, 2, 0, 1024]
def k0_off226 (k0_t1 : Fin k0_t1_loop.trips) : Fin 4 → Nat :=
  let c0_1071 : Index := 0#32
  let c2_1072 : Index := 2#32
  let c0_i32_470 : BitVec 32 := 0#32
  let c1_i32 : BitVec 32 := 1#32
  let arg36 : BitVec 32 := Scf.iv c0_i32_470 c1_i32 k0_t1
  let v1693 : Index := Scalar.indexCast arg36
  let c1024_1073 : Index := 1024#32
  ![0, 2, v1693.toNat, 1024]
def k0_off227 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1716 : Index := Scalar.indexCast arg36
  let c2_1080 : Index := 2#32
  let c0_1081 : Index := 0#32
  let c0_1082 : Index := 0#32
  ![v1716.toNat, 2, 0, 0]
def k0_off228 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1719 : Index := Scalar.indexCast arg36
  let c2_1083 : Index := 2#32
  let c0_1084 : Index := 0#32
  let c0_1085 : Index := 0#32
  ![v1719.toNat, 2, 0, 0]
def k0_off229 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1850 : Index := Scalar.indexCast arg36
  let c6_1148 : Index := 6#32
  let c0_1149 : Index := 0#32
  let c0_1150 : Index := 0#32
  ![v1850.toNat, 6, 0, 0]
def k0_off230 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1855 : Index := Scalar.indexCast arg36
  let c7_1151 : Index := 7#32
  let c0_1152 : Index := 0#32
  let c0_1153 : Index := 0#32
  ![v1855.toNat, 7, 0, 0]
def k0_off231 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1860 : Index := Scalar.indexCast arg36
  let c8_1154 : Index := 8#32
  let c0_1155 : Index := 0#32
  let c0_1156 : Index := 0#32
  ![v1860.toNat, 8, 0, 0]
def k0_off232 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1088 : Index := Scalar.indexCast arg36
  let c0_729 : Index := 0#32
  let c0_730 : Index := 0#32
  let c0_731 : Index := 0#32
  ![v1088.toNat, 0, 0, 0]
def k0_off233 (k0_t1 : Fin k0_t1_loop.trips) : Fin 5 → Nat :=
  let c0_733 : Index := 0#32
  let c0_i32_470 : BitVec 32 := 0#32
  let c1_i32 : BitVec 32 := 1#32
  let arg36 : BitVec 32 := Scf.iv c0_i32_470 c1_i32 k0_t1
  let v1092 : Index := Scalar.indexCast arg36
  let c0_734 : Index := 0#32
  let c0_735 : Index := 0#32
  let c0_736 : Index := 0#32
  ![0, v1092.toNat, 0, 0, 0]
def k0_off234 (k0_t1 : Fin k0_t1_loop.trips) : Fin 4 → Nat :=
  let c0_737 : Index := 0#32
  let c0_738 : Index := 0#32
  let c0_i32_470 : BitVec 32 := 0#32
  let c1_i32 : BitVec 32 := 1#32
  let arg36 : BitVec 32 := Scf.iv c0_i32_470 c1_i32 k0_t1
  let v1095 : Index := Scalar.indexCast arg36
  let c0_739 : Index := 0#32
  ![0, 0, v1095.toNat, 0]
def k0_off235 (k0_t1 : Fin k0_t1_loop.trips) : Fin 5 → Nat :=
  let c0_745 : Index := 0#32
  let c0_i32_470 : BitVec 32 := 0#32
  let c1_i32 : BitVec 32 := 1#32
  let arg36 : BitVec 32 := Scf.iv c0_i32_470 c1_i32 k0_t1
  let v1112 : Index := Scalar.indexCast arg36
  let c0_746 : Index := 0#32
  let c0_747 : Index := 0#32
  let c256_748 : Index := 256#32
  ![0, v1112.toNat, 0, 0, 256]
def k0_off236 (k0_t1 : Fin k0_t1_loop.trips) : Fin 4 → Nat :=
  let c0_749 : Index := 0#32
  let c0_750 : Index := 0#32
  let c0_i32_470 : BitVec 32 := 0#32
  let c1_i32 : BitVec 32 := 1#32
  let arg36 : BitVec 32 := Scf.iv c0_i32_470 c1_i32 k0_t1
  let v1115 : Index := Scalar.indexCast arg36
  let c256_751 : Index := 256#32
  ![0, 0, v1115.toNat, 256]
def k0_off237 (k0_t1 : Fin k0_t1_loop.trips) : Fin 5 → Nat :=
  let c0_757 : Index := 0#32
  let c0_i32_470 : BitVec 32 := 0#32
  let c1_i32 : BitVec 32 := 1#32
  let arg36 : BitVec 32 := Scf.iv c0_i32_470 c1_i32 k0_t1
  let v1132 : Index := Scalar.indexCast arg36
  let c0_758 : Index := 0#32
  let c0_759 : Index := 0#32
  let c512_760 : Index := 512#32
  ![0, v1132.toNat, 0, 0, 512]
def k0_off238 (k0_t1 : Fin k0_t1_loop.trips) : Fin 4 → Nat :=
  let c0_761 : Index := 0#32
  let c0_762 : Index := 0#32
  let c0_i32_470 : BitVec 32 := 0#32
  let c1_i32 : BitVec 32 := 1#32
  let arg36 : BitVec 32 := Scf.iv c0_i32_470 c1_i32 k0_t1
  let v1135 : Index := Scalar.indexCast arg36
  let c512_763 : Index := 512#32
  ![0, 0, v1135.toNat, 512]
def k0_off239 (k0_t1 : Fin k0_t1_loop.trips) : Fin 5 → Nat :=
  let c0_769 : Index := 0#32
  let c0_i32_470 : BitVec 32 := 0#32
  let c1_i32 : BitVec 32 := 1#32
  let arg36 : BitVec 32 := Scf.iv c0_i32_470 c1_i32 k0_t1
  let v1152 : Index := Scalar.indexCast arg36
  let c0_770 : Index := 0#32
  let c0_771 : Index := 0#32
  let c768_772 : Index := 768#32
  ![0, v1152.toNat, 0, 0, 768]
def k0_off240 (k0_t1 : Fin k0_t1_loop.trips) : Fin 4 → Nat :=
  let c0_773 : Index := 0#32
  let c0_774 : Index := 0#32
  let c0_i32_470 : BitVec 32 := 0#32
  let c1_i32 : BitVec 32 := 1#32
  let arg36 : BitVec 32 := Scf.iv c0_i32_470 c1_i32 k0_t1
  let v1155 : Index := Scalar.indexCast arg36
  let c768_775 : Index := 768#32
  ![0, 0, v1155.toNat, 768]
def k0_off241 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1178 : Index := Scalar.indexCast arg36
  let c0_782 : Index := 0#32
  let c0_783 : Index := 0#32
  let c0_784 : Index := 0#32
  ![v1178.toNat, 0, 0, 0]
def k0_off242 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1181 : Index := Scalar.indexCast arg36
  let c0_785 : Index := 0#32
  let c0_786 : Index := 0#32
  let c0_787 : Index := 0#32
  ![v1181.toNat, 0, 0, 0]
def k0_off243 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1293 : Index := Scalar.indexCast arg36
  let c0_840 : Index := 0#32
  let c0_841 : Index := 0#32
  let c0_842 : Index := 0#32
  ![v1293.toNat, 0, 0, 0]
def k0_off244 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1298 : Index := Scalar.indexCast arg36
  let c1_843 : Index := 1#32
  let c0_844 : Index := 0#32
  let c0_845 : Index := 0#32
  ![v1298.toNat, 1, 0, 0]
def k0_off245 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1303 : Index := Scalar.indexCast arg36
  let c2_846 : Index := 2#32
  let c0_847 : Index := 0#32
  let c0_848 : Index := 0#32
  ![v1303.toNat, 2, 0, 0]
def k0_off246 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1307 : Index := Scalar.indexCast arg36
  let c1_849 : Index := 1#32
  let c0_850 : Index := 0#32
  let c0_851 : Index := 0#32
  ![v1307.toNat, 1, 0, 0]
def k0_off247 (k0_t1 : Fin k0_t1_loop.trips) : Fin 5 → Nat :=
  let c0_853 : Index := 0#32
  let c0_i32_470 : BitVec 32 := 0#32
  let c1_i32 : BitVec 32 := 1#32
  let arg36 : BitVec 32 := Scf.iv c0_i32_470 c1_i32 k0_t1
  let v1311 : Index := Scalar.indexCast arg36
  let c1_854 : Index := 1#32
  let c0_855 : Index := 0#32
  let c0_856 : Index := 0#32
  ![0, v1311.toNat, 1, 0, 0]
def k0_off248 (k0_t1 : Fin k0_t1_loop.trips) : Fin 4 → Nat :=
  let c0_857 : Index := 0#32
  let c1_858 : Index := 1#32
  let c0_i32_470 : BitVec 32 := 0#32
  let c1_i32 : BitVec 32 := 1#32
  let arg36 : BitVec 32 := Scf.iv c0_i32_470 c1_i32 k0_t1
  let v1314 : Index := Scalar.indexCast arg36
  let c0_859 : Index := 0#32
  ![0, 1, v1314.toNat, 0]
def k0_off249 (k0_t1 : Fin k0_t1_loop.trips) : Fin 5 → Nat :=
  let c0_865 : Index := 0#32
  let c0_i32_470 : BitVec 32 := 0#32
  let c1_i32 : BitVec 32 := 1#32
  let arg36 : BitVec 32 := Scf.iv c0_i32_470 c1_i32 k0_t1
  let v1331 : Index := Scalar.indexCast arg36
  let c1_866 : Index := 1#32
  let c0_867 : Index := 0#32
  let c256_868 : Index := 256#32
  ![0, v1331.toNat, 1, 0, 256]
def k0_off250 (k0_t1 : Fin k0_t1_loop.trips) : Fin 4 → Nat :=
  let c0_869 : Index := 0#32
  let c1_870 : Index := 1#32
  let c0_i32_470 : BitVec 32 := 0#32
  let c1_i32 : BitVec 32 := 1#32
  let arg36 : BitVec 32 := Scf.iv c0_i32_470 c1_i32 k0_t1
  let v1334 : Index := Scalar.indexCast arg36
  let c256_871 : Index := 256#32
  ![0, 1, v1334.toNat, 256]
def k0_off251 (k0_t1 : Fin k0_t1_loop.trips) : Fin 5 → Nat :=
  let c0_877 : Index := 0#32
  let c0_i32_470 : BitVec 32 := 0#32
  let c1_i32 : BitVec 32 := 1#32
  let arg36 : BitVec 32 := Scf.iv c0_i32_470 c1_i32 k0_t1
  let v1351 : Index := Scalar.indexCast arg36
  let c1_878 : Index := 1#32
  let c0_879 : Index := 0#32
  let c512_880 : Index := 512#32
  ![0, v1351.toNat, 1, 0, 512]
def k0_off252 (k0_t1 : Fin k0_t1_loop.trips) : Fin 4 → Nat :=
  let c0_881 : Index := 0#32
  let c1_882 : Index := 1#32
  let c0_i32_470 : BitVec 32 := 0#32
  let c1_i32 : BitVec 32 := 1#32
  let arg36 : BitVec 32 := Scf.iv c0_i32_470 c1_i32 k0_t1
  let v1354 : Index := Scalar.indexCast arg36
  let c512_883 : Index := 512#32
  ![0, 1, v1354.toNat, 512]
def k0_off253 (k0_t1 : Fin k0_t1_loop.trips) : Fin 5 → Nat :=
  let c0_889 : Index := 0#32
  let c0_i32_470 : BitVec 32 := 0#32
  let c1_i32 : BitVec 32 := 1#32
  let arg36 : BitVec 32 := Scf.iv c0_i32_470 c1_i32 k0_t1
  let v1371 : Index := Scalar.indexCast arg36
  let c1_890 : Index := 1#32
  let c0_891 : Index := 0#32
  let c768_892 : Index := 768#32
  ![0, v1371.toNat, 1, 0, 768]
def k0_off254 (k0_t1 : Fin k0_t1_loop.trips) : Fin 4 → Nat :=
  let c0_893 : Index := 0#32
  let c1_894 : Index := 1#32
  let c0_i32_470 : BitVec 32 := 0#32
  let c1_i32 : BitVec 32 := 1#32
  let arg36 : BitVec 32 := Scf.iv c0_i32_470 c1_i32 k0_t1
  let v1374 : Index := Scalar.indexCast arg36
  let c768_895 : Index := 768#32
  ![0, 1, v1374.toNat, 768]
def k0_off255 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1397 : Index := Scalar.indexCast arg36
  let c1_902 : Index := 1#32
  let c0_903 : Index := 0#32
  let c0_904 : Index := 0#32
  ![v1397.toNat, 1, 0, 0]
def k0_off256 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1400 : Index := Scalar.indexCast arg36
  let c1_905 : Index := 1#32
  let c0_906 : Index := 0#32
  let c0_907 : Index := 0#32
  ![v1400.toNat, 1, 0, 0]
def k0_off257 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1512 : Index := Scalar.indexCast arg36
  let c3_960 : Index := 3#32
  let c0_961 : Index := 0#32
  let c0_962 : Index := 0#32
  ![v1512.toNat, 3, 0, 0]
def k0_off258 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1517 : Index := Scalar.indexCast arg36
  let c4_963 : Index := 4#32
  let c0_964 : Index := 0#32
  let c0_965 : Index := 0#32
  ![v1517.toNat, 4, 0, 0]
def k0_off259 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1522 : Index := Scalar.indexCast arg36
  let c5_966 : Index := 5#32
  let c0_967 : Index := 0#32
  let c0_968 : Index := 0#32
  ![v1522.toNat, 5, 0, 0]
def k0_off260 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1526 : Index := Scalar.indexCast arg36
  let c2_969 : Index := 2#32
  let c0_970 : Index := 0#32
  let c0_971 : Index := 0#32
  ![v1526.toNat, 2, 0, 0]
def k0_off261 (k0_t1 : Fin k0_t1_loop.trips) : Fin 5 → Nat :=
  let c0_973 : Index := 0#32
  let c0_i32_470 : BitVec 32 := 0#32
  let c1_i32 : BitVec 32 := 1#32
  let arg36 : BitVec 32 := Scf.iv c0_i32_470 c1_i32 k0_t1
  let v1530 : Index := Scalar.indexCast arg36
  let c2_974 : Index := 2#32
  let c0_975 : Index := 0#32
  let c0_976 : Index := 0#32
  ![0, v1530.toNat, 2, 0, 0]
def k0_off262 (k0_t1 : Fin k0_t1_loop.trips) : Fin 4 → Nat :=
  let c0_977 : Index := 0#32
  let c2_978 : Index := 2#32
  let c0_i32_470 : BitVec 32 := 0#32
  let c1_i32 : BitVec 32 := 1#32
  let arg36 : BitVec 32 := Scf.iv c0_i32_470 c1_i32 k0_t1
  let v1533 : Index := Scalar.indexCast arg36
  let c0_979 : Index := 0#32
  ![0, 2, v1533.toNat, 0]
def k0_off263 (k0_t1 : Fin k0_t1_loop.trips) : Fin 5 → Nat :=
  let c0_985 : Index := 0#32
  let c0_i32_470 : BitVec 32 := 0#32
  let c1_i32 : BitVec 32 := 1#32
  let arg36 : BitVec 32 := Scf.iv c0_i32_470 c1_i32 k0_t1
  let v1550 : Index := Scalar.indexCast arg36
  let c2_986 : Index := 2#32
  let c0_987 : Index := 0#32
  let c256_988 : Index := 256#32
  ![0, v1550.toNat, 2, 0, 256]
def k0_off264 (k0_t1 : Fin k0_t1_loop.trips) : Fin 4 → Nat :=
  let c0_989 : Index := 0#32
  let c2_990 : Index := 2#32
  let c0_i32_470 : BitVec 32 := 0#32
  let c1_i32 : BitVec 32 := 1#32
  let arg36 : BitVec 32 := Scf.iv c0_i32_470 c1_i32 k0_t1
  let v1553 : Index := Scalar.indexCast arg36
  let c256_991 : Index := 256#32
  ![0, 2, v1553.toNat, 256]
def k0_off265 (k0_t1 : Fin k0_t1_loop.trips) : Fin 5 → Nat :=
  let c0_997 : Index := 0#32
  let c0_i32_470 : BitVec 32 := 0#32
  let c1_i32 : BitVec 32 := 1#32
  let arg36 : BitVec 32 := Scf.iv c0_i32_470 c1_i32 k0_t1
  let v1570 : Index := Scalar.indexCast arg36
  let c2_998 : Index := 2#32
  let c0_999 : Index := 0#32
  let c512_1000 : Index := 512#32
  ![0, v1570.toNat, 2, 0, 512]
def k0_off266 (k0_t1 : Fin k0_t1_loop.trips) : Fin 4 → Nat :=
  let c0_1001 : Index := 0#32
  let c2_1002 : Index := 2#32
  let c0_i32_470 : BitVec 32 := 0#32
  let c1_i32 : BitVec 32 := 1#32
  let arg36 : BitVec 32 := Scf.iv c0_i32_470 c1_i32 k0_t1
  let v1573 : Index := Scalar.indexCast arg36
  let c512_1003 : Index := 512#32
  ![0, 2, v1573.toNat, 512]
def k0_off267 (k0_t1 : Fin k0_t1_loop.trips) : Fin 5 → Nat :=
  let c0_1009 : Index := 0#32
  let c0_i32_470 : BitVec 32 := 0#32
  let c1_i32 : BitVec 32 := 1#32
  let arg36 : BitVec 32 := Scf.iv c0_i32_470 c1_i32 k0_t1
  let v1590 : Index := Scalar.indexCast arg36
  let c2_1010 : Index := 2#32
  let c0_1011 : Index := 0#32
  let c768_1012 : Index := 768#32
  ![0, v1590.toNat, 2, 0, 768]
def k0_off268 (k0_t1 : Fin k0_t1_loop.trips) : Fin 4 → Nat :=
  let c0_1013 : Index := 0#32
  let c2_1014 : Index := 2#32
  let c0_i32_470 : BitVec 32 := 0#32
  let c1_i32 : BitVec 32 := 1#32
  let arg36 : BitVec 32 := Scf.iv c0_i32_470 c1_i32 k0_t1
  let v1593 : Index := Scalar.indexCast arg36
  let c768_1015 : Index := 768#32
  ![0, 2, v1593.toNat, 768]
def k0_off269 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1616 : Index := Scalar.indexCast arg36
  let c2_1022 : Index := 2#32
  let c0_1023 : Index := 0#32
  let c0_1024 : Index := 0#32
  ![v1616.toNat, 2, 0, 0]
def k0_off270 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1619 : Index := Scalar.indexCast arg36
  let c2_1025 : Index := 2#32
  let c0_1026 : Index := 0#32
  let c0_1027 : Index := 0#32
  ![v1619.toNat, 2, 0, 0]
def k0_off271 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1731 : Index := Scalar.indexCast arg36
  let c6_1080 : Index := 6#32
  let c0_1081 : Index := 0#32
  let c0_1082 : Index := 0#32
  ![v1731.toNat, 6, 0, 0]
def k0_off272 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1736 : Index := Scalar.indexCast arg36
  let c7_1083 : Index := 7#32
  let c0_1084 : Index := 0#32
  let c0_1085 : Index := 0#32
  ![v1736.toNat, 7, 0, 0]
def k0_off273 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1741 : Index := Scalar.indexCast arg36
  let c8_1086 : Index := 8#32
  let c0_1087 : Index := 0#32
  let c0_1088 : Index := 0#32
  ![v1741.toNat, 8, 0, 0]
def k0_off274 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1086 : Index := Scalar.indexCast arg36
  let c0_727 : Index := 0#32
  let c0_728 : Index := 0#32
  let c0_729 : Index := 0#32
  ![v1086.toNat, 0, 0, 0]
def k0_off275 (k0_t1 : Fin k0_t1_loop.trips) : Fin 5 → Nat :=
  let c0_731 : Index := 0#32
  let c0_i32_470 : BitVec 32 := 0#32
  let c1_i32 : BitVec 32 := 1#32
  let arg36 : BitVec 32 := Scf.iv c0_i32_470 c1_i32 k0_t1
  let v1090 : Index := Scalar.indexCast arg36
  let c0_732 : Index := 0#32
  let c0_733 : Index := 0#32
  let c0_734 : Index := 0#32
  ![0, v1090.toNat, 0, 0, 0]
def k0_off276 (k0_t1 : Fin k0_t1_loop.trips) : Fin 4 → Nat :=
  let c0_735 : Index := 0#32
  let c0_736 : Index := 0#32
  let c0_i32_470 : BitVec 32 := 0#32
  let c1_i32 : BitVec 32 := 1#32
  let arg36 : BitVec 32 := Scf.iv c0_i32_470 c1_i32 k0_t1
  let v1093 : Index := Scalar.indexCast arg36
  let c0_737 : Index := 0#32
  ![0, 0, v1093.toNat, 0]
def k0_off277 (k0_t1 : Fin k0_t1_loop.trips) : Fin 5 → Nat :=
  let c0_743 : Index := 0#32
  let c0_i32_470 : BitVec 32 := 0#32
  let c1_i32 : BitVec 32 := 1#32
  let arg36 : BitVec 32 := Scf.iv c0_i32_470 c1_i32 k0_t1
  let v1110 : Index := Scalar.indexCast arg36
  let c0_744 : Index := 0#32
  let c0_745 : Index := 0#32
  let c256_746 : Index := 256#32
  ![0, v1110.toNat, 0, 0, 256]
def k0_off278 (k0_t1 : Fin k0_t1_loop.trips) : Fin 4 → Nat :=
  let c0_747 : Index := 0#32
  let c0_748 : Index := 0#32
  let c0_i32_470 : BitVec 32 := 0#32
  let c1_i32 : BitVec 32 := 1#32
  let arg36 : BitVec 32 := Scf.iv c0_i32_470 c1_i32 k0_t1
  let v1113 : Index := Scalar.indexCast arg36
  let c256_749 : Index := 256#32
  ![0, 0, v1113.toNat, 256]
def k0_off279 (k0_t1 : Fin k0_t1_loop.trips) : Fin 5 → Nat :=
  let c0_755 : Index := 0#32
  let c0_i32_470 : BitVec 32 := 0#32
  let c1_i32 : BitVec 32 := 1#32
  let arg36 : BitVec 32 := Scf.iv c0_i32_470 c1_i32 k0_t1
  let v1130 : Index := Scalar.indexCast arg36
  let c0_756 : Index := 0#32
  let c0_757 : Index := 0#32
  let c512_758 : Index := 512#32
  ![0, v1130.toNat, 0, 0, 512]
def k0_off280 (k0_t1 : Fin k0_t1_loop.trips) : Fin 4 → Nat :=
  let c0_759 : Index := 0#32
  let c0_760 : Index := 0#32
  let c0_i32_470 : BitVec 32 := 0#32
  let c1_i32 : BitVec 32 := 1#32
  let arg36 : BitVec 32 := Scf.iv c0_i32_470 c1_i32 k0_t1
  let v1133 : Index := Scalar.indexCast arg36
  let c512_761 : Index := 512#32
  ![0, 0, v1133.toNat, 512]
def k0_off281 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1156 : Index := Scalar.indexCast arg36
  let c0_768 : Index := 0#32
  let c0_769 : Index := 0#32
  let c0_770 : Index := 0#32
  ![v1156.toNat, 0, 0, 0]
def k0_off282 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1159 : Index := Scalar.indexCast arg36
  let c0_771 : Index := 0#32
  let c0_772 : Index := 0#32
  let c0_773 : Index := 0#32
  ![v1159.toNat, 0, 0, 0]
def k0_off283 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1252 : Index := Scalar.indexCast arg36
  let c0_816 : Index := 0#32
  let c0_817 : Index := 0#32
  let c0_818 : Index := 0#32
  ![v1252.toNat, 0, 0, 0]
def k0_off284 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1257 : Index := Scalar.indexCast arg36
  let c1_819 : Index := 1#32
  let c0_820 : Index := 0#32
  let c0_821 : Index := 0#32
  ![v1257.toNat, 1, 0, 0]
def k0_off285 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1262 : Index := Scalar.indexCast arg36
  let c2_822 : Index := 2#32
  let c0_823 : Index := 0#32
  let c0_824 : Index := 0#32
  ![v1262.toNat, 2, 0, 0]
def k0_off286 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1266 : Index := Scalar.indexCast arg36
  let c1_825 : Index := 1#32
  let c0_826 : Index := 0#32
  let c0_827 : Index := 0#32
  ![v1266.toNat, 1, 0, 0]
def k0_off287 (k0_t1 : Fin k0_t1_loop.trips) : Fin 5 → Nat :=
  let c0_829 : Index := 0#32
  let c0_i32_470 : BitVec 32 := 0#32
  let c1_i32 : BitVec 32 := 1#32
  let arg36 : BitVec 32 := Scf.iv c0_i32_470 c1_i32 k0_t1
  let v1270 : Index := Scalar.indexCast arg36
  let c1_830 : Index := 1#32
  let c0_831 : Index := 0#32
  let c0_832 : Index := 0#32
  ![0, v1270.toNat, 1, 0, 0]
def k0_off288 (k0_t1 : Fin k0_t1_loop.trips) : Fin 4 → Nat :=
  let c0_833 : Index := 0#32
  let c1_834 : Index := 1#32
  let c0_i32_470 : BitVec 32 := 0#32
  let c1_i32 : BitVec 32 := 1#32
  let arg36 : BitVec 32 := Scf.iv c0_i32_470 c1_i32 k0_t1
  let v1273 : Index := Scalar.indexCast arg36
  let c0_835 : Index := 0#32
  ![0, 1, v1273.toNat, 0]
def k0_off289 (k0_t1 : Fin k0_t1_loop.trips) : Fin 5 → Nat :=
  let c0_841 : Index := 0#32
  let c0_i32_470 : BitVec 32 := 0#32
  let c1_i32 : BitVec 32 := 1#32
  let arg36 : BitVec 32 := Scf.iv c0_i32_470 c1_i32 k0_t1
  let v1290 : Index := Scalar.indexCast arg36
  let c1_842 : Index := 1#32
  let c0_843 : Index := 0#32
  let c256_844 : Index := 256#32
  ![0, v1290.toNat, 1, 0, 256]
def k0_off290 (k0_t1 : Fin k0_t1_loop.trips) : Fin 4 → Nat :=
  let c0_845 : Index := 0#32
  let c1_846 : Index := 1#32
  let c0_i32_470 : BitVec 32 := 0#32
  let c1_i32 : BitVec 32 := 1#32
  let arg36 : BitVec 32 := Scf.iv c0_i32_470 c1_i32 k0_t1
  let v1293 : Index := Scalar.indexCast arg36
  let c256_847 : Index := 256#32
  ![0, 1, v1293.toNat, 256]
def k0_off291 (k0_t1 : Fin k0_t1_loop.trips) : Fin 5 → Nat :=
  let c0_853 : Index := 0#32
  let c0_i32_470 : BitVec 32 := 0#32
  let c1_i32 : BitVec 32 := 1#32
  let arg36 : BitVec 32 := Scf.iv c0_i32_470 c1_i32 k0_t1
  let v1310 : Index := Scalar.indexCast arg36
  let c1_854 : Index := 1#32
  let c0_855 : Index := 0#32
  let c512_856 : Index := 512#32
  ![0, v1310.toNat, 1, 0, 512]
def k0_off292 (k0_t1 : Fin k0_t1_loop.trips) : Fin 4 → Nat :=
  let c0_857 : Index := 0#32
  let c1_858 : Index := 1#32
  let c0_i32_470 : BitVec 32 := 0#32
  let c1_i32 : BitVec 32 := 1#32
  let arg36 : BitVec 32 := Scf.iv c0_i32_470 c1_i32 k0_t1
  let v1313 : Index := Scalar.indexCast arg36
  let c512_859 : Index := 512#32
  ![0, 1, v1313.toNat, 512]
def k0_off293 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1336 : Index := Scalar.indexCast arg36
  let c1_866 : Index := 1#32
  let c0_867 : Index := 0#32
  let c0_868 : Index := 0#32
  ![v1336.toNat, 1, 0, 0]
def k0_off294 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1339 : Index := Scalar.indexCast arg36
  let c1_869 : Index := 1#32
  let c0_870 : Index := 0#32
  let c0_871 : Index := 0#32
  ![v1339.toNat, 1, 0, 0]
def k0_off295 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1432 : Index := Scalar.indexCast arg36
  let c3_914 : Index := 3#32
  let c0_915 : Index := 0#32
  let c0_916 : Index := 0#32
  ![v1432.toNat, 3, 0, 0]
def k0_off296 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1437 : Index := Scalar.indexCast arg36
  let c4_917 : Index := 4#32
  let c0_918 : Index := 0#32
  let c0_919 : Index := 0#32
  ![v1437.toNat, 4, 0, 0]
def k0_off297 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1442 : Index := Scalar.indexCast arg36
  let c5_920 : Index := 5#32
  let c0_921 : Index := 0#32
  let c0_922 : Index := 0#32
  ![v1442.toNat, 5, 0, 0]
def k0_off298 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1446 : Index := Scalar.indexCast arg36
  let c2_923 : Index := 2#32
  let c0_924 : Index := 0#32
  let c0_925 : Index := 0#32
  ![v1446.toNat, 2, 0, 0]
def k0_off299 (k0_t1 : Fin k0_t1_loop.trips) : Fin 5 → Nat :=
  let c0_927 : Index := 0#32
  let c0_i32_470 : BitVec 32 := 0#32
  let c1_i32 : BitVec 32 := 1#32
  let arg36 : BitVec 32 := Scf.iv c0_i32_470 c1_i32 k0_t1
  let v1450 : Index := Scalar.indexCast arg36
  let c2_928 : Index := 2#32
  let c0_929 : Index := 0#32
  let c0_930 : Index := 0#32
  ![0, v1450.toNat, 2, 0, 0]
def k0_off300 (k0_t1 : Fin k0_t1_loop.trips) : Fin 4 → Nat :=
  let c0_931 : Index := 0#32
  let c2_932 : Index := 2#32
  let c0_i32_470 : BitVec 32 := 0#32
  let c1_i32 : BitVec 32 := 1#32
  let arg36 : BitVec 32 := Scf.iv c0_i32_470 c1_i32 k0_t1
  let v1453 : Index := Scalar.indexCast arg36
  let c0_933 : Index := 0#32
  ![0, 2, v1453.toNat, 0]
def k0_off301 (k0_t1 : Fin k0_t1_loop.trips) : Fin 5 → Nat :=
  let c0_939 : Index := 0#32
  let c0_i32_470 : BitVec 32 := 0#32
  let c1_i32 : BitVec 32 := 1#32
  let arg36 : BitVec 32 := Scf.iv c0_i32_470 c1_i32 k0_t1
  let v1470 : Index := Scalar.indexCast arg36
  let c2_940 : Index := 2#32
  let c0_941 : Index := 0#32
  let c256_942 : Index := 256#32
  ![0, v1470.toNat, 2, 0, 256]
def k0_off302 (k0_t1 : Fin k0_t1_loop.trips) : Fin 4 → Nat :=
  let c0_943 : Index := 0#32
  let c2_944 : Index := 2#32
  let c0_i32_470 : BitVec 32 := 0#32
  let c1_i32 : BitVec 32 := 1#32
  let arg36 : BitVec 32 := Scf.iv c0_i32_470 c1_i32 k0_t1
  let v1473 : Index := Scalar.indexCast arg36
  let c256_945 : Index := 256#32
  ![0, 2, v1473.toNat, 256]
def k0_off303 (k0_t1 : Fin k0_t1_loop.trips) : Fin 5 → Nat :=
  let c0_951 : Index := 0#32
  let c0_i32_470 : BitVec 32 := 0#32
  let c1_i32 : BitVec 32 := 1#32
  let arg36 : BitVec 32 := Scf.iv c0_i32_470 c1_i32 k0_t1
  let v1490 : Index := Scalar.indexCast arg36
  let c2_952 : Index := 2#32
  let c0_953 : Index := 0#32
  let c512_954 : Index := 512#32
  ![0, v1490.toNat, 2, 0, 512]
def k0_off304 (k0_t1 : Fin k0_t1_loop.trips) : Fin 4 → Nat :=
  let c0_955 : Index := 0#32
  let c2_956 : Index := 2#32
  let c0_i32_470 : BitVec 32 := 0#32
  let c1_i32 : BitVec 32 := 1#32
  let arg36 : BitVec 32 := Scf.iv c0_i32_470 c1_i32 k0_t1
  let v1493 : Index := Scalar.indexCast arg36
  let c512_957 : Index := 512#32
  ![0, 2, v1493.toNat, 512]
def k0_off305 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1516 : Index := Scalar.indexCast arg36
  let c2_964 : Index := 2#32
  let c0_965 : Index := 0#32
  let c0_966 : Index := 0#32
  ![v1516.toNat, 2, 0, 0]
def k0_off306 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1519 : Index := Scalar.indexCast arg36
  let c2_967 : Index := 2#32
  let c0_968 : Index := 0#32
  let c0_969 : Index := 0#32
  ![v1519.toNat, 2, 0, 0]
def k0_off307 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1612 : Index := Scalar.indexCast arg36
  let c6_1012 : Index := 6#32
  let c0_1013 : Index := 0#32
  let c0_1014 : Index := 0#32
  ![v1612.toNat, 6, 0, 0]
def k0_off308 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1617 : Index := Scalar.indexCast arg36
  let c7_1015 : Index := 7#32
  let c0_1016 : Index := 0#32
  let c0_1017 : Index := 0#32
  ![v1617.toNat, 7, 0, 0]
def k0_off309 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1622 : Index := Scalar.indexCast arg36
  let c8_1018 : Index := 8#32
  let c0_1019 : Index := 0#32
  let c0_1020 : Index := 0#32
  ![v1622.toNat, 8, 0, 0]
def k0_off310 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1084 : Index := Scalar.indexCast arg36
  let c0_725 : Index := 0#32
  let c0_726 : Index := 0#32
  let c0_727 : Index := 0#32
  ![v1084.toNat, 0, 0, 0]
def k0_off311 (k0_t1 : Fin k0_t1_loop.trips) : Fin 5 → Nat :=
  let c0_729 : Index := 0#32
  let c0_i32_470 : BitVec 32 := 0#32
  let c1_i32 : BitVec 32 := 1#32
  let arg36 : BitVec 32 := Scf.iv c0_i32_470 c1_i32 k0_t1
  let v1088 : Index := Scalar.indexCast arg36
  let c0_730 : Index := 0#32
  let c0_731 : Index := 0#32
  let c0_732 : Index := 0#32
  ![0, v1088.toNat, 0, 0, 0]
def k0_off312 (k0_t1 : Fin k0_t1_loop.trips) : Fin 4 → Nat :=
  let c0_733 : Index := 0#32
  let c0_734 : Index := 0#32
  let c0_i32_470 : BitVec 32 := 0#32
  let c1_i32 : BitVec 32 := 1#32
  let arg36 : BitVec 32 := Scf.iv c0_i32_470 c1_i32 k0_t1
  let v1091 : Index := Scalar.indexCast arg36
  let c0_735 : Index := 0#32
  ![0, 0, v1091.toNat, 0]
def k0_off313 (k0_t1 : Fin k0_t1_loop.trips) : Fin 5 → Nat :=
  let c0_741 : Index := 0#32
  let c0_i32_470 : BitVec 32 := 0#32
  let c1_i32 : BitVec 32 := 1#32
  let arg36 : BitVec 32 := Scf.iv c0_i32_470 c1_i32 k0_t1
  let v1108 : Index := Scalar.indexCast arg36
  let c0_742 : Index := 0#32
  let c0_743 : Index := 0#32
  let c256_744 : Index := 256#32
  ![0, v1108.toNat, 0, 0, 256]
def k0_off314 (k0_t1 : Fin k0_t1_loop.trips) : Fin 4 → Nat :=
  let c0_745 : Index := 0#32
  let c0_746 : Index := 0#32
  let c0_i32_470 : BitVec 32 := 0#32
  let c1_i32 : BitVec 32 := 1#32
  let arg36 : BitVec 32 := Scf.iv c0_i32_470 c1_i32 k0_t1
  let v1111 : Index := Scalar.indexCast arg36
  let c256_747 : Index := 256#32
  ![0, 0, v1111.toNat, 256]
def k0_off315 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1134 : Index := Scalar.indexCast arg36
  let c0_754 : Index := 0#32
  let c0_755 : Index := 0#32
  let c0_756 : Index := 0#32
  ![v1134.toNat, 0, 0, 0]
def k0_off316 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1137 : Index := Scalar.indexCast arg36
  let c0_757 : Index := 0#32
  let c0_758 : Index := 0#32
  let c0_759 : Index := 0#32
  ![v1137.toNat, 0, 0, 0]
def k0_off317 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1211 : Index := Scalar.indexCast arg36
  let c0_792 : Index := 0#32
  let c0_793 : Index := 0#32
  let c0_794 : Index := 0#32
  ![v1211.toNat, 0, 0, 0]
def k0_off318 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1216 : Index := Scalar.indexCast arg36
  let c1_795 : Index := 1#32
  let c0_796 : Index := 0#32
  let c0_797 : Index := 0#32
  ![v1216.toNat, 1, 0, 0]
def k0_off319 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1221 : Index := Scalar.indexCast arg36
  let c2_798 : Index := 2#32
  let c0_799 : Index := 0#32
  let c0_800 : Index := 0#32
  ![v1221.toNat, 2, 0, 0]
def k0_off320 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1225 : Index := Scalar.indexCast arg36
  let c1_801 : Index := 1#32
  let c0_802 : Index := 0#32
  let c0_803 : Index := 0#32
  ![v1225.toNat, 1, 0, 0]
def k0_off321 (k0_t1 : Fin k0_t1_loop.trips) : Fin 5 → Nat :=
  let c0_805 : Index := 0#32
  let c0_i32_470 : BitVec 32 := 0#32
  let c1_i32 : BitVec 32 := 1#32
  let arg36 : BitVec 32 := Scf.iv c0_i32_470 c1_i32 k0_t1
  let v1229 : Index := Scalar.indexCast arg36
  let c1_806 : Index := 1#32
  let c0_807 : Index := 0#32
  let c0_808 : Index := 0#32
  ![0, v1229.toNat, 1, 0, 0]
def k0_off322 (k0_t1 : Fin k0_t1_loop.trips) : Fin 4 → Nat :=
  let c0_809 : Index := 0#32
  let c1_810 : Index := 1#32
  let c0_i32_470 : BitVec 32 := 0#32
  let c1_i32 : BitVec 32 := 1#32
  let arg36 : BitVec 32 := Scf.iv c0_i32_470 c1_i32 k0_t1
  let v1232 : Index := Scalar.indexCast arg36
  let c0_811 : Index := 0#32
  ![0, 1, v1232.toNat, 0]
def k0_off323 (k0_t1 : Fin k0_t1_loop.trips) : Fin 5 → Nat :=
  let c0_817 : Index := 0#32
  let c0_i32_470 : BitVec 32 := 0#32
  let c1_i32 : BitVec 32 := 1#32
  let arg36 : BitVec 32 := Scf.iv c0_i32_470 c1_i32 k0_t1
  let v1249 : Index := Scalar.indexCast arg36
  let c1_818 : Index := 1#32
  let c0_819 : Index := 0#32
  let c256_820 : Index := 256#32
  ![0, v1249.toNat, 1, 0, 256]
def k0_off324 (k0_t1 : Fin k0_t1_loop.trips) : Fin 4 → Nat :=
  let c0_821 : Index := 0#32
  let c1_822 : Index := 1#32
  let c0_i32_470 : BitVec 32 := 0#32
  let c1_i32 : BitVec 32 := 1#32
  let arg36 : BitVec 32 := Scf.iv c0_i32_470 c1_i32 k0_t1
  let v1252 : Index := Scalar.indexCast arg36
  let c256_823 : Index := 256#32
  ![0, 1, v1252.toNat, 256]
def k0_off325 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1275 : Index := Scalar.indexCast arg36
  let c1_830 : Index := 1#32
  let c0_831 : Index := 0#32
  let c0_832 : Index := 0#32
  ![v1275.toNat, 1, 0, 0]
def k0_off326 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1278 : Index := Scalar.indexCast arg36
  let c1_833 : Index := 1#32
  let c0_834 : Index := 0#32
  let c0_835 : Index := 0#32
  ![v1278.toNat, 1, 0, 0]
def k0_off327 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1352 : Index := Scalar.indexCast arg36
  let c3_868 : Index := 3#32
  let c0_869 : Index := 0#32
  let c0_870 : Index := 0#32
  ![v1352.toNat, 3, 0, 0]
def k0_off328 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1357 : Index := Scalar.indexCast arg36
  let c4_871 : Index := 4#32
  let c0_872 : Index := 0#32
  let c0_873 : Index := 0#32
  ![v1357.toNat, 4, 0, 0]
def k0_off329 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1362 : Index := Scalar.indexCast arg36
  let c5_874 : Index := 5#32
  let c0_875 : Index := 0#32
  let c0_876 : Index := 0#32
  ![v1362.toNat, 5, 0, 0]
def k0_off330 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1366 : Index := Scalar.indexCast arg36
  let c2_877 : Index := 2#32
  let c0_878 : Index := 0#32
  let c0_879 : Index := 0#32
  ![v1366.toNat, 2, 0, 0]
def k0_off331 (k0_t1 : Fin k0_t1_loop.trips) : Fin 5 → Nat :=
  let c0_881 : Index := 0#32
  let c0_i32_470 : BitVec 32 := 0#32
  let c1_i32 : BitVec 32 := 1#32
  let arg36 : BitVec 32 := Scf.iv c0_i32_470 c1_i32 k0_t1
  let v1370 : Index := Scalar.indexCast arg36
  let c2_882 : Index := 2#32
  let c0_883 : Index := 0#32
  let c0_884 : Index := 0#32
  ![0, v1370.toNat, 2, 0, 0]
def k0_off332 (k0_t1 : Fin k0_t1_loop.trips) : Fin 4 → Nat :=
  let c0_885 : Index := 0#32
  let c2_886 : Index := 2#32
  let c0_i32_470 : BitVec 32 := 0#32
  let c1_i32 : BitVec 32 := 1#32
  let arg36 : BitVec 32 := Scf.iv c0_i32_470 c1_i32 k0_t1
  let v1373 : Index := Scalar.indexCast arg36
  let c0_887 : Index := 0#32
  ![0, 2, v1373.toNat, 0]
def k0_off333 (k0_t1 : Fin k0_t1_loop.trips) : Fin 5 → Nat :=
  let c0_893 : Index := 0#32
  let c0_i32_470 : BitVec 32 := 0#32
  let c1_i32 : BitVec 32 := 1#32
  let arg36 : BitVec 32 := Scf.iv c0_i32_470 c1_i32 k0_t1
  let v1390 : Index := Scalar.indexCast arg36
  let c2_894 : Index := 2#32
  let c0_895 : Index := 0#32
  let c256_896 : Index := 256#32
  ![0, v1390.toNat, 2, 0, 256]
def k0_off334 (k0_t1 : Fin k0_t1_loop.trips) : Fin 4 → Nat :=
  let c0_897 : Index := 0#32
  let c2_898 : Index := 2#32
  let c0_i32_470 : BitVec 32 := 0#32
  let c1_i32 : BitVec 32 := 1#32
  let arg36 : BitVec 32 := Scf.iv c0_i32_470 c1_i32 k0_t1
  let v1393 : Index := Scalar.indexCast arg36
  let c256_899 : Index := 256#32
  ![0, 2, v1393.toNat, 256]
def k0_off335 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1416 : Index := Scalar.indexCast arg36
  let c2_906 : Index := 2#32
  let c0_907 : Index := 0#32
  let c0_908 : Index := 0#32
  ![v1416.toNat, 2, 0, 0]
def k0_off336 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1419 : Index := Scalar.indexCast arg36
  let c2_909 : Index := 2#32
  let c0_910 : Index := 0#32
  let c0_911 : Index := 0#32
  ![v1419.toNat, 2, 0, 0]
def k0_off337 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1493 : Index := Scalar.indexCast arg36
  let c6_944 : Index := 6#32
  let c0_945 : Index := 0#32
  let c0_946 : Index := 0#32
  ![v1493.toNat, 6, 0, 0]
def k0_off338 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1498 : Index := Scalar.indexCast arg36
  let c7_947 : Index := 7#32
  let c0_948 : Index := 0#32
  let c0_949 : Index := 0#32
  ![v1498.toNat, 7, 0, 0]
def k0_off339 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1503 : Index := Scalar.indexCast arg36
  let c8_950 : Index := 8#32
  let c0_951 : Index := 0#32
  let c0_952 : Index := 0#32
  ![v1503.toNat, 8, 0, 0]
def k0_off340 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1082 : Index := Scalar.indexCast arg36
  let c0_724 : Index := 0#32
  let c0_725 : Index := 0#32
  let c0_726 : Index := 0#32
  ![v1082.toNat, 0, 0, 0]
def k0_off341 (k0_t1 : Fin k0_t1_loop.trips) : Fin 5 → Nat :=
  let c0_728 : Index := 0#32
  let c0_i32_470 : BitVec 32 := 0#32
  let c1_i32 : BitVec 32 := 1#32
  let arg36 : BitVec 32 := Scf.iv c0_i32_470 c1_i32 k0_t1
  let v1086 : Index := Scalar.indexCast arg36
  let c0_729 : Index := 0#32
  let c0_730 : Index := 0#32
  let c0_731 : Index := 0#32
  ![0, v1086.toNat, 0, 0, 0]
def k0_off342 (k0_t1 : Fin k0_t1_loop.trips) : Fin 4 → Nat :=
  let c0_732 : Index := 0#32
  let c0_733 : Index := 0#32
  let c0_i32_470 : BitVec 32 := 0#32
  let c1_i32 : BitVec 32 := 1#32
  let arg36 : BitVec 32 := Scf.iv c0_i32_470 c1_i32 k0_t1
  let v1089 : Index := Scalar.indexCast arg36
  let c0_734 : Index := 0#32
  ![0, 0, v1089.toNat, 0]
def k0_off343 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1112 : Index := Scalar.indexCast arg36
  let c0_741 : Index := 0#32
  let c0_742 : Index := 0#32
  let c0_743 : Index := 0#32
  ![v1112.toNat, 0, 0, 0]
def k0_off344 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1115 : Index := Scalar.indexCast arg36
  let c0_744 : Index := 0#32
  let c0_745 : Index := 0#32
  let c0_746 : Index := 0#32
  ![v1115.toNat, 0, 0, 0]
def k0_off345 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1170 : Index := Scalar.indexCast arg36
  let c0_769 : Index := 0#32
  let c0_770 : Index := 0#32
  let c0_771 : Index := 0#32
  ![v1170.toNat, 0, 0, 0]
def k0_off346 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1175 : Index := Scalar.indexCast arg36
  let c1_772 : Index := 1#32
  let c0_773 : Index := 0#32
  let c0_774 : Index := 0#32
  ![v1175.toNat, 1, 0, 0]
def k0_off347 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1180 : Index := Scalar.indexCast arg36
  let c2_775 : Index := 2#32
  let c0_776 : Index := 0#32
  let c0_777 : Index := 0#32
  ![v1180.toNat, 2, 0, 0]
def k0_off348 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1184 : Index := Scalar.indexCast arg36
  let c1_778 : Index := 1#32
  let c0_779 : Index := 0#32
  let c0_780 : Index := 0#32
  ![v1184.toNat, 1, 0, 0]
def k0_off349 (k0_t1 : Fin k0_t1_loop.trips) : Fin 5 → Nat :=
  let c0_782 : Index := 0#32
  let c0_i32_470 : BitVec 32 := 0#32
  let c1_i32 : BitVec 32 := 1#32
  let arg36 : BitVec 32 := Scf.iv c0_i32_470 c1_i32 k0_t1
  let v1188 : Index := Scalar.indexCast arg36
  let c1_783 : Index := 1#32
  let c0_784 : Index := 0#32
  let c0_785 : Index := 0#32
  ![0, v1188.toNat, 1, 0, 0]
def k0_off350 (k0_t1 : Fin k0_t1_loop.trips) : Fin 4 → Nat :=
  let c0_786 : Index := 0#32
  let c1_787 : Index := 1#32
  let c0_i32_470 : BitVec 32 := 0#32
  let c1_i32 : BitVec 32 := 1#32
  let arg36 : BitVec 32 := Scf.iv c0_i32_470 c1_i32 k0_t1
  let v1191 : Index := Scalar.indexCast arg36
  let c0_788 : Index := 0#32
  ![0, 1, v1191.toNat, 0]
def k0_off351 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1214 : Index := Scalar.indexCast arg36
  let c1_795 : Index := 1#32
  let c0_796 : Index := 0#32
  let c0_797 : Index := 0#32
  ![v1214.toNat, 1, 0, 0]
def k0_off352 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1217 : Index := Scalar.indexCast arg36
  let c1_798 : Index := 1#32
  let c0_799 : Index := 0#32
  let c0_800 : Index := 0#32
  ![v1217.toNat, 1, 0, 0]
def k0_off353 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1272 : Index := Scalar.indexCast arg36
  let c3_823 : Index := 3#32
  let c0_824 : Index := 0#32
  let c0_825 : Index := 0#32
  ![v1272.toNat, 3, 0, 0]
def k0_off354 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1277 : Index := Scalar.indexCast arg36
  let c4_826 : Index := 4#32
  let c0_827 : Index := 0#32
  let c0_828 : Index := 0#32
  ![v1277.toNat, 4, 0, 0]
def k0_off355 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1282 : Index := Scalar.indexCast arg36
  let c5_829 : Index := 5#32
  let c0_830 : Index := 0#32
  let c0_831 : Index := 0#32
  ![v1282.toNat, 5, 0, 0]
def k0_off356 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1286 : Index := Scalar.indexCast arg36
  let c2_832 : Index := 2#32
  let c0_833 : Index := 0#32
  let c0_834 : Index := 0#32
  ![v1286.toNat, 2, 0, 0]
def k0_off357 (k0_t1 : Fin k0_t1_loop.trips) : Fin 5 → Nat :=
  let c0_836 : Index := 0#32
  let c0_i32_470 : BitVec 32 := 0#32
  let c1_i32 : BitVec 32 := 1#32
  let arg36 : BitVec 32 := Scf.iv c0_i32_470 c1_i32 k0_t1
  let v1290 : Index := Scalar.indexCast arg36
  let c2_837 : Index := 2#32
  let c0_838 : Index := 0#32
  let c0_839 : Index := 0#32
  ![0, v1290.toNat, 2, 0, 0]
def k0_off358 (k0_t1 : Fin k0_t1_loop.trips) : Fin 4 → Nat :=
  let c0_840 : Index := 0#32
  let c2_841 : Index := 2#32
  let c0_i32_470 : BitVec 32 := 0#32
  let c1_i32 : BitVec 32 := 1#32
  let arg36 : BitVec 32 := Scf.iv c0_i32_470 c1_i32 k0_t1
  let v1293 : Index := Scalar.indexCast arg36
  let c0_842 : Index := 0#32
  ![0, 2, v1293.toNat, 0]
def k0_off359 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1316 : Index := Scalar.indexCast arg36
  let c2_849 : Index := 2#32
  let c0_850 : Index := 0#32
  let c0_851 : Index := 0#32
  ![v1316.toNat, 2, 0, 0]
def k0_off360 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1319 : Index := Scalar.indexCast arg36
  let c2_852 : Index := 2#32
  let c0_853 : Index := 0#32
  let c0_854 : Index := 0#32
  ![v1319.toNat, 2, 0, 0]
def k0_off361 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1374 : Index := Scalar.indexCast arg36
  let c6_877 : Index := 6#32
  let c0_878 : Index := 0#32
  let c0_879 : Index := 0#32
  ![v1374.toNat, 6, 0, 0]
def k0_off362 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1379 : Index := Scalar.indexCast arg36
  let c7_880 : Index := 7#32
  let c0_881 : Index := 0#32
  let c0_882 : Index := 0#32
  ![v1379.toNat, 7, 0, 0]
def k0_off363 (k0_t1 : Fin k0_t1_loop.trips) : Fin 4 → Nat :=
  let c0_i32_470 : BitVec 32 := 0#32
  let c1_i32 : BitVec 32 := 1#32
  let arg36 : BitVec 32 := Scf.iv c0_i32_470 c1_i32 k0_t1
  let v1384 : Index := Scalar.indexCast arg36
  let c8_883 : Index := 8#32
  let c0_884 : Index := 0#32
  let c0_885 : Index := 0#32
  ![v1384.toNat, 8, 0, 0]
def k0_off364 (i : grid0.Coords) : Fin 2 → Nat :=
  let arg0 : BitVec 32 := BitVec.ofNat 32 (i 0).val
  let v939 : Index := Scalar.indexCast arg0
  let c0_661 : Index := 0#32
  ![v939.toNat, 0]
def k0_off365 (i : grid0.Coords) : Fin 2 → Nat :=
  let arg0 : BitVec 32 := BitVec.ofNat 32 (i 0).val
  let v947 : Index := Scalar.indexCast arg0
  let c1536_665 : Index := 1536#32
  ![v947.toNat, 1536]
def k0_off366 (i : grid0.Coords) : Fin 2 → Nat :=
  let arg0 : BitVec 32 := BitVec.ofNat 32 (i 0).val
  let v959 : Index := Scalar.indexCast arg0
  let c256_670 : Index := 256#32
  ![v959.toNat, 256]
def k0_off367 (i : grid0.Coords) : Fin 2 → Nat :=
  let arg0 : BitVec 32 := BitVec.ofNat 32 (i 0).val
  let v967 : Index := Scalar.indexCast arg0
  let c1792_674 : Index := 1792#32
  ![v967.toNat, 1792]
def k0_off368 (i : grid0.Coords) : Fin 2 → Nat :=
  let arg0 : BitVec 32 := BitVec.ofNat 32 (i 0).val
  let v979 : Index := Scalar.indexCast arg0
  let c512_679 : Index := 512#32
  ![v979.toNat, 512]
def k0_off369 (i : grid0.Coords) : Fin 2 → Nat :=
  let arg0 : BitVec 32 := BitVec.ofNat 32 (i 0).val
  let v987 : Index := Scalar.indexCast arg0
  let c2048_683 : Index := 2048#32
  ![v987.toNat, 2048]
def k0_off370 (i : grid0.Coords) : Fin 2 → Nat :=
  let arg0 : BitVec 32 := BitVec.ofNat 32 (i 0).val
  let v999 : Index := Scalar.indexCast arg0
  let c768_687 : Index := 768#32
  ![v999.toNat, 768]
def k0_off371 (i : grid0.Coords) : Fin 2 → Nat :=
  let arg0 : BitVec 32 := BitVec.ofNat 32 (i 0).val
  let v1007 : Index := Scalar.indexCast arg0
  let c2304_691 : Index := 2304#32
  ![v1007.toNat, 2304]
def k0_off372 (i : grid0.Coords) : Fin 2 → Nat :=
  let arg0 : BitVec 32 := BitVec.ofNat 32 (i 0).val
  let v1019 : Index := Scalar.indexCast arg0
  let c1024_695 : Index := 1024#32
  ![v1019.toNat, 1024]
def k0_off373 (i : grid0.Coords) : Fin 2 → Nat :=
  let arg0 : BitVec 32 := BitVec.ofNat 32 (i 0).val
  let v1027 : Index := Scalar.indexCast arg0
  let c2560_699 : Index := 2560#32
  ![v1027.toNat, 2560]
def k0_off374 (i : grid0.Coords) : Fin 2 → Nat :=
  let arg0 : BitVec 32 := BitVec.ofNat 32 (i 0).val
  let v1039 : Index := Scalar.indexCast arg0
  let c1280_703 : Index := 1280#32
  ![v1039.toNat, 1280]
def k0_off375 (i : grid0.Coords) : Fin 2 → Nat :=
  let arg0 : BitVec 32 := BitVec.ofNat 32 (i 0).val
  let v1047 : Index := Scalar.indexCast arg0
  let c2816_707 : Index := 2816#32
  ![v1047.toNat, 2816]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_19 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_21 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S192x576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x32x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x32x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2x3x64x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x3x64x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S30x576 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S30x576 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x576x960 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S30x960 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x576x576 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S30x576 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x576x3072 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S30x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x576x1536 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S30x576 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x192x576 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x2x9x64x96 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x2x3x64x96 .i8 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x3x2x96 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x2x3x64x96 .i8 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x3x2x96 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== LayersRefIdeal.lean ====
abbrev S2 : Shape := ⟨1, ![2]⟩
abbrev S192x576 : Shape := ⟨2, ![192, 576]⟩
abbrev S2x96x32 : Shape := ⟨3, ![2, 96, 32]⟩
abbrev S30x2x3x2048x64 : Shape := ⟨5, ![30, 2, 3, 2048, 64]⟩
abbrev S30x2x3x2048 : Shape := ⟨4, ![30, 2, 3, 2048]⟩
abbrev S30x576 : Shape := ⟨2, ![30, 576]⟩
abbrev S30x576x960 : Shape := ⟨3, ![30, 576, 960]⟩
abbrev S30x960 : Shape := ⟨2, ![30, 960]⟩
abbrev S30x9x64x576 : Shape := ⟨4, ![30, 9, 64, 576]⟩
abbrev S30x576x3072 : Shape := ⟨3, ![30, 576, 3072]⟩
abbrev S30x3072 : Shape := ⟨2, ![30, 3072]⟩
abbrev S30x1536x576 : Shape := ⟨3, ![30, 1536, 576]⟩
abbrev S2x96x1x32 : Shape := ⟨4, ![2, 96, 1, 32]⟩
abbrev S2048 : Shape := ⟨1, ![2048]⟩
abbrev S2x1 : Shape := ⟨2, ![2, 1]⟩
abbrev S1x2048 : Shape := ⟨2, ![1, 2048]⟩
abbrev S2x2048 : Shape := ⟨2, ![2, 2048]⟩
abbrev S2x1x1x1x2048 : Shape := ⟨5, ![2, 1, 1, 1, 2048]⟩
abbrev S96 : Shape := ⟨1, ![96]⟩
abbrev S1x96 : Shape := ⟨2, ![1, 96]⟩
abbrev S96x1 : Shape := ⟨2, ![96, 1]⟩
abbrev S96x96 : Shape := ⟨2, ![96, 96]⟩
abbrev S2x96x576 : Shape := ⟨3, ![2, 96, 576]⟩
abbrev S_ : Shape := ⟨0, ![]⟩
abbrev S30x2x96x576 : Shape := ⟨4, ![30, 2, 96, 576]⟩
abbrev S30x2x96x9x64 : Shape := ⟨5, ![30, 2, 96, 9, 64]⟩
abbrev S30x2x96x3x64 : Shape := ⟨5, ![30, 2, 96, 3, 64]⟩
abbrev S30x2x96x3 : Shape := ⟨4, ![30, 2, 96, 3]⟩
abbrev S1x2x3x2048x64 : Shape := ⟨5, ![1, 2, 3, 2048, 64]⟩
abbrev S2x3x2048x64 : Shape := ⟨4, ![2, 3, 2048, 64]⟩
abbrev S1x2x3x2048 : Shape := ⟨4, ![1, 2, 3, 2048]⟩
abbrev S2x3x2048 : Shape := ⟨3, ![2, 3, 2048]⟩
abbrev S1x576 : Shape := ⟨2, ![1, 576]⟩
abbrev S576 : Shape := ⟨1, ![576]⟩
abbrev S1x576x960 : Shape := ⟨3, ![1, 576, 960]⟩
abbrev S576x960 : Shape := ⟨2, ![576, 960]⟩
abbrev S1x960 : Shape := ⟨2, ![1, 960]⟩
abbrev S960 : Shape := ⟨1, ![960]⟩
abbrev S1x9x64x576 : Shape := ⟨4, ![1, 9, 64, 576]⟩
abbrev S9x64x576 : Shape := ⟨3, ![9, 64, 576]⟩
abbrev S1x576x3072 : Shape := ⟨3, ![1, 576, 3072]⟩
abbrev S576x3072 : Shape := ⟨2, ![576, 3072]⟩
abbrev S1x3072 : Shape := ⟨2, ![1, 3072]⟩
abbrev S3072 : Shape := ⟨1, ![3072]⟩
abbrev S1x1536x576 : Shape := ⟨3, ![1, 1536, 576]⟩
abbrev S1536x576 : Shape := ⟨2, ![1536, 576]⟩
abbrev S2x96 : Shape := ⟨2, ![2, 96]⟩
abbrev S2x96x1 : Shape := ⟨3, ![2, 96, 1]⟩
abbrev S1x1x576 : Shape := ⟨3, ![1, 1, 576]⟩
abbrev S2x96x960 : Shape := ⟨3, ![2, 96, 960]⟩
abbrev S1x1x960 : Shape := ⟨3, ![1, 1, 960]⟩
abbrev S2x96x9x64 : Shape := ⟨4, ![2, 96, 9, 64]⟩
abbrev S2x96x9x32 : Shape := ⟨4, ![2, 96, 9, 32]⟩
abbrev S2x96x3x3x64 : Shape := ⟨5, ![2, 96, 3, 3, 64]⟩
abbrev S2x96x192 : Shape := ⟨3, ![2, 96, 192]⟩
abbrev S2x96x3x64 : Shape := ⟨4, ![2, 96, 3, 64]⟩
abbrev S2x96x3x32 : Shape := ⟨4, ![2, 96, 3, 32]⟩
abbrev S2x96x3 : Shape := ⟨3, ![2, 96, 3]⟩
abbrev S2x96x3x1 : Shape := ⟨4, ![2, 96, 3, 1]⟩
abbrev S2x3x96 : Shape := ⟨3, ![2, 3, 96]⟩
abbrev S2x3x1x1x96 : Shape := ⟨5, ![2, 3, 1, 1, 96]⟩
abbrev S2x3x2048x96x3 : Shape := ⟨5, ![2, 3, 2048, 96, 3]⟩
abbrev S2x3x3x96x2048 : Shape := ⟨5, ![2, 3, 3, 96, 2048]⟩
abbrev S2x3x1x1x2048 : Shape := ⟨5, ![2, 3, 1, 1, 2048]⟩
abbrev S2x3x96x96x3 : Shape := ⟨5, ![2, 3, 96, 96, 3]⟩
abbrev S2x3x3x96x96 : Shape := ⟨5, ![2, 3, 3, 96, 96]⟩
abbrev S2x3x3x96 : Shape := ⟨4, ![2, 3, 3, 96]⟩
abbrev S2x3x3x96x1 : Shape := ⟨5, ![2, 3, 3, 96, 1]⟩
abbrev S2x3x64x3x96 : Shape := ⟨5, ![2, 3, 64, 3, 96]⟩
abbrev S2x96x3x3 : Shape := ⟨4, ![2, 96, 3, 3]⟩
abbrev S2x96x3x3x1 : Shape := ⟨5, ![2, 96, 3, 3, 1]⟩
abbrev S576x576 : Shape := ⟨2, ![576, 576]⟩
abbrev S2x96x3072 : Shape := ⟨3, ![2, 96, 3072]⟩
abbrev S1x1x3072 : Shape := ⟨3, ![1, 1, 3072]⟩
abbrev S2x96x1536 : Shape := ⟨3, ![2, 96, 1536]⟩
abbrev S1x2x96x576 : Shape := ⟨4, ![1, 2, 96, 576]⟩
abbrev S1x2x96x9x64 : Shape := ⟨5, ![1, 2, 96, 9, 64]⟩
abbrev S1x2x96x3x64 : Shape := ⟨5, ![1, 2, 96, 3, 64]⟩
abbrev S1x2x96x3 : Shape := ⟨4, ![1, 2, 96, 3]⟩
abbrev S30x192x576 : Shape := ⟨3, ![30, 192, 576]⟩
abbrev S30x2x9x64x96 : Shape := ⟨5, ![30, 2, 9, 64, 96]⟩
abbrev S30x2x3x64x96 : Shape := ⟨5, ![30, 2, 3, 64, 96]⟩
abbrev S30x3x2x96 : Shape := ⟨4, ![30, 3, 2, 96]⟩

abbrev nBuf : Space → Nat
  | .hbm => 419
  | .vmem => 0
  | .smem => 0
  | _ => 0

abbrev hbmTy0_0 (i : Nat) : BufTy := match i % 128 with
  | 0 => ⟨S2, .i32⟩
  | 1 => ⟨S192x576, .f32⟩
  | 2 => ⟨S2x96x32, .f32⟩
  | 3 => ⟨S2x96x32, .f32⟩
  | 4 => ⟨S30x2x3x2048x64, .i8⟩
  | 5 => ⟨S30x2x3x2048, .f32⟩
  | 6 => ⟨S30x2x3x2048x64, .i8⟩
  | 7 => ⟨S30x2x3x2048, .f32⟩
  | 8 => ⟨S30x576, .f32⟩
  | 9 => ⟨S30x576, .f32⟩
  | 10 => ⟨S30x576x960, .i8⟩
  | 11 => ⟨S30x960, .f32⟩
  | 12 => ⟨S30x9x64x576, .i8⟩
  | 13 => ⟨S30x576, .f32⟩
  | 14 => ⟨S30x576x3072, .i8⟩
  | 15 => ⟨S30x3072, .f32⟩
  | 16 => ⟨S30x1536x576, .i8⟩
  | 17 => ⟨S30x576, .f32⟩
  | 18 => ⟨S2x96x1x32, .f32⟩
  | 19 => ⟨S2x96x1x32, .f32⟩
  | 20 => ⟨S2048, .i32⟩
  | 21 => ⟨S2x1, .i32⟩
  | 22 => ⟨S1x2048, .i32⟩
  | 23 => ⟨S2x2048, .i32⟩
  | 24 => ⟨S2x2048, .i32⟩
  | 25 => ⟨S2x2048, .i1⟩
  | 26 => ⟨S2x1x1x1x2048, .i1⟩
  | 27 => ⟨S96, .i32⟩
  | 28 => ⟨S1x96, .i32⟩
  | 29 => ⟨S96, .i32⟩
  | 30 => ⟨S96x1, .i32⟩
  | 31 => ⟨S96x96, .i32⟩
  | 32 => ⟨S96x96, .i32⟩
  | 33 => ⟨S96x96, .i1⟩
  | 34 => ⟨S2x96x576, .f32⟩
  | 35 => ⟨S_, .f32⟩
  | 36 => ⟨S30x2x96x576, .f32⟩
  | 37 => ⟨S_, .f32⟩
  | 38 => ⟨S30x2x96x9x64, .f32⟩
  | 39 => ⟨S_, .f32⟩
  | 40 => ⟨S30x2x96x3x64, .f32⟩
  | 41 => ⟨S_, .f32⟩
  | 42 => ⟨S30x2x96x3, .f32⟩
  | 43 => ⟨S_, .f32⟩
  | 44 => ⟨S30x2x96x3x64, .f32⟩
  | 45 => ⟨S_, .f32⟩
  | 46 => ⟨S30x2x96x3, .f32⟩
  | 47 => ⟨S_, .i32⟩
  | 48 => ⟨S30x2x3x2048x64, .i8⟩
  | 49 => ⟨S30x2x3x2048, .f32⟩
  | 50 => ⟨S30x2x3x2048x64, .i8⟩
  | 51 => ⟨S30x2x3x2048, .f32⟩
  | 52 => ⟨S30x576, .f32⟩
  | 53 => ⟨S30x576, .f32⟩
  | 54 => ⟨S30x576x960, .i8⟩
  | 55 => ⟨S30x960, .f32⟩
  | 56 => ⟨S30x9x64x576, .i8⟩
  | 57 => ⟨S30x576, .f32⟩
  | 58 => ⟨S30x576x3072, .i8⟩
  | 59 => ⟨S30x3072, .f32⟩
  | 60 => ⟨S30x1536x576, .i8⟩
  | 61 => ⟨S30x576, .f32⟩
  | 62 => ⟨S2x96x1x32, .f32⟩
  | 63 => ⟨S2x96x1x32, .f32⟩
  | 64 => ⟨S2x1x1x1x2048, .i1⟩
  | 65 => ⟨S96x96, .i1⟩
  | 66 => ⟨S_, .i32⟩
  | 67 => ⟨S2x96x576, .f32⟩
  | 68 => ⟨S30x2x96x576, .f32⟩
  | 69 => ⟨S30x2x96x9x64, .f32⟩
  | 70 => ⟨S30x2x96x3x64, .f32⟩
  | 71 => ⟨S30x2x96x3, .f32⟩
  | 72 => ⟨S30x2x96x3x64, .f32⟩
  | 73 => ⟨S30x2x96x3, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S1x2x3x2048x64, .i8⟩
  | 81 => ⟨S2x3x2048x64, .i8⟩
  | 82 => ⟨S_, .i32⟩
  | 83 => ⟨S_, .i32⟩
  | 84 => ⟨S_, .i32⟩
  | 85 => ⟨S1x2x3x2048, .f32⟩
  | 86 => ⟨S2x3x2048, .f32⟩
  | 87 => ⟨S_, .i32⟩
  | 88 => ⟨S_, .i32⟩
  | 89 => ⟨S_, .i32⟩
  | 90 => ⟨S_, .i32⟩
  | 91 => ⟨S1x2x3x2048x64, .i8⟩
  | 92 => ⟨S2x3x2048x64, .i8⟩
  | 93 => ⟨S_, .i32⟩
  | 94 => ⟨S_, .i32⟩
  | 95 => ⟨S_, .i32⟩
  | 96 => ⟨S1x2x3x2048, .f32⟩
  | 97 => ⟨S2x3x2048, .f32⟩
  | 98 => ⟨S_, .i32⟩
  | 99 => ⟨S1x576, .f32⟩
  | 100 => ⟨S576, .f32⟩
  | 101 => ⟨S_, .i32⟩
  | 102 => ⟨S1x576, .f32⟩
  | 103 => ⟨S576, .f32⟩
  | 104 => ⟨S_, .i32⟩
  | 105 => ⟨S_, .i32⟩
  | 106 => ⟨S1x576x960, .i8⟩
  | 107 => ⟨S576x960, .i8⟩
  | 108 => ⟨S_, .i32⟩
  | 109 => ⟨S1x960, .f32⟩
  | 110 => ⟨S960, .f32⟩
  | 111 => ⟨S_, .i32⟩
  | 112 => ⟨S_, .i32⟩
  | 113 => ⟨S_, .i32⟩
  | 114 => ⟨S1x9x64x576, .i8⟩
  | 115 => ⟨S9x64x576, .i8⟩
  | 116 => ⟨S_, .i32⟩
  | 117 => ⟨S1x576, .f32⟩
  | 118 => ⟨S576, .f32⟩
  | 119 => ⟨S_, .i32⟩
  | 120 => ⟨S_, .i32⟩
  | 121 => ⟨S1x576x3072, .i8⟩
  | 122 => ⟨S576x3072, .i8⟩
  | 123 => ⟨S_, .i32⟩
  | 124 => ⟨S1x3072, .f32⟩
  | 125 => ⟨S3072, .f32⟩
  | 126 => ⟨S_, .i32⟩
  | 127 => ⟨S_, .i32⟩
  | _ => ⟨S2, .i32⟩

abbrev hbmTy0_1 (i : Nat) : BufTy := match i % 128 with
  | 0 => ⟨S1x1536x576, .i8⟩
  | 1 => ⟨S1536x576, .i8⟩
  | 2 => ⟨S_, .i32⟩
  | 3 => ⟨S1x576, .f32⟩
  | 4 => ⟨S576, .f32⟩
  | 5 => ⟨S2x96x576, .f32⟩
  | 6 => ⟨S_, .f32⟩
  | 7 => ⟨S2x96, .f32⟩
  | 8 => ⟨S2x96x1, .f32⟩
  | 9 => ⟨S_, .f32⟩
  | 10 => ⟨S2x96x1, .f32⟩
  | 11 => ⟨S2x96x1, .f32⟩
  | 12 => ⟨S_, .f32⟩
  | 13 => ⟨S2x96x1, .f32⟩
  | 14 => ⟨S2x96x1, .f32⟩
  | 15 => ⟨S2x96x1, .f32⟩
  | 16 => ⟨S2x96x576, .f32⟩
  | 17 => ⟨S2x96x576, .f32⟩
  | 18 => ⟨S1x1x576, .f32⟩
  | 19 => ⟨S2x96x576, .f32⟩
  | 20 => ⟨S2x96x576, .f32⟩
  | 21 => ⟨S2x96x576, .bf16⟩
  | 22 => ⟨S576x960, .i32⟩
  | 23 => ⟨S576x960, .bf16⟩
  | 24 => ⟨S2x96x960, .f32⟩
  | 25 => ⟨S1x1x960, .f32⟩
  | 26 => ⟨S2x96x960, .f32⟩
  | 27 => ⟨S2x96x960, .f32⟩
  | 28 => ⟨S2x96x576, .f32⟩
  | 29 => ⟨S2x96x9x64, .f32⟩
  | 30 => ⟨S2x96x9x32, .f32⟩
  | 31 => ⟨S2x96x9x32, .f32⟩
  | 32 => ⟨S2x96x9x32, .f32⟩
  | 33 => ⟨S2x96x9x32, .f32⟩
  | 34 => ⟨S2x96x9x32, .f32⟩
  | 35 => ⟨S2x96x9x32, .f32⟩
  | 36 => ⟨S2x96x9x32, .f32⟩
  | 37 => ⟨S2x96x9x32, .f32⟩
  | 38 => ⟨S2x96x9x32, .f32⟩
  | 39 => ⟨S2x96x9x32, .f32⟩
  | 40 => ⟨S2x96x9x32, .f32⟩
  | 41 => ⟨S2x96x9x32, .f32⟩
  | 42 => ⟨S2x96x9x64, .f32⟩
  | 43 => ⟨S2x96x3x3x64, .f32⟩
  | 44 => ⟨S2x96x3x3x64, .bf16⟩
  | 45 => ⟨S2x96x192, .f32⟩
  | 46 => ⟨S2x96x3x64, .f32⟩
  | 47 => ⟨S2x96x3x32, .f32⟩
  | 48 => ⟨S2x96x3x32, .f32⟩
  | 49 => ⟨S2x96x3x32, .f32⟩
  | 50 => ⟨S2x96x3x32, .f32⟩
  | 51 => ⟨S2x96x3x32, .f32⟩
  | 52 => ⟨S2x96x3x32, .f32⟩
  | 53 => ⟨S2x96x3x32, .f32⟩
  | 54 => ⟨S2x96x3x32, .f32⟩
  | 55 => ⟨S2x96x3x32, .f32⟩
  | 56 => ⟨S2x96x3x32, .f32⟩
  | 57 => ⟨S2x96x3x32, .f32⟩
  | 58 => ⟨S2x96x3x32, .f32⟩
  | 59 => ⟨S2x96x3x64, .f32⟩
  | 60 => ⟨S2x96x3x64, .f32⟩
  | 61 => ⟨S_, .f32⟩
  | 62 => ⟨S2x96x3, .f32⟩
  | 63 => ⟨S_, .f32⟩
  | 64 => ⟨S2x96x3, .f32⟩
  | 65 => ⟨S2x96x3, .i1⟩
  | 66 => ⟨S_, .f32⟩
  | 67 => ⟨S2x96x3, .f32⟩
  | 68 => ⟨S2x96x3, .f32⟩
  | 69 => ⟨S_, .f32⟩
  | 70 => ⟨S_, .f32⟩
  | 71 => ⟨S2x96x3, .f32⟩
  | 72 => ⟨S2x96x3, .f32⟩
  | 73 => ⟨S2x96x3x1, .f32⟩
  | 74 => ⟨S2x96x3x64, .f32⟩
  | 75 => ⟨S2x96x3x64, .f32⟩
  | 76 => ⟨S2x96x3x64, .f32⟩
  | 77 => ⟨S_, .i32⟩
  | 78 => ⟨S_, .i32⟩
  | 79 => ⟨S_, .f32⟩
  | 80 => ⟨S2x96x3x64, .f32⟩
  | 81 => ⟨S2x96x3x64, .f32⟩
  | 82 => ⟨S_, .f32⟩
  | 83 => ⟨S2x96x3x64, .f32⟩
  | 84 => ⟨S2x96x3x64, .f32⟩
  | 85 => ⟨S2x96x192, .f32⟩
  | 86 => ⟨S2x96x3x64, .f32⟩
  | 87 => ⟨S2x96x3x64, .f32⟩
  | 88 => ⟨S_, .f32⟩
  | 89 => ⟨S2x96x3, .f32⟩
  | 90 => ⟨S_, .f32⟩
  | 91 => ⟨S2x96x3, .f32⟩
  | 92 => ⟨S2x96x3, .i1⟩
  | 93 => ⟨S_, .f32⟩
  | 94 => ⟨S2x96x3, .f32⟩
  | 95 => ⟨S2x96x3, .f32⟩
  | 96 => ⟨S_, .f32⟩
  | 97 => ⟨S_, .f32⟩
  | 98 => ⟨S2x96x3, .f32⟩
  | 99 => ⟨S2x96x3, .f32⟩
  | 100 => ⟨S2x96x3x1, .f32⟩
  | 101 => ⟨S2x96x3x64, .f32⟩
  | 102 => ⟨S2x96x3x64, .f32⟩
  | 103 => ⟨S2x96x3x64, .f32⟩
  | 104 => ⟨S_, .i32⟩
  | 105 => ⟨S_, .i32⟩
  | 106 => ⟨S_, .f32⟩
  | 107 => ⟨S2x96x3x64, .f32⟩
  | 108 => ⟨S2x96x3x64, .f32⟩
  | 109 => ⟨S_, .f32⟩
  | 110 => ⟨S2x96x3x64, .f32⟩
  | 111 => ⟨S2x96x3x64, .f32⟩
  | 112 => ⟨S2x3x96, .f32⟩
  | 113 => ⟨S2x3x1x1x96, .f32⟩
  | 114 => ⟨S2x3x96, .f32⟩
  | 115 => ⟨S2x3x1x1x96, .f32⟩
  | 116 => ⟨S2x3x2048x64, .i32⟩
  | 117 => ⟨S2x3x2048x64, .bf16⟩
  | 118 => ⟨S2x3x2048x96x3, .f32⟩
  | 119 => ⟨S2x3x3x96x2048, .f32⟩
  | 120 => ⟨S2x3x1x1x2048, .f32⟩
  | 121 => ⟨S2x3x3x96x2048, .f32⟩
  | 122 => ⟨S2x3x3x96x2048, .f32⟩
  | 123 => ⟨S_, .f32⟩
  | 124 => ⟨S2x3x3x96x2048, .f32⟩
  | 125 => ⟨S2x3x3x96x2048, .f32⟩
  | 126 => ⟨S2x96x3x64, .bf16⟩
  | 127 => ⟨S2x3x96x96x3, .f32⟩
  | _ => ⟨S2, .i32⟩

abbrev hbmTy0_2 (i : Nat) : BufTy := match i % 128 with
  | 0 => ⟨S2x3x3x96x96, .f32⟩
  | 1 => ⟨S2x3x3x96x96, .f32⟩
  | 2 => ⟨S2x3x3x96x96, .f32⟩
  | 3 => ⟨S_, .f32⟩
  | 4 => ⟨S2x3x3x96x96, .f32⟩
  | 5 => ⟨S2x3x3x96x96, .f32⟩
  | 6 => ⟨S_, .f32⟩
  | 7 => ⟨S2x3x3x96x2048, .f32⟩
  | 8 => ⟨S2x3x3x96x2048, .f32⟩
  | 9 => ⟨S_, .f32⟩
  | 10 => ⟨S_, .f32⟩
  | 11 => ⟨S2x3x3x96x2048, .i1⟩
  | 12 => ⟨S2x3x3x96x2048, .f32⟩
  | 13 => ⟨S2x3x3x96x2048, .f32⟩
  | 14 => ⟨S_, .f32⟩
  | 15 => ⟨S2x3x3x96x96, .f32⟩
  | 16 => ⟨S2x3x3x96x96, .f32⟩
  | 17 => ⟨S_, .f32⟩
  | 18 => ⟨S_, .f32⟩
  | 19 => ⟨S2x3x3x96x96, .i1⟩
  | 20 => ⟨S2x3x3x96x96, .f32⟩
  | 21 => ⟨S2x3x3x96x96, .f32⟩
  | 22 => ⟨S_, .f32⟩
  | 23 => ⟨S2x3x3x96, .f32⟩
  | 24 => ⟨S2x3x3x96x1, .f32⟩
  | 25 => ⟨S_, .f32⟩
  | 26 => ⟨S2x3x3x96, .f32⟩
  | 27 => ⟨S2x3x3x96x1, .f32⟩
  | 28 => ⟨S2x3x3x96x1, .f32⟩
  | 29 => ⟨S2x3x3x96x1, .f32⟩
  | 30 => ⟨S2x3x3x96x2048, .f32⟩
  | 31 => ⟨S2x3x3x96x2048, .f32⟩
  | 32 => ⟨S_, .f32⟩
  | 33 => ⟨S2x3x3x96x2048, .f32⟩
  | 34 => ⟨S2x3x3x96x2048, .f32⟩
  | 35 => ⟨S2x3x3x96x96, .f32⟩
  | 36 => ⟨S2x3x3x96x96, .f32⟩
  | 37 => ⟨S_, .f32⟩
  | 38 => ⟨S2x3x3x96x96, .f32⟩
  | 39 => ⟨S2x3x3x96x96, .f32⟩
  | 40 => ⟨S_, .f32⟩
  | 41 => ⟨S2x3x3x96, .f32⟩
  | 42 => ⟨S_, .f32⟩
  | 43 => ⟨S2x3x3x96, .f32⟩
  | 44 => ⟨S2x3x3x96, .f32⟩
  | 45 => ⟨S2x3x1x1x2048, .f32⟩
  | 46 => ⟨S2x3x3x96x2048, .f32⟩
  | 47 => ⟨S2x3x3x96x2048, .f32⟩
  | 48 => ⟨S2x3x3x96x2048, .bf16⟩
  | 49 => ⟨S2x3x3x96x96, .f32⟩
  | 50 => ⟨S2x3x3x96x96, .f32⟩
  | 51 => ⟨S2x3x3x96x96, .bf16⟩
  | 52 => ⟨S2x3x2048x64, .i32⟩
  | 53 => ⟨S2x3x2048x64, .bf16⟩
  | 54 => ⟨S2x3x64x3x96, .f32⟩
  | 55 => ⟨S2x96x3x3x64, .f32⟩
  | 56 => ⟨S2x96x3x64, .bf16⟩
  | 57 => ⟨S2x3x64x3x96, .f32⟩
  | 58 => ⟨S2x96x3x3x64, .f32⟩
  | 59 => ⟨S2x96x3x3x64, .f32⟩
  | 60 => ⟨S2x96x3x3, .f32⟩
  | 61 => ⟨S2x96x3x3x1, .f32⟩
  | 62 => ⟨S2x96x3x3x64, .f32⟩
  | 63 => ⟨S2x96x3x3x64, .f32⟩
  | 64 => ⟨S2x96x9x64, .f32⟩
  | 65 => ⟨S2x96x576, .f32⟩
  | 66 => ⟨S576x576, .i8⟩
  | 67 => ⟨S2x96x576, .bf16⟩
  | 68 => ⟨S576x576, .i32⟩
  | 69 => ⟨S576x576, .bf16⟩
  | 70 => ⟨S2x96x576, .f32⟩
  | 71 => ⟨S1x1x576, .f32⟩
  | 72 => ⟨S2x96x576, .f32⟩
  | 73 => ⟨S2x96x576, .f32⟩
  | 74 => ⟨S2x96x576, .f32⟩
  | 75 => ⟨S2x96x576, .f32⟩
  | 76 => ⟨S_, .f32⟩
  | 77 => ⟨S2x96, .f32⟩
  | 78 => ⟨S2x96x1, .f32⟩
  | 79 => ⟨S_, .f32⟩
  | 80 => ⟨S2x96x1, .f32⟩
  | 81 => ⟨S2x96x1, .f32⟩
  | 82 => ⟨S_, .f32⟩
  | 83 => ⟨S2x96x1, .f32⟩
  | 84 => ⟨S2x96x1, .f32⟩
  | 85 => ⟨S2x96x1, .f32⟩
  | 86 => ⟨S2x96x576, .f32⟩
  | 87 => ⟨S2x96x576, .f32⟩
  | 88 => ⟨S1x1x576, .f32⟩
  | 89 => ⟨S2x96x576, .f32⟩
  | 90 => ⟨S2x96x576, .f32⟩
  | 91 => ⟨S2x96x576, .bf16⟩
  | 92 => ⟨S576x3072, .i32⟩
  | 93 => ⟨S576x3072, .bf16⟩
  | 94 => ⟨S2x96x3072, .f32⟩
  | 95 => ⟨S1x1x3072, .f32⟩
  | 96 => ⟨S2x96x3072, .f32⟩
  | 97 => ⟨S2x96x3072, .f32⟩
  | 98 => ⟨S2x96x1536, .f32⟩
  | 99 => ⟨S2x96x1536, .f32⟩
  | 100 => ⟨S2x96x1536, .f32⟩
  | 101 => ⟨S2x96x1536, .f32⟩
  | 102 => ⟨S_, .f32⟩
  | 103 => ⟨S2x96x1536, .f32⟩
  | 104 => ⟨S2x96x1536, .f32⟩
  | 105 => ⟨S_, .f32⟩
  | 106 => ⟨S2x96x1536, .f32⟩
  | 107 => ⟨S2x96x1536, .f32⟩
  | 108 => ⟨S2x96x1536, .f32⟩
  | 109 => ⟨S2x96x1536, .f32⟩
  | 110 => ⟨S2x96x1536, .bf16⟩
  | 111 => ⟨S1536x576, .i32⟩
  | 112 => ⟨S1536x576, .bf16⟩
  | 113 => ⟨S2x96x576, .f32⟩
  | 114 => ⟨S1x1x576, .f32⟩
  | 115 => ⟨S2x96x576, .f32⟩
  | 116 => ⟨S2x96x576, .f32⟩
  | 117 => ⟨S2x96x576, .f32⟩
  | 118 => ⟨S1x2x96x576, .f32⟩
  | 119 => ⟨S_, .i32⟩
  | 120 => ⟨S_, .i32⟩
  | 121 => ⟨S_, .i32⟩
  | 122 => ⟨S30x2x96x576, .f32⟩
  | 123 => ⟨S1x2x96x9x64, .f32⟩
  | 124 => ⟨S_, .i32⟩
  | 125 => ⟨S_, .i32⟩
  | 126 => ⟨S_, .i32⟩
  | 127 => ⟨S_, .i32⟩
  | _ => ⟨S2, .i32⟩

abbrev hbmTy0_3 (i : Nat) : BufTy := match i % 128 with
  | 0 => ⟨S30x2x96x9x64, .f32⟩
  | 1 => ⟨S1x2x96x3x64, .f32⟩
  | 2 => ⟨S_, .i32⟩
  | 3 => ⟨S_, .i32⟩
  | 4 => ⟨S_, .i32⟩
  | 5 => ⟨S_, .i32⟩
  | 6 => ⟨S30x2x96x3x64, .f32⟩
  | 7 => ⟨S1x2x96x3, .f32⟩
  | 8 => ⟨S_, .i32⟩
  | 9 => ⟨S_, .i32⟩
  | 10 => ⟨S_, .i32⟩
  | 11 => ⟨S30x2x96x3, .f32⟩
  | 12 => ⟨S1x2x96x3x64, .f32⟩
  | 13 => ⟨S_, .i32⟩
  | 14 => ⟨S_, .i32⟩
  | 15 => ⟨S_, .i32⟩
  | 16 => ⟨S_, .i32⟩
  | 17 => ⟨S30x2x96x3x64, .f32⟩
  | 18 => ⟨S1x2x96x3, .f32⟩
  | 19 => ⟨S_, .i32⟩
  | 20 => ⟨S_, .i32⟩
  | 21 => ⟨S_, .i32⟩
  | 22 => ⟨S30x2x96x3, .f32⟩
  | 23 => ⟨S_, .i32⟩
  | 24 => ⟨S_, .i32⟩
  | 25 => ⟨S30x192x576, .f32⟩
  | 26 => ⟨S30x2x9x64x96, .f32⟩
  | 27 => ⟨S30x2x3x64x96, .f32⟩
  | 28 => ⟨S30x2x3x64x96, .i32⟩
  | 29 => ⟨S30x2x3x64x96, .i8⟩
  | 30 => ⟨S30x3x2x96, .f32⟩
  | 31 => ⟨S30x2x3x64x96, .f32⟩
  | 32 => ⟨S30x2x3x64x96, .i32⟩
  | 33 => ⟨S30x2x3x64x96, .i8⟩
  | 34 => ⟨S30x3x2x96, .f32⟩
  | _ => ⟨S2, .i32⟩

abbrev hbmTy (i : Nat) : BufTy := match i / 128 with
  | 0 => hbmTy0_0 i
  | 1 => hbmTy0_1 i
  | 2 => hbmTy0_2 i
  | 3 => hbmTy0_3 i
  | _ => ⟨S2, .i32⟩

abbrev bufTy : (tb : Table) → Fin (tcTables nBuf tb) → BufTy
  | .hbm, ⟨i, _⟩ => hbmTy i
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_c : Ref sig .tc := ⟨.hbm, 47, rfl⟩
abbrev main_v23_0 : Ref sig .tc := ⟨.hbm, 48, rfl⟩
abbrev main_v23_1 : Ref sig .tc := ⟨.hbm, 49, rfl⟩
abbrev main_v23_2 : Ref sig .tc := ⟨.hbm, 50, rfl⟩
abbrev main_v23_3 : Ref sig .tc := ⟨.hbm, 51, rfl⟩
abbrev main_v23_4 : Ref sig .tc := ⟨.hbm, 52, rfl⟩
abbrev main_v23_5 : Ref sig .tc := ⟨.hbm, 53, rfl⟩
abbrev main_v23_6 : Ref sig .tc := ⟨.hbm, 54, rfl⟩
abbrev main_v23_7 : Ref sig .tc := ⟨.hbm, 55, rfl⟩
abbrev main_v23_8 : Ref sig .tc := ⟨.hbm, 56, rfl⟩
abbrev main_v23_9 : Ref sig .tc := ⟨.hbm, 57, rfl⟩
abbrev main_v23_10 : Ref sig .tc := ⟨.hbm, 58, rfl⟩
abbrev main_v23_11 : Ref sig .tc := ⟨.hbm, 59, rfl⟩
abbrev main_v23_12 : Ref sig .tc := ⟨.hbm, 60, rfl⟩
abbrev main_v23_13 : Ref sig .tc := ⟨.hbm, 61, rfl⟩
abbrev main_v23_14 : Ref sig .tc := ⟨.hbm, 62, rfl⟩
abbrev main_v23_15 : Ref sig .tc := ⟨.hbm, 63, rfl⟩
abbrev main_v23_16 : Ref sig .tc := ⟨.hbm, 64, rfl⟩
abbrev main_v23_17 : Ref sig .tc := ⟨.hbm, 65, rfl⟩
abbrev main_v23_18 : Ref sig .tc := ⟨.hbm, 66, rfl⟩
abbrev main_v23_19 : Ref sig .tc := ⟨.hbm, 67, rfl⟩
abbrev main_v23_20 : Ref sig .tc := ⟨.hbm, 68, rfl⟩
abbrev main_v23_21 : Ref sig .tc := ⟨.hbm, 69, rfl⟩
abbrev main_v23_22 : Ref sig .tc := ⟨.hbm, 70, rfl⟩
abbrev main_v23_23 : Ref sig .tc := ⟨.hbm, 71, rfl⟩
abbrev main_v23_24 : Ref sig .tc := ⟨.hbm, 72, rfl⟩
abbrev main_v23_25 : Ref sig .tc := ⟨.hbm, 73, rfl⟩
abbrev main_while0c_c_30 : Ref sig .tc := ⟨.hbm, 74, rfl⟩
abbrev main_while0c_v34 : Ref sig .tc := ⟨.hbm, 75, rfl⟩
abbrev main_while0b_call0_c : Ref sig .tc := ⟨.hbm, 76, rfl⟩
abbrev main_while0b_call0_c_0 : Ref sig .tc := ⟨.hbm, 77, rfl⟩
abbrev main_while0b_call0_c_1 : Ref sig .tc := ⟨.hbm, 78, rfl⟩
abbrev main_while0b_call0_c_2 : Ref sig .tc := ⟨.hbm, 79, rfl⟩
abbrev main_while0b_call0_v0 : Ref sig .tc := ⟨.hbm, 80, rfl⟩
abbrev main_while0b_v34 : Ref sig .tc := ⟨.hbm, 81, rfl⟩
abbrev main_while0b_call1_c : Ref sig .tc := ⟨.hbm, 82, rfl⟩
abbrev main_while0b_call1_c_0 : Ref sig .tc := ⟨.hbm, 83, rfl⟩
abbrev main_while0b_call1_c_1 : Ref sig .tc := ⟨.hbm, 84, rfl⟩
abbrev main_while0b_call1_v0 : Ref sig .tc := ⟨.hbm, 85, rfl⟩
abbrev main_while0b_v35 : Ref sig .tc := ⟨.hbm, 86, rfl⟩
abbrev main_while0b_call2_c : Ref sig .tc := ⟨.hbm, 87, rfl⟩
abbrev main_while0b_call2_c_0 : Ref sig .tc := ⟨.hbm, 88, rfl⟩
abbrev main_while0b_call2_c_1 : Ref sig .tc := ⟨.hbm, 89, rfl⟩
abbrev main_while0b_call2_c_2 : Ref sig .tc := ⟨.hbm, 90, rfl⟩
abbrev main_while0b_call2_v0 : Ref sig .tc := ⟨.hbm, 91, rfl⟩
abbrev main_while0b_v36 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_c_1 : Ref sig .tc := ⟨.hbm, 95, rfl⟩
abbrev main_while0b_call3_v0 : Ref sig .tc := ⟨.hbm, 96, rfl⟩
abbrev main_while0b_v37 : Ref sig .tc := ⟨.hbm, 97, rfl⟩
abbrev main_while0b_call4_c : Ref sig .tc := ⟨.hbm, 98, rfl⟩
abbrev main_while0b_call4_v0 : Ref sig .tc := ⟨.hbm, 99, rfl⟩
abbrev main_while0b_v38 : Ref sig .tc := ⟨.hbm, 100, rfl⟩
abbrev main_while0b_call5_c : Ref sig .tc := ⟨.hbm, 101, rfl⟩
abbrev main_while0b_call5_v0 : Ref sig .tc := ⟨.hbm, 102, rfl⟩
abbrev main_while0b_v39 : Ref sig .tc := ⟨.hbm, 103, rfl⟩
abbrev main_while0b_call6_c : Ref sig .tc := ⟨.hbm, 104, rfl⟩
abbrev main_while0b_call6_c_0 : Ref sig .tc := ⟨.hbm, 105, rfl⟩
abbrev main_while0b_call6_v0 : Ref sig .tc := ⟨.hbm, 106, rfl⟩
abbrev main_while0b_v40 : Ref sig .tc := ⟨.hbm, 107, rfl⟩
abbrev main_while0b_call7_c : Ref sig .tc := ⟨.hbm, 108, rfl⟩
abbrev main_while0b_call7_v0 : Ref sig .tc := ⟨.hbm, 109, rfl⟩
abbrev main_while0b_v41 : Ref sig .tc := ⟨.hbm, 110, rfl⟩
abbrev main_while0b_call8_c : Ref sig .tc := ⟨.hbm, 111, rfl⟩
abbrev main_while0b_call8_c_0 : Ref sig .tc := ⟨.hbm, 112, rfl⟩
abbrev main_while0b_call8_c_1 : Ref sig .tc := ⟨.hbm, 113, rfl⟩
abbrev main_while0b_call8_v0 : Ref sig .tc := ⟨.hbm, 114, rfl⟩
abbrev main_while0b_v42 : Ref sig .tc := ⟨.hbm, 115, rfl⟩
abbrev main_while0b_call9_c : Ref sig .tc := ⟨.hbm, 116, rfl⟩
abbrev main_while0b_call9_v0 : Ref sig .tc := ⟨.hbm, 117, rfl⟩
abbrev main_while0b_v43 : Ref sig .tc := ⟨.hbm, 118, rfl⟩
abbrev main_while0b_call10_c : Ref sig .tc := ⟨.hbm, 119, rfl⟩
abbrev main_while0b_call10_c_0 : Ref sig .tc := ⟨.hbm, 120, rfl⟩
abbrev main_while0b_call10_v0 : Ref sig .tc := ⟨.hbm, 121, rfl⟩
abbrev main_while0b_v44 : Ref sig .tc := ⟨.hbm, 122, rfl⟩
abbrev main_while0b_call11_c : Ref sig .tc := ⟨.hbm, 123, rfl⟩
abbrev main_while0b_call11_v0 : Ref sig .tc := ⟨.hbm, 124, rfl⟩
abbrev main_while0b_v45 : Ref sig .tc := ⟨.hbm, 125, rfl⟩
abbrev main_while0b_call12_c : Ref sig .tc := ⟨.hbm, 126, rfl⟩
abbrev main_while0b_call12_c_0 : Ref sig .tc := ⟨.hbm, 127, rfl⟩
abbrev main_while0b_call12_v0 : Ref sig .tc := ⟨.hbm, 128, rfl⟩
abbrev main_while0b_v46 : Ref sig .tc := ⟨.hbm, 129, rfl⟩
abbrev main_while0b_call13_c : Ref sig .tc := ⟨.hbm, 130, rfl⟩
abbrev main_while0b_call13_v0 : Ref sig .tc := ⟨.hbm, 131, rfl⟩
abbrev main_while0b_v47 : Ref sig .tc := ⟨.hbm, 132, rfl⟩
abbrev main_while0b_v48 : Ref sig .tc := ⟨.hbm, 133, rfl⟩
abbrev main_while0b_cst_30 : Ref sig .tc := ⟨.hbm, 134, rfl⟩
abbrev main_while0b_v49 : Ref sig .tc := ⟨.hbm, 135, rfl⟩
abbrev main_while0b_v50 : Ref sig .tc := ⟨.hbm, 136, rfl⟩
abbrev main_while0b_cst_31 : Ref sig .tc := ⟨.hbm, 137, rfl⟩
abbrev main_while0b_v51 : Ref sig .tc := ⟨.hbm, 138, rfl⟩
abbrev main_while0b_v52 : Ref sig .tc := ⟨.hbm, 139, rfl⟩
abbrev main_while0b_cst_32 : Ref sig .tc := ⟨.hbm, 140, rfl⟩
abbrev main_while0b_v53 : Ref sig .tc := ⟨.hbm, 141, rfl⟩
abbrev main_while0b_v54 : Ref sig .tc := ⟨.hbm, 142, rfl⟩
abbrev main_while0b_v55 : Ref sig .tc := ⟨.hbm, 143, rfl⟩
abbrev main_while0b_v56 : Ref sig .tc := ⟨.hbm, 144, rfl⟩
abbrev main_while0b_v57 : Ref sig .tc := ⟨.hbm, 145, rfl⟩
abbrev main_while0b_v58 : Ref sig .tc := ⟨.hbm, 146, rfl⟩
abbrev main_while0b_v59 : Ref sig .tc := ⟨.hbm, 147, rfl⟩
abbrev main_while0b_v60 : Ref sig .tc := ⟨.hbm, 148, rfl⟩
abbrev main_while0b_v61 : Ref sig .tc := ⟨.hbm, 149, rfl⟩
abbrev main_while0b_v62 : Ref sig .tc := ⟨.hbm, 150, rfl⟩
abbrev main_while0b_v63 : Ref sig .tc := ⟨.hbm, 151, rfl⟩
abbrev main_while0b_v64 : Ref sig .tc := ⟨.hbm, 152, rfl⟩
abbrev main_while0b_v65 : Ref sig .tc := ⟨.hbm, 153, rfl⟩
abbrev main_while0b_v66 : Ref sig .tc := ⟨.hbm, 154, rfl⟩
abbrev main_while0b_v67 : Ref sig .tc := ⟨.hbm, 155, rfl⟩
abbrev main_while0b_v68 : Ref sig .tc := ⟨.hbm, 156, rfl⟩
abbrev main_while0b_v69 : Ref sig .tc := ⟨.hbm, 157, rfl⟩
abbrev main_while0b_v70 : Ref sig .tc := ⟨.hbm, 158, rfl⟩
abbrev main_while0b_v71 : Ref sig .tc := ⟨.hbm, 159, rfl⟩
abbrev main_while0b_v72 : Ref sig .tc := ⟨.hbm, 160, rfl⟩
abbrev main_while0b_v73 : Ref sig .tc := ⟨.hbm, 161, rfl⟩
abbrev main_while0b_v74 : Ref sig .tc := ⟨.hbm, 162, rfl⟩
abbrev main_while0b_v75 : Ref sig .tc := ⟨.hbm, 163, rfl⟩
abbrev main_while0b_v76 : Ref sig .tc := ⟨.hbm, 164, rfl⟩
abbrev main_while0b_v77 : Ref sig .tc := ⟨.hbm, 165, rfl⟩
abbrev main_while0b_v78 : Ref sig .tc := ⟨.hbm, 166, rfl⟩
abbrev main_while0b_v79 : Ref sig .tc := ⟨.hbm, 167, rfl⟩
abbrev main_while0b_v80 : Ref sig .tc := ⟨.hbm, 168, rfl⟩
abbrev main_while0b_v81 : Ref sig .tc := ⟨.hbm, 169, rfl⟩
abbrev main_while0b_v82 : Ref sig .tc := ⟨.hbm, 170, rfl⟩
abbrev main_while0b_v83 : Ref sig .tc := ⟨.hbm, 171, rfl⟩
abbrev main_while0b_v84 : Ref sig .tc := ⟨.hbm, 172, rfl⟩
abbrev main_while0b_v85 : Ref sig .tc := ⟨.hbm, 173, rfl⟩
abbrev main_while0b_v86 : Ref sig .tc := ⟨.hbm, 174, rfl⟩
abbrev main_while0b_v87 : Ref sig .tc := ⟨.hbm, 175, rfl⟩
abbrev main_while0b_v88 : Ref sig .tc := ⟨.hbm, 176, rfl⟩
abbrev main_while0b_v89 : Ref sig .tc := ⟨.hbm, 177, rfl⟩
abbrev main_while0b_v90 : Ref sig .tc := ⟨.hbm, 178, rfl⟩
abbrev main_while0b_v91 : Ref sig .tc := ⟨.hbm, 179, rfl⟩
abbrev main_while0b_v92 : Ref sig .tc := ⟨.hbm, 180, rfl⟩
abbrev main_while0b_v93 : Ref sig .tc := ⟨.hbm, 181, rfl⟩
abbrev main_while0b_v94 : Ref sig .tc := ⟨.hbm, 182, rfl⟩
abbrev main_while0b_v95 : Ref sig .tc := ⟨.hbm, 183, rfl⟩
abbrev main_while0b_v96 : Ref sig .tc := ⟨.hbm, 184, rfl⟩
abbrev main_while0b_v97 : Ref sig .tc := ⟨.hbm, 185, rfl⟩
abbrev main_while0b_v98 : Ref sig .tc := ⟨.hbm, 186, rfl⟩
abbrev main_while0b_v99 : Ref sig .tc := ⟨.hbm, 187, rfl⟩
abbrev main_while0b_v100 : Ref sig .tc := ⟨.hbm, 188, rfl⟩
abbrev main_while0b_cst_33 : Ref sig .tc := ⟨.hbm, 189, rfl⟩
abbrev main_while0b_v101 : Ref sig .tc := ⟨.hbm, 190, rfl⟩
abbrev main_while0b_cst_34 : Ref sig .tc := ⟨.hbm, 191, rfl⟩
abbrev main_while0b_v102 : Ref sig .tc := ⟨.hbm, 192, rfl⟩
abbrev main_while0b_v103 : Ref sig .tc := ⟨.hbm, 193, rfl⟩
abbrev main_while0b_cst_35 : Ref sig .tc := ⟨.hbm, 194, rfl⟩
abbrev main_while0b_v104 : Ref sig .tc := ⟨.hbm, 195, rfl⟩
abbrev main_while0b_v105 : Ref sig .tc := ⟨.hbm, 196, rfl⟩
abbrev main_while0b_cst_36 : Ref sig .tc := ⟨.hbm, 197, rfl⟩
abbrev main_while0b_call14_v0 : Ref sig .tc := ⟨.hbm, 198, rfl⟩
abbrev main_while0b_call14_v1 : Ref sig .tc := ⟨.hbm, 199, rfl⟩
abbrev main_while0b_v106 : Ref sig .tc := ⟨.hbm, 200, rfl⟩
abbrev main_while0b_v107 : Ref sig .tc := ⟨.hbm, 201, rfl⟩
abbrev main_while0b_v108 : Ref sig .tc := ⟨.hbm, 202, rfl⟩
abbrev main_while0b_v109 : Ref sig .tc := ⟨.hbm, 203, rfl⟩
abbrev main_while0b_v110 : Ref sig .tc := ⟨.hbm, 204, rfl⟩
abbrev main_while0b_c_37 : Ref sig .tc := ⟨.hbm, 205, rfl⟩
abbrev main_while0b_c_38 : Ref sig .tc := ⟨.hbm, 206, rfl⟩
abbrev main_while0b_call16_v0 : Ref sig .tc := ⟨.hbm, 207, rfl⟩
abbrev main_while0b_call16_v1 : Ref sig .tc := ⟨.hbm, 208, rfl⟩
abbrev main_while0b_call16_v2 : Ref sig .tc := ⟨.hbm, 209, rfl⟩
abbrev main_while0b_call16_v3 : Ref sig .tc := ⟨.hbm, 210, rfl⟩
abbrev main_while0b_call16_v4 : Ref sig .tc := ⟨.hbm, 211, rfl⟩
abbrev main_while0b_v111 : Ref sig .tc := ⟨.hbm, 212, rfl⟩
abbrev main_while0b_v112 : Ref sig .tc := ⟨.hbm, 213, rfl⟩
abbrev main_while0b_v113 : Ref sig .tc := ⟨.hbm, 214, rfl⟩
abbrev main_while0b_v114 : Ref sig .tc := ⟨.hbm, 215, rfl⟩
abbrev main_while0b_cst_39 : Ref sig .tc := ⟨.hbm, 216, rfl⟩
abbrev main_while0b_v115 : Ref sig .tc := ⟨.hbm, 217, rfl⟩
abbrev main_while0b_cst_40 : Ref sig .tc := ⟨.hbm, 218, rfl⟩
abbrev main_while0b_v116 : Ref sig .tc := ⟨.hbm, 219, rfl⟩
abbrev main_while0b_v117 : Ref sig .tc := ⟨.hbm, 220, rfl⟩
abbrev main_while0b_cst_41 : Ref sig .tc := ⟨.hbm, 221, rfl⟩
abbrev main_while0b_v118 : Ref sig .tc := ⟨.hbm, 222, rfl⟩
abbrev main_while0b_v119 : Ref sig .tc := ⟨.hbm, 223, rfl⟩
abbrev main_while0b_cst_42 : Ref sig .tc := ⟨.hbm, 224, rfl⟩
abbrev main_while0b_call17_v0 : Ref sig .tc := ⟨.hbm, 225, rfl⟩
abbrev main_while0b_call17_v1 : Ref sig .tc := ⟨.hbm, 226, rfl⟩
abbrev main_while0b_v120 : Ref sig .tc := ⟨.hbm, 227, rfl⟩
abbrev main_while0b_v121 : Ref sig .tc := ⟨.hbm, 228, rfl⟩
abbrev main_while0b_v122 : Ref sig .tc := ⟨.hbm, 229, rfl⟩
abbrev main_while0b_v123 : Ref sig .tc := ⟨.hbm, 230, rfl⟩
abbrev main_while0b_v124 : Ref sig .tc := ⟨.hbm, 231, rfl⟩
abbrev main_while0b_c_43 : Ref sig .tc := ⟨.hbm, 232, rfl⟩
abbrev main_while0b_c_44 : Ref sig .tc := ⟨.hbm, 233, rfl⟩
abbrev main_while0b_call19_v0 : Ref sig .tc := ⟨.hbm, 234, rfl⟩
abbrev main_while0b_call19_v1 : Ref sig .tc := ⟨.hbm, 235, rfl⟩
abbrev main_while0b_call19_v2 : Ref sig .tc := ⟨.hbm, 236, rfl⟩
abbrev main_while0b_call19_v3 : Ref sig .tc := ⟨.hbm, 237, rfl⟩
abbrev main_while0b_call19_v4 : Ref sig .tc := ⟨.hbm, 238, rfl⟩
abbrev main_while0b_v125 : Ref sig .tc := ⟨.hbm, 239, rfl⟩
abbrev main_while0b_v126 : Ref sig .tc := ⟨.hbm, 240, rfl⟩
abbrev main_while0b_v127 : Ref sig .tc := ⟨.hbm, 241, rfl⟩
abbrev main_while0b_v128 : Ref sig .tc := ⟨.hbm, 242, rfl⟩
abbrev main_while0b_v129 : Ref sig .tc := ⟨.hbm, 243, rfl⟩
abbrev main_while0b_v130 : Ref sig .tc := ⟨.hbm, 244, rfl⟩
abbrev main_while0b_v131 : Ref sig .tc := ⟨.hbm, 245, rfl⟩
abbrev main_while0b_v132 : Ref sig .tc := ⟨.hbm, 246, rfl⟩
abbrev main_while0b_v133 : Ref sig .tc := ⟨.hbm, 247, rfl⟩
abbrev main_while0b_v134 : Ref sig .tc := ⟨.hbm, 248, rfl⟩
abbrev main_while0b_v135 : Ref sig .tc := ⟨.hbm, 249, rfl⟩
abbrev main_while0b_v136 : Ref sig .tc := ⟨.hbm, 250, rfl⟩
abbrev main_while0b_cst_45 : Ref sig .tc := ⟨.hbm, 251, rfl⟩
abbrev main_while0b_v137 : Ref sig .tc := ⟨.hbm, 252, rfl⟩
abbrev main_while0b_v138 : Ref sig .tc := ⟨.hbm, 253, rfl⟩
abbrev main_while0b_v139 : Ref sig .tc := ⟨.hbm, 254, rfl⟩
abbrev main_while0b_v140 : Ref sig .tc := ⟨.hbm, 255, rfl⟩
abbrev main_while0b_v141 : Ref sig .tc := ⟨.hbm, 256, rfl⟩
abbrev main_while0b_v142 : Ref sig .tc := ⟨.hbm, 257, rfl⟩
abbrev main_while0b_v143 : Ref sig .tc := ⟨.hbm, 258, rfl⟩
abbrev main_while0b_cst_46 : Ref sig .tc := ⟨.hbm, 259, rfl⟩
abbrev main_while0b_v144 : Ref sig .tc := ⟨.hbm, 260, rfl⟩
abbrev main_while0b_v145 : Ref sig .tc := ⟨.hbm, 261, rfl⟩
abbrev main_while0b_cst_47 : Ref sig .tc := ⟨.hbm, 262, rfl⟩
abbrev main_while0b_v146 : Ref sig .tc := ⟨.hbm, 263, rfl⟩
abbrev main_while0b_v147 : Ref sig .tc := ⟨.hbm, 264, rfl⟩
abbrev main_while0b_cst_48 : Ref sig .tc := ⟨.hbm, 265, rfl⟩
abbrev main_while0b_call20_v0 : Ref sig .tc := ⟨.hbm, 266, rfl⟩
abbrev main_while0b_call20_v1 : Ref sig .tc := ⟨.hbm, 267, rfl⟩
abbrev main_while0b_call20_v2 : Ref sig .tc := ⟨.hbm, 268, rfl⟩
abbrev main_while0b_v148 : Ref sig .tc := ⟨.hbm, 269, rfl⟩
abbrev main_while0b_cst_49 : Ref sig .tc := ⟨.hbm, 270, rfl⟩
abbrev main_while0b_v149 : Ref sig .tc := ⟨.hbm, 271, rfl⟩
abbrev main_while0b_v150 : Ref sig .tc := ⟨.hbm, 272, rfl⟩
abbrev main_while0b_cst_50 : Ref sig .tc := ⟨.hbm, 273, rfl⟩
abbrev main_while0b_call21_v0 : Ref sig .tc := ⟨.hbm, 274, rfl⟩
abbrev main_while0b_call21_v1 : Ref sig .tc := ⟨.hbm, 275, rfl⟩
abbrev main_while0b_call21_v2 : Ref sig .tc := ⟨.hbm, 276, rfl⟩
abbrev main_while0b_v151 : Ref sig .tc := ⟨.hbm, 277, rfl⟩
abbrev main_while0b_cst_51 : Ref sig .tc := ⟨.hbm, 278, rfl⟩
abbrev main_while0b_v152 : Ref sig .tc := ⟨.hbm, 279, rfl⟩
abbrev main_while0b_v153 : Ref sig .tc := ⟨.hbm, 280, rfl⟩
abbrev main_while0b_cst_52 : Ref sig .tc := ⟨.hbm, 281, rfl⟩
abbrev main_while0b_v154 : Ref sig .tc := ⟨.hbm, 282, rfl⟩
abbrev main_while0b_v155 : Ref sig .tc := ⟨.hbm, 283, rfl⟩
abbrev main_while0b_v156 : Ref sig .tc := ⟨.hbm, 284, rfl⟩
abbrev main_while0b_v157 : Ref sig .tc := ⟨.hbm, 285, rfl⟩
abbrev main_while0b_v158 : Ref sig .tc := ⟨.hbm, 286, rfl⟩
abbrev main_while0b_v159 : Ref sig .tc := ⟨.hbm, 287, rfl⟩
abbrev main_while0b_cst_53 : Ref sig .tc := ⟨.hbm, 288, rfl⟩
abbrev main_while0b_v160 : Ref sig .tc := ⟨.hbm, 289, rfl⟩
abbrev main_while0b_v161 : Ref sig .tc := ⟨.hbm, 290, rfl⟩
abbrev main_while0b_v162 : Ref sig .tc := ⟨.hbm, 291, rfl⟩
abbrev main_while0b_v163 : Ref sig .tc := ⟨.hbm, 292, rfl⟩
abbrev main_while0b_cst_54 : Ref sig .tc := ⟨.hbm, 293, rfl⟩
abbrev main_while0b_v164 : Ref sig .tc := ⟨.hbm, 294, rfl⟩
abbrev main_while0b_v165 : Ref sig .tc := ⟨.hbm, 295, rfl⟩
abbrev main_while0b_cst_55 : Ref sig .tc := ⟨.hbm, 296, rfl⟩
abbrev main_while0b_v166 : Ref sig .tc := ⟨.hbm, 297, rfl⟩
abbrev main_while0b_cst_56 : Ref sig .tc := ⟨.hbm, 298, rfl⟩
abbrev main_while0b_v167 : Ref sig .tc := ⟨.hbm, 299, rfl⟩
abbrev main_while0b_v168 : Ref sig .tc := ⟨.hbm, 300, rfl⟩
abbrev main_while0b_v169 : Ref sig .tc := ⟨.hbm, 301, rfl⟩
abbrev main_while0b_v170 : Ref sig .tc := ⟨.hbm, 302, rfl⟩
abbrev main_while0b_v171 : Ref sig .tc := ⟨.hbm, 303, rfl⟩
abbrev main_while0b_v172 : Ref sig .tc := ⟨.hbm, 304, rfl⟩
abbrev main_while0b_v173 : Ref sig .tc := ⟨.hbm, 305, rfl⟩
abbrev main_while0b_v174 : Ref sig .tc := ⟨.hbm, 306, rfl⟩
abbrev main_while0b_v175 : Ref sig .tc := ⟨.hbm, 307, rfl⟩
abbrev main_while0b_v176 : Ref sig .tc := ⟨.hbm, 308, rfl⟩
abbrev main_while0b_v177 : Ref sig .tc := ⟨.hbm, 309, rfl⟩
abbrev main_while0b_v178 : Ref sig .tc := ⟨.hbm, 310, rfl⟩
abbrev main_while0b_v179 : Ref sig .tc := ⟨.hbm, 311, rfl⟩
abbrev main_while0b_v180 : Ref sig .tc := ⟨.hbm, 312, rfl⟩
abbrev main_while0b_v181 : Ref sig .tc := ⟨.hbm, 313, rfl⟩
abbrev main_while0b_v182 : Ref sig .tc := ⟨.hbm, 314, rfl⟩
abbrev main_while0b_v183 : Ref sig .tc := ⟨.hbm, 315, rfl⟩
abbrev main_while0b_v184 : Ref sig .tc := ⟨.hbm, 316, rfl⟩
abbrev main_while0b_v185 : Ref sig .tc := ⟨.hbm, 317, rfl⟩
abbrev main_while0b_v186 : Ref sig .tc := ⟨.hbm, 318, rfl⟩
abbrev main_while0b_v187 : Ref sig .tc := ⟨.hbm, 319, rfl⟩
abbrev main_while0b_v188 : Ref sig .tc := ⟨.hbm, 320, rfl⟩
abbrev main_while0b_v189 : Ref sig .tc := ⟨.hbm, 321, rfl⟩
abbrev main_while0b_v190 : Ref sig .tc := ⟨.hbm, 322, rfl⟩
abbrev main_while0b_v191 : Ref sig .tc := ⟨.hbm, 323, rfl⟩
abbrev main_while0b_v192 : Ref sig .tc := ⟨.hbm, 324, rfl⟩
abbrev main_while0b_v193 : Ref sig .tc := ⟨.hbm, 325, rfl⟩
abbrev main_while0b_v194 : Ref sig .tc := ⟨.hbm, 326, rfl⟩
abbrev main_while0b_v195 : Ref sig .tc := ⟨.hbm, 327, rfl⟩
abbrev main_while0b_v196 : Ref sig .tc := ⟨.hbm, 328, rfl⟩
abbrev main_while0b_v197 : Ref sig .tc := ⟨.hbm, 329, rfl⟩
abbrev main_while0b_v198 : Ref sig .tc := ⟨.hbm, 330, rfl⟩
abbrev main_while0b_v199 : Ref sig .tc := ⟨.hbm, 331, rfl⟩
abbrev main_while0b_cst_57 : Ref sig .tc := ⟨.hbm, 332, rfl⟩
abbrev main_while0b_v200 : Ref sig .tc := ⟨.hbm, 333, rfl⟩
abbrev main_while0b_v201 : Ref sig .tc := ⟨.hbm, 334, rfl⟩
abbrev main_while0b_cst_58 : Ref sig .tc := ⟨.hbm, 335, rfl⟩
abbrev main_while0b_v202 : Ref sig .tc := ⟨.hbm, 336, rfl⟩
abbrev main_while0b_v203 : Ref sig .tc := ⟨.hbm, 337, rfl⟩
abbrev main_while0b_cst_59 : Ref sig .tc := ⟨.hbm, 338, rfl⟩
abbrev main_while0b_v204 : Ref sig .tc := ⟨.hbm, 339, rfl⟩
abbrev main_while0b_v205 : Ref sig .tc := ⟨.hbm, 340, rfl⟩
abbrev main_while0b_v206 : Ref sig .tc := ⟨.hbm, 341, rfl⟩
abbrev main_while0b_v207 : Ref sig .tc := ⟨.hbm, 342, rfl⟩
abbrev main_while0b_v208 : Ref sig .tc := ⟨.hbm, 343, rfl⟩
abbrev main_while0b_v209 : Ref sig .tc := ⟨.hbm, 344, rfl⟩
abbrev main_while0b_v210 : Ref sig .tc := ⟨.hbm, 345, rfl⟩
abbrev main_while0b_v211 : Ref sig .tc := ⟨.hbm, 346, rfl⟩
abbrev main_while0b_v212 : Ref sig .tc := ⟨.hbm, 347, rfl⟩
abbrev main_while0b_v213 : Ref sig .tc := ⟨.hbm, 348, rfl⟩
abbrev main_while0b_v214 : Ref sig .tc := ⟨.hbm, 349, rfl⟩
abbrev main_while0b_v215 : Ref sig .tc := ⟨.hbm, 350, rfl⟩
abbrev main_while0b_v216 : Ref sig .tc := ⟨.hbm, 351, rfl⟩
abbrev main_while0b_v217 : Ref sig .tc := ⟨.hbm, 352, rfl⟩
abbrev main_while0b_v218 : Ref sig .tc := ⟨.hbm, 353, rfl⟩
abbrev main_while0b_v219 : Ref sig .tc := ⟨.hbm, 354, rfl⟩
abbrev main_while0b_v220 : Ref sig .tc := ⟨.hbm, 355, rfl⟩
abbrev main_while0b_v221 : Ref sig .tc := ⟨.hbm, 356, rfl⟩
abbrev main_while0b_v222 : Ref sig .tc := ⟨.hbm, 357, rfl⟩
abbrev main_while0b_cst_60 : Ref sig .tc := ⟨.hbm, 358, rfl⟩
abbrev main_while0b_v223 : Ref sig .tc := ⟨.hbm, 359, rfl⟩
abbrev main_while0b_v224 : Ref sig .tc := ⟨.hbm, 360, rfl⟩
abbrev main_while0b_cst_61 : Ref sig .tc := ⟨.hbm, 361, rfl⟩
abbrev main_while0b_v225 : Ref sig .tc := ⟨.hbm, 362, rfl⟩
abbrev main_while0b_v226 : Ref sig .tc := ⟨.hbm, 363, rfl⟩
abbrev main_while0b_v227 : Ref sig .tc := ⟨.hbm, 364, rfl⟩
abbrev main_while0b_v228 : Ref sig .tc := ⟨.hbm, 365, rfl⟩
abbrev main_while0b_v229 : Ref sig .tc := ⟨.hbm, 366, rfl⟩
abbrev main_while0b_v230 : Ref sig .tc := ⟨.hbm, 367, rfl⟩
abbrev main_while0b_v231 : Ref sig .tc := ⟨.hbm, 368, rfl⟩
abbrev main_while0b_v232 : Ref sig .tc := ⟨.hbm, 369, rfl⟩
abbrev main_while0b_v233 : Ref sig .tc := ⟨.hbm, 370, rfl⟩
abbrev main_while0b_v234 : Ref sig .tc := ⟨.hbm, 371, rfl⟩
abbrev main_while0b_v235 : Ref sig .tc := ⟨.hbm, 372, rfl⟩
abbrev main_while0b_v236 : Ref sig .tc := ⟨.hbm, 373, rfl⟩
abbrev main_while0b_call22_v0 : Ref sig .tc := ⟨.hbm, 374, rfl⟩
abbrev main_while0b_call22_c : Ref sig .tc := ⟨.hbm, 375, rfl⟩
abbrev main_while0b_call22_c_0 : Ref sig .tc := ⟨.hbm, 376, rfl⟩
abbrev main_while0b_call22_c_1 : Ref sig .tc := ⟨.hbm, 377, rfl⟩
abbrev main_while0b_v237 : Ref sig .tc := ⟨.hbm, 378, rfl⟩
abbrev main_while0b_call23_v0 : Ref sig .tc := ⟨.hbm, 379, rfl⟩
abbrev main_while0b_call23_c : Ref sig .tc := ⟨.hbm, 380, rfl⟩
abbrev main_while0b_call23_c_0 : Ref sig .tc := ⟨.hbm, 381, rfl⟩
abbrev main_while0b_call23_c_1 : Ref sig .tc := ⟨.hbm, 382, rfl⟩
abbrev main_while0b_call23_c_2 : Ref sig .tc := ⟨.hbm, 383, rfl⟩
abbrev main_while0b_v238 : Ref sig .tc := ⟨.hbm, 384, rfl⟩
abbrev main_while0b_call24_v0 : Ref sig .tc := ⟨.hbm, 385, rfl⟩
abbrev main_while0b_call24_c : Ref sig .tc := ⟨.hbm, 386, rfl⟩
abbrev main_while0b_call24_c_0 : Ref sig .tc := ⟨.hbm, 387, rfl⟩
abbrev main_while0b_call24_c_1 : Ref sig .tc := ⟨.hbm, 388, rfl⟩
abbrev main_while0b_call24_c_2 : Ref sig .tc := ⟨.hbm, 389, rfl⟩
abbrev main_while0b_v239 : Ref sig .tc := ⟨.hbm, 390, rfl⟩
abbrev main_while0b_call25_v0 : Ref sig .tc := ⟨.hbm, 391, rfl⟩
abbrev main_while0b_call25_c : Ref sig .tc := ⟨.hbm, 392, rfl⟩
abbrev main_while0b_call25_c_0 : Ref sig .tc := ⟨.hbm, 393, rfl⟩
abbrev main_while0b_call25_c_1 : Ref sig .tc := ⟨.hbm, 394, rfl⟩
abbrev main_while0b_v240 : Ref sig .tc := ⟨.hbm, 395, rfl⟩
abbrev main_while0b_call26_v0 : Ref sig .tc := ⟨.hbm, 396, rfl⟩
abbrev main_while0b_call26_c : Ref sig .tc := ⟨.hbm, 397, rfl⟩
abbrev main_while0b_call26_c_0 : Ref sig .tc := ⟨.hbm, 398, rfl⟩
abbrev main_while0b_call26_c_1 : Ref sig .tc := ⟨.hbm, 399, rfl⟩
abbrev main_while0b_call26_c_2 : Ref sig .tc := ⟨.hbm, 400, rfl⟩
abbrev main_while0b_v241 : Ref sig .tc := ⟨.hbm, 401, rfl⟩
abbrev main_while0b_call27_v0 : Ref sig .tc := ⟨.hbm, 402, rfl⟩
abbrev main_while0b_call27_c : Ref sig .tc := ⟨.hbm, 403, rfl⟩
abbrev main_while0b_call27_c_0 : Ref sig .tc := ⟨.hbm, 404, rfl⟩
abbrev main_while0b_call27_c_1 : Ref sig .tc := ⟨.hbm, 405, rfl⟩
abbrev main_while0b_v242 : Ref sig .tc := ⟨.hbm, 406, rfl⟩
abbrev main_while0b_c_62 : Ref sig .tc := ⟨.hbm, 407, rfl⟩
abbrev main_while0b_v243 : Ref sig .tc := ⟨.hbm, 408, rfl⟩
abbrev main_v24 : Ref sig .tc := ⟨.hbm, 409, rfl⟩
abbrev main_v25 : Ref sig .tc := ⟨.hbm, 410, rfl⟩
abbrev main_v26 : Ref sig .tc := ⟨.hbm, 411, rfl⟩
abbrev main_v27 : Ref sig .tc := ⟨.hbm, 412, rfl⟩
abbrev main_v28 : Ref sig .tc := ⟨.hbm, 413, rfl⟩
abbrev main_v29 : Ref sig .tc := ⟨.hbm, 414, rfl⟩
abbrev main_v30 : Ref sig .tc := ⟨.hbm, 415, rfl⟩
abbrev main_v31 : Ref sig .tc := ⟨.hbm, 416, rfl⟩
abbrev main_v32 : Ref sig .tc := ⟨.hbm, 417, rfl⟩
abbrev main_v33 : Ref sig .tc := ⟨.hbm, 418, rfl⟩

abbrev nD : Nat := 1
abbrev τ : Topo := Topo.v7x

variable {F : FTy → Type} [FloatOps F]

abbrev main_while0_count : Scf.Loop 32 := ⟨0#32, 30#32, 1#32⟩
-- ==== Head.lean ====
abbrev S2 : Shape := ⟨1, ![2]⟩
abbrev S30x192x576 : Shape := ⟨3, ![30, 192, 576]⟩
abbrev S1x576 : Shape := ⟨2, ![1, 576]⟩
abbrev S576x49152 : Shape := ⟨2, ![576, 49152]⟩
abbrev S1x49152 : Shape := ⟨2, ![1, 49152]⟩
abbrev S2x49152 : Shape := ⟨2, ![2, 49152]⟩
abbrev S576x8192 : Shape := ⟨2, ![576, 8192]⟩
abbrev S1x8192 : Shape := ⟨2, ![1, 8192]⟩
abbrev S2x8192 : Shape := ⟨2, ![2, 8192]⟩
abbrev S2x576 : Shape := ⟨2, ![2, 576]⟩
abbrev S_ : Shape := ⟨0, ![]⟩
abbrev S1 : Shape := ⟨1, ![1]⟩
abbrev S1x1x576 : Shape := ⟨3, ![1, 1, 576]⟩
abbrev S2x1 : Shape := ⟨2, ![2, 1]⟩

abbrev nBuf : Space → Nat
  | .hbm => 5
  | .vmem => 8
  | .smem => 1
  | _ => 0

abbrev bufTy : (tb : Table) → Fin (tcTables nBuf tb) → BufTy
  | .hbm, ⟨0, _⟩ => ⟨S30x192x576, .f32⟩
  | .hbm, ⟨1, _⟩ => ⟨S1x576, .f32⟩
  | .hbm, ⟨2, _⟩ => ⟨S576x49152, .i8⟩
  | .hbm, ⟨3, _⟩ => ⟨S1x49152, .f32⟩
  | .hbm, ⟨4, _⟩ => ⟨S2x49152, .f32⟩
  | .local _ .vmem, ⟨0, _⟩ => ⟨S1x576, .f32⟩
  | .local _ .vmem, ⟨1, _⟩ => ⟨S576x8192, .i8⟩
  | .local _ .vmem, ⟨2, _⟩ => ⟨S576x8192, .i8⟩
  | .local _ .vmem, ⟨3, _⟩ => ⟨S1x8192, .f32⟩
  | .local _ .vmem, ⟨4, _⟩ => ⟨S1x8192, .f32⟩
  | .local _ .vmem, ⟨5, _⟩ => ⟨S2x8192, .f32⟩
  | .local _ .vmem, ⟨6, _⟩ => ⟨S2x8192, .f32⟩
  | .local _ .vmem, ⟨7, _⟩ => ⟨S2x576, .f32⟩
  | .local _ .smem, ⟨0, _⟩ => ⟨S2, .i32⟩
  | _, _ => ⟨S30x192x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v25 : BitVec 32) : Fin 3 → Nat :=
  let c29_i32 : BitVec 32 := 29#32
  let c0_i32_14 : BitVec 32 := 0#32
  let v26 : BitVec 32 := Scalar.addi c0_i32_14 v25
  let c0_i32_17 : BitVec 32 := 0#32
  ![29, v26.toNat, 0]

def k0_off2 (v27 : BitVec 32) : Fin 3 → Nat :=
  let c29_i32_18 : BitVec 32 := 29#32
  let c96_i32 : BitVec 32 := 96#32
  let v28 : BitVec 32 := Scalar.addi c96_i32 v27
  let c0_i32_20 : BitVec 32 := 0#32
  ![29, v28.toNat, 0]

def k0_chk2 (i : grid0.Coords) (v27 : BitVec 32) : Prop :=
  (∀ (k0_h1 : k0_cond1 i = 1#1), ∀ a, (k0_off2 v27) a + S1x1x576.size a ≤ S30x192x576.size a)
theorem k0_off2_inb : ∀ (i : grid0.Coords) (v27 : BitVec 32) (k0_hw2 : k0_chk2 i v27), ∀ (k0_h1 : k0_cond1 i = 1#1), ∀ a, (k0_off2 v27) a + S1x1x576.size a ≤ S30x192x576.size a := fun i v27 k0_hw2 k0_h1 => k0_hw2 k0_h1

def k0_off3 (v25 : BitVec 32) : Fin 3 → Nat :=
  let c29_i32_21 : BitVec 32 := 29#32
  let c0_i32_14 : BitVec 32 := 0#32
  let v26 : BitVec 32 := Scalar.addi c0_i32_14 v25
  let c0_i32_24 : BitVec 32 := 0#32
  ![29, v26.toNat, 0]

def k0_chk1 (i : grid0.Coords) (v25 : BitVec 32) : Prop :=
  (∀ (k0_h1 : k0_cond1 i = 1#1), ∀ a, (k0_off1 v25) a + S1x1x576.size a ≤ S30x192x576.size a) ∧
  (∀ (k0_h1 : k0_cond1 i = 1#1), ∀ a, (k0_off3 v25) a + S1x1x576.size a ≤ S30x192x576.size a)
theorem k0_off1_inb : ∀ (i : grid0.Coords) (v25 : BitVec 32) (k0_hw1 : k0_chk1 i v25), ∀ (k0_h1 : k0_cond1 i = 1#1), ∀ a, (k0_off1 v25) a + S1x1x576.size a ≤ S30x192x576.size a := fun i v25 k0_hw1 k0_h1 => k0_hw1.1 k0_h1
theorem k0_off3_inb : ∀ (i : grid0.Coords) (v25 : BitVec 32) (k0_hw1 : k0_chk1 i v25), ∀ (k0_h1 : k0_cond1 i = 1#1), ∀ a, (k0_off3 v25) a + S1x1x576.size a ≤ S30x192x576.size a := fun i v25 k0_hw1 k0_h1 => k0_hw1.2 k0_h1

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S576x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== HeadRefIdeal.lean ====
abbrev S2 : Shape := ⟨1, ![2]⟩
abbrev S30x192x576 : Shape := ⟨3, ![30, 192, 576]⟩
abbrev S1x576 : Shape := ⟨2, ![1, 576]⟩
abbrev S576x49152 : Shape := ⟨2, ![576, 49152]⟩
abbrev S1x49152 : Shape := ⟨2, ![1, 49152]⟩
abbrev S1x192x576 : Shape := ⟨3, ![1, 192, 576]⟩
abbrev S192x576 : Shape := ⟨2, ![192, 576]⟩
abbrev S2x96x576 : Shape := ⟨3, ![2, 96, 576]⟩
abbrev S_ : Shape := ⟨0, ![]⟩
abbrev S2x1 : Shape := ⟨2, ![2, 1]⟩
abbrev S2x2 : Shape := ⟨2, ![2, 2]⟩
abbrev S2x576 : Shape := ⟨2, ![2, 576]⟩
abbrev S2x49152 : Shape := ⟨2, ![2, 49152]⟩

abbrev nBuf : Space → Nat
  | .hbm => 28
  | .vmem => 5
  | .smem => 0
  | _ => 0

abbrev bufTy : (tb : Table) → Fin (tcTables nBuf tb) → BufTy
  | .hbm, ⟨0, _⟩ => ⟨S2, .i32⟩
  | .hbm, ⟨1, _⟩ => ⟨S30x192x576, .f32⟩
  | .hbm, ⟨2, _⟩ => ⟨S1x576, .f32⟩
  | .hbm, ⟨3, _⟩ => ⟨S576x49152, .i8⟩
  | .hbm, ⟨4, _⟩ => ⟨S1x49152, .f32⟩
  | .hbm, ⟨5, _⟩ => ⟨S1x192x576, .f32⟩
  | .hbm, ⟨6, _⟩ => ⟨S192x576, .f32⟩
  | .hbm, ⟨7, _⟩ => ⟨S2x96x576, .f32⟩
  | .hbm, ⟨8, _⟩ => ⟨S2, .i32⟩
  | .hbm, ⟨9, _⟩ => ⟨S_, .i32⟩
  | .hbm, ⟨10, _⟩ => ⟨S2, .i32⟩
  | .hbm, ⟨11, _⟩ => ⟨S2, .i1⟩
  | .hbm, ⟨12, _⟩ => ⟨S_, .i32⟩
  | .hbm, ⟨13, _⟩ => ⟨S2, .i32⟩
  | .hbm, ⟨14, _⟩ => ⟨S2, .i32⟩
  | .hbm, ⟨15, _⟩ => ⟨S2, .i32⟩
  | .hbm, ⟨16, _⟩ => ⟨S_, .i32⟩
  | .hbm, ⟨17, _⟩ => ⟨S2, .i32⟩
  | .hbm, ⟨18, _⟩ => ⟨S2, .i1⟩
  | .hbm, ⟨19, _⟩ => ⟨S_, .i32⟩
  | .hbm, ⟨20, _⟩ => ⟨S2, .i32⟩
  | .hbm, ⟨21, _⟩ => ⟨S2, .i32⟩
  | .hbm, ⟨22, _⟩ => ⟨S2, .i32⟩
  | .hbm, ⟨23, _⟩ => ⟨S2x1, .i32⟩
  | .hbm, ⟨24, _⟩ => ⟨S2x1, .i32⟩
  | .hbm, ⟨25, _⟩ => ⟨S2x2, .i32⟩
  | .hbm, ⟨26, _⟩ => ⟨S2x576, .f32⟩
  | .hbm, ⟨27, _⟩ => ⟨S2x49152, .f32⟩
  | .local _ .vmem, ⟨0, _⟩ => ⟨S2x576, .f32⟩
  | .local _ .vmem, ⟨1, _⟩ => ⟨S1x576, .f32⟩
  | .local _ .vmem, ⟨2, _⟩ => ⟨S576x49152, .i8⟩
  | .local _ .vmem, ⟨3, _⟩ => ⟨S1x49152, .f32⟩
  | .local _ .vmem, ⟨4, _⟩ => ⟨S2x49152, .f32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x49152 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x49152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x49152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.LayersIdealCmd.lean ====
/-
  Straight-line programs over the decoder-layers kernel's buffers: a program is a sequence of loads and stores of named
  buffers (`Cmd`); what it does to the buffers' contents is a function (`Cmd.run`); and the machine's program it stands
  for meets that function (`Cmd.sound`).
-/
module

public import proofs.«01_k».proof.Proof.Gen.LayersIdeal.Launch
public import proofs.«01_k».proof.Proof.Gen.LayersIdeal.Skeleton
public import Idealize.ShloMosaic.Lib.Memref
public import Idealize.ShloMosaic.Lib.Pipeline.FrameBody
public import Idealize.ShloMosaic.Lib.Pipeline.Frame
public import Idealize.ShloMosaic.Lib.Tactic

@[expose] public section

set_option maxRecDepth 16384

noncomputable section

namespace Cert.LayersIdeal.Hand

open Cert.LayersIdeal Cert.LayersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel's vector buffers: the inputs, the outputs and the scratches. -/
inductive Bf where
  | r0 | cos | sin | kt | ks | vt | vs | an | mn | wqkv | sqkv | wo | so | wgu | sgu | wd | sd
  | res | oT | kc | kcs | vc | vcs
  | r | cosS | sinS | q | kn | vn | kns | vns | s | o | act
  deriving DecidableEq

/-- All of them. -/
def Bf.all : List Bf :=
  [.r0, .cos, .sin, .kt, .ks, .vt, .vs, .an, .mn, .wqkv, .sqkv, .wo, .so, .wgu, .sgu, .wd, .sd,
    .res, .oT, .kc, .kcs, .vc, .vcs,
    .r, .cosS, .sinS, .q, .kn, .vn, .kns, .vns, .s, .o, .act]

theorem Bf.all_nodup : Bf.all.Nodup := by decide
theorem Bf.mem_all : ∀ b : Bf, b ∈ Bf.all := by intro b; cases b <;> decide

instance : Fintype Bf := ⟨⟨Bf.all, Bf.all_nodup⟩, Bf.mem_all⟩

/-- A buffer's shape, -/
@[reducible] def Bf.sh : Bf → Shape
  | .r0 => S192x576 | .cos => S2x32x96 | .sin => S2x32x96
  | .kt => S1x2x3x64x2048 | .ks => S1x3x2x2048 | .vt => S1x2x3x64x2048 | .vs => S1x3x2x2048
  | .an => S30x576 | .mn => S30x576 | .wqkv => S1x576x960 | .sqkv => S30x960 | .wo => S1x576x576 | .so => S30x576
  | .wgu => S1x576x3072 | .sgu => S30x3072 | .wd => S1x576x1536 | .sd => S30x576
  | .res => S1x192x576 | .oT => S1x2x9x64x96 | .kc => S1x2x3x64x96 | .kcs => S1x3x2x96 | .vc => S1x2x3x64x96 | .vcs => S1x3x2x96
  | .r => S192x576 | .cosS => S2x96x128 | .sinS => S2x96x128 | .q => S2x3x288x128
  | .kn => S2x3x64x128 | .vn => S2x3x64x128 | .kns => S2x3x1x128 | .vns => S2x3x1x128
  | .s => S3x288x2048 | .o => S192x640 | .act => S2x9x96x128

/-- and its element type. -/
@[reducible] def Bf.el : Bf → EltTy
  | .r0 => .f32 | .cos => .f32 | .sin => .f32
  | .kt => .i8 | .ks => .f32 | .vt => .i8 | .vs => .f32
  | .an => .f32 | .mn => .f32 | .wqkv => .i8 | .sqkv => .f32 | .wo => .i8 | .so => .f32
  | .wgu => .i8 | .sgu => .f32 | .wd => .i8 | .sd => .f32
  | .res => .f32 | .oT => .f32 | .kc => .i8 | .kcs => .f32 | .vc => .i8 | .vcs => .f32
  | .r => .f32 | .cosS => .f32 | .sinS => .f32 | .q => .bf16
  | .kn => .bf16 | .vn => .bf16 | .kns => .f32 | .vns => .f32
  | .s => .f32 | .o => .bf16 | .act => .f32

/-- The memrefs the buffers are held through, each whole, and the lengths' table. -/
structure Refs where
  len : Memref sig .tc .smem S2 .i32
  buf : (b : Bf) → Memref sig .tc .vmem b.sh b.el
  whole : ∀ b, (buf b).IsWhole

/-- The buffers' contents. -/
abbrev St (F : FTy → Type) := (b : Bf) → b.sh.Idx → Elt F b.el

abbrev Trip := Fin k0_t1_loop.trips

/-- A sequence of loads and stores. -/
inductive Cmd (F : FTy → Type) (α : Type) : Type where
  | ret (a : α)
  | load (b : Bf) (r : LoadRect b.sh) (h : 0 < r.shape.numel) (k : (r.shape.Idx → Elt F b.el) → Cmd F α)
  | store (b : Bf) (r : Rect b.sh) (w : r.shape.Idx → Elt F b.el) (h : 0 < r.shape.numel)
      (h' : b.el.bits = 32 ∨ r.PackedRows b.el.packing) (k : Cmd F α)
  | len (t : Trip) (k : BitVec 32 → Cmd F α)

namespace Cmd

variable {α β : Type}

/-- One program after another. -/
def bind (p : Cmd F α) (k : α → Cmd F β) : Cmd F β :=
  Cmd.rec (motive := fun _ => Cmd F β) (fun a => k a) (fun b r h _ ih => .load b r h ih) (fun b r w h h' _ ih => .store b r w h h' ih)
    (fun t _ ih => .len t ih) p

instance : Monad (Cmd F) where
  pure := .ret
  bind := bind

/-- A store through a rectangle of a whole buffer is formed. -/
theorem stores (R : Refs) (b : Bf) (r : Rect b.sh) (h : 0 < r.shape.numel) (h' : b.el.bits = 32 ∨ r.PackedRows b.el.packing) :
    ((R.buf b).access r).Stores Finset.univ :=
  h'.elim (fun h' => View.stores_vmem_bits_univ h h') (fun h' => View.stores_vmem h ((R.whole b).storeExact_slice rfl _ h') (fun _ => rfl))

/-- The machine's program. -/
def toProg (R : Refs) (p : Cmd F α) : Prog (TpuEff nD τ sig (Elt F) Λ₀ .tc) α :=
  Cmd.rec (motive := fun _ => Prog (TpuEff nD τ sig (Elt F) Λ₀ .tc) α) (fun a => .ret a)
    (fun b r h _ ih => .op (.load (R.buf b) r (View.loadsAt_vmem h)) ih)
    (fun b r w h h' _ ih => .op (.store (R.buf b) r w Finset.univ (stores R b r h h') (.inl rfl)) fun _ => ih)
    (fun t _ ih => smemLoad R.len (Rect.unit (s := S2) (k0_off3 t) S1.size (k0_off3_inb t)) numel1_S1 rfl >>= ih) p

end Cmd

/-- The load of a rectangle, -/
abbrev ld (b : Bf) (r : Rect b.sh) (h : 0 < r.shape.numel) : Cmd F (r.shape.Idx → Elt F b.el) := .load b r.toLoadRect h .ret
/-- and the store of one. -/
abbrev sv (b : Bf) (r : Rect b.sh) (w : r.shape.Idx → Elt F b.el) (h : 0 < r.shape.numel) (h' : b.el.bits = 32 ∨ r.PackedRows b.el.packing) :
    Cmd F PUnit := .store b r w h h' (.ret ⟨⟩)

open Classical in
/-- Contents after a store: the rectangle takes the written values, the rest stays. -/
def put {s : Shape} {α : Type} (r : Rect s) (w : r.shape.Idx → α) (X : s.Idx → α) : s.Idx → α :=
  fun x => if h : ∃ y, r.emb y = x then w h.choose else X x

theorem put_emb {s : Shape} {α : Type} (r : Rect s) (w : r.shape.Idx → α) (X : s.Idx → α) (y : r.shape.Idx) : put r w X (r.emb y) = w y := by
  have h : ∃ z, r.emb z = r.emb y := ⟨y, rfl⟩
  unfold put
  rw [dif_pos h, r.emb.injective h.choose_spec]

theorem put_miss {s : Shape} {α : Type} (r : Rect s) (w : r.shape.Idx → α) (X : s.Idx → α) (x : s.Idx) (h : x ∉ r.set) : put r w X x = X x := by
  unfold put
  rw [dif_neg]
  rintro ⟨y, rfl⟩
  exact h (r.idx_mem y)

/-- The length a trip reads. -/
def lenAt (X : S2.Idx → BitVec 32) (t : Trip) : BitVec 32 :=
  X ((Rect.unit (s := S2) (k0_off3 t) S1.size (k0_off3_inb t)).idx (Shape.Idx.first (numel1_S1.symm ▸ Nat.one_pos)))

namespace Cmd

variable {α β : Type}

/-- What a program returns and leaves. -/
def run (X : S2.Idx → BitVec 32) (p : Cmd F α) : St F → α × St F :=
  Cmd.rec (motive := fun _ => St F → α × St F) (fun a st => (a, st))
    (fun b r _ _ ih st => ih (fun y => st b (r.idx y)) st)
    (fun b r w _ _ _ ih st => ih (Function.update st b (put r w (st b))))
    (fun t _ ih st => ih (lenAt X t) st) p

theorem run_bind (X : S2.Idx → BitVec 32) (p : Cmd F α) (k : α → Cmd F β) (st : St F) :
    (p >>= k).run X st = (k (p.run X st).1).run X (p.run X st).2 := by
  show (p.bind k).run X st = _
  induction p generalizing st with
  | ret a => rfl
  | load b r h k' ih => exact ih _ _
  | store b r w h h' k' ih => exact ih _
  | len t k' ih => exact ih _ _

theorem run_pure (X : S2.Idx → BitVec 32) (a : α) (st : St F) : (pure a : Cmd F α).run X st = (a, st) := rfl

theorem toProg_bind (R : Refs) (p : Cmd F α) (k : α → Cmd F β) : (p >>= k).toProg R = p.toProg R >>= fun a => (k a).toProg R := by
  show (p.bind k).toProg R = _
  induction p with
  | ret a => rfl
  | load b r h k' ih => exact congrArg (Prog.op _) (funext fun x => ih x)
  | store b r w h h' k' ih => exact congrArg (Prog.op _) (funext fun _ => ih)
  | len t k' ih => exact congrArg (Prog.op _) (funext fun x => ih _)

/-- Every buffer held at its contents. -/
def held (c : Dev nD) (R : Refs) (st : St F) : sProp 𝕄 :=
  bigSep Finset.univ fun b => owns (c : Thread nD τ) (R.buf b) fullShare (st b)

theorem held_split (c : Dev nD) (R : Refs) (st : St F) (b : Bf) :
    (held c R st : sProp 𝕄) = iprop(owns (c : Thread nD τ) (R.buf b) fullShare (st b)
      ∗ bigSep (Finset.univ.erase b) fun b => owns (c : Thread nD τ) (R.buf b) fullShare (st b)) :=
  bigSep_univ_split b

theorem held_update (c : Dev nD) (R : Refs) (st : St F) (b : Bf) (X : b.sh.Idx → Elt F b.el) :
    (held c R (Function.update st b X) : sProp 𝕄) = iprop(owns (c : Thread nD τ) (R.buf b) fullShare X
      ∗ bigSep (Finset.univ.erase b) fun b => owns (c : Thread nD τ) (R.buf b) fullShare (st b)) := by
  rw [held_split c R _ b, Function.update_self]
  congr 1
  exact bigSep_congr fun x hx => by rw [Function.update_of_ne (Finset.ne_of_mem_erase hx)]

theorem read_write {b : Bf} (m : Memref sig .tc .vmem b.sh b.el) (r : Rect b.sh) (w : r.shape.Idx → Elt F b.el)
    (f : m.view.ty.Contents (Elt F)) :
    m.view.read (Elt F) ((m.access r).write (Elt F) f w Finset.univ) = put r w (m.view.read (Elt F) f) := by
  funext x
  by_cases h : x ∈ r.set
  · obtain ⟨y, rfl⟩ := r.exists_idx_of_mem h
    exact (View.read_writes_cons_emb m.view f r w [] y).trans (put_emb r w _ y).symm
  · exact (View.read_writes_cons_miss m.view f ⟨r, w⟩ [] x h).trans (put_miss r w _ x h).symm

/-- The machine's program meets the function, whatever the body table. -/
theorem sound (D : Defs nD τ sig (Elt F) Λ₀) (c : Dev nD) (R : Refs) (q : PosShare TreeShare) (X : S2.Idx → BitVec 32) (p : Cmd F α) (st : St F) (Q : α → sProp 𝕄) :
    iprop(owns (c : Thread nD τ) R.len q X ∗ held c R st
        ∗ (iprop(owns (c : Thread nD τ) R.len q X ∗ held c R (p.run X st).2) -∗ Q (p.run X st).1))
      ⊢ wp frame (wpE D Variants.none c none) Set.univ (p.toProg R) Q := by
  induction p generalizing st with
  | ret a =>
    show iprop(owns (c : Thread nD τ) R.len q X ∗ held c R st
        ∗ (iprop(owns (c : Thread nD τ) R.len q X ∗ held c R st) -∗ Q a)) ⊢ wp frame (wpE D Variants.none c none) Set.univ (.ret a) Q
    refine BIBase.Entails.trans ?_ (le_wp_ret _ _ _ a Q)
    iintro ⟨HL, H, HQ⟩
    iapply HQ
    isplitl [HL]; · iexact HL
    iexact H
  | load b r h k ih =>
    show iprop(owns (c : Thread nD τ) R.len q X ∗ held c R st
        ∗ (iprop(owns (c : Thread nD τ) R.len q X ∗ held c R ((k fun y => st b (r.idx y)).run X st).2)
          -∗ Q ((k fun y => st b (r.idx y)).run X st).1))
      ⊢ wp frame (wpE D Variants.none c none) Set.univ
        (.op (.load (R.buf b) r (View.loadsAt_vmem h)) fun x => (k x).toProg R) Q
    rw [held_split c R st b]
    unfold owns
    iintro ⟨HL, ⟨⟨%f, %hf, Hb⟩, HR⟩, HQ⟩
    iapply (wp_load Variants.none (c : Thread nD τ) none Set.univ (View.setOn_subset_set (R.buf b).view r.set)) $$ [Hb]; · iexact Hb
    iintro Hb
    have e : (R.buf b).view.readAt (Elt F) r f = fun y => st b (r.idx y) := by
      rw [← hf]; exact funext fun _ => rfl
    rw [e]
    iapply (ih (fun y => st b (r.idx y)) st)
    isplitl [HL]; · unfold owns; iexact HL
    isplitl [Hb HR]
    · rw [held_split c R st b]
      isplitl [Hb]
      · unfold owns; iexists f; isplitr; · ipureintro; exact hf
        iexact Hb
      iexact HR
    unfold owns
    iexact HQ
  | store b r w h h' k ih =>
    show iprop(owns (c : Thread nD τ) R.len q X ∗ held c R st
        ∗ (iprop(owns (c : Thread nD τ) R.len q X ∗ held c R (k.run X (Function.update st b (put r w (st b)))).2)
          -∗ Q (k.run X (Function.update st b (put r w (st b)))).1))
      ⊢ wp frame (wpE D Variants.none c none) Set.univ
        (.op (.store (R.buf b) r w Finset.univ (stores R b r h h') (.inl rfl)) fun _ => k.toProg R) Q
    rw [held_split c R st b]
    unfold owns
    iintro ⟨HL, ⟨⟨%f, %hf, Hb⟩, HR⟩, HQ⟩
    iapply (wp_store Variants.none (c : Thread nD τ) none Set.univ (Memref.setOn_access_subset (R.buf b) r Finset.univ)) $$ [Hb]; · iexact Hb
    iintro Hb
    iapply (ih (Function.update st b (put r w (st b))))
    isplitl [HL]; · unfold owns; iexact HL
    isplitl [Hb HR]
    · rw [held_update c R st b]
      isplitl [Hb]
      · unfold owns; iexists _; isplitr
        · ipureintro; exact (read_write (R.buf b) r w f).trans (congrArg (put r w) hf)
        iexact Hb
      iexact HR
    unfold owns
    iexact HQ
  | len t k ih =>
    show iprop(owns (c : Thread nD τ) R.len q X ∗ held c R st
        ∗ (iprop(owns (c : Thread nD τ) R.len q X ∗ held c R ((k (lenAt X t)).run X st).2)
          -∗ Q ((k (lenAt X t)).run X st).1))
      ⊢ wp frame (wpE D Variants.none c none) Set.univ
        (smemLoadElt R.len (Rect.unit (s := S2) (k0_off3 t) S1.size (k0_off3_inb t)) (View.loads_smem_one rfl numel1_S1)
          (Shape.Idx.first (numel1_S1.symm ▸ Nat.one_pos)) fun x => (k x).toProg R) Q
    unfold owns
    iintro ⟨⟨%f, %hf, HL⟩, H, HQ⟩
    iapply (wp_smemLoadElt Variants.none (c : Thread nD τ) none Set.univ (View.set_slice_subset R.len.view _)) $$ [HL]; · iexact HL
    iintro HL
    have e : (R.len.access (Rect.unit (s := S2) (k0_off3 t) S1.size (k0_off3_inb t))).read (Elt F) f
        (Shape.Idx.first (numel1_S1.symm ▸ Nat.one_pos)) = lenAt X t := by
      rw [← hf]; rfl
    rw [e]
    iapply (ih (lenAt X t) st)
    isplitl [HL]
    · unfold owns; iexists f; isplitr; · ipureintro; exact hf
      iexact HL
    isplitl [H]; · iexact H
    unfold owns
    iexact HQ

end Cmd

end Cert.LayersIdeal.Hand

end
-- ==== Proof.LayersIdealProg.lean ====
/-
  The attention of the decoder-layers kernel as one program: the printed loop over the two sequences has an eight-way
  switch on the number of key tiles, each arm unrolled over the heads and the tiles. Here the tiles are counted by a
  number, so that one statement about the program serves every arm.
-/
module

public import proofs.«01_k».proof.Proof.LayersIdealCmd

@[expose] public section

set_option maxRecDepth 16384

noncomputable section

namespace Cert.LayersIdeal.Hand

open Cert.LayersIdeal Cert.LayersIdeal.Gen
open Idealize.ShloMosaic Idealize.ShloMosaic.TcCoe Idealize.ShloMosaic.Tactic
open Idealize.SL.Sem

variable {F : FTy → Type} [FloatOps F]

/-! ## Offsets -/

/-- The sequence a trip works on. -/
def bIx (t : Trip) : ℕ := (Scalar.indexCast (Scf.iv 0#32 1#32 t) : Index).toNat

theorem bIx_eq : ∀ t : Trip, bIx t = t.val := by decide
theorem trips_eq : k0_t1_loop.trips = 2 := by decide
theorem bIx_lt (t : Trip) : bIx t < 2 := by rw [bIx_eq]; exact trips_eq ▸ t.isLt

/-- The offsets of head `k`'s plane of a buffer indexed by sequence and head. -/
def offN (t : Trip) (k : ℕ) : Fin 4 → ℕ := ![bIx t, k, 0, 0]
/-- The offsets of key tile `j`. -/
def offT (t : Trip) (k j : ℕ) : Fin 5 → ℕ := ![0, bIx t, k, 0, 256 * j]
/-- The offsets of the scales of key tile `j`. -/
def offS (t : Trip) (k j : ℕ) : Fin 4 → ℕ := ![0, k, bIx t, 256 * j]
/-- The offsets of tile `j`'s scores. -/
def offC (k j : ℕ) : Fin 3 → ℕ := ![k, 0, 256 * j]

theorem inbQ (t : Trip) (k : Fin 3) (a) : offN t k.val a + S1x1x288x128.size a ≤ S2x3x288x128.size a := by
  have := bIx_lt t; have := k.isLt
  fin_cases a
  · show bIx t + 1 ≤ 2; omega
  · show k.val + 1 ≤ 3; omega
  · show 0 + 288 ≤ 288; omega
  · show 0 + 128 ≤ 128; omega
theorem inbN (t : Trip) (k : Fin 3) (a) : offN t k.val a + S1x1x64x128.size a ≤ S2x3x64x128.size a := by
  have := bIx_lt t; have := k.isLt
  fin_cases a
  · show bIx t + 1 ≤ 2; omega
  · show k.val + 1 ≤ 3; omega
  · show 0 + 64 ≤ 64; omega
  · show 0 + 128 ≤ 128; omega
theorem inbNs (t : Trip) (k : Fin 3) (a) : offN t k.val a + S1x1x1x128.size a ≤ S2x3x1x128.size a := by
  have := bIx_lt t; have := k.isLt
  fin_cases a
  · show bIx t + 1 ≤ 2; omega
  · show k.val + 1 ≤ 3; omega
  · show 0 + 1 ≤ 1; omega
  · show 0 + 128 ≤ 128; omega
theorem inbA (t : Trip) (h : Fin 9) (a) : offN t h.val a + S1x1x96x128.size a ≤ S2x9x96x128.size a := by
  have := bIx_lt t; have := h.isLt
  fin_cases a
  · show bIx t + 1 ≤ 2; omega
  · show h.val + 1 ≤ 9; omega
  · show 0 + 96 ≤ 96; omega
  · show 0 + 128 ≤ 128; omega
theorem inbT (t : Trip) (k : Fin 3) (j : Fin 8) (a) : offT t k.val j.val a + S1x1x1x64x256.size a ≤ S1x2x3x64x2048.size a := by
  have := bIx_lt t; have := k.isLt; have := j.isLt
  fin_cases a
  · show 0 + 1 ≤ 1; omega
  · show bIx t + 1 ≤ 2; omega
  · show k.val + 1 ≤ 3; omega
  · show 0 + 64 ≤ 64; omega
  · show 256 * j.val + 256 ≤ 2048; omega
theorem inbS (t : Trip) (k : Fin 3) (j : Fin 8) (a) : offS t k.val j.val a + S1x1x1x256.size a ≤ S1x3x2x2048.size a := by
  have := bIx_lt t; have := k.isLt; have := j.isLt
  fin_cases a
  · show 0 + 1 ≤ 1; omega
  · show k.val + 1 ≤ 3; omega
  · show bIx t + 1 ≤ 2; omega
  · show 256 * j.val + 256 ≤ 2048; omega
theorem inbC (k : Fin 3) (j : Fin 8) (a) : offC k.val j.val a + S1x288x256.size a ≤ S3x288x2048.size a := by
  have := k.isLt; have := j.isLt
  fin_cases a
  · show k.val + 1 ≤ 3; omega
  · show 0 + 288 ≤ 288; omega
  · show 256 * j.val + 256 ≤ 2048; omega

abbrev rQ (t : Trip) (k : Fin 3) : Rect S2x3x288x128 := Rect.unit (s := S2x3x288x128) (offN t k.val) S1x1x288x128.size (inbQ t k)
abbrev rN (t : Trip) (k : Fin 3) : Rect S2x3x64x128 := Rect.unit (s := S2x3x64x128) (offN t k.val) S1x1x64x128.size (inbN t k)
abbrev rNs (t : Trip) (k : Fin 3) : Rect S2x3x1x128 := Rect.unit (s := S2x3x1x128) (offN t k.val) S1x1x1x128.size (inbNs t k)
abbrev rA (t : Trip) (h : Fin 9) : Rect S2x9x96x128 := Rect.unit (s := S2x9x96x128) (offN t h.val) S1x1x96x128.size (inbA t h)
abbrev rT (t : Trip) (k : Fin 3) (j : Fin 8) : Rect S1x2x3x64x2048 := Rect.unit (s := S1x2x3x64x2048) (offT t k.val j.val) S1x1x1x64x256.size (inbT t k j)
abbrev rS (t : Trip) (k : Fin 3) (j : Fin 8) : Rect S1x3x2x2048 := Rect.unit (s := S1x3x2x2048) (offS t k.val j.val) S1x1x1x256.size (inbS t k j)
abbrev rC (k : Fin 3) (j : Fin 8) : Rect S3x288x2048 := Rect.unit (s := S3x288x2048) (offC k.val j.val) S1x288x256.size (inbC k j)

/-! ## The values -/

/-- The scores of a tile of keys. -/
def score (q : FVec F S288x128 .bf16) (c : IVec S64x256 8) (sc : FVec F S1x256 .f32) : FVec F S288x256 .f32 :=
  mulf (matmul dot_S288x128_S128x256_S288x256_1_0_0_1_n_n none q
      (concatenate S128x256 0 [⟨S64x256, (sitofp .bf16 c : FVec F S64x256 .bf16)⟩, ⟨S64x256, (sitofp .bf16 c : FVec F S64x256 .bf16)⟩] concatenates_S64x256_S64x256_S128x256_d0)
      (constant S288x256 .f32 0x00000000#32))
    (broadcastTo S288x256 (mulf sc (broadcast S1x256 (Scalar.ofBits .f32 0x3E38AA3B#32))) broadcasts_S1x256_S288x256)

/-- The scores of the last tile, at -∞ from lane `left` on. -/
def maskTile (lane : IVec S1x256 32) (left : BitVec 32) (s : FVec F S288x256 .f32) : FVec F S288x256 .f32 :=
  select (broadcastTo S288x256 (shapeCast S1x256 (cmpi .slt lane (broadcast S1x256 left)) shapeCasts_S1x256_S1x256) broadcasts_S1x256_S288x256) s
    (broadcast S288x256 (Scalar.ofBits .f32 0xFF800000#32))

/-- The running maximum after a tile. -/
def maxTile (m : FVec F S288x128 .f32) (s : FVec F S288x256 .f32) : FVec F S288x128 .f32 :=
  maximumf m (maximumf (extractStridedSlice S288x128 ![0, 0] s slices_S288x256_o0_0_S288x128)
    (extractStridedSlice S288x128 ![0, 128] s slices_S288x256_o0_128_S288x128))

/-- The scores of the new keys. -/
def scoreNew (causal : IVec S288x128 1) (q : FVec F S288x128 .bf16) (kn : FVec F S64x128 .bf16) (kns : FVec F S1x128 .f32) : FVec F S288x128 .f32 :=
  select causal (mulf (matmul dot_S288x128_S128x128_S288x128_1_0_0_1_n_n none q
      (concatenate S128x128 0 [⟨S64x128, kn⟩, ⟨S64x128, kn⟩] concatenates_S64x128_S64x128_S128x128_d0)
      (constant S288x128 .f32 0x00000000#32))
    (broadcastTo S288x128 (mulf kns (broadcast S1x128 (Scalar.ofBits .f32 0x3E38AA3B#32))) broadcasts_S1x128_S288x128))
    (broadcast S288x128 (Scalar.ofBits .f32 0xFF800000#32))

/-- The row maxima, rounded up. -/
def rowMax (m sn : FVec F S288x128 .f32) : FVec F S288x1 .f32 :=
  ceil (shapeCast S288x1 (multiReduction .maximumf [1] S288 (maximumf m sn) 0xFF800000#32 reduces_S288x128_S288 (.inl rfl) rfl) shapeCasts_S288_S288x1)

/-- The weights of the new keys. -/
def pNew (m : FVec F S288x1 .f32) (sn : FVec F S288x128 .f32) : FVec F S288x128 .f32 :=
  exp2 (subf sn (broadcastTo S288x128 m broadcasts_S288x1_S288x128))

/-- The weights of a tile. -/
def pTile (m : FVec F S288x1 .f32) (s : FVec F S288x256 .f32) : FVec F S288x256 .f32 :=
  exp2 (subf s (broadcastTo S288x256 m broadcasts_S288x1_S288x256))

/-- The lane sums after a tile. -/
def denTile (den : FVec F S288x128 .f32) (p : FVec F S288x256 .f32) : FVec F S288x128 .f32 :=
  addf den (addf (extractStridedSlice S288x128 ![0, 0] p slices_S288x256_o0_0_S288x128)
    (extractStridedSlice S288x128 ![0, 128] p slices_S288x256_o0_128_S288x128))

/-- One more value at the end of a family. -/
def ext {α : Type} {j : ℕ} (f : Fin j → α) (a : α) : Fin (j + 1) → α := fun x => if h : x.val < j then f ⟨x.val, h⟩ else a

/-- What the second pass over the tiles has gathered: the lane sums, the scaled weights and the values' codes. -/
structure Acc (F : FTy → Type) [FloatOps F] (j : ℕ) where
  den : FVec F S288x128 .f32
  ps : Fin j → FVec F S288x256 .bf16
  vs : Fin j → FVec F S64x256 .bf16

abbrev Wd (n : ℕ) : ℕ := 128 + 256 * n

theorem concatenates_row (M n : ℕ) (hn : 1 ≤ n) {α : Type} (x : (⟨2, ![M, 128]⟩ : Shape).Idx → α) (f : Fin n → (⟨2, ![M, 256]⟩ : Shape).Idx → α) :
    Shape.Concatenates (((⟨⟨2, ![M, 128]⟩, x⟩ : (s : Shape) × (s.Idx → α)) :: List.ofFn fun j => ⟨⟨2, ![M, 256]⟩, f j⟩).map (·.1)) ⟨2, ![M, Wd n]⟩ 1 := by
  have e : ((⟨⟨2, ![M, 128]⟩, x⟩ : (s : Shape) × (s.Idx → α)) :: List.ofFn fun j => ⟨⟨2, ![M, 256]⟩, f j⟩).map (·.1)
      = (⟨2, ![M, 128]⟩ : Shape) :: List.replicate n ⟨2, ![M, 256]⟩ := by
    simp only [List.map_cons, List.map_ofFn, Function.comp_def, List.ofFn_const]
  rw [e]
  refine ⟨by simp; omega, ?_, ?_⟩
  · intro s hs
    rcases List.mem_cons.1 hs with rfl | hs
    · exact ⟨rfl, fun b hb => by fin_cases b; · rfl
                                 · exact absurd rfl hb⟩
    · obtain rfl := (List.mem_replicate.1 hs).2
      exact ⟨rfl, fun b hb => by fin_cases b; · rfl
                                 · exact absurd rfl hb⟩
  · simp only [List.map_cons, List.map_replicate, List.sum_cons, List.sum_replicate]
    show 128 + n * 256 = 128 + 256 * n
    omega

theorem concatenates_col (M n : ℕ) : Shape.Concatenates [(⟨2, ![64, n]⟩ : Shape), ⟨2, ![64, n]⟩] ⟨2, ![128, n]⟩ 0 := by
  refine ⟨by simp, ?_, ?_⟩
  · intro s hs
    have : s = ⟨2, ![64, n]⟩ := by simpa using hs
    subst this
    exact ⟨rfl, fun b hb => by fin_cases b; · exact absurd rfl hb
                               · rfl⟩
  · show 64 + (64 + 0) = 128; rfl

/-- The attention's values of a head: the weighted sum of the codes over the sum of the weights. -/
def outV (n : ℕ) (hn : 1 ≤ n) (p0 : FVec F S288x128 .bf16) (v0 : FVec F S64x128 .bf16) (a : Acc F n) : FVec F S288x128 .f32 :=
  divf (matmul (DotDims.transposedRhs 288 (Wd n) 128) none
      (concatenate ⟨2, ![288, Wd n]⟩ 1 (⟨S288x128, p0⟩ :: List.ofFn fun j => ⟨S288x256, a.ps j⟩) (concatenates_row 288 n hn p0 a.ps))
      (concatenate ⟨2, ![128, Wd n]⟩ 0
        [⟨⟨2, ![64, Wd n]⟩, concatenate ⟨2, ![64, Wd n]⟩ 1 (⟨S64x128, v0⟩ :: List.ofFn fun j => ⟨S64x256, a.vs j⟩) (concatenates_row 64 n hn v0 a.vs)⟩,
          ⟨⟨2, ![64, Wd n]⟩, concatenate ⟨2, ![64, Wd n]⟩ 1 (⟨S64x128, v0⟩ :: List.ofFn fun j => ⟨S64x256, a.vs j⟩) (concatenates_row 64 n hn v0 a.vs)⟩]
        (concatenates_col 64 (Wd n)))
      (constant S288x128 .f32 0x00000000#32))
    (broadcastTo S288x128 (shapeCast S288x1 (multiReduction .add [1] S288 a.den 0x00000000#32 reduces_S288x128_S288 (.inl rfl) rfl) shapeCasts_S288_S288x1)
      broadcasts_S288x1_S288x128)

/-! ## The program -/

section Program
variable (t : Trip) (k : Fin 3)

/-- One tile of the first pass: its scores, masked by `f`, are written and the running maximum returned. -/
def sTile (q : FVec F S288x128 .bf16) (j : Fin 8) (f : FVec F S288x256 .f32 → FVec F S288x256 .f32) (m : FVec F S288x128 .f32) : Cmd F (FVec F S288x128 .f32) := do
  let c : Vec F S1x1x1x64x256 .i8 ← ld .kt (rT t k j) h_S1x1x1x64x256
  let sc : Vec F S1x1x1x256 .f32 ← ld .ks (rS t k j) h_S1x1x1x256
  let _ : Vec F S1x288x256 .f32 ← ld .s (rC k j) h_S1x288x256
  sv .s (rC k j) (shapeCast S1x288x256 (f (score q (shapeCast S64x256 c shapeCasts_S1x1x1x64x256_S64x256) (shapeCast S1x256 sc shapeCasts_S1x1x1x256_S1x256))) shapeCasts_S288x256_S1x288x256) h_S1x288x256 (.inl rfl)
  pure (maxTile m (f (score q (shapeCast S64x256 c shapeCasts_S1x1x1x64x256_S64x256) (shapeCast S1x256 sc shapeCasts_S1x1x1x256_S1x256))))

/-- The first pass over the tiles before `j`. -/
def sUpTo (q : FVec F S288x128 .bf16) : (j : ℕ) → j ≤ 8 → Cmd F (FVec F S288x128 .f32)
  | 0, _ => pure (broadcast S288x128 (Scalar.ofBits .f32 0xFF800000#32))
  | j + 1, h => do
    let m ← sUpTo q j (Nat.le_of_succ_le h)
    sTile t k q ⟨j, h⟩ id m

/-- One tile of the second pass. -/
def pStep (m : FVec F S288x1 .f32) (j : Fin 8) (a : Acc F j.val) : Cmd F (Acc F (j.val + 1)) := do
  let s : Vec F S1x288x256 .f32 ← ld .s (rC k j) h_S1x288x256
  let sc : Vec F S1x1x1x256 .f32 ← ld .vs (rS t k j) h_S1x1x1x256
  let c : Vec F S1x1x1x64x256 .i8 ← ld .vt (rT t k j) h_S1x1x1x64x256
  pure ⟨denTile a.den (pTile m (shapeCast S288x256 s shapeCasts_S1x288x256_S288x256)),
    ext a.ps (truncf .bf16 (mulf (pTile m (shapeCast S288x256 s shapeCasts_S1x288x256_S288x256))
      (broadcastTo S288x256 (shapeCast S1x256 sc shapeCasts_S1x1x1x256_S1x256) broadcasts_S1x256_S288x256)) bitsLt_bf16_f32),
    ext a.vs (sitofp .bf16 (shapeCast S64x256 c shapeCasts_S1x1x1x64x256_S64x256))⟩

/-- The second pass over the tiles before `j`. -/
def pUpTo (m : FVec F S288x1 .f32) (p : FVec F S288x128 .f32) : (j : ℕ) → j ≤ 8 → Cmd F (Acc F j)
  | 0, _ => pure ⟨p, Fin.elim0, Fin.elim0⟩
  | j + 1, h => do
    let a ← pUpTo m p j (Nat.le_of_succ_le h)
    pStep t k m ⟨j, h⟩ a

/-- The rows of one query head are written out. -/
def aStore (h : Fin 9) (o : FVec F S96x128 .f32) : Cmd F PUnit := do
  let _ : Vec F S1x1x96x128 .f32 ← ld .act (rA t h) h_S1x1x96x128
  sv .act (rA t h) (shapeCast S1x1x96x128 o shapeCasts_S96x128_S1x1x96x128) h_S1x1x96x128 (.inl rfl)

/-- The query heads of one key head over `i + 1` tiles. -/
def head (causal : IVec S288x128 1) (lane : IVec S1x256 32) (left : BitVec 32) (i : Fin 8) (h0 h1 h2 : Fin 9) : Cmd F PUnit := do
  let q : Vec F S1x1x288x128 .bf16 ← ld .q (rQ t k) h_S1x1x288x128
  let m ← sUpTo t k (shapeCast S288x128 q shapeCasts_S1x1x288x128_S288x128) i.val i.isLt.le
  let m ← sTile t k (shapeCast S288x128 q shapeCasts_S1x1x288x128_S288x128) i (maskTile lane left) m
  let kn : Vec F S1x1x64x128 .bf16 ← ld .kn (rN t k) h_S1x1x64x128
  let kns : Vec F S1x1x1x128 .f32 ← ld .kns (rNs t k) h_S1x1x1x128
  let vns : Vec F S1x1x1x128 .f32 ← ld .vns (rNs t k) h_S1x1x1x128
  let vn : Vec F S1x1x64x128 .bf16 ← ld .vn (rN t k) h_S1x1x64x128
  have sn : FVec F S288x128 .f32 := scoreNew causal (shapeCast S288x128 q shapeCasts_S1x1x288x128_S288x128) (shapeCast S64x128 kn shapeCasts_S1x1x64x128_S64x128) (shapeCast S1x128 kns shapeCasts_S1x1x1x128_S1x128)
  have mx : FVec F S288x1 .f32 := rowMax m sn
  have p0 : FVec F S288x128 .f32 := pNew mx sn
  let a ← pUpTo t k mx p0 (i.val + 1) i.isLt
  have o : FVec F S288x128 .f32 := outV (i.val + 1) (Nat.le_add_left 1 _)
    (truncf .bf16 (mulf p0 (broadcastTo S288x128 (shapeCast S1x128 vns shapeCasts_S1x1x1x128_S1x128) broadcasts_S1x128_S288x128)) bitsLt_bf16_f32)
    (shapeCast S64x128 vn shapeCasts_S1x1x64x128_S64x128) a
  aStore t h0 (extractStridedSlice S96x128 ![0, 0] o slices_S288x128_o0_0_S96x128)
  aStore t h1 (extractStridedSlice S96x128 ![96, 0] o slices_S288x128_o96_0_S96x128)
  aStore t h2 (extractStridedSlice S96x128 ![192, 0] o slices_S288x128_o192_0_S96x128)

/-- The attention of one sequence over `i + 1` tiles of keys. -/
def attend (causal : IVec S288x128 1) (lane : IVec S1x256 32) (len : BitVec 32) (i : Fin 8) : Cmd F PUnit := do
  head t 0 causal lane (Scalar.subi len (BitVec.ofNat 32 (256 * i.val))) i 0 1 2
  head t 1 causal lane (Scalar.subi len (BitVec.ofNat 32 (256 * i.val))) i 3 4 5
  head t 2 causal lane (Scalar.subi len (BitVec.ofNat 32 (256 * i.val))) i 6 7 8

/-- The number of tiles less one: the length in tiles, at least one and at most eight. -/
def tiles (len : BitVec 32) : BitVec 32 :=
  Scalar.minsi (Scalar.maxsi (Scalar.subi (Scalar.minsi 8#32 (Scalar.maxsi 1#32 (Scalar.shrui (Scalar.addi len 255#32) 8#32))) 1#32) 0#32) 7#32

/-- One of eight things, by a word counted down. -/
def pick {α : Type*} (w : BitVec 32) (f : Fin 8 → α) : α :=
  let w1 : BitVec 32 := Scalar.subi w 1#32
  let w2 : BitVec 32 := Scalar.subi w1 1#32
  let w3 : BitVec 32 := Scalar.subi w2 1#32
  let w4 : BitVec 32 := Scalar.subi w3 1#32
  let w5 : BitVec 32 := Scalar.subi w4 1#32
  let w6 : BitVec 32 := Scalar.subi w5 1#32
  if Scalar.cmpi .ne w 0#32 = 1#1 then
    if Scalar.cmpi .ne w1 0#32 = 1#1 then
      if Scalar.cmpi .ne w2 0#32 = 1#1 then
        if Scalar.cmpi .ne w3 0#32 = 1#1 then
          if Scalar.cmpi .ne w4 0#32 = 1#1 then
            if Scalar.cmpi .ne w5 0#32 = 1#1 then
              if Scalar.cmpi .ne w6 0#32 = 1#1 then f 7
              else f 6
            else f 5
          else f 4
        else f 3
      else f 2
    else f 1
  else f 0

theorem pick_map {α β : Type*} (g : α → β) (w : BitVec 32) (f : Fin 8 → α) : g (pick w f) = pick w fun i => g (f i) := by
  unfold pick
  simp only [apply_ite g]

/-- One trip. -/
def trip (causal : IVec S288x128 1) (lane : IVec S1x256 32) : Cmd F PUnit :=
  .len t fun len => pick (tiles len) fun i => attend t causal lane len i

/-- One trip, the switch being on the machine's programs. -/
def tripP (R : Refs) (causal : IVec S288x128 1) (lane : IVec S1x256 32) : Prog (TpuEff nD τ sig (Elt F) Λ₀ .tc) PUnit :=
  smemLoad R.len (Rect.unit (s := S2) (k0_off3 t) S1.size (k0_off3_inb t)) numel1_S1 rfl >>= fun len =>
    pick (tiles len) fun i => (attend t causal lane len i).toProg R

theorem tripP_eq (R : Refs) (causal : IVec S288x128 1) (lane : IVec S1x256 32) :
    (tripP t R causal lane : Prog (TpuEff nD τ sig (Elt F) Λ₀ .tc) PUnit) = (trip t causal lane).toProg R := by
  have e : (fun len => pick (tiles len) fun i => (attend (F := F) t causal lane len i).toProg R)
      = fun len => (pick (tiles len) fun i => attend t causal lane len i).toProg R :=
    funext fun len => (pick_map (Cmd.toProg R) (tiles len) _).symm
  unfold tripP
  rw [e]
  sl_kernel_rfl

end Program

end Cert.LayersIdeal.Hand

end
-- ==== Proof.LayersIdealBody.lean ====
/-
  One decoder layer of the kernel as a program over its buffers, stage by stage, and the printed body's equality with
  it: first point's set-up, queries, new keys and values, attention, the heads' outputs, and the two projections.
-/
module

public import proofs.«01_k».proof.Proof.LayersIdealProg

@[expose] public section

set_option maxRecDepth 65536

noncomputable section

namespace Cert.LayersIdeal.Hand

open Cert.LayersIdeal Cert.LayersIdeal.Gen
open Idealize.ShloMosaic Idealize.ShloMosaic.TcCoe Idealize.ShloMosaic.Tactic
open Idealize.SL.Sem

variable {F : FTy → Type} [FloatOps F]

/-! ## Rectangles -/

/-! A whole buffer's. -/
abbrev wS192x576 : Rect S192x576 := Rect.unit (s := S192x576) ![0, 0] S192x576.size inb_S192x576_S192x576_0_0
abbrev wS2x3x64x128 : Rect S2x3x64x128 := Rect.unit (s := S2x3x64x128) ![0, 0, 0, 0] S2x3x64x128.size inb_S2x3x64x128_S2x3x64x128_0_0_0_0
abbrev wS2x3x1x128 : Rect S2x3x1x128 := Rect.unit (s := S2x3x1x128) ![0, 0, 0, 0] S2x3x1x128.size inb_S2x3x1x128_S2x3x1x128_0_0_0_0
abbrev wS1x576x960 : Rect S1x576x960 := Rect.unit (s := S1x576x960) ![0, 0, 0] S1x576x960.size inb_S1x576x960_S1x576x960_0_0_0
abbrev wS1x576x576 : Rect S1x576x576 := Rect.unit (s := S1x576x576) ![0, 0, 0] S1x576x576.size inb_S1x576x576_S1x576x576_0_0_0
abbrev wS1x576x1536 : Rect S1x576x1536 := Rect.unit (s := S1x576x1536) ![0, 0, 0] S1x576x1536.size inb_S1x576x1536_S1x576x1536_0_0_0
abbrev wS1x192x576 : Rect S1x192x576 := Rect.unit (s := S1x192x576) ![0, 0, 0] S1x192x576.size inb_S1x192x576_S1x192x576_0_0_0

theorem inbCS : ∀ (b : Fin 2) (a : Fin 3), (![b.val, 0, 0] : Fin 3 → ℕ) a + S1x32x96.size a ≤ S2x32x96.size a := by decide +kernel
theorem inbCos : ∀ (b : Fin 2) (a : Fin 3), (![b.val, 0, 0] : Fin 3 → ℕ) a + S1x96x128.size a ≤ S2x96x128.size a := by decide +kernel
theorem inbQs : ∀ (b : Fin 2) (h : Fin 9) (a : Fin 4), (![b.val, h.val / 3, 96 * (h.val % 3), 0] : Fin 4 → ℕ) a + S1x1x96x128.size a ≤ S2x3x288x128.size a := by decide +kernel
theorem inbKc : ∀ (b : Fin 2) (k : Fin 3) (a : Fin 5), (![0, b.val, k.val, 0, 0] : Fin 5 → ℕ) a + S1x1x1x64x96.size a ≤ S1x2x3x64x96.size a := by decide +kernel
theorem inbKs : ∀ (b : Fin 2) (k : Fin 3) (a : Fin 4), (![0, k.val, b.val, 0] : Fin 4 → ℕ) a + S1x1x1x96.size a ≤ S1x3x2x96.size a := by decide +kernel
theorem inbKn : ∀ (b : Fin 2) (k : Fin 3) (a : Fin 4), (![b.val, k.val, 0, 0] : Fin 4 → ℕ) a + S1x1x64x96.size a ≤ S2x3x64x128.size a := by decide +kernel
theorem inbKns : ∀ (b : Fin 2) (k : Fin 3) (a : Fin 4), (![b.val, k.val, 0, 0] : Fin 4 → ℕ) a + S1x1x1x96.size a ≤ S2x3x1x128.size a := by decide +kernel
theorem inbAct : ∀ (b : Fin 2) (h : Fin 9) (a : Fin 4), (![b.val, h.val, 0, 0] : Fin 4 → ℕ) a + S1x1x96x128.size a ≤ S2x9x96x128.size a := by decide +kernel
theorem inbO : ∀ (b : Fin 2) (c : Fin 5) (a : Fin 2), (![96 * b.val, 128 * c.val] : Fin 2 → ℕ) a + S96x128.size a ≤ S192x640.size a := by decide +kernel
theorem inbOT : ∀ (b : Fin 2) (h : Fin 9) (a : Fin 5), (![0, b.val, h.val, 0, 0] : Fin 5 → ℕ) a + S1x1x1x64x96.size a ≤ S1x2x9x64x96.size a := by decide +kernel
theorem inbGU : ∀ (j : Fin 12) (a : Fin 3), (![0, 0, 256 * j.val] : Fin 3 → ℕ) a + S1x576x256.size a ≤ S1x576x3072.size a := by decide +kernel

abbrev rCS (b : Fin 2) : Rect S2x32x96 := Rect.unit (s := S2x32x96) ![b.val, 0, 0] S1x32x96.size (inbCS b)
abbrev rCos (b : Fin 2) : Rect S2x96x128 := Rect.unit (s := S2x96x128) ![b.val, 0, 0] S1x96x128.size (inbCos b)
abbrev rQs (b : Fin 2) (h : Fin 9) : Rect S2x3x288x128 := Rect.unit (s := S2x3x288x128) ![b.val, h.val / 3, 96 * (h.val % 3), 0] S1x1x96x128.size (inbQs b h)
abbrev rKc (b : Fin 2) (k : Fin 3) : Rect S1x2x3x64x96 := Rect.unit (s := S1x2x3x64x96) ![0, b.val, k.val, 0, 0] S1x1x1x64x96.size (inbKc b k)
abbrev rKs (b : Fin 2) (k : Fin 3) : Rect S1x3x2x96 := Rect.unit (s := S1x3x2x96) ![0, k.val, b.val, 0] S1x1x1x96.size (inbKs b k)
abbrev rKn (b : Fin 2) (k : Fin 3) : Rect S2x3x64x128 := Rect.unit (s := S2x3x64x128) ![b.val, k.val, 0, 0] S1x1x64x96.size (inbKn b k)
abbrev rKns (b : Fin 2) (k : Fin 3) : Rect S2x3x1x128 := Rect.unit (s := S2x3x1x128) ![b.val, k.val, 0, 0] S1x1x1x96.size (inbKns b k)
abbrev rAct (b : Fin 2) (h : Fin 9) : Rect S2x9x96x128 := Rect.unit (s := S2x9x96x128) ![b.val, h.val, 0, 0] S1x1x96x128.size (inbAct b h)
abbrev rO (b : Fin 2) (c : Fin 5) : Rect S192x640 := Rect.unit (s := S192x640) ![96 * b.val, 128 * c.val] S96x128.size (inbO b c)
abbrev rOT (b : Fin 2) (h : Fin 9) : Rect S1x2x9x64x96 := Rect.unit (s := S1x2x9x64x96) ![0, b.val, h.val, 0, 0] S1x1x1x64x96.size (inbOT b h)
abbrev rGU (j : Fin 12) : Rect S1x576x3072 := Rect.unit (s := S1x576x3072) ![0, 0, 256 * j.val] S1x576x256.size (inbGU j)
abbrev rOdot : Rect S192x640 := Rect.unit (s := S192x640) ![0, 0] S192x576.size inb_S192x640_S192x576_0_0

theorem packedQs : ∀ (b : Fin 2) (h : Fin 9), (rQs b h).PackedRows (EltTy.packing .bf16) := by decide +kernel
theorem packedKc : ∀ (b : Fin 2) (k : Fin 3), (rKc b k).PackedRows (EltTy.packing .i8) := by decide +kernel
theorem packedKn : ∀ (b : Fin 2) (k : Fin 3), (rKn b k).PackedRows (EltTy.packing .bf16) := by decide +kernel
theorem packedO : ∀ (b : Fin 2) (c : Fin 5), (rO b c).PackedRows (EltTy.packing .bf16) := by decide +kernel
theorem packedN : (wS2x3x64x128).PackedRows (EltTy.packing .bf16) := by decide +kernel

/-- The row of a table of scales or gains the point reads. -/
abbrev row576 (i : grid0.Coords) : Rect S30x576 := Rect.unit (s := S30x576) (k0_off1 i) S1x576.size (k0_off1_inb i)
abbrev row960 (i : grid0.Coords) : Rect S30x960 := Rect.unit (s := S30x960) (k0_off2 i) S1x960.size (k0_off2_inb i)
/-- The offsets of a block of the table of the gated layer's scales. -/
def offGU (i : grid0.Coords) (j : Fin 12) : Fin 2 → ℕ := ![(Scalar.indexCast (BitVec.ofNat 32 (i 0).val) : Index).toNat, 256 * j.val]
theorem inbSGU : ∀ (i : grid0.Coords) (j : Fin 12) (a), offGU i j a + S1x256.size a ≤ S30x3072.size a := by decide +kernel
abbrev rowGU (i : grid0.Coords) (j : Fin 12) : Rect S30x3072 := Rect.unit (s := S30x3072) (offGU i j) S1x256.size (inbSGU i j)

/-! ## Values -/

/-- Lanes below 64, -/
def loLane : IVec S96x128 1 := cmpi .slt (iota .tc S96x128 32 [1] iota_S96x128_d1_w32) (broadcast S96x128 64#32)
/-- the others, -/
def hiLane : IVec S96x128 1 := xori loLane (constantI S96x128 1 1#1)
/-- and the first half of each half. -/
def rotLane : IVec S96x128 1 := cmpi .eq (andi (iota .tc S96x128 32 [1] iota_S96x128_d1_w32) (broadcast S96x128 32#32)) (broadcast S96x128 0#32)

/-- A lane not above its row, for each of a key head's three query heads. -/
def causal : IVec S288x128 1 :=
  concatenate S288x128 0
    [⟨S96x128, cmpi .sle (iota .tc S96x128 32 [1] iota_S96x128_d1_w32) (iota .tc S96x128 32 [0] iota_S96x128_d0_w32)⟩,
      ⟨S96x128, cmpi .sle (iota .tc S96x128 32 [1] iota_S96x128_d1_w32) (iota .tc S96x128 32 [0] iota_S96x128_d0_w32)⟩,
      ⟨S96x128, cmpi .sle (iota .tc S96x128 32 [1] iota_S96x128_d1_w32) (iota .tc S96x128 32 [0] iota_S96x128_d0_w32)⟩]
    concatenates_S96x128_S96x128_S96x128_S288x128_d0
def lane256 : IVec S1x256 32 := iota .tc S1x256 32 [1] iota_S1x256_d1_w32

/-- The table of cosines of a sequence, spread over four quarters, -/
def cosTile (c : FVec F S1x32x96 .f32) : FVec F S1x96x128 .f32 :=
  shapeCast S1x96x128 (transpose S96x128 [1, 0]
    (concatenate S128x96 0 [⟨S32x96, shapeCast S32x96 c shapeCasts_S1x32x96_S32x96⟩, ⟨S32x96, shapeCast S32x96 c shapeCasts_S1x32x96_S32x96⟩,
      ⟨S32x96, shapeCast S32x96 c shapeCasts_S1x32x96_S32x96⟩, ⟨S32x96, shapeCast S32x96 c shapeCasts_S1x32x96_S32x96⟩]
      concatenates_S32x96_S32x96_S32x96_S32x96_S128x96_d0) transposes_S128x96_p1_0_S96x128) shapeCasts_S96x128_S1x96x128
/-- and of sines, signed. -/
def sinTile (s : FVec F S1x32x96 .f32) : FVec F S1x96x128 .f32 :=
  shapeCast S1x96x128 (transpose S96x128 [1, 0]
    (concatenate S128x96 0 [⟨S32x96, subf (broadcast S32x96 (Scalar.ofBits .f32 0x00000000#32)) (shapeCast S32x96 s shapeCasts_S1x32x96_S32x96)⟩,
      ⟨S32x96, shapeCast S32x96 s shapeCasts_S1x32x96_S32x96⟩,
      ⟨S32x96, subf (broadcast S32x96 (Scalar.ofBits .f32 0x00000000#32)) (shapeCast S32x96 s shapeCasts_S1x32x96_S32x96)⟩,
      ⟨S32x96, shapeCast S32x96 s shapeCasts_S1x32x96_S32x96⟩]
      concatenates_S32x96_S32x96_S32x96_S32x96_S128x96_d0) transposes_S128x96_p1_0_S96x128) shapeCasts_S96x128_S1x96x128

/-- Rows over their root mean square, times a gain. -/
def rms (x : FVec F S192x576 .f32) (g : FVec F S1x576 .f32) : FVec F S192x576 .bf16 :=
  truncf .bf16 (mulf (divf x (broadcastTo S192x576 (sqrt (addf (divf
    (shapeCast S192x1 (multiReduction .add [1] S192 (mulf x x) 0x00000000#32 reduces_S192x576_S192 (.inl rfl) rfl) shapeCasts_S192_S192x1)
    (broadcast S192x1 (Scalar.ofBits .f32 0x44100000#32))) (broadcast S192x1 (Scalar.ofBits .f32 0x3727C5AC#32)))) broadcasts_S192x1_S192x576))
    (broadcastTo S192x576 g broadcasts_S1x576_S192x576)) bitsLt_bf16_f32

/-- Queries, keys and values. -/
def qkv (x : FVec F S192x576 .bf16) (w : IVec S1x576x960 8) (s : FVec F S1x960 .f32) : FVec F S192x960 .f32 :=
  mulf (matmul dot_S192x576_S576x960_S192x960_1_0_0_1_n_n none x (sitofp .bf16 (shapeCast S576x960 w shapeCasts_S1x576x960_S576x960) : FVec F S576x960 .bf16)
    (constant S192x960 .f32 0x00000000#32)) (broadcastTo S192x960 s broadcasts_S1x960_S192x960)

theorem slicesQ : ∀ (b : Fin 2) (c : Fin 5), S192x960.Slices ![96 * b.val, 128 * c.val] S96x128 := by decide +kernel
theorem slicesK : ∀ (b : Fin 2) (c : Fin 3), S192x960.Slices ![96 * b.val, 512 + 128 * c.val] S96x128 := by decide +kernel
theorem slicesV : ∀ (b : Fin 2), S192x960.Slices ![96 * b.val, 896] S96x64 := by decide +kernel

/-- A pair of query heads, turned. -/
def turn (x : FVec F S96x128 .f32) (c s : FVec F S1x96x128 .f32) : FVec F S96x128 .f32 :=
  addf (mulf x (shapeCast S96x128 c shapeCasts_S1x96x128_S96x128))
    (mulf (select rotLane (dynamicRotate 1 96#32 none x rotates_S96x128_d1) (dynamicRotate 1 32#32 none x rotates_S96x128_d1))
      (shapeCast S96x128 s shapeCasts_S1x96x128_S96x128))

/-- One head of a pair: the other's lanes at zero. -/
def half (l : IVec S96x128 1) (y : FVec F S96x128 .f32) : FVec F S1x1x96x128 .bf16 :=
  shapeCast S1x1x96x128 (truncf .bf16 (select l y (broadcast S96x128 (Scalar.ofBits .f32 0x00000000#32))) bitsLt_bf16_f32) shapeCasts_S96x128_S1x1x96x128

/-- A sequence's keys and values, tokens along lanes. -/
def kvT (x : FVec F S192x960 .f32) (b : Fin 2) : FVec F S384x96 .f32 :=
  extractStridedSlice S384x96 ![64, 0] (concatenate S448x96 0
    [⟨S128x96, transpose S128x96 [1, 0] (extractStridedSlice S96x128 ![96 * b.val, 512] x (slicesK b 0)) transposes_S96x128_p1_0_S128x96⟩,
      ⟨S128x96, transpose S128x96 [1, 0] (extractStridedSlice S96x128 ![96 * b.val, 640] x (slicesK b 1)) transposes_S96x128_p1_0_S128x96⟩,
      ⟨S128x96, transpose S128x96 [1, 0] (extractStridedSlice S96x128 ![96 * b.val, 768] x (slicesK b 2)) transposes_S96x128_p1_0_S128x96⟩,
      ⟨S64x96, transpose S64x96 [1, 0] (extractStridedSlice S96x64 ![96 * b.val, 896] x (slicesV b)) transposes_S96x64_p1_0_S64x96⟩]
    concatenates_S128x96_S128x96_S128x96_S64x96_S448x96_d0) slices_S448x96_o64_0_S384x96

theorem slicesKv : ∀ k : Fin 6, S384x96.Slices ![64 * k.val, 0] S64x96 := by decide +kernel

/-- One head's keys or values. -/
def kvHead (x : FVec F S384x96 .f32) (k : Fin 6) : FVec F S64x96 .f32 := extractStridedSlice S64x96 ![64 * k.val, 0] x (slicesKv k)

/-- A head's keys, turned. -/
def turnK (x : FVec F S64x96 .f32) (c s : FVec F S1x32x96 .f32) : FVec F S64x96 .f32 :=
  concatenate S64x96 0
    [⟨S32x96, subf (mulf (extractStridedSlice S32x96 ![0, 0] x slices_S64x96_o0_0_S32x96) (shapeCast S32x96 c shapeCasts_S1x32x96_S32x96))
        (mulf (extractStridedSlice S32x96 ![32, 0] x slices_S64x96_o32_0_S32x96) (shapeCast S32x96 s shapeCasts_S1x32x96_S32x96))⟩,
      ⟨S32x96, addf (mulf (extractStridedSlice S32x96 ![32, 0] x slices_S64x96_o32_0_S32x96) (shapeCast S32x96 c shapeCasts_S1x32x96_S32x96))
        (mulf (extractStridedSlice S32x96 ![0, 0] x slices_S64x96_o0_0_S32x96) (shapeCast S32x96 s shapeCasts_S1x32x96_S32x96))⟩]
    concatenates_S32x96_S32x96_S64x96_d0

/-- A column's scale: its largest magnitude over 127, or one. -/
def scaleOf (x : FVec F S64x96 .f32) : FVec F S1x96 .f32 :=
  select (cmpf .oeq (shapeCast S1x96 (multiReduction .maximumf [0] S96 (absf x) 0xFF800000#32 reduces_S64x96_S96 (.inl rfl) rfl) shapeCasts_S96_S1x96)
      (broadcast S1x96 (Scalar.ofBits .f32 0x00000000#32)))
    (broadcast S1x96 (Scalar.ofBits .f32 0x3F800000#32))
    (divf (shapeCast S1x96 (multiReduction .maximumf [0] S96 (absf x) 0xFF800000#32 reduces_S64x96_S96 (.inl rfl) rfl) shapeCasts_S96_S1x96)
      (broadcast S1x96 (Scalar.ofBits .f32 0x42FE0000#32)))

/-- The rounded multiples of the scale. -/
def codesOf (x : FVec F S64x96 .f32) : FVec F S64x96 .f32 :=
  minimumf (broadcast S64x96 (Scalar.sitofp .f32 127#32)) (maximumf (broadcast S64x96 (Scalar.sitofp .f32 4294967169#32))
    (roundeven (divf x (broadcastTo S64x96 (scaleOf x) broadcasts_S1x96_S64x96))))

def code8 (x : FVec F S64x96 .f32) : IVec S1x1x1x64x96 8 := shapeCast S1x1x1x64x96 (fptosi 8 (codesOf x)) shapeCasts_S64x96_S1x1x1x64x96
def scale4 (x : FVec F S64x96 .f32) : FVec F S1x1x1x96 .f32 := shapeCast S1x1x1x96 (scaleOf x) shapeCasts_S1x96_S1x1x1x96
def code16 (x : FVec F S64x96 .f32) : FVec F S1x1x64x96 .bf16 := shapeCast S1x1x64x96 (truncf .bf16 (codesOf x) bitsLt_bf16_f32) shapeCasts_S64x96_S1x1x64x96

/-- A pair of heads' outputs side by side. -/
def pairO (x y : FVec F S1x1x96x128 .f32) : FVec F S96x128 .f32 :=
  select loLane (shapeCast S96x128 x shapeCasts_S1x1x96x128_S96x128) (shapeCast S96x128 y shapeCasts_S1x1x96x128_S96x128)
def packO (o : FVec F S96x128 .f32) : FVec F S96x128 .bf16 := shapeCast S96x128 (truncf .bf16 o bitsLt_bf16_f32) shapeCasts_S96x128_S96x128
def loO (o : FVec F S96x128 .f32) : FVec F S1x1x1x64x96 .f32 :=
  shapeCast S1x1x1x64x96 (extractStridedSlice S64x96 ![0, 0] (transpose S128x96 [1, 0] o transposes_S96x128_p1_0_S128x96) slices_S128x96_o0_0_S64x96) shapeCasts_S64x96_S1x1x1x64x96
def hiO (o : FVec F S96x128 .f32) : FVec F S1x1x1x64x96 .f32 :=
  shapeCast S1x1x1x64x96 (extractStridedSlice S64x96 ![64, 0] (transpose S128x96 [1, 0] o transposes_S96x128_p1_0_S128x96) slices_S128x96_o64_0_S64x96) shapeCasts_S64x96_S1x1x1x64x96

/-- The residual stream after the attention's projection. -/
def afterO (r : FVec F S192x576 .f32) (o : FVec F S192x576 .bf16) (w : IVec S1x576x576 8) (s : FVec F S1x576 .f32) : FVec F S192x576 .f32 :=
  addf r (mulf (matmul dot_S192x576_S576x576_S192x576_1_0_0_1_n_n none o (sitofp .bf16 (shapeCast S576x576 w shapeCasts_S1x576x576_S576x576) : FVec F S576x576 .bf16)
    (constant S192x576 .f32 0x00000000#32)) (broadcastTo S192x576 s broadcasts_S1x576_S192x576))

/-- A block of columns of the gated layer's first projection. -/
def gu (x : FVec F S192x576 .bf16) (w : IVec S1x576x256 8) (s : FVec F S1x256 .f32) : FVec F S192x256 .f32 :=
  mulf (matmul dot_S192x576_S576x256_S192x256_1_0_0_1_n_n none x (sitofp .bf16 (shapeCast S576x256 w shapeCasts_S1x576x256_S576x256) : FVec F S576x256 .bf16)
    (constant S192x256 .f32 0x00000000#32)) (broadcastTo S192x256 s broadcasts_S1x256_S192x256)

/-- The gated product of two. -/
def gated (g u : FVec F S192x256 .f32) : FVec F S192x256 .bf16 := truncf .bf16 (mulf (mulf g (logistic g)) u) bitsLt_bf16_f32

/-- The residual stream after the gated layer. -/
def afterD (r : FVec F S192x576 .f32) (a : FVec F S192x1536 .bf16) (w : IVec S1x576x1536 8) (s : FVec F S1x576 .f32) : FVec F S192x576 .f32 :=
  addf r (mulf (matmul dot_S192x1536_S576x1536_S192x576_1_1_0_0_n_n none a (sitofp .bf16 (shapeCast S576x1536 w shapeCasts_S1x576x1536_S576x1536) : FVec F S576x1536 .bf16)
    (constant S192x576 .f32 0x00000000#32)) (broadcastTo S192x576 s broadcasts_S1x576_S192x576))

/-! ## The program -/

/-- What the first point sets up for one sequence. -/
def initSeq (b : Fin 2) : Cmd F PUnit := do
  let c : Vec F S1x32x96 .f32 ← ld .cos (rCS b) h_S1x32x96
  let s : Vec F S1x32x96 .f32 ← ld .sin (rCS b) h_S1x32x96
  let _ : Vec F S1x96x128 .f32 ← ld .cosS (rCos b) h_S1x96x128
  sv .cosS (rCos b) (cosTile c) h_S1x96x128 (.inl rfl)
  let _ : Vec F S1x96x128 .f32 ← ld .sinS (rCos b) h_S1x96x128
  sv .sinS (rCos b) (sinTile s) h_S1x96x128 (.inl rfl)

/-- What the first point sets up. -/
def initP : Cmd F PUnit := do
  let r : Vec F S192x576 .f32 ← ld .r0 (wS192x576) h_S192x576
  let _ : Vec F S192x576 .f32 ← ld .r (wS192x576) h_S192x576
  sv .r (wS192x576) (shapeCast S192x576 r shapeCasts_S192x576_S192x576) h_S192x576 (.inl rfl)
  initSeq 0
  initSeq 1
  let _ : Vec F S2x3x64x128 .bf16 ← ld .kn (wS2x3x64x128) h_S2x3x64x128
  sv .kn (wS2x3x64x128) (shapeCast S2x3x64x128 (broadcast S2x3x64x128 (Scalar.ofBits .bf16 0x0000#16)) shapeCasts_S2x3x64x128_S2x3x64x128) h_S2x3x64x128 (.inr packedN)
  let _ : Vec F S2x3x64x128 .bf16 ← ld .vn (wS2x3x64x128) h_S2x3x64x128
  sv .vn (wS2x3x64x128) (shapeCast S2x3x64x128 (broadcast S2x3x64x128 (Scalar.ofBits .bf16 0x0000#16)) shapeCasts_S2x3x64x128_S2x3x64x128) h_S2x3x64x128 (.inr packedN)
  let _ : Vec F S2x3x1x128 .f32 ← ld .kns (wS2x3x1x128) h_S2x3x1x128
  sv .kns (wS2x3x1x128) (shapeCast S2x3x1x128 (broadcast S2x3x1x128 (Scalar.ofBits .f32 0x00000000#32)) shapeCasts_S2x3x1x128_S2x3x1x128) h_S2x3x1x128 (.inl rfl)
  let _ : Vec F S2x3x1x128 .f32 ← ld .vns (wS2x3x1x128) h_S2x3x1x128
  sv .vns (wS2x3x1x128) (shapeCast S2x3x1x128 (broadcast S2x3x1x128 (Scalar.ofBits .f32 0x00000000#32)) shapeCasts_S2x3x1x128_S2x3x1x128) h_S2x3x1x128 (.inl rfl)

/-- One query head is written. -/
def qStore (b : Fin 2) (h : Fin 9) (x : FVec F S1x1x96x128 .bf16) : Cmd F PUnit := do
  let _ : Vec F S1x1x96x128 .bf16 ← ld .q (rQs b h) h_S1x1x96x128
  sv .q (rQs b h) x h_S1x1x96x128 (.inr (packedQs b h))

/-- A pair of query heads. -/
def qPair (b : Fin 2) (c : Fin 5) (h0 h1 : Fin 9) (x : FVec F S192x960 .f32) : Cmd F PUnit := do
  let cs : Vec F S1x96x128 .f32 ← ld .cosS (rCos b) h_S1x96x128
  let sn : Vec F S1x96x128 .f32 ← ld .sinS (rCos b) h_S1x96x128
  qStore b h0 (half loLane (turn (extractStridedSlice S96x128 ![96 * b.val, 128 * c.val] x (slicesQ b c)) cs sn))
  qStore b h1 (half hiLane (turn (extractStridedSlice S96x128 ![96 * b.val, 128 * c.val] x (slicesQ b c)) cs sn))

/-- The last query head. -/
def qLast (b : Fin 2) (x : FVec F S192x960 .f32) : Cmd F PUnit := do
  let cs : Vec F S1x96x128 .f32 ← ld .cosS (rCos b) h_S1x96x128
  let sn : Vec F S1x96x128 .f32 ← ld .sinS (rCos b) h_S1x96x128
  qStore b 8 (half loLane (turn (extractStridedSlice S96x128 ![96 * b.val, 512] x (slicesQ b 4)) cs sn))

/-- One head's new keys, -/
def kStore (b : Fin 2) (k : Fin 3) (x : FVec F S64x96 .f32) : Cmd F PUnit := do
  let _ : Vec F S1x1x1x64x96 .i8 ← ld .kc (rKc b k) h_S1x1x1x64x96
  sv .kc (rKc b k) (code8 x) h_S1x1x1x64x96 (.inr (packedKc b k))
  let _ : Vec F S1x1x1x96 .f32 ← ld .kcs (rKs b k) h_S1x1x1x96
  sv .kcs (rKs b k) (scale4 x) h_S1x1x1x96 (.inl rfl)
  let _ : Vec F S1x1x64x96 .bf16 ← ld .kn (rKn b k) h_S1x1x64x96
  sv .kn (rKn b k) (code16 x) h_S1x1x64x96 (.inr (packedKn b k))
  let _ : Vec F S1x1x1x96 .f32 ← ld .kns (rKns b k) h_S1x1x1x96
  sv .kns (rKns b k) (scale4 x) h_S1x1x1x96 (.inl rfl)

/-- and its new values. -/
def vStore (b : Fin 2) (k : Fin 3) (x : FVec F S64x96 .f32) : Cmd F PUnit := do
  let _ : Vec F S1x1x1x64x96 .i8 ← ld .vc (rKc b k) h_S1x1x1x64x96
  sv .vc (rKc b k) (code8 x) h_S1x1x1x64x96 (.inr (packedKc b k))
  let _ : Vec F S1x1x1x96 .f32 ← ld .vcs (rKs b k) h_S1x1x1x96
  sv .vcs (rKs b k) (scale4 x) h_S1x1x1x96 (.inl rfl)
  let _ : Vec F S1x1x64x96 .bf16 ← ld .vn (rKn b k) h_S1x1x64x96
  sv .vn (rKn b k) (code16 x) h_S1x1x64x96 (.inr (packedKn b k))
  let _ : Vec F S1x1x1x96 .f32 ← ld .vns (rKns b k) h_S1x1x1x96
  sv .vns (rKns b k) (scale4 x) h_S1x1x1x96 (.inl rfl)

/-- A sequence's queries, keys and values. -/
def seqP (b : Fin 2) (x : FVec F S192x960 .f32) : Cmd F PUnit := do
  qPair b 0 0 1 x
  qPair b 1 2 3 x
  qPair b 2 4 5 x
  qPair b 3 6 7 x
  qLast b x
  let c : Vec F S1x32x96 .f32 ← ld .cos (rCS b) h_S1x32x96
  let s : Vec F S1x32x96 .f32 ← ld .sin (rCS b) h_S1x32x96
  kStore b 0 (turnK (kvHead (kvT x b) 0) c s)
  vStore b 0 (kvHead (kvT x b) 3)
  kStore b 1 (turnK (kvHead (kvT x b) 1) c s)
  vStore b 1 (kvHead (kvT x b) 4)
  kStore b 2 (turnK (kvHead (kvT x b) 2) c s)
  vStore b 2 (kvHead (kvT x b) 5)

/-- The first stage: queries, keys and values of both sequences. -/
def preP (i : grid0.Coords) : Cmd F PUnit := do
  let r : Vec F S192x576 .f32 ← ld .r (wS192x576) h_S192x576
  let g : Vec F S1x576 .f32 ← ld .an (row576 i) h_S1x576
  let w : Vec F S1x576x960 .i8 ← ld .wqkv (wS1x576x960) h_S1x576x960
  let s : Vec F S1x960 .f32 ← ld .sqkv (row960 i) h_S1x960
  seqP 0 (qkv (rms r g) w s)
  seqP 1 (qkv (rms r g) w s)

/-- A pair of heads' outputs, packed -/
def oStore (b : Fin 2) (c : Fin 5) (o : FVec F S96x128 .f32) : Cmd F PUnit := do
  let _ : Vec F S96x128 .bf16 ← ld .o (rO b c) h_S96x128
  sv .o (rO b c) (packO o) h_S96x128 (.inr (packedO b c))

/-- and turned. -/
def oTStore (b : Fin 2) (h : Fin 9) (o : FVec F S1x1x1x64x96 .f32) : Cmd F PUnit := do
  let _ : Vec F S1x1x1x64x96 .f32 ← ld .oT (rOT b h) h_S1x1x1x64x96
  sv .oT (rOT b h) o h_S1x1x1x64x96 (.inl rfl)

def oPair (b : Fin 2) (c : Fin 5) (h0 h1 : Fin 9) : Cmd F PUnit := do
  let x : Vec F S1x1x96x128 .f32 ← ld .act (rAct b h0) h_S1x1x96x128
  let y : Vec F S1x1x96x128 .f32 ← ld .act (rAct b h1) h_S1x1x96x128
  oStore b c (pairO x y)
  oTStore b h0 (loO (pairO x y))
  oTStore b h1 (hiO (pairO x y))

def oLast (b : Fin 2) : Cmd F PUnit := do
  let x : Vec F S1x1x96x128 .f32 ← ld .act (rAct b 8) h_S1x1x96x128
  oStore b 4 (shapeCast S96x128 x shapeCasts_S1x1x96x128_S96x128)
  oTStore b 8 (loO (shapeCast S96x128 x shapeCasts_S1x1x96x128_S96x128))

/-- The first pair of heads' outputs, packed; they are returned turned, whole and the first's. -/
def oFirst : Cmd F (Σ' (_ : FVec F S128x96 .f32), FVec F S64x96 .f32) := do
  let x : Vec F S1x1x96x128 .f32 ← ld .act (rAct 0 0) h_S1x1x96x128
  let y : Vec F S1x1x96x128 .f32 ← ld .act (rAct 0 1) h_S1x1x96x128
  oStore 0 0 (pairO x y)
  pure ⟨transpose S128x96 [1, 0] (pairO x y) transposes_S96x128_p1_0_S128x96,
    extractStridedSlice S64x96 ![0, 0] (transpose S128x96 [1, 0] (pairO x y) transposes_S96x128_p1_0_S128x96) slices_S128x96_o0_0_S64x96⟩

/-- Both sequences' heads' outputs after that. -/
def outRest (p : Σ' (_ : FVec F S128x96 .f32), FVec F S64x96 .f32) : Cmd F PUnit := do
  oTStore 0 0 (shapeCast S1x1x1x64x96 p.2 shapeCasts_S64x96_S1x1x1x64x96)
  oTStore 0 1 (shapeCast S1x1x1x64x96 (extractStridedSlice S64x96 ![64, 0] p.1 slices_S128x96_o64_0_S64x96) shapeCasts_S64x96_S1x1x1x64x96)
  oPair 0 1 2 3
  oPair 0 2 4 5
  oPair 0 3 6 7
  oLast 0
  oPair 1 0 0 1
  oPair 1 1 2 3
  oPair 1 2 4 5
  oPair 1 3 6 7
  oLast 1

/-- A block of the gated layer. -/
def guP (i : grid0.Coords) (x : FVec F S192x576 .bf16) (j : Fin 12) (j' : Fin 12) : Cmd F (FVec F S192x256 .bf16) := do
  let w : Vec F S1x576x256 .i8 ← ld .wgu (rGU j) h_S1x576x256
  let s : Vec F S1x256 .f32 ← ld .sgu (rowGU i j) h_S1x256
  let w' : Vec F S1x576x256 .i8 ← ld .wgu (rGU j') h_S1x576x256
  let s' : Vec F S1x256 .f32 ← ld .sgu (rowGU i j') h_S1x256
  pure (gated (gu x w s) (gu x w' s'))

/-- The two projections. -/
def projP (i : grid0.Coords) : Cmd F PUnit := do
  let r : Vec F S192x576 .f32 ← ld .r (wS192x576) h_S192x576
  let o : Vec F S192x576 .bf16 ← ld .o rOdot h_S192x576
  let w : Vec F S1x576x576 .i8 ← ld .wo (wS1x576x576) h_S1x576x576
  let s : Vec F S1x576 .f32 ← ld .so (row576 i) h_S1x576
  let g : Vec F S1x576 .f32 ← ld .mn (row576 i) h_S1x576
  let a0 ← guP i (rms (afterO r o w s) g) 0 6
  let a1 ← guP i (rms (afterO r o w s) g) 1 7
  let a2 ← guP i (rms (afterO r o w s) g) 2 8
  let a3 ← guP i (rms (afterO r o w s) g) 3 9
  let a4 ← guP i (rms (afterO r o w s) g) 4 10
  let a5 ← guP i (rms (afterO r o w s) g) 5 11
  let wd : Vec F S1x576x1536 .i8 ← ld .wd (wS1x576x1536) h_S1x576x1536
  let sd : Vec F S1x576 .f32 ← ld .sd (row576 i) h_S1x576
  have x : FVec F S192x576 .f32 := afterD (afterO r o w s)
    (concatenate S192x1536 1 [⟨S192x256, a0⟩, ⟨S192x256, a1⟩, ⟨S192x256, a2⟩, ⟨S192x256, a3⟩, ⟨S192x256, a4⟩, ⟨S192x256, a5⟩]
      concatenates_S192x256_S192x256_S192x256_S192x256_S192x256_S192x256_S192x1536_d1) wd sd
  let _ : Vec F S192x576 .f32 ← ld .r (wS192x576) h_S192x576
  sv .r (wS192x576) (shapeCast S192x576 x shapeCasts_S192x576_S192x576) h_S192x576 (.inl rfl)
  let _ : Vec F S1x192x576 .f32 ← ld .res (wS1x192x576) h_S1x192x576
  sv .res (wS1x192x576) (shapeCast S1x192x576 x shapeCasts_S192x576_S1x192x576) h_S1x192x576 (.inl rfl)

/-- Whether the point is the first. -/
abbrev First (i : grid0.Coords) : Prop :=
  Scalar.cmpi .ne (Scalar.extui (Scalar.cmpi .eq (BitVec.ofNat 32 (i 0).val) 0#32)) 0#32 = 1#1

/-- The body after the set-up, the loop on the machine's programs. -/
def bodyRest (i : grid0.Coords) (R : Refs) : Prog (TpuEff nD τ sig (Elt F) Λ₀ .tc) PUnit :=
  (preP i).toProg R >>= fun _ =>
    ((Scf.Loop.for k0_t1_loop k0_t1_ok ⟨⟩ fun t _ => tripP t R causal lane256) >>= fun _ => oFirst.toProg R) >>= fun p =>
    (outRest p >>= fun _ => projP i).toProg R

end Cert.LayersIdeal.Hand

end
-- ==== Proof.LayersIdealWalk.lean ====
/-
  What a staged program leaves, without running it by hand: known contents are a set of elements per buffer together
  with their values, and `Tr` says that from such knowledge a program returns a given value and adds to what is known.
  Then the layer's program as two trips in a row.
-/
module

public import proofs.«01_k».proof.Proof.LayersIdealBody

@[expose] public section

set_option maxRecDepth 65536

noncomputable section

namespace Cert.LayersIdeal.Hand

open Cert.LayersIdeal Cert.LayersIdeal.Gen
open Idealize.ShloMosaic Idealize.ShloMosaic.TcCoe Idealize.ShloMosaic.Tactic
open Idealize.SL.Sem

variable {F : FTy → Type} [FloatOps F]

/-! ## The loop is its two trips -/

abbrev t0 : Trip := ⟨0, by decide⟩
abbrev t1 : Trip := ⟨1, by decide⟩

theorem loop_eq {E : Type → Type} (f : Trip → PUnit → Prog E PUnit) :
    Scf.Loop.for k0_t1_loop k0_t1_ok ⟨⟩ f = f t0 ⟨⟩ >>= fun _ => f t1 ⟨⟩ := by
  unfold Scf.Loop.for
  rw [Scf.for_eq, show List.finRange (Scf.trips k0_t1_loop.lb k0_t1_loop.ub k0_t1_loop.st) = [t0, t1] from by decide]
  simp only [Scf.forFrom_cons, Scf.forFrom_nil]
  congr 1
  funext a
  exact Prog.bind_pure _

/-- The layer's program. -/
def layerP (i : grid0.Coords) : Cmd F PUnit :=
  preP i >>= fun _ => trip t0 causal lane256 >>= fun _ => trip t1 causal lane256 >>= fun _ => oFirst >>= fun p => outRest p >>= fun _ => projP i

theorem bodyRest_eq (i : grid0.Coords) (R : Refs) : bodyRest (F := F) i R = (layerP i).toProg R := by
  unfold bodyRest layerP
  rw [loop_eq]
  simp only [Cmd.toProg_bind, tripP_eq, bind_assoc]

/-! ## Knowledge -/

/-- The elements known of each buffer. -/
abbrev Kn := (b : Bf) → Set b.sh.Idx

/-- The contents `st` are `G`'s at the known elements. -/
def Ok (S : Kn) (G st : St F) : Prop := ∀ b, ∀ x ∈ S b, st b x = G b x

theorem Ok.mono {S S' : Kn} {G st : St F} (h : Ok S G st) (hS : S' ≤ S) : Ok S' G st := fun b x hx => h b x (hS b hx)

/-- Only elements of one buffer. -/
def only (b : Bf) (s : Set b.sh.Idx) : Kn := Function.update ⊥ b s

theorem only_self (b : Bf) (s : Set b.sh.Idx) : only b s b = s := Function.update_self ..
theorem only_ne {b b' : Bf} (s : Set b.sh.Idx) (h : b' ≠ b) : only b s b' = ∅ := Function.update_of_ne h ..

variable {α β : Type} (X : S2.Idx → BitVec 32) (G : St F)

/-- From any knowledge that includes `B` the program returns `a` and also `W` is known afterwards. -/
def Tr (B : Kn) (p : Cmd F α) (a : α) (W : Kn) : Prop :=
  ∀ S, B ≤ S → ∀ st, Ok S G st → (p.run X st).1 = a ∧ Ok (S ⊔ W) G (p.run X st).2

/-- A rectangle read off contents. -/
abbrev rd (st : St F) (b : Bf) (r : Rect b.sh) : r.shape.Idx → Elt F b.el := fun y => st b (r.toLoadRect.idx y)

variable {X G}

theorem Tr.base {B B' W : Kn} {p : Cmd F α} {a : α} (h : Tr X G B p a W) (hB : B ≤ B') : Tr X G B' p a W :=
  fun S hS => h S (hB.trans hS)

theorem Tr.weak {B W W' : Kn} {p : Cmd F α} {a : α} (h : Tr X G B p a W) (hW : W' ≤ W) : Tr X G B p a W' :=
  fun S hS st hst => ⟨(h S hS st hst).1, (h S hS st hst).2.mono (sup_le_sup_left hW S)⟩

theorem Tr.pure {B : Kn} (a : α) : Tr X G B (pure a : Cmd F α) a ⊥ :=
  fun S hS st hst => ⟨rfl, by rw [sup_bot_eq]; exact hst⟩

theorem Tr.bind {B W W' : Kn} {p : Cmd F α} {k : α → Cmd F β} {a : α} {b : β} (h : Tr X G B p a W) (h' : Tr X G (B ⊔ W) (k a) b W') :
    Tr X G B (p >>= k) b (W ⊔ W') := by
  intro S hS st hst
  rw [Cmd.run_bind]
  obtain ⟨e, h1⟩ := h S hS st hst
  obtain ⟨e', h2⟩ := h' (S ⊔ W) (sup_le_sup_right hS W) _ h1
  rw [e]
  exact ⟨e', by rw [← sup_assoc]; exact h2⟩

/-- In a row, the second needing nothing of the first. -/
theorem Tr.seq {B W W' : Kn} {p : Cmd F α} {k : α → Cmd F β} {a : α} {b : β} (h : Tr X G B p a W) (h' : Tr X G B (k a) b W') :
    Tr X G B (p >>= k) b (W ⊔ W') := h.bind (h'.base le_sup_left)

/-- A load of known elements. -/
theorem Tr.ld {B W : Kn} {b : Bf} {r : Rect b.sh} {hn : 0 < r.shape.numel} {k : (r.shape.Idx → Elt F b.el) → Cmd F β} {a : β}
    (hr : ∀ y, r.toLoadRect.idx y ∈ B b) (h : Tr X G B (k (rd G b r)) a W) : Tr X G B (ld b r hn >>= k) a W := by
  intro S hS st hst
  have e : (fun y => st b (r.toLoadRect.idx y)) = rd G b r := funext fun y => hst b _ (hS b (hr y))
  show ((k fun y => st b (r.toLoadRect.idx y)).run X st).1 = a ∧ Ok (S ⊔ W) G ((k fun y => st b (r.toLoadRect.idx y)).run X st).2
  rw [e]
  exact h S hS st hst

/-- A load whose value is not used. -/
theorem Tr.dead {B W : Kn} {b : Bf} {r : Rect b.sh} {hn : 0 < r.shape.numel} {p : Cmd F β} {a : β}
    (h : Tr X G B p a W) : Tr X G B (Hand.ld b r hn >>= fun _ => p) a W := fun S hS st hst => h S hS st hst

/-- A store of known values. -/
theorem Tr.sv {B : Kn} {b : Bf} {r : Rect b.sh} {w : r.shape.Idx → Elt F b.el} {hn : 0 < r.shape.numel}
    {h' : b.el.bits = 32 ∨ r.PackedRows b.el.packing} {s : Set b.sh.Idx} (hw : ∀ y, w y = G b (r.emb y)) (hs : s ⊆ r.set) :
    Tr X G B (sv b r w hn h') ⟨⟩ (only b s) := by
  intro S hS st hst
  refine ⟨rfl, fun b' x hx => ?_⟩
  show Function.update st b (put r w (st b)) b' x = G b' x
  by_cases e : b' = b
  · subst e
    rw [Function.update_self]
    by_cases hm : x ∈ r.set
    · obtain ⟨y, rfl⟩ := r.exists_idx_of_mem hm
      exact (put_emb r w _ y).trans (hw y)
    · rw [put_miss r w _ x hm]
      rcases hx with hx | hx
      · exact hst b' x hx
      · rw [only_self] at hx; exact absurd (hs hx) hm
  · rw [Function.update_of_ne e]
    rcases hx with hx | hx
    · exact hst b' x hx
    · rw [only_ne s e] at hx; exact hx.elim

/-- A dead load and a store, as the kernel stores. -/
theorem Tr.ldsv {B : Kn} {b : Bf} {r : Rect b.sh} {w : r.shape.Idx → Elt F b.el} {hn : 0 < r.shape.numel}
    {h' : b.el.bits = 32 ∨ r.PackedRows b.el.packing} {s : Set b.sh.Idx} (hw : ∀ y, w y = G b (r.emb y)) (hs : s ⊆ r.set) :
    Tr X G B (Hand.ld b r hn >>= fun _ => Hand.sv b r w hn h') ⟨⟩ (only b s) := Tr.dead (Tr.sv hw hs)

/-- A dead load, a store and what follows. -/
theorem Tr.ldsvk {B W : Kn} {b : Bf} {r : Rect b.sh} {w : r.shape.Idx → Elt F b.el} {hn : 0 < r.shape.numel} {k : Cmd F β} {a : β}
    {h' : b.el.bits = 32 ∨ r.PackedRows b.el.packing} {s : Set b.sh.Idx} (hw : ∀ y, w y = G b (r.emb y)) (hs : s ⊆ r.set) (hk : Tr X G B k a W) :
    Tr X G B (Hand.ld b r hn >>= fun _ => Hand.sv b r w hn h' >>= fun _ => k) a (only b s ⊔ W) := Tr.dead ((Tr.sv hw hs).seq hk)

theorem emb_val {s : Shape} (off size : Fin s.rank → ℕ) (inb) (y : (Rect.unit (s := s) off size inb).shape.Idx) (a : Fin s.rank) :
    ((Rect.unit (s := s) off size inb).emb y a : ℕ) = off a + (y a).val := by
  simp [Rect.emb_apply]

end Cert.LayersIdeal.Hand

end
-- ==== Proof.LayersIdealModel.lean ====
/-
  What one decoder layer computes from its inputs, the residual stream, the spread tables and the zero lanes of the new
  keys and values: every buffer's contents after the layer, as functions.
-/
module

public import proofs.«01_k».proof.Proof.LayersIdealWalk
public import Idealize.ShloMosaic.Lib.ValueIdxCore

@[expose] public section

set_option maxRecDepth 65536

noncomputable section

namespace Cert.LayersIdeal.Hand

open Cert.LayersIdeal Cert.LayersIdeal.Gen
open Idealize.ShloMosaic Idealize.ShloMosaic.TcCoe Idealize.ShloMosaic.Tactic
open Idealize.ShloMosaic.ValueIdx
open Idealize.SL.Sem

variable {F : FTy → Type} [FloatOps F]

/-! ## What the first point sets up -/

/-- The set-up's contents. -/
def initM (inp : St F) : St F
  | .r => shapeCast S192x576 (rd inp .r0 wS192x576) shapeCasts_S192x576_S192x576
  | .cosS => fun x : S2x96x128.Idx => cosTile (rd inp .cos (rCS (x 0))) (ix3 0 (x 1) (x 2))
  | .sinS => fun x : S2x96x128.Idx => sinTile (rd inp .sin (rCS (x 0))) (ix3 0 (x 1) (x 2))
  | .kn => shapeCast S2x3x64x128 (broadcast S2x3x64x128 (Scalar.ofBits .bf16 0x0000#16)) shapeCasts_S2x3x64x128_S2x3x64x128
  | .vn => shapeCast S2x3x64x128 (broadcast S2x3x64x128 (Scalar.ofBits .bf16 0x0000#16)) shapeCasts_S2x3x64x128_S2x3x64x128
  | .kns => shapeCast S2x3x1x128 (broadcast S2x3x1x128 (Scalar.ofBits .f32 0x00000000#32)) shapeCasts_S2x3x1x128_S2x3x1x128
  | .vns => shapeCast S2x3x1x128 (broadcast S2x3x1x128 (Scalar.ofBits .f32 0x00000000#32)) shapeCasts_S2x3x1x128_S2x3x1x128
  | b => inp b

/-! ## A layer -/

section Layer
variable (i : grid0.Coords) (X : S2.Idx → BitVec 32) (a : St F)

/-- The queries, keys and values of both sequences. -/
def xq : FVec F S192x960 .f32 := qkv (rms (rd a .r wS192x576) (rd a .an (row576 i))) (rd a .wqkv wS1x576x960) (rd a .sqkv (row960 i))

theorem div2_lt (h : Fin 9) : h.val / 2 < 5 := by omega
theorem div3_lt (h : Fin 9) : h.val / 3 < 3 := by omega
theorem mod3_lt (h : Fin 9) : h.val % 3 < 3 := by omega

/-- A query head: its half of its pair, turned. -/
def qHead (b : Fin 2) (h : Fin 9) : FVec F S1x1x96x128 .bf16 :=
  half (if h.val % 2 = 0 then loLane else hiLane)
    (turn (extractStridedSlice S96x128 ![96 * b.val, 128 * (h.val / 2)] (xq i a) (slicesQ b ⟨h.val / 2, div2_lt h⟩))
      (rd a .cosS (rCos b)) (rd a .sinS (rCos b)))

theorem q_lt (x : S2x3x288x128.Idx) : 3 * (x 1).val + (x 2).val / 96 < 9 := by
  have h1 : (x 1).val < 3 := (x 1).isLt
  have h2 : (x 2).val < 288 := (x 2).isLt
  omega

def qM (x : S2x3x288x128.Idx) : Elt F .bf16 :=
  qHead i a (x 0) ⟨3 * (x 1).val + (x 2).val / 96, q_lt x⟩ (ix4 0 0 ⟨(x 2).val % 96, Nat.mod_lt _ (by decide)⟩ (x 3))

/-- A head's new keys, -/
def kV (b : Fin 2) (k : Fin 3) : FVec F S64x96 .f32 := turnK (kvHead (kvT (xq i a) b) ⟨k.val, by omega⟩) (rd a .cos (rCS b)) (rd a .sin (rCS b))
/-- and values. -/
def vV (b : Fin 2) (k : Fin 3) : FVec F S64x96 .f32 := kvHead (kvT (xq i a) b) ⟨k.val + 3, by omega⟩

/-- The codes, -/
def codeM (f : Fin 2 → Fin 3 → FVec F S64x96 .f32) (x : S1x2x3x64x96.Idx) : Elt F .i8 := code8 (f (x 1) (x 2)) (ix5 0 0 0 (x 3) (x 4))
/-- the scales, -/
def scaleM (f : Fin 2 → Fin 3 → FVec F S64x96 .f32) (x : S1x3x2x96.Idx) : Elt F .f32 := scale4 (f (x 2) (x 1)) (ix4 0 0 0 (x 3))
/-- the codes as the attention reads them -/
def newM (f : Fin 2 → Fin 3 → FVec F S64x96 .f32) (z : S2x3x64x128.Idx → Elt F .bf16) (x : S2x3x64x128.Idx) : Elt F .bf16 :=
  if h : (x 3).val < 96 then code16 (f (x 0) (x 1)) (ix4 0 0 (x 2) ⟨(x 3).val, h⟩) else z x
/-- and the scales as it reads them. -/
def newSM (f : Fin 2 → Fin 3 → FVec F S64x96 .f32) (z : S2x3x1x128.Idx → Elt F .f32) (x : S2x3x1x128.Idx) : Elt F .f32 :=
  if h : (x 3).val < 96 then scale4 (f (x 0) (x 1)) (ix4 0 0 0 ⟨(x 3).val, h⟩) else z x

/-- The number of key tiles less one. -/
def cnt (t : Trip) : Fin 8 := pick (tiles (lenAt X t)) id

/-- The lanes left in the last tile. -/
def leftW (t : Trip) : BitVec 32 := Scalar.subi (lenAt X t) (BitVec.ofNat 32 (256 * (cnt X t).val))

section Head
variable (t : Trip) (k : Fin 3)

def qP : FVec F S288x128 .bf16 := shapeCast S288x128 (fun y => qM i a ((rQ t k).toLoadRect.idx y)) shapeCasts_S1x1x288x128_S288x128

/-- A tile's scores, -/
def scoreT (j : Fin 8) : FVec F S288x256 .f32 :=
  score (qP i a t k) (shapeCast S64x256 (rd a .kt (rT t k j)) shapeCasts_S1x1x1x64x256_S64x256)
    (shapeCast S1x256 (rd a .ks (rS t k j)) shapeCasts_S1x1x1x256_S1x256)

/-- masked in the last. -/
def sVal (j : Fin 8) : FVec F S288x256 .f32 := if j = cnt X t then maskTile lane256 (leftW X t) (scoreT i a t k j) else scoreT i a t k j

theorem s_lt (x : S3x288x2048.Idx) : (x 2).val / 256 < 8 := by
  have h2 : (x 2).val < 2048 := (x 2).isLt
  omega

/-- The running maximum. -/
def mAcc : (j : ℕ) → j ≤ 8 → FVec F S288x128 .f32
  | 0, _ => broadcast S288x128 (Scalar.ofBits .f32 0xFF800000#32)
  | j + 1, h => maxTile (mAcc j (Nat.le_of_succ_le h)) (sVal i X a t k ⟨j, h⟩)

def snM : FVec F S288x128 .f32 := scoreNew causal (qP i a t k)
  (shapeCast S64x128 (fun y => newM (kV i a) (a .kn) ((rN t k).toLoadRect.idx y)) shapeCasts_S1x1x64x128_S64x128)
  (shapeCast S1x128 (fun y => newSM (kV i a) (a .kns) ((rNs t k).toLoadRect.idx y)) shapeCasts_S1x1x1x128_S1x128)

def mxM : FVec F S288x1 .f32 := rowMax (mAcc i X a t k ((cnt X t).val + 1) (cnt X t).isLt) (snM i a t k)

def p0M : FVec F S288x128 .f32 := pNew (mxM i X a t k) (snM i a t k)

end Head

/-- The scores as they are kept during a trip. -/
def sM (t : Trip) (x : S3x288x2048.Idx) : Elt F .f32 :=
  shapeCast S1x288x256 (sVal i X a t (x 0) ⟨(x 2).val / 256, s_lt x⟩) shapeCasts_S288x256_S1x288x256
    (ix3 0 (x 1) ⟨(x 2).val % 256, Nat.mod_lt _ (by decide)⟩)

section Head
variable (t : Trip) (k : Fin 3)

/-- What the second pass has gathered. -/
def accM : (j : ℕ) → j ≤ 8 → Acc F j
  | 0, _ => ⟨p0M i X a t k, Fin.elim0, Fin.elim0⟩
  | j + 1, h =>
    ⟨denTile (accM j (Nat.le_of_succ_le h)).den
        (pTile (mxM i X a t k) (shapeCast S288x256 (fun y => sM i X a t ((rC k ⟨j, h⟩).toLoadRect.idx y)) shapeCasts_S1x288x256_S288x256)),
      ext (accM j (Nat.le_of_succ_le h)).ps
        (truncf .bf16 (mulf (pTile (mxM i X a t k) (shapeCast S288x256 (fun y => sM i X a t ((rC k ⟨j, h⟩).toLoadRect.idx y)) shapeCasts_S1x288x256_S288x256))
          (broadcastTo S288x256 (shapeCast S1x256 (rd a .vs (rS t k ⟨j, h⟩)) shapeCasts_S1x1x1x256_S1x256) broadcasts_S1x256_S288x256)) bitsLt_bf16_f32),
      ext (accM j (Nat.le_of_succ_le h)).vs (sitofp .bf16 (shapeCast S64x256 (rd a .vt (rT t k ⟨j, h⟩)) shapeCasts_S1x1x1x64x256_S64x256))⟩

/-- The attention's values of one key head's query heads. -/
def headV : FVec F S288x128 .f32 := outV ((cnt X t).val + 1) (Nat.le_add_left 1 _)
  (truncf .bf16 (mulf (p0M i X a t k) (broadcastTo S288x128
    (shapeCast S1x128 (fun y => newSM (vV i a) (a .vns) ((rNs t k).toLoadRect.idx y)) shapeCasts_S1x1x1x128_S1x128) broadcasts_S1x128_S288x128)) bitsLt_bf16_f32)
  (shapeCast S64x128 (fun y => newM (vV i a) (a .vn) ((rN t k).toLoadRect.idx y)) shapeCasts_S1x1x64x128_S64x128)
  (accM i X a t k ((cnt X t).val + 1) (cnt X t).isLt)

end Head

theorem slicesA : ∀ m : Fin 3, S288x128.Slices ![96 * m.val, 0] S96x128 := by decide +kernel

/-- The trip of a sequence. -/
def tripOf (b : Fin 2) : Trip := ⟨b.val, by rw [trips_eq]; exact b.isLt⟩

/-- A query head's values. -/
def actM (x : S2x9x96x128.Idx) : Elt F .f32 :=
  shapeCast S1x1x96x128 (extractStridedSlice S96x128 ![96 * ((x 1).val % 3), 0] (headV i X a (tripOf (x 0)) ⟨(x 1).val / 3, div3_lt (x 1)⟩) (slicesA ⟨(x 1).val % 3, mod3_lt (x 1)⟩))
    shapeCasts_S96x128_S1x1x96x128 (ix4 0 0 (x 2) (x 3))

/-- A pair of heads' values side by side; the ninth has no partner. -/
def oV (b : Fin 2) (c : Fin 5) : FVec F S96x128 .f32 :=
  if h : c.val < 4 then pairO (fun y => actM i X a ((rAct b ⟨2 * c.val, by omega⟩).toLoadRect.idx y)) (fun y => actM i X a ((rAct b ⟨2 * c.val + 1, by omega⟩).toLoadRect.idx y))
  else shapeCast S96x128 (fun y => actM i X a ((rAct b 8).toLoadRect.idx y)) shapeCasts_S1x1x96x128_S96x128

theorem o_lt0 (x : S192x640.Idx) : (x 0).val / 96 < 2 := by
  have h : (x 0).val < 192 := (x 0).isLt
  omega
theorem o_lt1 (x : S192x640.Idx) : (x 1).val / 128 < 5 := by
  have h : (x 1).val < 640 := (x 1).isLt
  omega

def oM (x : S192x640.Idx) : Elt F .bf16 :=
  packO (oV i X a ⟨(x 0).val / 96, o_lt0 x⟩ ⟨(x 1).val / 128, o_lt1 x⟩) (ix2 ⟨(x 0).val % 96, Nat.mod_lt _ (by decide)⟩ ⟨(x 1).val % 128, Nat.mod_lt _ (by decide)⟩)

/-- A head's values, tokens along lanes. -/
def oT1 (b : Fin 2) (h : Fin 9) : FVec F S1x1x1x64x96 .f32 :=
  if h.val % 2 = 0 then loO (oV i X a b ⟨h.val / 2, div2_lt h⟩) else hiO (oV i X a b ⟨h.val / 2, div2_lt h⟩)

def oTM (x : S1x2x9x64x96.Idx) : Elt F .f32 := oT1 i X a (x 1) (x 2) (ix5 0 0 0 (x 3) (x 4))

/-- The contents during trip `t` and after it. -/
def model (t : Trip) : St F
  | .q => qM i a
  | .kc => codeM (kV i a)
  | .vc => codeM (vV i a)
  | .kcs => scaleM (kV i a)
  | .vcs => scaleM (vV i a)
  | .kn => newM (kV i a) (a .kn)
  | .vn => newM (vV i a) (a .vn)
  | .kns => newSM (kV i a) (a .kns)
  | .vns => newSM (vV i a) (a .vns)
  | .s => sM i X a t
  | .act => actM i X a
  | .o => oM i X a
  | .oT => oTM i X a
  | b => a b

end Layer

/-! ## The two projections -/

/-- A block of the gated layer, off given contents. -/
def guV (i : grid0.Coords) (st : St F) (x : FVec F S192x576 .bf16) (j j' : Fin 12) : FVec F S192x256 .bf16 :=
  gated (gu x (rd st .wgu (rGU j)) (rd st .sgu (rowGU i j))) (gu x (rd st .wgu (rGU j')) (rd st .sgu (rowGU i j')))

/-- The stream after the attention's projection, -/
def afterOV (i : grid0.Coords) (st : St F) : FVec F S192x576 .f32 :=
  afterO (rd st .r wS192x576) (rd st .o rOdot) (rd st .wo wS1x576x576) (rd st .so (row576 i))

/-- and after the gated layer. -/
def projV (i : grid0.Coords) (st : St F) : FVec F S192x576 .f32 :=
  afterD (afterOV i st)
    (concatenate S192x1536 1
      [⟨S192x256, guV i st (rms (afterOV i st) (rd st .mn (row576 i))) 0 6⟩,
        ⟨S192x256, guV i st (rms (afterOV i st) (rd st .mn (row576 i))) 1 7⟩,
        ⟨S192x256, guV i st (rms (afterOV i st) (rd st .mn (row576 i))) 2 8⟩,
        ⟨S192x256, guV i st (rms (afterOV i st) (rd st .mn (row576 i))) 3 9⟩,
        ⟨S192x256, guV i st (rms (afterOV i st) (rd st .mn (row576 i))) 4 10⟩,
        ⟨S192x256, guV i st (rms (afterOV i st) (rd st .mn (row576 i))) 5 11⟩]
      concatenates_S192x256_S192x256_S192x256_S192x256_S192x256_S192x256_S192x1536_d1) (rd st .wd wS1x576x1536) (rd st .sd (row576 i))

theorem projP_run (i : grid0.Coords) (X : S2.Idx → BitVec 32) (st : St F) :
    (projP i).run X st = (⟨⟩, Function.update (Function.update st .r (put wS192x576 (shapeCast S192x576 (projV i st) shapeCasts_S192x576_S192x576) (st .r)))
      .res (put wS1x192x576 (shapeCast S1x192x576 (projV i st) shapeCasts_S192x576_S1x192x576) (st .res))) := by
  rfl

/-- Every buffer after a layer. -/
def afterL (i : grid0.Coords) (X : S2.Idx → BitVec 32) (a : St F) : St F
  | .r => shapeCast S192x576 (projV i (model i X a t1)) shapeCasts_S192x576_S192x576
  | .res => shapeCast S1x192x576 (projV i (model i X a t1)) shapeCasts_S192x576_S1x192x576
  | b => model i X a t1 b

end Cert.LayersIdeal.Hand

end
-- ==== Proof.LayersIdealWalkA.lean ====
/-
  The layer's first stage and set-up, walked: queries, keys and values.
-/
module

public import proofs.«01_k».proof.Proof.LayersIdealModel

@[expose] public section

set_option maxRecDepth 65536

noncomputable section

namespace Cert.LayersIdeal.Hand

open Cert.LayersIdeal Cert.LayersIdeal.Gen
open Idealize.ShloMosaic Idealize.ShloMosaic.TcCoe Idealize.ShloMosaic.Tactic
open Idealize.ShloMosaic.ValueIdx
open Idealize.SL.Sem

variable {F : FTy → Type} [FloatOps F]

/-! ## What is known, stage by stage -/

/-- Of the inputs everything. -/
def KIn : Kn
  | .r0 | .cos | .sin | .kt | .ks | .vt | .vs | .an | .mn | .wqkv | .sqkv | .wo | .so | .wgu | .sgu | .wd | .sd => Set.univ
  | _ => ∅

/-- The stream, the spread tables and the zero lanes too. -/
def K0 : Kn
  | .res | .oT | .kc | .kcs | .vc | .vcs | .q | .s | .o | .act => ∅
  | .kn | .vn => {x : S2x3x64x128.Idx | 96 ≤ (x 3).val}
  | .kns | .vns => {x : S2x3x1x128.Idx | 96 ≤ (x 3).val}
  | _ => Set.univ

/-- The queries and the new keys and values too. -/
def K1 : Kn
  | .res | .oT | .s | .o | .act => ∅
  | _ => Set.univ

/-- The attention's values too. -/
def K2 : Kn
  | .res | .oT | .s | .o => ∅
  | _ => Set.univ

/-- All but the layer's last result. -/
def K3 : Kn
  | .res | .s => ∅
  | _ => Set.univ

/-- Everything but the scores. -/
def K4 : Kn
  | .s => ∅
  | _ => Set.univ

/-! ## The set-up -/

section Init
variable (X : S2.Idx → BitVec 32) (inp : St F)

def WInit (b : Fin 2) : Kn
  | .cosS | .sinS => {x : S2x96x128.Idx | (x 0).val = b.val}
  | _ => ∅

theorem initSeq_tr (b : Fin 2) : Tr X (initM inp) KIn (initSeq b) ⟨⟩ (WInit b) := by
  have hs : {x : S2x96x128.Idx | (x 0).val = b.val} ⊆ (rCos b).set := by
    intro x hx
    refine Finset.mem_coe.2 ((Rect.mem_set_unit).2 ?_)
    have hx' : (x 0).val = b.val := hx
    intro a
    fin_cases a
    · show b.val ≤ (x 0).val ∧ (x 0).val < b.val + 1; omega
    · exact ⟨Nat.zero_le _, Nat.lt_of_lt_of_le (x 1).isLt (Nat.le_add_left _ _)⟩
    · exact ⟨Nat.zero_le _, Nat.lt_of_lt_of_le (x 2).isLt (Nat.le_add_left _ _)⟩
  have key : ∀ (f : Fin 2 → FVec F S1x96x128 .f32) (y : (rCos b).shape.Idx),
      f b y = f ((rCos b).emb y 0) (ix3 0 ((rCos b).emb y 1) ((rCos b).emb y 2)) := by
    intro f y
    have y0 : (y 0).val < 1 := (y 0).isLt
    have v0 : ((rCos b).emb y 0).val = b.val + (y 0).val := emb_val _ _ _ y 0
    have e0 : (rCos b).emb y 0 = b := Fin.ext (by rw [v0]; omega)
    rw [e0]
    refine congrArg (f b) ?_
    funext a
    match a with
    | ⟨0, _⟩ => exact Fin.ext (by have : (y 0).val < 1 := (y 0).isLt; show (y 0).val = 0; omega)
    | ⟨1, _⟩ => exact Fin.ext ((emb_val _ _ _ y 1).trans (Nat.zero_add _)).symm
    | ⟨2, _⟩ => exact Fin.ext ((emb_val _ _ _ y 2).trans (Nat.zero_add _)).symm
  refine Tr.weak (W := only .cosS {x : S2x96x128.Idx | (x 0).val = b.val} ⊔ only .sinS {x : S2x96x128.Idx | (x 0).val = b.val}) ?_ ?_
  · refine Tr.ld (fun _ => trivial) (Tr.ld (fun _ => trivial) (Tr.ldsvk ?_ hs (Tr.ldsv ?_ hs)))
    · exact fun y => key (fun b => cosTile (rd inp .cos (rCS b))) y
    · exact fun y => key (fun b => sinTile (rd inp .sin (rCS b))) y
  · intro b' x hx
    cases b' <;> first | exact hx.elim | exact Or.inl (by rw [only_self]; exact hx) | exact Or.inr (by rw [only_self]; exact hx)

theorem whole_emb {s : Shape} (off : Fin s.rank → ℕ) (inb) (h0 : ∀ a, off a = 0) (y : (Rect.unit (s := s) off s.size inb).shape.Idx) :
    (Rect.unit (s := s) off s.size inb).emb y = (y : s.Idx) := by
  funext a
  refine Fin.ext ?_
  rw [emb_val, h0]; exact Nat.zero_add _

theorem whole_set {s : Shape} (off : Fin s.rank → ℕ) (inb) (h0 : ∀ a, off a = 0) (S : Set s.Idx) :
    S ⊆ (Rect.unit (s := s) off s.size inb).set := by
  intro x _
  refine Finset.mem_coe.2 ((Rect.mem_set_unit).2 ?_)
  intro a
  rw [h0]
  exact ⟨Nat.zero_le _, by rw [Nat.zero_add]; exact (x a).isLt⟩

theorem zero2 : ∀ a : Fin 2, (![0, 0] : Fin 2 → ℕ) a = 0 := by decide
theorem zero3 : ∀ a : Fin 3, (![0, 0, 0] : Fin 3 → ℕ) a = 0 := by decide
theorem zero4 : ∀ a : Fin 4, (![0, 0, 0, 0] : Fin 4 → ℕ) a = 0 := by decide

/-- The set-up. -/
theorem initP_tr : Tr X (initM inp) KIn initP ⟨⟩ K0 := by
  refine Tr.weak (W := only .r Set.univ ⊔ (WInit 0 ⊔ (WInit 1 ⊔ (only .kn Set.univ ⊔ (only .vn Set.univ ⊔ (only .kns Set.univ ⊔ only .vns Set.univ))))) ⊔ KIn) ?_ ?_
  · intro S hS st hst
    have h := Tr.ld (X := X) (G := initM inp) (B := KIn) (b := .r0) (r := wS192x576) (hn := h_S192x576)
      (k := fun r => Hand.ld .r wS192x576 h_S192x576 >>= fun _ => Hand.sv .r wS192x576 (shapeCast S192x576 r shapeCasts_S192x576_S192x576) h_S192x576 (.inl rfl) >>= fun _ =>
        initSeq 0 >>= fun _ => initSeq 1 >>= fun _ =>
        Hand.ld .kn wS2x3x64x128 h_S2x3x64x128 >>= fun _ => Hand.sv .kn (wS2x3x64x128) (shapeCast S2x3x64x128 (broadcast S2x3x64x128 (Scalar.ofBits .bf16 0x0000#16)) shapeCasts_S2x3x64x128_S2x3x64x128) h_S2x3x64x128 (.inr packedN) >>= fun _ =>
        Hand.ld .vn wS2x3x64x128 h_S2x3x64x128 >>= fun _ => Hand.sv .vn (wS2x3x64x128) (shapeCast S2x3x64x128 (broadcast S2x3x64x128 (Scalar.ofBits .bf16 0x0000#16)) shapeCasts_S2x3x64x128_S2x3x64x128) h_S2x3x64x128 (.inr packedN) >>= fun _ =>
        Hand.ld .kns wS2x3x1x128 h_S2x3x1x128 >>= fun _ => Hand.sv .kns (wS2x3x1x128) (shapeCast S2x3x1x128 (broadcast S2x3x1x128 (Scalar.ofBits .f32 0x00000000#32)) shapeCasts_S2x3x1x128_S2x3x1x128) h_S2x3x1x128 (.inl rfl) >>= fun _ =>
        Hand.ld .vns wS2x3x1x128 h_S2x3x1x128 >>= fun _ => Hand.sv .vns (wS2x3x1x128) (shapeCast S2x3x1x128 (broadcast S2x3x1x128 (Scalar.ofBits .f32 0x00000000#32)) shapeCasts_S2x3x1x128_S2x3x1x128) h_S2x3x1x128 (.inl rfl))
      (fun _ => trivial)
      (Tr.ldsvk (fun y => congrArg (initM inp .r) (whole_emb _ _ zero2 y).symm) (whole_set _ _ zero2 Set.univ)
        ((initSeq_tr X inp 0).seq ((initSeq_tr X inp 1).seq
          (Tr.ldsvk (fun y => congrArg (initM inp .kn) (whole_emb _ _ zero4 y).symm) (whole_set _ _ zero4 Set.univ)
            (Tr.ldsvk (fun y => congrArg (initM inp .vn) (whole_emb _ _ zero4 y).symm) (whole_set _ _ zero4 Set.univ)
              (Tr.ldsvk (fun y => congrArg (initM inp .kns) (whole_emb _ _ zero4 y).symm) (whole_set _ _ zero4 Set.univ)
                (Tr.ldsv (fun y => congrArg (initM inp .vns) (whole_emb _ _ zero4 y).symm) (whole_set _ _ zero4 Set.univ))))))))
    refine ⟨rfl, ?_⟩
    have h2 := (h S hS st hst).2
    refine h2.mono ?_
    intro b x hx
    rcases hx with hx | hx | hx
    · exact Or.inl hx
    · exact Or.inr hx
    · exact Or.inl (hS b hx)
  · intro b' x hx
    cases b' <;> first
      | exact hx.elim
      | exact Or.inr trivial
      | exact Or.inl (Or.inl (by rw [only_self]; trivial))
      | exact Or.inl (Or.inr (Or.inr (Or.inr (Or.inl (by rw [only_self]; trivial)))))
      | exact Or.inl (Or.inr (Or.inr (Or.inr (Or.inr (Or.inl (by rw [only_self]; trivial))))))
      | exact Or.inl (Or.inr (Or.inr (Or.inr (Or.inr (Or.inr (Or.inl (by rw [only_self]; trivial)))))))
      | exact Or.inl (Or.inr (Or.inr (Or.inr (Or.inr (Or.inr (Or.inr (by rw [only_self]; trivial)))))))
      | skip
    all_goals
      have h0 : (x 0).val < 2 := (x 0).isLt
      rcases (show (x 0).val = 0 ∨ (x 0).val = 1 by omega) with e | e
      · exact Or.inl (Or.inr (Or.inl e))
      · exact Or.inl (Or.inr (Or.inr (Or.inl e)))

end Init

/-! ## Queries, keys and values -/

section Pre
variable (i : grid0.Coords) (X : S2.Idx → BitVec 32) (a : St F) (t : Trip)

theorem qM_emb (b : Fin 2) (h : Fin 9) (y : (rQs b h).shape.Idx) : qM i a ((rQs b h).emb y) = qHead i a b h y := by
  have y0 : (y 0).val < 1 := (y 0).isLt
  have y1 : (y 1).val < 1 := (y 1).isLt
  have y2 : (y 2).val < 96 := (y 2).isLt
  have e0 : ((rQs b h).emb y 0).val = b.val + (y 0).val := emb_val _ _ _ y 0
  have e1 : ((rQs b h).emb y 1).val = h.val / 3 + (y 1).val := emb_val _ _ _ y 1
  have e2 : ((rQs b h).emb y 2).val = 96 * (h.val % 3) + (y 2).val := emb_val _ _ _ y 2
  have e3 : ((rQs b h).emb y 3).val = 0 + (y 3).val := emb_val _ _ _ y 3
  unfold qM
  have hb : (rQs b h).emb y 0 = b := Fin.ext (by rw [e0]; omega)
  have hh : (⟨3 * ((rQs b h).emb y 1).val + ((rQs b h).emb y 2).val / 96, q_lt _⟩ : Fin 9) = h := Fin.ext (by
    show 3 * ((rQs b h).emb y 1).val + ((rQs b h).emb y 2).val / 96 = h.val
    rw [e1, e2]; omega)
  rw [hb, hh]
  refine congrArg (qHead i a b h) ?_
  funext c
  match c with
  | ⟨0, _⟩ => exact Fin.ext (by show 0 = (y 0).val; omega)
  | ⟨1, _⟩ => exact Fin.ext (by show 0 = (y 1).val; omega)
  | ⟨2, _⟩ => exact Fin.ext (by show ((rQs b h).emb y 2).val % 96 = (y 2).val; rw [e2]; omega)
  | ⟨3, _⟩ => exact Fin.ext (by show ((rQs b h).emb y 3).val = (y 3).val; rw [e3]; omega)

/-- The elements of one query head. -/
def qSet (b : Fin 2) (h : Fin 9) : Set S2x3x288x128.Idx := {x | (x 0).val = b.val ∧ 3 * (x 1).val + (x 2).val / 96 = h.val}

theorem qSet_sub (b : Fin 2) (h : Fin 9) : qSet b h ⊆ (rQs b h).set := by
  rintro x ⟨h0, h1⟩
  refine Finset.mem_coe.2 ((Rect.mem_set_unit).2 ?_)
  have l1 : (x 1).val < 3 := (x 1).isLt
  have l2 : (x 2).val < 288 := (x 2).isLt
  intro c
  fin_cases c
  · show b.val ≤ (x 0).val ∧ (x 0).val < b.val + 1; omega
  · show h.val / 3 ≤ (x 1).val ∧ (x 1).val < h.val / 3 + 1; omega
  · show 96 * (h.val % 3) ≤ (x 2).val ∧ (x 2).val < 96 * (h.val % 3) + 96; omega
  · exact ⟨Nat.zero_le _, Nat.lt_of_lt_of_le (x 3).isLt (Nat.le_add_left _ _)⟩

theorem qStore_tr (b : Fin 2) (h : Fin 9) : Tr X (model i X a t) K0 (qStore b h (qHead i a b h)) ⟨⟩ (only .q (qSet b h)) :=
  Tr.ldsv (fun y => (qM_emb i a b h y).symm) (qSet_sub b h)

theorem qPair_tr (b : Fin 2) (c : Fin 5) (h0 h1 : Fin 9) (e0 : h0.val = 2 * c.val) (e1 : h1.val = 2 * c.val + 1) :
    Tr X (model i X a t) K0 (qPair b c h0 h1 (xq i a)) ⟨⟩ (only .q (qSet b h0) ⊔ only .q (qSet b h1)) := by
  have k0 : qHead i a b h0 = half loLane (turn (extractStridedSlice S96x128 ![96 * b.val, 128 * c.val] (xq i a) (slicesQ b c))
      (rd a .cosS (rCos b)) (rd a .sinS (rCos b))) := by
    unfold qHead
    obtain rfl : c = ⟨h0.val / 2, div2_lt h0⟩ := Fin.ext (by show c.val = h0.val / 2; omega)
    rw [if_pos (by omega)]
  have k1 : qHead i a b h1 = half hiLane (turn (extractStridedSlice S96x128 ![96 * b.val, 128 * c.val] (xq i a) (slicesQ b c))
      (rd a .cosS (rCos b)) (rd a .sinS (rCos b))) := by
    unfold qHead
    obtain rfl : c = ⟨h1.val / 2, div2_lt h1⟩ := Fin.ext (by show c.val = h1.val / 2; omega)
    rw [if_neg (by omega)]
  have s0 := qStore_tr i X a t b h0
  have s1 := qStore_tr i X a t b h1
  rw [k0] at s0
  rw [k1] at s1
  exact Tr.ld (fun _ => trivial) (Tr.ld (fun _ => trivial) (s0.seq s1))

theorem qLast_tr (b : Fin 2) : Tr X (model i X a t) K0 (qLast b (xq i a)) ⟨⟩ (only .q (qSet b 8)) :=
  Tr.ld (fun _ => trivial) (Tr.ld (fun _ => trivial) (qStore_tr i X a t b 8))

/-- What is written of one head's new keys or values. -/
def kcSet (b : Fin 2) (k : Fin 3) : Set S1x2x3x64x96.Idx := {x | (x 1).val = b.val ∧ (x 2).val = k.val}
def ksSet (b : Fin 2) (k : Fin 3) : Set S1x3x2x96.Idx := {x | (x 2).val = b.val ∧ (x 1).val = k.val}
def knSet (b : Fin 2) (k : Fin 3) : Set S2x3x64x128.Idx := {x | (x 0).val = b.val ∧ (x 1).val = k.val ∧ (x 3).val < 96}
def knsSet (b : Fin 2) (k : Fin 3) : Set S2x3x1x128.Idx := {x | (x 0).val = b.val ∧ (x 1).val = k.val ∧ (x 3).val < 96}

theorem kcSet_sub (b : Fin 2) (k : Fin 3) : kcSet b k ⊆ (rKc b k).set := by
  rintro x ⟨h1, h2⟩
  refine Finset.mem_coe.2 ((Rect.mem_set_unit).2 ?_)
  intro c
  fin_cases c
  · exact ⟨Nat.zero_le _, Nat.lt_of_lt_of_le (x 0).isLt (Nat.le_add_left _ _)⟩
  · show b.val ≤ (x 1).val ∧ (x 1).val < b.val + 1; omega
  · show k.val ≤ (x 2).val ∧ (x 2).val < k.val + 1; omega
  · exact ⟨Nat.zero_le _, Nat.lt_of_lt_of_le (x 3).isLt (Nat.le_add_left _ _)⟩
  · exact ⟨Nat.zero_le _, Nat.lt_of_lt_of_le (x 4).isLt (Nat.le_add_left _ _)⟩
theorem ksSet_sub (b : Fin 2) (k : Fin 3) : ksSet b k ⊆ (rKs b k).set := by
  rintro x ⟨h1, h2⟩
  refine Finset.mem_coe.2 ((Rect.mem_set_unit).2 ?_)
  intro c
  fin_cases c
  · exact ⟨Nat.zero_le _, Nat.lt_of_lt_of_le (x 0).isLt (Nat.le_add_left _ _)⟩
  · show k.val ≤ (x 1).val ∧ (x 1).val < k.val + 1; omega
  · show b.val ≤ (x 2).val ∧ (x 2).val < b.val + 1; omega
  · exact ⟨Nat.zero_le _, Nat.lt_of_lt_of_le (x 3).isLt (Nat.le_add_left _ _)⟩
theorem knSet_sub (b : Fin 2) (k : Fin 3) : knSet b k ⊆ (rKn b k).set := by
  rintro x ⟨h1, h2, h3⟩
  refine Finset.mem_coe.2 ((Rect.mem_set_unit).2 ?_)
  intro c
  fin_cases c
  · show b.val ≤ (x 0).val ∧ (x 0).val < b.val + 1; omega
  · show k.val ≤ (x 1).val ∧ (x 1).val < k.val + 1; omega
  · exact ⟨Nat.zero_le _, Nat.lt_of_lt_of_le (x 2).isLt (Nat.le_add_left _ _)⟩
  · show 0 ≤ (x 3).val ∧ (x 3).val < 0 + 96; omega
theorem knsSet_sub (b : Fin 2) (k : Fin 3) : knsSet b k ⊆ (rKns b k).set := by
  rintro x ⟨h1, h2, h3⟩
  refine Finset.mem_coe.2 ((Rect.mem_set_unit).2 ?_)
  intro c
  fin_cases c
  · show b.val ≤ (x 0).val ∧ (x 0).val < b.val + 1; omega
  · show k.val ≤ (x 1).val ∧ (x 1).val < k.val + 1; omega
  · exact ⟨Nat.zero_le _, Nat.lt_of_lt_of_le (x 2).isLt (Nat.le_add_left _ _)⟩
  · show 0 ≤ (x 3).val ∧ (x 3).val < 0 + 96; omega

theorem codeM_emb (f : Fin 2 → Fin 3 → FVec F S64x96 .f32) (b : Fin 2) (k : Fin 3) (y : (rKc b k).shape.Idx) :
    codeM f ((rKc b k).emb y) = code8 (f b k) y := by
  have y0 : (y 0).val < 1 := (y 0).isLt
  have y1 : (y 1).val < 1 := (y 1).isLt
  have y2 : (y 2).val < 1 := (y 2).isLt
  have vhb : ((rKc b k).emb y 1).val = b.val + (y 1).val := emb_val _ _ _ y 1
  have hb : (rKc b k).emb y 1 = b := Fin.ext (by rw [vhb]; omega)
  have vhk : ((rKc b k).emb y 2).val = k.val + (y 2).val := emb_val _ _ _ y 2
  have hk : (rKc b k).emb y 2 = k := Fin.ext (by rw [vhk]; omega)
  unfold codeM
  rw [hb, hk]
  refine congrArg (code8 (f b k)) ?_
  funext c
  match c with
  | ⟨0, _⟩ => exact Fin.ext (by show 0 = (y 0).val; omega)
  | ⟨1, _⟩ => exact Fin.ext (by show 0 = (y 1).val; omega)
  | ⟨2, _⟩ => exact Fin.ext (by show 0 = (y 2).val; omega)
  | ⟨3, _⟩ => exact Fin.ext ((emb_val _ _ _ y 3).trans (Nat.zero_add _))
  | ⟨4, _⟩ => exact Fin.ext ((emb_val _ _ _ y 4).trans (Nat.zero_add _))

theorem scaleM_emb (f : Fin 2 → Fin 3 → FVec F S64x96 .f32) (b : Fin 2) (k : Fin 3) (y : (rKs b k).shape.Idx) :
    scaleM f ((rKs b k).emb y) = scale4 (f b k) y := by
  have y0 : (y 0).val < 1 := (y 0).isLt
  have y1 : (y 1).val < 1 := (y 1).isLt
  have y2 : (y 2).val < 1 := (y 2).isLt
  have vhb : ((rKs b k).emb y 2).val = b.val + (y 2).val := emb_val _ _ _ y 2
  have hb : (rKs b k).emb y 2 = b := Fin.ext (by rw [vhb]; omega)
  have vhk : ((rKs b k).emb y 1).val = k.val + (y 1).val := emb_val _ _ _ y 1
  have hk : (rKs b k).emb y 1 = k := Fin.ext (by rw [vhk]; omega)
  unfold scaleM
  rw [hb, hk]
  refine congrArg (scale4 (f b k)) ?_
  funext c
  match c with
  | ⟨0, _⟩ => exact Fin.ext (by show 0 = (y 0).val; omega)
  | ⟨1, _⟩ => exact Fin.ext (by show 0 = (y 1).val; omega)
  | ⟨2, _⟩ => exact Fin.ext (by show 0 = (y 2).val; omega)
  | ⟨3, _⟩ => exact Fin.ext ((emb_val _ _ _ y 3).trans (Nat.zero_add _))

theorem newM_emb (f : Fin 2 → Fin 3 → FVec F S64x96 .f32) (z) (b : Fin 2) (k : Fin 3) (y : (rKn b k).shape.Idx) :
    newM f z ((rKn b k).emb y) = code16 (f b k) y := by
  have y0 : (y 0).val < 1 := (y 0).isLt
  have y1 : (y 1).val < 1 := (y 1).isLt
  have y3 : (y 3).val < 96 := (y 3).isLt
  have vhb : ((rKn b k).emb y 0).val = b.val + (y 0).val := emb_val _ _ _ y 0
  have hb : (rKn b k).emb y 0 = b := Fin.ext (by rw [vhb]; omega)
  have vhk : ((rKn b k).emb y 1).val = k.val + (y 1).val := emb_val _ _ _ y 1
  have hk : (rKn b k).emb y 1 = k := Fin.ext (by rw [vhk]; omega)
  have e3 : ((rKn b k).emb y 3).val = 0 + (y 3).val := emb_val _ _ _ y 3
  unfold newM
  rw [dif_pos (by rw [e3]; omega), hb, hk]
  refine congrArg (code16 (f b k)) ?_
  funext c
  match c with
  | ⟨0, _⟩ => exact Fin.ext (by show 0 = (y 0).val; omega)
  | ⟨1, _⟩ => exact Fin.ext (by show 0 = (y 1).val; omega)
  | ⟨2, _⟩ => exact Fin.ext ((emb_val _ _ _ y 2).trans (Nat.zero_add _))
  | ⟨3, _⟩ => exact Fin.ext ((emb_val _ _ _ y 3).trans (Nat.zero_add _))

theorem newSM_emb (f : Fin 2 → Fin 3 → FVec F S64x96 .f32) (z) (b : Fin 2) (k : Fin 3) (y : (rKns b k).shape.Idx) :
    newSM f z ((rKns b k).emb y) = scale4 (f b k) y := by
  have y0 : (y 0).val < 1 := (y 0).isLt
  have y1 : (y 1).val < 1 := (y 1).isLt
  have y2 : (y 2).val < 1 := (y 2).isLt
  have y3 : (y 3).val < 96 := (y 3).isLt
  have vhb : ((rKns b k).emb y 0).val = b.val + (y 0).val := emb_val _ _ _ y 0
  have hb : (rKns b k).emb y 0 = b := Fin.ext (by rw [vhb]; omega)
  have vhk : ((rKns b k).emb y 1).val = k.val + (y 1).val := emb_val _ _ _ y 1
  have hk : (rKns b k).emb y 1 = k := Fin.ext (by rw [vhk]; omega)
  have e3 : ((rKns b k).emb y 3).val = 0 + (y 3).val := emb_val _ _ _ y 3
  unfold newSM
  rw [dif_pos (by rw [e3]; omega), hb, hk]
  refine congrArg (scale4 (f b k)) ?_
  funext c
  match c with
  | ⟨0, _⟩ => exact Fin.ext (by show 0 = (y 0).val; omega)
  | ⟨1, _⟩ => exact Fin.ext (by show 0 = (y 1).val; omega)
  | ⟨2, _⟩ => exact Fin.ext (by show 0 = (y 2).val; omega)
  | ⟨3, _⟩ => exact Fin.ext ((emb_val _ _ _ y 3).trans (Nat.zero_add _))

def Wk (b : Fin 2) (k : Fin 3) : Kn
  | .kc => kcSet b k
  | .kcs => ksSet b k
  | .kn => knSet b k
  | .kns => knsSet b k
  | _ => ∅
def Wv (b : Fin 2) (k : Fin 3) : Kn
  | .vc => kcSet b k
  | .vcs => ksSet b k
  | .vn => knSet b k
  | .vns => knsSet b k
  | _ => ∅

theorem kStore_tr (b : Fin 2) (k : Fin 3) : Tr X (model i X a t) K0 (kStore b k (kV i a b k)) ⟨⟩ (Wk b k) := by
  refine Tr.weak (W := only .kc (kcSet b k) ⊔ (only .kcs (ksSet b k) ⊔ (only .kn (knSet b k) ⊔ only .kns (knsSet b k)))) ?_ ?_
  · exact Tr.ldsvk (fun y => (codeM_emb _ b k y).symm) (kcSet_sub b k) (Tr.ldsvk (fun y => (scaleM_emb _ b k y).symm) (ksSet_sub b k)
      (Tr.ldsvk (fun y => (newM_emb _ _ b k y).symm) (knSet_sub b k) (Tr.ldsv (fun y => (newSM_emb _ _ b k y).symm) (knsSet_sub b k))))
  · intro b' x hx
    cases b' <;> first | exact hx.elim | exact Or.inl (by rw [only_self]; exact hx) | exact Or.inr (Or.inl (by rw [only_self]; exact hx)) | exact Or.inr (Or.inr (Or.inl (by rw [only_self]; exact hx))) | exact Or.inr (Or.inr (Or.inr (by rw [only_self]; exact hx)))

theorem vStore_tr (b : Fin 2) (k : Fin 3) : Tr X (model i X a t) K0 (vStore b k (vV i a b k)) ⟨⟩ (Wv b k) := by
  refine Tr.weak (W := only .vc (kcSet b k) ⊔ (only .vcs (ksSet b k) ⊔ (only .vn (knSet b k) ⊔ only .vns (knsSet b k)))) ?_ ?_
  · exact Tr.ldsvk (fun y => (codeM_emb _ b k y).symm) (kcSet_sub b k) (Tr.ldsvk (fun y => (scaleM_emb _ b k y).symm) (ksSet_sub b k)
      (Tr.ldsvk (fun y => (newM_emb _ _ b k y).symm) (knSet_sub b k) (Tr.ldsv (fun y => (newSM_emb _ _ b k y).symm) (knsSet_sub b k))))
  · intro b' x hx
    cases b' <;> first | exact hx.elim | exact Or.inl (by rw [only_self]; exact hx) | exact Or.inr (Or.inl (by rw [only_self]; exact hx)) | exact Or.inr (Or.inr (Or.inl (by rw [only_self]; exact hx))) | exact Or.inr (Or.inr (Or.inr (by rw [only_self]; exact hx)))

/-- What is written of one sequence. -/
def Wseq (b : Fin 2) : Kn
  | .q => {x : S2x3x288x128.Idx | (x 0).val = b.val}
  | .kc | .vc => {x : S1x2x3x64x96.Idx | (x 1).val = b.val}
  | .kcs | .vcs => {x : S1x3x2x96.Idx | (x 2).val = b.val}
  | .kn | .vn => {x : S2x3x64x128.Idx | (x 0).val = b.val ∧ (x 3).val < 96}
  | .kns | .vns => {x : S2x3x1x128.Idx | (x 0).val = b.val ∧ (x 3).val < 96}
  | _ => ∅

theorem seqP_tr (b : Fin 2) : Tr X (model i X a t) K0 (seqP b (xq i a)) ⟨⟩ (Wseq b) := by
  refine Tr.weak (W := (only .q (qSet b 0) ⊔ only .q (qSet b 1)) ⊔ ((only .q (qSet b 2) ⊔ only .q (qSet b 3)) ⊔ ((only .q (qSet b 4) ⊔ only .q (qSet b 5))
      ⊔ ((only .q (qSet b 6) ⊔ only .q (qSet b 7)) ⊔ (only .q (qSet b 8) ⊔ (Wk b 0 ⊔ (Wv b 0 ⊔ (Wk b 1 ⊔ (Wv b 1 ⊔ (Wk b 2 ⊔ Wv b 2)))))))))) ?_ ?_
  · exact (qPair_tr i X a t b 0 0 1 rfl rfl).seq ((qPair_tr i X a t b 1 2 3 rfl rfl).seq ((qPair_tr i X a t b 2 4 5 rfl rfl).seq ((qPair_tr i X a t b 3 6 7 rfl rfl).seq
      ((qLast_tr i X a t b).seq (Tr.ld (fun _ => trivial) (Tr.ld (fun _ => trivial) ((kStore_tr i X a t b 0).seq ((vStore_tr i X a t b 0).seq
        ((kStore_tr i X a t b 1).seq ((vStore_tr i X a t b 1).seq ((kStore_tr i X a t b 2).seq (vStore_tr i X a t b 2))))))))))))
  · intro b' x hx
    cases b' <;> try exact hx.elim
    case q =>
      have l1 : (x 1).val < 3 := (x 1).isLt
      have l2 : (x 2).val < 288 := (x 2).isLt
      have hb : (x 0).val = b.val := hx
      have key : ∀ h : Fin 9, 3 * (x 1).val + (x 2).val / 96 = h.val → x ∈ only .q (qSet b h) .q := fun h e => by
        rw [only_self]; exact ⟨hb, e⟩
      rcases (show 3 * (x 1).val + (x 2).val / 96 = 0 ∨ 3 * (x 1).val + (x 2).val / 96 = 1 ∨ 3 * (x 1).val + (x 2).val / 96 = 2
        ∨ 3 * (x 1).val + (x 2).val / 96 = 3 ∨ 3 * (x 1).val + (x 2).val / 96 = 4 ∨ 3 * (x 1).val + (x 2).val / 96 = 5
        ∨ 3 * (x 1).val + (x 2).val / 96 = 6 ∨ 3 * (x 1).val + (x 2).val / 96 = 7 ∨ 3 * (x 1).val + (x 2).val / 96 = 8 by omega) with e | e | e | e | e | e | e | e | e
      · exact Or.inl (Or.inl (key 0 e))
      · exact Or.inl (Or.inr (key 1 e))
      · exact Or.inr (Or.inl (Or.inl (key 2 e)))
      · exact Or.inr (Or.inl (Or.inr (key 3 e)))
      · exact Or.inr (Or.inr (Or.inl (Or.inl (key 4 e))))
      · exact Or.inr (Or.inr (Or.inl (Or.inr (key 5 e))))
      · exact Or.inr (Or.inr (Or.inr (Or.inl (Or.inl (key 6 e)))))
      · exact Or.inr (Or.inr (Or.inr (Or.inl (Or.inr (key 7 e)))))
      · exact Or.inr (Or.inr (Or.inr (Or.inr (Or.inl (key 8 e)))))
    all_goals
      refine Or.inr (Or.inr (Or.inr (Or.inr (Or.inr ?_))))
    case kc =>
      have l : (x 2).val < 3 := (x 2).isLt
      rcases (show (x 2).val = 0 ∨ (x 2).val = 1 ∨ (x 2).val = 2 by omega) with e | e | e
      · exact Or.inl ⟨hx, e⟩
      · exact Or.inr (Or.inr (Or.inl ⟨hx, e⟩))
      · exact Or.inr (Or.inr (Or.inr (Or.inr (Or.inl ⟨hx, e⟩))))
    case vc =>
      have l : (x 2).val < 3 := (x 2).isLt
      rcases (show (x 2).val = 0 ∨ (x 2).val = 1 ∨ (x 2).val = 2 by omega) with e | e | e
      · exact Or.inr (Or.inl ⟨hx, e⟩)
      · exact Or.inr (Or.inr (Or.inr (Or.inl ⟨hx, e⟩)))
      · exact Or.inr (Or.inr (Or.inr (Or.inr (Or.inr ⟨hx, e⟩))))
    case kcs =>
      have l : (x 1).val < 3 := (x 1).isLt
      rcases (show (x 1).val = 0 ∨ (x 1).val = 1 ∨ (x 1).val = 2 by omega) with e | e | e
      · exact Or.inl ⟨hx, e⟩
      · exact Or.inr (Or.inr (Or.inl ⟨hx, e⟩))
      · exact Or.inr (Or.inr (Or.inr (Or.inr (Or.inl ⟨hx, e⟩))))
    case vcs =>
      have l : (x 1).val < 3 := (x 1).isLt
      rcases (show (x 1).val = 0 ∨ (x 1).val = 1 ∨ (x 1).val = 2 by omega) with e | e | e
      · exact Or.inr (Or.inl ⟨hx, e⟩)
      · exact Or.inr (Or.inr (Or.inr (Or.inl ⟨hx, e⟩)))
      · exact Or.inr (Or.inr (Or.inr (Or.inr (Or.inr ⟨hx, e⟩))))
    case kn =>
      have l : (x 1).val < 3 := (x 1).isLt
      rcases (show (x 1).val = 0 ∨ (x 1).val = 1 ∨ (x 1).val = 2 by omega) with e | e | e
      · exact Or.inl ⟨hx.1, e, hx.2⟩
      · exact Or.inr (Or.inr (Or.inl ⟨hx.1, e, hx.2⟩))
      · exact Or.inr (Or.inr (Or.inr (Or.inr (Or.inl ⟨hx.1, e, hx.2⟩))))
    case vn =>
      have l : (x 1).val < 3 := (x 1).isLt
      rcases (show (x 1).val = 0 ∨ (x 1).val = 1 ∨ (x 1).val = 2 by omega) with e | e | e
      · exact Or.inr (Or.inl ⟨hx.1, e, hx.2⟩)
      · exact Or.inr (Or.inr (Or.inr (Or.inl ⟨hx.1, e, hx.2⟩)))
      · exact Or.inr (Or.inr (Or.inr (Or.inr (Or.inr ⟨hx.1, e, hx.2⟩))))
    case kns =>
      have l : (x 1).val < 3 := (x 1).isLt
      rcases (show (x 1).val = 0 ∨ (x 1).val = 1 ∨ (x 1).val = 2 by omega) with e | e | e
      · exact Or.inl ⟨hx.1, e, hx.2⟩
      · exact Or.inr (Or.inr (Or.inl ⟨hx.1, e, hx.2⟩))
      · exact Or.inr (Or.inr (Or.inr (Or.inr (Or.inl ⟨hx.1, e, hx.2⟩))))
    case vns =>
      have l : (x 1).val < 3 := (x 1).isLt
      rcases (show (x 1).val = 0 ∨ (x 1).val = 1 ∨ (x 1).val = 2 by omega) with e | e | e
      · exact Or.inr (Or.inl ⟨hx.1, e, hx.2⟩)
      · exact Or.inr (Or.inr (Or.inr (Or.inl ⟨hx.1, e, hx.2⟩)))
      · exact Or.inr (Or.inr (Or.inr (Or.inr (Or.inr ⟨hx.1, e, hx.2⟩))))

/-- The first stage. -/
theorem preP_tr : Tr X (model i X a t) K0 (preP i) ⟨⟩ (Wseq 0 ⊔ Wseq 1) :=
  Tr.ld (fun _ => trivial) (Tr.ld (fun _ => trivial) (Tr.ld (fun _ => trivial) (Tr.ld (fun _ => trivial)
    ((seqP_tr i X a t 0).seq (seqP_tr i X a t 1)))))

theorem K1_le : K1 ≤ K0 ⊔ (Wseq 0 ⊔ Wseq 1) := by
  intro b' x hx
  cases b' <;> first | exact hx.elim | exact Or.inl trivial | skip
  case q =>
    have l : (x 0).val < 2 := (x 0).isLt
    rcases (show (x 0).val = 0 ∨ (x 0).val = 1 by omega) with e | e
    · exact Or.inr (Or.inl e)
    · exact Or.inr (Or.inr e)
  case kc | vc =>
    have l : (x 1).val < 2 := (x 1).isLt
    rcases (show (x 1).val = 0 ∨ (x 1).val = 1 by omega) with e | e
    · exact Or.inr (Or.inl e)
    · exact Or.inr (Or.inr e)
  case kcs | vcs =>
    have l : (x 2).val < 2 := (x 2).isLt
    rcases (show (x 2).val = 0 ∨ (x 2).val = 1 by omega) with e | e
    · exact Or.inr (Or.inl e)
    · exact Or.inr (Or.inr e)
  all_goals
    have l : (x 0).val < 2 := (x 0).isLt
    by_cases h3 : (x 3).val < 96
    · rcases (show (x 0).val = 0 ∨ (x 0).val = 1 by omega) with e | e
      · exact Or.inr (Or.inl ⟨e, h3⟩)
      · exact Or.inr (Or.inr ⟨e, h3⟩)
    · exact Or.inl (Nat.le_of_not_lt h3)

end Pre

end Cert.LayersIdeal.Hand

end
-- ==== Proof.LayersIdealWalkB.lean ====
/-
  The attention, its outputs, and the whole layer, walked.
-/
module

public import proofs.«01_k».proof.Proof.LayersIdealWalkA

@[expose] public section

set_option maxRecDepth 65536

noncomputable section

namespace Cert.LayersIdeal.Hand

open Cert.LayersIdeal Cert.LayersIdeal.Gen
open Idealize.ShloMosaic Idealize.ShloMosaic.TcCoe Idealize.ShloMosaic.Tactic
open Idealize.ShloMosaic.ValueIdx
open Idealize.SL.Sem

variable {F : FTy → Type} [FloatOps F]

section Att
variable (i : grid0.Coords) (X : S2.Idx → BitVec 32) (a : St F) (t : Trip)

/-! ## The attention -/

def sSet (k : Fin 3) (j : ℕ) : Set S3x288x2048.Idx := {x | (x 0).val = k.val ∧ (x 2).val / 256 = j}
/-- The tiles before `j`. -/
def sBelow (k : Fin 3) (j : ℕ) : Set S3x288x2048.Idx := {x | (x 0).val = k.val ∧ (x 2).val / 256 < j}

theorem sSet_sub (k : Fin 3) (j : Fin 8) : sSet k j.val ⊆ (rC k j).set := by
  rintro x ⟨h0, h2⟩
  refine Finset.mem_coe.2 ((Rect.mem_set_unit).2 ?_)
  intro c
  fin_cases c
  · show k.val ≤ (x 0).val ∧ (x 0).val < k.val + 1; omega
  · exact ⟨Nat.zero_le _, Nat.lt_of_lt_of_le (x 1).isLt (Nat.le_add_left _ _)⟩
  · show 256 * j.val ≤ (x 2).val ∧ (x 2).val < 256 * j.val + 256; omega

theorem sM_emb (k : Fin 3) (j : Fin 8) (y : (rC k j).shape.Idx) :
    sM i X a t ((rC k j).emb y) = shapeCast S1x288x256 (sVal i X a t k j) shapeCasts_S288x256_S1x288x256 y := by
  have y0 : (y 0).val < 1 := (y 0).isLt
  have y2 : (y 2).val < 256 := (y 2).isLt
  have v0 : ((rC k j).emb y 0).val = k.val + (y 0).val := emb_val _ _ _ y 0
  have v1 : ((rC k j).emb y 1).val = 0 + (y 1).val := emb_val _ _ _ y 1
  have v2 : ((rC k j).emb y 2).val = 256 * j.val + (y 2).val := emb_val _ _ _ y 2
  have h0 : (rC k j).emb y 0 = k := Fin.ext (by rw [v0]; omega)
  have h2 : (⟨((rC k j).emb y 2).val / 256, s_lt _⟩ : Fin 8) = j := Fin.ext (by show ((rC k j).emb y 2).val / 256 = j.val; rw [v2]; omega)
  unfold sM
  rw [h0, h2]
  refine congrArg (shapeCast S1x288x256 (sVal i X a t k j) shapeCasts_S288x256_S1x288x256) ?_
  funext c
  match c with
  | ⟨0, _⟩ => exact Fin.ext (by show 0 = (y 0).val; omega)
  | ⟨1, _⟩ => exact Fin.ext (v1.trans (Nat.zero_add _))
  | ⟨2, _⟩ => exact Fin.ext (by show ((rC k j).emb y 2).val % 256 = (y 2).val; rw [v2]; omega)

theorem sTile_tr (k : Fin 3) (j : Fin 8) (f : FVec F S288x256 .f32 → FVec F S288x256 .f32) (m : FVec F S288x128 .f32)
    (hf : f (scoreT i a t k j) = sVal i X a t k j) :
    Tr X (model i X a t) K1 (sTile t k (qP i a t k) j f m) (maxTile m (sVal i X a t k j)) (only .s (sSet k j.val)) := by
  have hw : ∀ y, shapeCast S1x288x256 (f (scoreT i a t k j)) shapeCasts_S288x256_S1x288x256 y = model i X a t .s ((rC k j).emb y) := fun y => by
    rw [hf]; exact (sM_emb i X a t k j y).symm
  rw [← hf]
  refine Tr.weak (W := only .s (sSet k j.val) ⊔ ⊥) ?_ le_sup_left
  exact Tr.ld (fun _ => trivial) (Tr.ld (fun _ => trivial) (Tr.ldsvk hw (sSet_sub k j) (Tr.pure _)))

theorem only_mono {b : Bf} {s s' : Set b.sh.Idx} (h : s ⊆ s') : only b s ≤ only b s' := by
  intro b' x hx
  by_cases e : b' = b
  · subst e; rw [only_self] at hx ⊢; exact h hx
  · rw [only_ne s e] at hx; exact hx.elim

theorem only_le {b : Bf} {s : Set b.sh.Idx} {S : Kn} (h : s ⊆ S b) : only b s ≤ S := by
  intro b' x hx
  by_cases e : b' = b
  · subst e; rw [only_self] at hx; exact h hx
  · rw [only_ne s e] at hx; exact hx.elim

theorem sUpTo_tr (k : Fin 3) : (j : ℕ) → (h : j ≤ 8) → j ≤ (cnt X t).val →
    Tr X (model i X a t) K1 (sUpTo t k (qP i a t k) j h) (mAcc i X a t k j h) (only .s (sBelow k j))
  | 0, h, _ => (Tr.pure _).weak (only_le fun x hx => absurd hx.2 (Nat.not_lt_zero _))
  | j + 1, h, hj => by
    have ih := sUpTo_tr k j (Nat.le_of_succ_le h) (Nat.le_of_succ_le hj)
    have hne : (⟨j, h⟩ : Fin 8) ≠ cnt X t := fun e => by
      have : j = (cnt X t).val := congrArg Fin.val e
      omega
    have st := sTile_tr i X a t k ⟨j, h⟩ id (mAcc i X a t k j (Nat.le_of_succ_le h)) (by unfold sVal; rw [if_neg hne]; rfl)
    refine Tr.weak (ih.seq st) (only_le fun x hx => ?_)
    by_cases e : (x 2).val / 256 < j
    · exact Or.inl (by rw [only_self]; exact ⟨hx.1, e⟩)
    · refine Or.inr ?_
      have h2 : (x 2).val / 256 < j + 1 := hx.2
      rw [only_self]
      exact ⟨hx.1, by show (x 2).val / 256 = j; omega⟩

/-- What the second pass reads. -/
def KS (k : Fin 3) : Kn := K1 ⊔ only .s (sBelow k ((cnt X t).val + 1))

theorem idx_sBelow (k : Fin 3) (j : Fin 8) (n : ℕ) (hj : j.val < n) (y : (rC k j).shape.Idx) : (rC k j).toLoadRect.idx y ∈ sBelow k n := by
  have y0 : (y 0).val < 1 := (y 0).isLt
  have y2 : (y 2).val < 256 := (y 2).isLt
  have v0 : ((rC k j).emb y 0).val = k.val + (y 0).val := emb_val _ _ _ y 0
  have v2 : ((rC k j).emb y 2).val = 256 * j.val + (y 2).val := emb_val _ _ _ y 2
  exact ⟨by show ((rC k j).emb y 0).val = k.val; omega, by show ((rC k j).emb y 2).val / 256 < n; omega⟩

theorem pUpTo_tr (k : Fin 3) : (j : ℕ) → (h : j ≤ 8) → j ≤ (cnt X t).val + 1 →
    Tr X (model i X a t) (KS X t k) (pUpTo t k (mxM i X a t k) (p0M i X a t k) j h) (accM i X a t k j h) ⊥
  | 0, h, _ => Tr.pure _
  | j + 1, h, hj => by
    have ih := pUpTo_tr k j (Nat.le_of_succ_le h) (Nat.le_of_succ_le hj)
    refine Tr.weak (W := ⊥ ⊔ ⊥) (ih.seq (k := fun acc => pStep t k (mxM i X a t k) ⟨j, h⟩ acc) ?_) bot_le
    exact Tr.ld (fun y => Or.inr (by rw [only_self]; exact idx_sBelow k ⟨j, h⟩ _ hj y)) (Tr.ld (fun _ => Or.inl trivial) (Tr.ld (fun _ => Or.inl trivial) (Tr.pure _)))

/-- A key head's values from the sums over its tiles. -/
def headO (k : Fin 3) (acc : Acc F ((cnt X t).val + 1)) : FVec F S288x128 .f32 := outV ((cnt X t).val + 1) (Nat.le_add_left 1 _)
  (truncf .bf16 (mulf (p0M i X a t k) (broadcastTo S288x128
    (shapeCast S1x128 (fun y => newSM (vV i a) (a .vns) ((rNs t k).toLoadRect.idx y)) shapeCasts_S1x1x1x128_S1x128) broadcasts_S1x128_S288x128)) bitsLt_bf16_f32)
  (shapeCast S64x128 (fun y => newM (vV i a) (a .vn) ((rN t k).toLoadRect.idx y)) shapeCasts_S1x1x64x128_S64x128)
  acc

/-- A query head's rows of its key head's values. -/
def aV (h : Fin 9) : FVec F S96x128 .f32 :=
  extractStridedSlice S96x128 ![96 * (h.val % 3), 0] (headV i X a t ⟨h.val / 3, div3_lt h⟩) (slicesA ⟨h.val % 3, mod3_lt h⟩)

theorem aV_eq (h : Fin 9) (k m : Fin 3) (hk : h.val / 3 = k.val) (hm : h.val % 3 = m.val) :
    aV i X a t h = extractStridedSlice S96x128 ![96 * m.val, 0] (headV i X a t k) (slicesA m) := by
  obtain rfl : k = ⟨h.val / 3, div3_lt h⟩ := Fin.ext hk.symm
  obtain rfl : m = ⟨h.val % 3, mod3_lt h⟩ := Fin.ext hm.symm
  rfl

def aSet (h : Fin 9) : Set S2x9x96x128.Idx := {x | (x 0).val = t.val ∧ (x 1).val = h.val}

theorem aSet_sub (h : Fin 9) : aSet t h ⊆ (rA t h).set := by
  rintro x ⟨h0, h1⟩
  have hb := bIx_eq t
  refine Finset.mem_coe.2 ((Rect.mem_set_unit).2 ?_)
  intro c
  fin_cases c
  · show bIx t ≤ (x 0).val ∧ (x 0).val < bIx t + 1; omega
  · show h.val ≤ (x 1).val ∧ (x 1).val < h.val + 1; omega
  · exact ⟨Nat.zero_le _, Nat.lt_of_lt_of_le (x 2).isLt (Nat.le_add_left _ _)⟩
  · exact ⟨Nat.zero_le _, Nat.lt_of_lt_of_le (x 3).isLt (Nat.le_add_left _ _)⟩

theorem actM_emb (h : Fin 9) (y : (rA t h).shape.Idx) :
    actM i X a ((rA t h).emb y) = shapeCast S1x1x96x128 (aV i X a t h) shapeCasts_S96x128_S1x1x96x128 y := by
  have hb := bIx_eq t
  have y0 : (y 0).val < 1 := (y 0).isLt
  have y1 : (y 1).val < 1 := (y 1).isLt
  have v0 : ((rA t h).emb y 0).val = bIx t + (y 0).val := emb_val _ _ _ y 0
  have v1 : ((rA t h).emb y 1).val = h.val + (y 1).val := emb_val _ _ _ y 1
  have h0 : tripOf ((rA t h).emb y 0) = t := Fin.ext (by show ((rA t h).emb y 0).val = t.val; omega)
  have h1 : (rA t h).emb y 1 = h := Fin.ext (by omega)
  show shapeCast S1x1x96x128 (aV i X a (tripOf ((rA t h).emb y 0)) ((rA t h).emb y 1)) shapeCasts_S96x128_S1x1x96x128 _ = _
  rw [h0, h1]
  refine congrArg (shapeCast S1x1x96x128 (aV i X a t h) shapeCasts_S96x128_S1x1x96x128) ?_
  funext c
  match c with
  | ⟨0, _⟩ => exact Fin.ext (by show 0 = (y 0).val; omega)
  | ⟨1, _⟩ => exact Fin.ext (by show 0 = (y 1).val; omega)
  | ⟨2, _⟩ => exact Fin.ext ((emb_val _ _ _ y 2).trans (Nat.zero_add _))
  | ⟨3, _⟩ => exact Fin.ext ((emb_val _ _ _ y 3).trans (Nat.zero_add _))

theorem aStore_tr {B : Kn} (h : Fin 9) : Tr X (model i X a t) B (aStore t h (aV i X a t h)) ⟨⟩ (only .act (aSet t h)) :=
  Tr.ldsv (fun y => (actM_emb i X a t h y).symm) (aSet_sub t h)

/-- The second pass of a key head and what follows it. -/
def headTail (k : Fin 3) (h0 h1 h2 : Fin 9) : Cmd F PUnit :=
  pUpTo t k (mxM i X a t k) (p0M i X a t k) ((cnt X t).val + 1) (cnt X t).isLt >>= fun acc =>
  aStore t h0 (extractStridedSlice S96x128 ![0, 0] (headO i X a t k acc) slices_S288x128_o0_0_S96x128) >>= fun _ =>
  aStore t h1 (extractStridedSlice S96x128 ![96, 0] (headO i X a t k acc) slices_S288x128_o96_0_S96x128) >>= fun _ =>
  aStore t h2 (extractStridedSlice S96x128 ![192, 0] (headO i X a t k acc) slices_S288x128_o192_0_S96x128)

theorem headTail_tr (k : Fin 3) (h0 h1 h2 : Fin 9) (e0 : h0.val = 3 * k.val) (e1 : h1.val = 3 * k.val + 1) (e2 : h2.val = 3 * k.val + 2) :
    Tr X (model i X a t) (KS X t k) (headTail i X a t k h0 h1 h2) ⟨⟩
      (only .act (aSet t h0) ⊔ (only .act (aSet t h1) ⊔ only .act (aSet t h2))) := by
  have s0 := aStore_tr i X a t (B := KS X t k) h0
  have s1 := aStore_tr i X a t (B := KS X t k) h1
  have s2 := aStore_tr i X a t (B := KS X t k) h2
  rw [aV_eq i X a t h0 k 0 (by omega) (by show _ = 0; omega)] at s0
  rw [aV_eq i X a t h1 k 1 (by omega) (by show _ = 1; omega)] at s1
  rw [aV_eq i X a t h2 k 2 (by omega) (by show _ = 2; omega)] at s2
  have hp := pUpTo_tr i X a t k ((cnt X t).val + 1) (cnt X t).isLt le_rfl
  exact Tr.weak (hp.seq (s0.seq (s1.seq s2))) le_sup_right

/-- A load of known elements, its value given. -/
theorem Tr.ldv {G : St F} {β : Type} {B W : Kn} {b : Bf} {r : Rect b.sh} {hn : 0 < r.shape.numel} {k : (r.shape.Idx → Elt F b.el) → Cmd F β} {c : β}
    (hr : ∀ y, r.toLoadRect.idx y ∈ B b) (v : r.shape.Idx → Elt F b.el) (hv : rd G b r = v) (h : Tr X G B (k v) c W) : Tr X G B (Hand.ld b r hn >>= k) c W :=
  Tr.ld hr (by rw [hv]; exact h)

theorem Tr.of_eq {G : St F} {β : Type} {B W : Kn} {p p' : Cmd F β} {c : β} (e : p = p') (h : Tr X G B p' c W) : Tr X G B p c W := e ▸ h

theorem KS_le (k : Fin 3) : KS X t k ≤ K1 ⊔ only .s (sBelow k (cnt X t).val) ⊔ only .s (sSet k (cnt X t).val) := by
  refine sup_le (le_sup_left.trans le_sup_left) (only_le fun x hx => ?_)
  by_cases e : (x 2).val / 256 < (cnt X t).val
  · exact Or.inl (Or.inr (by rw [only_self]; exact ⟨hx.1, e⟩))
  · refine Or.inr ?_
    have h2 : (x 2).val / 256 < (cnt X t).val + 1 := hx.2
    rw [only_self]
    exact ⟨hx.1, by show (x 2).val / 256 = (cnt X t).val; omega⟩

/-- The query heads of one key head. -/
theorem head_tr (k : Fin 3) (h0 h1 h2 : Fin 9) (e0 : h0.val = 3 * k.val) (e1 : h1.val = 3 * k.val + 1) (e2 : h2.val = 3 * k.val + 2) :
    Tr X (model i X a t) K1 (head t k causal lane256 (leftW X t) (cnt X t) h0 h1 h2) ⟨⟩
      (only .act (aSet t h0) ⊔ (only .act (aSet t h1) ⊔ only .act (aSet t h2))) := by
  have hl := sTile_tr i X a t k (cnt X t) (maskTile lane256 (leftW X t)) (mAcc i X a t k (cnt X t).val (cnt X t).isLt.le) (by unfold sVal; rw [if_pos rfl])
  have hu := sUpTo_tr i X a t k (cnt X t).val (cnt X t).isLt.le le_rfl
  have ht := (headTail_tr i X a t k h0 h1 h2 e0 e1 e2).base (KS_le X t k)
  unfold head
  refine Tr.weak (W := only .s (sBelow k (cnt X t).val) ⊔ (only .s (sSet k (cnt X t).val) ⊔ (only .act (aSet t h0) ⊔ (only .act (aSet t h1) ⊔ only .act (aSet t h2))))) ?_ (le_sup_right.trans le_sup_right)
  refine Tr.ldv X (fun _ => trivial) (fun y => qM i a ((rQ t k).toLoadRect.idx y)) rfl (Tr.bind hu (Tr.bind (hl.base le_sup_left) ?_))
  refine Tr.ldv X (fun _ => Or.inl (Or.inl trivial)) (fun y => newM (kV i a) (a .kn) ((rN t k).toLoadRect.idx y)) rfl
    (Tr.ldv X (fun _ => Or.inl (Or.inl trivial)) (fun y => newSM (kV i a) (a .kns) ((rNs t k).toLoadRect.idx y)) rfl
    (Tr.ldv X (fun _ => Or.inl (Or.inl trivial)) (fun y => newSM (vV i a) (a .vns) ((rNs t k).toLoadRect.idx y)) rfl
    (Tr.ldv X (fun _ => Or.inl (Or.inl trivial)) (fun y => newM (vV i a) (a .vn) ((rN t k).toLoadRect.idx y)) rfl ?_)))
  refine Tr.of_eq X ?_ ht
  sl_kernel_rfl

theorem attend_tr : Tr X (model i X a t) K1 (attend t causal lane256 (lenAt X t) (cnt X t)) ⟨⟩ (only .act {x : S2x9x96x128.Idx | (x 0).val = t.val}) := by
  refine Tr.weak (((head_tr i X a t 0 0 1 2 rfl rfl rfl)).seq (k := fun _ => _) ((head_tr i X a t 1 3 4 5 rfl rfl rfl).seq (k := fun _ => _) (head_tr i X a t 2 6 7 8 rfl rfl rfl))) (only_le fun x hx => ?_)
  have l : (x 1).val < 9 := (x 1).isLt
  have key : ∀ h : Fin 9, (x 1).val = h.val → x ∈ only .act (aSet t h) .act := fun h e => by rw [only_self]; exact ⟨hx, e⟩
  rcases (show (x 1).val = 0 ∨ (x 1).val = 1 ∨ (x 1).val = 2 ∨ (x 1).val = 3 ∨ (x 1).val = 4 ∨ (x 1).val = 5 ∨ (x 1).val = 6 ∨ (x 1).val = 7 ∨ (x 1).val = 8 by omega)
    with e | e | e | e | e | e | e | e | e
  · exact Or.inl (Or.inl (key 0 e))
  · exact Or.inl (Or.inr (Or.inl (key 1 e)))
  · exact Or.inl (Or.inr (Or.inr (key 2 e)))
  · exact Or.inr (Or.inl (Or.inl (key 3 e)))
  · exact Or.inr (Or.inl (Or.inr (Or.inl (key 4 e))))
  · exact Or.inr (Or.inl (Or.inr (Or.inr (key 5 e))))
  · exact Or.inr (Or.inr (Or.inl (key 6 e)))
  · exact Or.inr (Or.inr (Or.inr (Or.inl (key 7 e))))
  · exact Or.inr (Or.inr (Or.inr (Or.inr (key 8 e))))

/-- The length is read. -/
theorem Tr.len {G : St F} {β : Type} {B W : Kn} {k : BitVec 32 → Cmd F β} {c : β} (h : Tr X G B (k (lenAt X t)) c W) : Tr X G B (Cmd.len t k) c W :=
  fun S hS st hst => h S hS st hst

theorem attend_pick : (pick (tiles (lenAt X t)) fun j => attend (F := F) t causal lane256 (lenAt X t) j) = attend t causal lane256 (lenAt X t) (cnt X t) :=
  (pick_map (fun j => attend (F := F) t causal lane256 (lenAt X t) j) (tiles (lenAt X t)) id).symm

theorem trip_tr : Tr X (model i X a t) K1 (trip t causal lane256) ⟨⟩ (only .act {x : S2x9x96x128.Idx | (x 0).val = t.val}) := by
  unfold trip
  refine Tr.len X t ?_
  rw [attend_pick]
  exact attend_tr i X a t

/-! ## The heads' outputs -/

def oSet (b : Fin 2) (c : Fin 5) : Set S192x640.Idx := {x | (x 0).val / 96 = b.val ∧ (x 1).val / 128 = c.val}
def oTSet (b : Fin 2) (h : Fin 9) : Set S1x2x9x64x96.Idx := {x | (x 1).val = b.val ∧ (x 2).val = h.val}

theorem oSet_sub (b : Fin 2) (c : Fin 5) : oSet b c ⊆ (rO b c).set := by
  rintro x ⟨h0, h1⟩
  refine Finset.mem_coe.2 ((Rect.mem_set_unit).2 ?_)
  intro d
  fin_cases d
  · show 96 * b.val ≤ (x 0).val ∧ (x 0).val < 96 * b.val + 96; omega
  · show 128 * c.val ≤ (x 1).val ∧ (x 1).val < 128 * c.val + 128; omega

theorem oTSet_sub (b : Fin 2) (h : Fin 9) : oTSet b h ⊆ (rOT b h).set := by
  rintro x ⟨h1, h2⟩
  refine Finset.mem_coe.2 ((Rect.mem_set_unit).2 ?_)
  intro c
  fin_cases c
  · exact ⟨Nat.zero_le _, Nat.lt_of_lt_of_le (x 0).isLt (Nat.le_add_left _ _)⟩
  · show b.val ≤ (x 1).val ∧ (x 1).val < b.val + 1; omega
  · show h.val ≤ (x 2).val ∧ (x 2).val < h.val + 1; omega
  · exact ⟨Nat.zero_le _, Nat.lt_of_lt_of_le (x 3).isLt (Nat.le_add_left _ _)⟩
  · exact ⟨Nat.zero_le _, Nat.lt_of_lt_of_le (x 4).isLt (Nat.le_add_left _ _)⟩

theorem oM_emb (b : Fin 2) (c : Fin 5) (y : (rO b c).shape.Idx) : oM i X a ((rO b c).emb y) = packO (oV i X a b c) y := by
  have y0 : (y 0).val < 96 := (y 0).isLt
  have y1 : (y 1).val < 128 := (y 1).isLt
  have v0 : ((rO b c).emb y 0).val = 96 * b.val + (y 0).val := emb_val _ _ _ y 0
  have v1 : ((rO b c).emb y 1).val = 128 * c.val + (y 1).val := emb_val _ _ _ y 1
  have h0 : (⟨((rO b c).emb y 0).val / 96, o_lt0 _⟩ : Fin 2) = b := Fin.ext (by show ((rO b c).emb y 0).val / 96 = b.val; omega)
  have h1 : (⟨((rO b c).emb y 1).val / 128, o_lt1 _⟩ : Fin 5) = c := Fin.ext (by show ((rO b c).emb y 1).val / 128 = c.val; omega)
  unfold oM
  rw [h0, h1]
  refine congrArg (packO (oV i X a b c)) ?_
  funext d
  match d with
  | ⟨0, _⟩ => exact Fin.ext (by show ((rO b c).emb y 0).val % 96 = (y 0).val; omega)
  | ⟨1, _⟩ => exact Fin.ext (by show ((rO b c).emb y 1).val % 128 = (y 1).val; omega)

theorem oTM_emb (b : Fin 2) (h : Fin 9) (y : (rOT b h).shape.Idx) : oTM i X a ((rOT b h).emb y) = oT1 i X a b h y := by
  have y0 : (y 0).val < 1 := (y 0).isLt
  have y1 : (y 1).val < 1 := (y 1).isLt
  have y2 : (y 2).val < 1 := (y 2).isLt
  have v1 : ((rOT b h).emb y 1).val = b.val + (y 1).val := emb_val _ _ _ y 1
  have v2 : ((rOT b h).emb y 2).val = h.val + (y 2).val := emb_val _ _ _ y 2
  have h1 : (rOT b h).emb y 1 = b := Fin.ext (by omega)
  have h2 : (rOT b h).emb y 2 = h := Fin.ext (by omega)
  unfold oTM
  rw [h1, h2]
  refine congrArg (oT1 i X a b h) ?_
  funext c
  match c with
  | ⟨0, _⟩ => exact Fin.ext (by show 0 = (y 0).val; omega)
  | ⟨1, _⟩ => exact Fin.ext (by show 0 = (y 1).val; omega)
  | ⟨2, _⟩ => exact Fin.ext (by show 0 = (y 2).val; omega)
  | ⟨3, _⟩ => exact Fin.ext ((emb_val _ _ _ y 3).trans (Nat.zero_add _))
  | ⟨4, _⟩ => exact Fin.ext ((emb_val _ _ _ y 4).trans (Nat.zero_add _))

theorem oStore_tr (b : Fin 2) (c : Fin 5) : Tr X (model i X a t) K2 (oStore b c (oV i X a b c)) ⟨⟩ (only .o (oSet b c)) :=
  Tr.ldsv (fun y => (oM_emb i X a b c y).symm) (oSet_sub b c)

theorem oTStore_tr (b : Fin 2) (h : Fin 9) : Tr X (model i X a t) K2 (oTStore b h (oT1 i X a b h)) ⟨⟩ (only .oT (oTSet b h)) :=
  Tr.ldsv (fun y => (oTM_emb i X a b h y).symm) (oTSet_sub b h)

theorem oV_pair (b : Fin 2) (c : Fin 5) (h0 h1 : Fin 9) (hc : c.val < 4) (e0 : h0.val = 2 * c.val) (e1 : h1.val = 2 * c.val + 1) :
    oV i X a b c = pairO (rd (model i X a t) .act (rAct b h0)) (rd (model i X a t) .act (rAct b h1)) := by
  have f0 : (⟨2 * c.val, by omega⟩ : Fin 9) = h0 := Fin.ext e0.symm
  have f1 : (⟨2 * c.val + 1, by omega⟩ : Fin 9) = h1 := Fin.ext e1.symm
  unfold oV
  rw [dif_pos hc, f0, f1]
  rfl

theorem oT1_lo (b : Fin 2) (c : Fin 5) (h : Fin 9) (e : h.val = 2 * c.val) : oT1 i X a b h = loO (oV i X a b c) := by
  obtain rfl : c = ⟨h.val / 2, div2_lt h⟩ := Fin.ext (by show c.val = h.val / 2; omega)
  unfold oT1
  rw [if_pos (by omega)]
theorem oT1_hi (b : Fin 2) (c : Fin 5) (h : Fin 9) (e : h.val = 2 * c.val + 1) : oT1 i X a b h = hiO (oV i X a b c) := by
  obtain rfl : c = ⟨h.val / 2, div2_lt h⟩ := Fin.ext (by show c.val = h.val / 2; omega)
  unfold oT1
  rw [if_neg (by omega)]

def WO (b : Fin 2) (c : Fin 5) (h0 h1 : Fin 9) : Kn := only .o (oSet b c) ⊔ (only .oT (oTSet b h0) ⊔ only .oT (oTSet b h1))

theorem oPair_tr (b : Fin 2) (c : Fin 5) (h0 h1 : Fin 9) (hc : c.val < 4) (e0 : h0.val = 2 * c.val) (e1 : h1.val = 2 * c.val + 1) :
    Tr X (model i X a t) K2 (oPair b c h0 h1) ⟨⟩ (WO b c h0 h1) := by
  have s := oStore_tr i X a t b c
  have s0 := oTStore_tr i X a t b h0
  have s1 := oTStore_tr i X a t b h1
  rw [oT1_lo i X a b c h0 e0] at s0
  rw [oT1_hi i X a b c h1 e1] at s1
  rw [oV_pair i X a t b c h0 h1 hc e0 e1] at s s0 s1
  exact Tr.ld (fun _ => trivial) (Tr.ld (fun _ => trivial) (s.seq (s0.seq s1)))

theorem oLast_tr (b : Fin 2) : Tr X (model i X a t) K2 (oLast b) ⟨⟩ (only .o (oSet b 4) ⊔ only .oT (oTSet b 8)) := by
  have s := oStore_tr i X a t b 4
  have s0 := oTStore_tr i X a t b 8
  exact Tr.ld (fun _ => trivial) (s.seq s0)

theorem oFirst_tr : Tr X (model i X a t) K2 oFirst
    ⟨transpose S128x96 [1, 0] (oV i X a 0 0) transposes_S96x128_p1_0_S128x96,
      extractStridedSlice S64x96 ![0, 0] (transpose S128x96 [1, 0] (oV i X a 0 0) transposes_S96x128_p1_0_S128x96) slices_S128x96_o0_0_S64x96⟩
    (only .o (oSet 0 0)) := by
  have s := oStore_tr i X a t 0 0
  rw [oV_pair i X a t 0 0 0 1 (by decide) rfl rfl] at s ⊢
  exact Tr.weak (Tr.ld (fun _ => trivial) (Tr.ld (fun _ => trivial) (s.seq (Tr.pure _)))) le_sup_left

theorem outRest_tr : Tr X (model i X a t) K2 (outRest
    ⟨transpose S128x96 [1, 0] (oV i X a 0 0) transposes_S96x128_p1_0_S128x96,
      extractStridedSlice S64x96 ![0, 0] (transpose S128x96 [1, 0] (oV i X a 0 0) transposes_S96x128_p1_0_S128x96) slices_S128x96_o0_0_S64x96⟩) ⟨⟩
    (only .oT (oTSet 0 0) ⊔ (only .oT (oTSet 0 1) ⊔ (WO 0 1 2 3 ⊔ (WO 0 2 4 5 ⊔ (WO 0 3 6 7 ⊔ ((only .o (oSet 0 4) ⊔ only .oT (oTSet 0 8))
      ⊔ (WO 1 0 0 1 ⊔ (WO 1 1 2 3 ⊔ (WO 1 2 4 5 ⊔ (WO 1 3 6 7 ⊔ (only .o (oSet 1 4) ⊔ only .oT (oTSet 1 8)))))))))))) := by
  have s0 := oTStore_tr i X a t 0 0
  have s1 := oTStore_tr i X a t 0 1
  rw [oT1_lo i X a 0 0 0 rfl] at s0
  rw [oT1_hi i X a 0 0 1 rfl] at s1
  exact s0.seq (s1.seq ((oPair_tr i X a t 0 1 2 3 (by decide) rfl rfl).seq ((oPair_tr i X a t 0 2 4 5 (by decide) rfl rfl).seq ((oPair_tr i X a t 0 3 6 7 (by decide) rfl rfl).seq
    ((oLast_tr i X a t 0).seq ((oPair_tr i X a t 1 0 0 1 (by decide) rfl rfl).seq ((oPair_tr i X a t 1 1 2 3 (by decide) rfl rfl).seq ((oPair_tr i X a t 1 2 4 5 (by decide) rfl rfl).seq
      ((oPair_tr i X a t 1 3 6 7 (by decide) rfl rfl).seq (oLast_tr i X a t 1))))))))))

theorem K3_le : K3 ≤ K2 ⊔ (only .o (oSet 0 0) ⊔ (only .oT (oTSet 0 0) ⊔ (only .oT (oTSet 0 1) ⊔ (WO 0 1 2 3 ⊔ (WO 0 2 4 5 ⊔ (WO 0 3 6 7 ⊔ ((only .o (oSet 0 4) ⊔ only .oT (oTSet 0 8))
      ⊔ (WO 1 0 0 1 ⊔ (WO 1 1 2 3 ⊔ (WO 1 2 4 5 ⊔ (WO 1 3 6 7 ⊔ (only .o (oSet 1 4) ⊔ only .oT (oTSet 1 8))))))))))))) := by
  intro b' x hx
  cases b' <;> first | exact hx.elim | exact Or.inl trivial | skip
  case oT =>
    have l1 : (x 1).val < 2 := (x 1).isLt
    have l2 : (x 2).val < 9 := (x 2).isLt
    have key : ∀ (b : Fin 2) (h : Fin 9), (x 1).val = b.val → (x 2).val = h.val → x ∈ only .oT (oTSet b h) .oT := fun b h e e' => by rw [only_self]; exact ⟨e, e'⟩
    refine Or.inr (Or.inr ?_)
    rcases (show (x 1).val = 0 ∨ (x 1).val = 1 by omega) with e1 | e1 <;>
    rcases (show (x 2).val = 0 ∨ (x 2).val = 1 ∨ (x 2).val = 2 ∨ (x 2).val = 3 ∨ (x 2).val = 4 ∨ (x 2).val = 5 ∨ (x 2).val = 6 ∨ (x 2).val = 7 ∨ (x 2).val = 8 by omega)
      with e | e | e | e | e | e | e | e | e
    · exact Or.inl (key 0 0 e1 e)
    · exact Or.inr (Or.inl (key 0 1 e1 e))
    · exact Or.inr (Or.inr (Or.inl (Or.inr (Or.inl (key 0 2 e1 e)))))
    · exact Or.inr (Or.inr (Or.inl (Or.inr (Or.inr (key 0 3 e1 e)))))
    · exact Or.inr (Or.inr (Or.inr (Or.inl (Or.inr (Or.inl (key 0 4 e1 e))))))
    · exact Or.inr (Or.inr (Or.inr (Or.inl (Or.inr (Or.inr (key 0 5 e1 e))))))
    · exact Or.inr (Or.inr (Or.inr (Or.inr (Or.inl (Or.inr (Or.inl (key 0 6 e1 e)))))))
    · exact Or.inr (Or.inr (Or.inr (Or.inr (Or.inl (Or.inr (Or.inr (key 0 7 e1 e)))))))
    · exact Or.inr (Or.inr (Or.inr (Or.inr (Or.inr (Or.inl (Or.inr (key 0 8 e1 e)))))))
    all_goals refine Or.inr (Or.inr (Or.inr (Or.inr (Or.inr (Or.inr ?_)))))
    · exact Or.inl (Or.inr (Or.inl (key 1 0 e1 e)))
    · exact Or.inl (Or.inr (Or.inr (key 1 1 e1 e)))
    · exact Or.inr (Or.inl (Or.inr (Or.inl (key 1 2 e1 e))))
    · exact Or.inr (Or.inl (Or.inr (Or.inr (key 1 3 e1 e))))
    · exact Or.inr (Or.inr (Or.inl (Or.inr (Or.inl (key 1 4 e1 e)))))
    · exact Or.inr (Or.inr (Or.inl (Or.inr (Or.inr (key 1 5 e1 e)))))
    · exact Or.inr (Or.inr (Or.inr (Or.inl (Or.inr (Or.inl (key 1 6 e1 e))))))
    · exact Or.inr (Or.inr (Or.inr (Or.inl (Or.inr (Or.inr (key 1 7 e1 e))))))
    · exact Or.inr (Or.inr (Or.inr (Or.inr (Or.inr (key 1 8 e1 e)))))
  case o =>
    have l0 : (x 0).val < 192 := (x 0).isLt
    have l1 : (x 1).val < 640 := (x 1).isLt
    have key : ∀ (b : Fin 2) (c : Fin 5), (x 0).val / 96 = b.val → (x 1).val / 128 = c.val → x ∈ only .o (oSet b c) .o := fun b h e e' => by rw [only_self]; exact ⟨e, e'⟩
    refine Or.inr ?_
    rcases (show (x 0).val / 96 = 0 ∨ (x 0).val / 96 = 1 by omega) with e1 | e1 <;>
    rcases (show (x 1).val / 128 = 0 ∨ (x 1).val / 128 = 1 ∨ (x 1).val / 128 = 2 ∨ (x 1).val / 128 = 3 ∨ (x 1).val / 128 = 4 by omega) with e | e | e | e | e
    · exact Or.inl (key 0 0 e1 e)
    · exact Or.inr (Or.inr (Or.inr (Or.inl (Or.inl (key 0 1 e1 e)))))
    · exact Or.inr (Or.inr (Or.inr (Or.inr (Or.inl (Or.inl (key 0 2 e1 e))))))
    · exact Or.inr (Or.inr (Or.inr (Or.inr (Or.inr (Or.inl (Or.inl (key 0 3 e1 e)))))))
    · exact Or.inr (Or.inr (Or.inr (Or.inr (Or.inr (Or.inr (Or.inl (Or.inl (key 0 4 e1 e))))))))
    all_goals refine Or.inr (Or.inr (Or.inr (Or.inr (Or.inr (Or.inr (Or.inr ?_))))))
    · exact Or.inl (Or.inl (key 1 0 e1 e))
    · exact Or.inr (Or.inl (Or.inl (key 1 1 e1 e)))
    · exact Or.inr (Or.inr (Or.inl (Or.inl (key 1 2 e1 e))))
    · exact Or.inr (Or.inr (Or.inr (Or.inl (Or.inl (key 1 3 e1 e)))))
    · exact Or.inr (Or.inr (Or.inr (Or.inr (Or.inl (key 1 4 e1 e)))))

end Att

/-! ## The whole layer -/

section Layer
variable (i : grid0.Coords) (X : S2.Idx → BitVec 32) (a : St F)

theorem projV_congr (st st' : St F) (h : ∀ b : Bf, b ≠ .s → b ≠ .res → st b = st' b) : projV i st = projV i st' := by
  have er := h .r (by decide) (by decide)
  have eo := h .o (by decide) (by decide)
  have e1 := h .wo (by decide) (by decide)
  have e2 := h .so (by decide) (by decide)
  have e3 := h .mn (by decide) (by decide)
  have e4 := h .wgu (by decide) (by decide)
  have e5 := h .sgu (by decide) (by decide)
  have e6 := h .wd (by decide) (by decide)
  have e7 := h .sd (by decide) (by decide)
  unfold projV afterOV guV rd
  rw [er, eo, e1, e2, e3, e4, e5, e6, e7]

theorem model_ne (t t' : Trip) (b : Bf) (h : b ≠ .s) : model i X a t b = model i X a t' b := by
  cases b <;> first | exact absurd rfl h | rfl

theorem Ok.change {S : Kn} {st : St F} {t : Trip} (t' : Trip) (h : Ok S (model i X a t) st) (hs : S .s = ∅) : Ok S (model i X a t') st := by
  intro b x hx
  by_cases e : b = .s
  · subst e; rw [hs] at hx; exact hx.elim
  · rw [← model_ne i X a t t' b e]; exact h b x hx

theorem newM_neg (f : Fin 2 → Fin 3 → FVec F S64x96 .f32) (z : S2x3x64x128.Idx → Elt F .bf16) (x : S2x3x64x128.Idx) (h : 96 ≤ (x 3).val) : newM f z x = z x :=
  dif_neg (Nat.not_lt.2 h)
theorem newSM_neg (f : Fin 2 → Fin 3 → FVec F S64x96 .f32) (z : S2x3x1x128.Idx → Elt F .f32) (x : S2x3x1x128.Idx) (h : 96 ≤ (x 3).val) : newSM f z x = z x :=
  dif_neg (Nat.not_lt.2 h)

theorem Ok.start {st : St F} (h : Ok K0 a st) (t : Trip) : Ok K0 (model i X a t) st := by
  intro b x hx
  rw [h b x hx]
  cases b <;> first | exact hx.elim | rfl | exact (newM_neg _ _ _ hx).symm | exact (newSM_neg _ _ _ hx).symm

theorem put_whole {s : Shape} {α : Type} (off : Fin s.rank → ℕ) (inb) (h0 : ∀ c, off c = 0) (w : (Rect.unit (s := s) off s.size inb).shape.Idx → α) (Y : s.Idx → α) :
    put (Rect.unit (s := s) off s.size inb) w Y = (w : s.Idx → α) := by
  funext x
  exact (congrArg (put (Rect.unit (s := s) off s.size inb) w Y) (whole_emb off inb h0 x).symm).trans (put_emb _ w Y x)

/-- A layer's program leaves the layer's contents. -/
theorem layer_run (st : St F) (h : Ok K0 a st) : Ok K4 (afterL i X a) ((layerP i).run X st).2 := by
  have h0 := h.start i X a t0
  unfold layerP
  rw [Cmd.run_bind, Cmd.run_bind, Cmd.run_bind, Cmd.run_bind, Cmd.run_bind]
  have h1 := ((preP_tr i X a t0 K0 le_rfl st h0).2).mono K1_le
  generalize ((preP i).run X st).2 = st1 at h1
  have h2 := ((trip_tr i X a t0 K1 le_rfl st1 h1).2).change i X a t1 (by
    show K1 .s ∪ only .act _ .s = ∅
    rw [only_ne _ (by decide)]; exact Set.union_empty _)
  generalize ((trip t0 causal lane256).run X st1).2 = st2 at h2
  have h3 := (trip_tr i X a t1 _ le_sup_left st2 h2).2
  generalize ((trip t1 causal lane256).run X st2).2 = st3 at h3
  have h3' : Ok K2 (model i X a t1) st3 := h3.mono (by
    intro b' x hx
    cases b' <;> first | exact hx.elim | exact Or.inl (Or.inl trivial) | skip
    have l : (x 0).val < 2 := (x 0).isLt
    rcases (show (x 0).val = 0 ∨ (x 0).val = 1 by omega) with e | e
    · exact Or.inl (Or.inr (by rw [only_self]; exact e))
    · exact Or.inr (by rw [only_self]; exact e))
  obtain ⟨e4, h4⟩ := oFirst_tr i X a t1 K2 le_rfl st3 h3'
  rw [e4]
  generalize (Cmd.run X oFirst st3).2 = st4 at h4
  have h5 := (outRest_tr i X a t1 _ le_sup_left st4 h4).2
  rw [sup_assoc] at h5
  have h6 := h5.mono K3_le
  generalize (Cmd.run X (outRest _) st4).2 = st5 at h6
  rw [projP_run]
  have hv : ∀ b : Bf, b ≠ .s → b ≠ .res → st5 b = model i X a t1 b := fun b hs hr => funext fun x => h6 b x (by
    cases b <;> first | exact absurd rfl hs | exact absurd rfl hr | trivial)
  have ep := projV_congr i st5 (model i X a t1) hv
  intro b x hx
  show Function.update (Function.update st5 .r _) .res _ b x = _
  by_cases er : b = .res
  · subst er
    rw [Function.update_self, put_whole _ _ zero3, ep]
    rfl
  · rw [Function.update_of_ne er]
    by_cases err : b = .r
    · subst err
      rw [Function.update_self, put_whole _ _ zero2, ep]
      rfl
    · rw [Function.update_of_ne err]
      have hs : b ≠ .s := fun e => by subst e; exact hx.elim
      rw [hv b hs er]
      cases b <;> first | exact absurd rfl err | exact absurd rfl er | rfl

end Layer

end Cert.LayersIdeal.Hand

end
-- ==== Proof.LayersIdealBodyEq.lean ====
/-
  The printed body of the decoder-layers kernel is the staged program.
-/
module

public import proofs.«01_k».proof.Proof.LayersIdealWalk

@[expose] public section

set_option maxRecDepth 65536

noncomputable section

namespace Cert.LayersIdeal.Hand

open Cert.LayersIdeal Cert.LayersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The printed body at the buffers `R`. -/
abbrev callR (i : grid0.Coords) (R : Refs) (hlen : R.len.IsWhole) : Prog (TpuEff nD τ sig (Elt F) Λ₀ .tc) PUnit :=
  cc0_layers i R.len hlen (R.buf .r0) (R.whole .r0) (R.buf .cos) (R.whole .cos) (R.buf .sin) (R.whole .sin) (R.buf .kt) (R.whole .kt) (R.buf .ks) (R.whole .ks) (R.buf .vt) (R.whole .vt) (R.buf .vs) (R.whole .vs) (R.buf .an) (R.whole .an) (R.buf .mn) (R.whole .mn) (R.buf .wqkv) (R.whole .wqkv) (R.buf .sqkv) (R.whole .sqkv) (R.buf .wo) (R.whole .wo) (R.buf .so) (R.whole .so) (R.buf .wgu) (R.whole .wgu) (R.buf .sgu) (R.whole .sgu) (R.buf .wd) (R.whole .wd) (R.buf .sd) (R.whole .sd) (R.buf .res) (R.whole .res) (R.buf .oT) (R.whole .oT) (R.buf .kc) (R.whole .kc) (R.buf .kcs) (R.whole .kcs) (R.buf .vc) (R.whole .vc) (R.buf .vcs) (R.whole .vcs) (R.buf .r) (R.whole .r) (R.buf .cosS) (R.whole .cosS) (R.buf .sinS) (R.whole .sinS) (R.buf .q) (R.whole .q) (R.buf .kn) (R.whole .kn) (R.buf .vn) (R.whole .vn) (R.buf .kns) (R.whole .kns) (R.buf .vns) (R.whole .vns) (R.buf .s) (R.whole .s) (R.buf .o) (R.whole .o) (R.buf .act) (R.whole .act)

/-- At the first point the printed body is the set-up and the staged program, -/
theorem callR_pos (i : grid0.Coords) (R : Refs) (hlen : R.len.IsWhole) (h : First i) :
    callR (F := F) i R hlen = initP.toProg R >>= fun _ => bodyRest i R := by
  unfold callR cc0_layers k0_part152
  dsimp only
  rw [dif_pos h]
  sl_kernel_rfl

/-- and at the others it is the staged program. -/
theorem callR_neg (i : grid0.Coords) (R : Refs) (hlen : R.len.IsWhole) (h : ¬ First i) :
    callR (F := F) i R hlen = bodyRest i R := by
  unfold callR cc0_layers k0_part152
  dsimp only
  rw [dif_neg h]
  sl_kernel_rfl

/-- The body as a program on the buffers. -/
def prog (i : grid0.Coords) : Cmd F PUnit := if First i then initP >>= fun _ => layerP i else layerP i

theorem callR_prog (i : grid0.Coords) (R : Refs) (hlen : R.len.IsWhole) : callR (F := F) i R hlen = (prog i).toProg R := by
  unfold prog
  by_cases h : First i
  · rw [if_pos h, callR_pos _ _ _ h, Cmd.toProg_bind]
    simp only [bodyRest_eq]
  · rw [if_neg h, callR_neg _ _ _ h, bodyRest_eq]

/-- The printed body meets the program's function, whatever the body table. -/
theorem callR_sound (D : Defs nD τ sig (Elt F) Λ₀) (c : Dev nD) (i : grid0.Coords) (R : Refs) (hlen : R.len.IsWhole) (q : PosShare TreeShare)
    (X : S2.Idx → BitVec 32) (st : St F) (Q : PUnit → sProp 𝕄) :
    iprop(owns (c : Thread nD τ) R.len q X ∗ Cmd.held c R st
        ∗ (iprop(owns (c : Thread nD τ) R.len q X ∗ Cmd.held c R ((prog i).run X st).2) -∗ Q ⟨⟩))
      ⊢ wp frame (wpE D Variants.none c none) Set.univ (callR i R hlen) Q := by
  rw [callR_prog]
  exact Cmd.sound D c R q X (prog i) st Q

theorem first_iff : ∀ t : Fin grid0.N, First (grid0.coords t) ↔ t.val = 0 := by decide +kernel

end Cert.LayersIdeal.Hand

end
-- ==== Proof.LayersBodyEq.lean ====
/-
  The printed body of the decoder-layers kernel is the text its ideal program prints, so what is shown of the one holds of
  the other; both are the staged program.
-/
module

public import proofs.«01_k».proof.Proof.Gen.Layers.Launch
public import proofs.«01_k».proof.Proof.Gen.Layers.Skeleton
public import proofs.«01_k».proof.Proof.LayersIdealBodyEq

@[expose] public section

set_option maxRecDepth 65536

noncomputable section

namespace Cert.Layers.Hand

open Cert.Layers Cert.Layers.Gen
open Cert.LayersIdeal.Hand (Bf St prog)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The memrefs the buffers are held through, each whole, and the lengths' table. -/
structure Refs where
  len : Memref sig .tc .smem S2 .i32
  buf : (b : Bf) → Memref sig .tc .vmem b.sh b.el
  whole : ∀ b, (buf b).IsWhole

/-- The same, as the ideal program's. -/
abbrev Refs.ideal (R : Refs) : Cert.LayersIdeal.Hand.Refs := ⟨R.len, R.buf, R.whole⟩

/-- Every buffer held at its contents. -/
def held (c : Dev nD) (R : Refs) (st : St F) : sProp 𝕄 :=
  bigSep Finset.univ fun b => owns (c : Thread nD τ) (R.buf b) fullShare (st b)

/-- The printed body at the buffers `R`. -/
abbrev callR (i : grid0.Coords) (R : Refs) (hlen : R.len.IsWhole) : Prog (TpuEff nD τ sig (Elt F) Λ₀ .tc) PUnit :=
  cc0_layers i R.len hlen (R.buf .r0) (R.whole .r0) (R.buf .cos) (R.whole .cos) (R.buf .sin) (R.whole .sin) (R.buf .kt) (R.whole .kt) (R.buf .ks) (R.whole .ks) (R.buf .vt) (R.whole .vt) (R.buf .vs) (R.whole .vs) (R.buf .an) (R.whole .an) (R.buf .mn) (R.whole .mn) (R.buf .wqkv) (R.whole .wqkv) (R.buf .sqkv) (R.whole .sqkv) (R.buf .wo) (R.whole .wo) (R.buf .so) (R.whole .so) (R.buf .wgu) (R.whole .wgu) (R.buf .sgu) (R.whole .sgu) (R.buf .wd) (R.whole .wd) (R.buf .sd) (R.whole .sd) (R.buf .res) (R.whole .res) (R.buf .oT) (R.whole .oT) (R.buf .kc) (R.whole .kc) (R.buf .kcs) (R.whole .kcs) (R.buf .vc) (R.whole .vc) (R.buf .vcs) (R.whole .vcs) (R.buf .r) (R.whole .r) (R.buf .cosS) (R.whole .cosS) (R.buf .sinS) (R.whole .sinS) (R.buf .q) (R.whole .q) (R.buf .kn) (R.whole .kn) (R.buf .vn) (R.whole .vn) (R.buf .kns) (R.whole .kns) (R.buf .vns) (R.whole .vns) (R.buf .s) (R.whole .s) (R.buf .o) (R.whole .o) (R.buf .act) (R.whole .act)

/-- The printed body meets the staged program's function: it is the ideal program's text. -/
theorem callR_sound (c : Dev nD) (i : grid0.Coords) (R : Refs) (hlen : R.len.IsWhole) (q : PosShare TreeShare)
    (X : S2.Idx → BitVec 32) (st : St F) (Q : PUnit → sProp 𝕄) :
    iprop(owns (c : Thread nD τ) R.len q X ∗ held c R st
        ∗ (iprop(owns (c : Thread nD τ) R.len q X ∗ held c R ((prog i).run X st).2) -∗ Q ⟨⟩))
      ⊢ wp frame (wpE (defs₀ (F := F)) Variants.none c none) Set.univ (callR i R hlen) Q := by
  have h := Cert.LayersIdeal.Hand.callR_sound (F := F) defs₀ c i R.ideal hlen q X st Q
  refine cast ?_ h
  sl_kernel_rfl

end Cert.Layers.Hand

end
-- ==== Proof.LayersKit.lean ====
/-
  What the runs of the decoder-layers kernel are stated over: the table and blocks read off the memory as the region
  finds it, the buffers at a point, and the region's invariant conjunct by conjunct.
-/
module

public import proofs.«01_k».proof.Proof.LayersIdealWalkB
public import proofs.«01_k».proof.Proof.LayersBodyEq
public import Idealize.ShloMosaic.Lib.Claim
public import Idealize.ShloMosaic.Lib.Pipeline.BigSepL
public import Idealize.ShloMosaic.Lib.Ring
public import Idealize.ShloMosaic.Lib.Transfers
public import Idealize.ShloMosaic.Lib.WordCmp

@[expose] public section

set_option maxRecDepth 16384

noncomputable section

namespace Cert.Layers.Hand

open Cert.Layers Cert.Layers.Gen
open Cert.LayersIdeal.Hand hiding callR callR_sound Refs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The memory as the region finds it -/

/-- Core `c`'s buffers when the region is entered: the host's operations have been run. -/
abbrev V (c : Dev nD) (b : Ref sig .tc) : Buf (Elt F) ((c : Thread nD τ).loc b) := StableHlo.after hostOps0 (fun b => m (c, b)) b

theorem hfresh : (hostOps0 : List (HloOp τ sig (Elt F))).Forall fun op => op.fresh = ∅ := ⟨rfl, rfl, rfl, rfl, rfl, rfl, rfl, rfl⟩

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hfresh main_chain

/-- The prefetched table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The pipeline at those contents (no window's block index reads the table). -/
abbrev adm : (pcfg0 (F := F)).Adm := ⟨tbl m, trivial⟩
abbrev cfgM : Pipeline.Cfg sig Λ₀ := cfg0 (adm m)

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's staging buffer holds its block at every point. -/
theorem before_of {c : Dev nD} (dat : Dat τ (Elt F) Unit ℕ (Pipeline.UD sig nD τ) ℕ (cfgM m) c) (w : Fin 23)
    (hw : w = 0 ∨ w = 1 ∨ w = 2 ∨ w = 3 ∨ w = 4 ∨ w = 5 ∨ w = 6 ∨ w = 7 ∨ w = 8 ∨ w = 9 ∨ w = 10 ∨ w = 11 ∨ w = 12 ∨ w = 13 ∨ w = 14 ∨ w = 15 ∨ w = 16)
    (hA : dat.A w = V m c (Pipeline.arrRef spec0 w))
    (hafter : ∀ t, dat.after w t = iblk m c w t) (t : Fin (cfgM m).N) (d) : dat.before w t d = iblk m c w t := by
  rcases hw with rfl | rfl | rfl | rfl | rfl | rfl | rfl | rfl | rfl | rfl | rfl | rfl | rfl | rfl | rfl | rfl | rfl <;>
  exact (dat.before_in_eq_fetched _ rfl (fun _ => rfl) (fun _ _ _ => rfl) (fun t => by rw [hafter]; unfold Dat.blockOf iblk; rw [hA]; try rfl) t d).trans
    (by unfold Dat.fetched Dat.blockOf iblk; rw [hA]; try rfl)

/-! ## The buffers at a point -/

abbrev tbM : Memref sig .tc .smem S2 .i32 := Memref.whole main_arg0

/-- The table held at half the full share. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- A buffer's memref: a window's at its current staging buffer, a scratch whole. -/
@[reducible] def mBuf (t : Fin (cfgM m).N) : (b : Bf) → Memref sig .tc .vmem b.sh b.el
  | .r0 => spec0_0.stage ((cfgM m).slots t 0)
  | .cos => spec0_1.stage ((cfgM m).slots t 1)
  | .sin => spec0_2.stage ((cfgM m).slots t 2)
  | .kt => spec0_3.stage ((cfgM m).slots t 3)
  | .ks => spec0_4.stage ((cfgM m).slots t 4)
  | .vt => spec0_5.stage ((cfgM m).slots t 5)
  | .vs => spec0_6.stage ((cfgM m).slots t 6)
  | .an => spec0_7.stage ((cfgM m).slots t 7)
  | .mn => spec0_8.stage ((cfgM m).slots t 8)
  | .wqkv => spec0_9.stage ((cfgM m).slots t 9)
  | .sqkv => spec0_10.stage ((cfgM m).slots t 10)
  | .wo => spec0_11.stage ((cfgM m).slots t 11)
  | .so => spec0_12.stage ((cfgM m).slots t 12)
  | .wgu => spec0_13.stage ((cfgM m).slots t 13)
  | .sgu => spec0_14.stage ((cfgM m).slots t 14)
  | .wd => spec0_15.stage ((cfgM m).slots t 15)
  | .sd => spec0_16.stage ((cfgM m).slots t 16)
  | .res => spec0_17.stage ((cfgM m).slots t 17)
  | .oT => spec0_18.stage ((cfgM m).slots t 18)
  | .kc => spec0_19.stage ((cfgM m).slots t 19)
  | .kcs => spec0_20.stage ((cfgM m).slots t 20)
  | .vc => spec0_21.stage ((cfgM m).slots t 21)
  | .vcs => spec0_22.stage ((cfgM m).slots t 22)
  | .r => Memref.whole cc0_scratch0
  | .cosS => Memref.whole cc0_scratch1
  | .sinS => Memref.whole cc0_scratch2
  | .q => Memref.whole cc0_scratch3
  | .kn => Memref.whole cc0_scratch4
  | .vn => Memref.whole cc0_scratch5
  | .kns => Memref.whole cc0_scratch6
  | .vns => Memref.whole cc0_scratch7
  | .s => Memref.whole cc0_scratch8
  | .o => Memref.whole cc0_scratch9
  | .act => Memref.whole cc0_scratch10

@[reducible] def hBuf (t : Fin (cfgM m).N) : (b : Bf) → (mBuf m t b).IsWhole
  | .r0 => hstage0_0 (((cfgM m).slots t 0).cast nbuf0_0)
  | .cos => hstage0_1 (((cfgM m).slots t 1).cast nbuf0_1)
  | .sin => hstage0_2 (((cfgM m).slots t 2).cast nbuf0_2)
  | .kt => hstage0_3 (((cfgM m).slots t 3).cast nbuf0_3)
  | .ks => hstage0_4 (((cfgM m).slots t 4).cast nbuf0_4)
  | .vt => hstage0_5 (((cfgM m).slots t 5).cast nbuf0_5)
  | .vs => hstage0_6 (((cfgM m).slots t 6).cast nbuf0_6)
  | .an => hstage0_7 (((cfgM m).slots t 7).cast nbuf0_7)
  | .mn => hstage0_8 (((cfgM m).slots t 8).cast nbuf0_8)
  | .wqkv => hstage0_9 (((cfgM m).slots t 9).cast nbuf0_9)
  | .sqkv => hstage0_10 (((cfgM m).slots t 10).cast nbuf0_10)
  | .wo => hstage0_11 (((cfgM m).slots t 11).cast nbuf0_11)
  | .so => hstage0_12 (((cfgM m).slots t 12).cast nbuf0_12)
  | .wgu => hstage0_13 (((cfgM m).slots t 13).cast nbuf0_13)
  | .sgu => hstage0_14 (((cfgM m).slots t 14).cast nbuf0_14)
  | .wd => hstage0_15 (((cfgM m).slots t 15).cast nbuf0_15)
  | .sd => hstage0_16 (((cfgM m).slots t 16).cast nbuf0_16)
  | .res => hstage0_17 (((cfgM m).slots t 17).cast nbuf0_17)
  | .oT => hstage0_18 (((cfgM m).slots t 18).cast nbuf0_18)
  | .kc => hstage0_19 (((cfgM m).slots t 19).cast nbuf0_19)
  | .kcs => hstage0_20 (((cfgM m).slots t 20).cast nbuf0_20)
  | .vc => hstage0_21 (((cfgM m).slots t 21).cast nbuf0_21)
  | .vcs => hstage0_22 (((cfgM m).slots t 22).cast nbuf0_22)
  | .r => Memref.isWhole_whole _
  | .cosS => Memref.isWhole_whole _
  | .sinS => Memref.isWhole_whole _
  | .q => Memref.isWhole_whole _
  | .kn => Memref.isWhole_whole _
  | .vn => Memref.isWhole_whole _
  | .kns => Memref.isWhole_whole _
  | .vns => Memref.isWhole_whole _
  | .s => Memref.isWhole_whole _
  | .o => Memref.isWhole_whole _
  | .act => Memref.isWhole_whole _

@[reducible] def RM (t : Fin (cfgM m).N) : Refs := ⟨tbM, mBuf m t, hBuf m t⟩

/-- The kernel body at point `t`, on what the pipeline calls it with. -/
abbrev bodyAt (t : Fin (cfgM m).N) : Prog (TpuEff nD τ sig (Elt F) Λ₀ .tc) PUnit :=
  callR (grid0.coords t) (RM m t) (Memref.isWhole_whole _)

/-- The body table's row at point `t`'s slots is that body. -/
theorem defs₀_row (t : Fin (cfgM m).N) :
    defs₀ (F := F) .tc (cfgM m).body ((cfgM m).bodyArgs t ((cfgM m).slots t)) = bodyAt m t := by
  unfold defs₀; rw [Defs.onTc_tc]; try rfl

/-- The windows' buffers, -/
def winBs : List Bf := [.r0, .cos, .sin, .kt, .ks, .vt, .vs, .an, .mn, .wqkv, .sqkv, .wo, .so, .wgu, .sgu, .wd, .sd, .res, .oT, .kc, .kcs, .vc, .vcs]
/-- and the scratches. -/
def scrBs : List Bf := [.r, .cosS, .sinS, .q, .kn, .vn, .kns, .vns, .s, .o, .act]

/-- A window's buffer at a point, held at `x`. -/
abbrev wb (c : Dev nD) (t : Fin (cfgM m).N) (b : Bf) (x : b.sh.Idx → Elt F b.el) : sProp 𝕄 := owns (c : Thread nD τ) (mBuf m t b) fullShare x

/-- The windows' buffers held, -/
def heldW (c : Dev nD) (t : Fin (cfgM m).N) (st : St F) : sProp 𝕄 :=
  iprop(wb m c t .r0 (st .r0) ∗ wb m c t .cos (st .cos) ∗ wb m c t .sin (st .sin) ∗ wb m c t .kt (st .kt) ∗ wb m c t .ks (st .ks) ∗ wb m c t .vt (st .vt) ∗ wb m c t .vs (st .vs) ∗ wb m c t .an (st .an) ∗ wb m c t .mn (st .mn) ∗ wb m c t .wqkv (st .wqkv) ∗ wb m c t .sqkv (st .sqkv) ∗ wb m c t .wo (st .wo) ∗ wb m c t .so (st .so) ∗ wb m c t .wgu (st .wgu) ∗ wb m c t .sgu (st .sgu) ∗ wb m c t .wd (st .wd) ∗ wb m c t .sd (st .sd) ∗ wb m c t .res (st .res) ∗ wb m c t .oT (st .oT) ∗ wb m c t .kc (st .kc) ∗ wb m c t .kcs (st .kcs) ∗ wb m c t .vc (st .vc) ∗ wb m c t .vcs (st .vcs))
/-- and the scratches. -/
def heldS (c : Dev nD) (st : St F) : sProp 𝕄 :=
  iprop((((c : Thread nD τ).loc cc0_scratch0) ↦{fullShare} st .r) ∗ (((c : Thread nD τ).loc cc0_scratch1) ↦{fullShare} st .cosS) ∗ (((c : Thread nD τ).loc cc0_scratch2) ↦{fullShare} st .sinS) ∗ (((c : Thread nD τ).loc cc0_scratch3) ↦{fullShare} st .q) ∗ (((c : Thread nD τ).loc cc0_scratch4) ↦{fullShare} st .kn) ∗ (((c : Thread nD τ).loc cc0_scratch5) ↦{fullShare} st .vn) ∗ (((c : Thread nD τ).loc cc0_scratch6) ↦{fullShare} st .kns) ∗ (((c : Thread nD τ).loc cc0_scratch7) ↦{fullShare} st .vns) ∗ (((c : Thread nD τ).loc cc0_scratch8) ↦{fullShare} st .s) ∗ (((c : Thread nD τ).loc cc0_scratch9) ↦{fullShare} st .o) ∗ (((c : Thread nD τ).loc cc0_scratch10) ↦{fullShare} st .act))

theorem held_eq (c : Dev nD) (t : Fin (cfgM m).N) (st : St F) : held c (RM m t) st = iprop(heldW m c t st ∗ heldS c st) := by
  unfold held
  rw [bigSep_univ_eq_bigSepL (winBs ++ scrBs) (by decide) (by decide), bigSepL_append]
  congr 1
  unfold heldS
  simp only [← owns_whole]
  rfl

/-! ## The contents -/

theorem el_ne (e : EltTy) : Nonempty (Elt F e) := inferInstance

/-- What a point finds: the inputs' blocks, the rest of no account. -/
def inp (c : Dev nD) (t : Fin (cfgM m).N) : St F
  | .r0 => iblk m c 0 t
  | .cos => iblk m c 1 t
  | .sin => iblk m c 2 t
  | .kt => iblk m c 3 t
  | .ks => iblk m c 4 t
  | .vt => iblk m c 5 t
  | .vs => iblk m c 6 t
  | .an => iblk m c 7 t
  | .mn => iblk m c 8 t
  | .wqkv => iblk m c 9 t
  | .sqkv => iblk m c 10 t
  | .wo => iblk m c 11 t
  | .so => iblk m c 12 t
  | .wgu => iblk m c 13 t
  | .sgu => iblk m c 14 t
  | .wd => iblk m c 15 t
  | .sd => iblk m c 16 t
  | b => fun _ => Classical.choice (el_ne b.el)

/-- The contents between layers: a point's inputs with what the scratches carry. -/
def carry (a st : St F) : St F
  | .r => st .r
  | .cosS => st .cosS
  | .sinS => st .sinS
  | .kn => st .kn
  | .vn => st .vn
  | .kns => st .kns
  | .vns => st .vns
  | b => a b

/-- The `n`-th point. -/
def pt (n : ℕ) : Fin (cfgM m).N := ⟨n % 30, Nat.lt_of_lt_of_eq (Nat.mod_lt n (by decide)) N_0.symm⟩
theorem pt_val (t : Fin (cfgM m).N) : pt m t.val = t := Fin.ext (Nat.mod_eq_of_lt (Nat.lt_of_lt_of_eq t.isLt N_0))

/-- The lengths. -/
def XM : S2.Idx → BitVec 32 := tbl m 0

/-- The contents each layer starts from. -/
def ch (c : Dev nD) : ℕ → St F
  | 0 => initM (inp m c (pt m 0))
  | n + 1 => carry (inp m c (pt m (n + 1))) (afterL (grid0.coords (pt m n)) (XM m) (ch c n))

/-- What a layer leaves. -/
def lv (c : Dev nD) (n : ℕ) : St F := afterL (grid0.coords (pt m n)) (XM m) (ch m c n)

/-- The layer's contents after the body, from contents agreeing with what the point finds. -/
theorem prog_zero (c : Dev nD) (st : St F) (t : Fin (cfgM m).N) (h0 : t.val = 0) (h : Ok KIn (initM (inp m c t)) st) :
    Ok K4 (lv m c t.val) ((prog (grid0.coords t)).run (XM m) st).2 := by
  unfold prog lv
  rw [if_pos ((first_iff t).2 h0), Cmd.run_bind, pt_val]
  refine layer_run (grid0.coords t) (XM m) (ch m c t.val) _ ?_
  have e : ch m c t.val = initM (inp m c t) := by
    have e0 : pt m 0 = t := by rw [← h0]; exact pt_val m t
    rw [h0]
    show initM (inp m c (pt m 0)) = _
    rw [e0]
  rw [e]
  exact ((initP_tr (XM m) (inp m c t)) KIn le_rfl st h).2.mono le_sup_right

theorem prog_succ (c : Dev nD) (st : St F) (t : Fin (cfgM m).N) (h0 : t.val ≠ 0) (h : Ok K0 (ch m c t.val) st) :
    Ok K4 (lv m c t.val) ((prog (grid0.coords t)).run (XM m) st).2 := by
  unfold prog lv
  rw [if_neg (fun h' => h0 ((first_iff t).1 h')), pt_val]
  exact layer_run (grid0.coords t) (XM m) (ch m c t.val) _ h

end Cert.Layers.Hand

end
-- ==== Proof.LayersRun.lean ====
/-
  The decoder-layers kernel run: the region's invariant carries what the scratches keep from one layer to the next, and
  each point's body leaves its layer's contents in the output windows.
-/
module

public import proofs.«01_k».proof.Proof.LayersKit
public import Idealize.ShloMosaic.Lib.Claim
public import Idealize.ShloMosaic.Lib.Pipeline.BigSepL
public import Idealize.ShloMosaic.Lib.Ring
public import Idealize.ShloMosaic.Lib.Transfers
public import Idealize.ShloMosaic.Lib.WordCmp

@[expose] public section

set_option maxRecDepth 16384

noncomputable section

namespace Cert.Layers.Hand

open Cert.Layers Cert.Layers.Gen
open Cert.LayersIdeal.Hand hiding callR callR_sound Refs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents -/

/-- What the scratches keep. -/
def K5 : Kn
  | .r | .cosS | .sinS | .q | .kn | .vn | .kns | .vns | .o | .act => Set.univ
  | _ => ∅

/-- The windows' contents from `a`, the scratches' from `st`. -/
def mix (a st : St F) : St F
  | .r => st .r
  | .cosS => st .cosS
  | .sinS => st .sinS
  | .q => st .q
  | .kn => st .kn
  | .vn => st .vn
  | .kns => st .kns
  | .vns => st .vns
  | .s => st .s
  | .o => st .o
  | .act => st .act
  | b => a b

/-- The windows' contents: the inputs' blocks and the outputs' as they come. -/
def ofW (c : Dev nD) (t : Fin (cfgM m).N) (d17 : (Bf.res).sh.Idx → Elt F (Bf.res).el) (d18 : (Bf.oT).sh.Idx → Elt F (Bf.oT).el) (d19 : (Bf.kc).sh.Idx → Elt F (Bf.kc).el) (d20 : (Bf.kcs).sh.Idx → Elt F (Bf.kcs).el) (d21 : (Bf.vc).sh.Idx → Elt F (Bf.vc).el) (d22 : (Bf.vcs).sh.Idx → Elt F (Bf.vcs).el) : St F
  | .res => d17
  | .oT => d18
  | .kc => d19
  | .kcs => d20
  | .vc => d21
  | .vcs => d22
  | b => inp m c t b

/-- The scratches' contents. -/
def ofS (a : St F) (f0 : (Bf.r).sh.Idx → Elt F (Bf.r).el) (f1 : (Bf.cosS).sh.Idx → Elt F (Bf.cosS).el) (f2 : (Bf.sinS).sh.Idx → Elt F (Bf.sinS).el) (f3 : (Bf.q).sh.Idx → Elt F (Bf.q).el) (f4 : (Bf.kn).sh.Idx → Elt F (Bf.kn).el) (f5 : (Bf.vn).sh.Idx → Elt F (Bf.vn).el) (f6 : (Bf.kns).sh.Idx → Elt F (Bf.kns).el) (f7 : (Bf.vns).sh.Idx → Elt F (Bf.vns).el) (f8 : (Bf.s).sh.Idx → Elt F (Bf.s).el) (f9 : (Bf.o).sh.Idx → Elt F (Bf.o).el) (f10 : (Bf.act).sh.Idx → Elt F (Bf.act).el) : St F
  | .r => f0
  | .cosS => f1
  | .sinS => f2
  | .q => f3
  | .kn => f4
  | .vn => f5
  | .kns => f6
  | .vns => f7
  | .s => f8
  | .o => f9
  | .act => f10
  | b => a b

theorem heldW_mix (c : Dev nD) (t : Fin (cfgM m).N) (a st : St F) : heldW m c t (mix a st) = heldW m c t a := rfl
theorem heldS_mix (c : Dev nD) (a st : St F) : heldS c (mix a st) = heldS c st := rfl

/-- Whether a buffer is an input window's. -/
def isIn : Bf → Bool
  | .r0 | .cos | .sin | .kt | .ks | .vt | .vs | .an | .mn | .wqkv | .sqkv | .wo | .so | .wgu | .sgu | .wd | .sd => true
  | _ => false

theorem ch_in (c : Dev nD) (n : ℕ) (b : Bf) (h : isIn b = true) : ch m c n b = inp m c (pt m n) b := by
  cases n <;> cases b <;> first | exact absurd h Bool.false_ne_true | rfl

theorem lv_in (c : Dev nD) (t : Fin (cfgM m).N) (b : Bf) (h : isIn b = true) : lv m c t.val b = inp m c t b := by
  have e : lv m c t.val b = ch m c t.val b := by
    cases b <;> first | exact absurd h Bool.false_ne_true | rfl
  rw [e, ch_in m c t.val b h, pt_val]

theorem ok_zero (c : Dev nD) (t : Fin (cfgM m).N) (a st : St F) (ha : ∀ b, isIn b = true → a b = inp m c t b) : Ok KIn (initM (inp m c t)) (mix a st) := by
  intro b x hx
  cases b <;> first | exact hx.elim | exact congrFun (ha _ rfl) x

theorem ok_succ (c : Dev nD) (t : Fin (cfgM m).N) (n : ℕ) (hn : t.val = n + 1) (a st : St F) (ha : ∀ b, isIn b = true → a b = inp m c t b)
    (h : Ok K5 (lv m c n) st) : Ok K0 (ch m c t.val) (mix a st) := by
  intro b x hx
  by_cases hb : isIn b = true
  · rw [ch_in m c t.val b hb, pt_val, ← ha b hb]
    cases b <;> first | exact absurd hb Bool.false_ne_true | rfl
  · rw [hn]
    cases b <;> first | exact absurd rfl hb | exact hx.elim | exact h _ x trivial

theorem sepL_congr {M : Type} [URA M] {I : Type} {l : List I} {Φ Ψ : I → sProp M} (h : ∀ i ∈ l, Φ i = Ψ i) : bigSepL l Φ = bigSepL l Ψ := by
  induction l with
  | nil => rfl
  | cons i l ih =>
    rw [bigSepL_cons, bigSepL_cons, h i List.mem_cons_self, ih fun j hj => h j (List.mem_cons_of_mem _ hj)]

theorem heldW_congr (c : Dev nD) (t : Fin (cfgM m).N) (st st' : St F) (h : ∀ b ∈ winBs, st b = st' b) : heldW m c t st = heldW m c t st' := by
  show bigSepL winBs (fun b => wb m c t b (st b)) = bigSepL winBs (fun b => wb m c t b (st' b))
  exact sepL_congr fun b hb => by rw [h b hb]

/-! ## The proof data -/

/-- No semaphore and no operand is the kernel's own. -/
abbrev osem0 : Fin 0 → SemLoc sig := Fin.elim0
theorem ownSemFacts0 : Pipeline.OwnSemFacts spec0 osem0 := by decide
def H0 : Finset (Ref sig .tc) := ∅
theorem H0_sub : H0 ⊆ Pipeline.restRefsP sig pre0 spec0 := by decide

/-- What the invariant holds and the body does not touch. -/
def rest (c : Dev nD) : sProp 𝕄 := iprop((∃ r, prngReg c r)
    ∗ Pipeline.ownSems0 (Ix := Unit) (Name := ℕ) (U := Pipeline.UD sig nD τ) (Lvl := ℕ) (Val := Elt F) (τ := τ) osem0 c
    ∗ bigSep H0 fun b => ((c.tc : Thread nD τ).loc b) ↦{fullShare} V m c b)

theorem PhiD_eq (c : Dev nD) : (Pipeline.ΦD osem0 spec0 H0 (V m) c : sProp 𝕄)
    = iprop(Pipeline.scopedRest (Ix := Unit) (Name := ℕ) (U := Pipeline.UD sig nD τ) (Lvl := ℕ) (Val := Elt F) spec0 c ∗ rest m c) := Pipeline.ΦD_eq _ _ _ _ _

/-- The region's invariant: before the first point the scratches at anything; afterwards at what the last layer kept. -/
def Phi (c : Dev nD) : ℕ → sProp 𝕄
  | 0 => iprop(Pipeline.ΦD osem0 spec0 H0 (V m) c ∗ Pipeline.ΦT pre0 (tbl m) c)
  | n + 1 => iprop(((∃ st : St F, ⌜Ok K5 (lv m c n) st⌝ ∗ heldS c st) ∗ rest m c) ∗ tbPt c tbM (tbl m 0))

/-- The proof data: each input's buffer at its block, each output's at its layer's contents. -/
def dats (_ : Fin 1) (c : Dev nD) : Dat τ (Elt F) Unit ℕ (Pipeline.UD sig nD τ) ℕ (cfgM m) c where
  A w := V m c (Pipeline.arrRef spec0 w)
  after w t := match w with
    | ⟨17, _⟩ => lv m c t.val .res
    | ⟨18, _⟩ => lv m c t.val .oT
    | ⟨19, _⟩ => lv m c t.val .kc
    | ⟨20, _⟩ => lv m c t.val .kcs
    | ⟨21, _⟩ => lv m c t.val .vc
    | ⟨22, _⟩ => lv m c t.val .vcs
    | w => iblk m c w t
  Φ t := Phi m c t.val
  q _ := fullShare
  owed _ := 0

theorem A_eq (c : Dev nD) (w : Fin (cfgM m).W) : (dats m 0 c).A w = V m c (Pipeline.arrRef spec0 w) := by
  dsimp only [dats]

theorem before0 (c : Dev nD) (t : Fin (cfgM m).N) (d) : (dats m 0 c).before 0 t d = iblk m c 0 t :=
  before_of m (dats m 0 c) 0 (by decide) (A_eq m c 0) (fun _ => rfl) t d
theorem before1 (c : Dev nD) (t : Fin (cfgM m).N) (d) : (dats m 0 c).before 1 t d = iblk m c 1 t :=
  before_of m (dats m 0 c) 1 (by decide) (A_eq m c 1) (fun _ => rfl) t d
theorem before2 (c : Dev nD) (t : Fin (cfgM m).N) (d) : (dats m 0 c).before 2 t d = iblk m c 2 t :=
  before_of m (dats m 0 c) 2 (by decide) (A_eq m c 2) (fun _ => rfl) t d
theorem before3 (c : Dev nD) (t : Fin (cfgM m).N) (d) : (dats m 0 c).before 3 t d = iblk m c 3 t :=
  before_of m (dats m 0 c) 3 (by decide) (A_eq m c 3) (fun _ => rfl) t d
theorem before4 (c : Dev nD) (t : Fin (cfgM m).N) (d) : (dats m 0 c).before 4 t d = iblk m c 4 t :=
  before_of m (dats m 0 c) 4 (by decide) (A_eq m c 4) (fun _ => rfl) t d
theorem before5 (c : Dev nD) (t : Fin (cfgM m).N) (d) : (dats m 0 c).before 5 t d = iblk m c 5 t :=
  before_of m (dats m 0 c) 5 (by decide) (A_eq m c 5) (fun _ => rfl) t d
theorem before6 (c : Dev nD) (t : Fin (cfgM m).N) (d) : (dats m 0 c).before 6 t d = iblk m c 6 t :=
  before_of m (dats m 0 c) 6 (by decide) (A_eq m c 6) (fun _ => rfl) t d
theorem before7 (c : Dev nD) (t : Fin (cfgM m).N) (d) : (dats m 0 c).before 7 t d = iblk m c 7 t :=
  before_of m (dats m 0 c) 7 (by decide) (A_eq m c 7) (fun _ => rfl) t d
theorem before8 (c : Dev nD) (t : Fin (cfgM m).N) (d) : (dats m 0 c).before 8 t d = iblk m c 8 t :=
  before_of m (dats m 0 c) 8 (by decide) (A_eq m c 8) (fun _ => rfl) t d
theorem before9 (c : Dev nD) (t : Fin (cfgM m).N) (d) : (dats m 0 c).before 9 t d = iblk m c 9 t :=
  before_of m (dats m 0 c) 9 (by decide) (A_eq m c 9) (fun _ => rfl) t d
theorem before10 (c : Dev nD) (t : Fin (cfgM m).N) (d) : (dats m 0 c).before 10 t d = iblk m c 10 t :=
  before_of m (dats m 0 c) 10 (by decide) (A_eq m c 10) (fun _ => rfl) t d
theorem before11 (c : Dev nD) (t : Fin (cfgM m).N) (d) : (dats m 0 c).before 11 t d = iblk m c 11 t :=
  before_of m (dats m 0 c) 11 (by decide) (A_eq m c 11) (fun _ => rfl) t d
theorem before12 (c : Dev nD) (t : Fin (cfgM m).N) (d) : (dats m 0 c).before 12 t d = iblk m c 12 t :=
  before_of m (dats m 0 c) 12 (by decide) (A_eq m c 12) (fun _ => rfl) t d
theorem before13 (c : Dev nD) (t : Fin (cfgM m).N) (d) : (dats m 0 c).before 13 t d = iblk m c 13 t :=
  before_of m (dats m 0 c) 13 (by decide) (A_eq m c 13) (fun _ => rfl) t d
theorem before14 (c : Dev nD) (t : Fin (cfgM m).N) (d) : (dats m 0 c).before 14 t d = iblk m c 14 t :=
  before_of m (dats m 0 c) 14 (by decide) (A_eq m c 14) (fun _ => rfl) t d
theorem before15 (c : Dev nD) (t : Fin (cfgM m).N) (d) : (dats m 0 c).before 15 t d = iblk m c 15 t :=
  before_of m (dats m 0 c) 15 (by decide) (A_eq m c 15) (fun _ => rfl) t d
theorem before16 (c : Dev nD) (t : Fin (cfgM m).N) (d) : (dats m 0 c).before 16 t d = iblk m c 16 t :=
  before_of m (dats m 0 c) 16 (by decide) (A_eq m c 16) (fun _ => rfl) t d

theorem Phi_castSucc (c : Dev nD) (t : Fin (cfgM m).N) : (dats m 0 c).Φ t.castSucc = Phi m c t.val := by
  dsimp only [dats]; rfl

/-- The windows' buffers before the body, -/
def winsBefore (c : Dev nD) (t : Fin (cfgM m).N) : sProp 𝕄 :=
  iprop((∃ d, wb m c t .r0 ((dats m 0 c).before 0 t d)) ∗ (∃ d, wb m c t .cos ((dats m 0 c).before 1 t d)) ∗ (∃ d, wb m c t .sin ((dats m 0 c).before 2 t d)) ∗ (∃ d, wb m c t .kt ((dats m 0 c).before 3 t d)) ∗ (∃ d, wb m c t .ks ((dats m 0 c).before 4 t d)) ∗ (∃ d, wb m c t .vt ((dats m 0 c).before 5 t d)) ∗ (∃ d, wb m c t .vs ((dats m 0 c).before 6 t d)) ∗ (∃ d, wb m c t .an ((dats m 0 c).before 7 t d)) ∗ (∃ d, wb m c t .mn ((dats m 0 c).before 8 t d)) ∗ (∃ d, wb m c t .wqkv ((dats m 0 c).before 9 t d)) ∗ (∃ d, wb m c t .sqkv ((dats m 0 c).before 10 t d)) ∗ (∃ d, wb m c t .wo ((dats m 0 c).before 11 t d)) ∗ (∃ d, wb m c t .so ((dats m 0 c).before 12 t d)) ∗ (∃ d, wb m c t .wgu ((dats m 0 c).before 13 t d)) ∗ (∃ d, wb m c t .sgu ((dats m 0 c).before 14 t d)) ∗ (∃ d, wb m c t .wd ((dats m 0 c).before 15 t d)) ∗ (∃ d, wb m c t .sd ((dats m 0 c).before 16 t d)) ∗ (∃ d, wb m c t .res ((dats m 0 c).before 17 t d)) ∗ (∃ d, wb m c t .oT ((dats m 0 c).before 18 t d)) ∗ (∃ d, wb m c t .kc ((dats m 0 c).before 19 t d)) ∗ (∃ d, wb m c t .kcs ((dats m 0 c).before 20 t d)) ∗ (∃ d, wb m c t .vc ((dats m 0 c).before 21 t d)) ∗ (∃ d, wb m c t .vcs ((dats m 0 c).before 22 t d)))
/-- and after it. -/
def winsAfter (c : Dev nD) (t : Fin (cfgM m).N) : sProp 𝕄 :=
  iprop(wb m c t .r0 ((dats m 0 c).after 0 t) ∗ wb m c t .cos ((dats m 0 c).after 1 t) ∗ wb m c t .sin ((dats m 0 c).after 2 t) ∗ wb m c t .kt ((dats m 0 c).after 3 t) ∗ wb m c t .ks ((dats m 0 c).after 4 t) ∗ wb m c t .vt ((dats m 0 c).after 5 t) ∗ wb m c t .vs ((dats m 0 c).after 6 t) ∗ wb m c t .an ((dats m 0 c).after 7 t) ∗ wb m c t .mn ((dats m 0 c).after 8 t) ∗ wb m c t .wqkv ((dats m 0 c).after 9 t) ∗ wb m c t .sqkv ((dats m 0 c).after 10 t) ∗ wb m c t .wo ((dats m 0 c).after 11 t) ∗ wb m c t .so ((dats m 0 c).after 12 t) ∗ wb m c t .wgu ((dats m 0 c).after 13 t) ∗ wb m c t .sgu ((dats m 0 c).after 14 t) ∗ wb m c t .wd ((dats m 0 c).after 15 t) ∗ wb m c t .sd ((dats m 0 c).after 16 t) ∗ wb m c t .res ((dats m 0 c).after 17 t) ∗ wb m c t .oT ((dats m 0 c).after 18 t) ∗ wb m c t .kc ((dats m 0 c).after 19 t) ∗ wb m c t .kcs ((dats m 0 c).after 20 t) ∗ wb m c t .vc ((dats m 0 c).after 21 t) ∗ wb m c t .vcs ((dats m 0 c).after 22 t))

/-- What the body is called with at point `t`, -/
def bodyPre (c : Dev nD) (t : Fin (cfgM m).N) : sProp 𝕄 :=
  iprop((dats m 0 c).Φ t.castSucc ∗ (dats m 0 c).owesAt () t.castSucc
    ∗ winsBefore m c t)

/-- and what it returns. -/
def bodyPost (c : Dev nD) (t : Fin (cfgM m).N) : sProp 𝕄 :=
  iprop((dats m 0 c).Φ t.succ ∗ (dats m 0 c).owesAt () t.succ
    ∗ winsAfter m c t)

/-- The windows as the body finds them. -/
theorem pre_win (c : Dev nD) (t : Fin (cfgM m).N) :
    winsBefore m c t ⊢ iprop(∃ a : St F, ⌜∀ b, isIn b = true → a b = inp m c t b⌝ ∗ heldW m c t a) := by
  unfold winsBefore
  simp only [before0, before1, before2, before3, before4, before5, before6, before7, before8, before9, before10, before11, before12, before13, before14, before15, before16]
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iexists ofW m c t ((dats m 0 c).before 17 t d17) ((dats m 0 c).before 18 t d18) ((dats m 0 c).before 19 t d19) ((dats m 0 c).before 20 t d20) ((dats m 0 c).before 21 t d21) ((dats m 0 c).before 22 t d22)
  isplitr
  · ipureintro
    intro b hb
    cases b <;> first | exact absurd hb Bool.false_ne_true | rfl
  · unfold heldW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

/-- The windows as it leaves them. -/
theorem post_win (c : Dev nD) (t : Fin (cfgM m).N) : heldW m c t (lv m c t.val) = winsAfter m c t := by
  unfold heldW winsAfter
  rw [lv_in m c t .r0 rfl, lv_in m c t .cos rfl, lv_in m c t .sin rfl, lv_in m c t .kt rfl, lv_in m c t .ks rfl, lv_in m c t .vt rfl, lv_in m c t .vs rfl, lv_in m c t .an rfl, lv_in m c t .mn rfl, lv_in m c t .wqkv rfl, lv_in m c t .sqkv rfl, lv_in m c t .wo rfl, lv_in m c t .so rfl, lv_in m c t .wgu rfl, lv_in m c t .sgu rfl, lv_in m c t .wd rfl, lv_in m c t .sd rfl]
  rfl

/-- The scratches as the first point finds them. -/
theorem scr_start (c : Dev nD) : Pipeline.scopedRest (Ix := Unit) (Name := ℕ) (U := Pipeline.UD sig nD τ) (Lvl := ℕ) (Val := Elt F) spec0 c ⊢ iprop(∃ st : St F, heldS c st) := by
  rw [scopedRest0_eq]
  iintro ⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩⟩
  iexists ofS (fun b => fun _ => Classical.choice (el_ne b.el)) f0 f1 f2 f3 f4 f5 f6 f7 f8 f9 f10
  unfold heldS
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexact S10

theorem scr_end (c : Dev nD) (st : St F) : heldS c st ⊢ Pipeline.scopedRest (Ix := Unit) (Name := ℕ) (U := Pipeline.UD sig nD τ) (Lvl := ℕ) (Val := Elt F) spec0 c := by
  rw [scopedRest0_eq]
  unfold heldS
  iintro ⟨S0, S1, S2, S3, S4, S5, S6, S7, S8, S9, S10⟩
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  iexists _; iexact S10

/-- The body from any contents its program takes to the layer's. -/
theorem sound_core (c : Dev nD) (t : Fin (cfgM m).N) (a st : St F) (h : Ok K4 (lv m c t.val) ((prog (grid0.coords t)).run (XM m) (mix a st)).2) (Q : PUnit → sProp 𝕄) :
    iprop(tbPt c tbM (tbl m 0) ∗ heldW m c t a ∗ heldS c st
      ∗ (iprop(tbPt c tbM (tbl m 0) ∗ heldW m c t (lv m c t.val) ∗ ∃ st : St F, ⌜Ok K5 (lv m c t.val) st⌝ ∗ heldS c st) -∗ Q ⟨⟩))
      ⊢ wp frame (wpE (defs₀ (F := F)) Variants.none c none) Set.univ (bodyAt m t) Q := by
  have hs := callR_sound c (grid0.coords t) (RM m t) (Memref.isWhole_whole _) fullShare.right (XM m) (mix a st) Q
  rw [held_eq, held_eq, heldW_mix, heldS_mix, owns_whole,
    heldW_congr m c t ((prog (grid0.coords t)).run (XM m) (mix a st)).2 (lv m c t.val) (fun b hb => funext fun x => h b x (by
      cases b <;> first | exact trivial | exact absurd hb (by decide)))] at hs
  refine BIBase.Entails.trans ?_ hs
  iintro ⟨HT, HW, HS, HQ⟩
  isplitl [HT]; · iexact HT
  isplitl [HW HS]
  · isplitl [HW]; · iexact HW
    iexact HS
  iintro ⟨HT, HW, HS⟩
  iapply HQ
  isplitl [HT]; · iexact HT
  isplitl [HW]; · iexact HW
  iexists _
  isplitr
  · ipureintro
    exact h.mono (by
      intro b x hx
      cases b <;> first | exact hx.elim | trivial)
  iexact HS

theorem sound_body (c : Dev nD) (t : Fin (cfgM m).N) :
    bodyPre m c t ⊢ wp frame (wpE (defs₀ (F := F)) Variants.none c none) Set.univ (bodyAt m t) (fun _ => bodyPost m c t) := by
  unfold bodyPre bodyPost
  rw [show (dats m 0 c).owesAt () t.succ = (dats m 0 c).owesAt () t.castSucc from rfl, ← post_win,
    show (dats m 0 c).Φ t.succ = iprop(((∃ st : St F, ⌜Ok K5 (lv m c t.val) st⌝ ∗ heldS c st) ∗ rest m c) ∗ tbPt c tbM (tbl m 0)) from rfl,
    Phi_castSucc m c t]
  by_cases h0 : t.val = 0
  · rw [show Phi m c t.val = iprop(Pipeline.ΦD osem0 spec0 H0 (V m) c ∗ Pipeline.ΦT pre0 (tbl m) c) from by rw [h0]; rfl, PhiT_eq, PhiD_eq]
    iintro ⟨⟨⟨HS, HR⟩, HT⟩, HO, HW⟩
    ihave HW := pre_win m c t $$ HW
    ihave HS := scr_start c $$ HS
    icases HW with ⟨%a, %ha, HW⟩
    icases HS with ⟨%st, HS⟩
    iapply (sound_core m c t a st (prog_zero m c (mix a st) t h0 (ok_zero m c t a st ha)) _)
    isplitl [HT]; · iexact HT
    isplitl [HW]; · iexact HW
    isplitl [HS]; · iexact HS
    iintro ⟨HT, HW, HS⟩
    isplitl [HS HR HT]
    · isplitl [HS HR]
      · isplitl [HS]; · iexact HS
        iexact HR
      iexact HT
    isplitl [HO]; · iexact HO
    iexact HW
  · obtain ⟨n, hn⟩ := Nat.exists_eq_succ_of_ne_zero h0
    rw [show Phi m c t.val = iprop(((∃ st : St F, ⌜Ok K5 (lv m c n) st⌝ ∗ heldS c st) ∗ rest m c) ∗ tbPt c tbM (tbl m 0)) from by rw [hn]; rfl]
    iintro ⟨⟨⟨⟨%st, %hst, HS⟩, HR⟩, HT⟩, HO, HW⟩
    ihave HW := pre_win m c t $$ HW
    icases HW with ⟨%a, %ha, HW⟩
    iapply (sound_core m c t a st (prog_succ m c (mix a st) t h0 (ok_succ m c t n hn a st ha hst)) _)
    isplitl [HT]; · iexact HT
    isplitl [HW]; · iexact HW
    isplitl [HS]; · iexact HS
    iintro ⟨HT, HW, HS⟩
    isplitl [HS HR HT]
    · isplitl [HS HR]
      · isplitl [HS]; · iexact HS
        iexact HR
      iexact HT
    isplitl [HO]; · iexact HO
    iexact HW

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

theorem hin (c : Dev nD) : iprop(Pipeline.ΦD osem0 spec0 H0 (V m) c ∗ Pipeline.ΦT pre0 (tbl m) c) ⊢ (dats m 0 c).Φ 0 := by
  rw [show (dats m 0 c).Φ 0 = iprop(Pipeline.ΦD osem0 spec0 H0 (V m) c ∗ Pipeline.ΦT pre0 (tbl m) c) from rfl]

theorem hout (c : Dev nD) : (dats m 0 c).Φ (Fin.last (cfgM m).N) ⊢ Pipeline.ΦD osem0 spec0 H0 (V m) c := by
  rw [show (dats m 0 c).Φ (Fin.last (cfgM m).N) = Phi m c (Fin.last (cfgM m).N).val from rfl,
    show (Fin.last (cfgM m).N).val = 29 + 1 from N_0, PhiD_eq]
  show iprop(((∃ st : St F, ⌜Ok K5 (lv m c 29) st⌝ ∗ heldS c st) ∗ rest m c) ∗ tbPt c tbM (tbl m 0)) ⊢ _
  iintro ⟨⟨⟨%st, -, HS⟩, HR⟩, -⟩
  isplitl [HS]
  · iapply (scr_end c st); iexact HS
  iexact HR

set_option backward.isDefEq.respectTransparency.types false in
/-- The run: every array as the proof data say, every other buffer as the region finds it, every semaphore at zero. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hpf := V_pre m) (hin := hin m) (hout := hout m)

end Cert.Layers.Hand

end
-- ==== Proof.LayersFrame.lean ====
/-
  The frame of the decoder-layers kernel: after the run its arguments are unchanged and every semaphore is at zero.
-/
module

public import proofs.«01_k».proof.Proof.LayersRun
public import Idealize.ShloMosaic.Lib.StableHlo.RunRead

@[expose] public section

set_option maxRecDepth 16384

noncomputable section

namespace Cert.Layers.Hand

open Cert.Layers Cert.Layers.Gen
open Cert.LayersIdeal.Hand hiding callR callR_sound Refs
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The host's operations write no argument. -/
theorem V_arg (c : Dev nD) (r : Ref sig .tc) (hr : r ∉ [main_v0, main_v1, main_v2, main_v3, main_v4, main_v5, main_v6, main_v7]) :
    V m c r = m ((c.tc : Thread nD τ).loc r) :=
  StableHlo.after_unwritten (ops := hostOps0 (F := F)) [main_v0, main_v1, main_v2, main_v3, main_v4, main_v5, main_v6, main_v7] rfl hr _

/-- A core's arguments are as launched. -/
abbrev Kept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)

/-- An argument no window takes. -/
theorem rest_kept {r : PUnit × MemSt nD τ sig (Elt F)} (h : Pipeline.FramePost (Pipeline.pin pcfgs fun _ => adm m) (dats m) 0 (V m) r) (c : Dev nD)
    (b : Ref sig .tc) (hb : b ∈ Pipeline.restRefs sig spec0) (hv : b ∉ [main_v0, main_v1, main_v2, main_v3, main_v4, main_v5, main_v6, main_v7]) :
    r.2.mem ((c.tc : Thread nD τ).loc b) = m ((c.tc : Thread nD τ).loc b) := ((h c).2 b hb).trans (V_arg m c b hv)

/-- The arguments end unchanged. -/
theorem args_of {r : PUnit × MemSt nD τ sig (Elt F)} (h : Pipeline.FramePost (Pipeline.pin pcfgs fun _ => adm m) (dats m) 0 (V m) r) (c : Dev nD) : Kept m r c :=
  ⟨rest_kept m h c main_arg0 (by decide) (by decide),
    ((h c).1 0).trans ((((dats m 0 c).arrAt_in 0 rfl _).trans (A_eq m c 0)).trans (V_arg m c main_arg1 (by decide))),
    rest_kept m h c main_arg2 (by decide) (by decide),
    rest_kept m h c main_arg3 (by decide) (by decide),
    rest_kept m h c main_arg4 (by decide) (by decide),
    rest_kept m h c main_arg5 (by decide) (by decide),
    rest_kept m h c main_arg6 (by decide) (by decide),
    rest_kept m h c main_arg7 (by decide) (by decide),
    ((h c).1 7).trans ((((dats m 0 c).arrAt_in 7 rfl _).trans (A_eq m c 7)).trans (V_arg m c main_arg8 (by decide))),
    ((h c).1 8).trans ((((dats m 0 c).arrAt_in 8 rfl _).trans (A_eq m c 8)).trans (V_arg m c main_arg9 (by decide))),
    ((h c).1 9).trans ((((dats m 0 c).arrAt_in 9 rfl _).trans (A_eq m c 9)).trans (V_arg m c main_arg10 (by decide))),
    ((h c).1 10).trans ((((dats m 0 c).arrAt_in 10 rfl _).trans (A_eq m c 10)).trans (V_arg m c main_arg11 (by decide))),
    rest_kept m h c main_arg12 (by decide) (by decide),
    ((h c).1 12).trans ((((dats m 0 c).arrAt_in 12 rfl _).trans (A_eq m c 12)).trans (V_arg m c main_arg13 (by decide))),
    ((h c).1 13).trans ((((dats m 0 c).arrAt_in 13 rfl _).trans (A_eq m c 13)).trans (V_arg m c main_arg14 (by decide))),
    ((h c).1 14).trans ((((dats m 0 c).arrAt_in 14 rfl _).trans (A_eq m c 14)).trans (V_arg m c main_arg15 (by decide))),
    rest_kept m h c main_arg16 (by decide) (by decide),
    ((h c).1 16).trans ((((dats m 0 c).arrAt_in 16 rfl _).trans (A_eq m c 16)).trans (V_arg m c main_arg17 (by decide)))⟩

/-- The frame. -/
theorem frame_run : θ_run defs (onTc (τ := τ) (main (F := F))) ⟨m, fun _ => 0, ρ⟩ (fun r => (∀ c : Dev nD, Kept m r c)
      ∧ r.2.sem = fun _ => 0) :=
  (θ_run defs _ _).mono (fun _ h => ⟨args_of m h.1, h.2⟩) (run_main m ρ)

end Cert.Layers.Hand

end
-- ==== Proof.LayersIdealKit.lean ====
/-
  What the runs of the decoder-layers kernel are stated over: the table and blocks read off the memory as the region
  finds it, the buffers at a point, and the region's invariant conjunct by conjunct.
-/
module

public import proofs.«01_k».proof.Proof.LayersIdealWalkB
public import proofs.«01_k».proof.Proof.LayersIdealBodyEq
public import Idealize.ShloMosaic.Lib.Claim
public import Idealize.ShloMosaic.Lib.Pipeline.BigSepL
public import Idealize.ShloMosaic.Lib.Ring
public import Idealize.ShloMosaic.Lib.Transfers
public import Idealize.ShloMosaic.Lib.WordCmp

@[expose] public section

set_option maxRecDepth 16384

noncomputable section

namespace Cert.LayersIdeal.Hand

open Cert.LayersIdeal Cert.LayersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The memory as the region finds it -/

/-- Core `c`'s buffers when the region is entered: the host's operations have been run. -/
abbrev V (c : Dev nD) (b : Ref sig .tc) : Buf (Elt F) ((c : Thread nD τ).loc b) := StableHlo.after hostOps0 (fun b => m (c, b)) b

theorem hfresh : (hostOps0 : List (HloOp τ sig (Elt F))).Forall fun op => op.fresh = ∅ := ⟨rfl, rfl, rfl, rfl, rfl, rfl, rfl, rfl⟩

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hfresh main_chain

/-- The prefetched table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The pipeline at those contents (no window's block index reads the table). -/
abbrev adm : (pcfg0 (F := F)).Adm := ⟨tbl m, trivial⟩
abbrev cfgM : Pipeline.Cfg sig Λ₀ := cfg0 (adm m)

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's staging buffer holds its block at every point. -/
theorem before_of {c : Dev nD} (dat : Dat τ (Elt F) Unit ℕ (Pipeline.UD sig nD τ) ℕ (cfgM m) c) (w : Fin 23)
    (hw : w = 0 ∨ w = 1 ∨ w = 2 ∨ w = 3 ∨ w = 4 ∨ w = 5 ∨ w = 6 ∨ w = 7 ∨ w = 8 ∨ w = 9 ∨ w = 10 ∨ w = 11 ∨ w = 12 ∨ w = 13 ∨ w = 14 ∨ w = 15 ∨ w = 16)
    (hA : dat.A w = V m c (Pipeline.arrRef spec0 w))
    (hafter : ∀ t, dat.after w t = iblk m c w t) (t : Fin (cfgM m).N) (d) : dat.before w t d = iblk m c w t := by
  rcases hw with rfl | rfl | rfl | rfl | rfl | rfl | rfl | rfl | rfl | rfl | rfl | rfl | rfl | rfl | rfl | rfl | rfl <;>
  exact (dat.before_in_eq_fetched _ rfl (fun _ => rfl) (fun _ _ _ => rfl) (fun t => by rw [hafter]; unfold Dat.blockOf iblk; rw [hA]; try rfl) t d).trans
    (by unfold Dat.fetched Dat.blockOf iblk; rw [hA]; try rfl)

/-! ## The buffers at a point -/

abbrev tbM : Memref sig .tc .smem S2 .i32 := Memref.whole main_arg0

/-- The table held at half the full share. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- A buffer's memref: a window's at its current staging buffer, a scratch whole. -/
@[reducible] def mBuf (t : Fin (cfgM m).N) : (b : Bf) → Memref sig .tc .vmem b.sh b.el
  | .r0 => spec0_0.stage ((cfgM m).slots t 0)
  | .cos => spec0_1.stage ((cfgM m).slots t 1)
  | .sin => spec0_2.stage ((cfgM m).slots t 2)
  | .kt => spec0_3.stage ((cfgM m).slots t 3)
  | .ks => spec0_4.stage ((cfgM m).slots t 4)
  | .vt => spec0_5.stage ((cfgM m).slots t 5)
  | .vs => spec0_6.stage ((cfgM m).slots t 6)
  | .an => spec0_7.stage ((cfgM m).slots t 7)
  | .mn => spec0_8.stage ((cfgM m).slots t 8)
  | .wqkv => spec0_9.stage ((cfgM m).slots t 9)
  | .sqkv => spec0_10.stage ((cfgM m).slots t 10)
  | .wo => spec0_11.stage ((cfgM m).slots t 11)
  | .so => spec0_12.stage ((cfgM m).slots t 12)
  | .wgu => spec0_13.stage ((cfgM m).slots t 13)
  | .sgu => spec0_14.stage ((cfgM m).slots t 14)
  | .wd => spec0_15.stage ((cfgM m).slots t 15)
  | .sd => spec0_16.stage ((cfgM m).slots t 16)
  | .res => spec0_17.stage ((cfgM m).slots t 17)
  | .oT => spec0_18.stage ((cfgM m).slots t 18)
  | .kc => spec0_19.stage ((cfgM m).slots t 19)
  | .kcs => spec0_20.stage ((cfgM m).slots t 20)
  | .vc => spec0_21.stage ((cfgM m).slots t 21)
  | .vcs => spec0_22.stage ((cfgM m).slots t 22)
  | .r => Memref.whole cc0_scratch0
  | .cosS => Memref.whole cc0_scratch1
  | .sinS => Memref.whole cc0_scratch2
  | .q => Memref.whole cc0_scratch3
  | .kn => Memref.whole cc0_scratch4
  | .vn => Memref.whole cc0_scratch5
  | .kns => Memref.whole cc0_scratch6
  | .vns => Memref.whole cc0_scratch7
  | .s => Memref.whole cc0_scratch8
  | .o => Memref.whole cc0_scratch9
  | .act => Memref.whole cc0_scratch10

@[reducible] def hBuf (t : Fin (cfgM m).N) : (b : Bf) → (mBuf m t b).IsWhole
  | .r0 => hstage0_0 (((cfgM m).slots t 0).cast nbuf0_0)
  | .cos => hstage0_1 (((cfgM m).slots t 1).cast nbuf0_1)
  | .sin => hstage0_2 (((cfgM m).slots t 2).cast nbuf0_2)
  | .kt => hstage0_3 (((cfgM m).slots t 3).cast nbuf0_3)
  | .ks => hstage0_4 (((cfgM m).slots t 4).cast nbuf0_4)
  | .vt => hstage0_5 (((cfgM m).slots t 5).cast nbuf0_5)
  | .vs => hstage0_6 (((cfgM m).slots t 6).cast nbuf0_6)
  | .an => hstage0_7 (((cfgM m).slots t 7).cast nbuf0_7)
  | .mn => hstage0_8 (((cfgM m).slots t 8).cast nbuf0_8)
  | .wqkv => hstage0_9 (((cfgM m).slots t 9).cast nbuf0_9)
  | .sqkv => hstage0_10 (((cfgM m).slots t 10).cast nbuf0_10)
  | .wo => hstage0_11 (((cfgM m).slots t 11).cast nbuf0_11)
  | .so => hstage0_12 (((cfgM m).slots t 12).cast nbuf0_12)
  | .wgu => hstage0_13 (((cfgM m).slots t 13).cast nbuf0_13)
  | .sgu => hstage0_14 (((cfgM m).slots t 14).cast nbuf0_14)
  | .wd => hstage0_15 (((cfgM m).slots t 15).cast nbuf0_15)
  | .sd => hstage0_16 (((cfgM m).slots t 16).cast nbuf0_16)
  | .res => hstage0_17 (((cfgM m).slots t 17).cast nbuf0_17)
  | .oT => hstage0_18 (((cfgM m).slots t 18).cast nbuf0_18)
  | .kc => hstage0_19 (((cfgM m).slots t 19).cast nbuf0_19)
  | .kcs => hstage0_20 (((cfgM m).slots t 20).cast nbuf0_20)
  | .vc => hstage0_21 (((cfgM m).slots t 21).cast nbuf0_21)
  | .vcs => hstage0_22 (((cfgM m).slots t 22).cast nbuf0_22)
  | .r => Memref.isWhole_whole _
  | .cosS => Memref.isWhole_whole _
  | .sinS => Memref.isWhole_whole _
  | .q => Memref.isWhole_whole _
  | .kn => Memref.isWhole_whole _
  | .vn => Memref.isWhole_whole _
  | .kns => Memref.isWhole_whole _
  | .vns => Memref.isWhole_whole _
  | .s => Memref.isWhole_whole _
  | .o => Memref.isWhole_whole _
  | .act => Memref.isWhole_whole _

@[reducible] def RM (t : Fin (cfgM m).N) : Refs := ⟨tbM, mBuf m t, hBuf m t⟩

/-- The kernel body at point `t`, on what the pipeline calls it with. -/
abbrev bodyAt (t : Fin (cfgM m).N) : Prog (TpuEff nD τ sig (Elt F) Λ₀ .tc) PUnit :=
  callR (grid0.coords t) (RM m t) (Memref.isWhole_whole _)

/-- The body table's row at point `t`'s slots is that body. -/
theorem defs₀_row (t : Fin (cfgM m).N) :
    defs₀ (F := F) .tc (cfgM m).body ((cfgM m).bodyArgs t ((cfgM m).slots t)) = bodyAt m t := by
  unfold defs₀; rw [Defs.onTc_tc]; try rfl

/-- The windows' buffers, -/
def winBs : List Bf := [.r0, .cos, .sin, .kt, .ks, .vt, .vs, .an, .mn, .wqkv, .sqkv, .wo, .so, .wgu, .sgu, .wd, .sd, .res, .oT, .kc, .kcs, .vc, .vcs]
/-- and the scratches. -/
def scrBs : List Bf := [.r, .cosS, .sinS, .q, .kn, .vn, .kns, .vns, .s, .o, .act]

/-- A window's buffer at a point, held at `x`. -/
abbrev wb (c : Dev nD) (t : Fin (cfgM m).N) (b : Bf) (x : b.sh.Idx → Elt F b.el) : sProp 𝕄 := owns (c : Thread nD τ) (mBuf m t b) fullShare x

/-- The windows' buffers held, -/
def heldW (c : Dev nD) (t : Fin (cfgM m).N) (st : St F) : sProp 𝕄 :=
  iprop(wb m c t .r0 (st .r0) ∗ wb m c t .cos (st .cos) ∗ wb m c t .sin (st .sin) ∗ wb m c t .kt (st .kt) ∗ wb m c t .ks (st .ks) ∗ wb m c t .vt (st .vt) ∗ wb m c t .vs (st .vs) ∗ wb m c t .an (st .an) ∗ wb m c t .mn (st .mn) ∗ wb m c t .wqkv (st .wqkv) ∗ wb m c t .sqkv (st .sqkv) ∗ wb m c t .wo (st .wo) ∗ wb m c t .so (st .so) ∗ wb m c t .wgu (st .wgu) ∗ wb m c t .sgu (st .sgu) ∗ wb m c t .wd (st .wd) ∗ wb m c t .sd (st .sd) ∗ wb m c t .res (st .res) ∗ wb m c t .oT (st .oT) ∗ wb m c t .kc (st .kc) ∗ wb m c t .kcs (st .kcs) ∗ wb m c t .vc (st .vc) ∗ wb m c t .vcs (st .vcs))
/-- and the scratches. -/
def heldS (c : Dev nD) (st : St F) : sProp 𝕄 :=
  iprop((((c : Thread nD τ).loc cc0_scratch0) ↦{fullShare} st .r) ∗ (((c : Thread nD τ).loc cc0_scratch1) ↦{fullShare} st .cosS) ∗ (((c : Thread nD τ).loc cc0_scratch2) ↦{fullShare} st .sinS) ∗ (((c : Thread nD τ).loc cc0_scratch3) ↦{fullShare} st .q) ∗ (((c : Thread nD τ).loc cc0_scratch4) ↦{fullShare} st .kn) ∗ (((c : Thread nD τ).loc cc0_scratch5) ↦{fullShare} st .vn) ∗ (((c : Thread nD τ).loc cc0_scratch6) ↦{fullShare} st .kns) ∗ (((c : Thread nD τ).loc cc0_scratch7) ↦{fullShare} st .vns) ∗ (((c : Thread nD τ).loc cc0_scratch8) ↦{fullShare} st .s) ∗ (((c : Thread nD τ).loc cc0_scratch9) ↦{fullShare} st .o) ∗ (((c : Thread nD τ).loc cc0_scratch10) ↦{fullShare} st .act))

theorem held_eq (c : Dev nD) (t : Fin (cfgM m).N) (st : St F) : Cmd.held c (RM m t) st = iprop(heldW m c t st ∗ heldS c st) := by
  unfold Cmd.held
  rw [bigSep_univ_eq_bigSepL (winBs ++ scrBs) (by decide) (by decide), bigSepL_append]
  congr 1
  unfold heldS
  simp only [← owns_whole]
  rfl

/-! ## The contents -/

theorem el_ne (e : EltTy) : Nonempty (Elt F e) := inferInstance

/-- What a point finds: the inputs' blocks, the rest of no account. -/
def inp (c : Dev nD) (t : Fin (cfgM m).N) : St F
  | .r0 => iblk m c 0 t
  | .cos => iblk m c 1 t
  | .sin => iblk m c 2 t
  | .kt => iblk m c 3 t
  | .ks => iblk m c 4 t
  | .vt => iblk m c 5 t
  | .vs => iblk m c 6 t
  | .an => iblk m c 7 t
  | .mn => iblk m c 8 t
  | .wqkv => iblk m c 9 t
  | .sqkv => iblk m c 10 t
  | .wo => iblk m c 11 t
  | .so => iblk m c 12 t
  | .wgu => iblk m c 13 t
  | .sgu => iblk m c 14 t
  | .wd => iblk m c 15 t
  | .sd => iblk m c 16 t
  | b => fun _ => Classical.choice (el_ne b.el)

/-- The contents between layers: a point's inputs with what the scratches carry. -/
def carry (a st : St F) : St F
  | .r => st .r
  | .cosS => st .cosS
  | .sinS => st .sinS
  | .kn => st .kn
  | .vn => st .vn
  | .kns => st .kns
  | .vns => st .vns
  | b => a b

/-- The `n`-th point. -/
def pt (n : ℕ) : Fin (cfgM m).N := ⟨n % 30, Nat.lt_of_lt_of_eq (Nat.mod_lt n (by decide)) N_0.symm⟩
theorem pt_val (t : Fin (cfgM m).N) : pt m t.val = t := Fin.ext (Nat.mod_eq_of_lt (Nat.lt_of_lt_of_eq t.isLt N_0))

/-- The lengths. -/
def XM : S2.Idx → BitVec 32 := tbl m 0

/-- The contents each layer starts from. -/
def ch (c : Dev nD) : ℕ → St F
  | 0 => initM (inp m c (pt m 0))
  | n + 1 => carry (inp m c (pt m (n + 1))) (afterL (grid0.coords (pt m n)) (XM m) (ch c n))

/-- What a layer leaves. -/
def lv (c : Dev nD) (n : ℕ) : St F := afterL (grid0.coords (pt m n)) (XM m) (ch m c n)

/-- The layer's contents after the body, from contents agreeing with what the point finds. -/
theorem prog_zero (c : Dev nD) (st : St F) (t : Fin (cfgM m).N) (h0 : t.val = 0) (h : Ok KIn (initM (inp m c t)) st) :
    Ok K4 (lv m c t.val) ((prog (grid0.coords t)).run (XM m) st).2 := by
  unfold prog lv
  rw [if_pos ((first_iff t).2 h0), Cmd.run_bind, pt_val]
  refine layer_run (grid0.coords t) (XM m) (ch m c t.val) _ ?_
  have e : ch m c t.val = initM (inp m c t) := by
    have e0 : pt m 0 = t := by rw [← h0]; exact pt_val m t
    rw [h0]
    show initM (inp m c (pt m 0)) = _
    rw [e0]
  rw [e]
  exact ((initP_tr (XM m) (inp m c t)) KIn le_rfl st h).2.mono le_sup_right

theorem prog_succ (c : Dev nD) (st : St F) (t : Fin (cfgM m).N) (h0 : t.val ≠ 0) (h : Ok K0 (ch m c t.val) st) :
    Ok K4 (lv m c t.val) ((prog (grid0.coords t)).run (XM m) st).2 := by
  unfold prog lv
  rw [if_neg (fun h' => h0 ((first_iff t).1 h')), pt_val]
  exact layer_run (grid0.coords t) (XM m) (ch m c t.val) _ h

end Cert.LayersIdeal.Hand

end
-- ==== Proof.LayersIdealRun.lean ====
/-
  The decoder-layers kernel run: the region's invariant carries what the scratches keep from one layer to the next, and
  each point's body leaves its layer's contents in the output windows.
-/
module

public import proofs.«01_k».proof.Proof.LayersIdealKit
public import Idealize.ShloMosaic.Lib.Claim
public import Idealize.ShloMosaic.Lib.Pipeline.BigSepL
public import Idealize.ShloMosaic.Lib.Ring
public import Idealize.ShloMosaic.Lib.Transfers
public import Idealize.ShloMosaic.Lib.WordCmp

@[expose] public section

set_option maxRecDepth 16384

noncomputable section

namespace Cert.LayersIdeal.Hand

open Cert.LayersIdeal Cert.LayersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents -/

/-- What the scratches keep. -/
def K5 : Kn
  | .r | .cosS | .sinS | .q | .kn | .vn | .kns | .vns | .o | .act => Set.univ
  | _ => ∅

/-- The windows' contents from `a`, the scratches' from `st`. -/
def mix (a st : St F) : St F
  | .r => st .r
  | .cosS => st .cosS
  | .sinS => st .sinS
  | .q => st .q
  | .kn => st .kn
  | .vn => st .vn
  | .kns => st .kns
  | .vns => st .vns
  | .s => st .s
  | .o => st .o
  | .act => st .act
  | b => a b

/-- The windows' contents: the inputs' blocks and the outputs' as they come. -/
def ofW (c : Dev nD) (t : Fin (cfgM m).N) (d17 : (Bf.res).sh.Idx → Elt F (Bf.res).el) (d18 : (Bf.oT).sh.Idx → Elt F (Bf.oT).el) (d19 : (Bf.kc).sh.Idx → Elt F (Bf.kc).el) (d20 : (Bf.kcs).sh.Idx → Elt F (Bf.kcs).el) (d21 : (Bf.vc).sh.Idx → Elt F (Bf.vc).el) (d22 : (Bf.vcs).sh.Idx → Elt F (Bf.vcs).el) : St F
  | .res => d17
  | .oT => d18
  | .kc => d19
  | .kcs => d20
  | .vc => d21
  | .vcs => d22
  | b => inp m c t b

/-- The scratches' contents. -/
def ofS (a : St F) (f0 : (Bf.r).sh.Idx → Elt F (Bf.r).el) (f1 : (Bf.cosS).sh.Idx → Elt F (Bf.cosS).el) (f2 : (Bf.sinS).sh.Idx → Elt F (Bf.sinS).el) (f3 : (Bf.q).sh.Idx → Elt F (Bf.q).el) (f4 : (Bf.kn).sh.Idx → Elt F (Bf.kn).el) (f5 : (Bf.vn).sh.Idx → Elt F (Bf.vn).el) (f6 : (Bf.kns).sh.Idx → Elt F (Bf.kns).el) (f7 : (Bf.vns).sh.Idx → Elt F (Bf.vns).el) (f8 : (Bf.s).sh.Idx → Elt F (Bf.s).el) (f9 : (Bf.o).sh.Idx → Elt F (Bf.o).el) (f10 : (Bf.act).sh.Idx → Elt F (Bf.act).el) : St F
  | .r => f0
  | .cosS => f1
  | .sinS => f2
  | .q => f3
  | .kn => f4
  | .vn => f5
  | .kns => f6
  | .vns => f7
  | .s => f8
  | .o => f9
  | .act => f10
  | b => a b

theorem heldW_mix (c : Dev nD) (t : Fin (cfgM m).N) (a st : St F) : heldW m c t (mix a st) = heldW m c t a := rfl
theorem heldS_mix (c : Dev nD) (a st : St F) : heldS c (mix a st) = heldS c st := rfl

/-- Whether a buffer is an input window's. -/
def isIn : Bf → Bool
  | .r0 | .cos | .sin | .kt | .ks | .vt | .vs | .an | .mn | .wqkv | .sqkv | .wo | .so | .wgu | .sgu | .wd | .sd => true
  | _ => false

theorem ch_in (c : Dev nD) (n : ℕ) (b : Bf) (h : isIn b = true) : ch m c n b = inp m c (pt m n) b := by
  cases n <;> cases b <;> first | exact absurd h Bool.false_ne_true | rfl

theorem lv_in (c : Dev nD) (t : Fin (cfgM m).N) (b : Bf) (h : isIn b = true) : lv m c t.val b = inp m c t b := by
  have e : lv m c t.val b = ch m c t.val b := by
    cases b <;> first | exact absurd h Bool.false_ne_true | rfl
  rw [e, ch_in m c t.val b h, pt_val]

theorem ok_zero (c : Dev nD) (t : Fin (cfgM m).N) (a st : St F) (ha : ∀ b, isIn b = true → a b = inp m c t b) : Ok KIn (initM (inp m c t)) (mix a st) := by
  intro b x hx
  cases b <;> first | exact hx.elim | exact congrFun (ha _ rfl) x

theorem ok_succ (c : Dev nD) (t : Fin (cfgM m).N) (n : ℕ) (hn : t.val = n + 1) (a st : St F) (ha : ∀ b, isIn b = true → a b = inp m c t b)
    (h : Ok K5 (lv m c n) st) : Ok K0 (ch m c t.val) (mix a st) := by
  intro b x hx
  by_cases hb : isIn b = true
  · rw [ch_in m c t.val b hb, pt_val, ← ha b hb]
    cases b <;> first | exact absurd hb Bool.false_ne_true | rfl
  · rw [hn]
    cases b <;> first | exact absurd rfl hb | exact hx.elim | exact h _ x trivial

theorem sepL_congr {M : Type} [URA M] {I : Type} {l : List I} {Φ Ψ : I → sProp M} (h : ∀ i ∈ l, Φ i = Ψ i) : bigSepL l Φ = bigSepL l Ψ := by
  induction l with
  | nil => rfl
  | cons i l ih =>
    rw [bigSepL_cons, bigSepL_cons, h i List.mem_cons_self, ih fun j hj => h j (List.mem_cons_of_mem _ hj)]

theorem heldW_congr (c : Dev nD) (t : Fin (cfgM m).N) (st st' : St F) (h : ∀ b ∈ winBs, st b = st' b) : heldW m c t st = heldW m c t st' := by
  show bigSepL winBs (fun b => wb m c t b (st b)) = bigSepL winBs (fun b => wb m c t b (st' b))
  exact sepL_congr fun b hb => by rw [h b hb]

/-! ## The proof data -/

/-- No semaphore and no operand is the kernel's own. -/
abbrev osem0 : Fin 0 → SemLoc sig := Fin.elim0
theorem ownSemFacts0 : Pipeline.OwnSemFacts spec0 osem0 := by decide
def H0 : Finset (Ref sig .tc) := ∅
theorem H0_sub : H0 ⊆ Pipeline.restRefsP sig pre0 spec0 := by decide

/-- What the invariant holds and the body does not touch. -/
def rest (c : Dev nD) : sProp 𝕄 := iprop((∃ r, prngReg c r)
    ∗ Pipeline.ownSems0 (Ix := Unit) (Name := ℕ) (U := Pipeline.UD sig nD τ) (Lvl := ℕ) (Val := Elt F) (τ := τ) osem0 c
    ∗ bigSep H0 fun b => ((c.tc : Thread nD τ).loc b) ↦{fullShare} V m c b)

theorem PhiD_eq (c : Dev nD) : (Pipeline.ΦD osem0 spec0 H0 (V m) c : sProp 𝕄)
    = iprop(Pipeline.scopedRest (Ix := Unit) (Name := ℕ) (U := Pipeline.UD sig nD τ) (Lvl := ℕ) (Val := Elt F) spec0 c ∗ rest m c) := Pipeline.ΦD_eq _ _ _ _ _

/-- The region's invariant: before the first point the scratches at anything; afterwards at what the last layer kept. -/
def Phi (c : Dev nD) : ℕ → sProp 𝕄
  | 0 => iprop(Pipeline.ΦD osem0 spec0 H0 (V m) c ∗ Pipeline.ΦT pre0 (tbl m) c)
  | n + 1 => iprop(((∃ st : St F, ⌜Ok K5 (lv m c n) st⌝ ∗ heldS c st) ∗ rest m c) ∗ tbPt c tbM (tbl m 0))

/-- The proof data: each input's buffer at its block, each output's at its layer's contents. -/
def dats (_ : Fin 1) (c : Dev nD) : Dat τ (Elt F) Unit ℕ (Pipeline.UD sig nD τ) ℕ (cfgM m) c where
  A w := V m c (Pipeline.arrRef spec0 w)
  after w t := match w with
    | ⟨17, _⟩ => lv m c t.val .res
    | ⟨18, _⟩ => lv m c t.val .oT
    | ⟨19, _⟩ => lv m c t.val .kc
    | ⟨20, _⟩ => lv m c t.val .kcs
    | ⟨21, _⟩ => lv m c t.val .vc
    | ⟨22, _⟩ => lv m c t.val .vcs
    | w => iblk m c w t
  Φ t := Phi m c t.val
  q _ := fullShare
  owed _ := 0

theorem A_eq (c : Dev nD) (w : Fin (cfgM m).W) : (dats m 0 c).A w = V m c (Pipeline.arrRef spec0 w) := by
  dsimp only [dats]

theorem before0 (c : Dev nD) (t : Fin (cfgM m).N) (d) : (dats m 0 c).before 0 t d = iblk m c 0 t :=
  before_of m (dats m 0 c) 0 (by decide) (A_eq m c 0) (fun _ => rfl) t d
theorem before1 (c : Dev nD) (t : Fin (cfgM m).N) (d) : (dats m 0 c).before 1 t d = iblk m c 1 t :=
  before_of m (dats m 0 c) 1 (by decide) (A_eq m c 1) (fun _ => rfl) t d
theorem before2 (c : Dev nD) (t : Fin (cfgM m).N) (d) : (dats m 0 c).before 2 t d = iblk m c 2 t :=
  before_of m (dats m 0 c) 2 (by decide) (A_eq m c 2) (fun _ => rfl) t d
theorem before3 (c : Dev nD) (t : Fin (cfgM m).N) (d) : (dats m 0 c).before 3 t d = iblk m c 3 t :=
  before_of m (dats m 0 c) 3 (by decide) (A_eq m c 3) (fun _ => rfl) t d
theorem before4 (c : Dev nD) (t : Fin (cfgM m).N) (d) : (dats m 0 c).before 4 t d = iblk m c 4 t :=
  before_of m (dats m 0 c) 4 (by decide) (A_eq m c 4) (fun _ => rfl) t d
theorem before5 (c : Dev nD) (t : Fin (cfgM m).N) (d) : (dats m 0 c).before 5 t d = iblk m c 5 t :=
  before_of m (dats m 0 c) 5 (by decide) (A_eq m c 5) (fun _ => rfl) t d
theorem before6 (c : Dev nD) (t : Fin (cfgM m).N) (d) : (dats m 0 c).before 6 t d = iblk m c 6 t :=
  before_of m (dats m 0 c) 6 (by decide) (A_eq m c 6) (fun _ => rfl) t d
theorem before7 (c : Dev nD) (t : Fin (cfgM m).N) (d) : (dats m 0 c).before 7 t d = iblk m c 7 t :=
  before_of m (dats m 0 c) 7 (by decide) (A_eq m c 7) (fun _ => rfl) t d
theorem before8 (c : Dev nD) (t : Fin (cfgM m).N) (d) : (dats m 0 c).before 8 t d = iblk m c 8 t :=
  before_of m (dats m 0 c) 8 (by decide) (A_eq m c 8) (fun _ => rfl) t d
theorem before9 (c : Dev nD) (t : Fin (cfgM m).N) (d) : (dats m 0 c).before 9 t d = iblk m c 9 t :=
  before_of m (dats m 0 c) 9 (by decide) (A_eq m c 9) (fun _ => rfl) t d
theorem before10 (c : Dev nD) (t : Fin (cfgM m).N) (d) : (dats m 0 c).before 10 t d = iblk m c 10 t :=
  before_of m (dats m 0 c) 10 (by decide) (A_eq m c 10) (fun _ => rfl) t d
theorem before11 (c : Dev nD) (t : Fin (cfgM m).N) (d) : (dats m 0 c).before 11 t d = iblk m c 11 t :=
  before_of m (dats m 0 c) 11 (by decide) (A_eq m c 11) (fun _ => rfl) t d
theorem before12 (c : Dev nD) (t : Fin (cfgM m).N) (d) : (dats m 0 c).before 12 t d = iblk m c 12 t :=
  before_of m (dats m 0 c) 12 (by decide) (A_eq m c 12) (fun _ => rfl) t d
theorem before13 (c : Dev nD) (t : Fin (cfgM m).N) (d) : (dats m 0 c).before 13 t d = iblk m c 13 t :=
  before_of m (dats m 0 c) 13 (by decide) (A_eq m c 13) (fun _ => rfl) t d
theorem before14 (c : Dev nD) (t : Fin (cfgM m).N) (d) : (dats m 0 c).before 14 t d = iblk m c 14 t :=
  before_of m (dats m 0 c) 14 (by decide) (A_eq m c 14) (fun _ => rfl) t d
theorem before15 (c : Dev nD) (t : Fin (cfgM m).N) (d) : (dats m 0 c).before 15 t d = iblk m c 15 t :=
  before_of m (dats m 0 c) 15 (by decide) (A_eq m c 15) (fun _ => rfl) t d
theorem before16 (c : Dev nD) (t : Fin (cfgM m).N) (d) : (dats m 0 c).before 16 t d = iblk m c 16 t :=
  before_of m (dats m 0 c) 16 (by decide) (A_eq m c 16) (fun _ => rfl) t d

theorem Phi_castSucc (c : Dev nD) (t : Fin (cfgM m).N) : (dats m 0 c).Φ t.castSucc = Phi m c t.val := by
  dsimp only [dats]; rfl

/-- The windows' buffers before the body, -/
def winsBefore (c : Dev nD) (t : Fin (cfgM m).N) : sProp 𝕄 :=
  iprop((∃ d, wb m c t .r0 ((dats m 0 c).before 0 t d)) ∗ (∃ d, wb m c t .cos ((dats m 0 c).before 1 t d)) ∗ (∃ d, wb m c t .sin ((dats m 0 c).before 2 t d)) ∗ (∃ d, wb m c t .kt ((dats m 0 c).before 3 t d)) ∗ (∃ d, wb m c t .ks ((dats m 0 c).before 4 t d)) ∗ (∃ d, wb m c t .vt ((dats m 0 c).before 5 t d)) ∗ (∃ d, wb m c t .vs ((dats m 0 c).before 6 t d)) ∗ (∃ d, wb m c t .an ((dats m 0 c).before 7 t d)) ∗ (∃ d, wb m c t .mn ((dats m 0 c).before 8 t d)) ∗ (∃ d, wb m c t .wqkv ((dats m 0 c).before 9 t d)) ∗ (∃ d, wb m c t .sqkv ((dats m 0 c).before 10 t d)) ∗ (∃ d, wb m c t .wo ((dats m 0 c).before 11 t d)) ∗ (∃ d, wb m c t .so ((dats m 0 c).before 12 t d)) ∗ (∃ d, wb m c t .wgu ((dats m 0 c).before 13 t d)) ∗ (∃ d, wb m c t .sgu ((dats m 0 c).before 14 t d)) ∗ (∃ d, wb m c t .wd ((dats m 0 c).before 15 t d)) ∗ (∃ d, wb m c t .sd ((dats m 0 c).before 16 t d)) ∗ (∃ d, wb m c t .res ((dats m 0 c).before 17 t d)) ∗ (∃ d, wb m c t .oT ((dats m 0 c).before 18 t d)) ∗ (∃ d, wb m c t .kc ((dats m 0 c).before 19 t d)) ∗ (∃ d, wb m c t .kcs ((dats m 0 c).before 20 t d)) ∗ (∃ d, wb m c t .vc ((dats m 0 c).before 21 t d)) ∗ (∃ d, wb m c t .vcs ((dats m 0 c).before 22 t d)))
/-- and after it. -/
def winsAfter (c : Dev nD) (t : Fin (cfgM m).N) : sProp 𝕄 :=
  iprop(wb m c t .r0 ((dats m 0 c).after 0 t) ∗ wb m c t .cos ((dats m 0 c).after 1 t) ∗ wb m c t .sin ((dats m 0 c).after 2 t) ∗ wb m c t .kt ((dats m 0 c).after 3 t) ∗ wb m c t .ks ((dats m 0 c).after 4 t) ∗ wb m c t .vt ((dats m 0 c).after 5 t) ∗ wb m c t .vs ((dats m 0 c).after 6 t) ∗ wb m c t .an ((dats m 0 c).after 7 t) ∗ wb m c t .mn ((dats m 0 c).after 8 t) ∗ wb m c t .wqkv ((dats m 0 c).after 9 t) ∗ wb m c t .sqkv ((dats m 0 c).after 10 t) ∗ wb m c t .wo ((dats m 0 c).after 11 t) ∗ wb m c t .so ((dats m 0 c).after 12 t) ∗ wb m c t .wgu ((dats m 0 c).after 13 t) ∗ wb m c t .sgu ((dats m 0 c).after 14 t) ∗ wb m c t .wd ((dats m 0 c).after 15 t) ∗ wb m c t .sd ((dats m 0 c).after 16 t) ∗ wb m c t .res ((dats m 0 c).after 17 t) ∗ wb m c t .oT ((dats m 0 c).after 18 t) ∗ wb m c t .kc ((dats m 0 c).after 19 t) ∗ wb m c t .kcs ((dats m 0 c).after 20 t) ∗ wb m c t .vc ((dats m 0 c).after 21 t) ∗ wb m c t .vcs ((dats m 0 c).after 22 t))

/-- What the body is called with at point `t`, -/
def bodyPre (c : Dev nD) (t : Fin (cfgM m).N) : sProp 𝕄 :=
  iprop((dats m 0 c).Φ t.castSucc ∗ (dats m 0 c).owesAt () t.castSucc
    ∗ winsBefore m c t)

/-- and what it returns. -/
def bodyPost (c : Dev nD) (t : Fin (cfgM m).N) : sProp 𝕄 :=
  iprop((dats m 0 c).Φ t.succ ∗ (dats m 0 c).owesAt () t.succ
    ∗ winsAfter m c t)

/-- The windows as the body finds them. -/
theorem pre_win (c : Dev nD) (t : Fin (cfgM m).N) :
    winsBefore m c t ⊢ iprop(∃ a : St F, ⌜∀ b, isIn b = true → a b = inp m c t b⌝ ∗ heldW m c t a) := by
  unfold winsBefore
  simp only [before0, before1, before2, before3, before4, before5, before6, before7, before8, before9, before10, before11, before12, before13, before14, before15, before16]
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iexists ofW m c t ((dats m 0 c).before 17 t d17) ((dats m 0 c).before 18 t d18) ((dats m 0 c).before 19 t d19) ((dats m 0 c).before 20 t d20) ((dats m 0 c).before 21 t d21) ((dats m 0 c).before 22 t d22)
  isplitr
  · ipureintro
    intro b hb
    cases b <;> first | exact absurd hb Bool.false_ne_true | rfl
  · unfold heldW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

/-- The windows as it leaves them. -/
theorem post_win (c : Dev nD) (t : Fin (cfgM m).N) : heldW m c t (lv m c t.val) = winsAfter m c t := by
  unfold heldW winsAfter
  rw [lv_in m c t .r0 rfl, lv_in m c t .cos rfl, lv_in m c t .sin rfl, lv_in m c t .kt rfl, lv_in m c t .ks rfl, lv_in m c t .vt rfl, lv_in m c t .vs rfl, lv_in m c t .an rfl, lv_in m c t .mn rfl, lv_in m c t .wqkv rfl, lv_in m c t .sqkv rfl, lv_in m c t .wo rfl, lv_in m c t .so rfl, lv_in m c t .wgu rfl, lv_in m c t .sgu rfl, lv_in m c t .wd rfl, lv_in m c t .sd rfl]
  rfl

/-- The scratches as the first point finds them. -/
theorem scr_start (c : Dev nD) : Pipeline.scopedRest (Ix := Unit) (Name := ℕ) (U := Pipeline.UD sig nD τ) (Lvl := ℕ) (Val := Elt F) spec0 c ⊢ iprop(∃ st : St F, heldS c st) := by
  rw [scopedRest0_eq]
  iintro ⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩⟩
  iexists ofS (fun b => fun _ => Classical.choice (el_ne b.el)) f0 f1 f2 f3 f4 f5 f6 f7 f8 f9 f10
  unfold heldS
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexact S10

theorem scr_end (c : Dev nD) (st : St F) : heldS c st ⊢ Pipeline.scopedRest (Ix := Unit) (Name := ℕ) (U := Pipeline.UD sig nD τ) (Lvl := ℕ) (Val := Elt F) spec0 c := by
  rw [scopedRest0_eq]
  unfold heldS
  iintro ⟨S0, S1, S2, S3, S4, S5, S6, S7, S8, S9, S10⟩
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  iexists _; iexact S10

/-- The body from any contents its program takes to the layer's. -/
theorem sound_core (c : Dev nD) (t : Fin (cfgM m).N) (a st : St F) (h : Ok K4 (lv m c t.val) ((prog (grid0.coords t)).run (XM m) (mix a st)).2) (Q : PUnit → sProp 𝕄) :
    iprop(tbPt c tbM (tbl m 0) ∗ heldW m c t a ∗ heldS c st
      ∗ (iprop(tbPt c tbM (tbl m 0) ∗ heldW m c t (lv m c t.val) ∗ ∃ st : St F, ⌜Ok K5 (lv m c t.val) st⌝ ∗ heldS c st) -∗ Q ⟨⟩))
      ⊢ wp frame (wpE (defs₀ (F := F)) Variants.none c none) Set.univ (bodyAt m t) Q := by
  have hs := callR_sound (defs₀ (F := F)) c (grid0.coords t) (RM m t) (Memref.isWhole_whole _) fullShare.right (XM m) (mix a st) Q
  rw [held_eq, held_eq, heldW_mix, heldS_mix, owns_whole,
    heldW_congr m c t ((prog (grid0.coords t)).run (XM m) (mix a st)).2 (lv m c t.val) (fun b hb => funext fun x => h b x (by
      cases b <;> first | exact trivial | exact absurd hb (by decide)))] at hs
  refine BIBase.Entails.trans ?_ hs
  iintro ⟨HT, HW, HS, HQ⟩
  isplitl [HT]; · iexact HT
  isplitl [HW HS]
  · isplitl [HW]; · iexact HW
    iexact HS
  iintro ⟨HT, HW, HS⟩
  iapply HQ
  isplitl [HT]; · iexact HT
  isplitl [HW]; · iexact HW
  iexists _
  isplitr
  · ipureintro
    exact h.mono (by
      intro b x hx
      cases b <;> first | exact hx.elim | trivial)
  iexact HS

theorem sound_body (c : Dev nD) (t : Fin (cfgM m).N) :
    bodyPre m c t ⊢ wp frame (wpE (defs₀ (F := F)) Variants.none c none) Set.univ (bodyAt m t) (fun _ => bodyPost m c t) := by
  unfold bodyPre bodyPost
  rw [show (dats m 0 c).owesAt () t.succ = (dats m 0 c).owesAt () t.castSucc from rfl, ← post_win,
    show (dats m 0 c).Φ t.succ = iprop(((∃ st : St F, ⌜Ok K5 (lv m c t.val) st⌝ ∗ heldS c st) ∗ rest m c) ∗ tbPt c tbM (tbl m 0)) from rfl,
    Phi_castSucc m c t]
  by_cases h0 : t.val = 0
  · rw [show Phi m c t.val = iprop(Pipeline.ΦD osem0 spec0 H0 (V m) c ∗ Pipeline.ΦT pre0 (tbl m) c) from by rw [h0]; rfl, PhiT_eq, PhiD_eq]
    iintro ⟨⟨⟨HS, HR⟩, HT⟩, HO, HW⟩
    ihave HW := pre_win m c t $$ HW
    ihave HS := scr_start c $$ HS
    icases HW with ⟨%a, %ha, HW⟩
    icases HS with ⟨%st, HS⟩
    iapply (sound_core m c t a st (prog_zero m c (mix a st) t h0 (ok_zero m c t a st ha)) _)
    isplitl [HT]; · iexact HT
    isplitl [HW]; · iexact HW
    isplitl [HS]; · iexact HS
    iintro ⟨HT, HW, HS⟩
    isplitl [HS HR HT]
    · isplitl [HS HR]
      · isplitl [HS]; · iexact HS
        iexact HR
      iexact HT
    isplitl [HO]; · iexact HO
    iexact HW
  · obtain ⟨n, hn⟩ := Nat.exists_eq_succ_of_ne_zero h0
    rw [show Phi m c t.val = iprop(((∃ st : St F, ⌜Ok K5 (lv m c n) st⌝ ∗ heldS c st) ∗ rest m c) ∗ tbPt c tbM (tbl m 0)) from by rw [hn]; rfl]
    iintro ⟨⟨⟨⟨%st, %hst, HS⟩, HR⟩, HT⟩, HO, HW⟩
    ihave HW := pre_win m c t $$ HW
    icases HW with ⟨%a, %ha, HW⟩
    iapply (sound_core m c t a st (prog_succ m c (mix a st) t h0 (ok_succ m c t n hn a st ha hst)) _)
    isplitl [HT]; · iexact HT
    isplitl [HW]; · iexact HW
    isplitl [HS]; · iexact HS
    iintro ⟨HT, HW, HS⟩
    isplitl [HS HR HT]
    · isplitl [HS HR]
      · isplitl [HS]; · iexact HS
        iexact HR
      iexact HT
    isplitl [HO]; · iexact HO
    iexact HW

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

theorem hin (c : Dev nD) : iprop(Pipeline.ΦD osem0 spec0 H0 (V m) c ∗ Pipeline.ΦT pre0 (tbl m) c) ⊢ (dats m 0 c).Φ 0 := by
  rw [show (dats m 0 c).Φ 0 = iprop(Pipeline.ΦD osem0 spec0 H0 (V m) c ∗ Pipeline.ΦT pre0 (tbl m) c) from rfl]

theorem hout (c : Dev nD) : (dats m 0 c).Φ (Fin.last (cfgM m).N) ⊢ Pipeline.ΦD osem0 spec0 H0 (V m) c := by
  rw [show (dats m 0 c).Φ (Fin.last (cfgM m).N) = Phi m c (Fin.last (cfgM m).N).val from rfl,
    show (Fin.last (cfgM m).N).val = 29 + 1 from N_0, PhiD_eq]
  show iprop(((∃ st : St F, ⌜Ok K5 (lv m c 29) st⌝ ∗ heldS c st) ∗ rest m c) ∗ tbPt c tbM (tbl m 0)) ⊢ _
  iintro ⟨⟨⟨%st, -, HS⟩, HR⟩, -⟩
  isplitl [HS]
  · iapply (scr_end c st); iexact HS
  iexact HR

set_option backward.isDefEq.respectTransparency.types false in
/-- The run: every array as the proof data say, every other buffer as the region finds it, every semaphore at zero. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hpf := V_pre m) (hin := hin m) (hout := hout m)

end Cert.LayersIdeal.Hand

end
-- ==== Proof.LayersIdealFrame.lean ====
/-
  The frame of the decoder-layers kernel: after the run its arguments are unchanged and every semaphore is at zero.
-/
module

public import proofs.«01_k».proof.Proof.LayersIdealRun
public import Idealize.ShloMosaic.Lib.StableHlo.RunRead

@[expose] public section

set_option maxRecDepth 16384

noncomputable section

namespace Cert.LayersIdeal.Hand

open Cert.LayersIdeal Cert.LayersIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The host's operations write no argument. -/
theorem V_arg (c : Dev nD) (r : Ref sig .tc) (hr : r ∉ [main_v0, main_v1, main_v2, main_v3, main_v4, main_v5, main_v6, main_v7]) :
    V m c r = m ((c.tc : Thread nD τ).loc r) :=
  StableHlo.after_unwritten (ops := hostOps0 (F := F)) [main_v0, main_v1, main_v2, main_v3, main_v4, main_v5, main_v6, main_v7] rfl hr _

/-- A core's arguments are as launched. -/
abbrev Kept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)

/-- An argument no window takes. -/
theorem rest_kept {r : PUnit × MemSt nD τ sig (Elt F)} (h : Pipeline.FramePost (Pipeline.pin pcfgs fun _ => adm m) (dats m) 0 (V m) r) (c : Dev nD)
    (b : Ref sig .tc) (hb : b ∈ Pipeline.restRefs sig spec0) (hv : b ∉ [main_v0, main_v1, main_v2, main_v3, main_v4, main_v5, main_v6, main_v7]) :
    r.2.mem ((c.tc : Thread nD τ).loc b) = m ((c.tc : Thread nD τ).loc b) := ((h c).2 b hb).trans (V_arg m c b hv)

/-- The arguments end unchanged. -/
theorem args_of {r : PUnit × MemSt nD τ sig (Elt F)} (h : Pipeline.FramePost (Pipeline.pin pcfgs fun _ => adm m) (dats m) 0 (V m) r) (c : Dev nD) : Kept m r c :=
  ⟨rest_kept m h c main_arg0 (by decide) (by decide),
    ((h c).1 0).trans ((((dats m 0 c).arrAt_in 0 rfl _).trans (A_eq m c 0)).trans (V_arg m c main_arg1 (by decide))),
    rest_kept m h c main_arg2 (by decide) (by decide),
    rest_kept m h c main_arg3 (by decide) (by decide),
    rest_kept m h c main_arg4 (by decide) (by decide),
    rest_kept m h c main_arg5 (by decide) (by decide),
    rest_kept m h c main_arg6 (by decide) (by decide),
    rest_kept m h c main_arg7 (by decide) (by decide),
    ((h c).1 7).trans ((((dats m 0 c).arrAt_in 7 rfl _).trans (A_eq m c 7)).trans (V_arg m c main_arg8 (by decide))),
    ((h c).1 8).trans ((((dats m 0 c).arrAt_in 8 rfl _).trans (A_eq m c 8)).trans (V_arg m c main_arg9 (by decide))),
    ((h c).1 9).trans ((((dats m 0 c).arrAt_in 9 rfl _).trans (A_eq m c 9)).trans (V_arg m c main_arg10 (by decide))),
    ((h c).1 10).trans ((((dats m 0 c).arrAt_in 10 rfl _).trans (A_eq m c 10)).trans (V_arg m c main_arg11 (by decide))),
    rest_kept m h c main_arg12 (by decide) (by decide),
    ((h c).1 12).trans ((((dats m 0 c).arrAt_in 12 rfl _).trans (A_eq m c 12)).trans (V_arg m c main_arg13 (by decide))),
    ((h c).1 13).trans ((((dats m 0 c).arrAt_in 13 rfl _).trans (A_eq m c 13)).trans (V_arg m c main_arg14 (by decide))),
    ((h c).1 14).trans ((((dats m 0 c).arrAt_in 14 rfl _).trans (A_eq m c 14)).trans (V_arg m c main_arg15 (by decide))),
    rest_kept m h c main_arg16 (by decide) (by decide),
    ((h c).1 16).trans ((((dats m 0 c).arrAt_in 16 rfl _).trans (A_eq m c 16)).trans (V_arg m c main_arg17 (by decide)))⟩

/-- The frame. -/
theorem frame_run : θ_run defs (onTc (τ := τ) (main (F := F))) ⟨m, fun _ => 0, ρ⟩ (fun r => (∀ c : Dev nD, Kept m r c)
      ∧ r.2.sem = fun _ => 0) :=
  (θ_run defs _ _).mono (fun _ h => ⟨args_of m h.1, h.2⟩) (run_main m ρ)

end Cert.LayersIdeal.Hand

end
-- ==== Proof.LayersPre.lean ====
/-
  What the layers' precondition says: no length is negative.
-/
module

public import proofs.«01_k».proof.Pre_counted
public import Idealize.ShloMosaic.Lib.ReduceAll

@[expose] public section

noncomputable section

namespace Cert.Pre_counted.Hand

open Cert.Pre_counted
open Idealize.ShloMosaic

variable [Facts] {F : FTy → Type} [FloatOps F]

/-- A result of rank 0 has one index. -/
instance : Subsingleton S_.Idx := ⟨fun a b => funext fun i => i.elim0⟩

/-- The precondition, read off: as signed numbers the lengths are at least 0. -/
theorem nonneg (a0 : IVec S2 32) (a1 : FVec F S192x576 .f32) (a2 a3 : FVec F S2x96x32 .f32) (a4 : IVec S30x2x3x2048x64 8)
    (a5 : FVec F S30x2x3x2048 .f32) (a6 : IVec S30x2x3x2048x64 8) (a7 : FVec F S30x2x3x2048 .f32) (a8 a9 : FVec F S30x576 .f32)
    (a10 : IVec S30x576x960 8) (a11 : FVec F S30x960 .f32) (a12 : IVec S30x9x64x576 8) (a13 : FVec F S30x576 .f32)
    (a14 : IVec S30x576x3072 8) (a15 : FVec F S30x3072 .f32) (a16 : IVec S30x1536x576 8) (a17 : FVec F S30x576 .f32)
    (h : fn a0 a1 a2 a3 a4 a5 a6 a7 a8 a9 a10 a11 a12 a13 a14 a15 a16 a17 = fun _ => 1#1) (x : S2.Idx) : 0 ≤ (a0 x).toInt := by
  have e := Host.reduce_andi_all _ _ _ _ _ (congrFun h (fun i => i.elim0)) x
  have e1 : IntOp.cmpi .sge (a0 x) 0#32 = 1#1 := e
  exact IntOp.cmpi_sge.1 e1

end Cert.Pre_counted.Hand

end
-- ==== Proof.LayersSpec.lean ====
/-
  One decoder layer as plain mathematics over the extended reals: every quantity by its coordinates.
-/
module

public import Idealize.ShloMosaic.PureOps.Ideal
public import Idealize.ShloMosaic.PureOps.Ideal.Laws
public import Idealize.ShloMosaic.Lib.IdealHost

@[expose] public section

noncomputable section

namespace Cert.LayersMath

open Idealize.ShloMosaic

/-- What a layer is given besides the residual stream. -/
structure Lay where
  len : Fin 2 → BitVec 32
  cos : Fin 2 → Fin 96 → Fin 32 → EReal
  sin : Fin 2 → Fin 96 → Fin 32 → EReal
  ck : Fin 2 → Fin 3 → Fin 2048 → Fin 64 → BitVec 8
  cks : Fin 2 → Fin 3 → Fin 2048 → EReal
  cv : Fin 2 → Fin 3 → Fin 2048 → Fin 64 → BitVec 8
  cvs : Fin 2 → Fin 3 → Fin 2048 → EReal
  an : Fin 576 → EReal
  mn : Fin 576 → EReal
  wqkv : Fin 576 → Fin 960 → BitVec 8
  sqkv : Fin 960 → EReal
  wo : Fin 576 → Fin 576 → BitVec 8
  so : Fin 576 → EReal
  wgu : Fin 576 → Fin 3072 → BitVec 8
  sgu : Fin 3072 → EReal
  wd : Fin 1536 → Fin 576 → BitVec 8
  sd : Fin 576 → EReal

/-- A code's value. -/
def cd (w : BitVec 8) : EReal := ((w.toInt : ℝ) : EReal)

/-- Minus infinity, as the programs write it. -/
def NI : EReal := Ideal.ofBits .f32 0xFF800000#32

/-- A row over its root mean square, times a gain. -/
def nrm (x g : Fin 576 → EReal) (j : Fin 576) : EReal :=
  Ideal.div (x j) (Ideal.sqrt (Ideal.div (∑ k, x k * x k) (Ideal.ofBits .f32 0x44100000#32) + Ideal.ofBits .f32 0x3727C5AC#32)) * g j

/-- A row times a matrix of codes, times a scale per column. -/
def lin {K N : ℕ} (h : Fin K → EReal) (w : Fin K → Fin N → BitVec 8) (s : Fin N → EReal) (n : Fin N) : EReal :=
  (∑ k, h k * cd (w k n)) * s n

/-- The two halves of a head turned against each other. -/
def rot (f : Fin 64 → EReal) (c s : Fin 32 → EReal) (d : Fin 64) : EReal :=
  if h : d.val < 32 then f d * c ⟨d.val, h⟩ - f ⟨32 + d.val, by omega⟩ * s ⟨d.val, h⟩
  else f d * c ⟨d.val - 32, by omega⟩ + f ⟨d.val - 32, by omega⟩ * s ⟨d.val - 32, by omega⟩

/-- The largest magnitude of a head, -/
def amax (f : Fin 64 → EReal) : EReal := Finset.univ.fold max NI fun d => max (f d) (-(f d))
/-- the scale it gives, -/
def scl (f : Fin 64 → EReal) : EReal := if amax f = 0 then 1 else Ideal.div (amax f) (Ideal.ofBits .f32 0x42FE0000#32)
/-- and the rounded multiples of that scale. -/
def cds (f : Fin 64 → EReal) (d : Fin 64) : EReal :=
  min (((127#32 : BitVec 32).toInt : ℝ) : EReal) (max (((4294967169#32 : BitVec 32).toInt : ℝ) : EReal)
    (Ideal.liftRound Ideal.roundHalfEven (Ideal.div (f d) (scl f))))

variable (L : Lay) (r : Fin 2 → Fin 96 → Fin 576 → EReal)

def qkvS (b : Fin 2) (s : Fin 96) (n : Fin 960) : EReal := lin (nrm (r b s) L.an) L.wqkv L.sqkv n
/-- Queries, -/
def qS (b : Fin 2) (s : Fin 96) (h : Fin 9) (d : Fin 64) : EReal :=
  rot (fun d => qkvS L r b s ⟨h.val * 64 + d.val, by omega⟩) (L.cos b s) (L.sin b s) d
/-- new keys -/
def kS (b : Fin 2) (s : Fin 96) (k : Fin 3) (d : Fin 64) : EReal :=
  rot (fun d => qkvS L r b s ⟨576 + (k.val * 64 + d.val), by omega⟩) (L.cos b s) (L.sin b s) d
/-- and new values. -/
def vS (b : Fin 2) (s : Fin 96) (k : Fin 3) (d : Fin 64) : EReal := qkvS L r b s ⟨768 + (k.val * 64 + d.val), by omega⟩

/-- The key head of a query head. -/
def kh (h : Fin 9) : Fin 3 := ⟨h.val / 3, by omega⟩

/-- The scores of cached keys, -∞ from the sequence's length on, -/
def scS (b : Fin 2) (h : Fin 9) (s : Fin 96) (t : Fin 2048) : EReal :=
  if (t.val : ℤ) < (L.len b).toInt then
    (∑ d, qS L r b s h d * cd (L.ck b (kh h) t d)) * L.cks b (kh h) t * Ideal.ofBits .f32 0x3E000000#32 * Ideal.ofBits .f32 0x3FB8AA3B#32
  else NI
/-- and of new keys, -∞ after the token's own. -/
def snS (b : Fin 2) (h : Fin 9) (s : Fin 96) (t : Fin 96) : EReal :=
  if t.val ≤ s.val then
    (∑ d, qS L r b s h d * cds (kS L r b t (kh h)) d) * scl (kS L r b t (kh h)) * Ideal.ofBits .f32 0x3E000000#32 * Ideal.ofBits .f32 0x3FB8AA3B#32
  else NI
/-- The largest, rounded up. -/
def mxS (b : Fin 2) (h : Fin 9) (s : Fin 96) : EReal :=
  Ideal.liftRound Int.ceil (max (Finset.univ.fold max NI (scS L r b h s)) (Finset.univ.fold max NI (snS L r b h s)))
/-- The weights. -/
def pcS (b : Fin 2) (h : Fin 9) (s : Fin 96) (t : Fin 2048) : EReal := Ideal.pow (Ideal.ofBits .f32 0x40000000#32) (scS L r b h s t - mxS L r b h s)
def pnS (b : Fin 2) (h : Fin 9) (s : Fin 96) (t : Fin 96) : EReal := Ideal.pow (Ideal.ofBits .f32 0x40000000#32) (snS L r b h s t - mxS L r b h s)
/-- A query head's values. -/
def oS (b : Fin 2) (s : Fin 96) (h : Fin 9) (d : Fin 64) : EReal :=
  Ideal.div ((∑ t, pcS L r b h s t * L.cvs b (kh h) t * cd (L.cv b (kh h) t d))
      + ∑ t, pnS L r b h s t * scl (vS L r b t (kh h)) * cds (vS L r b t (kh h)) d)
    ((∑ t, pcS L r b h s t) + ∑ t, pnS L r b h s t)

/-- The stream after the attention, -/
def r1S (b : Fin 2) (s : Fin 96) (j : Fin 576) : EReal :=
  r b s j + lin (fun e : Fin 576 => oS L r b s ⟨e.val / 64, by omega⟩ ⟨e.val % 64, Nat.mod_lt _ (by decide)⟩) L.wo L.so j
def guS (b : Fin 2) (s : Fin 96) (n : Fin 3072) : EReal := lin (nrm (r1S L r b s) L.mn) L.wgu L.sgu n
def actS (b : Fin 2) (s : Fin 96) (n : Fin 1536) : EReal :=
  guS L r b s ⟨n.val, by omega⟩ * Ideal.logistic (guS L r b s ⟨n.val, by omega⟩) * guS L r b s ⟨1536 + n.val, by omega⟩
/-- and after the gated layer. -/
def r2S (b : Fin 2) (s : Fin 96) (j : Fin 576) : EReal := r1S L r b s j + lin (actS L r b s) L.wd L.sd j

/-! ## Constants -/

theorem two_f32 : Ideal.ofBits .f32 0x40000000#32 = ((2 : ℝ) : EReal) := by
  simp [Ideal.ofBits, Ideal.ieee]
  rw [← EReal.coe_mul]
  norm_num

theorem NI_bot : NI = ⊥ := by
  simp [NI, Ideal.ofBits, Ideal.ieee]

/-- The two factors of a score in one word. -/
theorem scale_const : Ideal.ofBits .f32 0x3E38AA3B#32 = Ideal.ofBits .f32 0x3E000000#32 * Ideal.ofBits .f32 0x3FB8AA3B#32 := by
  simp [Ideal.ofBits, Ideal.ieee]
  rw [← EReal.coe_mul, ← EReal.coe_mul, ← EReal.coe_mul, ← EReal.coe_mul]
  norm_num

/-- A power of two is two to the power. -/
theorem exp2_pow (x : EReal) : Ideal.exp2 x = Ideal.pow (Ideal.ofBits .f32 0x40000000#32) x := by
  rw [two_f32]
  induction x with
  | bot => rw [Ideal.exp2_bot, Ideal.pow_coe_bot, if_neg (by norm_num), if_pos (by norm_num)]
  | top => rw [Ideal.exp2_top, Ideal.pow_coe_top, if_neg (by norm_num), if_pos (by norm_num)]
  | coe r => rw [Ideal.exp2_coe, Ideal.pow_coe_coe]

end Cert.LayersMath

end
-- ==== Proof.LayersRefStep.lean ====
/-
  The reference's layer, read at an index: every quantity it computes is the plain one of LayersSpec.
-/
module

public import proofs.«01_k».proof.Proof.Gen.LayersRefIdeal.Run
public import proofs.«01_k».proof.Proof.LayersSpec
public import Idealize.ShloMosaic.Lib.Pointwise
public import Idealize.ShloMosaic.Lib.IdealHost
public import Idealize.ShloMosaic.Lib.Tactic.CleanTypes

@[expose] public section

set_option maxRecDepth 65536
set_option maxHeartbeats 4000000

noncomputable section

namespace Cert.LayersRefIdeal.Hand

open Cert.LayersRefIdeal Cert.LayersRefIdeal.Gen Cert.LayersRefIdeal.Value Cert.LayersMath
open Idealize.ShloMosaic Idealize.ShloMosaic.TcCoe Idealize.ShloMosaic.Tactic

/-! ## A stacked table's layer -/

theorem ctr_toInt (n : Fin 30) : (BitVec.ofNat 32 n.val).toInt = (n.val : ℤ) := by
  revert n; decide

section Slices
variable {α : Type} (C : S_.Idx → BitVec 32) (n : Fin 30) (hC : C (Shape.Idx.first h_S_) = BitVec.ofNat 32 n.val)
include hC

theorem ds2 {m : ℕ} (X : (⟨2, ![30, m]⟩ : Shape).Idx → α) (fits) :
    Host.dynamicSlice ⟨2, ![1, m]⟩ X (fun k => ((![C, constantI S_ 32 0#32] : Fin 2 → S_.Idx → BitVec 32) k (Shape.Idx.first h_S_)).toInt) fits
      = fun i => X (ix2 n (i 1)) := by
  funext i
  rw [Host.dynamicSlice_apply]
  congr 1
  funext a
  apply Fin.ext
  have h0 : (i 0).val = 0 := by have := (i 0).isLt; change (i 0).val < 1 at this; omega
  fin_cases a
  · refine (congrArg (· + _) (Host.clampedStart_of_le _ _ _ n.val ?_ ?_)).trans ?_
    · show (C _).toInt = _; rw [hC, ctr_toInt]
    · show n.val + 1 ≤ 30; omega
    · show n.val + (i 0).val = n.val; omega
  · refine (congrArg (· + _) (Host.clampedStart_of_le _ _ _ 0 rfl ?_)).trans ?_
    · show 0 + m ≤ m; omega
    · show 0 + (i 1).val = _; exact Nat.zero_add _

theorem ds3 {m k : ℕ} (X : (⟨3, ![30, m, k]⟩ : Shape).Idx → α) (fits) :
    Host.dynamicSlice ⟨3, ![1, m, k]⟩ X (fun k => ((![C, constantI S_ 32 0#32, constantI S_ 32 0#32] : Fin 3 → S_.Idx → BitVec 32) k (Shape.Idx.first h_S_)).toInt) fits
      = fun i => X (ix3 n (i 1) (i 2)) := by
  funext i
  rw [Host.dynamicSlice_apply]
  congr 1
  funext a
  apply Fin.ext
  have h0 : (i 0).val = 0 := by have := (i 0).isLt; change (i 0).val < 1 at this; omega
  fin_cases a
  · refine (congrArg (· + _) (Host.clampedStart_of_le _ _ _ n.val ?_ ?_)).trans ?_
    · show (C _).toInt = _; rw [hC, ctr_toInt]
    · show n.val + 1 ≤ 30; omega
    · show n.val + (i 0).val = n.val; omega
  · refine (congrArg (· + _) (Host.clampedStart_of_le _ _ _ 0 rfl ?_)).trans ?_
    · show 0 + m ≤ m; omega
    · show 0 + (i 1).val = _; exact Nat.zero_add _
  · refine (congrArg (· + _) (Host.clampedStart_of_le _ _ _ 0 rfl ?_)).trans ?_
    · show 0 + k ≤ k; omega
    · show 0 + (i 2).val = _; exact Nat.zero_add _

theorem ds4 {m k l : ℕ} (X : (⟨4, ![30, m, k, l]⟩ : Shape).Idx → α) (fits) :
    Host.dynamicSlice ⟨4, ![1, m, k, l]⟩ X (fun k => ((![C, constantI S_ 32 0#32, constantI S_ 32 0#32, constantI S_ 32 0#32] : Fin 4 → S_.Idx → BitVec 32) k (Shape.Idx.first h_S_)).toInt) fits
      = fun i => X (ix4 n (i 1) (i 2) (i 3)) := by
  funext i
  rw [Host.dynamicSlice_apply]
  congr 1
  funext a
  apply Fin.ext
  have h0 : (i 0).val = 0 := by have := (i 0).isLt; change (i 0).val < 1 at this; omega
  fin_cases a
  · refine (congrArg (· + _) (Host.clampedStart_of_le _ _ _ n.val ?_ ?_)).trans ?_
    · show (C _).toInt = _; rw [hC, ctr_toInt]
    · show n.val + 1 ≤ 30; omega
    · show n.val + (i 0).val = n.val; omega
  · refine (congrArg (· + _) (Host.clampedStart_of_le _ _ _ 0 rfl ?_)).trans ?_
    · show 0 + m ≤ m; omega
    · show 0 + (i 1).val = _; exact Nat.zero_add _
  · refine (congrArg (· + _) (Host.clampedStart_of_le _ _ _ 0 rfl ?_)).trans ?_
    · show 0 + k ≤ k; omega
    · show 0 + (i 2).val = _; exact Nat.zero_add _
  · refine (congrArg (· + _) (Host.clampedStart_of_le _ _ _ 0 rfl ?_)).trans ?_
    · show 0 + l ≤ l; omega
    · show 0 + (i 3).val = _; exact Nat.zero_add _

theorem ds5 {m k l o : ℕ} (X : (⟨5, ![30, m, k, l, o]⟩ : Shape).Idx → α) (fits) :
    Host.dynamicSlice ⟨5, ![1, m, k, l, o]⟩ X (fun k => ((![C, constantI S_ 32 0#32, constantI S_ 32 0#32, constantI S_ 32 0#32, constantI S_ 32 0#32] : Fin 5 → S_.Idx → BitVec 32) k (Shape.Idx.first h_S_)).toInt) fits
      = fun i => X (ix5 n (i 1) (i 2) (i 3) (i 4)) := by
  funext i
  rw [Host.dynamicSlice_apply]
  congr 1
  funext a
  apply Fin.ext
  have h0 : (i 0).val = 0 := by have := (i 0).isLt; change (i 0).val < 1 at this; omega
  fin_cases a
  · refine (congrArg (· + _) (Host.clampedStart_of_le _ _ _ n.val ?_ ?_)).trans ?_
    · show (C _).toInt = _; rw [hC, ctr_toInt]
    · show n.val + 1 ≤ 30; omega
    · show n.val + (i 0).val = n.val; omega
  · refine (congrArg (· + _) (Host.clampedStart_of_le _ _ _ 0 rfl ?_)).trans ?_
    · show 0 + m ≤ m; omega
    · show 0 + (i 1).val = _; exact Nat.zero_add _
  · refine (congrArg (· + _) (Host.clampedStart_of_le _ _ _ 0 rfl ?_)).trans ?_
    · show 0 + k ≤ k; omega
    · show 0 + (i 2).val = _; exact Nat.zero_add _
  · refine (congrArg (· + _) (Host.clampedStart_of_le _ _ _ 0 rfl ?_)).trans ?_
    · show 0 + l ≤ l; omega
    · show 0 + (i 3).val = _; exact Nat.zero_add _
  · refine (congrArg (· + _) (Host.clampedStart_of_le _ _ _ 0 rfl ?_)).trans ?_
    · show 0 + o ≤ o; omega
    · show 0 + (i 4).val = _; exact Nat.zero_add _

end Slices

/-- A code widened to a word has the code's value. -/
theorem sitofp_ext (w : BitVec 8) : (FloatOps.sitofp .bf16 (BitVec.signExtend 32 w) : Ideal .bf16) = cd w := by
  show (((BitVec.signExtend 32 w).toInt : ℝ) : EReal) = _
  rw [BitVec.toInt_signExtend_of_le (by decide)]
  rfl

theorem add_half (d : ℕ) (h : 32 ≤ d) : 32 + (d - 32) = d := by omega

theorem select_decide {α : Type} (p : Prop) [Decidable p] (x y : α) : Scalar.select (BitVec.ofBool (decide p)) x y = if p then x else y := by
  by_cases h : p <;> simp [h, Scalar.select]

/-! ## A layer -/

/-- The carried buffers hold layer `n`'s data `L` and the stream `r`. -/
structure Reads (V0 : Valuation τ sig (Elt Ideal)) (n : Fin 30) (L : Lay) (r : Fin 2 → Fin 96 → Fin 576 → EReal) : Prop where
  ctr : (V0 (Proc.devRef .tc main_v23_18) : S_.Idx → BitVec 32) (Shape.Idx.first h_S_) = BitVec.ofNat 32 n.val
  res : ∀ b s k, (V0 (Proc.devRef .tc main_v23_19) : FVec Ideal S2x96x576 .f32) (ix3 b s k) = r b s k
  ck : ∀ b k t d, (V0 (Proc.devRef .tc main_v23_0) : IVec S30x2x3x2048x64 8) (ix5 n b k t d) = L.ck b k t d
  cks : ∀ b k t, (V0 (Proc.devRef .tc main_v23_1) : FVec Ideal S30x2x3x2048 .f32) (ix4 n b k t) = L.cks b k t
  cv : ∀ b k t d, (V0 (Proc.devRef .tc main_v23_2) : IVec S30x2x3x2048x64 8) (ix5 n b k t d) = L.cv b k t d
  cvs : ∀ b k t, (V0 (Proc.devRef .tc main_v23_3) : FVec Ideal S30x2x3x2048 .f32) (ix4 n b k t) = L.cvs b k t
  an : ∀ k, (V0 (Proc.devRef .tc main_v23_4) : FVec Ideal S30x576 .f32) (ix2 n k) = L.an k
  mn : ∀ k, (V0 (Proc.devRef .tc main_v23_5) : FVec Ideal S30x576 .f32) (ix2 n k) = L.mn k
  wqkv : ∀ k l, (V0 (Proc.devRef .tc main_v23_6) : IVec S30x576x960 8) (ix3 n k l) = L.wqkv k l
  sqkv : ∀ k, (V0 (Proc.devRef .tc main_v23_7) : FVec Ideal S30x960 .f32) (ix2 n k) = L.sqkv k
  wo : ∀ (e : Fin 576) l, (V0 (Proc.devRef .tc main_v23_8) : IVec S30x9x64x576 8) (ix4 n ⟨e.val / 64, by omega⟩ ⟨e.val % 64, Nat.mod_lt _ (by decide)⟩ l) = L.wo e l
  so : ∀ k, (V0 (Proc.devRef .tc main_v23_9) : FVec Ideal S30x576 .f32) (ix2 n k) = L.so k
  wgu : ∀ k l, (V0 (Proc.devRef .tc main_v23_10) : IVec S30x576x3072 8) (ix3 n k l) = L.wgu k l
  sgu : ∀ k, (V0 (Proc.devRef .tc main_v23_11) : FVec Ideal S30x3072 .f32) (ix2 n k) = L.sgu k
  wd : ∀ k l, (V0 (Proc.devRef .tc main_v23_12) : IVec S30x1536x576 8) (ix3 n k l) = L.wd k l
  sd : ∀ k, (V0 (Proc.devRef .tc main_v23_13) : FVec Ideal S30x576 .f32) (ix2 n k) = L.sd k
  cos : ∀ b s d, (V0 (Proc.devRef .tc main_v23_14) : FVec Ideal S2x96x1x32 .f32) (ix4 b s 0 d) = L.cos b s d
  sin : ∀ b s d, (V0 (Proc.devRef .tc main_v23_15) : FVec Ideal S2x96x1x32 .f32) (ix4 b s 0 d) = L.sin b s d
  old : ∀ b t, (V0 (Proc.devRef .tc main_v23_16) : IVec S2x1x1x1x2048 1) (ix5 b 0 0 0 t) = BitVec.ofBool (decide ((t.val : ℤ) < (L.len b).toInt))
  new : ∀ s t, (V0 (Proc.devRef .tc main_v23_17) : IVec S96x96 1) (ix2 s t) = BitVec.ofBool (decide (t.val ≤ s.val))

theorem mx_read (M N : FVec Ideal S2x3x3x96 .f32) (b : Fin 2) (k g : Fin 3) (s : Fin 96) :
    Host.ceil (maximumf (broadcastInDim S2x3x3x96x1 ![0, 1, 2, 3] bcast_S2x3x3x96_S2x3x3x96x1_0_1_2_3 M)
      (broadcastInDim S2x3x3x96x1 ![0, 1, 2, 3] bcast_S2x3x3x96_S2x3x3x96x1_0_1_2_3 N)) (ix5 b k g s 0)
    = Ideal.liftRound Int.ceil (max (M (ix4 b k g s)) (N (ix4 b k g s))) := by
  pointwise

/-- A maximum over the last axis, whatever its size. -/
theorem max_last {m : ℕ} (A : (⟨5, ![2, 3, 3, 96, m]⟩ : Shape).Idx → EReal) (h' : (⟨5, ![2, 3, 3, 96, m]⟩ : Shape).ReducesTo [4] S2x3x3x96)
    (h : (⟨5, ![2, 3, 3, 96, m]⟩ : Shape).Reduces [4] S2x3x3x96) (b : Fin 2) (k g : Fin 3) (s : Fin 96) :
    (Host.reduce (α := Ideal .f32) FloatOps.maximumf A (constant (F := Ideal) S_ .f32 0xFF800000#32) h' h_S_) (ix4 b k g s)
      = Finset.univ.fold max NI fun t => A (ix5 b k g s t) := by
  rw [Host.reduce_eq_fold_single _ _ _ h' h]
  have e : (A ∘ h.lift (ix4 b k g s)) = fun t : Fin m => A (ix5 b k g s t) := by
    funext t
    refine congrArg A (funext fun a => Fin.ext ?_)
    fin_cases a <;> rfl
  exact congrArg (fun f : Fin m → EReal => Finset.univ.fold max NI f) e

theorem red2048 : S2x3x3x96x2048.Reduces [4] S2x3x3x96 := by decide
theorem red96 : S2x3x3x96x96.Reduces [4] S2x3x3x96 := by decide

section Layer
variable {V0 : Valuation τ sig (Elt Ideal)} {n : Fin 30} {L : Lay} {r : Fin 2 → Fin 96 → Fin 576 → EReal} (H : Reads V0 n L r)
include H

theorem qkv_ref (b : Fin 2) (s : Fin 96) (l : Fin 960) : (res_main_while0b_v67 V0 : FVec Ideal S2x96x960 .f32) (ix3 b s l) = qkvS L r b s l := by
  unfold res_main_while0b_v67
  clean_types
  rw [ds2 _ n H.ctr, ds2 _ n H.ctr, ds3 _ n H.ctr]
  pointwise
  simp only [H.res, H.an, H.wqkv, H.sqkv, sitofp_ext]
  rfl

theorem q_ref (b : Fin 2) (s : Fin 96) (h : Fin 9) (d : Fin 64) :
    (res_main_while0b_v84 V0 : FVec Ideal S2x96x3x3x64 .bf16) (ix5 b s ⟨h.val / 3, by omega⟩ ⟨h.val % 3, Nat.mod_lt _ (by decide)⟩ d) = qS L r b s h d := by
  unfold res_main_while0b_v84 res_main_while0b_v70 res_main_while0b_v71 res_main_while0b_v69
  clean_types
  pointwise
  simp only [H.cos, H.sin, qkv_ref H]
  unfold qS rot
  have e : h.val / 3 * 3 + h.val % 3 = h.val := by omega
  simp only [e]
  split
  · rfl
  · simp only [add_half _ (Nat.le_of_not_lt ‹_›)]

theorem k_ref (b : Fin 2) (s : Fin 96) (k : Fin 3) (d : Fin 64) : (res_main_while0b_v99 V0 : FVec Ideal S2x96x3x64 .f32) (ix4 b s k d) = kS L r b s k d := by
  unfold res_main_while0b_v99 res_main_while0b_v87 res_main_while0b_v88 res_main_while0b_v86
  clean_types
  pointwise
  simp only [H.cos, H.sin, qkv_ref H]
  unfold kS rot
  split
  · rfl
  · simp only [add_half _ (Nat.le_of_not_lt ‹_›)]

theorem v_ref (b : Fin 2) (s : Fin 96) (k : Fin 3) (d : Fin 64) : (res_main_while0b_v113 V0 : FVec Ideal S2x96x3x64 .f32) (ix4 b s k d) = vS L r b s k d := by
  unfold res_main_while0b_v113
  clean_types
  pointwise
  simp only [qkv_ref H]
  rfl

theorem kscale_ref (b : Fin 2) (s : Fin 96) (k : Fin 3) : (res_main_while0b_v106 V0 : FVec Ideal S2x96x3 .f32) (ix3 b s k) = scl (kS L r b s k) := by
  unfold res_main_while0b_v106 res_main_while0b_v101
  clean_types
  pointwise
  simp only [k_ref H]
  show (if _ then Ideal.ofBits .f32 0x3F800000#32 else _) = _
  rw [Ideal.ofBits_one_f32]
  rfl

theorem kcodes_ref (b : Fin 2) (s : Fin 96) (k : Fin 3) (d : Fin 64) : (res_main_while0b_v111 V0 : FVec Ideal S2x96x3x64 .f32) (ix4 b s k d) = cds (kS L r b s k) d := by
  unfold res_main_while0b_v111
  clean_types
  pointwise
  simp only [k_ref H, kscale_ref H]
  rfl

theorem vscale_ref (b : Fin 2) (s : Fin 96) (k : Fin 3) : (res_main_while0b_v120 V0 : FVec Ideal S2x96x3 .f32) (ix3 b s k) = scl (vS L r b s k) := by
  unfold res_main_while0b_v120 res_main_while0b_v115
  clean_types
  pointwise
  simp only [v_ref H]
  show (if _ then Ideal.ofBits .f32 0x3F800000#32 else _) = _
  rw [Ideal.ofBits_one_f32]
  rfl

theorem vcodes_ref (b : Fin 2) (s : Fin 96) (k : Fin 3) (d : Fin 64) : (res_main_while0b_v125 V0 : FVec Ideal S2x96x3x64 .f32) (ix4 b s k d) = cds (vS L r b s k) d := by
  unfold res_main_while0b_v125
  clean_types
  pointwise
  simp only [v_ref H, vscale_ref H]
  rfl

theorem sc_ref (b : Fin 2) (h : Fin 9) (s : Fin 96) (t : Fin 2048) :
    (res_main_while0b_v148 V0 : FVec Ideal S2x3x3x96x2048 .f32) (ix5 b ⟨h.val / 3, by omega⟩ ⟨h.val % 3, Nat.mod_lt _ (by decide)⟩ s t) = scS L r b h s t := by
  unfold res_main_while0b_v148
  clean_types
  rw [ds5 _ n H.ctr, ds4 _ n H.ctr]
  pointwise
  simp only [H.old, H.ck, H.cks, q_ref H, sitofp_ext, select_decide]
  unfold scS
  split
  · exact congrArg (fun z : EReal => z * _ * _ * _) (Finset.sum_congr rfl fun d _ => mul_comm _ _)
  · rfl

theorem sn_ref (b : Fin 2) (h : Fin 9) (s : Fin 96) (t : Fin 96) :
    (res_main_while0b_v151 V0 : FVec Ideal S2x3x3x96x96 .f32) (ix5 b ⟨h.val / 3, by omega⟩ ⟨h.val % 3, Nat.mod_lt _ (by decide)⟩ s t) = snS L r b h s t := by
  unfold res_main_while0b_v151
  clean_types
  pointwise
  simp only [H.new, q_ref H, kcodes_ref H, kscale_ref H, select_decide]
  unfold snS
  split
  · exact congrArg (fun z : EReal => z * _ * _ * _) (Finset.sum_congr rfl fun d _ => mul_comm _ _)
  · rfl

theorem mx_ref (b : Fin 2) (h : Fin 9) (s : Fin 96) :
    (res_main_while0b_v157 V0 : FVec Ideal S2x3x3x96x1 .f32) (ix5 b ⟨h.val / 3, by omega⟩ ⟨h.val % 3, Nat.mod_lt _ (by decide)⟩ s 0) = mxS L r b h s := by
  unfold res_main_while0b_v157
  clean_types
  rw [mx_read]
  refine (congrArg₂ (fun x y : EReal => Ideal.liftRound Int.ceil (max x y)) (max_last _ _ red2048 _ _ _ _) (max_last _ _ red96 _ _ _ _)).trans ?_
  unfold mxS
  exact congrArg₂ (fun (x : Fin 2048 → EReal) (y : Fin 96 → EReal) => Ideal.liftRound Int.ceil (max (Finset.univ.fold max NI x) (Finset.univ.fold max NI y)))
    (funext fun t => sc_ref H b h s t) (funext fun t => sn_ref H b h s t)

theorem pc_ref (b : Fin 2) (h : Fin 9) (s : Fin 96) (t : Fin 2048) :
    (res_main_while0b_v161 V0 : FVec Ideal S2x3x3x96x2048 .f32) (ix5 b ⟨h.val / 3, by omega⟩ ⟨h.val % 3, Nat.mod_lt _ (by decide)⟩ s t) = pcS L r b h s t := by
  unfold res_main_while0b_v161
  clean_types
  pointwise
  simp only [sc_ref H, mx_ref H]
  rfl

theorem pn_ref (b : Fin 2) (h : Fin 9) (s : Fin 96) (t : Fin 96) :
    (res_main_while0b_v165 V0 : FVec Ideal S2x3x3x96x96 .f32) (ix5 b ⟨h.val / 3, by omega⟩ ⟨h.val % 3, Nat.mod_lt _ (by decide)⟩ s t) = pnS L r b h s t := by
  unfold res_main_while0b_v165
  clean_types
  pointwise
  simp only [sn_ref H, mx_ref H]
  rfl

theorem o_ref (b : Fin 2) (s : Fin 96) (h : Fin 9) (d : Fin 64) : (res_main_while0b_v188 V0 : FVec Ideal S2x96x9x64 .f32) (ix4 b s h d) = oS L r b s h d := by
  unfold res_main_while0b_v188
  clean_types
  rw [ds5 _ n H.ctr, ds4 _ n H.ctr]
  pointwise
  simp only [H.cv, H.cvs, pc_ref H, pn_ref H, vcodes_ref H, vscale_ref H, sitofp_ext]
  unfold oS
  congr 2 <;> exact Finset.sum_congr rfl fun t _ => mul_comm _ _

theorem r1_ref (b : Fin 2) (s : Fin 96) (j : Fin 576) : (res_main_while0b_v198 V0 : FVec Ideal S2x96x576 .f32) (ix3 b s j) = r1S L r b s j := by
  unfold res_main_while0b_v198
  clean_types
  rw [ds4 _ n H.ctr, ds2 _ n H.ctr]
  pointwise
  simp only [H.res, H.so, o_ref H, sitofp_ext]
  simp only [H.wo]
  rfl

theorem gu_ref (b : Fin 2) (s : Fin 96) (j : Fin 3072) : (res_main_while0b_v218 V0 : FVec Ideal S2x96x3072 .f32) (ix3 b s j) = guS L r b s j := by
  unfold res_main_while0b_v218
  clean_types
  rw [ds2 _ n H.ctr, ds2 _ n H.ctr, ds3 _ n H.ctr]
  pointwise
  simp only [r1_ref H, H.mn, H.wgu, H.sgu, sitofp_ext]
  rfl

theorem r2_ref (b : Fin 2) (s : Fin 96) (j : Fin 576) : (res_main_while0b_v236 V0 : FVec Ideal S2x96x576 .f32) (ix3 b s j) = r2S L r b s j := by
  unfold res_main_while0b_v236 res_main_while0b_v219
  clean_types
  rw [ds2 _ n H.ctr, ds3 _ n H.ctr]
  pointwise
  simp only [r1_ref H, gu_ref H, H.wd, H.sd, sitofp_ext]
  rfl

end Layer

end Cert.LayersRefIdeal.Hand

end
-- ==== Proof.LayersChain.lean ====
/-
  The decoder layers one after another, as plain mathematics over the arguments.
-/
module

public import proofs.«01_k».proof.Proof.LayersSpec

@[expose] public section

noncomputable section

namespace Cert.LayersMath

open Idealize.ShloMosaic

/-- What the layers are given. -/
structure Args where
  len : Fin 2 → BitVec 32
  r0 : Fin 192 → Fin 576 → EReal
  cos : Fin 2 → Fin 96 → Fin 32 → EReal
  sin : Fin 2 → Fin 96 → Fin 32 → EReal
  ck : Fin 30 → Fin 2 → Fin 3 → Fin 2048 → Fin 64 → BitVec 8
  cks : Fin 30 → Fin 2 → Fin 3 → Fin 2048 → EReal
  cv : Fin 30 → Fin 2 → Fin 3 → Fin 2048 → Fin 64 → BitVec 8
  cvs : Fin 30 → Fin 2 → Fin 3 → Fin 2048 → EReal
  an : Fin 30 → Fin 576 → EReal
  mn : Fin 30 → Fin 576 → EReal
  wqkv : Fin 30 → Fin 576 → Fin 960 → BitVec 8
  sqkv : Fin 30 → Fin 960 → EReal
  wo : Fin 30 → Fin 9 → Fin 64 → Fin 576 → BitVec 8
  so : Fin 30 → Fin 576 → EReal
  wgu : Fin 30 → Fin 576 → Fin 3072 → BitVec 8
  sgu : Fin 30 → Fin 3072 → EReal
  wd : Fin 30 → Fin 1536 → Fin 576 → BitVec 8
  sd : Fin 30 → Fin 576 → EReal

variable (A : Args)

/-- A layer's own. -/
def lay (n : Fin 30) : Lay where
  len := A.len
  cos := A.cos
  sin := A.sin
  ck := A.ck n
  cks := A.cks n
  cv := A.cv n
  cvs := A.cvs n
  an := A.an n
  mn := A.mn n
  wqkv := A.wqkv n
  sqkv := A.sqkv n
  wo := fun e l => A.wo n ⟨e.val / 64, by omega⟩ ⟨e.val % 64, Nat.mod_lt _ (by decide)⟩ l
  so := A.so n
  wgu := A.wgu n
  sgu := A.sgu n
  wd := A.wd n
  sd := A.sd n

/-- The stream before layer `n`. -/
def stream : ℕ → Fin 2 → Fin 96 → Fin 576 → EReal
  | 0 => fun b s k => A.r0 ⟨b.val * 96 + s.val, by omega⟩ k
  | n + 1 => if h : n < 30 then r2S (lay A ⟨n, h⟩) (stream n) else stream n

theorem stream_succ (n : Fin 30) : stream A (n.val + 1) = r2S (lay A n) (stream A n.val) := by
  show (if h : n.val < 30 then r2S (lay A ⟨n.val, h⟩) (stream A n.val) else stream A n.val) = _
  rw [dif_pos n.isLt]

/-! ## Codes as words -/

theorem trunc_word (z : ℤ) (h : -127 ≤ z ∧ z ≤ 127) : (BitVec.ofInt 32 z).setWidth 8 = BitVec.ofInt 8 z := by
  obtain ⟨h1, h2⟩ := h
  interval_cases z <;> rfl

/-- A code as a word of eight bits, directly or by way of thirty-two. -/
theorem trunc_cds (f : Fin 64 → EReal) (d : Fin 64) : (Ideal.fptosi 32 (cds f d)).setWidth 8 = Ideal.fptosi 8 (cds f d) := by
  obtain ⟨r, hr, h1, h2⟩ : ∃ r : ℝ, cds f d = (r : EReal) ∧ -127 ≤ r ∧ r ≤ 127 := by
    have a : (-127 : EReal) ≤ cds f d := by
      refine le_min ?_ (le_max_of_le_left ?_)
      · show ((-127 : ℝ) : EReal) ≤ (((127#32 : BitVec 32).toInt : ℝ) : EReal)
        exact EReal.coe_le_coe_iff.mpr (by rw [show (127#32 : BitVec 32).toInt = 127 from rfl]; norm_num)
      · show ((-127 : ℝ) : EReal) ≤ (((4294967169#32 : BitVec 32).toInt : ℝ) : EReal)
        exact EReal.coe_le_coe_iff.mpr (by rw [show (4294967169#32 : BitVec 32).toInt = -127 from rfl]; norm_num)
    have b : cds f d ≤ (127 : EReal) := by
      refine (min_le_left _ _).trans ?_
      show (((127#32 : BitVec 32).toInt : ℝ) : EReal) ≤ ((127 : ℝ) : EReal)
      exact EReal.coe_le_coe_iff.mpr (by rw [show (127#32 : BitVec 32).toInt = 127 from rfl]; norm_num)
    revert a b
    induction cds f d with
    | bot => intro a _; exact absurd (le_bot_iff.mp a) (EReal.coe_ne_bot (-127))
    | top => intro _ b; exact absurd (top_le_iff.mp b) (EReal.coe_ne_top 127)
    | coe r =>
      intro a b
      exact ⟨r, rfl, EReal.coe_le_coe_iff.mp a, EReal.coe_le_coe_iff.mp b⟩
  rw [hr]
  have hz : -127 ≤ (if 0 ≤ r then ⌊r⌋ else ⌈r⌉) ∧ (if 0 ≤ r then ⌊r⌋ else ⌈r⌉) ≤ 127 := by
    split_ifs
    · exact ⟨Int.le_floor.mpr (by push_cast; exact h1), Int.floor_le_iff.mpr (by push_cast; linarith)⟩
    · exact ⟨Int.le_ceil_iff.mpr (by push_cast; linarith), Int.ceil_le.mpr (by push_cast; exact h2)⟩
  unfold Ideal.fptosi
  rw [Ideal.toIntClamped_coe, Ideal.toIntClamped_coe]
  generalize (if 0 ≤ r then ⌊r⌋ else ⌈r⌉) = z at hz ⊢
  obtain ⟨hz1, hz2⟩ := hz
  have e1 : max (-((2 ^ (32 - 1) : ℕ) : ℤ)) (min (((2 ^ (32 - 1) : ℕ) : ℤ) - 1) z) = z := by norm_num; omega
  have e2 : max (-((2 ^ (8 - 1) : ℕ) : ℤ)) (min (((2 ^ (8 - 1) : ℕ) : ℤ) - 1) z) = z := by norm_num; omega
  rw [e1, e2, trunc_word z ⟨hz1, hz2⟩]

/-! ## What each layer leaves -/

def resO (n : Fin 30) (b : Fin 2) (s : Fin 96) (j : Fin 576) : EReal := stream A (n.val + 1) b s j
def oO (n : Fin 30) (b : Fin 2) (s : Fin 96) (h : Fin 9) (d : Fin 64) : EReal := oS (lay A n) (stream A n.val) b s h d
def kcO (n : Fin 30) (b : Fin 2) (s : Fin 96) (k : Fin 3) (d : Fin 64) : EReal := cds (kS (lay A n) (stream A n.val) b s k) d
def kcsO (n : Fin 30) (b : Fin 2) (s : Fin 96) (k : Fin 3) : EReal := scl (kS (lay A n) (stream A n.val) b s k)
def vcO (n : Fin 30) (b : Fin 2) (s : Fin 96) (k : Fin 3) (d : Fin 64) : EReal := cds (vS (lay A n) (stream A n.val) b s k) d
def vcsO (n : Fin 30) (b : Fin 2) (s : Fin 96) (k : Fin 3) : EReal := scl (vS (lay A n) (stream A n.val) b s k)

end Cert.LayersMath

end
-- ==== Proof.LayersRefEntryA.lean ====
/-
  What the reference's loop starts from: the caches and their scales, the attention's gains.
-/
module

public import proofs.«01_k».proof.Proof.LayersRefStep
public import proofs.«01_k».proof.Proof.LayersChain

@[expose] public section

set_option maxRecDepth 65536
set_option maxHeartbeats 4000000

noncomputable section

namespace Cert.LayersRefIdeal.Hand

open Cert.LayersRefIdeal Cert.LayersRefIdeal.Gen Cert.LayersRefIdeal.Value Cert.LayersMath
open Idealize.ShloMosaic Idealize.ShloMosaic.TcCoe Idealize.ShloMosaic.Tactic
open Idealize.ShloMosaic.StableHlo

variable (m : (ℓ : Loc nD τ sig) → Buf (Elt Ideal) ℓ)
variable (c : Dev nD)

theorem e0 : entryContents preI m c (Proc.devRef .tc main_v23_0) = m ((c.tc : Thread nD τ).loc main_arg4) := by
  simp only [entryContents, afterL_cons, afterL_nil]; after_reads_simp; rfl
theorem e1 : entryContents preI m c (Proc.devRef .tc main_v23_1) = m ((c.tc : Thread nD τ).loc main_arg5) := by
  simp only [entryContents, afterL_cons, afterL_nil]; after_reads_simp; rfl
theorem e2 : entryContents preI m c (Proc.devRef .tc main_v23_2) = m ((c.tc : Thread nD τ).loc main_arg6) := by
  simp only [entryContents, afterL_cons, afterL_nil]; after_reads_simp; rfl
theorem e3 : entryContents preI m c (Proc.devRef .tc main_v23_3) = m ((c.tc : Thread nD τ).loc main_arg7) := by
  simp only [entryContents, afterL_cons, afterL_nil]; after_reads_simp; rfl
theorem e4 : entryContents preI m c (Proc.devRef .tc main_v23_4) = m ((c.tc : Thread nD τ).loc main_arg8) := by
  simp only [entryContents, afterL_cons, afterL_nil]; after_reads_simp; rfl

end Cert.LayersRefIdeal.Hand

end
-- ==== Proof.LayersRefEntryB.lean ====
/-
  What the reference's loop starts from: the gains, the scales and the projections of the attention.
-/
module

public import proofs.«01_k».proof.Proof.LayersRefStep
public import proofs.«01_k».proof.Proof.LayersChain

@[expose] public section

set_option maxRecDepth 65536
set_option maxHeartbeats 4000000

noncomputable section

namespace Cert.LayersRefIdeal.Hand

open Cert.LayersRefIdeal Cert.LayersRefIdeal.Gen Cert.LayersRefIdeal.Value Cert.LayersMath
open Idealize.ShloMosaic Idealize.ShloMosaic.TcCoe Idealize.ShloMosaic.Tactic
open Idealize.ShloMosaic.StableHlo

variable (m : (ℓ : Loc nD τ sig) → Buf (Elt Ideal) ℓ)
variable (c : Dev nD)

theorem e5 : entryContents preI m c (Proc.devRef .tc main_v23_5) = m ((c.tc : Thread nD τ).loc main_arg9) := by
  simp only [entryContents, afterL_cons, afterL_nil]; after_reads_simp; rfl
theorem e6 : entryContents preI m c (Proc.devRef .tc main_v23_6) = m ((c.tc : Thread nD τ).loc main_arg10) := by
  simp only [entryContents, afterL_cons, afterL_nil]; after_reads_simp; rfl
theorem e7 : entryContents preI m c (Proc.devRef .tc main_v23_7) = m ((c.tc : Thread nD τ).loc main_arg11) := by
  simp only [entryContents, afterL_cons, afterL_nil]; after_reads_simp; rfl
theorem e8 : entryContents preI m c (Proc.devRef .tc main_v23_8) = m ((c.tc : Thread nD τ).loc main_arg12) := by
  simp only [entryContents, afterL_cons, afterL_nil]; after_reads_simp; rfl
theorem e9 : entryContents preI m c (Proc.devRef .tc main_v23_9) = m ((c.tc : Thread nD τ).loc main_arg13) := by
  simp only [entryContents, afterL_cons, afterL_nil]; after_reads_simp; rfl

end Cert.LayersRefIdeal.Hand

end
-- ==== Proof.LayersRefEntryC.lean ====
/-
  What the reference's loop starts from: the gated layer's matrices and scales.
-/
module

public import proofs.«01_k».proof.Proof.LayersRefStep
public import proofs.«01_k».proof.Proof.LayersChain

@[expose] public section

set_option maxRecDepth 65536
set_option maxHeartbeats 4000000

noncomputable section

namespace Cert.LayersRefIdeal.Hand

open Cert.LayersRefIdeal Cert.LayersRefIdeal.Gen Cert.LayersRefIdeal.Value Cert.LayersMath
open Idealize.ShloMosaic Idealize.ShloMosaic.TcCoe Idealize.ShloMosaic.Tactic
open Idealize.ShloMosaic.StableHlo

variable (m : (ℓ : Loc nD τ sig) → Buf (Elt Ideal) ℓ)
variable (c : Dev nD)

theorem e10 : entryContents preI m c (Proc.devRef .tc main_v23_10) = m ((c.tc : Thread nD τ).loc main_arg14) := by
  simp only [entryContents, afterL_cons, afterL_nil]; after_reads_simp; rfl
theorem e11 : entryContents preI m c (Proc.devRef .tc main_v23_11) = m ((c.tc : Thread nD τ).loc main_arg15) := by
  simp only [entryContents, afterL_cons, afterL_nil]; after_reads_simp; rfl
theorem e12 : entryContents preI m c (Proc.devRef .tc main_v23_12) = m ((c.tc : Thread nD τ).loc main_arg16) := by
  simp only [entryContents, afterL_cons, afterL_nil]; after_reads_simp; rfl
theorem e13 : entryContents preI m c (Proc.devRef .tc main_v23_13) = m ((c.tc : Thread nD τ).loc main_arg17) := by
  simp only [entryContents, afterL_cons, afterL_nil]; after_reads_simp; rfl

end Cert.LayersRefIdeal.Hand

end
-- ==== Proof.LayersRefEntryD.lean ====
/-
  What the reference's loop starts from: the rotation tables and the masks.
-/
module

public import proofs.«01_k».proof.Proof.LayersRefStep
public import proofs.«01_k».proof.Proof.LayersChain

@[expose] public section

set_option maxRecDepth 65536
set_option maxHeartbeats 4000000

noncomputable section

namespace Cert.LayersRefIdeal.Hand

open Cert.LayersRefIdeal Cert.LayersRefIdeal.Gen Cert.LayersRefIdeal.Value Cert.LayersMath
open Idealize.ShloMosaic Idealize.ShloMosaic.TcCoe Idealize.ShloMosaic.Tactic
open Idealize.ShloMosaic.StableHlo

variable (m : (ℓ : Loc nD τ sig) → Buf (Elt Ideal) ℓ)

/-- The arguments. -/
def args (c : Dev nD) : Args where
  len := fun b => (m ((c.tc : Thread nD τ).loc main_arg0) : S2.Idx → BitVec 32) (ix1 b)
  r0 := fun q k => (m ((c.tc : Thread nD τ).loc main_arg1) : FVec Ideal S192x576 .f32) (ix2 q k)
  cos := fun b s d => (m ((c.tc : Thread nD τ).loc main_arg2) : FVec Ideal S2x96x32 .f32) (ix3 b s d)
  sin := fun b s d => (m ((c.tc : Thread nD τ).loc main_arg3) : FVec Ideal S2x96x32 .f32) (ix3 b s d)
  ck := fun n b k t d => (m ((c.tc : Thread nD τ).loc main_arg4) : IVec S30x2x3x2048x64 8) (ix5 n b k t d)
  cks := fun n b k t => (m ((c.tc : Thread nD τ).loc main_arg5) : FVec Ideal S30x2x3x2048 .f32) (ix4 n b k t)
  cv := fun n b k t d => (m ((c.tc : Thread nD τ).loc main_arg6) : IVec S30x2x3x2048x64 8) (ix5 n b k t d)
  cvs := fun n b k t => (m ((c.tc : Thread nD τ).loc main_arg7) : FVec Ideal S30x2x3x2048 .f32) (ix4 n b k t)
  an := fun n k => (m ((c.tc : Thread nD τ).loc main_arg8) : FVec Ideal S30x576 .f32) (ix2 n k)
  mn := fun n k => (m ((c.tc : Thread nD τ).loc main_arg9) : FVec Ideal S30x576 .f32) (ix2 n k)
  wqkv := fun n k l => (m ((c.tc : Thread nD τ).loc main_arg10) : IVec S30x576x960 8) (ix3 n k l)
  sqkv := fun n k => (m ((c.tc : Thread nD τ).loc main_arg11) : FVec Ideal S30x960 .f32) (ix2 n k)
  wo := fun n h d l => (m ((c.tc : Thread nD τ).loc main_arg12) : IVec S30x9x64x576 8) (ix4 n h d l)
  so := fun n k => (m ((c.tc : Thread nD τ).loc main_arg13) : FVec Ideal S30x576 .f32) (ix2 n k)
  wgu := fun n k l => (m ((c.tc : Thread nD τ).loc main_arg14) : IVec S30x576x3072 8) (ix3 n k l)
  sgu := fun n k => (m ((c.tc : Thread nD τ).loc main_arg15) : FVec Ideal S30x3072 .f32) (ix2 n k)
  wd := fun n k l => (m ((c.tc : Thread nD τ).loc main_arg16) : IVec S30x1536x576 8) (ix3 n k l)
  sd := fun n k => (m ((c.tc : Thread nD τ).loc main_arg17) : FVec Ideal S30x576 .f32) (ix2 n k)

variable (c : Dev nD)

theorem e14 (b s d) : (entryContents preI m c (Proc.devRef .tc main_v23_14) : FVec Ideal S2x96x1x32 .f32) (ix4 b s 0 d) = (args m c).cos b s d := by
  simp only [entryContents, afterL_cons, afterL_nil]
  after_reads_simp
  simp only [id_eq]
  clean_types
  pointwise
  rfl
theorem e15 (b s d) : (entryContents preI m c (Proc.devRef .tc main_v23_15) : FVec Ideal S2x96x1x32 .f32) (ix4 b s 0 d) = (args m c).sin b s d := by
  simp only [entryContents, afterL_cons, afterL_nil]
  after_reads_simp
  simp only [id_eq]
  clean_types
  pointwise
  rfl

theorem sle_iota (s t : Fin 96) : IntOp.cmpi .sle (BitVec.ofNat 32 t.val) (BitVec.ofNat 32 s.val) = BitVec.ofBool (decide (t.val ≤ s.val)) := by
  have e : ∀ t : Fin 96, (BitVec.ofNat 32 t.val).toInt = (t.val : ℤ) := fun t => by
    have ht := t.isLt
    rw [BitVec.toInt_ofNat', Int.bmod_eq_of_le] <;> omega
  show BitVec.ofBool ((BitVec.ofNat 32 t.val).sle (BitVec.ofNat 32 s.val)) = _
  rw [BitVec.sle, e, e, decide_eq_decide.mpr Int.ofNat_le]

theorem slt_len (t : Fin 2048) (w : BitVec 32) : IntOp.cmpi .slt (BitVec.ofNat 32 t.val) w = BitVec.ofBool (decide ((t.val : ℤ) < w.toInt)) := by
  have ht := t.isLt
  have e : (BitVec.ofNat 32 t.val).toInt = (t.val : ℤ) := by
    rw [BitVec.toInt_ofNat', Int.bmod_eq_of_le] <;> omega
  show BitVec.ofBool ((BitVec.ofNat 32 t.val).slt w) = _
  rw [BitVec.slt, e]

theorem e16 (b t) : (entryContents preI m c (Proc.devRef .tc main_v23_16) : IVec S2x1x1x1x2048 1) (ix5 b 0 0 0 t) = BitVec.ofBool (decide ((t.val : ℤ) < ((args m c).len b).toInt)) := by
  refine Eq.trans ?_ (slt_len t _)
  simp only [entryContents, afterL_cons, afterL_nil]
  after_reads_simp
  simp only [id_eq]
  clean_types
  pointwise
  rfl

end Cert.LayersRefIdeal.Hand

end
-- ==== Proof.LayersRefEntryE.lean ====
/-
  What the reference's loop starts from: the causal mask and the stream.
-/
module

public import proofs.«01_k».proof.Proof.LayersRefStep
public import proofs.«01_k».proof.Proof.LayersRefEntryD

@[expose] public section

set_option maxRecDepth 65536
set_option maxHeartbeats 4000000

noncomputable section

namespace Cert.LayersRefIdeal.Hand

open Cert.LayersRefIdeal Cert.LayersRefIdeal.Gen Cert.LayersRefIdeal.Value Cert.LayersMath
open Idealize.ShloMosaic Idealize.ShloMosaic.TcCoe Idealize.ShloMosaic.Tactic
open Idealize.ShloMosaic.StableHlo

variable (m : (ℓ : Loc nD τ sig) → Buf (Elt Ideal) ℓ)
variable (c : Dev nD)

theorem e17 (s t) : (entryContents preI m c (Proc.devRef .tc main_v23_17) : IVec S96x96 1) (ix2 s t) = BitVec.ofBool (decide (t.val ≤ s.val)) := by
  refine Eq.trans ?_ (sle_iota s t)
  simp only [entryContents, afterL_cons, afterL_nil]
  after_reads_simp
  simp only [id_eq]
  clean_types
  pointwise

theorem e19 (b s k) : (entryContents preI m c (Proc.devRef .tc main_v23_19) : FVec Ideal S2x96x576 .f32) (ix3 b s k) = stream (args m c) 0 b s k := by
  simp only [entryContents, afterL_cons, afterL_nil]
  after_reads_simp
  simp only [id_eq]
  clean_types
  pointwise
  rfl

end Cert.LayersRefIdeal.Hand

end
-- ==== Proof.LayersRefIter.lean ====
/-
  The reference's loop: after `k` trips the carried buffers hold the stream of `k` layers and the first `k` rows of each
  stacked result.
-/
module

public import proofs.«01_k».proof.Proof.LayersRefStep
public import proofs.«01_k».proof.Proof.LayersRefEntryA
public import proofs.«01_k».proof.Proof.LayersRefEntryB
public import proofs.«01_k».proof.Proof.LayersRefEntryC
public import proofs.«01_k».proof.Proof.LayersRefEntryD
public import proofs.«01_k».proof.Proof.LayersRefEntryE

@[expose] public section

set_option maxRecDepth 65536
set_option maxHeartbeats 1000000

noncomputable section

namespace Cert.LayersRefIdeal.Hand

open Cert.LayersRefIdeal Cert.LayersRefIdeal.Gen Cert.LayersRefIdeal.Value Cert.LayersMath
open Idealize.ShloMosaic Idealize.ShloMosaic.TcCoe Idealize.ShloMosaic.Tactic
open Idealize.ShloMosaic.StableHlo

variable (m : (ℓ : Loc nD τ sig) → Buf (Elt Ideal) ℓ)
variable (c : Dev nD)

/-! ## The trips -/

/-- The contents before trip `k`. -/
abbrev It (k : ℕ) : Valuation τ sig (Elt Ideal) := STEP^[k] (entryContents preI m c)

theorem It_succ (k : ℕ) : It m c (k + 1) = STEP (It m c k) := Function.iterate_succ_apply' ..

theorem It_same (r : Ref sig .tc) (h : ∀ V0 : Valuation τ sig (Elt Ideal), STEP V0 (Proc.devRef .tc r) = V0 (Proc.devRef .tc r)) :
    ∀ k, It m c k (Proc.devRef .tc r) = entryContents preI m c (Proc.devRef .tc r)
  | 0 => rfl
  | k + 1 => by rw [It_succ, h, It_same r h k]

theorem It_ctr : ∀ k, (It m c k (Proc.devRef .tc main_v23_18) : S_.Idx → BitVec 32) = fun _ => BitVec.ofNat 32 k
  | 0 => ctr_entry m c
  | k + 1 => by
    rw [It_succ, STEP_main_v23_18]
    unfold step_main_v23_18
    rw [It_ctr k]
    funext x
    show BitVec.ofNat 32 k + 1#32 = _
    rw [BitVec.ofNat_add]

theorem reads (k : Fin 30) (hr : ∀ b s j, (It m c k.val (Proc.devRef .tc main_v23_19) : FVec Ideal S2x96x576 .f32) (ix3 b s j) = stream (args m c) k.val b s j) :
    Reads (It m c k.val) k (lay (args m c) k) (stream (args m c) k.val) where
  ctr := by rw [It_ctr]
  res := hr
  ck := fun b h t d => by rw [It_same m c _ STEP_main_v23_0, e0]; rfl
  cks := fun b h t => by rw [It_same m c _ STEP_main_v23_1, e1]; rfl
  cv := fun b h t d => by rw [It_same m c _ STEP_main_v23_2, e2]; rfl
  cvs := fun b h t => by rw [It_same m c _ STEP_main_v23_3, e3]; rfl
  an := fun x => by rw [It_same m c _ STEP_main_v23_4, e4]; rfl
  mn := fun x => by rw [It_same m c _ STEP_main_v23_5, e5]; rfl
  wqkv := fun x l => by rw [It_same m c _ STEP_main_v23_6, e6]; rfl
  sqkv := fun x => by rw [It_same m c _ STEP_main_v23_7, e7]; rfl
  wo := fun x l => by rw [It_same m c _ STEP_main_v23_8, e8]; rfl
  so := fun x => by rw [It_same m c _ STEP_main_v23_9, e9]; rfl
  wgu := fun x l => by rw [It_same m c _ STEP_main_v23_10, e10]; rfl
  sgu := fun x => by rw [It_same m c _ STEP_main_v23_11, e11]; rfl
  wd := fun x l => by rw [It_same m c _ STEP_main_v23_12, e12]; rfl
  sd := fun x => by rw [It_same m c _ STEP_main_v23_13, e13]; rfl
  cos := fun b s d => by rw [It_same m c _ STEP_main_v23_14]; exact e14 m c b s d
  sin := fun b s d => by rw [It_same m c _ STEP_main_v23_15]; exact e15 m c b s d
  old := fun b t => by rw [It_same m c _ STEP_main_v23_16]; exact e16 m c b t
  new := fun s t => by rw [It_same m c _ STEP_main_v23_17]; exact e17 m c s t

theorem It_res : ∀ k, k ≤ 30 → ∀ b s j, (It m c k (Proc.devRef .tc main_v23_19) : FVec Ideal S2x96x576 .f32) (ix3 b s j) = stream (args m c) k b s j
  | 0, _, b, s, j => e19 m c b s j
  | k + 1, h, b, s, j => by
    rw [It_succ, STEP_main_v23_19]
    unfold step_main_v23_19
    rw [stream_succ _ ⟨k, h⟩]
    exact r2_ref (reads m c ⟨k, h⟩ (It_res k (Nat.le_of_succ_le h))) b s j

theorem readsAt (k : Fin 30) : Reads (It m c k.val) k (lay (args m c) k) (stream (args m c) k.val) := reads m c k (It_res m c k.val k.isLt.le)

/-! ## The stacks -/

section Stack
variable {α : Type} (C : S_.Idx → BitVec 32) (n : Fin 30) (hC : C (Shape.Idx.first h_S_) = BitVec.ofNat 32 n.val)
include hC

theorem du4 {a b d : ℕ} (X : (⟨4, ![30, a, b, d]⟩ : Shape).Idx → α) (U : (⟨4, ![1, a, b, d]⟩ : Shape).Idx → α) (fits) (k : Fin 30) (x : Fin a) (y : Fin b) (z : Fin d) :
    Host.dynamicUpdateSlice X U (fun k => ((![C, constantI S_ 32 0#32, constantI S_ 32 0#32, constantI S_ 32 0#32] : Fin 4 → S_.Idx → BitVec 32) k (Shape.Idx.first h_S_)).toInt) fits (ix4 k x y z)
      = if k = n then U (ix4 0 x y z) else X (ix4 k x y z) := by
  rw [Host.dynamicUpdateSlice_apply]
  have c0 : Host.clampedStart _ _ fits.1 (fun k => ((![C, constantI S_ 32 0#32, constantI S_ 32 0#32, constantI S_ 32 0#32] : Fin 4 → S_.Idx → BitVec 32) k (Shape.Idx.first h_S_)).toInt) 0 = n.val :=
    Host.clampedStart_of_le _ _ _ n.val (by show (C _).toInt = _; rw [hC, ctr_toInt]) (by show n.val + 1 ≤ 30; omega)
  have c1 : Host.clampedStart _ _ fits.1 (fun k => ((![C, constantI S_ 32 0#32, constantI S_ 32 0#32, constantI S_ 32 0#32] : Fin 4 → S_.Idx → BitVec 32) k (Shape.Idx.first h_S_)).toInt) 1 = 0 :=
    Host.clampedStart_of_le _ _ _ 0 rfl (by show 0 + a ≤ a; omega)
  have c2 : Host.clampedStart _ _ fits.1 (fun k => ((![C, constantI S_ 32 0#32, constantI S_ 32 0#32, constantI S_ 32 0#32] : Fin 4 → S_.Idx → BitVec 32) k (Shape.Idx.first h_S_)).toInt) 2 = 0 :=
    Host.clampedStart_of_le _ _ _ 0 rfl (by show 0 + b ≤ b; omega)
  have c3 : Host.clampedStart _ _ fits.1 (fun k => ((![C, constantI S_ 32 0#32, constantI S_ 32 0#32, constantI S_ 32 0#32] : Fin 4 → S_.Idx → BitVec 32) k (Shape.Idx.first h_S_)).toInt) 3 = 0 :=
    Host.clampedStart_of_le _ _ _ 0 rfl (by show 0 + d ≤ d; omega)
  split_ifs with hin hk hk
  · congr 1
    funext e
    apply Fin.ext
    fin_cases e
    · show k.val - Host.clampedStart _ _ fits.1 _ 0 = 0
      rw [c0, hk]; omega
    · show x.val - Host.clampedStart _ _ fits.1 _ 1 = x.val
      rw [c1]; omega
    · show y.val - Host.clampedStart _ _ fits.1 _ 2 = y.val
      rw [c2]; omega
    · show z.val - Host.clampedStart _ _ fits.1 _ 3 = z.val
      rw [c3]; omega
  · have h := hin 0
    rw [c0] at h
    have h1 : n.val ≤ k.val ∧ k.val < n.val + 1 := h
    exact absurd (Fin.ext (by omega)) hk
  · refine absurd (fun e => ?_) hin
    fin_cases e
    · show Host.clampedStart _ _ fits.1 _ 0 ≤ k.val ∧ k.val < Host.clampedStart _ _ fits.1 _ 0 + 1
      rw [c0, hk]; omega
    · show Host.clampedStart _ _ fits.1 _ 1 ≤ x.val ∧ x.val < Host.clampedStart _ _ fits.1 _ 1 + a
      rw [c1]; omega
    · show Host.clampedStart _ _ fits.1 _ 2 ≤ y.val ∧ y.val < Host.clampedStart _ _ fits.1 _ 2 + b
      rw [c2]; omega
    · show Host.clampedStart _ _ fits.1 _ 3 ≤ z.val ∧ z.val < Host.clampedStart _ _ fits.1 _ 3 + d
      rw [c3]; omega
  · rfl

theorem du5 {a b d g : ℕ} (X : (⟨5, ![30, a, b, d, g]⟩ : Shape).Idx → α) (U : (⟨5, ![1, a, b, d, g]⟩ : Shape).Idx → α) (fits) (k : Fin 30) (x : Fin a) (y : Fin b) (z : Fin d) (w : Fin g) :
    Host.dynamicUpdateSlice X U (fun k => ((![C, constantI S_ 32 0#32, constantI S_ 32 0#32, constantI S_ 32 0#32, constantI S_ 32 0#32] : Fin 5 → S_.Idx → BitVec 32) k (Shape.Idx.first h_S_)).toInt) fits (ix5 k x y z w)
      = if k = n then U (ix5 0 x y z w) else X (ix5 k x y z w) := by
  rw [Host.dynamicUpdateSlice_apply]
  have c0 : Host.clampedStart _ _ fits.1 (fun k => ((![C, constantI S_ 32 0#32, constantI S_ 32 0#32, constantI S_ 32 0#32, constantI S_ 32 0#32] : Fin 5 → S_.Idx → BitVec 32) k (Shape.Idx.first h_S_)).toInt) 0 = n.val :=
    Host.clampedStart_of_le _ _ _ n.val (by show (C _).toInt = _; rw [hC, ctr_toInt]) (by show n.val + 1 ≤ 30; omega)
  have c1 : Host.clampedStart _ _ fits.1 (fun k => ((![C, constantI S_ 32 0#32, constantI S_ 32 0#32, constantI S_ 32 0#32, constantI S_ 32 0#32] : Fin 5 → S_.Idx → BitVec 32) k (Shape.Idx.first h_S_)).toInt) 1 = 0 :=
    Host.clampedStart_of_le _ _ _ 0 rfl (by show 0 + a ≤ a; omega)
  have c2 : Host.clampedStart _ _ fits.1 (fun k => ((![C, constantI S_ 32 0#32, constantI S_ 32 0#32, constantI S_ 32 0#32, constantI S_ 32 0#32] : Fin 5 → S_.Idx → BitVec 32) k (Shape.Idx.first h_S_)).toInt) 2 = 0 :=
    Host.clampedStart_of_le _ _ _ 0 rfl (by show 0 + b ≤ b; omega)
  have c3 : Host.clampedStart _ _ fits.1 (fun k => ((![C, constantI S_ 32 0#32, constantI S_ 32 0#32, constantI S_ 32 0#32, constantI S_ 32 0#32] : Fin 5 → S_.Idx → BitVec 32) k (Shape.Idx.first h_S_)).toInt) 3 = 0 :=
    Host.clampedStart_of_le _ _ _ 0 rfl (by show 0 + d ≤ d; omega)
  have c4 : Host.clampedStart _ _ fits.1 (fun k => ((![C, constantI S_ 32 0#32, constantI S_ 32 0#32, constantI S_ 32 0#32, constantI S_ 32 0#32] : Fin 5 → S_.Idx → BitVec 32) k (Shape.Idx.first h_S_)).toInt) 4 = 0 :=
    Host.clampedStart_of_le _ _ _ 0 rfl (by show 0 + g ≤ g; omega)
  split_ifs with hin hk hk
  · congr 1
    funext e
    apply Fin.ext
    fin_cases e
    · show k.val - Host.clampedStart _ _ fits.1 _ 0 = 0
      rw [c0, hk]; omega
    · show x.val - Host.clampedStart _ _ fits.1 _ 1 = x.val
      rw [c1]; omega
    · show y.val - Host.clampedStart _ _ fits.1 _ 2 = y.val
      rw [c2]; omega
    · show z.val - Host.clampedStart _ _ fits.1 _ 3 = z.val
      rw [c3]; omega
    · show w.val - Host.clampedStart _ _ fits.1 _ 4 = w.val
      rw [c4]; omega
  · have h := hin 0
    rw [c0] at h
    have h1 : n.val ≤ k.val ∧ k.val < n.val + 1 := h
    exact absurd (Fin.ext (by omega)) hk
  · refine absurd (fun e => ?_) hin
    fin_cases e
    · show Host.clampedStart _ _ fits.1 _ 0 ≤ k.val ∧ k.val < Host.clampedStart _ _ fits.1 _ 0 + 1
      rw [c0, hk]; omega
    · show Host.clampedStart _ _ fits.1 _ 1 ≤ x.val ∧ x.val < Host.clampedStart _ _ fits.1 _ 1 + a
      rw [c1]; omega
    · show Host.clampedStart _ _ fits.1 _ 2 ≤ y.val ∧ y.val < Host.clampedStart _ _ fits.1 _ 2 + b
      rw [c2]; omega
    · show Host.clampedStart _ _ fits.1 _ 3 ≤ z.val ∧ z.val < Host.clampedStart _ _ fits.1 _ 3 + d
      rw [c3]; omega
    · show Host.clampedStart _ _ fits.1 _ 4 ≤ w.val ∧ w.val < Host.clampedStart _ _ fits.1 _ 4 + g
      rw [c4]; omega
  · rfl
end Stack

/-- A stack whose row `n` is written in trip `n` holds, after `k` trips, the rows below `k`. -/
theorem stacked {β : Type} (f : ℕ → Fin 30 → β) (g : Fin 30 → β) (h : ∀ (k n : Fin 30), f (k.val + 1) n = if n = k then g k else f k.val n) :
    ∀ k, k ≤ 30 → ∀ n : Fin 30, n.val < k → f k n = g n
  | 0, _, n, hn => absurd hn (Nat.not_lt_zero _)
  | k + 1, hk, n, hn => by
    rw [h ⟨k, hk⟩ n]
    split_ifs with e
    · rw [e]
    · exact stacked f g h k (Nat.le_of_succ_le hk) n (by
        have : n.val ≠ k := fun h' => e (Fin.ext h')
        omega)

theorem It_ctr0 (k : ℕ) : (It m c k (Proc.devRef .tc main_v23_18) : S_.Idx → BitVec 32) (Shape.Idx.first h_S_) = BitVec.ofNat 32 k := by rw [It_ctr]

theorem bc0 (U : FVec Ideal S2x96x576 .f32) (b s j) : broadcastInDim S1x2x96x576 ![1, 2, 3] bcast_S2x96x576_S1x2x96x576_1_2_3 U (ix4 0 b s j) = U (ix3 b s j) := by pointwise
theorem bc1 (U : FVec Ideal S2x96x9x64 .f32) (b s h d) : broadcastInDim S1x2x96x9x64 ![1, 2, 3, 4] bcast_S2x96x9x64_S1x2x96x9x64_1_2_3_4 U (ix5 0 b s h d) = U (ix4 b s h d) := by pointwise
theorem bc2 (U : FVec Ideal S2x96x3x64 .f32) (b s h d) : broadcastInDim S1x2x96x3x64 ![1, 2, 3, 4] bcast_S2x96x3x64_S1x2x96x3x64_1_2_3_4 U (ix5 0 b s h d) = U (ix4 b s h d) := by pointwise
theorem bc3 (U : FVec Ideal S2x96x3 .f32) (b s h) : broadcastInDim S1x2x96x3 ![1, 2, 3] bcast_S2x96x3_S1x2x96x3_1_2_3 U (ix4 0 b s h) = U (ix3 b s h) := by pointwise

theorem st20 (n : Fin 30) (b : Fin 2) (s : Fin 96) (j : Fin 576) : (It m c 30 (Proc.devRef .tc main_v23_20) : FVec Ideal S30x2x96x576 .f32) (ix4 n b s j) = resO (args m c) n b s j := by
  refine stacked (fun k n => (It m c k (Proc.devRef .tc main_v23_20) : FVec Ideal S30x2x96x576 .f32) (ix4 n b s j)) (fun n => resO (args m c) n b s j) (fun k n => ?_) 30 le_rfl n n.isLt
  show (It m c (k.val + 1) (Proc.devRef .tc main_v23_20) : FVec Ideal S30x2x96x576 .f32) (ix4 n b s j) = _
  rw [It_succ, STEP_main_v23_20]
  unfold step_main_v23_20
  refine (du4 _ k (It_ctr0 m c k.val) _ _ _ n b s j).trans ?_
  refine if_congr Iff.rfl ?_ rfl
  refine (bc0 _ b s j).trans ((r2_ref (readsAt m c k) b s j).trans ?_)
  show _ = stream (args m c) (k.val + 1) b s j
  rw [stream_succ]

theorem st21 (n : Fin 30) (b : Fin 2) (s : Fin 96) (h : Fin 9) (d : Fin 64) : (It m c 30 (Proc.devRef .tc main_v23_21) : FVec Ideal S30x2x96x9x64 .f32) (ix5 n b s h d) = oO (args m c) n b s h d := by
  refine stacked (fun k n => (It m c k (Proc.devRef .tc main_v23_21) : FVec Ideal S30x2x96x9x64 .f32) (ix5 n b s h d)) (fun n => oO (args m c) n b s h d) (fun k n => ?_) 30 le_rfl n n.isLt
  show (It m c (k.val + 1) (Proc.devRef .tc main_v23_21) : FVec Ideal S30x2x96x9x64 .f32) (ix5 n b s h d) = _
  rw [It_succ, STEP_main_v23_21]
  unfold step_main_v23_21
  refine (du5 _ k (It_ctr0 m c k.val) _ _ _ n b s h d).trans ?_
  exact if_congr Iff.rfl ((bc1 _ b s h d).trans (o_ref (readsAt m c k) b s h d)) rfl

theorem st22 (n : Fin 30) (b : Fin 2) (s : Fin 96) (h : Fin 3) (d : Fin 64) : (It m c 30 (Proc.devRef .tc main_v23_22) : FVec Ideal S30x2x96x3x64 .f32) (ix5 n b s h d) = kcO (args m c) n b s h d := by
  refine stacked (fun k n => (It m c k (Proc.devRef .tc main_v23_22) : FVec Ideal S30x2x96x3x64 .f32) (ix5 n b s h d)) (fun n => kcO (args m c) n b s h d) (fun k n => ?_) 30 le_rfl n n.isLt
  show (It m c (k.val + 1) (Proc.devRef .tc main_v23_22) : FVec Ideal S30x2x96x3x64 .f32) (ix5 n b s h d) = _
  rw [It_succ, STEP_main_v23_22]
  unfold step_main_v23_22
  refine (du5 _ k (It_ctr0 m c k.val) _ _ _ n b s h d).trans ?_
  exact if_congr Iff.rfl ((bc2 _ b s h d).trans (kcodes_ref (readsAt m c k) b s h d)) rfl

theorem st23 (n : Fin 30) (b : Fin 2) (s : Fin 96) (h : Fin 3) : (It m c 30 (Proc.devRef .tc main_v23_23) : FVec Ideal S30x2x96x3 .f32) (ix4 n b s h) = kcsO (args m c) n b s h := by
  refine stacked (fun k n => (It m c k (Proc.devRef .tc main_v23_23) : FVec Ideal S30x2x96x3 .f32) (ix4 n b s h)) (fun n => kcsO (args m c) n b s h) (fun k n => ?_) 30 le_rfl n n.isLt
  show (It m c (k.val + 1) (Proc.devRef .tc main_v23_23) : FVec Ideal S30x2x96x3 .f32) (ix4 n b s h) = _
  rw [It_succ, STEP_main_v23_23]
  unfold step_main_v23_23
  refine (du4 _ k (It_ctr0 m c k.val) _ _ _ n b s h).trans ?_
  exact if_congr Iff.rfl ((bc3 _ b s h).trans (kscale_ref (readsAt m c k) b s h)) rfl

theorem st24 (n : Fin 30) (b : Fin 2) (s : Fin 96) (h : Fin 3) (d : Fin 64) : (It m c 30 (Proc.devRef .tc main_v23_24) : FVec Ideal S30x2x96x3x64 .f32) (ix5 n b s h d) = vcO (args m c) n b s h d := by
  refine stacked (fun k n => (It m c k (Proc.devRef .tc main_v23_24) : FVec Ideal S30x2x96x3x64 .f32) (ix5 n b s h d)) (fun n => vcO (args m c) n b s h d) (fun k n => ?_) 30 le_rfl n n.isLt
  show (It m c (k.val + 1) (Proc.devRef .tc main_v23_24) : FVec Ideal S30x2x96x3x64 .f32) (ix5 n b s h d) = _
  rw [It_succ, STEP_main_v23_24]
  unfold step_main_v23_24
  refine (du5 _ k (It_ctr0 m c k.val) _ _ _ n b s h d).trans ?_
  exact if_congr Iff.rfl ((bc2 _ b s h d).trans (vcodes_ref (readsAt m c k) b s h d)) rfl

theorem st25 (n : Fin 30) (b : Fin 2) (s : Fin 96) (h : Fin 3) : (It m c 30 (Proc.devRef .tc main_v23_25) : FVec Ideal S30x2x96x3 .f32) (ix4 n b s h) = vcsO (args m c) n b s h := by
  refine stacked (fun k n => (It m c k (Proc.devRef .tc main_v23_25) : FVec Ideal S30x2x96x3 .f32) (ix4 n b s h)) (fun n => vcsO (args m c) n b s h) (fun k n => ?_) 30 le_rfl n n.isLt
  show (It m c (k.val + 1) (Proc.devRef .tc main_v23_25) : FVec Ideal S30x2x96x3 .f32) (ix4 n b s h) = _
  rw [It_succ, STEP_main_v23_25]
  unfold step_main_v23_25
  refine (du4 _ k (It_ctr0 m c k.val) _ _ _ n b s h).trans ?_
  exact if_congr Iff.rfl ((bc3 _ b s h).trans (vscale_ref (readsAt m c k) b s h)) rfl

/-! ## The results -/

theorem v24_eq (n : Fin 30) (q : Fin 192) (j : Fin 576) : (out_main_v24 (It m c 30) : FVec Ideal S30x192x576 .f32) (ix3 n q j)
    = resO (args m c) n ⟨q.val / 96, by omega⟩ ⟨q.val % 96, Nat.mod_lt _ (by decide)⟩ j := by
  refine Eq.trans ?_ (st20 m c n ⟨q.val / 96, by omega⟩ ⟨q.val % 96, Nat.mod_lt _ (by decide)⟩ j)
  unfold out_main_v24
  clean_types
  pointwise
theorem v25_eq (n : Fin 30) (b : Fin 2) (h : Fin 9) (d : Fin 64) (s : Fin 96) : (out_main_v25 (It m c 30) : FVec Ideal S30x2x9x64x96 .f32) (ix5 n b h d s)
    = oO (args m c) n b s h d := by
  refine Eq.trans ?_ (st21 m c n b s h d)
  unfold out_main_v25
  clean_types
  pointwise
theorem v28_eq (n : Fin 30) (b : Fin 2) (h : Fin 3) (d : Fin 64) (s : Fin 96) : (out_main_v28 (It m c 30) : IVec S30x2x3x64x96 8) (ix5 n b h d s)
    = Ideal.fptosi 8 (kcO (args m c) n b s h d) := by
  refine Eq.trans ?_ (trunc_cds _ _)
  rw [show cds (kS (lay (args m c) n) (stream (args m c) n.val) b s h) d = kcO (args m c) n b s h d from rfl, ← st22]
  unfold out_main_v28
  clean_types
  pointwise
  rfl
theorem v29_eq (n : Fin 30) (h : Fin 3) (b : Fin 2) (s : Fin 96) : (out_main_v29 (It m c 30) : FVec Ideal S30x3x2x96 .f32) (ix4 n h b s)
    = kcsO (args m c) n b s h := by
  refine Eq.trans ?_ (st23 m c n b s h)
  unfold out_main_v29
  clean_types
  pointwise
theorem v32_eq (n : Fin 30) (b : Fin 2) (h : Fin 3) (d : Fin 64) (s : Fin 96) : (out_main_v32 (It m c 30) : IVec S30x2x3x64x96 8) (ix5 n b h d s)
    = Ideal.fptosi 8 (vcO (args m c) n b s h d) := by
  refine Eq.trans ?_ (trunc_cds _ _)
  rw [show cds (vS (lay (args m c) n) (stream (args m c) n.val) b s h) d = vcO (args m c) n b s h d from rfl, ← st24]
  unfold out_main_v32
  clean_types
  pointwise
  rfl
theorem v33_eq (n : Fin 30) (h : Fin 3) (b : Fin 2) (s : Fin 96) : (out_main_v33 (It m c 30) : FVec Ideal S30x3x2x96 .f32) (ix4 n h b s)
    = vcsO (args m c) n b s h := by
  refine Eq.trans ?_ (st25 m c n b s h)
  unfold out_main_v33
  clean_types
  pointwise

end Cert.LayersRefIdeal.Hand

end
-- ==== Proof.LayersIdealVecA.lean ====
/-
  The kernel's projections, rotations and quantizers, read at an index over the extended reals, on any vectors.
-/
module

public import proofs.«01_k».proof.Proof.LayersIdealModel
public import proofs.«01_k».proof.Proof.LayersSpec
public import Idealize.ShloMosaic.Lib.Pointwise
public import Idealize.ShloMosaic.Lib.IdealHost

@[expose] public section

set_option maxRecDepth 65536
set_option maxHeartbeats 4000000

noncomputable section

namespace Cert.LayersIdeal.Hand

open Cert.LayersIdeal Cert.LayersIdeal.Gen Cert.LayersMath
open Idealize.ShloMosaic Idealize.ShloMosaic.TcCoe Idealize.ShloMosaic.Tactic

theorem at2 {m n : ℕ} {α : Type*} (x : (⟨2, ![m, n]⟩ : Shape).Idx → α) {a a' : Fin m} {b b' : Fin n} (h : a.val = a'.val) (h' : b.val = b'.val) :
    x (ix2 a b) = x (ix2 a' b') := by
  rw [Fin.ext h, Fin.ext h']

theorem at3 {m n p : ℕ} {α : Type*} (x : (⟨3, ![m, n, p]⟩ : Shape).Idx → α) {a a' : Fin m} {b b' : Fin n} {c c' : Fin p} (h : a.val = a'.val) (h' : b.val = b'.val)
    (h'' : c.val = c'.val) : x (ix3 a b c) = x (ix3 a' b' c') := by
  rw [Fin.ext h, Fin.ext h', Fin.ext h'']

theorem lo_bit : ∀ d : Fin 128, IntOp.cmpi .slt (BitVec.ofNat 32 d.val) 64#32 = BitVec.ofBool (decide (d.val < 64)) := by decide
theorem rot_bit : ∀ d : Fin 128, IntOp.cmpi .eq (IntOp.andi (BitVec.ofNat 32 d.val) 32#32) 0#32 = BitVec.ofBool (decide (d.val % 64 < 32)) := by decide
theorem hi_bit : ∀ d : Fin 128, IntOp.xori (IntOp.cmpi .slt (BitVec.ofNat 32 d.val) 64#32) 1#1 = BitVec.ofBool (decide (64 ≤ d.val)) := by decide

theorem loLane_apply (l : Fin 96) (d : Fin 128) : loLane (ix2 l d) = BitVec.ofBool (decide (d.val < 64)) := by
  refine Eq.trans ?_ (lo_bit d)
  pointwise [loLane]
theorem hiLane_apply (l : Fin 96) (d : Fin 128) : hiLane (ix2 l d) = BitVec.ofBool (decide (64 ≤ d.val)) := by
  refine Eq.trans ?_ (hi_bit d)
  pointwise [hiLane, loLane]
theorem rotLane_apply (l : Fin 96) (d : Fin 128) : rotLane (ix2 l d) = BitVec.ofBool (decide (d.val % 64 < 32)) := by
  refine Eq.trans ?_ (rot_bit d)
  pointwise [rotLane]

theorem select_bool {α : Type} (p : Prop) [Decidable p] (x y : α) : Scalar.select (BitVec.ofBool (decide p)) x y = if p then x else y := by
  by_cases h : p
  · rw [if_pos h, decide_eq_true h]; rfl
  · rw [if_neg h, decide_eq_false h]; rfl

/-! ## The projections -/

theorem rms_apply (x : FVec Ideal S192x576 .f32) (g : FVec Ideal S1x576 .f32) (q : Fin 192) (l : Fin 576) :
    rms x g (ix2 q l) = nrm (fun k => x (ix2 q k)) (fun k => g (ix2 0 k)) l := by
  pointwise [rms]
  rfl

theorem qkv_apply (x : FVec Ideal S192x576 .bf16) (w : IVec S1x576x960 8) (s : FVec Ideal S1x960 .f32) (q : Fin 192) (n : Fin 960) :
    qkv x w s (ix2 q n) = lin (fun k => x (ix2 q k)) (fun k l => w (ix3 0 k l)) (fun l => s (ix2 0 l)) n := by
  pointwise [qkv]
  rfl

theorem afterO_apply (r : FVec Ideal S192x576 .f32) (o : FVec Ideal S192x576 .bf16) (w : IVec S1x576x576 8) (s : FVec Ideal S1x576 .f32) (q : Fin 192) (n : Fin 576) :
    afterO r o w s (ix2 q n) = r (ix2 q n) + lin (fun k => o (ix2 q k)) (fun k l => w (ix3 0 k l)) (fun l => s (ix2 0 l)) n := by
  pointwise [afterO]
  rfl

theorem gu_apply (x : FVec Ideal S192x576 .bf16) (w : IVec S1x576x256 8) (s : FVec Ideal S1x256 .f32) (q : Fin 192) (n : Fin 256) :
    gu x w s (ix2 q n) = lin (fun k => x (ix2 q k)) (fun k l => w (ix3 0 k l)) (fun l => s (ix2 0 l)) n := by
  pointwise [gu]
  rfl

theorem gated_apply (g u : FVec Ideal S192x256 .f32) (q : Fin 192) (n : Fin 256) :
    gated g u (ix2 q n) = g (ix2 q n) * Ideal.logistic (g (ix2 q n)) * u (ix2 q n) := by
  pointwise [gated]

theorem afterD_apply (r : FVec Ideal S192x576 .f32) (a : FVec Ideal S192x1536 .bf16) (w : IVec S1x576x1536 8) (s : FVec Ideal S1x576 .f32) (q : Fin 192) (n : Fin 576) :
    afterD r a w s (ix2 q n) = r (ix2 q n) + lin (fun k => a (ix2 q k)) (fun k l => w (ix3 0 l k)) (fun l => s (ix2 0 l)) n := by
  pointwise [afterD]
  rfl

/-! ## The rotations -/

theorem cosTile_apply (x : FVec Ideal S1x32x96 .f32) (l : Fin 96) (d : Fin 128) :
    cosTile x (ix3 0 l d) = x (ix3 0 ⟨d.val % 32, Nat.mod_lt _ (by decide)⟩ l) := by
  have hd := d.isLt
  pointwise [cosTile]
  split_ifs <;> exact at3 x rfl (by dsimp only; omega) rfl

theorem sinTile_apply (x : FVec Ideal S1x32x96 .f32) (l : Fin 96) (d : Fin 128) :
    sinTile x (ix3 0 l d) = if d.val % 64 < 32 then 0 - x (ix3 0 ⟨d.val % 32, Nat.mod_lt _ (by decide)⟩ l) else x (ix3 0 ⟨d.val % 32, Nat.mod_lt _ (by decide)⟩ l) := by
  have hd := d.isLt
  by_cases h : d.val % 64 < 32
  · rw [if_pos h]
    pointwise [sinTile]
    split_ifs <;> first
      | (exfalso; omega)
      | (refine congrArg (0 - ·) (at3 x rfl ?_ rfl)
         show _ = d.val % 32
         dsimp only
         omega)
  · rw [if_neg h]
    pointwise [sinTile]
    split_ifs <;> first
      | (exfalso; omega)
      | (refine at3 x rfl ?_ rfl
         show _ = d.val % 32
         dsimp only
         omega)

theorem turn_apply (x : FVec Ideal S96x128 .f32) (c s : FVec Ideal S1x96x128 .f32) (l : Fin 96) (d : Fin 128) :
    turn x c s (ix2 l d) = x (ix2 l d) * c (ix3 0 l d)
      + (if d.val % 64 < 32 then x (ix2 l ⟨(d.val + 128 - 96) % 128, Nat.mod_lt _ (by decide)⟩) else x (ix2 l ⟨(d.val + 128 - 32) % 128, Nat.mod_lt _ (by decide)⟩)) * s (ix3 0 l d) := by
  have e := rotLane_apply l d
  rw [← select_bool, ← e]
  pointwise [turn, rotLane]

theorem half_apply (m : IVec S96x128 1) (y : FVec Ideal S96x128 .f32) (l : Fin 96) (d : Fin 128) :
    half m y (ix4 0 0 l d) = Scalar.select (m (ix2 l d)) (y (ix2 l d)) 0 := by
  pointwise [half]

/-- One half of a turned pair is a turned head. -/
theorem turn_rot (x : FVec Ideal S96x128 .f32) (c s : FVec Ideal S1x96x128 .f32) (l : Fin 96) (o : ℕ) (ho : o = 0 ∨ o = 64)
    (f : Fin 64 → EReal) (cs sn : Fin 32 → EReal)
    (hx : ∀ e : Fin 64, x (ix2 l ⟨o + e.val, by omega⟩) = f e)
    (hc : ∀ d : Fin 128, c (ix3 0 l d) = cs ⟨d.val % 32, Nat.mod_lt _ (by decide)⟩)
    (hs : ∀ d : Fin 128, s (ix3 0 l d) = if d.val % 64 < 32 then 0 - sn ⟨d.val % 32, Nat.mod_lt _ (by decide)⟩ else sn ⟨d.val % 32, Nat.mod_lt _ (by decide)⟩)
    (e : Fin 64) : turn x c s (ix2 l ⟨o + e.val, by omega⟩) = rot f cs sn e := by
  rw [turn_apply, hc, hs, hx]
  have he := e.isLt
  unfold rot
  dsimp only
  by_cases h : e.val < 32
  · have h1 : (o + e.val) % 64 < 32 := by omega
    rw [if_pos h1, if_pos h1, dif_pos h]
    have e1 : (⟨(o + e.val) % 32, Nat.mod_lt _ (by decide)⟩ : Fin 32) = ⟨e.val, h⟩ := Fin.ext (by dsimp only; omega)
    have e2 : x (ix2 l ⟨(o + e.val + 128 - 96) % 128, Nat.mod_lt _ (by decide)⟩) = f ⟨32 + e.val, by omega⟩ := by
      rw [← hx]; exact at2 x rfl (by dsimp only; omega)
    rw [e1, e2, zero_sub, mul_neg, sub_eq_add_neg]
  · have h1 : ¬ (o + e.val) % 64 < 32 := by omega
    rw [if_neg h1, if_neg h1, dif_neg h]
    have e1 : (⟨(o + e.val) % 32, Nat.mod_lt _ (by decide)⟩ : Fin 32) = ⟨e.val - 32, by omega⟩ := Fin.ext (by dsimp only; omega)
    have e2 : x (ix2 l ⟨(o + e.val + 128 - 32) % 128, Nat.mod_lt _ (by decide)⟩) = f ⟨e.val - 32, by omega⟩ := by
      rw [← hx]; exact at2 x rfl (by dsimp only; omega)
    rw [e1, e2]

theorem kvT_apply (x : FVec Ideal S192x960 .f32) (b : Fin 2) (d : Fin 384) (l : Fin 96) :
    kvT x b (ix2 d l) = x (ix2 ⟨96 * b.val + l.val, by omega⟩ ⟨576 + d.val, by omega⟩) := by
  have hd := d.isLt
  pointwise [kvT]
  split_ifs <;> exact at2 x rfl (by dsimp only; omega)

theorem kvHead_apply (x : FVec Ideal S384x96 .f32) (k : Fin 6) (d : Fin 64) (l : Fin 96) :
    kvHead x k (ix2 d l) = x (ix2 ⟨64 * k.val + d.val, by omega⟩ l) := by
  pointwise [kvHead]

theorem turnK_apply (x : FVec Ideal S64x96 .f32) (c s : FVec Ideal S1x32x96 .f32) (d : Fin 64) (l : Fin 96) :
    turnK x c s (ix2 d l) = rot (fun d => x (ix2 d l)) (fun k => c (ix3 0 k l)) (fun k => s (ix3 0 k l)) d := by
  pointwise [turnK]
  unfold rot
  by_cases h : d.val < 32
  · rw [dif_pos h, dif_pos h]
  · rw [dif_neg h, dif_neg h]
    exact congrArg (fun y => x y * _ + _) (congrArg (ix2 · l) (Fin.ext (by dsimp only; omega)))

/-! ## The quantizers -/

theorem scaleOf_apply (x : FVec Ideal S64x96 .f32) (l : Fin 96) : scaleOf x (ix2 0 l) = scl fun d => x (ix2 d l) := by
  pointwise [scaleOf]
  rfl

theorem codesOf_apply (x : FVec Ideal S64x96 .f32) (d : Fin 64) (l : Fin 96) : codesOf x (ix2 d l) = cds (fun d => x (ix2 d l)) d := by
  pointwise [codesOf, scaleOf]
  rfl

theorem code8_apply (x : FVec Ideal S64x96 .f32) (d : Fin 64) (l : Fin 96) : code8 x (ix5 0 0 0 d l) = Ideal.fptosi 8 (cds (fun d => x (ix2 d l)) d) := by
  rw [← codesOf_apply]
  generalize hy : codesOf x = y
  unfold code8
  rw [hy]
  pointwise
  rfl

theorem code16_apply (x : FVec Ideal S64x96 .f32) (d : Fin 64) (l : Fin 96) : code16 x (ix4 0 0 d l) = cds (fun d => x (ix2 d l)) d := by
  rw [← codesOf_apply]
  generalize hy : codesOf x = y
  unfold code16
  rw [hy]
  pointwise

theorem scale4_apply (x : FVec Ideal S64x96 .f32) (l : Fin 96) : scale4 x (ix4 0 0 0 l) = scl fun d => x (ix2 d l) := by
  rw [← scaleOf_apply]
  generalize hy : scaleOf x = y
  unfold scale4
  rw [hy]
  pointwise

/-! ## The heads side by side -/

theorem pairO_apply (x y : FVec Ideal S1x1x96x128 .f32) (l : Fin 96) (d : Fin 128) :
    pairO x y (ix2 l d) = if d.val < 64 then x (ix4 0 0 l d) else y (ix4 0 0 l d) := by
  rw [← select_bool, ← loLane_apply l d]
  generalize hm : loLane = m
  unfold pairO
  rw [hm]
  pointwise

theorem packO_apply (o : FVec Ideal S96x128 .f32) (l : Fin 96) (d : Fin 128) : packO o (ix2 l d) = o (ix2 l d) := by
  pointwise [packO]

theorem loO_apply (o : FVec Ideal S96x128 .f32) (d : Fin 64) (l : Fin 96) : loO o (ix5 0 0 0 d l) = o (ix2 l ⟨d.val, by omega⟩) := by
  pointwise [loO]

theorem hiO_apply (o : FVec Ideal S96x128 .f32) (d : Fin 64) (l : Fin 96) : hiO o (ix5 0 0 0 d l) = o (ix2 l ⟨64 + d.val, by omega⟩) := by
  pointwise [hiO]

theorem causal_apply (x : Fin 288) (y : Fin 128) : causal (ix2 x y) = BitVec.ofBool (decide (y.val ≤ x.val % 96)) := by
  have hb : ∀ (s : Fin 96) (l : Fin 128), IntOp.cmpi .sle (BitVec.ofNat 32 l.val) (BitVec.ofNat 32 s.val) = BitVec.ofBool (decide (l.val ≤ s.val)) := by decide +kernel
  refine Eq.trans ?_ (hb ⟨x.val % 96, Nat.mod_lt _ (by decide)⟩ y)
  have hx := x.isLt
  pointwise [causal]
  split_ifs <;> exact congrArg (fun n => IntOp.cmpi .sle (BitVec.ofNat 32 y.val) (BitVec.ofNat 32 n)) (by omega)

end Cert.LayersIdeal.Hand

end
-- ==== Proof.LayersIdealVecB.lean ====
/-
  The kernel's attention steps, read at an index over the extended reals, on any vectors.
-/
module

public import proofs.«01_k».proof.Proof.LayersIdealModel
public import proofs.«01_k».proof.Proof.LayersSpec
public import Idealize.ShloMosaic.Lib.Pointwise
public import Idealize.ShloMosaic.Lib.IdealHost
public import Idealize.ShloMosaic.Lib.MatmulPlain

@[expose] public section

set_option maxRecDepth 65536
set_option maxHeartbeats 4000000

noncomputable section

namespace Cert.LayersIdeal.Hand

open Cert.LayersIdeal Cert.LayersIdeal.Gen Cert.LayersMath
open Idealize.ShloMosaic Idealize.ShloMosaic.TcCoe Idealize.ShloMosaic.Tactic

/-! ## Scores -/

theorem score_apply (q : FVec Ideal S288x128 .bf16) (c : IVec S64x256 8) (sc : FVec Ideal S1x256 .f32) (x : Fin 288) (y : Fin 256) :
    score q c sc (ix2 x y) = ((∑ e : Fin 64, q (ix2 x ⟨e.val, by omega⟩) * cd (c (ix2 e y))) + ∑ e : Fin 64, q (ix2 x ⟨64 + e.val, by omega⟩) * cd (c (ix2 e y)))
      * (sc (ix2 0 y) * Ideal.ofBits .f32 0x3E38AA3B#32) := by
  pointwise [score]
  rfl

theorem maskTile_apply (lane : IVec S1x256 32) (left : BitVec 32) (s : FVec Ideal S288x256 .f32) (x : Fin 288) (y : Fin 256) :
    maskTile lane left s (ix2 x y) = Scalar.select (IntOp.cmpi .slt (lane (ix2 0 y)) left) (s (ix2 x y)) NI := by
  pointwise [maskTile]
  rfl

theorem lane256_apply (y : Fin 256) : lane256 (ix2 0 y) = BitVec.ofNat 32 y.val := by
  pointwise [lane256]

theorem maxTile_apply (m : FVec Ideal S288x128 .f32) (s : FVec Ideal S288x256 .f32) (x : Fin 288) (y : Fin 128) :
    maxTile m s (ix2 x y) = max (m (ix2 x y)) (max (s (ix2 x ⟨y.val, by omega⟩)) (s (ix2 x ⟨128 + y.val, by omega⟩))) := by
  pointwise [maxTile]

theorem scoreNew_apply (m : IVec S288x128 1) (q : FVec Ideal S288x128 .bf16) (c : FVec Ideal S64x128 .bf16) (sc : FVec Ideal S1x128 .f32) (x : Fin 288) (y : Fin 128) :
    scoreNew m q c sc (ix2 x y) = Scalar.select (m (ix2 x y))
      (((∑ e : Fin 64, q (ix2 x ⟨e.val, by omega⟩) * c (ix2 e y)) + ∑ e : Fin 64, q (ix2 x ⟨64 + e.val, by omega⟩) * c (ix2 e y))
        * (sc (ix2 0 y) * Ideal.ofBits .f32 0x3E38AA3B#32)) NI := by
  pointwise [scoreNew]
  rfl

theorem rowMax_apply (m s : FVec Ideal S288x128 .f32) (x : Fin 288) :
    rowMax m s (ix2 x 0) = Ideal.liftRound Int.ceil (Finset.univ.fold max NI fun y => max (m (ix2 x y)) (s (ix2 x y))) := by
  pointwise [rowMax]
  rfl

theorem pNew_apply (m : FVec Ideal S288x1 .f32) (s : FVec Ideal S288x128 .f32) (x : Fin 288) (y : Fin 128) :
    pNew m s (ix2 x y) = Ideal.exp2 (s (ix2 x y) - m (ix2 x 0)) := by
  pointwise [pNew]
  rfl

theorem pTile_apply (m : FVec Ideal S288x1 .f32) (s : FVec Ideal S288x256 .f32) (x : Fin 288) (y : Fin 256) :
    pTile m s (ix2 x y) = Ideal.exp2 (s (ix2 x y) - m (ix2 x 0)) := by
  pointwise [pTile]
  rfl

theorem denTile_apply (d : FVec Ideal S288x128 .f32) (p : FVec Ideal S288x256 .f32) (x : Fin 288) (y : Fin 128) :
    denTile d p (ix2 x y) = d (ix2 x y) + (p (ix2 x ⟨y.val, by omega⟩) + p (ix2 x ⟨128 + y.val, by omega⟩)) := by
  pointwise [denTile]

/-! ## The weighted sum -/

theorem at2' {m n : ℕ} {α : Type*} (x : (⟨2, ![m, n]⟩ : Shape).Idx → α) {a a' : Fin m} {b b' : Fin n} (h : a.val = a'.val) (h' : b.val = b'.val) :
    x (ix2 a b) = x (ix2 a' b') := by
  rw [Fin.ext h, Fin.ext h']

/-- Pieces of 256 columns after columns already read past. -/
theorem concatenateAt_cols {α : Type} (M : ℕ) : ∀ (n W : ℕ) (f : Fin n → (⟨2, ![M, 256]⟩ : Shape).Idx → α) (r : Fin M) (w : Fin W) (hs) (c : ℕ) (hc) (hcn : c < n * 256),
    concatenateAt ⟨2, ![M, W]⟩ 1 (ix2 r w) (List.ofFn fun j => (⟨⟨2, ![M, 256]⟩, f j⟩ : (s : Shape) × (s.Idx → α))) hs c hc
      = f ⟨c / 256, by omega⟩ (ix2 r ⟨c % 256, Nat.mod_lt _ (by decide)⟩) := by
  intro n
  induction n with
  | zero => intro W f r w hs c hc hcn; omega
  | succ n ih =>
    intro W f r w hs c hc hcn
    have key : ∀ (xs : List ((s : Shape) × (s.Idx → α))) (hx : xs = List.ofFn fun j => (⟨⟨2, ![M, 256]⟩, f j⟩ : (s : Shape) × (s.Idx → α))) (hs) (hc),
        concatenateAt ⟨2, ![M, W]⟩ 1 (ix2 r w) xs hs c hc = f ⟨c / 256, by omega⟩ (ix2 r ⟨c % 256, Nat.mod_lt _ (by decide)⟩) := by
      intro xs hx hs hc
      rw [List.ofFn_succ] at hx
      cases n with
      | zero =>
        rw [List.ofFn_zero] at hx
        subst hx
        rw [concatenateAt_singleton]
        have e0 : (⟨c / 256, by omega⟩ : Fin 1) = 0 := Fin.ext (by dsimp only; omega)
        show f 0 _ = f ⟨c / 256, _⟩ _
        rw [e0, Shape.Idx.norm_def]
        refine congrArg (f 0) (funext fun a => Fin.ext ?_)
        fin_cases a
        · rfl
        · show c = c % 256; omega
      | succ n =>
        have hx' := hx
        rw [List.ofFn_succ] at hx'
        subst hx'
        rw [concatenateAt_cons]
        by_cases h : c < 256
        · rw [dif_pos (by exact h)]
          have e0 : (⟨c / 256, by omega⟩ : Fin (n + 1 + 1)) = 0 := Fin.ext (by show c / 256 = 0; omega)
          rw [e0, Shape.Idx.norm_def]
          refine congrArg (f 0) (funext fun a => Fin.ext ?_)
          fin_cases a
          · rfl
          · show c = c % 256; omega
        · rw [dif_neg (by exact h)]
          have := ih W (fun j => f j.succ) r w
          rw [List.ofFn_succ] at this
          refine (this _ (c - 256) _ (by omega)).trans ?_
          have e1 : (⟨(c - 256) / 256, by omega⟩ : Fin (n + 1)).succ = ⟨c / 256, by omega⟩ := Fin.ext (by show (c - 256) / 256 + 1 = c / 256; omega)
          rw [e1]
          exact at2' _ rfl (by show (c - 256) % 256 = c % 256; omega)
    exact key _ rfl hs hc

theorem wd_lt {n : ℕ} (hn : 1 ≤ n) (w : Fin (Wd n)) : (w.val - 128) / 256 < n := by
  have : w.val < 128 + 256 * n := w.isLt
  omega

theorem concat_row {α : Type} (M n : ℕ) (hn : 1 ≤ n) (x : (⟨2, ![M, 128]⟩ : Shape).Idx → α) (f : Fin n → (⟨2, ![M, 256]⟩ : Shape).Idx → α) (r : Fin M) (w : Fin (Wd n)) :
    concatenate ⟨2, ![M, Wd n]⟩ 1 (⟨⟨2, ![M, 128]⟩, x⟩ :: List.ofFn fun j => ⟨⟨2, ![M, 256]⟩, f j⟩) (concatenates_row M n hn x f) (ix2 r w)
      = if h : w.val < 128 then x (ix2 r ⟨w.val, h⟩)
        else f ⟨(w.val - 128) / 256, wd_lt hn w⟩ (ix2 r ⟨(w.val - 128) % 256, Nat.mod_lt _ (by decide)⟩) := by
  have hw : w.val < 128 + 256 * n := w.isLt
  obtain ⟨n, rfl⟩ : ∃ m, n = m + 1 := ⟨n - 1, by omega⟩
  have key : ∀ (xs : List ((s : Shape) × (s.Idx → α))) (hx : xs = List.ofFn fun j => (⟨⟨2, ![M, 256]⟩, f j⟩ : (s : Shape) × (s.Idx → α))) (h),
      concatenate ⟨2, ![M, Wd (n + 1)]⟩ 1 (⟨⟨2, ![M, 128]⟩, x⟩ :: xs) h (ix2 r w)
      = if h : w.val < 128 then x (ix2 r ⟨w.val, h⟩)
        else f ⟨(w.val - 128) / 256, wd_lt (Nat.le_add_left 1 _) w⟩ (ix2 r ⟨(w.val - 128) % 256, Nat.mod_lt _ (by decide)⟩) := by
    intro xs hx h
    have hx' := hx
    rw [List.ofFn_succ] at hx'
    subst hx'
    rw [concatenate_cons_apply, concatenateAt_cons]
    by_cases h : w.val < 128
    · rw [dif_pos h, dif_pos (by exact h), Shape.Idx.norm_def]
      refine congrArg x (funext fun a => Fin.ext ?_)
      fin_cases a <;> rfl
    · rw [dif_neg h, dif_neg (by exact h)]
      have := concatenateAt_cols M (n + 1) (Wd (n + 1)) f r w
      rw [List.ofFn_succ] at this
      exact this _ (w.val - 128) _ (by omega)
  exact key _ rfl _

/-- A sum over the columns is one over the first 128 and one per piece. -/
theorem sum_cols (n : ℕ) (g : Fin (Wd n) → EReal) :
    ∑ w, g w = (∑ y : Fin 128, g ⟨y.val, by have := y.isLt; show y.val < 128 + 256 * n; omega⟩) + ∑ j : Fin n, ∑ y : Fin 256, g ⟨128 + (256 * j.val + y.val), by have := j.isLt; have := y.isLt; show 128 + (256 * j.val + y.val) < 128 + 256 * n; omega⟩ := by
  rw [Fin.sum_univ_add (a := 128) (b := 256 * n) g]
  congr 1
  rw [← Equiv.sum_comp ((finProdFinEquiv (m := n) (n := 256)).trans (finCongr (Nat.mul_comm n 256))), Fintype.sum_prod_type]
  refine Finset.sum_congr rfl fun j _ => Finset.sum_congr rfl fun y _ => congrArg g (Fin.ext ?_)
  show 128 + (y.val + 256 * j.val) = 128 + (256 * j.val + y.val)
  omega

theorem outV_apply (n : ℕ) (hn : 1 ≤ n) (p0 : FVec Ideal S288x128 .bf16) (v0 : FVec Ideal S64x128 .bf16) (a : Acc Ideal n) (x : Fin 288) (d : Fin 128) (e : Fin 64)
    (hd : d.val % 64 = e.val) :
    outV n hn p0 v0 a (ix2 x d)
      = Ideal.div ((∑ y, p0 (ix2 x y) * v0 (ix2 e y)) + ∑ j, ∑ y, a.ps j (ix2 x y) * a.vs j (ix2 e y)) (∑ y, a.den (ix2 x y)) := by
  have hden : ∀ (w : FVec Ideal S288x128 .f32), (broadcastTo S288x128 (shapeCast S288x1 (multiReduction (F := Ideal) .add [1] S288 w 0x00000000#32 reduces_S288x128_S288 (.inl rfl) rfl) shapeCasts_S288_S288x1)
      broadcasts_S288x1_S288x128) (ix2 x d) = ∑ y, w (ix2 x y) := by
    intro w
    pointwise
  have hlt := d.isLt
  unfold outV
  show Ideal.div (FloatOps.matmul (F := Ideal) (DotDims.transposedRhs 288 (Wd n) 128) none _ _ _ (ix2 x d)) (broadcastTo _ _ _ (ix2 x d)) = _
  rw [hden, ix2_eq_valueIdx, Ideal.matmul_transposedRhs_apply, ← ix2_eq_valueIdx]
  simp only [← ix2_eq_valueIdx]
  rw [sum_cols]
  refine congrArg (Ideal.div · _) ?_
  have hz : (constant (F := Ideal) S288x128 .f32 0x00000000#32) (ix2 x d) = 0 := by pointwise
  rw [hz, zero_add]
  have hv : ∀ w : Fin (Wd n), concatenate ⟨2, ![128, Wd n]⟩ 0
        [⟨⟨2, ![64, Wd n]⟩, concatenate ⟨2, ![64, Wd n]⟩ 1 (⟨S64x128, v0⟩ :: List.ofFn fun j => ⟨S64x256, a.vs j⟩) (concatenates_row 64 n hn v0 a.vs)⟩,
          ⟨⟨2, ![64, Wd n]⟩, concatenate ⟨2, ![64, Wd n]⟩ 1 (⟨S64x128, v0⟩ :: List.ofFn fun j => ⟨S64x256, a.vs j⟩) (concatenates_row 64 n hn v0 a.vs)⟩]
        (concatenates_col 64 (Wd n)) (ix2 d w)
      = concatenate ⟨2, ![64, Wd n]⟩ 1 (⟨S64x128, v0⟩ :: List.ofFn fun j => ⟨S64x256, a.vs j⟩) (concatenates_row 64 n hn v0 a.vs) (ix2 e w) := by
    intro w
    generalize concatenate ⟨2, ![64, Wd n]⟩ 1 (⟨S64x128, v0⟩ :: List.ofFn fun j => ⟨S64x256, a.vs j⟩) (concatenates_row 64 n hn v0 a.vs) = X
    rw [concatenate_pair_apply]
    by_cases h : d.val < 64
    · rw [dif_pos (by exact h), Shape.Idx.norm_def]
      refine congrArg X (funext fun a => Fin.ext ?_)
      fin_cases a
      · show d.val = e.val; omega
      · rfl
    · rw [dif_neg (by exact h), Shape.Idx.norm_def]
      refine congrArg X (funext fun a => Fin.ext ?_)
      fin_cases a
      · show d.val - 64 = e.val; omega
      · rfl
  simp only [hv]
  congr 1
  · refine Finset.sum_congr rfl fun y _ => ?_
    rw [concat_row 288 n hn p0 a.ps, concat_row 64 n hn v0 a.vs, dif_pos y.isLt, dif_pos y.isLt]
  · refine Finset.sum_congr rfl fun j _ => Finset.sum_congr rfl fun y _ => ?_
    have hj := j.isLt
    have hy := y.isLt
    have h1 : ¬ 128 + (256 * j.val + y.val) < 128 := by omega
    have e1 : (⟨(128 + (256 * j.val + y.val) - 128) / 256, by omega⟩ : Fin n) = j := Fin.ext (by show (128 + (256 * j.val + y.val) - 128) / 256 = j.val; omega)
    have e2 : (⟨(128 + (256 * j.val + y.val) - 128) % 256, Nat.mod_lt _ (by decide)⟩ : Fin 256) = y := Fin.ext (by show (128 + (256 * j.val + y.val) - 128) % 256 = y.val; omega)
    rw [concat_row 288 n hn p0 a.ps, concat_row 64 n hn v0 a.vs, dif_neg h1, dif_neg h1]
    dsimp only
    rw [e1, e2]

end Cert.LayersIdeal.Hand

end
-- ==== Proof.LayersIdealRead.lean ====
/-
  A layer's queries, new keys and new values are the plain ones, given that the layer's buffers hold the plain inputs.
-/
module

public import proofs.«01_k».proof.Proof.LayersIdealVecA
public import proofs.«01_k».proof.Proof.LayersIdealVecB
public import Idealize.ShloMosaic.Lib.Pointwise.IndexBridge

@[expose] public section

set_option maxRecDepth 65536
set_option maxHeartbeats 4000000

noncomputable section

namespace Cert.LayersIdeal.Hand

open Cert.LayersIdeal Cert.LayersIdeal.Gen Cert.LayersMath
open Idealize.ShloMosaic Idealize.ShloMosaic.TcCoe Idealize.ShloMosaic.Tactic

/-! ## Casts -/

section Casts
variable {α : Type}

theorem castT (x : S1x1x1x64x256.Idx → α) (d : Fin 64) (y : Fin 256) : shapeCast S64x256 x shapeCasts_S1x1x1x64x256_S64x256 (ix2 d y) = x (ix5 0 0 0 d y) := by pointwise
theorem castS (x : S1x1x1x256.Idx → α) (y : Fin 256) : shapeCast S1x256 x shapeCasts_S1x1x1x256_S1x256 (ix2 0 y) = x (ix4 0 0 0 y) := by pointwise
theorem castQ (x : S1x1x288x128.Idx → α) (q : Fin 288) (l : Fin 128) : shapeCast S288x128 x shapeCasts_S1x1x288x128_S288x128 (ix2 q l) = x (ix4 0 0 q l) := by pointwise
theorem castN (x : S1x1x64x128.Idx → α) (q : Fin 64) (l : Fin 128) : shapeCast S64x128 x shapeCasts_S1x1x64x128_S64x128 (ix2 q l) = x (ix4 0 0 q l) := by pointwise
theorem castNs (x : S1x1x1x128.Idx → α) (l : Fin 128) : shapeCast S1x128 x shapeCasts_S1x1x1x128_S1x128 (ix2 0 l) = x (ix4 0 0 0 l) := by pointwise
theorem castC (x : S1x288x256.Idx → α) (q : Fin 288) (l : Fin 256) : shapeCast S288x256 x shapeCasts_S1x288x256_S288x256 (ix2 q l) = x (ix3 0 q l) := by pointwise
theorem castC' (x : S288x256.Idx → α) (q : Fin 288) (l : Fin 256) : shapeCast S1x288x256 x shapeCasts_S288x256_S1x288x256 (ix3 0 q l) = x (ix2 q l) := by pointwise
theorem castA (x : S96x128.Idx → α) (q : Fin 96) (l : Fin 128) : shapeCast S1x1x96x128 x shapeCasts_S96x128_S1x1x96x128 (ix4 0 0 q l) = x (ix2 q l) := by pointwise
theorem castA' (x : S1x1x96x128.Idx → α) (q : Fin 96) (l : Fin 128) : shapeCast S96x128 x shapeCasts_S1x1x96x128_S96x128 (ix2 q l) = x (ix4 0 0 q l) := by pointwise
theorem castR (x : S192x576.Idx → α) (q : Fin 192) (l : Fin 576) : shapeCast S192x576 x shapeCasts_S192x576_S192x576 (ix2 q l) = x (ix2 q l) := by pointwise
theorem castR' (x : S192x576.Idx → α) (q : Fin 192) (l : Fin 576) : shapeCast S1x192x576 x shapeCasts_S192x576_S1x192x576 (ix3 0 q l) = x (ix2 q l) := by pointwise

theorem slice2 {M N m n : ℕ} (o p : ℕ) (x : (⟨2, ![M, N]⟩ : Shape).Idx → α) (hs) (s : Fin m) (l : Fin n) (h0 : o + s.val < M) (h1 : p + l.val < N) :
    extractStridedSlice ⟨2, ![m, n]⟩ ![o, p] x hs (ix2 s l) = x (ix2 ⟨o + s.val, h0⟩ ⟨p + l.val, h1⟩) := by
  refine congrArg x (funext fun a => Fin.ext ?_)
  fin_cases a <;> rfl
end Casts

/-! ## Where the rectangles lie -/

/-- A trip's sequence. -/
def tf (t : Trip) : Fin 2 := ⟨t.val, lt_of_lt_of_eq t.isLt trips_eq⟩
theorem tf_tripOf (b : Fin 2) : tf (tripOf b) = b := rfl

theorem idxQ (t : Trip) (k : Fin 3) (x : Fin 288) (l : Fin 128) : (rQ t k).toLoadRect.idx (ix4 0 0 x l) = ix4 (tf t) k x l := by
  funext a
  refine Fin.ext ((emb_val _ _ _ _ a).trans ?_)
  fin_cases a
  · show bIx t + 0 = t.val; rw [bIx_eq]; rfl
  · rfl
  · exact Nat.zero_add _
  · exact Nat.zero_add _
theorem idxN (t : Trip) (k : Fin 3) (x : Fin 64) (l : Fin 128) : (rN t k).toLoadRect.idx (ix4 0 0 x l) = ix4 (tf t) k x l := by
  funext a
  refine Fin.ext ((emb_val _ _ _ _ a).trans ?_)
  fin_cases a
  · show bIx t + 0 = t.val; rw [bIx_eq]; rfl
  · rfl
  · exact Nat.zero_add _
  · exact Nat.zero_add _
theorem idxNs (t : Trip) (k : Fin 3) (l : Fin 128) : (rNs t k).toLoadRect.idx (ix4 0 0 0 l) = ix4 (tf t) k 0 l := by
  funext a
  refine Fin.ext ((emb_val _ _ _ _ a).trans ?_)
  fin_cases a
  · show bIx t + 0 = t.val; rw [bIx_eq]; rfl
  · rfl
  · rfl
  · exact Nat.zero_add _
theorem idxC (k : Fin 3) (j : Fin 8) (x : Fin 288) (y : Fin 256) : (rC k j).toLoadRect.idx (ix3 0 x y) = ix3 k x ⟨256 * j.val + y.val, by omega⟩ := by
  funext a
  refine Fin.ext ((emb_val _ _ _ _ a).trans ?_)
  fin_cases a
  · rfl
  · exact Nat.zero_add _
  · rfl
theorem idxAct (b : Fin 2) (h : Fin 9) (s : Fin 96) (l : Fin 128) : (rAct b h).toLoadRect.idx (ix4 0 0 s l) = ix4 b h s l := by
  funext a
  refine Fin.ext ((emb_val _ _ _ _ a).trans ?_)
  fin_cases a
  · rfl
  · rfl
  · exact Nat.zero_add _
  · exact Nat.zero_add _
theorem idxO (q : Fin 192) (e : Fin 576) : rOdot.toLoadRect.idx (ix2 q e) = ix2 q ⟨e.val, by omega⟩ := by
  funext a
  refine Fin.ext ((emb_val _ _ _ _ a).trans ?_)
  fin_cases a
  · exact Nat.zero_add _
  · exact Nat.zero_add _

/-! ## A layer's inputs -/

/-- The buffers hold a layer's inputs. -/
structure KR (i : grid0.Coords) (X : S2.Idx → BitVec 32) (a : St Ideal) (L : Lay) (r : Fin 2 → Fin 96 → Fin 576 → EReal) : Prop where
  len : ∀ t, lenAt X t = L.len (tf t)
  pos : ∀ b, 0 ≤ (L.len b).toInt
  res : ∀ (b : Fin 2) (s : Fin 96) k, (rd a .r wS192x576 : FVec Ideal S192x576 .f32) (ix2 ⟨96 * b.val + s.val, by omega⟩ k) = r b s k
  an : ∀ k, (rd a .an (row576 i) : FVec Ideal S1x576 .f32) (ix2 0 k) = L.an k
  mn : ∀ k, (rd a .mn (row576 i) : FVec Ideal S1x576 .f32) (ix2 0 k) = L.mn k
  wqkv : ∀ k n, (rd a .wqkv wS1x576x960 : IVec S1x576x960 8) (ix3 0 k n) = L.wqkv k n
  sqkv : ∀ n, (rd a .sqkv (row960 i) : FVec Ideal S1x960 .f32) (ix2 0 n) = L.sqkv n
  wo : ∀ k n, (rd a .wo wS1x576x576 : IVec S1x576x576 8) (ix3 0 k n) = L.wo k n
  so : ∀ n, (rd a .so (row576 i) : FVec Ideal S1x576 .f32) (ix2 0 n) = L.so n
  wgu : ∀ (j : Fin 12) k (n : Fin 256), (rd a .wgu (rGU j) : IVec S1x576x256 8) (ix3 0 k n) = L.wgu k ⟨256 * j.val + n.val, by omega⟩
  sgu : ∀ (j : Fin 12) (n : Fin 256), (rd a .sgu (rowGU i j) : FVec Ideal S1x256 .f32) (ix2 0 n) = L.sgu ⟨256 * j.val + n.val, by omega⟩
  wd : ∀ k n, (rd a .wd wS1x576x1536 : IVec S1x576x1536 8) (ix3 0 n k) = L.wd k n
  sd : ∀ n, (rd a .sd (row576 i) : FVec Ideal S1x576 .f32) (ix2 0 n) = L.sd n
  cos : ∀ b d s, (rd a .cos (rCS b) : FVec Ideal S1x32x96 .f32) (ix3 0 d s) = L.cos b s d
  sin : ∀ b d s, (rd a .sin (rCS b) : FVec Ideal S1x32x96 .f32) (ix3 0 d s) = L.sin b s d
  cosS : ∀ b s (l : Fin 128), (rd a .cosS (rCos b) : FVec Ideal S1x96x128 .f32) (ix3 0 s l) = L.cos b s ⟨l.val % 32, Nat.mod_lt _ (by decide)⟩
  sinS : ∀ b s (l : Fin 128), (rd a .sinS (rCos b) : FVec Ideal S1x96x128 .f32) (ix3 0 s l)
    = if l.val % 64 < 32 then 0 - L.sin b s ⟨l.val % 32, Nat.mod_lt _ (by decide)⟩ else L.sin b s ⟨l.val % 32, Nat.mod_lt _ (by decide)⟩
  kt : ∀ t k (j : Fin 8) d (y : Fin 256), (rd a .kt (rT t k j) : IVec S1x1x1x64x256 8) (ix5 0 0 0 d y) = L.ck (tf t) k ⟨256 * j.val + y.val, by omega⟩ d
  vt : ∀ t k (j : Fin 8) d (y : Fin 256), (rd a .vt (rT t k j) : IVec S1x1x1x64x256 8) (ix5 0 0 0 d y) = L.cv (tf t) k ⟨256 * j.val + y.val, by omega⟩ d
  ks : ∀ t k (j : Fin 8) (y : Fin 256), (rd a .ks (rS t k j) : FVec Ideal S1x1x1x256 .f32) (ix4 0 0 0 y) = L.cks (tf t) k ⟨256 * j.val + y.val, by omega⟩
  vs : ∀ t k (j : Fin 8) (y : Fin 256), (rd a .vs (rS t k j) : FVec Ideal S1x1x1x256 .f32) (ix4 0 0 0 y) = L.cvs (tf t) k ⟨256 * j.val + y.val, by omega⟩

theorem lin_congr {K N : ℕ} {h h' : Fin K → EReal} {w w' : Fin K → Fin N → BitVec 8} {s s' : Fin N → EReal} (e1 : h = h') (e2 : w = w') (e3 : s = s') (n : Fin N) :
    lin h w s n = lin h' w' s' n := by rw [e1, e2, e3]

section Layer
variable {i : grid0.Coords} {X : S2.Idx → BitVec 32} {a : St Ideal} {L : Lay} {r : Fin 2 → Fin 96 → Fin 576 → EReal} (H : KR i X a L r)
include H

theorem xq_apply (b : Fin 2) (s : Fin 96) (n : Fin 960) : xq i a (ix2 ⟨96 * b.val + s.val, by omega⟩ n) = qkvS L r b s n := by
  unfold xq qkvS
  refine (qkv_apply _ _ _ _ n).trans (lin_congr (funext fun k => ?_) (funext fun k => funext fun n => H.wqkv k n) (funext fun n => H.sqkv n) n)
  refine (rms_apply _ _ _ k).trans ?_
  exact congrArg₂ (fun f g => nrm f g k) (funext (H.res b s)) (funext H.an)

/-- A query's lanes: its half of its pair's row. -/
def qv (L : Lay) (r : Fin 2 → Fin 96 → Fin 576 → EReal) (b : Fin 2) (h : Fin 9) (s : Fin 96) (l : Fin 128) : EReal :=
  if h.val % 2 = l.val / 64 then qS L r b s h ⟨l.val % 64, Nat.mod_lt _ (by decide)⟩ else 0

theorem turn_q (b : Fin 2) (h : Fin 9) (s : Fin 96) (hs) (e : Fin 64) :
    turn (F := Ideal) (extractStridedSlice S96x128 ![96 * b.val, 128 * (h.val / 2)] (xq i a) hs) (rd a .cosS (rCos b)) (rd a .sinS (rCos b)) (ix2 s ⟨64 * (h.val % 2) + e.val, by omega⟩)
      = qS L r b s h e := by
  refine turn_rot _ _ _ s (64 * (h.val % 2)) (by omega) (fun d => qkvS L r b s ⟨h.val * 64 + d.val, by omega⟩) (L.cos b s) (L.sin b s) (fun e => ?_) (H.cosS b s) (H.sinS b s) e
  refine (slice2 (96 * b.val) (128 * (h.val / 2)) _ _ s _ (by omega) (by show 128 * (h.val / 2) + (64 * (h.val % 2) + e.val) < 960; omega)).trans ?_
  refine Eq.trans (at2 _ rfl ?_) (xq_apply H b s ⟨h.val * 64 + e.val, by omega⟩)
  show 128 * (h.val / 2) + (64 * (h.val % 2) + e.val) = h.val * 64 + e.val
  omega

theorem qHead_apply (b : Fin 2) (h : Fin 9) (s : Fin 96) (l : Fin 128) : qHead i a b h (ix4 0 0 s l) = qv L r b h s l := by
  have key : ∀ p : ℕ, p = h.val % 2 → l.val / 64 = p → turn (F := Ideal) (extractStridedSlice S96x128 ![96 * b.val, 128 * (h.val / 2)] (xq i a) (slicesQ b ⟨h.val / 2, div2_lt h⟩))
      (rd a .cosS (rCos b)) (rd a .sinS (rCos b)) (ix2 s l) = qS L r b s h ⟨l.val % 64, Nat.mod_lt _ (by decide)⟩ := fun p hp hl =>
    Eq.trans (at2 _ rfl (by show l.val = 64 * (h.val % 2) + l.val % 64; omega)) (turn_q H b h s (slicesQ b ⟨h.val / 2, div2_lt h⟩) ⟨l.val % 64, Nat.mod_lt _ (by decide)⟩)
  unfold qHead qv
  rw [half_apply]
  by_cases hh : h.val % 2 = 0
  · rw [if_pos hh, loLane_apply, select_bool]
    by_cases hl : l.val < 64
    · rw [if_pos hl, if_pos (by omega)]; exact key 0 hh.symm (by omega)
    · rw [if_neg hl, if_neg (by omega)]
  · rw [if_neg hh, hiLane_apply, select_bool]
    by_cases hl : 64 ≤ l.val
    · rw [if_pos hl, if_pos (by omega)]; exact key 1 (by omega) (by omega)
    · rw [if_neg hl, if_neg (by omega)]

theorem qM_apply (b : Fin 2) (k : Fin 3) (x : Fin 288) (l : Fin 128) :
    qM i a (ix4 b k x l) = qv L r b ⟨3 * k.val + x.val / 96, by omega⟩ ⟨x.val % 96, Nat.mod_lt _ (by decide)⟩ l := by
  show qHead i a b ⟨3 * k.val + x.val / 96, by omega⟩ (ValueIdx.ix4 0 0 ⟨x.val % 96, Nat.mod_lt _ (by decide)⟩ l) = _
  rw [← ix4_eq_valueIdx]
  exact qHead_apply H b ⟨3 * k.val + x.val / 96, by omega⟩ ⟨x.val % 96, Nat.mod_lt _ (by decide)⟩ l

theorem kvx (b : Fin 2) (n : Fin 6) (d : Fin 64) (s : Fin 96) : kvHead (kvT (xq i a) b) n (ix2 d s) = qkvS L r b s ⟨576 + (64 * n.val + d.val), by omega⟩ := by
  rw [kvHead_apply, kvT_apply]
  exact xq_apply H b s ⟨576 + (64 * n.val + d.val), by omega⟩

theorem kV_apply (b : Fin 2) (k : Fin 3) (d : Fin 64) (s : Fin 96) : kV i a b k (ix2 d s) = kS L r b s k d := by
  unfold kV kS
  rw [turnK_apply]
  have e1 : (fun d => kvHead (kvT (xq i a) b) ⟨k.val, by omega⟩ (ix2 d s)) = fun d : Fin 64 => qkvS L r b s ⟨576 + (k.val * 64 + d.val), by omega⟩ := funext fun d =>
    (kvx H b ⟨k.val, by omega⟩ d s).trans (congrArg (qkvS L r b s) (Fin.ext (by show 576 + (64 * k.val + d.val) = 576 + (k.val * 64 + d.val); omega)))
  exact congrFun (congrArg₂ (fun f g => f g) (congrArg₂ rot e1 (funext fun d => H.cos b d s)) (funext fun d => H.sin b d s)) d

theorem vV_apply (b : Fin 2) (k : Fin 3) (d : Fin 64) (s : Fin 96) : vV i a b k (ix2 d s) = vS L r b s k d := by
  unfold vV vS
  exact (kvx H b ⟨k.val + 3, by omega⟩ d s).trans (congrArg (qkvS L r b s) (Fin.ext (by show 576 + (64 * (k.val + 3) + d.val) = 768 + (k.val * 64 + d.val); omega)))

end Layer

/-! ## The codes and scales off given keys or values -/

section New
variable (f : Fin 2 → Fin 3 → FVec Ideal S64x96 .f32)

theorem codeM_apply (b : Fin 2) (k : Fin 3) (d : Fin 64) (s : Fin 96) :
    codeM f (ix5 0 b k d s) = Ideal.fptosi 8 (cds (fun d => f b k (ix2 d s)) d) := by
  show code8 (f b k) (ValueIdx.ix5 0 0 0 d s) = _
  rw [← ix5_eq_valueIdx]
  exact code8_apply (f b k) d s
theorem scaleM_apply (k : Fin 3) (b : Fin 2) (s : Fin 96) : scaleM f (ix4 0 k b s) = scl fun d => f b k (ix2 d s) := by
  show scale4 (f b k) (ValueIdx.ix4 0 0 0 s) = _
  rw [← ix4_eq_valueIdx]
  exact scale4_apply (f b k) s
theorem newM_apply (z) (b : Fin 2) (k : Fin 3) (d : Fin 64) (s : Fin 96) : newM f z (ix4 b k d ⟨s.val, by omega⟩) = cds (fun d => f b k (ix2 d s)) d := by
  unfold newM
  rw [dif_pos (show ((ix4 b k d (⟨s.val, by omega⟩ : Fin 128) : S2x3x64x128.Idx) 3).val < 96 from s.isLt)]
  show code16 (f b k) (ValueIdx.ix4 0 0 d s) = _
  rw [← ix4_eq_valueIdx]
  exact code16_apply (f b k) d s
theorem newSM_apply (z) (b : Fin 2) (k : Fin 3) (s : Fin 96) : newSM f z (ix4 b k 0 ⟨s.val, by omega⟩) = scl fun d => f b k (ix2 d s) := by
  unfold newSM
  rw [dif_pos (show ((ix4 b k 0 (⟨s.val, by omega⟩ : Fin 128) : S2x3x1x128.Idx) 3).val < 96 from s.isLt)]
  show scale4 (f b k) (ValueIdx.ix4 0 0 0 s) = _
  rw [← ix4_eq_valueIdx]
  exact scale4_apply (f b k) s
end New

end Cert.LayersIdeal.Hand

end
-- ==== Proof.LayersIdealAttn.lean ====
/-
  A layer's attention is the plain one: the tiles the kernel walks hold every key below the sequence's length, and the
  lanes beyond weigh nothing.
-/
module

public import proofs.«01_k».proof.Proof.LayersIdealRead

@[expose] public section

set_option maxRecDepth 65536
set_option maxHeartbeats 400000

noncomputable section

namespace Cert.LayersIdeal.Hand

open Cert.LayersIdeal Cert.LayersIdeal.Gen Cert.LayersMath
open Idealize.ShloMosaic Idealize.ShloMosaic.TcCoe Idealize.ShloMosaic.Tactic

/-! ## The number of tiles -/

theorem pick_nat : ∀ n : Fin 8, (pick (BitVec.ofNat 32 n.val) id : Fin 8) = n := by decide

theorem min_max_word (q : ℕ) (hq : q < 2 ^ 24) :
    Scalar.minsi (Scalar.maxsi (Scalar.subi (Scalar.minsi 8#32 (Scalar.maxsi 1#32 (BitVec.ofNat 32 q))) 1#32) 0#32) 7#32 = BitVec.ofNat 32 (min 7 (q - 1)) := by
  by_cases h : q ≤ 8
  · interval_cases q <;> rfl
  · have e : (BitVec.ofNat 32 q).toInt = (q : ℤ) := by
      rw [BitVec.toInt_ofNat', Int.bmod_eq_of_le] <;> omega
    have e1 : Scalar.maxsi 1#32 (BitVec.ofNat 32 q) = BitVec.ofNat 32 q := by
      show (if (BitVec.ofNat 32 q).slt 1#32 then 1#32 else BitVec.ofNat 32 q) = _
      rw [if_neg]
      rw [BitVec.slt, e, decide_eq_true_eq, show (1#32 : BitVec 32).toInt = 1 from rfl]
      omega
    have e2 : Scalar.minsi 8#32 (BitVec.ofNat 32 q) = 8#32 := by
      show (if (8#32 : BitVec 32).slt (BitVec.ofNat 32 q) then 8#32 else BitVec.ofNat 32 q) = _
      rw [if_pos]
      rw [BitVec.slt, e, decide_eq_true_eq, show (8#32 : BitVec 32).toInt = 8 from rfl]
      omega
    rw [e1, e2, show min 7 (q - 1) = 7 by omega]
    rfl

theorem tiles_eq (w : BitVec 32) (h : 0 ≤ w.toInt) : tiles w = BitVec.ofNat 32 (min 7 ((w.toNat + 255) / 256 - 1)) := by
  have hw : w.toNat < 2 ^ 31 := by
    have := w.isLt
    rw [BitVec.toInt_eq_toNat_cond] at h
    split_ifs at h <;> omega
  rw [← min_max_word ((w.toNat + 255) / 256) (by omega)]
  unfold tiles
  have e : Scalar.shrui (Scalar.addi w 255#32) 8#32 = BitVec.ofNat 32 ((w.toNat + 255) / 256) := by
    show IntOp.shrui .scalar (w + 255#32) 8#32 = _
    unfold IntOp.shrui
    rw [if_pos (by decide)]
    apply BitVec.eq_of_toNat_eq
    rw [BitVec.ushiftRight_eq', BitVec.toNat_ushiftRight, BitVec.toNat_add, Nat.shiftRight_eq_div_pow]
    show (w.toNat + 255) % 4294967296 / 256 = ((w.toNat + 255) / 256) % 4294967296
    omega
  rw [e]

theorem cnt_val (X : S2.Idx → BitVec 32) (t : Trip) (h : 0 ≤ (lenAt X t).toInt) : (cnt X t).val = min 7 (((lenAt X t).toNat + 255) / 256 - 1) := by
  unfold cnt
  rw [tiles_eq _ h]
  exact congrArg Fin.val (pick_nat ⟨min 7 (((lenAt X t).toNat + 255) / 256 - 1), by omega⟩)

theorem toInt_nat (w : BitVec 32) (h : 0 ≤ w.toInt) : w.toInt = (w.toNat : ℤ) ∧ w.toNat < 2 ^ 31 := by
  have := w.isLt
  rw [BitVec.toInt_eq_toNat_cond] at h ⊢
  split_ifs at h ⊢ <;> omega

theorem left_toInt (w : BitVec 32) (h : 0 ≤ w.toInt) (c : ℕ) (hc : c ≤ 7) : (Scalar.subi w (BitVec.ofNat 32 (256 * c))).toInt = w.toInt - 256 * c := by
  have h2 := toInt_nat w h
  have e : (BitVec.ofNat 32 (256 * c)).toInt = ((256 * c : ℕ) : ℤ) := by
    rw [BitVec.toInt_ofNat', Int.bmod_eq_of_le] <;> omega
  show (w - BitVec.ofNat 32 (256 * c)).toInt = _
  rw [BitVec.toInt_sub, e, Int.bmod_eq_of_le] <;> omega

theorem slt_nat (n : ℕ) (hn : n < 2 ^ 31) (w : BitVec 32) : IntOp.cmpi .slt (BitVec.ofNat 32 n) w = BitVec.ofBool (decide ((n : ℤ) < w.toInt)) := by
  have e : (BitVec.ofNat 32 n).toInt = (n : ℤ) := by
    rw [BitVec.toInt_ofNat', Int.bmod_eq_of_le] <;> omega
  show BitVec.ofBool ((BitVec.ofNat 32 n).slt w) = _
  rw [BitVec.slt, e]

/-! ## Sums over tiles -/

theorem sum_tiles (f : Fin 2048 → EReal) (n : ℕ) (hn : n ≤ 8) (h0 : ∀ t : Fin 2048, 256 * n ≤ t.val → f t = 0) :
    ∑ t, f t = ∑ j : Fin n, ∑ y : Fin 256, f ⟨256 * j.val + y.val, by omega⟩ := by
  let g : ℕ → EReal := fun x => if h : x < 2048 then f ⟨x, h⟩ else 0
  have e1 : ∑ t, f t = ∑ x ∈ Finset.range 2048, g x := by
    rw [Finset.sum_range]
    exact Finset.sum_congr rfl fun t _ => by
      show f t = if h : t.val < 2048 then f ⟨t.val, h⟩ else 0
      rw [dif_pos t.isLt]
  have e2 : ∑ x ∈ Finset.range 2048, g x = ∑ x ∈ Finset.range (256 * n), g x := by
    refine (Finset.sum_subset (Finset.range_subset_range.2 (by omega)) fun x hx hx' => ?_).symm
    have h1 := Finset.mem_range.1 hx
    have h2 : ¬ x < 256 * n := fun h => hx' (Finset.mem_range.2 h)
    show (if h : x < 2048 then f ⟨x, h⟩ else 0) = 0
    rw [dif_pos h1]
    exact h0 _ (by show 256 * n ≤ x; omega)
  have e3 : ∀ n : ℕ, ∑ x ∈ Finset.range (256 * n), g x = ∑ j : Fin n, ∑ y : Fin 256, g (256 * j.val + y.val) := by
    intro n
    induction n with
    | zero => simp
    | succ n ih =>
      rw [show 256 * (n + 1) = 256 * n + 256 by ring, Finset.sum_range_add, ih, Fin.sum_univ_castSucc]
      refine congrArg₂ (· + ·) rfl ?_
      rw [Finset.sum_range]
      rfl
  rw [e1, e2, e3]
  refine Finset.sum_congr rfl fun j _ => Finset.sum_congr rfl fun y _ => ?_
  show (if h : 256 * j.val + y.val < 2048 then f ⟨256 * j.val + y.val, h⟩ else 0) = _
  rw [dif_pos (by omega)]

theorem sum_lanes (f : Fin 128 → EReal) (g : Fin 96 → EReal) (h : ∀ y : Fin 96, f ⟨y.val, by omega⟩ = g y) (h0 : ∀ y : Fin 128, 96 ≤ y.val → f y = 0) :
    ∑ y, f y = ∑ y, g y := by
  have e := Fin.sum_univ_add (a := 96) (b := 32) f
  refine e.trans ?_
  rw [show ∑ i : Fin 32, f (Fin.natAdd 96 i) = 0 from Finset.sum_eq_zero fun i _ => h0 _ (by show 96 ≤ 96 + i.val; omega), add_zero]
  exact Finset.sum_congr rfl fun y _ => h y

theorem sum_halves (f : Fin 256 → EReal) : ∑ y : Fin 128, (f ⟨y.val, by omega⟩ + f ⟨128 + y.val, by omega⟩) = ∑ y, f y := by
  rw [Finset.sum_add_distrib]
  exact (Fin.sum_univ_add (a := 128) (b := 128) f).symm

/-! ## Scores -/

/-- The head of a row of a key head's queries, -/
def hx (k : Fin 3) (x : Fin 288) : Fin 9 := ⟨3 * k.val + x.val / 96, by omega⟩
/-- and its token. -/
def sx (x : Fin 288) : Fin 96 := ⟨x.val % 96, Nat.mod_lt _ (by decide)⟩
theorem kh_hx (k : Fin 3) (x : Fin 288) : kh (hx k x) = k := Fin.ext (by show (3 * k.val + x.val / 96) / 3 = k.val; omega)

theorem qsum (L : Lay) (r : Fin 2 → Fin 96 → Fin 576 → EReal) (b : Fin 2) (h : Fin 9) (s : Fin 96) (c : Fin 64 → EReal) :
    (∑ e : Fin 64, qv L r b h s ⟨e.val, by omega⟩ * c e) + ∑ e : Fin 64, qv L r b h s ⟨64 + e.val, by omega⟩ * c e = ∑ e, qS L r b s h e * c e := by
  have lo : ∀ e : Fin 64, qv L r b h s ⟨e.val, by omega⟩ = if h.val % 2 = 0 then qS L r b s h e else 0 := fun e => by
    unfold qv
    refine if_congr ?_ (congrArg _ (Fin.ext ?_)) rfl
    · show h.val % 2 = e.val / 64 ↔ _; omega
    · show e.val % 64 = e.val; omega
  have hi : ∀ e : Fin 64, qv L r b h s ⟨64 + e.val, by omega⟩ = if h.val % 2 = 0 then 0 else qS L r b s h e := fun e => by
    unfold qv
    by_cases hh : h.val % 2 = 0
    · rw [if_pos hh, if_neg]
      show ¬ h.val % 2 = (64 + e.val) / 64; omega
    · rw [if_neg hh, if_pos (show h.val % 2 = (64 + e.val) / 64 by omega)]
      exact congrArg _ (Fin.ext (by show (64 + e.val) % 64 = e.val; omega))
  simp only [lo, hi]
  by_cases hh : h.val % 2 = 0
  · simp only [if_pos hh, zero_mul, Finset.sum_const_zero, add_zero]
  · simp only [if_neg hh, zero_mul, Finset.sum_const_zero, zero_add]

section Layer
variable {i : grid0.Coords} {X : S2.Idx → BitVec 32} {a : St Ideal} {L : Lay} {r : Fin 2 → Fin 96 → Fin 576 → EReal} (H : KR i X a L r)
include H

theorem qP_apply (t : Trip) (k : Fin 3) (x : Fin 288) (l : Fin 128) : qP i a t k (ix2 x l) = qv L r (tf t) (hx k x) (sx x) l := by
  unfold qP
  rw [castQ, idxQ]
  exact qM_apply H (tf t) k x l

/-- A score before its mask. -/
def scF (L : Lay) (r : Fin 2 → Fin 96 → Fin 576 → EReal) (b : Fin 2) (h : Fin 9) (s : Fin 96) (t : Fin 2048) : EReal :=
  (∑ d, qS L r b s h d * cd (L.ck b (kh h) t d)) * L.cks b (kh h) t * Ideal.ofBits .f32 0x3E000000#32 * Ideal.ofBits .f32 0x3FB8AA3B#32

theorem scoreT_apply (t : Trip) (k : Fin 3) (j : Fin 8) (x : Fin 288) (y : Fin 256) :
    scoreT i a t k j (ix2 x y) = scF L r (tf t) (hx k x) (sx x) ⟨256 * j.val + y.val, by omega⟩ := by
  unfold scoreT scF
  rw [score_apply, castS, H.ks, kh_hx]
  simp only [qP_apply H, castT, H.kt]
  rw [qsum L r (tf t) (hx k x) (sx x) fun e => cd (L.ck (tf t) k ⟨256 * j.val + y.val, by omega⟩ e), scale_const, mul_assoc _ (L.cks _ _ _), mul_assoc, mul_assoc]

theorem len_nat (t : Trip) : (L.len (tf t)).toInt = ((lenAt X t).toNat : ℤ) ∧ (lenAt X t).toNat < 2 ^ 31 := by
  have h := H.pos (tf t)
  rw [← H.len t] at h ⊢
  exact toInt_nat _ h

theorem cnt_eq (t : Trip) : (cnt X t).val = min 7 (((lenAt X t).toNat + 255) / 256 - 1) := cnt_val X t (by rw [H.len t]; exact H.pos _)

theorem sVal_apply (t : Trip) (k : Fin 3) (j : Fin 8) (hj : j ≤ cnt X t) (x : Fin 288) (y : Fin 256) :
    sVal i X a t k j (ix2 x y) = scS L r (tf t) (hx k x) (sx x) ⟨256 * j.val + y.val, by omega⟩ := by
  have hl := len_nat H t
  have hc := cnt_eq H t
  unfold sVal scS
  split_ifs with e h h
  · rw [maskTile_apply, lane256_apply, slt_nat _ (by omega), select_bool, if_pos]
    · exact scoreT_apply H t k j x y
    · unfold leftW
      rw [left_toInt _ (by rw [H.len]; exact H.pos _) _ (by omega), H.len]
      have h' : ((256 * j.val + y.val : ℕ) : ℤ) < (L.len (tf t)).toInt := h
      rw [← e]
      push_cast at h'
      linarith
  · rw [maskTile_apply, lane256_apply, slt_nat _ (by omega), select_bool, if_neg]
    unfold leftW
    rw [left_toInt _ (by rw [H.len]; exact H.pos _) _ (by omega), H.len]
    have h' : ¬ ((256 * j.val + y.val : ℕ) : ℤ) < (L.len (tf t)).toInt := h
    rw [← e]
    push_cast at h'
    intro h''
    exact h' (by linarith)
  · exact scoreT_apply H t k j x y
  · exfalso
    have h' : ¬ ((256 * j.val + y.val : ℕ) : ℤ) < (L.len (tf t)).toInt := h
    have h1 : j.val < (cnt X t).val := lt_of_le_of_ne hj fun h => e (Fin.ext h)
    rw [hl.1] at h'
    omega

/-- Beyond the tiles walked every score is masked. -/
theorem scS_beyond (t : Trip) (h : Fin 9) (s : Fin 96) (u : Fin 2048) (hu : 256 * ((cnt X t).val + 1) ≤ u.val) : scS L r (tf t) h s u = ⊥ := by
  have hl := len_nat H t
  have hc := cnt_eq H t
  have := u.isLt
  unfold scS
  rw [if_neg, NI_bot]
  rw [hl.1]
  omega

/-! ## The largest -/

theorem mAcc_le (t : Trip) (k : Fin 3) (x : Fin 288) (l : Fin 128) (z : EReal) : ∀ (n : ℕ) (hn : n ≤ 8), n ≤ (cnt X t).val + 1 →
    (mAcc i X a t k n hn (ix2 x l) ≤ z ↔ ∀ u : Fin 2048, u.val < 256 * n → u.val % 128 = l.val → scS L r (tf t) (hx k x) (sx x) u ≤ z)
  | 0, _, _ => by
    refine iff_of_true ?_ fun u hu => absurd hu (by omega)
    show NI ≤ z
    rw [NI_bot]
    exact bot_le
  | n + 1, hn, hc => by
    show maxTile (mAcc i X a t k n (Nat.le_of_succ_le hn)) (sVal i X a t k ⟨n, hn⟩) (ix2 x l) ≤ z ↔ _
    have hle : (⟨n, hn⟩ : Fin 8) ≤ cnt X t := Nat.le_of_succ_le_succ hc
    rw [maxTile_apply, max_le_iff, max_le_iff, mAcc_le t k x l z n _ (Nat.le_of_succ_le hc), sVal_apply H t k _ hle, sVal_apply H t k _ hle]
    constructor
    · rintro ⟨h1, h2, h3⟩ u hu hul
      by_cases h : u.val < 256 * n
      · exact h1 u h hul
      · by_cases h' : u.val < 256 * n + 128
        · have e : u = ⟨256 * n + l.val, by omega⟩ := Fin.ext (by show u.val = 256 * n + l.val; omega)
          rw [e]; exact h2
        · have e : u = ⟨256 * n + (128 + l.val), by omega⟩ := Fin.ext (by show u.val = 256 * n + (128 + l.val); omega)
          rw [e]; exact h3
    · intro h
      have := l.isLt
      refine ⟨fun u hu hul => h u (by omega) hul, h _ ?_ ?_, h _ ?_ ?_⟩
      · show 256 * n + l.val < 256 * (n + 1); omega
      · show (256 * n + l.val) % 128 = l.val; omega
      · show 256 * n + (128 + l.val) < 256 * (n + 1); omega
      · show (256 * n + (128 + l.val)) % 128 = l.val; omega

theorem snM_apply (t : Trip) (k : Fin 3) (x : Fin 288) (y : Fin 96) : snM i a t k (ix2 x ⟨y.val, by omega⟩) = snS L r (tf t) (hx k x) (sx x) y := by
  unfold snM snS
  rw [scoreNew_apply, causal_apply, select_bool]
  refine if_congr Iff.rfl ?_ rfl
  rw [castNs, idxNs, newSM_apply, kh_hx]
  simp only [qP_apply H, castN, idxN, newM_apply]
  simp only [kV_apply H]
  rw [qsum L r (tf t) (hx k x) (sx x) fun e => cds (fun d => kS L r (tf t) y k d) e, scale_const, mul_assoc _ (scl _), mul_assoc, mul_assoc]

omit H in
theorem snM_beyond (t : Trip) (k : Fin 3) (x : Fin 288) (y : Fin 128) (hy : 96 ≤ y.val) : snM i a t k (ix2 x y) = ⊥ := by
  unfold snM
  rw [scoreNew_apply, causal_apply, select_bool, if_neg, NI_bot]
  omega

theorem mxM_apply (t : Trip) (k : Fin 3) (x : Fin 288) : mxM i X a t k (ix2 x 0) = mxS L r (tf t) (hx k x) (sx x) := by
  unfold mxM mxS
  rw [rowMax_apply]
  refine congrArg (Ideal.liftRound Int.ceil) (eq_of_forall_ge_iff fun z => ?_)
  rw [Finset.fold_max_le, max_le_iff, Finset.fold_max_le, Finset.fold_max_le, NI_bot]
  constructor
  · rintro ⟨_, h⟩
    refine ⟨⟨bot_le, fun u _ => ?_⟩, bot_le, fun y _ => ?_⟩
    · by_cases hu : u.val < 256 * ((cnt X t).val + 1)
      · exact (mAcc_le H t k x ⟨u.val % 128, Nat.mod_lt _ (by decide)⟩ z _ _ le_rfl).1 ((le_max_left _ _).trans (h ⟨u.val % 128, Nat.mod_lt _ (by decide)⟩ (Finset.mem_univ _))) u hu rfl
      · rw [scS_beyond H t _ _ u (by omega)]; exact bot_le
    · rw [← snM_apply H]
      exact (le_max_right _ _).trans (h ⟨y.val, by omega⟩ (Finset.mem_univ _))
  · rintro ⟨⟨_, h1⟩, _, h2⟩
    refine ⟨bot_le, fun y _ => max_le ?_ ?_⟩
    · exact (mAcc_le H t k x y z _ _ le_rfl).2 fun u _ _ => h1 u (Finset.mem_univ _)
    · by_cases hy : y.val < 96
      · have := snM_apply H t k x ⟨y.val, hy⟩
        exact le_of_eq_of_le this (h2 _ (Finset.mem_univ _))
      · rw [snM_beyond t k x y (by omega)]; exact bot_le

/-! ## The weights -/

theorem p0M_apply (t : Trip) (k : Fin 3) (x : Fin 288) (y : Fin 96) : p0M i X a t k (ix2 x ⟨y.val, by omega⟩) = pnS L r (tf t) (hx k x) (sx x) y := by
  unfold p0M pnS
  rw [pNew_apply, snM_apply H, mxM_apply H, exp2_pow]

omit H in
theorem p0M_beyond (t : Trip) (k : Fin 3) (x : Fin 288) (y : Fin 128) (hy : 96 ≤ y.val) : p0M i X a t k (ix2 x y) = 0 := by
  unfold p0M
  rw [pNew_apply, snM_beyond t k x y hy, EReal.bot_sub, Ideal.exp2_bot]

theorem pcS_beyond (t : Trip) (h : Fin 9) (s : Fin 96) (u : Fin 2048) (hu : 256 * ((cnt X t).val + 1) ≤ u.val) : pcS L r (tf t) h s u = 0 := by
  unfold pcS
  rw [scS_beyond H t h s u hu, EReal.bot_sub, ← exp2_pow, Ideal.exp2_bot]

/-- A tile's weights. -/
def pT (i : grid0.Coords) (X : S2.Idx → BitVec 32) (a : St Ideal) (t : Trip) (k : Fin 3) (j : Fin 8) : FVec Ideal S288x256 .f32 :=
  pTile (mxM i X a t k) (shapeCast S288x256 (fun y => sM i X a t ((rC k j).toLoadRect.idx y)) shapeCasts_S1x288x256_S288x256)

theorem pT_apply (t : Trip) (k : Fin 3) (j : Fin 8) (hj : j ≤ cnt X t) (x : Fin 288) (y : Fin 256) :
    pT i X a t k j (ix2 x y) = pcS L r (tf t) (hx k x) (sx x) ⟨256 * j.val + y.val, by omega⟩ := by
  unfold pT pcS
  rw [pTile_apply, castC, idxC, mxM_apply H]
  have e : sM i X a t (ix3 k x ⟨256 * j.val + y.val, by omega⟩) = sVal i X a t k j (ix2 x y) := by
    show shapeCast S1x288x256 (sVal i X a t k ⟨(256 * j.val + y.val) / 256, by omega⟩) shapeCasts_S288x256_S1x288x256
      (ValueIdx.ix3 0 x ⟨(256 * j.val + y.val) % 256, Nat.mod_lt _ (by decide)⟩) = _
    rw [← ix3_eq_valueIdx, castC']
    have ej : (⟨(256 * j.val + y.val) / 256, by omega⟩ : Fin 8) = j := Fin.ext (by show (256 * j.val + y.val) / 256 = j.val; omega)
    have ey : (⟨(256 * j.val + y.val) % 256, Nat.mod_lt _ (by decide)⟩ : Fin 256) = y := Fin.ext (by show (256 * j.val + y.val) % 256 = y.val; omega)
    rw [ej, ey]
  rw [e, sVal_apply H t k j hj, exp2_pow]

omit H in
theorem ps_apply (p : FVec Ideal S288x256 .f32) (sc : FVec Ideal S1x256 .f32) (x : Fin 288) (y : Fin 256) :
    (truncf .bf16 (mulf p (broadcastTo S288x256 sc broadcasts_S1x256_S288x256)) bitsLt_bf16_f32 : FVec Ideal S288x256 .bf16) (ix2 x y) = p (ix2 x y) * sc (ix2 0 y) := by
  pointwise
omit H in
theorem ps0_apply (p : FVec Ideal S288x128 .f32) (sc : FVec Ideal S1x128 .f32) (x : Fin 288) (y : Fin 128) :
    (truncf .bf16 (mulf p (broadcastTo S288x128 sc broadcasts_S1x128_S288x128)) bitsLt_bf16_f32 : FVec Ideal S288x128 .bf16) (ix2 x y) = p (ix2 x y) * sc (ix2 0 y) := by
  pointwise
omit H in
theorem vs_apply (c : IVec S64x256 8) (e : Fin 64) (y : Fin 256) : (sitofp .bf16 c : FVec Ideal S64x256 .bf16) (ix2 e y) = cd (c (ix2 e y)) := by
  pointwise
  rfl

omit H in
theorem acc_ps (t : Trip) (k : Fin 3) : ∀ (n : ℕ) (hn : n ≤ 8) (j : Fin n), (accM i X a t k n hn).ps j
    = truncf .bf16 (mulf (pT i X a t k ⟨j.val, by omega⟩) (broadcastTo S288x256 (shapeCast S1x256 (rd a .vs (rS t k ⟨j.val, by omega⟩)) shapeCasts_S1x1x1x256_S1x256) broadcasts_S1x256_S288x256)) bitsLt_bf16_f32
  | n + 1, hn, j => by
    show ext (accM i X a t k n (Nat.le_of_succ_le hn)).ps _ j = _
    unfold ext
    split_ifs with h
    · exact acc_ps t k n _ ⟨j.val, h⟩
    · have e : j.val = n := by omega
      obtain ⟨j, hj⟩ := j
      have e' : j = n := e
      subst e'
      rfl
omit H in
theorem acc_vs (t : Trip) (k : Fin 3) : ∀ (n : ℕ) (hn : n ≤ 8) (j : Fin n), (accM i X a t k n hn).vs j
    = sitofp .bf16 (shapeCast S64x256 (rd a .vt (rT t k ⟨j.val, by omega⟩)) shapeCasts_S1x1x1x64x256_S64x256)
  | n + 1, hn, j => by
    show ext (accM i X a t k n (Nat.le_of_succ_le hn)).vs _ j = _
    unfold ext
    split_ifs with h
    · exact acc_vs t k n _ ⟨j.val, h⟩
    · have e : j.val = n := by omega
      obtain ⟨j, hj⟩ := j
      have e' : j = n := e
      subst e'
      rfl
omit H in
theorem acc_den (t : Trip) (k : Fin 3) (x : Fin 288) : ∀ (n : ℕ) (hn : n ≤ 8), ∑ y, (accM i X a t k n hn).den (ix2 x y)
    = (∑ y, p0M i X a t k (ix2 x y)) + ∑ j : Fin n, ∑ y, pT i X a t k ⟨j.val, by omega⟩ (ix2 x y)
  | 0, _ => by
    rw [Finset.univ_eq_empty (α := Fin 0), Finset.sum_empty, add_zero]
    rfl
  | n + 1, hn => by
    have e : ∀ y, (accM i X a t k (n + 1) hn).den (ix2 x y) = (accM i X a t k n (Nat.le_of_succ_le hn)).den (ix2 x y)
        + (pT i X a t k ⟨n, hn⟩ (ix2 x ⟨y.val, by omega⟩) + pT i X a t k ⟨n, hn⟩ (ix2 x ⟨128 + y.val, by omega⟩)) := fun y => denTile_apply _ _ x y
    rw [Finset.sum_congr rfl fun y _ => e y, Finset.sum_add_distrib, acc_den t k x n, sum_halves fun y => pT i X a t k ⟨n, hn⟩ (ix2 x y), add_assoc,
      Fin.sum_univ_castSucc (n := n) fun j : Fin (n + 1) => ∑ y, pT i X a t k ⟨j.val, by omega⟩ (ix2 x y)]
    rfl

/-- The weights of the tiles up to the last one. -/
theorem tiles_den (t : Trip) (k : Fin 3) (x : Fin 288) (c : Fin 8) (hc : c = cnt X t) :
    ∑ j : Fin (c.val + 1), ∑ y, pT i X a t k ⟨j.val, by omega⟩ (ix2 x y) = ∑ u, pcS L r (tf t) (hx k x) (sx x) u := by
  rw [sum_tiles _ (c.val + 1) (by omega) fun u hu => pcS_beyond H t _ _ u (by rw [← hc]; exact hu)]
  refine Finset.sum_congr rfl fun j _ => Finset.sum_congr rfl fun y _ => ?_
  have hle : (⟨j.val, by omega⟩ : Fin 8) ≤ c := Fin.le_def.2 (Nat.le_of_lt_succ j.isLt)
  have hle := hle.trans_eq hc
  exact pT_apply H t k _ hle x y

/-- Their weighted values. -/
theorem tiles_num (t : Trip) (k : Fin 3) (x : Fin 288) (e : Fin 64) (c : Fin 8) (hc : c = cnt X t) :
    ∑ j : Fin (c.val + 1), ∑ y, (accM i X a t k (c.val + 1) c.isLt).ps j (ix2 x y) * (accM i X a t k (c.val + 1) c.isLt).vs j (ix2 e y)
      = ∑ u, pcS L r (tf t) (hx k x) (sx x) u * L.cvs (tf t) k u * cd (L.cv (tf t) k u e) := by
  rw [sum_tiles _ (c.val + 1) (by omega) fun u hu => by rw [pcS_beyond H t _ _ u (by rw [← hc]; exact hu), zero_mul, zero_mul]]
  refine Finset.sum_congr rfl fun j _ => Finset.sum_congr rfl fun y _ => ?_
  have hle : (⟨j.val, by omega⟩ : Fin 8) ≤ c := Fin.le_def.2 (Nat.le_of_lt_succ j.isLt)
  have hle := hle.trans_eq hc
  rw [acc_ps, acc_vs, ps_apply, vs_apply, castS, castT, pT_apply H t k _ hle, H.vs, H.vt]

theorem headV_apply (t : Trip) (k : Fin 3) (x : Fin 288) (d : Fin 128) :
    headV i X a t k (ix2 x d) = oS L r (tf t) (sx x) (hx k x) ⟨d.val % 64, Nat.mod_lt _ (by decide)⟩ := by
  unfold headV oS
  rw [outV_apply _ _ _ _ _ x d ⟨d.val % 64, Nat.mod_lt _ (by decide)⟩ rfl, acc_den, kh_hx]
  have n1 : ∑ y : Fin 128, p0M i X a t k (ix2 x y) = ∑ y, pnS L r (tf t) (hx k x) (sx x) y :=
    sum_lanes _ _ (fun y => p0M_apply H t k x y) fun y hy => p0M_beyond t k x y hy
  rw [n1, tiles_den H t k x (cnt X t) rfl, tiles_num H t k x _ (cnt X t) rfl, add_comm (∑ y, pnS L r (tf t) (hx k x) (sx x) y)]
  refine congrArg (fun z => Ideal.div z _) ?_
  rw [add_comm]
  refine congrArg (fun z => _ + z) ?_
  refine sum_lanes _ _ (fun y => ?_) fun y hy => ?_
  · rw [ps0_apply, castNs, idxNs, newSM_apply, castN, idxN, newM_apply, p0M_apply H]
    simp only [vV_apply H]
  · rw [ps0_apply, p0M_beyond t k x y hy, zero_mul, zero_mul]

/-! ## Heads side by side -/

theorem actM_apply (b : Fin 2) (h : Fin 9) (s : Fin 96) (l : Fin 128) :
    actM i X a (ix4 b h s l) = oS L r b s h ⟨l.val % 64, Nat.mod_lt _ (by decide)⟩ := by
  show shapeCast S1x1x96x128 (extractStridedSlice S96x128 ![96 * (h.val % 3), 0] (headV i X a (tripOf b) ⟨h.val / 3, div3_lt h⟩) (slicesA ⟨h.val % 3, mod3_lt h⟩))
    shapeCasts_S96x128_S1x1x96x128 (ValueIdx.ix4 0 0 s l) = _
  rw [← ix4_eq_valueIdx, castA]
  refine (slice2 (96 * (h.val % 3)) 0 _ _ s l (by omega) (by omega)).trans ?_
  rw [headV_apply H, tf_tripOf]
  have e1 : sx ⟨96 * (h.val % 3) + s.val, by omega⟩ = s := Fin.ext (by show (96 * (h.val % 3) + s.val) % 96 = s.val; omega)
  have e2 : hx ⟨h.val / 3, div3_lt h⟩ ⟨96 * (h.val % 3) + s.val, by omega⟩ = h := Fin.ext (by show 3 * (h.val / 3) + (96 * (h.val % 3) + s.val) / 96 = h.val; omega)
  rw [e1, e2]
  exact congrArg _ (Fin.ext (by show (0 + l.val) % 64 = l.val % 64; omega))

theorem oV_apply (b : Fin 2) (c : Fin 5) (s : Fin 96) (d : Fin 128) (h : Fin 9) (hh : h.val = 2 * c.val + d.val / 64) :
    oV i X a b c (ix2 s d) = oS L r b s h ⟨d.val % 64, Nat.mod_lt _ (by decide)⟩ := by
  have := h.isLt
  unfold oV
  split_ifs with hc
  · rw [pairO_apply, idxAct, idxAct, actM_apply H, actM_apply H]
    split_ifs with hd
    · exact congrArg (fun h => oS L r b s h _) (Fin.ext (by show 2 * c.val = h.val; omega))
    · exact congrArg (fun h => oS L r b s h _) (Fin.ext (by show 2 * c.val + 1 = h.val; omega))
  · rw [castA', idxAct, actM_apply H]
    exact congrArg (fun h => oS L r b s h _) (Fin.ext (by show 8 = h.val; omega))

theorem oM_apply (b : Fin 2) (s : Fin 96) (e : Fin 576) : oM i X a (ix2 ⟨96 * b.val + s.val, by omega⟩ ⟨e.val, by omega⟩)
    = oS L r b s ⟨e.val / 64, by omega⟩ ⟨e.val % 64, Nat.mod_lt _ (by decide)⟩ := by
  show packO (oV i X a ⟨(96 * b.val + s.val) / 96, by omega⟩ ⟨e.val / 128, by omega⟩)
    (ValueIdx.ix2 ⟨(96 * b.val + s.val) % 96, Nat.mod_lt _ (by decide)⟩ ⟨e.val % 128, Nat.mod_lt _ (by decide)⟩) = _
  have eb : (⟨(96 * b.val + s.val) / 96, by omega⟩ : Fin 2) = b := Fin.ext (by show (96 * b.val + s.val) / 96 = b.val; omega)
  have es : (⟨(96 * b.val + s.val) % 96, Nat.mod_lt _ (by decide)⟩ : Fin 96) = s := Fin.ext (by show (96 * b.val + s.val) % 96 = s.val; omega)
  rw [eb, es, ← ix2_eq_valueIdx, packO_apply, oV_apply H b _ s _ ⟨e.val / 64, by omega⟩ (by show e.val / 64 = 2 * (e.val / 128) + e.val % 128 / 64; omega)]
  exact congrArg _ (Fin.ext (by show e.val % 128 % 64 = e.val % 64; omega))

theorem oTM_apply (b : Fin 2) (h : Fin 9) (d : Fin 64) (s : Fin 96) : oTM i X a (ix5 0 b h d s) = oS L r b s h d := by
  show oT1 i X a b h (ValueIdx.ix5 0 0 0 d s) = _
  rw [← ix5_eq_valueIdx]
  unfold oT1
  split_ifs with hh
  · rw [loO_apply, oV_apply H b _ s _ h (by show h.val = 2 * (h.val / 2) + d.val / 64; omega)]
    exact congrArg _ (Fin.ext (by show d.val % 64 = d.val; omega))
  · rw [hiO_apply, oV_apply H b _ s _ h (by show h.val = 2 * (h.val / 2) + (64 + d.val) / 64; omega)]
    exact congrArg _ (Fin.ext (by show (64 + d.val) % 64 = d.val; omega))

end Layer

end Cert.LayersIdeal.Hand

end
-- ==== Proof.LayersIdealProj.lean ====
/-
  The kernel's two projections, read at an index over the extended reals, and a whole layer's results.
-/
module

public import proofs.«01_k».proof.Proof.LayersIdealAttn
public import proofs.«01_k».proof.Proof.LayersChain

@[expose] public section

set_option maxRecDepth 65536
set_option maxHeartbeats 400000

noncomputable section

namespace Cert.LayersIdeal.Hand

open Cert.LayersIdeal Cert.LayersIdeal.Gen Cert.LayersMath
open Idealize.ShloMosaic Idealize.ShloMosaic.TcCoe Idealize.ShloMosaic.Tactic

/-- Six blocks of 256 columns side by side. -/
theorem concat_six {α : Type} (f : Fin 6 → S192x256.Idx → α) (q : Fin 192) (n : Fin 1536) :
    concatenate S192x1536 1 [⟨S192x256, f 0⟩, ⟨S192x256, f 1⟩, ⟨S192x256, f 2⟩, ⟨S192x256, f 3⟩, ⟨S192x256, f 4⟩, ⟨S192x256, f 5⟩]
      concatenates_S192x256_S192x256_S192x256_S192x256_S192x256_S192x256_S192x1536_d1 (ix2 q n)
      = f ⟨n.val / 256, by omega⟩ (ix2 q ⟨n.val % 256, Nat.mod_lt _ (by decide)⟩) := by
  rw [concatenate_cons_apply]
  exact concatenateAt_cols 192 6 1536 f q n _ n.val _ (by omega)

section Layer
variable {i : grid0.Coords} {X : S2.Idx → BitVec 32} {a : St Ideal} {L : Lay} {r : Fin 2 → Fin 96 → Fin 576 → EReal} (H : KR i X a L r)
include H

theorem afterOV_apply (b : Fin 2) (s : Fin 96) (j : Fin 576) :
    afterOV i (model i X a t1) (ix2 ⟨96 * b.val + s.val, by omega⟩ j) = r1S L r b s j := by
  unfold afterOV r1S
  refine (afterO_apply _ _ _ _ _ j).trans ?_
  refine congrArg₂ (· + ·) (H.res b s j) ?_
  refine lin_congr (funext fun e => ?_) (funext fun k => funext fun n => H.wo k n) (funext fun n => H.so n) j
  refine (congrArg (oM i X a) (idxO _ e)).trans ?_
  exact oM_apply H b s e

theorem gu_at (x : FVec Ideal S192x576 .bf16) (b : Fin 2) (s : Fin 96)
    (hx : ∀ k, x (ix2 ⟨96 * b.val + s.val, by omega⟩ k) = nrm (r1S L r b s) L.mn k) (j : Fin 12) (n : Fin 256) :
    gu x (rd (model i X a t1) .wgu (rGU j)) (rd (model i X a t1) .sgu (rowGU i j)) (ix2 ⟨96 * b.val + s.val, by omega⟩ n) = guS L r b s ⟨256 * j.val + n.val, by omega⟩ := by
  refine (gu_apply _ _ _ _ n).trans ?_
  unfold guS
  refine (lin_congr (funext fun k => hx k) (funext fun k => funext fun n => H.wgu j k n) (funext fun n => H.sgu j n) n).trans ?_
  rfl

theorem guV_apply (x : FVec Ideal S192x576 .bf16) (b : Fin 2) (s : Fin 96)
    (hx : ∀ k, x (ix2 ⟨96 * b.val + s.val, by omega⟩ k) = nrm (r1S L r b s) L.mn k) (j j' : Fin 12) (h : j'.val = j.val + 6) (n : Fin 256) (n' : Fin 1536) (hn : n'.val = 256 * j.val + n.val) :
    guV i (model i X a t1) x j j' (ix2 ⟨96 * b.val + s.val, by omega⟩ n) = actS L r b s n' := by
  unfold guV actS
  refine (gated_apply _ _ _ n).trans ?_
  rw [gu_at H x b s hx j n, gu_at H x b s hx j' n,
    show (⟨256 * j.val + n.val, by omega⟩ : Fin 3072) = ⟨n'.val, by omega⟩ from Fin.ext hn.symm,
    show (⟨256 * j'.val + n.val, by omega⟩ : Fin 3072) = ⟨1536 + n'.val, by omega⟩ from Fin.ext (by show 256 * j'.val + n.val = 1536 + n'.val; omega)]

theorem projV_apply (b : Fin 2) (s : Fin 96) (j : Fin 576) :
    projV i (model i X a t1) (ix2 ⟨96 * b.val + s.val, by omega⟩ j) = r2S L r b s j := by
  have hx : ∀ k, rms (afterOV i (model i X a t1)) (rd (model i X a t1) .mn (row576 i)) (ix2 ⟨96 * b.val + s.val, by omega⟩ k) = nrm (r1S L r b s) L.mn k := fun k =>
    (rms_apply _ _ _ k).trans (congrArg₂ (fun f g => nrm f g k) (funext (afterOV_apply H b s)) (funext H.mn))
  unfold projV r2S
  refine (afterD_apply _ _ _ _ _ j).trans ?_
  refine congrArg₂ (· + ·) (afterOV_apply H b s j) ?_
  refine lin_congr (funext fun n => ?_) (funext fun k => funext fun n => H.wd k n) (funext fun n => H.sd n) j
  refine (concat_six (fun u => guV i (model i X a t1) (rms (afterOV i (model i X a t1)) (rd (model i X a t1) .mn (row576 i))) ⟨u.val, by omega⟩ ⟨u.val + 6, by omega⟩) _ n).trans ?_
  exact guV_apply H _ b s hx _ _ rfl _ n (by show n.val = 256 * (n.val / 256) + n.val % 256; omega)

end Layer

end Cert.LayersIdeal.Hand

end
-- ==== Proof.LayersIdealBlocks.lean ====
/-
  Where the decoder-layers kernel's blocks lie in its arguments: the host's transposes, the windows' blocks and the rows
  and tiles its body reads, each at an index.
-/
module

public import proofs.«01_k».proof.Proof.LayersIdealProj
public import proofs.«01_k».proof.Proof.LayersIdealFrame
public import Idealize.ShloMosaic.Lib.Pipeline.ValueKit.Geometry

@[expose] public section

set_option maxRecDepth 65536
set_option maxHeartbeats 400000

noncomputable section

namespace Cert.LayersIdeal.Hand

open Cert.LayersIdeal Cert.LayersIdeal.Gen Cert.LayersMath
open Idealize.ShloMosaic Idealize.ShloMosaic.TcCoe Idealize.ShloMosaic.Tactic

/-! ## The host's rearrangements -/

section Host
variable {α : Type}
theorem trCS (x : S2x96x32.Idx → α) (b d s) : transpose S2x32x96 [0, 2, 1] x transposes_S2x96x32_S2x32x96_0_2_1 (ix3 b d s) = x (ix3 b s d) := by pointwise
theorem trK (x : S30x2x3x2048x64.Idx → α) (n b k d u) :
    transpose S30x2x3x64x2048 [0, 1, 2, 4, 3] x transposes_S30x2x3x2048x64_S30x2x3x64x2048_0_1_2_4_3 (ix5 n b k d u) = x (ix5 n b k u d) := by pointwise
theorem trS (x : S30x2x3x2048.Idx → α) (n k b u) :
    transpose S30x3x2x2048 [0, 2, 1, 3] x transposes_S30x2x3x2048_S30x3x2x2048_0_2_1_3 (ix4 n k b u) = x (ix4 n b k u) := by pointwise
theorem trD (x : S30x1536x576.Idx → α) (n l k) : transpose S30x576x1536 [0, 2, 1] x transposes_S30x1536x576_S30x576x1536_0_2_1 (ix3 n l k) = x (ix3 n k l) := by pointwise
theorem rsW (x : S30x9x64x576.Idx → α) (n : Fin 30) (e l : Fin 576) : shapeCast S30x576x576 x shapeCasts_S30x9x64x576_S30x576x576 (ix3 n e l)
    = x (ix4 n ⟨e.val / 64, by omega⟩ ⟨e.val % 64, Nat.mod_lt _ (by decide)⟩ l) := by pointwise
end Host

variable (m : (ℓ : Loc nD τ sig) → Buf (Elt Ideal) ℓ)

/-- The arguments, by their coordinates. -/
def kargs (c : Dev nD) : Args where
  len := fun b => (m ((c.tc : Thread nD τ).loc main_arg0) : S2.Idx → BitVec 32) (ix1 b)
  r0 := fun q k => (m ((c.tc : Thread nD τ).loc main_arg1) : FVec Ideal S192x576 .f32) (ix2 q k)
  cos := fun b s d => (m ((c.tc : Thread nD τ).loc main_arg2) : FVec Ideal S2x96x32 .f32) (ix3 b s d)
  sin := fun b s d => (m ((c.tc : Thread nD τ).loc main_arg3) : FVec Ideal S2x96x32 .f32) (ix3 b s d)
  ck := fun n b k t d => (m ((c.tc : Thread nD τ).loc main_arg4) : IVec S30x2x3x2048x64 8) (ix5 n b k t d)
  cks := fun n b k t => (m ((c.tc : Thread nD τ).loc main_arg5) : FVec Ideal S30x2x3x2048 .f32) (ix4 n b k t)
  cv := fun n b k t d => (m ((c.tc : Thread nD τ).loc main_arg6) : IVec S30x2x3x2048x64 8) (ix5 n b k t d)
  cvs := fun n b k t => (m ((c.tc : Thread nD τ).loc main_arg7) : FVec Ideal S30x2x3x2048 .f32) (ix4 n b k t)
  an := fun n k => (m ((c.tc : Thread nD τ).loc main_arg8) : FVec Ideal S30x576 .f32) (ix2 n k)
  mn := fun n k => (m ((c.tc : Thread nD τ).loc main_arg9) : FVec Ideal S30x576 .f32) (ix2 n k)
  wqkv := fun n k l => (m ((c.tc : Thread nD τ).loc main_arg10) : IVec S30x576x960 8) (ix3 n k l)
  sqkv := fun n k => (m ((c.tc : Thread nD τ).loc main_arg11) : FVec Ideal S30x960 .f32) (ix2 n k)
  wo := fun n h d l => (m ((c.tc : Thread nD τ).loc main_arg12) : IVec S30x9x64x576 8) (ix4 n h d l)
  so := fun n k => (m ((c.tc : Thread nD τ).loc main_arg13) : FVec Ideal S30x576 .f32) (ix2 n k)
  wgu := fun n k l => (m ((c.tc : Thread nD τ).loc main_arg14) : IVec S30x576x3072 8) (ix3 n k l)
  sgu := fun n k => (m ((c.tc : Thread nD τ).loc main_arg15) : FVec Ideal S30x3072 .f32) (ix2 n k)
  wd := fun n k l => (m ((c.tc : Thread nD τ).loc main_arg16) : IVec S30x1536x576 8) (ix3 n k l)
  sd := fun n k => (m ((c.tc : Thread nD τ).loc main_arg17) : FVec Ideal S30x576 .f32) (ix2 n k)

variable (c : Dev nD)

/-! ## What the host's operations leave -/

theorem V_v0 : V m c main_v0 = transpose S2x32x96 [0, 2, 1] (m ((c.tc : Thread nD τ).loc main_arg2)) transposes_S2x96x32_S2x32x96_0_2_1 := by
  show StableHlo.after hostOps0 (fun b => m (c, b)) main_v0 = _
  unfold hostOps0
  after_results_simp
theorem V_v1 : V m c main_v1 = transpose S2x32x96 [0, 2, 1] (m ((c.tc : Thread nD τ).loc main_arg3)) transposes_S2x96x32_S2x32x96_0_2_1 := by
  show StableHlo.after hostOps0 (fun b => m (c, b)) main_v1 = _
  unfold hostOps0
  after_results_simp
theorem V_v2 : V m c main_v2 = transpose S30x2x3x64x2048 [0, 1, 2, 4, 3] (m ((c.tc : Thread nD τ).loc main_arg4)) transposes_S30x2x3x2048x64_S30x2x3x64x2048_0_1_2_4_3 := by
  show StableHlo.after hostOps0 (fun b => m (c, b)) main_v2 = _
  unfold hostOps0
  after_results_simp
theorem V_v3 : V m c main_v3 = transpose S30x3x2x2048 [0, 2, 1, 3] (m ((c.tc : Thread nD τ).loc main_arg5)) transposes_S30x2x3x2048_S30x3x2x2048_0_2_1_3 := by
  show StableHlo.after hostOps0 (fun b => m (c, b)) main_v3 = _
  unfold hostOps0
  after_results_simp
theorem V_v4 : V m c main_v4 = transpose S30x2x3x64x2048 [0, 1, 2, 4, 3] (m ((c.tc : Thread nD τ).loc main_arg6)) transposes_S30x2x3x2048x64_S30x2x3x64x2048_0_1_2_4_3 := by
  show StableHlo.after hostOps0 (fun b => m (c, b)) main_v4 = _
  unfold hostOps0
  after_results_simp
theorem V_v5 : V m c main_v5 = transpose S30x3x2x2048 [0, 2, 1, 3] (m ((c.tc : Thread nD τ).loc main_arg7)) transposes_S30x2x3x2048_S30x3x2x2048_0_2_1_3 := by
  show StableHlo.after hostOps0 (fun b => m (c, b)) main_v5 = _
  unfold hostOps0
  after_results_simp
theorem V_v6 : V m c main_v6 = shapeCast S30x576x576 (m ((c.tc : Thread nD τ).loc main_arg12)) shapeCasts_S30x9x64x576_S30x576x576 := by
  show StableHlo.after hostOps0 (fun b => m (c, b)) main_v6 = _
  unfold hostOps0
  after_results_simp
  rfl
theorem V_v7 : V m c main_v7 = transpose S30x576x1536 [0, 2, 1] (m ((c.tc : Thread nD τ).loc main_arg16)) transposes_S30x1536x576_S30x576x1536_0_2_1 := by
  show StableHlo.after hostOps0 (fun b => m (c, b)) main_v7 = _
  unfold hostOps0
  after_results_simp

/-! ## The windows' blocks -/

/-- Some contents of the table: a window's geometry is the same at all of them. -/
def adm0 : (pcfg0 (F := Ideal)).Adm := ⟨fun | ⟨0, _⟩ => fun _ => (0#32 : BitVec 32), trivial⟩

/-- A point's layer. -/
def ln (t : Fin (cfgM m).N) : Fin 30 := ⟨t.val, Nat.lt_of_lt_of_eq t.isLt N_0⟩

theorem index0 (t : Fin (cfgM m).N) : ((cfgM m).win 0).index t = ![0, 0] :=
  (by decide +kernel : ∀ t : Fin grid0.N, (win0 adm0 0).index t = ![0, 0]) t
theorem index1 (t : Fin (cfgM m).N) : ((cfgM m).win 1).index t = ![0, 0, 0] :=
  (by decide +kernel : ∀ t : Fin grid0.N, (win0 adm0 1).index t = ![0, 0, 0]) t
theorem index2 (t : Fin (cfgM m).N) : ((cfgM m).win 2).index t = ![0, 0, 0] :=
  (by decide +kernel : ∀ t : Fin grid0.N, (win0 adm0 2).index t = ![0, 0, 0]) t
theorem index3 (t : Fin (cfgM m).N) : ((cfgM m).win 3).index t = ![t.val, 0, 0, 0, 0] :=
  (by decide +kernel : ∀ t : Fin grid0.N, (win0 adm0 3).index t = ![t.val, 0, 0, 0, 0]) t
theorem index4 (t : Fin (cfgM m).N) : ((cfgM m).win 4).index t = ![t.val, 0, 0, 0] :=
  (by decide +kernel : ∀ t : Fin grid0.N, (win0 adm0 4).index t = ![t.val, 0, 0, 0]) t
theorem index5 (t : Fin (cfgM m).N) : ((cfgM m).win 5).index t = ![t.val, 0, 0, 0, 0] :=
  (by decide +kernel : ∀ t : Fin grid0.N, (win0 adm0 5).index t = ![t.val, 0, 0, 0, 0]) t
theorem index6 (t : Fin (cfgM m).N) : ((cfgM m).win 6).index t = ![t.val, 0, 0, 0] :=
  (by decide +kernel : ∀ t : Fin grid0.N, (win0 adm0 6).index t = ![t.val, 0, 0, 0]) t
theorem index7 (t : Fin (cfgM m).N) : ((cfgM m).win 7).index t = ![0, 0] :=
  (by decide +kernel : ∀ t : Fin grid0.N, (win0 adm0 7).index t = ![0, 0]) t
theorem index8 (t : Fin (cfgM m).N) : ((cfgM m).win 8).index t = ![0, 0] :=
  (by decide +kernel : ∀ t : Fin grid0.N, (win0 adm0 8).index t = ![0, 0]) t
theorem index9 (t : Fin (cfgM m).N) : ((cfgM m).win 9).index t = ![t.val, 0, 0] :=
  (by decide +kernel : ∀ t : Fin grid0.N, (win0 adm0 9).index t = ![t.val, 0, 0]) t
theorem index10 (t : Fin (cfgM m).N) : ((cfgM m).win 10).index t = ![0, 0] :=
  (by decide +kernel : ∀ t : Fin grid0.N, (win0 adm0 10).index t = ![0, 0]) t
theorem index11 (t : Fin (cfgM m).N) : ((cfgM m).win 11).index t = ![t.val, 0, 0] :=
  (by decide +kernel : ∀ t : Fin grid0.N, (win0 adm0 11).index t = ![t.val, 0, 0]) t
theorem index12 (t : Fin (cfgM m).N) : ((cfgM m).win 12).index t = ![0, 0] :=
  (by decide +kernel : ∀ t : Fin grid0.N, (win0 adm0 12).index t = ![0, 0]) t
theorem index13 (t : Fin (cfgM m).N) : ((cfgM m).win 13).index t = ![t.val, 0, 0] :=
  (by decide +kernel : ∀ t : Fin grid0.N, (win0 adm0 13).index t = ![t.val, 0, 0]) t
theorem index14 (t : Fin (cfgM m).N) : ((cfgM m).win 14).index t = ![0, 0] :=
  (by decide +kernel : ∀ t : Fin grid0.N, (win0 adm0 14).index t = ![0, 0]) t
theorem index15 (t : Fin (cfgM m).N) : ((cfgM m).win 15).index t = ![t.val, 0, 0] :=
  (by decide +kernel : ∀ t : Fin grid0.N, (win0 adm0 15).index t = ![t.val, 0, 0]) t
theorem index16 (t : Fin (cfgM m).N) : ((cfgM m).win 16).index t = ![0, 0] :=
  (by decide +kernel : ∀ t : Fin grid0.N, (win0 adm0 16).index t = ![0, 0]) t
theorem index17 (t : Fin (cfgM m).N) : ((cfgM m).win 17).index t = ![t.val, 0, 0] :=
  (by decide +kernel : ∀ t : Fin grid0.N, (win0 adm0 17).index t = ![t.val, 0, 0]) t
theorem index18 (t : Fin (cfgM m).N) : ((cfgM m).win 18).index t = ![t.val, 0, 0, 0, 0] :=
  (by decide +kernel : ∀ t : Fin grid0.N, (win0 adm0 18).index t = ![t.val, 0, 0, 0, 0]) t
theorem index19 (t : Fin (cfgM m).N) : ((cfgM m).win 19).index t = ![t.val, 0, 0, 0, 0] :=
  (by decide +kernel : ∀ t : Fin grid0.N, (win0 adm0 19).index t = ![t.val, 0, 0, 0, 0]) t
theorem index20 (t : Fin (cfgM m).N) : ((cfgM m).win 20).index t = ![t.val, 0, 0, 0] :=
  (by decide +kernel : ∀ t : Fin grid0.N, (win0 adm0 20).index t = ![t.val, 0, 0, 0]) t
theorem index21 (t : Fin (cfgM m).N) : ((cfgM m).win 21).index t = ![t.val, 0, 0, 0, 0] :=
  (by decide +kernel : ∀ t : Fin grid0.N, (win0 adm0 21).index t = ![t.val, 0, 0, 0, 0]) t
theorem index22 (t : Fin (cfgM m).N) : ((cfgM m).win 22).index t = ![t.val, 0, 0, 0] :=
  (by decide +kernel : ∀ t : Fin grid0.N, (win0 adm0 22).index t = ![t.val, 0, 0, 0]) t

theorem emb0 (t : Fin (cfgM m).N) (x : Fin 192) (y : Fin 576) : (((cfgM m).win 0).blk t).view.emb (ix2 x y) = (ix2 x y) := by
  blk_ext [index0 m]
theorem blk0 (t : Fin (cfgM m).N) (x : Fin 192) (y : Fin 576) : iblk m c 0 t (ix2 x y) = V m c main_arg1 (ix2 x y) := congrArg (V m c main_arg1) (emb0 m t x y)
theorem emb1 (t : Fin (cfgM m).N) (x : Fin 2) (y : Fin 32) (z : Fin 96) : (((cfgM m).win 1).blk t).view.emb (ix3 x y z) = (ix3 x y z) := by
  blk_ext [index1 m]
theorem blk1 (t : Fin (cfgM m).N) (x : Fin 2) (y : Fin 32) (z : Fin 96) : iblk m c 1 t (ix3 x y z) = V m c main_v0 (ix3 x y z) := congrArg (V m c main_v0) (emb1 m t x y z)
theorem emb2 (t : Fin (cfgM m).N) (x : Fin 2) (y : Fin 32) (z : Fin 96) : (((cfgM m).win 2).blk t).view.emb (ix3 x y z) = (ix3 x y z) := by
  blk_ext [index2 m]
theorem blk2 (t : Fin (cfgM m).N) (x : Fin 2) (y : Fin 32) (z : Fin 96) : iblk m c 2 t (ix3 x y z) = V m c main_v1 (ix3 x y z) := congrArg (V m c main_v1) (emb2 m t x y z)
theorem emb3 (t : Fin (cfgM m).N) (y : Fin 2) (z : Fin 3) (u : Fin 64) (v : Fin 2048) : (((cfgM m).win 3).blk t).view.emb (ix5 0 y z u v) = (ix5 (ln m t) y z u v) := by
  blk_ext [index3 m]
  all_goals first | rfl | (show t.val * 1 + 0 = t.val; omega)
theorem blk3 (t : Fin (cfgM m).N) (y : Fin 2) (z : Fin 3) (u : Fin 64) (v : Fin 2048) : iblk m c 3 t (ix5 0 y z u v) = V m c main_v2 (ix5 (ln m t) y z u v) := congrArg (V m c main_v2) (emb3 m t y z u v)
theorem emb4 (t : Fin (cfgM m).N) (y : Fin 3) (z : Fin 2) (u : Fin 2048) : (((cfgM m).win 4).blk t).view.emb (ix4 0 y z u) = (ix4 (ln m t) y z u) := by
  blk_ext [index4 m]
  all_goals first | rfl | (show t.val * 1 + 0 = t.val; omega)
theorem blk4 (t : Fin (cfgM m).N) (y : Fin 3) (z : Fin 2) (u : Fin 2048) : iblk m c 4 t (ix4 0 y z u) = V m c main_v3 (ix4 (ln m t) y z u) := congrArg (V m c main_v3) (emb4 m t y z u)
theorem emb5 (t : Fin (cfgM m).N) (y : Fin 2) (z : Fin 3) (u : Fin 64) (v : Fin 2048) : (((cfgM m).win 5).blk t).view.emb (ix5 0 y z u v) = (ix5 (ln m t) y z u v) := by
  blk_ext [index5 m]
  all_goals first | rfl | (show t.val * 1 + 0 = t.val; omega)
theorem blk5 (t : Fin (cfgM m).N) (y : Fin 2) (z : Fin 3) (u : Fin 64) (v : Fin 2048) : iblk m c 5 t (ix5 0 y z u v) = V m c main_v4 (ix5 (ln m t) y z u v) := congrArg (V m c main_v4) (emb5 m t y z u v)
theorem emb6 (t : Fin (cfgM m).N) (y : Fin 3) (z : Fin 2) (u : Fin 2048) : (((cfgM m).win 6).blk t).view.emb (ix4 0 y z u) = (ix4 (ln m t) y z u) := by
  blk_ext [index6 m]
  all_goals first | rfl | (show t.val * 1 + 0 = t.val; omega)
theorem blk6 (t : Fin (cfgM m).N) (y : Fin 3) (z : Fin 2) (u : Fin 2048) : iblk m c 6 t (ix4 0 y z u) = V m c main_v5 (ix4 (ln m t) y z u) := congrArg (V m c main_v5) (emb6 m t y z u)
theorem emb7 (t : Fin (cfgM m).N) (x : Fin 30) (y : Fin 576) : (((cfgM m).win 7).blk t).view.emb (ix2 x y) = (ix2 x y) := by
  blk_ext [index7 m]
theorem blk7 (t : Fin (cfgM m).N) (x : Fin 30) (y : Fin 576) : iblk m c 7 t (ix2 x y) = V m c main_arg8 (ix2 x y) := congrArg (V m c main_arg8) (emb7 m t x y)
theorem emb8 (t : Fin (cfgM m).N) (x : Fin 30) (y : Fin 576) : (((cfgM m).win 8).blk t).view.emb (ix2 x y) = (ix2 x y) := by
  blk_ext [index8 m]
theorem blk8 (t : Fin (cfgM m).N) (x : Fin 30) (y : Fin 576) : iblk m c 8 t (ix2 x y) = V m c main_arg9 (ix2 x y) := congrArg (V m c main_arg9) (emb8 m t x y)
theorem emb9 (t : Fin (cfgM m).N) (y : Fin 576) (z : Fin 960) : (((cfgM m).win 9).blk t).view.emb (ix3 0 y z) = (ix3 (ln m t) y z) := by
  blk_ext [index9 m]
  all_goals first | rfl | (show t.val * 1 + 0 = t.val; omega)
theorem blk9 (t : Fin (cfgM m).N) (y : Fin 576) (z : Fin 960) : iblk m c 9 t (ix3 0 y z) = V m c main_arg10 (ix3 (ln m t) y z) := congrArg (V m c main_arg10) (emb9 m t y z)
theorem emb10 (t : Fin (cfgM m).N) (x : Fin 30) (y : Fin 960) : (((cfgM m).win 10).blk t).view.emb (ix2 x y) = (ix2 x y) := by
  blk_ext [index10 m]
theorem blk10 (t : Fin (cfgM m).N) (x : Fin 30) (y : Fin 960) : iblk m c 10 t (ix2 x y) = V m c main_arg11 (ix2 x y) := congrArg (V m c main_arg11) (emb10 m t x y)
theorem emb11 (t : Fin (cfgM m).N) (y : Fin 576) (z : Fin 576) : (((cfgM m).win 11).blk t).view.emb (ix3 0 y z) = (ix3 (ln m t) y z) := by
  blk_ext [index11 m]
  all_goals first | rfl | (show t.val * 1 + 0 = t.val; omega)
theorem blk11 (t : Fin (cfgM m).N) (y : Fin 576) (z : Fin 576) : iblk m c 11 t (ix3 0 y z) = V m c main_v6 (ix3 (ln m t) y z) := congrArg (V m c main_v6) (emb11 m t y z)
theorem emb12 (t : Fin (cfgM m).N) (x : Fin 30) (y : Fin 576) : (((cfgM m).win 12).blk t).view.emb (ix2 x y) = (ix2 x y) := by
  blk_ext [index12 m]
theorem blk12 (t : Fin (cfgM m).N) (x : Fin 30) (y : Fin 576) : iblk m c 12 t (ix2 x y) = V m c main_arg13 (ix2 x y) := congrArg (V m c main_arg13) (emb12 m t x y)
theorem emb13 (t : Fin (cfgM m).N) (y : Fin 576) (z : Fin 3072) : (((cfgM m).win 13).blk t).view.emb (ix3 0 y z) = (ix3 (ln m t) y z) := by
  blk_ext [index13 m]
  all_goals first | rfl | (show t.val * 1 + 0 = t.val; omega)
theorem blk13 (t : Fin (cfgM m).N) (y : Fin 576) (z : Fin 3072) : iblk m c 13 t (ix3 0 y z) = V m c main_arg14 (ix3 (ln m t) y z) := congrArg (V m c main_arg14) (emb13 m t y z)
theorem emb14 (t : Fin (cfgM m).N) (x : Fin 30) (y : Fin 3072) : (((cfgM m).win 14).blk t).view.emb (ix2 x y) = (ix2 x y) := by
  blk_ext [index14 m]
theorem blk14 (t : Fin (cfgM m).N) (x : Fin 30) (y : Fin 3072) : iblk m c 14 t (ix2 x y) = V m c main_arg15 (ix2 x y) := congrArg (V m c main_arg15) (emb14 m t x y)
theorem emb15 (t : Fin (cfgM m).N) (y : Fin 576) (z : Fin 1536) : (((cfgM m).win 15).blk t).view.emb (ix3 0 y z) = (ix3 (ln m t) y z) := by
  blk_ext [index15 m]
  all_goals first | rfl | (show t.val * 1 + 0 = t.val; omega)
theorem blk15 (t : Fin (cfgM m).N) (y : Fin 576) (z : Fin 1536) : iblk m c 15 t (ix3 0 y z) = V m c main_v7 (ix3 (ln m t) y z) := congrArg (V m c main_v7) (emb15 m t y z)
theorem emb16 (t : Fin (cfgM m).N) (x : Fin 30) (y : Fin 576) : (((cfgM m).win 16).blk t).view.emb (ix2 x y) = (ix2 x y) := by
  blk_ext [index16 m]
theorem blk16 (t : Fin (cfgM m).N) (x : Fin 30) (y : Fin 576) : iblk m c 16 t (ix2 x y) = V m c main_arg17 (ix2 x y) := congrArg (V m c main_arg17) (emb16 m t x y)
theorem emb17 (t : Fin (cfgM m).N) (y : Fin 192) (z : Fin 576) : (((cfgM m).win 17).blk t).view.emb (ix3 0 y z) = (ix3 (ln m t) y z) := by
  blk_ext [index17 m]
  all_goals first | rfl | (show t.val * 1 + 0 = t.val; omega)
theorem emb18 (t : Fin (cfgM m).N) (y : Fin 2) (z : Fin 9) (u : Fin 64) (v : Fin 96) : (((cfgM m).win 18).blk t).view.emb (ix5 0 y z u v) = (ix5 (ln m t) y z u v) := by
  blk_ext [index18 m]
  all_goals first | rfl | (show t.val * 1 + 0 = t.val; omega)
theorem emb19 (t : Fin (cfgM m).N) (y : Fin 2) (z : Fin 3) (u : Fin 64) (v : Fin 96) : (((cfgM m).win 19).blk t).view.emb (ix5 0 y z u v) = (ix5 (ln m t) y z u v) := by
  blk_ext [index19 m]
  all_goals first | rfl | (show t.val * 1 + 0 = t.val; omega)
theorem emb20 (t : Fin (cfgM m).N) (y : Fin 3) (z : Fin 2) (u : Fin 96) : (((cfgM m).win 20).blk t).view.emb (ix4 0 y z u) = (ix4 (ln m t) y z u) := by
  blk_ext [index20 m]
  all_goals first | rfl | (show t.val * 1 + 0 = t.val; omega)
theorem emb21 (t : Fin (cfgM m).N) (y : Fin 2) (z : Fin 3) (u : Fin 64) (v : Fin 96) : (((cfgM m).win 21).blk t).view.emb (ix5 0 y z u v) = (ix5 (ln m t) y z u v) := by
  blk_ext [index21 m]
  all_goals first | rfl | (show t.val * 1 + 0 = t.val; omega)
theorem emb22 (t : Fin (cfgM m).N) (y : Fin 3) (z : Fin 2) (u : Fin 96) : (((cfgM m).win 22).blk t).view.emb (ix4 0 y z u) = (ix4 (ln m t) y z u) := by
  blk_ext [index22 m]
  all_goals first | rfl | (show t.val * 1 + 0 = t.val; omega)

end Cert.LayersIdeal.Hand

end
-- ==== Proof.LayersIdealChain.lean ====
/-
  The decoder layers one after another in the kernel: each layer's buffers hold the plain layer's inputs, and each output
  array holds what the plain layers leave.
-/
module

public import proofs.«01_k».proof.Proof.LayersIdealBlocks

@[expose] public section

set_option maxRecDepth 65536
set_option maxHeartbeats 400000

noncomputable section

namespace Cert.LayersIdeal.Hand

open Cert.LayersIdeal Cert.LayersIdeal.Gen Cert.LayersMath
open Idealize.ShloMosaic Idealize.ShloMosaic.TcCoe Idealize.ShloMosaic.Tactic

/-! ## Where the body's rectangles lie -/

theorem off1_val : ∀ t : Fin grid0.N, k0_off1 (grid0.coords t) = ![t.val, 0] := by decide +kernel
theorem off2_val : ∀ t : Fin grid0.N, k0_off2 (grid0.coords t) = ![t.val, 0] := by decide +kernel
theorem offGU_val : ∀ (t : Fin grid0.N) (j : Fin 12), offGU (grid0.coords t) j = ![t.val, 256 * j.val] := by decide +kernel
theorem off3_val : ∀ t : Trip, k0_off3 t = ![t.val] := by decide +kernel

theorem idxRow (t : Fin grid0.N) (h : t.val < 30) (k : Fin 576) : (row576 (grid0.coords t)).toLoadRect.idx (ix2 0 k) = ix2 ⟨t.val, h⟩ k := by
  funext a
  refine Fin.ext ((emb_val _ _ _ _ a).trans ?_)
  refine (congrArg (fun q : ℕ => q + _) (congrFun (off1_val t) a)).trans ?_
  fin_cases a
  · rfl
  · exact Nat.zero_add _
theorem idxRow960 (t : Fin grid0.N) (h : t.val < 30) (k : Fin 960) : (row960 (grid0.coords t)).toLoadRect.idx (ix2 0 k) = ix2 ⟨t.val, h⟩ k := by
  funext a
  refine Fin.ext ((emb_val _ _ _ _ a).trans ?_)
  refine (congrArg (fun q : ℕ => q + _) (congrFun (off2_val t) a)).trans ?_
  fin_cases a
  · rfl
  · exact Nat.zero_add _
theorem idxRowGU (t : Fin grid0.N) (h : t.val < 30) (j : Fin 12) (n : Fin 256) : (rowGU (grid0.coords t) j).toLoadRect.idx (ix2 0 n) = ix2 ⟨t.val, h⟩ ⟨256 * j.val + n.val, by omega⟩ := by
  funext a
  refine Fin.ext ((emb_val _ _ _ _ a).trans ?_)
  refine (congrArg (fun q : ℕ => q + _) (congrFun (offGU_val t j) a)).trans ?_
  fin_cases a <;> rfl
theorem idxGU (j : Fin 12) (k : Fin 576) (n : Fin 256) : (rGU j).toLoadRect.idx (ix3 0 k n) = ix3 0 k ⟨256 * j.val + n.val, by omega⟩ := by
  funext a
  refine Fin.ext ((emb_val _ _ _ _ a).trans ?_)
  fin_cases a
  · rfl
  · exact Nat.zero_add _
  · rfl
theorem idxCS (b : Fin 2) (d : Fin 32) (s : Fin 96) : (rCS b).toLoadRect.idx (ix3 0 d s) = ix3 b d s := by
  funext a
  refine Fin.ext ((emb_val _ _ _ _ a).trans ?_)
  fin_cases a
  · rfl
  · exact Nat.zero_add _
  · exact Nat.zero_add _
theorem idxCos (b : Fin 2) (s : Fin 96) (l : Fin 128) : (rCos b).toLoadRect.idx (ix3 0 s l) = ix3 b s l := by
  funext a
  refine Fin.ext ((emb_val _ _ _ _ a).trans ?_)
  fin_cases a
  · rfl
  · exact Nat.zero_add _
  · exact Nat.zero_add _
theorem idxT (t : Trip) (k : Fin 3) (j : Fin 8) (d : Fin 64) (y : Fin 256) : (rT t k j).toLoadRect.idx (ix5 0 0 0 d y) = ix5 0 (tf t) k d ⟨256 * j.val + y.val, by omega⟩ := by
  funext a
  refine Fin.ext ((emb_val _ _ _ _ a).trans ?_)
  fin_cases a
  · rfl
  · show bIx t + 0 = t.val; rw [bIx_eq]; rfl
  · rfl
  · exact Nat.zero_add _
  · rfl
theorem idxS (t : Trip) (k : Fin 3) (j : Fin 8) (y : Fin 256) : (rS t k j).toLoadRect.idx (ix4 0 0 0 y) = ix4 0 k (tf t) ⟨256 * j.val + y.val, by omega⟩ := by
  funext a
  refine Fin.ext ((emb_val _ _ _ _ a).trans ?_)
  fin_cases a
  · rfl
  · rfl
  · show bIx t + 0 = t.val; rw [bIx_eq]; rfl
  · rfl
theorem zeros2 : ∀ a : Fin 2, (![0, 0] : Fin 2 → ℕ) a = 0 := by decide
theorem zeros3 : ∀ a : Fin 3, (![0, 0, 0] : Fin 3 → ℕ) a = 0 := by decide

theorem lenAt_apply (X : S2.Idx → BitVec 32) (t : Trip) : lenAt X t = X (ix1 (tf t)) := by
  refine congrArg X (funext fun a => Fin.ext ((emb_val _ _ _ _ a).trans ?_))
  refine (congrArg (fun q : ℕ => q + _) (congrFun (off3_val t) a)).trans ?_
  fin_cases a
  rfl

variable (m : (ℓ : Loc nD τ sig) → Buf (Elt Ideal) ℓ) (c : Dev nD)

/-! ## The angles' tables are made once -/

theorem ch_cosS : ∀ n, ch m c n .cosS = initM (inp m c (pt m 0)) .cosS
  | 0 => rfl
  | n + 1 => (show ch m c (n + 1) .cosS = ch m c n .cosS from rfl).trans (ch_cosS n)
theorem ch_sinS : ∀ n, ch m c n .sinS = initM (inp m c (pt m 0)) .sinS
  | 0 => rfl
  | n + 1 => (show ch m c (n + 1) .sinS = ch m c n .sinS from rfl).trans (ch_sinS n)

theorem inp_cos (t : Fin (cfgM m).N) (b : Fin 2) (d : Fin 32) (s : Fin 96) : (rd (inp m c t) .cos (rCS b) : FVec Ideal S1x32x96 .f32) (ix3 0 d s) = (kargs m c).cos b s d :=
  (congrArg (iblk m c 1 t) (idxCS b d s)).trans ((blk1 m c t b d s).trans ((congrFun (V_v0 m c) _).trans (trCS _ b d s)))
theorem inp_sin (t : Fin (cfgM m).N) (b : Fin 2) (d : Fin 32) (s : Fin 96) : (rd (inp m c t) .sin (rCS b) : FVec Ideal S1x32x96 .f32) (ix3 0 d s) = (kargs m c).sin b s d :=
  (congrArg (iblk m c 2 t) (idxCS b d s)).trans ((blk2 m c t b d s).trans ((congrFun (V_v1 m c) _).trans (trCS _ b d s)))

/-! ## A layer's inputs -/

theorem KR_layer (hpos : ∀ b, 0 ≤ ((kargs m c).len b).toInt) (t : Fin (cfgM m).N) (a : St Ideal) (r : Fin 2 → Fin 96 → Fin 576 → EReal)
    (hin : ∀ b, isIn b = true → a b = inp m c t b)
    (hr : ∀ (b : Fin 2) (s : Fin 96) k, (a .r : FVec Ideal S192x576 .f32) (ix2 ⟨96 * b.val + s.val, by omega⟩ k) = r b s k)
    (hc : a .cosS = initM (inp m c (pt m 0)) .cosS) (hs : a .sinS = initM (inp m c (pt m 0)) .sinS) :
    KR (grid0.coords t) (XM m) a (lay (kargs m c) (ln m t)) r where
  len u := by
    refine (lenAt_apply (XM m) u).trans ?_
    obtain rfl : c = 0 := Subsingleton.elim _ _
    exact congrFun (V_arg m 0 main_arg0 (by decide)) _
  pos := hpos
  res b s k := (congrArg (a .r) (whole_emb _ _ zeros2 _)).trans (hr b s k)
  an k := (congrFun (hin .an rfl) _).trans ((congrArg (iblk m c 7 t) (idxRow t (ln m t).isLt k)).trans ((blk7 m c t _ k).trans (congrFun (V_arg m c main_arg8 (by decide)) _)))
  mn k := (congrFun (hin .mn rfl) _).trans ((congrArg (iblk m c 8 t) (idxRow t (ln m t).isLt k)).trans ((blk8 m c t _ k).trans (congrFun (V_arg m c main_arg9 (by decide)) _)))
  wqkv k n := (congrFun (hin .wqkv rfl) _).trans ((congrArg (iblk m c 9 t) (whole_emb _ _ zeros3 _)).trans ((blk9 m c t k n).trans (congrFun (V_arg m c main_arg10 (by decide)) _)))
  sqkv n := (congrFun (hin .sqkv rfl) _).trans ((congrArg (iblk m c 10 t) (idxRow960 t (ln m t).isLt n)).trans ((blk10 m c t _ n).trans (congrFun (V_arg m c main_arg11 (by decide)) _)))
  wo k n := (congrFun (hin .wo rfl) _).trans ((congrArg (iblk m c 11 t) (whole_emb _ _ zeros3 _)).trans ((blk11 m c t k n).trans ((congrFun (V_v6 m c) _).trans (rsW _ _ k n))))
  so n := (congrFun (hin .so rfl) _).trans ((congrArg (iblk m c 12 t) (idxRow t (ln m t).isLt n)).trans ((blk12 m c t _ n).trans (congrFun (V_arg m c main_arg13 (by decide)) _)))
  wgu j k n := (congrFun (hin .wgu rfl) _).trans ((congrArg (iblk m c 13 t) (idxGU j k n)).trans ((blk13 m c t k _).trans (congrFun (V_arg m c main_arg14 (by decide)) _)))
  sgu j n := (congrFun (hin .sgu rfl) _).trans ((congrArg (iblk m c 14 t) (idxRowGU t (ln m t).isLt j n)).trans ((blk14 m c t _ _).trans (congrFun (V_arg m c main_arg15 (by decide)) _)))
  wd k n := (congrFun (hin .wd rfl) _).trans ((congrArg (iblk m c 15 t) (whole_emb _ _ zeros3 _)).trans ((blk15 m c t n k).trans ((congrFun (V_v7 m c) _).trans (trD _ _ n k))))
  sd n := (congrFun (hin .sd rfl) _).trans ((congrArg (iblk m c 16 t) (idxRow t (ln m t).isLt n)).trans ((blk16 m c t _ n).trans (congrFun (V_arg m c main_arg17 (by decide)) _)))
  cos b d s := (congrFun (hin .cos rfl) _).trans (inp_cos m c t b d s)
  sin b d s := (congrFun (hin .sin rfl) _).trans (inp_sin m c t b d s)
  cosS b s l := by
    refine (congrFun hc _).trans ((congrArg (initM (inp m c (pt m 0)) .cosS) (idxCos b s l)).trans ?_)
    show cosTile (F := Ideal) (rd (inp m c (pt m 0)) .cos (rCS b) : FVec Ideal S1x32x96 .f32) (ValueIdx.ix3 0 s l) = _
    rw [← ix3_eq_valueIdx]
    exact (cosTile_apply _ s l).trans (inp_cos m c _ b _ s)
  sinS b s l := by
    refine (congrFun hs _).trans ((congrArg (initM (inp m c (pt m 0)) .sinS) (idxCos b s l)).trans ?_)
    show sinTile (F := Ideal) (rd (inp m c (pt m 0)) .sin (rCS b) : FVec Ideal S1x32x96 .f32) (ValueIdx.ix3 0 s l) = _
    rw [← ix3_eq_valueIdx]
    refine (sinTile_apply _ s l).trans ?_
    rw [inp_sin m c _ b _ s]
    rfl
  kt u k j d y := (congrFun (hin .kt rfl) _).trans ((congrArg (iblk m c 3 t) (idxT u k j d y)).trans ((blk3 m c t _ _ _ _).trans ((congrFun (V_v2 m c) _).trans (trK _ _ _ _ _ _))))
  vt u k j d y := (congrFun (hin .vt rfl) _).trans ((congrArg (iblk m c 5 t) (idxT u k j d y)).trans ((blk5 m c t _ _ _ _).trans ((congrFun (V_v4 m c) _).trans (trK _ _ _ _ _ _))))
  ks u k j y := (congrFun (hin .ks rfl) _).trans ((congrArg (iblk m c 4 t) (idxS u k j y)).trans ((blk4 m c t _ _ _).trans ((congrFun (V_v3 m c) _).trans (trS _ _ _ _ _))))
  vs u k j y := (congrFun (hin .vs rfl) _).trans ((congrArg (iblk m c 6 t) (idxS u k j y)).trans ((blk6 m c t _ _ _).trans ((congrFun (V_v5 m c) _).trans (trS _ _ _ _ _))))

theorem KR_zero (hpos : ∀ b, 0 ≤ ((kargs m c).len b).toInt) (t : Fin (cfgM m).N) (h0 : t.val = 0) :
    KR (grid0.coords t) (XM m) (ch m c 0) (lay (kargs m c) (ln m t)) (stream (kargs m c) 0) := by
  have ht : pt m 0 = t := by rw [← h0]; exact pt_val m t
  refine KR_layer m c hpos t _ _ (fun b hb => (ch_in m c 0 b hb).trans (by rw [ht])) (fun b s k => ?_) rfl rfl
  refine (castR (rd (inp m c (pt m 0)) .r0 wS192x576 : FVec Ideal S192x576 .f32) ⟨96 * b.val + s.val, by omega⟩ k).trans ?_
  refine (congrArg (iblk m c 0 (pt m 0)) (whole_emb _ _ zeros2 _)).trans ((blk0 m c _ _ k).trans ((congrFun (V_arg m c main_arg1 (by decide)) _).trans ?_))
  show (kargs m c).r0 ⟨96 * b.val + s.val, _⟩ k = (kargs m c).r0 ⟨b.val * 96 + s.val, _⟩ k
  exact congrArg (fun q => (kargs m c).r0 q k) (Fin.ext (by show 96 * b.val + s.val = b.val * 96 + s.val; omega))

/-- Every layer finds its plain inputs. -/
theorem KR_at (hpos : ∀ b, 0 ≤ ((kargs m c).len b).toInt) : ∀ (n : ℕ) (t : Fin (cfgM m).N), t.val = n →
    KR (grid0.coords t) (XM m) (ch m c n) (lay (kargs m c) (ln m t)) (stream (kargs m c) n)
  | 0, t, h => KR_zero m c hpos t h
  | n + 1, t, h => by
    have hn : n < (cfgM m).N := lt_trans (by rw [h]; exact Nat.lt_succ_self n) t.isLt
    have ht : pt m (n + 1) = t := by rw [← h]; exact pt_val m t
    have hp : pt m n = ⟨n, hn⟩ := pt_val m ⟨n, hn⟩
    have H := KR_at hpos n ⟨n, hn⟩ rfl
    refine KR_layer m c hpos t _ _ (fun b hb => (ch_in m c (n + 1) b hb).trans (by rw [ht])) (fun b s k => ?_) (ch_cosS m c (n + 1)) (ch_sinS m c (n + 1))
    show shapeCast S192x576 (projV (grid0.coords (pt m n)) (model (grid0.coords (pt m n)) (XM m) (ch m c n) t1)) shapeCasts_S192x576_S192x576 (ix2 _ k) = _
    rw [hp, castR, projV_apply H b s k]
    exact (congrFun (congrFun (congrFun (stream_succ (kargs m c) (ln m ⟨n, hn⟩)) b) s) k).symm

/-! ## What a layer leaves -/

section Leaves
variable (hpos : ∀ b, 0 ≤ ((kargs m c).len b).toInt) (t : Fin (cfgM m).N)
include hpos

theorem KR_t : KR (grid0.coords (pt m t.val)) (XM m) (ch m c t.val) (lay (kargs m c) (ln m t)) (stream (kargs m c) t.val) := by
  rw [pt_val m t]
  exact KR_at m c hpos t.val t rfl

theorem lv_res (b : Fin 2) (s : Fin 96) (j : Fin 576) : (lv m c t.val .res : FVec Ideal S1x192x576 .f32) (ix3 0 ⟨96 * b.val + s.val, by omega⟩ j) = resO (kargs m c) (ln m t) b s j := by
  refine (castR' _ _ j).trans ((projV_apply (KR_t m c hpos t) b s j).trans ?_)
  exact (congrFun (congrFun (congrFun (stream_succ (kargs m c) (ln m t)) b) s) j).symm
theorem lv_oT (b : Fin 2) (h : Fin 9) (d : Fin 64) (s : Fin 96) : (lv m c t.val .oT : FVec Ideal S1x2x9x64x96 .f32) (ix5 0 b h d s) = oO (kargs m c) (ln m t) b s h d :=
  oTM_apply (KR_t m c hpos t) b h d s
theorem lv_kc (b : Fin 2) (k : Fin 3) (d : Fin 64) (s : Fin 96) : (lv m c t.val .kc : IVec S1x2x3x64x96 8) (ix5 0 b k d s) = Ideal.fptosi 8 (kcO (kargs m c) (ln m t) b s k d) :=
  (codeM_apply _ b k d s).trans (congrArg (fun f => Ideal.fptosi 8 (cds f d)) (funext fun d => kV_apply (KR_t m c hpos t) b k d s))
theorem lv_kcs (k : Fin 3) (b : Fin 2) (s : Fin 96) : (lv m c t.val .kcs : FVec Ideal S1x3x2x96 .f32) (ix4 0 k b s) = kcsO (kargs m c) (ln m t) b s k :=
  (scaleM_apply _ k b s).trans (congrArg scl (funext fun d => kV_apply (KR_t m c hpos t) b k d s))
theorem lv_vc (b : Fin 2) (k : Fin 3) (d : Fin 64) (s : Fin 96) : (lv m c t.val .vc : IVec S1x2x3x64x96 8) (ix5 0 b k d s) = Ideal.fptosi 8 (vcO (kargs m c) (ln m t) b s k d) :=
  (codeM_apply _ b k d s).trans (congrArg (fun f => Ideal.fptosi 8 (cds f d)) (funext fun d => vV_apply (KR_t m c hpos t) b k d s))
theorem lv_vcs (k : Fin 3) (b : Fin 2) (s : Fin 96) : (lv m c t.val .vcs : FVec Ideal S1x3x2x96 .f32) (ix4 0 k b s) = vcsO (kargs m c) (ln m t) b s k :=
  (scaleM_apply _ k b s).trans (congrArg scl (funext fun d => vV_apply (KR_t m c hpos t) b k d s))

end Leaves

end Cert.LayersIdeal.Hand

end
-- ==== Proof.LayersIdealValue.lean ====
/-
  The six arrays the layers' kernel leaves, each at an index, as the plain layers' results.
-/
module

public import proofs.«01_k».proof.Proof.LayersIdealChain

@[expose] public section

set_option maxRecDepth 65536
set_option maxHeartbeats 400000

noncomputable section

namespace Cert.LayersIdeal.Hand

open Cert.LayersIdeal Cert.LayersIdeal.Gen Cert.LayersMath
open Idealize.ShloMosaic Idealize.ShloMosaic.TcCoe Idealize.ShloMosaic.Tactic
open Idealize.ShloMosaic.Pipeline (Dat Cfg Window)

/-! ## An index whose first coordinate has one value -/

theorem one_ix3 {a b : ℕ} (y : (⟨3, ![1, a, b]⟩ : Shape).Idx) : y = ix3 0 (y 1) (y 2) :=
  (eq_ix3 y).trans (congrArg (fun o : Fin 1 => ix3 o (y 1) (y 2)) (Subsingleton.elim (α := Fin 1) (y 0) 0))
theorem one_ix4 {a b d : ℕ} (y : (⟨4, ![1, a, b, d]⟩ : Shape).Idx) : y = ix4 0 (y 1) (y 2) (y 3) :=
  (eq_ix4 y).trans (congrArg (fun o : Fin 1 => ix4 o (y 1) (y 2) (y 3)) (Subsingleton.elim (α := Fin 1) (y 0) 0))
theorem one_ix5 {a b d e : ℕ} (y : (⟨5, ![1, a, b, d, e]⟩ : Shape).Idx) : y = ix5 0 (y 1) (y 2) (y 3) (y 4) :=
  (eq_ix5 y).trans (congrArg (fun o : Fin 1 => ix5 o (y 1) (y 2) (y 3) (y 4)) (Subsingleton.elim (α := Fin 1) (y 0) 0))

/-! ## The results, as arrays -/

/-- A row's sequence. -/
def rowB (q : Fin 192) : Fin 2 := ⟨q.val / 96, by have := q.isLt; omega⟩
/-- A row's place in its sequence. -/
def rowS (q : Fin 192) : Fin 96 := ⟨q.val % 96, Nat.mod_lt _ (by decide)⟩

/-- The residuals after each layer, as 192 rows. -/
def resA (A : Args) : FVec Ideal S30x192x576 .f32 := fun x => resO A (x 0) (rowB (x 1)) (rowS (x 1)) (x 2)
/-- The attention's outputs. -/
def oA (A : Args) : FVec Ideal S30x2x9x64x96 .f32 := fun x => oO A (x 0) (x 1) (x 4) (x 2) (x 3)
/-- The keys' codes. -/
def kcA (A : Args) : IVec S30x2x3x64x96 8 := fun x => Ideal.fptosi 8 (kcO A (x 0) (x 1) (x 4) (x 2) (x 3))
/-- The keys' scales. -/
def kcsA (A : Args) : FVec Ideal S30x3x2x96 .f32 := fun x => kcsO A (x 0) (x 2) (x 3) (x 1)
/-- The values' codes. -/
def vcA (A : Args) : IVec S30x2x3x64x96 8 := fun x => Ideal.fptosi 8 (vcO A (x 0) (x 1) (x 4) (x 2) (x 3))
/-- The values' scales. -/
def vcsA (A : Args) : FVec Ideal S30x3x2x96 .f32 := fun x => vcsO A (x 0) (x 2) (x 3) (x 1)

variable (m : (ℓ : Loc nD τ sig) → Buf (Elt Ideal) ℓ) (c : Dev nD)

theorem covers17 : ((cfgM m).win 17).Covers := (by decide +kernel : (win0 adm0 17).Covers)
theorem covers18 : ((cfgM m).win 18).Covers := (by decide +kernel : (win0 adm0 18).Covers)
theorem covers19 : ((cfgM m).win 19).Covers := (by decide +kernel : (win0 adm0 19).Covers)
theorem covers20 : ((cfgM m).win 20).Covers := (by decide +kernel : (win0 adm0 20).Covers)
theorem covers21 : ((cfgM m).win 21).Covers := (by decide +kernel : (win0 adm0 21).Covers)
theorem covers22 : ((cfgM m).win 22).Covers := (by decide +kernel : (win0 adm0 22).Covers)

/-! ## The blocks a layer writes -/

def o17 (t : Fin (cfgM m).N) : FVec Ideal S1x192x576 .f32 := lv m c t.val .res
theorem after17 (t : Fin (cfgM m).N) : (dats m 0 c).after 17 t = o17 m c t := by dsimp only [dats]; try rfl
def o18 (t : Fin (cfgM m).N) : FVec Ideal S1x2x9x64x96 .f32 := lv m c t.val .oT
theorem after18 (t : Fin (cfgM m).N) : (dats m 0 c).after 18 t = o18 m c t := by dsimp only [dats]; try rfl
def o19 (t : Fin (cfgM m).N) : IVec S1x2x3x64x96 8 := lv m c t.val .kc
theorem after19 (t : Fin (cfgM m).N) : (dats m 0 c).after 19 t = o19 m c t := by dsimp only [dats]; try rfl
def o20 (t : Fin (cfgM m).N) : FVec Ideal S1x3x2x96 .f32 := lv m c t.val .kcs
theorem after20 (t : Fin (cfgM m).N) : (dats m 0 c).after 20 t = o20 m c t := by dsimp only [dats]; try rfl
def o21 (t : Fin (cfgM m).N) : IVec S1x2x3x64x96 8 := lv m c t.val .vc
theorem after21 (t : Fin (cfgM m).N) : (dats m 0 c).after 21 t = o21 m c t := by dsimp only [dats]; try rfl
def o22 (t : Fin (cfgM m).N) : FVec Ideal S1x3x2x96 .f32 := lv m c t.val .vcs
theorem after22 (t : Fin (cfgM m).N) : (dats m 0 c).after 22 t = o22 m c t := by dsimp only [dats]; try rfl

section Rows
variable (hpos : ∀ b, 0 ≤ ((kargs m c).len b).toInt) (t : Fin (cfgM m).N)
include hpos

theorem o17_row (q : Fin 192) (j : Fin 576) : o17 m c t (ix3 0 q j) = resA (kargs m c) (ix3 (ln m t) q j) := by
  have e : (⟨96 * (rowB q).val + (rowS q).val, by have := (rowB q).isLt; have := (rowS q).isLt; omega⟩ : Fin 192) = q := Fin.ext (Nat.div_add_mod q.val 96)
  exact (congrArg (fun o : Fin 192 => o17 m c t (ix3 0 o j)) e).symm.trans (lv_res m c hpos t _ _ j)
theorem o18_row (b : Fin 2) (h : Fin 9) (d : Fin 64) (s : Fin 96) : o18 m c t (ix5 0 b h d s) = oA (kargs m c) (ix5 (ln m t) b h d s) := lv_oT m c hpos t b h d s
theorem o19_row (b : Fin 2) (h : Fin 3) (d : Fin 64) (s : Fin 96) : o19 m c t (ix5 0 b h d s) = kcA (kargs m c) (ix5 (ln m t) b h d s) := lv_kc m c hpos t b h d s
theorem o20_row (h : Fin 3) (b : Fin 2) (s : Fin 96) : o20 m c t (ix4 0 h b s) = kcsA (kargs m c) (ix4 (ln m t) h b s) := lv_kcs m c hpos t h b s
theorem o21_row (b : Fin 2) (h : Fin 3) (d : Fin 64) (s : Fin 96) : o21 m c t (ix5 0 b h d s) = vcA (kargs m c) (ix5 (ln m t) b h d s) := lv_vc m c hpos t b h d s
theorem o22_row (h : Fin 3) (b : Fin 2) (s : Fin 96) : o22 m c t (ix4 0 h b s) = vcsA (kargs m c) (ix4 (ln m t) h b s) := lv_vcs m c hpos t h b s

end Rows

attribute [local irreducible] o17 o18 o19 o20 o21 o22

variable (hpos : ∀ b, 0 ≤ ((kargs m c).len b).toInt)
include hpos

/-! ## The arrays -/

theorem arr17 : (dats m 0 c).arrAt 17 (cfgM m).N = resA (kargs m c) := by
  refine (dats m 0 c).arrAt_eq_of_covers 17 _ (covers17 m) fun t hf y => ?_
  blk_simp
  rw [after17]
  suffices key : ∀ (q : Fin 192) (j : Fin 576), o17 m c t (ix3 0 q j) = resA (kargs m c) ((((cfgM m).win 17).blk t).view.emb (ix3 0 q j)) by
    exact (congrArg (o17 m c t) (one_ix3 y)).trans ((key _ _).trans (congrArg (fun z => resA (kargs m c) ((((cfgM m).win 17).blk t).view.emb z)) (one_ix3 y).symm))
  intro q j
  rw [emb17]
  exact o17_row m c hpos t q j
theorem arr18 : (dats m 0 c).arrAt 18 (cfgM m).N = oA (kargs m c) := by
  refine (dats m 0 c).arrAt_eq_of_covers 18 _ (covers18 m) fun t hf y => ?_
  blk_simp
  rw [after18]
  suffices key : ∀ (b : Fin 2) (h : Fin 9) (d : Fin 64) (s : Fin 96), o18 m c t (ix5 0 b h d s) = oA (kargs m c) ((((cfgM m).win 18).blk t).view.emb (ix5 0 b h d s)) by
    exact (congrArg (o18 m c t) (one_ix5 y)).trans ((key _ _ _ _).trans (congrArg (fun z => oA (kargs m c) ((((cfgM m).win 18).blk t).view.emb z)) (one_ix5 y).symm))
  intro b h d s
  rw [emb18]
  exact o18_row m c hpos t b h d s
theorem arr19 : (dats m 0 c).arrAt 19 (cfgM m).N = kcA (kargs m c) := by
  refine (dats m 0 c).arrAt_eq_of_covers 19 _ (covers19 m) fun t hf y => ?_
  blk_simp
  rw [after19]
  suffices key : ∀ (b : Fin 2) (h : Fin 3) (d : Fin 64) (s : Fin 96), o19 m c t (ix5 0 b h d s) = kcA (kargs m c) ((((cfgM m).win 19).blk t).view.emb (ix5 0 b h d s)) by
    exact (congrArg (o19 m c t) (one_ix5 y)).trans ((key _ _ _ _).trans (congrArg (fun z => kcA (kargs m c) ((((cfgM m).win 19).blk t).view.emb z)) (one_ix5 y).symm))
  intro b h d s
  rw [emb19]
  exact o19_row m c hpos t b h d s
theorem arr20 : (dats m 0 c).arrAt 20 (cfgM m).N = kcsA (kargs m c) := by
  refine (dats m 0 c).arrAt_eq_of_covers 20 _ (covers20 m) fun t hf y => ?_
  blk_simp
  rw [after20]
  suffices key : ∀ (h : Fin 3) (b : Fin 2) (s : Fin 96), o20 m c t (ix4 0 h b s) = kcsA (kargs m c) ((((cfgM m).win 20).blk t).view.emb (ix4 0 h b s)) by
    exact (congrArg (o20 m c t) (one_ix4 y)).trans ((key _ _ _).trans (congrArg (fun z => kcsA (kargs m c) ((((cfgM m).win 20).blk t).view.emb z)) (one_ix4 y).symm))
  intro h b s
  rw [emb20]
  exact o20_row m c hpos t h b s
theorem arr21 : (dats m 0 c).arrAt 21 (cfgM m).N = vcA (kargs m c) := by
  refine (dats m 0 c).arrAt_eq_of_covers 21 _ (covers21 m) fun t hf y => ?_
  blk_simp
  rw [after21]
  suffices key : ∀ (b : Fin 2) (h : Fin 3) (d : Fin 64) (s : Fin 96), o21 m c t (ix5 0 b h d s) = vcA (kargs m c) ((((cfgM m).win 21).blk t).view.emb (ix5 0 b h d s)) by
    exact (congrArg (o21 m c t) (one_ix5 y)).trans ((key _ _ _ _).trans (congrArg (fun z => vcA (kargs m c) ((((cfgM m).win 21).blk t).view.emb z)) (one_ix5 y).symm))
  intro b h d s
  rw [emb21]
  exact o21_row m c hpos t b h d s
theorem arr22 : (dats m 0 c).arrAt 22 (cfgM m).N = vcsA (kargs m c) := by
  refine (dats m 0 c).arrAt_eq_of_covers 22 _ (covers22 m) fun t hf y => ?_
  blk_simp
  rw [after22]
  suffices key : ∀ (h : Fin 3) (b : Fin 2) (s : Fin 96), o22 m c t (ix4 0 h b s) = vcsA (kargs m c) ((((cfgM m).win 22).blk t).view.emb (ix4 0 h b s)) by
    exact (congrArg (o22 m c t) (one_ix4 y)).trans ((key _ _ _).trans (congrArg (fun z => vcsA (kargs m c) ((((cfgM m).win 22).blk t).view.emb z)) (one_ix4 y).symm))
  intro h b s
  rw [emb22]
  exact o22_row m c hpos t h b s

end Cert.LayersIdeal.Hand

end
-- ==== Proof.LayersEq.lean ====
/-
  The layers' reference and kernel, side by side: the reference's results as the same six arrays, of the same arguments.
-/
module

public import proofs.«01_k».proof.Proof.LayersRefIter
public import proofs.«01_k».proof.Proof.LayersIdealValue

@[expose] public section

noncomputable section

namespace Cert.LayersRefIdeal.Hand

open Cert.LayersRefIdeal Cert.LayersRefIdeal.Value Cert.LayersMath
open Cert.LayersIdeal.Hand (resA oA kcA kcsA vcA vcsA kargs)
open Idealize.ShloMosaic Idealize.ShloMosaic.TcCoe

variable (m : (ℓ : Loc nD τ sig) → Buf (Elt Ideal) ℓ) (c : Dev nD)

theorem v24_arr : (out_main_v24 (It m c 30) : FVec Ideal S30x192x576 .f32) = resA (args m c) := by
  funext y
  refine (congrArg (out_main_v24 (It m c 30) : FVec Ideal S30x192x576 .f32) (eq_ix3 y)).trans ((v24_eq m c _ _ _).trans ?_)
  rfl
theorem v25_arr : (out_main_v25 (It m c 30) : FVec Ideal S30x2x9x64x96 .f32) = oA (args m c) := by
  funext y
  refine (congrArg (out_main_v25 (It m c 30) : FVec Ideal S30x2x9x64x96 .f32) (eq_ix5 y)).trans ((v25_eq m c _ _ _ _ _).trans ?_)
  rfl
theorem v28_arr : (out_main_v28 (It m c 30) : IVec S30x2x3x64x96 8) = kcA (args m c) := by
  funext y
  refine (congrArg (out_main_v28 (It m c 30) : IVec S30x2x3x64x96 8) (eq_ix5 y)).trans ((v28_eq m c _ _ _ _ _).trans ?_)
  rfl
theorem v29_arr : (out_main_v29 (It m c 30) : FVec Ideal S30x3x2x96 .f32) = kcsA (args m c) := by
  funext y
  refine (congrArg (out_main_v29 (It m c 30) : FVec Ideal S30x3x2x96 .f32) (eq_ix4 y)).trans ((v29_eq m c _ _ _ _).trans ?_)
  rfl
theorem v32_arr : (out_main_v32 (It m c 30) : IVec S30x2x3x64x96 8) = vcA (args m c) := by
  funext y
  refine (congrArg (out_main_v32 (It m c 30) : IVec S30x2x3x64x96 8) (eq_ix5 y)).trans ((v32_eq m c _ _ _ _ _).trans ?_)
  rfl
theorem v33_arr : (out_main_v33 (It m c 30) : FVec Ideal S30x3x2x96 .f32) = vcsA (args m c) := by
  funext y
  refine (congrArg (out_main_v33 (It m c 30) : FVec Ideal S30x3x2x96 .f32) (eq_ix4 y)).trans ((v33_eq m c _ _ _ _).trans ?_)
  rfl

/-- Plain arguments are equal when each of them is. -/
theorem args_ext {A B : Args} (h0 : A.len = B.len) (h1 : A.r0 = B.r0) (h2 : A.cos = B.cos) (h3 : A.sin = B.sin) (h4 : A.ck = B.ck) (h5 : A.cks = B.cks) (h6 : A.cv = B.cv) (h7 : A.cvs = B.cvs) (h8 : A.an = B.an) (h9 : A.mn = B.mn) (h10 : A.wqkv = B.wqkv) (h11 : A.sqkv = B.sqkv) (h12 : A.wo = B.wo) (h13 : A.so = B.so) (h14 : A.wgu = B.wgu) (h15 : A.sgu = B.sgu) (h16 : A.wd = B.wd) (h17 : A.sd = B.sd) : A = B := by
  cases A; cases B
  cases h0; cases h1; cases h2; cases h3; cases h4; cases h5; cases h6; cases h7; cases h8; cases h9; cases h10; cases h11; cases h12; cases h13; cases h14; cases h15; cases h16; cases h17
  rfl

end Cert.LayersRefIdeal.Hand

end
-- ==== Proof.HeadKit.lean ====
/-
  What the runs of the vocabulary-projection kernel (`Head`) are stated over: the tables and blocks read off the launch
  memory, the operands the pipeline does not stage, and the region's invariant conjunct by conjunct.
-/
module

public import proofs.«01_k».proof.Proof.Gen.Head.Launch
public import proofs.«01_k».proof.Proof.Gen.Head.Skeleton
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic
public import Idealize.ShloMosaic.Lib.Transfers
public import Idealize.ShloMosaic.Lib.WordCmp

@[expose] public section

set_option maxRecDepth 16384

noncomputable section

namespace Cert.Head.Hand

open Cert.Head Cert.Head.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch memory -/

/-- Core `c`'s buffers when the region is entered: as launched (the program is the region alone). -/
abbrev V (c : Dev nD) (b : Ref sig .tc) : Buf (Elt F) ((c : Thread nD τ).loc b) := m ((c : Thread nD τ).loc b)

/-- The program up to the region: the region alone. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The prefetched table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The pipeline at those contents (no window's block index reads the table). -/
abbrev adm : (pcfg0 (F := F)).Adm := ⟨tbl m, trivial⟩
abbrev cfgM : Pipeline.Cfg sig Λ₀ := cfg0 (adm m)

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's staging buffer holds its block at every point. -/
theorem before_of {c : Dev nD} (dat : Dat τ (Elt F) Unit ℕ (Pipeline.UD sig nD τ) ℕ (cfgM m) c) (w : Fin 4) (hw : w = 0 ∨ w = 1 ∨ w = 2)
    (hA : dat.A w = V m c (Pipeline.arrRef spec0 w))
    (hafter : ∀ t, dat.after w t = iblk m c w t) (t : Fin (cfgM m).N) (d) : dat.before w t d = iblk m c w t := by
  rcases hw with rfl | rfl | rfl <;>
  exact (dat.before_in_eq_fetched _ rfl (fun _ => rfl) (fun _ _ _ => rfl) (fun t => by rw [hafter]; unfold Dat.blockOf iblk; rw [hA]; try rfl) t d).trans
    (by unfold Dat.fetched Dat.blockOf iblk; rw [hA]; try rfl)

/-! ## The operands -/

abbrev tbM : Memref sig .tc .smem S2 .i32 := Memref.whole main_arg0
abbrev hbM : Memref sig .tc .hbm S30x192x576 .f32 := Memref.whole main_arg1
abbrev scM : Memref sig .tc .vmem S2x576 .f32 := Memref.whole cc0_scratch0

/-- A memref's buffer held whole, behind `Memref.view`; the table's at half the full share. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The kernel's own DMA semaphore. -/
abbrev osem0 : Fin 1 → SemLoc sig := fun _ => SemLoc.dma cc0_scratch1.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch1.sem) 0) := by
  rw [Pipeline.ownSems0_eq_of_list c osem0 [0] (by decide) (by decide)]; rfl

/-- The array of residuals, left in HBM and only read. -/
def H0 : Finset (Ref sig .tc) := {main_arg1}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt c hbM (V m c main_arg1)) := by
  rw [BI.bigSep_eq_bigSepL_of_eq [main_arg1] (by decide) (by decide)]; rfl

/-- The region's invariant conjunct by conjunct. -/
theorem PhiD_eq (c : Dev nD) :
    (Pipeline.ΦD osem0 spec0 H0 (V m) c : sProp 𝕄)
      = iprop(iprop((∃ d, owns (c : Thread nD τ) scM fullShare d)) ∗ (∃ r, prngReg c r)
          ∗ iprop(semVal ((c : Thread nD τ), SemLoc.dma cc0_scratch1.sem) 0)
          ∗ iprop(hbPt c hbM (V m c main_arg1))) := by
  rw [Pipeline.ΦD_eq, scopedRest0_eq, ownSems00_eq, hbmPts0_eq]; simp only [scM, owns_whole]; try rfl

/-! ## The branch condition -/

abbrev cond0 (i : grid0.Coords) : Prop := k0_cond1 i = 1#1
/-- The rows are gathered at the first point only. -/
theorem hcond0 : ∀ t : Fin grid0.N, cond0 (grid0.coords t) ↔ t.val = 0 := by
  decide +kernel

/-! ## The staging memrefs at a point -/

abbrev ms0 (t : Fin (cfgM m).N) : Memref sig .tc .vmem S1x576 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S576x8192 .i8 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x8192 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S2x8192 .f32 := spec0_3.stage ((cfgM m).slots t 3)
abbrev hs3 (t : Fin (cfgM m).N) : (ms3 m t).IsWhole := hstage0_3 (((cfgM m).slots t 3).cast nbuf0_3)

/-- The kernel body at point `t`, on what the pipeline calls it with. -/
abbrev bodyAt (t : Fin (cfgM m).N) : Prog (TpuEff nD τ sig (Elt F) Λ₀ .tc) PUnit :=
  cc0_logits (grid0.coords t) tbM (Memref.isWhole_whole _) hbM (Memref.isWhole_whole _) (ms0 m t) (hs0 m t) (ms1 m t) (hs1 m t)
    (ms2 m t) (hs2 m t) (ms3 m t) (hs3 m t) scM (Memref.isWhole_whole _) cc0_scratch1

/-- The body table's row at point `t`'s slots is that body. -/
theorem defs₀_row (t : Fin (cfgM m).N) :
    defs₀ (F := F) .tc (cfgM m).body ((cfgM m).bodyArgs t ((cfgM m).slots t)) = bodyAt m t := by
  unfold defs₀; rw [Defs.onTc_tc]

end Cert.Head.Hand

end
-- ==== Proof.HeadBodyA.lean ====
module

public import proofs.«01_k».proof.Proof.HeadKit
public import Idealize.ShloMosaic.Lib.WholeRead
public import Idealize.ShloMosaic.Lib.ValueIdxCore
public import Idealize.ShloMosaic.Lib.ValueLayout

@[expose] public section

set_option maxRecDepth 16384

noncomputable section

namespace Cert.Head.Hand

open Cert.Head Cert.Head.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

variable {F : FTy → Type} [FloatOps F]

local notation "𝕄" => MT nD τ sig Unit (Elt F) ℕ (Pipeline.UD sig nD τ) ℕ

/-- A load of a whole buffer reads its contents. -/
theorem readAt_all {S : Shape} {e : EltTy} {M : Memref sig .tc .vmem S e} (h : M.IsWhole) (X : S.Idx → Elt F e) {off : Fin S.rank → ℕ}
    (inb : ∀ a, off a + S.size a ≤ S.size a) :
    View.readAt (Elt F) M.view (Rect.unit (s := S) off S.size inb).toLoadRect (h.unread X) = X := by
  funext x
  rw [Memref.IsWhole.readAt_unread]
  refine congrArg X (funext fun a => Fin.ext ?_)
  have := inb a
  show off a + 1 * (x a).val = (x a).val
  omega

/-- A store of a whole buffer leaves its payload. -/
theorem read_store_all {S : Shape} {e : EltTy} (v : View sig .tc .vmem S e) (f : v.ty.Contents (Elt F)) {off : Fin S.rank → ℕ}
    (inb : ∀ a, off a + S.size a ≤ S.size a) (w : S.Idx → Elt F e) :
    v.read (Elt F) (v.writes (Elt F) f [⟨Rect.unit (s := S) off S.size inb, w⟩]) = w := by
  funext y
  refine View.read_writes_cons_hit_of_coords v f (Rect.unit (s := S) off S.size inb) w [] y y fun a => ?_
  have := inb a
  show (y a).val = off a + 1 * (y a).val
  omega

/-- The two rows the kernel gathers: row `96·b + last[b]` of the residuals' last plane. -/
def rowsOf (ft : S2.Idx → BitVec 32) (fh : S30x192x576.Idx → Elt F .f32) : S2x576.Idx → Elt F .f32 := fun y =>
  fh (ix3 ⟨29, by decide⟩ ⟨(96 * (y 0).val + (ft (ix1 (y 0))).toNat) % 192, Nat.mod_lt _ (by decide)⟩ (y 1))

/-- One row of the residuals, as a transfer reads it. -/
theorem row_read (fh : S30x192x576.Idx → Elt F .f32) (off : Fin 3 → ℕ) (inb : ∀ a, off a + S1x1x576.size a ≤ S30x192x576.size a) (n : Fin 192)
    (h0 : off 0 = 29) (h1 : off 1 = n.val) (h2 : off 2 = 0)
    (hs : ∀ a, (Rect.unit (s := S30x192x576) off S1x1x576.size inb).stride a = 1) (hq : S1x1x576.Squeezes S1x576) (x : S1x576.Idx) :
    View.read (Elt F) ((hbM.slice (Rect.unit (s := S30x192x576) off S1x1x576.size inb) hs).squeeze S1x576 hq).view fh x
      = fh (ix3 ⟨29, by decide⟩ n (x 1)) := by
  obtain ⟨p, q, rfl⟩ : ∃ p q, x = ix2 p q := ⟨_, _, eq_ix2 x⟩
  show fh ((Rect.unit (s := S30x192x576) off S1x1x576.size inb).emb (Shape.reshapeEquiv hq.numel_eq (ix2 p q))) = _
  have e := reshapeEquiv_ix2_1ab hq.numel_eq p q
  rw [e]
  refine congrArg fh (funext fun a => Fin.ext ?_)
  match a with
  | ⟨0, _⟩ => show off 0 + 1 * 0 = 29; omega
  | ⟨1, _⟩ => have := p.isLt; show off 1 + 1 * p.val = n.val; omega
  | ⟨2, _⟩ => show off 2 + 1 * q.val = q.val; omega

/-- The two rows tile the scratch. -/
theorem rows_cover (w0 w1 : S1x576.Idx → Elt F .f32) (y : S2x576.Idx) :
    ∃ pc ∈ ([⟨Rect.unit ![1, 0] S1x576.size inb_S2x576_S1x576_1_0, w1⟩, ⟨Rect.unit ![0, 0] S1x576.size inb_S2x576_S1x576_0_0, w0⟩] : List (View.Piece (Elt F) S2x576 .f32)), y ∈ pc.1.set :=
  View.cover_of_tiledL (s := S2x576) _ (S1x576.size : Fin 2 → ℕ) (by sl_kernel_rfl) y

/-- A two-row view after one row was written to each of its rows. -/
theorem read_rows (v : View sig .tc .vmem S2x576 .f32) (f : v.ty.Contents (Elt F)) (w0 w1 : S1x576.Idx → Elt F .f32) (G : S2x576.Idx → Elt F .f32)
    (h0 : ∀ x, w0 x = G (ix2 0 (x 1))) (h1 : ∀ x, w1 x = G (ix2 1 (x 1))) :
    v.read (Elt F) (v.writes (Elt F) f [⟨Rect.unit ![1, 0] S1x576.size inb_S2x576_S1x576_1_0, w1⟩, ⟨Rect.unit ![0, 0] S1x576.size inb_S2x576_S1x576_0_0, w0⟩]) = G := by
  have e1 : ∀ x, w1 x = G ((Rect.unit (s := S2x576) ![1, 0] S1x576.size inb_S2x576_S1x576_1_0).emb x) := by
    intro x
    refine (h1 x).trans (congrArg G (funext fun a => Fin.ext ?_))
    fin_cases a
    · have h := (x 0).isLt; show 1 = 1 + 1 * (x 0).val; change (x 0).val < 1 at h; omega
    · show (x 1).val = 0 + 1 * (x 1).val; omega
  have e0 : ∀ x, w0 x = G ((Rect.unit (s := S2x576) ![0, 0] S1x576.size inb_S2x576_S1x576_0_0).emb x) := by
    intro x
    refine (h0 x).trans (congrArg G (funext fun a => Fin.ext ?_))
    fin_cases a
    · have h := (x 0).isLt; show 0 = 0 + 1 * (x 0).val; change (x 0).val < 1 at h; omega
    · show (x 1).val = 0 + 1 * (x 1).val; omega
  funext y
  refine View.read_writes_apply_of_pieces v f G _ ?_ y (rows_cover w0 w1 y)
  intro p hp
  rcases List.mem_cons.1 hp with rfl | hp
  · exact e1
  rcases List.mem_cons.1 hp with rfl | hp
  · exact e0
  exact absurd hp List.not_mem_nil

/-- The scratch is a whole buffer: reading it is its contents. -/
theorem scM_read (g : scM.view.ty.Contents (Elt F)) : scM.view.read (Elt F) g = g := rfl

/-- The scratch after both rows were written. -/
theorem rows_write (f : scM.view.ty.Contents (Elt F)) (w0 w1 : S1x576.Idx → Elt F .f32) (G : S2x576.Idx → Elt F .f32)
    (h0 : ∀ x, w0 x = G (ix2 0 (x 1))) (h1 : ∀ x, w1 x = G (ix2 1 (x 1))) :
    scM.view.writes (Elt F) f [⟨Rect.unit ![1, 0] S1x576.size inb_S2x576_S1x576_1_0, w1⟩, ⟨Rect.unit ![0, 0] S1x576.size inb_S2x576_S1x576_0_0, w0⟩] = G :=
  (scM_read _).symm.trans (read_rows scM.view f w0 w1 G h0 h1)

/-- The load of the whole scratch after both rows were written. -/
theorem rows_load (w0 w1 : S1x576.Idx → Elt F .f32) (G : S2x576.Idx → Elt F .f32)
    (h0 : ∀ x, w0 x = G (ix2 0 (x 1))) (h1 : ∀ x, w1 x = G (ix2 1 (x 1))) :
    scM.view.readCov [⟨Rect.unit ![1, 0] S1x576.size inb_S2x576_S1x576_1_0, w1⟩, ⟨Rect.unit ![0, 0] S1x576.size inb_S2x576_S1x576_0_0, w0⟩]
      (Rect.unit (s := S2x576) ![0, 0] S2x576.size inb_S2x576_S2x576_0_0).toLoadRect = G := by
  funext j
  rw [View.readCov_eq_canon']
  rw [← View.read_writes_junk_eq_canon scM.view, read_rows scM.view _ w0 w1 G h0 h1]
  refine congrArg G (funext fun a => Fin.ext ?_)
  fin_cases a
  · show 0 + 1 * (j 0).val = (j 0).val; omega
  · show 0 + 1 * (j 1).val = (j 1).val; omega

theorem chk1_of (i : grid0.Coords) (v : BitVec 32) (h : v.toNat < 96) : k0_chk1 i v := by
  have e : ∀ a, k0_off1 v a + S1x1x576.size a ≤ S30x192x576.size a := by
    intro a
    fin_cases a
    · show 29 + 1 ≤ 30; omega
    · show (0#32 + v).toNat + 1 ≤ 192; rw [BitVec.toNat_add]; simp; omega
    · show 0 + 576 ≤ 576; omega
  exact ⟨fun _ => e, fun _ => e⟩

theorem chk2_of (i : grid0.Coords) (v : BitVec 32) (h : v.toNat < 96) : k0_chk2 i v := by
  have e : ∀ a, k0_off2 v a + S1x1x576.size a ≤ S30x192x576.size a := by
    intro a
    fin_cases a
    · show 29 + 1 ≤ 30; omega
    · show (96#32 + v).toNat + 1 ≤ 192; rw [BitVec.toNat_add]; simp; omega
    · show 0 + 576 ≤ 576; omega
  exact fun _ => e

theorem kernelRunA (c : Dev nD) (i : grid0.Coords) (arg3 : Memref sig .tc .vmem S1x576 .f32) (harg3 : arg3.IsWhole)
    (arg4 : Memref sig .tc .vmem S576x8192 .i8) (harg4 : arg4.IsWhole) (arg5 : Memref sig .tc .vmem S1x8192 .f32) (harg5 : arg5.IsWhole)
    (arg6 : Memref sig .tc .vmem S2x8192 .f32) (harg6 : arg6.IsWhole) (hc : cond0 i)
    (x3 : Vec F S1x576 .f32) (x4 : Vec F S576x8192 .i8) (x5 : Vec F S1x8192 .f32)
    (ft : Buf (Elt F) (tbM.view.loc (c : Thread nD τ))) (fh : Buf (Elt F) (hbM.view.loc (c : Thread nD τ)))
    (hr : ∀ x : S2.Idx, (ft x : BitVec 32).toNat < 96)
    (W : Waits sig Unit) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, hbPt c scM d)
        ∗ semVal ((c : Thread nD τ), SemLoc.dma cc0_scratch1.sem) 0 ∗ hbPt c hbM fh ∗ tbPt c tbM ft
        ∗ owes (c : Thread nD τ) 0 W
        ∗ (iprop(owns (c : Thread nD τ) arg3 fullShare x3 ∗ owns (c : Thread nD τ) arg4 fullShare x4 ∗ owns (c : Thread nD τ) arg5 fullShare x5
            ∗ owns (c : Thread nD τ) arg6 fullShare (k0_pay1 (rowsOf ft fh) x3 x4 x5) ∗ hbPt c scM (rowsOf ft fh)
            ∗ semVal ((c : Thread nD τ), SemLoc.dma cc0_scratch1.sem) 0 ∗ hbPt c hbM fh ∗ tbPt c tbM ft
            ∗ ∃ W', owes (c : Thread nD τ) 0 W') -∗ K ⟨⟩))
      ⊢ wp frame (wpE (defs₀ (F := F)) Variants.none c none) Set.univ
          (cc0_logits i tbM (Memref.isWhole_whole _) hbM (Memref.isWhole_whole _) arg3 harg3 arg4 harg4 arg5 harg5 arg6 harg6
            scM (Memref.isWhole_whole _) cc0_scratch1) K := by
  simp only [cc0_logits_eq_skeleton]; unfold cc0_logits_skel
  unfold owns
  iintro ⟨⟨%f3, %hf3, H3⟩, ⟨%f4, %hf4, H4⟩, ⟨%f5, %hf5, H5⟩, ⟨%d6, %f6, -, H6⟩, ⟨%fs, HS⟩, Hq, Hh, Ht, HW, Hk⟩
  obtain rfl := harg3.eq_unread hf3
  obtain rfl := harg4.eq_unread hf4
  obtain rfl := harg5.eq_unread hf5
  ihave Hh' := (pointsTo_share (PosShare.mem_left_op_right fullShare)).1 $$ Hh
  icases Hh' with ⟨Hh1, Hh2⟩
  have plan : Transfers.BatchOf (c : Thread nD τ) (SemLoc.dma (sig := sig) cc0_scratch1.sem) 2 (windows := true) := trivial
  sl_exec (disch := first | sl_exact hc | exact chk1_of i _ (hr _) | exact chk2_of i _ (hr _))
  sl_step
  have e0 : ∀ x, kernelRunA.sl.dma2 c i hc ft fh hr x = rowsOf ft fh (ix2 0 (x 1)) := by
    intro x
    have hx := hr (ix1 0)
    unfold kernelRunA.sl.dma2
    refine (row_read fh (k0_off1 (kernelRunA.sl.r c ft)) _ ⟨(ft (ix1 0) : BitVec 32).toNat, by omega⟩ rfl ?_ rfl _ _ x).trans ?_
    · show (0#32 + kernelRunA.sl.r c ft).toNat = (ft (ix1 0) : BitVec 32).toNat
      rw [BitVec.zero_add]
      refine congrArg (fun y => (ft y : BitVec 32).toNat) (funext fun a => Fin.ext ?_)
      fin_cases a
      rfl
    · refine congrArg fh (congrArg (fun n => ix3 _ n _) (Fin.ext ?_))
      show (ft (ix1 0) : BitVec 32).toNat = (96 * 0 + (ft (ix1 0) : BitVec 32).toNat) % 192
      omega
  have e1 : ∀ x, kernelRunA.sl.dma3 c i hc ft fh hr x = rowsOf ft fh (ix2 1 (x 1)) := by
    intro x
    have hx := hr (ix1 1)
    unfold kernelRunA.sl.dma3
    refine (row_read fh (k0_off2 (kernelRunA.sl.r_1 c ft)) _ ⟨96 + (ft (ix1 1) : BitVec 32).toNat, by omega⟩ rfl ?_ rfl _ _ x).trans ?_
    · have e : kernelRunA.sl.r_1 c ft = (ft (ix1 1) : BitVec 32) := by
        refine congrArg (fun y => (ft y : BitVec 32)) (funext fun a => Fin.ext ?_)
        fin_cases a
        rfl
      show (96#32 + kernelRunA.sl.r_1 c ft).toNat = 96 + (ft (ix1 1) : BitVec 32).toNat
      rw [e, BitVec.toNat_add]
      show (96 + (ft (ix1 1) : BitVec 32).toNat) % 4294967296 = _
      omega
    · refine congrArg fh (congrArg (fun n => ix3 _ n _) (Fin.ext ?_))
      show 96 + (ft (ix1 1) : BitVec 32).toNat = (96 * 1 + (ft (ix1 1) : BitVec 32).toNat) % 192
      omega
  have hrows : scM.view.writes (Elt F) fs
      [⟨Rect.unit ![1, 0] S1x576.size inb_S2x576_S1x576_1_0, kernelRunA.sl.dma3 c i hc ft fh hr⟩,
        ⟨Rect.unit ![0, 0] S1x576.size inb_S2x576_S1x576_0_0, kernelRunA.sl.dma2 c i hc ft fh hr⟩] = rowsOf ft fh := by
    exact rows_write fs _ _ _ e0 e1
  have hv3 : kernelRunA.sl.v3 c i hc ft fh hr = rowsOf ft fh := by
    unfold kernelRunA.sl.v3
    exact rows_load _ _ _ e0 e1
  rw [hrows, hv3, readAt_all harg3, readAt_all harg4, readAt_all harg5]
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro; exact read_store_all _ _ _ _
  isplitl [HS]; · iexact HS
  isplitl [Hq]; · iexact Hq
  isplitl [Hh1 Hh2]
  · iapply (pointsTo_share (PosShare.mem_left_op_right fullShare)).2
    isplitl [Hh1]; · iexact Hh1
    iexact Hh2
  isplitl [Ht]; · iexact Ht
  iexists _; iexact HW

end Cert.Head.Hand

end
-- ==== Proof.HeadBodyB.lean ====
module

public import proofs.«01_k».proof.Proof.HeadBodyA

@[expose] public section

set_option maxRecDepth 16384

noncomputable section

namespace Cert.Head.Hand

open Cert.Head Cert.Head.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

variable {F : FTy → Type} [FloatOps F]

local notation "𝕄" => MT nD τ sig Unit (Elt F) ℕ (Pipeline.UD sig nD τ) ℕ

/-- A load of the whole scratch reads its contents. -/
theorem readAt_scM (X : S2x576.Idx → Elt F .f32) :
    View.readAt (Elt F) scM.view (Rect.unit (s := S2x576) ![0, 0] S2x576.size inb_S2x576_S2x576_0_0).toLoadRect X = X := by
  funext x
  refine congrArg X (funext fun a => Fin.ext ?_)
  fin_cases a
  · show 0 + 1 * (x 0).val = (x 0).val; omega
  · show 0 + 1 * (x 1).val = (x 1).val; omega

/-- The body at a later point: the scratch keeps the rows, and the output is this block's logits. -/
theorem kernelRunB (c : Dev nD) (i : grid0.Coords) (arg3 : Memref sig .tc .vmem S1x576 .f32) (harg3 : arg3.IsWhole)
    (arg4 : Memref sig .tc .vmem S576x8192 .i8) (harg4 : arg4.IsWhole) (arg5 : Memref sig .tc .vmem S1x8192 .f32) (harg5 : arg5.IsWhole)
    (arg6 : Memref sig .tc .vmem S2x8192 .f32) (harg6 : arg6.IsWhole) (hc : ¬cond0 i)
    (x3 : Vec F S1x576 .f32) (x4 : Vec F S576x8192 .i8) (x5 : Vec F S1x8192 .f32) (xs : S2x576.Idx → Elt F .f32) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ hbPt c scM xs
        ∗ (iprop(owns (c : Thread nD τ) arg3 fullShare x3 ∗ owns (c : Thread nD τ) arg4 fullShare x4 ∗ owns (c : Thread nD τ) arg5 fullShare x5
            ∗ owns (c : Thread nD τ) arg6 fullShare (k0_pay1 xs x3 x4 x5) ∗ hbPt c scM xs) -∗ K ⟨⟩))
      ⊢ wp frame (wpE (defs₀ (F := F)) Variants.none c none) Set.univ
          (cc0_logits i tbM (Memref.isWhole_whole _) hbM (Memref.isWhole_whole _) arg3 harg3 arg4 harg4 arg5 harg5 arg6 harg6
            scM (Memref.isWhole_whole _) cc0_scratch1) K := by
  simp only [cc0_logits_eq_skeleton]; unfold cc0_logits_skel
  unfold owns
  iintro ⟨⟨%f3, %hf3, H3⟩, ⟨%f4, %hf4, H4⟩, ⟨%f5, %hf5, H5⟩, ⟨%d6, %f6, -, H6⟩, HS, Hk⟩
  obtain rfl := harg3.eq_unread hf3
  obtain rfl := harg4.eq_unread hf4
  obtain rfl := harg5.eq_unread hf5
  sl_exec (disch := sl_exact hc)
  sl_step
  rw [readAt_scM, readAt_all harg3, readAt_all harg4, readAt_all harg5]
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro; exact read_store_all _ _ _ _
  iexact HS

end Cert.Head.Hand

end
-- ==== Proof.HeadRun.lean ====
module

public import proofs.«01_k».proof.Proof.HeadBodyB
public import Idealize.ShloMosaic.Lib.Claim
public import Idealize.ShloMosaic.Lib.Pipeline.ValueKit.Geometry

@[expose] public section

set_option maxRecDepth 16384

noncomputable section

namespace Cert.Head.Hand

open Cert.Head Cert.Head.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The table's words are row numbers of a sequence. -/
def InRange : Prop := ∀ x : S2.Idx, (m (((0 : Dev nD) : Thread nD τ).loc main_arg0) x : BitVec 32).toNat < 96

/-- The rows the kernel keeps in its scratch. -/
def rows (c : Dev nD) : S2x576.Idx → Elt F .f32 := rowsOf (tbl m 0) (V m c main_arg1)

/-- The region's invariant: before the first point the scratch at anything; afterwards the two rows. -/
def Phi (c : Dev nD) : ℕ → sProp 𝕄
  | 0 => iprop(Pipeline.ΦD osem0 spec0 H0 (V m) c ∗ Pipeline.ΦT pre0 (tbl m) c)
  | _ + 1 => iprop((hbPt c scM (rows m c) ∗ (∃ r, prngReg c r) ∗ semVal ((c : Thread nD τ), SemLoc.dma cc0_scratch1.sem) 0
      ∗ hbPt c hbM (V m c main_arg1)) ∗ tbPt c tbM (tbl m 0))

theorem Phi_pos (c : Dev nD) (n : ℕ) (h : n ≠ 0) : Phi m c n
    = iprop((hbPt c scM (rows m c) ∗ (∃ r, prngReg c r) ∗ semVal ((c : Thread nD τ), SemLoc.dma cc0_scratch1.sem) 0
      ∗ hbPt c hbM (V m c main_arg1)) ∗ tbPt c tbM (tbl m 0)) := by
  cases n with
  | zero => exact absurd rfl h
  | succ n => rfl

/-- The block of logits computed at point `t`. -/
def outBlk (c : Dev nD) (t : Fin (cfgM m).N) : FVec F S2x8192 .f32 :=
  k0_pay1 (rows m c) (iblk m c 0 t) (iblk m c 1 t) (iblk m c 2 t)

/-- The proof data: each input's buffer at its block, the output's at the block's logits. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ t := Phi m c t.val
  q _ := fullShare
  owed _ := 0

theorem A_eq (c : Dev nD) (w : Fin (cfgM m).W) : (dats m 0 c).A w = V m c (Pipeline.arrRef spec0 w) := by
  dsimp only [dats]
theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = outBlk m c t := by dsimp only [dats]; try rfl
theorem before0 (c : Dev nD) (t : Fin (cfgM m).N) (d) : (dats m 0 c).before 0 t d = iblk m c 0 t :=
  before_of m (dats m 0 c) 0 (Or.inl rfl) (A_eq m c 0) (after0 m c) t d
theorem before1 (c : Dev nD) (t : Fin (cfgM m).N) (d) : (dats m 0 c).before 1 t d = iblk m c 1 t :=
  before_of m (dats m 0 c) 1 (Or.inr (Or.inl rfl)) (A_eq m c 1) (after1 m c) t d
theorem before2 (c : Dev nD) (t : Fin (cfgM m).N) (d) : (dats m 0 c).before 2 t d = iblk m c 2 t :=
  before_of m (dats m 0 c) 2 (Or.inr (Or.inr rfl)) (A_eq m c 2) (after2 m c) t d

theorem Phi_castSucc (c : Dev nD) (t : Fin (cfgM m).N) : (dats m 0 c).Φ t.castSucc = Phi m c t.val := by
  dsimp only [dats]; rfl

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

theorem sound_body (hO : InRange m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2]
  rw [show (dats m 0 c).owesAt () t.succ = (dats m 0 c).owesAt () t.castSucc from rfl, after0, after1, after2, after3]
  rw [show (dats m 0 c).Φ t.succ = Phi m c (t.val + 1) from rfl, Phi_pos m c (t.val + 1) (Nat.succ_ne_zero _)]
  by_cases h0 : t.val = 0
  · rw [Phi_castSucc m c t, h0, show Phi m c 0 = iprop(Pipeline.ΦD osem0 spec0 H0 (V m) c ∗ Pipeline.ΦT pre0 (tbl m) c) from rfl,
      PhiT_eq, PhiD_eq]
    simp only [scM, owns_whole]
    unfold Dat.owesAt Pipeline.owesWithin
    rw [show (dats m 0 c).owed t.castSucc = 0 from rfl]
    iintro ⟨⟨⟨⟨%ds, HS⟩, Hg, Hq, Hh⟩, HT⟩, ⟨%W, %hW, HO⟩, ⟨%d0, H0⟩, ⟨%d1, H1⟩, ⟨%d2, H2⟩, ⟨%d3, H3⟩⟩
    iapply (kernelRunA c (grid0.coords t) (ms0 m t) (hs0 m t) (ms1 m t) (hs1 m t) (ms2 m t) (hs2 m t) (ms3 m t) (hs3 m t)
      ((hcond0 t).mpr h0) (iblk m c 0 t) (iblk m c 1 t) (iblk m c 2 t) (tbl m 0) (V m c main_arg1) hO W _)
    isplitl [H0]; · iexact H0
    isplitl [H1]; · iexact H1
    isplitl [H2]; · iexact H2
    isplitl [H3]; · iexists _; iexact H3
    isplitl [HS]; · iexists _; iexact HS
    isplitl [Hq]; · iexact Hq
    isplitl [Hh]; · iexact Hh
    isplitl [HT]; · iexact HT
    isplitl [HO]; · iexact HO
    iintro ⟨H0, H1, H2, H3, HS, Hq, Hh, HT, ⟨%W', HO⟩⟩
    isplitl [HS Hg Hq Hh HT]
    · isplitl [HS Hg Hq Hh]
      · isplitl [HS]; · iexact HS
        isplitl [Hg]; · iexact Hg
        isplitl [Hq]; · iexact Hq
        iexact Hh
      iexact HT
    isplitl [HO]
    · iexists W'; isplitr; · ipureintro; exact fun _ _ => Or.inl trivial
      iexact HO
    isplitl [H0]; · iexact H0
    isplitl [H1]; · iexact H1
    isplitl [H2]; · iexact H2
    iexact H3
  · rw [Phi_castSucc m c t, Phi_pos m c _ h0]
    iintro ⟨⟨⟨HS, Hg, Hq, Hh⟩, HT⟩, HO, ⟨%d0, H0⟩, ⟨%d1, H1⟩, ⟨%d2, H2⟩, ⟨%d3, H3⟩⟩
    iapply (kernelRunB c (grid0.coords t) (ms0 m t) (hs0 m t) (ms1 m t) (hs1 m t) (ms2 m t) (hs2 m t) (ms3 m t) (hs3 m t)
      (fun h => h0 ((hcond0 t).mp h)) (iblk m c 0 t) (iblk m c 1 t) (iblk m c 2 t) (rows m c) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg Hq Hh HT]
    · isplitl [HS Hg Hq Hh]
      · isplitl [HS]; · iexact HS
        isplitl [Hg]; · iexact Hg
        isplitl [Hq]; · iexact Hq
        iexact Hh
      iexact HT
    isplitl [HO]; · iexact HO
    isplitl [H0]; · iexact H0
    isplitl [H1]; · iexact H1
    isplitl [H2]; · iexact H2
    iexact H3

theorem body_obligation (hO : InRange m) (c : Dev nD) : BodyObligation (dats (F := F) m 0 c) (defs₀ (F := F)) Variants.none () Set.univ := fun t => by
  rw [bigSep_W0, bigSep_W0, defs₀_row m]
  exact triple_restated (sound_body m hO c t) rfl .rfl fun _ => .rfl

theorem hin (c : Dev nD) : iprop(Pipeline.ΦD osem0 spec0 H0 (V m) c ∗ Pipeline.ΦT pre0 (tbl m) c) ⊢ (dats m 0 c).Φ 0 := by
  rw [show (dats m 0 c).Φ 0 = iprop(Pipeline.ΦD osem0 spec0 H0 (V m) c ∗ Pipeline.ΦT pre0 (tbl m) c) from rfl]

theorem hout (c : Dev nD) : (dats m 0 c).Φ (Fin.last (cfgM m).N) ⊢ Pipeline.ΦD osem0 spec0 H0 (V m) c := by
  rw [show (dats m 0 c).Φ (Fin.last (cfgM m).N) = Phi m c (Fin.last (cfgM m).N).val from rfl,
    Phi_pos m c _ (by rw [Fin.val_last]; have : (cfgM m).N = 6 := N_0; omega), PhiD_eq]
  simp only [scM, owns_whole]
  iintro ⟨⟨HS, Hg, Hq, Hh⟩, -⟩
  isplitl [HS]; · iexists _; iexact HS
  isplitl [Hg]; · iexact Hg
  isplitl [Hq]; · iexact Hq
  iexact Hh

set_option backward.isDefEq.respectTransparency.types false in
/-- The run: every array as the proof data say, every other buffer unchanged, every semaphore at zero. -/
theorem run_main (hO : InRange m) : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m hO c).loose) (hshare := fun c => (dats m 0 c).share_full fun _ => rfl)
    (howed := fun _ _ => rfl) (V := V m) (hmain := hmain m Variants.none) (hA := A_eq m) (hpf := V_pre m) (hin := hin m) (hout := hout m)

/-- The arguments end unchanged. -/
theorem args_of {r : PUnit × MemSt nD τ sig (Elt F)} (h : Pipeline.FramePost (Pipeline.pin pcfgs fun _ => adm m) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c).2 main_arg0 (by decide : main_arg0 ∈ Pipeline.restRefs sig spec0), (h c).2 main_arg1 (by decide : main_arg1 ∈ Pipeline.restRefs sig spec0),
    ((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2))⟩

/-- The frame. -/
theorem frame_run (hO : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of m h.1, h.2⟩) (run_main m ρ hO)

end Cert.Head.Hand

end
-- ==== Proof.HeadIdealKit.lean ====
/-
  What the runs of the vocabulary-projection kernel (`Head`) are stated over: the tables and blocks read off the launch
  memory, the operands the pipeline does not stage, and the region's invariant conjunct by conjunct.
-/
module

public import proofs.«01_k».proof.Proof.Gen.HeadIdeal.Launch
public import proofs.«01_k».proof.Proof.Gen.HeadIdeal.Skeleton
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic
public import Idealize.ShloMosaic.Lib.Transfers
public import Idealize.ShloMosaic.Lib.WordCmp

@[expose] public section

set_option maxRecDepth 16384

noncomputable section

namespace Cert.HeadIdeal.Hand

open Cert.HeadIdeal Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch memory -/

/-- Core `c`'s buffers when the region is entered: as launched (the program is the region alone). -/
abbrev V (c : Dev nD) (b : Ref sig .tc) : Buf (Elt F) ((c : Thread nD τ).loc b) := m ((c : Thread nD τ).loc b)

/-- The program up to the region: the region alone. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The prefetched table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The pipeline at those contents (no window's block index reads the table). -/
abbrev adm : (pcfg0 (F := F)).Adm := ⟨tbl m, trivial⟩
abbrev cfgM : Pipeline.Cfg sig Λ₀ := cfg0 (adm m)

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's staging buffer holds its block at every point. -/
theorem before_of {c : Dev nD} (dat : Dat τ (Elt F) Unit ℕ (Pipeline.UD sig nD τ) ℕ (cfgM m) c) (w : Fin 4) (hw : w = 0 ∨ w = 1 ∨ w = 2)
    (hA : dat.A w = V m c (Pipeline.arrRef spec0 w))
    (hafter : ∀ t, dat.after w t = iblk m c w t) (t : Fin (cfgM m).N) (d) : dat.before w t d = iblk m c w t := by
  rcases hw with rfl | rfl | rfl <;>
  exact (dat.before_in_eq_fetched _ rfl (fun _ => rfl) (fun _ _ _ => rfl) (fun t => by rw [hafter]; unfold Dat.blockOf iblk; rw [hA]; try rfl) t d).trans
    (by unfold Dat.fetched Dat.blockOf iblk; rw [hA]; try rfl)

/-! ## The operands -/

abbrev tbM : Memref sig .tc .smem S2 .i32 := Memref.whole main_arg0
abbrev hbM : Memref sig .tc .hbm S30x192x576 .f32 := Memref.whole main_arg1
abbrev scM : Memref sig .tc .vmem S2x576 .f32 := Memref.whole cc0_scratch0

/-- A memref's buffer held whole, behind `Memref.view`; the table's at half the full share. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The kernel's own DMA semaphore. -/
abbrev osem0 : Fin 1 → SemLoc sig := fun _ => SemLoc.dma cc0_scratch1.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch1.sem) 0) := by
  rw [Pipeline.ownSems0_eq_of_list c osem0 [0] (by decide) (by decide)]; rfl

/-- The array of residuals, left in HBM and only read. -/
def H0 : Finset (Ref sig .tc) := {main_arg1}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt c hbM (V m c main_arg1)) := by
  rw [BI.bigSep_eq_bigSepL_of_eq [main_arg1] (by decide) (by decide)]; rfl

/-- The region's invariant conjunct by conjunct. -/
theorem PhiD_eq (c : Dev nD) :
    (Pipeline.ΦD osem0 spec0 H0 (V m) c : sProp 𝕄)
      = iprop(iprop((∃ d, owns (c : Thread nD τ) scM fullShare d)) ∗ (∃ r, prngReg c r)
          ∗ iprop(semVal ((c : Thread nD τ), SemLoc.dma cc0_scratch1.sem) 0)
          ∗ iprop(hbPt c hbM (V m c main_arg1))) := by
  rw [Pipeline.ΦD_eq, scopedRest0_eq, ownSems00_eq, hbmPts0_eq]; simp only [scM, owns_whole]; try rfl

/-! ## The branch condition -/

abbrev cond0 (i : grid0.Coords) : Prop := k0_cond1 i = 1#1
/-- The rows are gathered at the first point only. -/
theorem hcond0 : ∀ t : Fin grid0.N, cond0 (grid0.coords t) ↔ t.val = 0 := by
  decide +kernel

/-! ## The staging memrefs at a point -/

abbrev ms0 (t : Fin (cfgM m).N) : Memref sig .tc .vmem S1x576 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S576x8192 .i8 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x8192 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S2x8192 .f32 := spec0_3.stage ((cfgM m).slots t 3)
abbrev hs3 (t : Fin (cfgM m).N) : (ms3 m t).IsWhole := hstage0_3 (((cfgM m).slots t 3).cast nbuf0_3)

/-- The kernel body at point `t`, on what the pipeline calls it with. -/
abbrev bodyAt (t : Fin (cfgM m).N) : Prog (TpuEff nD τ sig (Elt F) Λ₀ .tc) PUnit :=
  cc0_logits (grid0.coords t) tbM (Memref.isWhole_whole _) hbM (Memref.isWhole_whole _) (ms0 m t) (hs0 m t) (ms1 m t) (hs1 m t)
    (ms2 m t) (hs2 m t) (ms3 m t) (hs3 m t) scM (Memref.isWhole_whole _) cc0_scratch1

/-- The body table's row at point `t`'s slots is that body. -/
theorem defs₀_row (t : Fin (cfgM m).N) :
    defs₀ (F := F) .tc (cfgM m).body ((cfgM m).bodyArgs t ((cfgM m).slots t)) = bodyAt m t := by
  unfold defs₀; rw [Defs.onTc_tc]

end Cert.HeadIdeal.Hand

end
-- ==== Proof.HeadIdealBodyA.lean ====
module

public import proofs.«01_k».proof.Proof.HeadIdealKit
public import Idealize.ShloMosaic.Lib.WholeRead
public import Idealize.ShloMosaic.Lib.ValueIdxCore
public import Idealize.ShloMosaic.Lib.ValueLayout

@[expose] public section

set_option maxRecDepth 16384

noncomputable section

namespace Cert.HeadIdeal.Hand

open Cert.HeadIdeal Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

variable {F : FTy → Type} [FloatOps F]

local notation "𝕄" => MT nD τ sig Unit (Elt F) ℕ (Pipeline.UD sig nD τ) ℕ

/-- A load of a whole buffer reads its contents. -/
theorem readAt_all {S : Shape} {e : EltTy} {M : Memref sig .tc .vmem S e} (h : M.IsWhole) (X : S.Idx → Elt F e) {off : Fin S.rank → ℕ}
    (inb : ∀ a, off a + S.size a ≤ S.size a) :
    View.readAt (Elt F) M.view (Rect.unit (s := S) off S.size inb).toLoadRect (h.unread X) = X := by
  funext x
  rw [Memref.IsWhole.readAt_unread]
  refine congrArg X (funext fun a => Fin.ext ?_)
  have := inb a
  show off a + 1 * (x a).val = (x a).val
  omega

/-- A store of a whole buffer leaves its payload. -/
theorem read_store_all {S : Shape} {e : EltTy} (v : View sig .tc .vmem S e) (f : v.ty.Contents (Elt F)) {off : Fin S.rank → ℕ}
    (inb : ∀ a, off a + S.size a ≤ S.size a) (w : S.Idx → Elt F e) :
    v.read (Elt F) (v.writes (Elt F) f [⟨Rect.unit (s := S) off S.size inb, w⟩]) = w := by
  funext y
  refine View.read_writes_cons_hit_of_coords v f (Rect.unit (s := S) off S.size inb) w [] y y fun a => ?_
  have := inb a
  show (y a).val = off a + 1 * (y a).val
  omega

/-- The two rows the kernel gathers: row `96·b + last[b]` of the residuals' last plane. -/
def rowsOf (ft : S2.Idx → BitVec 32) (fh : S30x192x576.Idx → Elt F .f32) : S2x576.Idx → Elt F .f32 := fun y =>
  fh (ix3 ⟨29, by decide⟩ ⟨(96 * (y 0).val + (ft (ix1 (y 0))).toNat) % 192, Nat.mod_lt _ (by decide)⟩ (y 1))

/-- One row of the residuals, as a transfer reads it. -/
theorem row_read (fh : S30x192x576.Idx → Elt F .f32) (off : Fin 3 → ℕ) (inb : ∀ a, off a + S1x1x576.size a ≤ S30x192x576.size a) (n : Fin 192)
    (h0 : off 0 = 29) (h1 : off 1 = n.val) (h2 : off 2 = 0)
    (hs : ∀ a, (Rect.unit (s := S30x192x576) off S1x1x576.size inb).stride a = 1) (hq : S1x1x576.Squeezes S1x576) (x : S1x576.Idx) :
    View.read (Elt F) ((hbM.slice (Rect.unit (s := S30x192x576) off S1x1x576.size inb) hs).squeeze S1x576 hq).view fh x
      = fh (ix3 ⟨29, by decide⟩ n (x 1)) := by
  obtain ⟨p, q, rfl⟩ : ∃ p q, x = ix2 p q := ⟨_, _, eq_ix2 x⟩
  show fh ((Rect.unit (s := S30x192x576) off S1x1x576.size inb).emb (Shape.reshapeEquiv hq.numel_eq (ix2 p q))) = _
  have e := reshapeEquiv_ix2_1ab hq.numel_eq p q
  rw [e]
  refine congrArg fh (funext fun a => Fin.ext ?_)
  match a with
  | ⟨0, _⟩ => show off 0 + 1 * 0 = 29; omega
  | ⟨1, _⟩ => have := p.isLt; show off 1 + 1 * p.val = n.val; omega
  | ⟨2, _⟩ => show off 2 + 1 * q.val = q.val; omega

/-- The two rows tile the scratch. -/
theorem rows_cover (w0 w1 : S1x576.Idx → Elt F .f32) (y : S2x576.Idx) :
    ∃ pc ∈ ([⟨Rect.unit ![1, 0] S1x576.size inb_S2x576_S1x576_1_0, w1⟩, ⟨Rect.unit ![0, 0] S1x576.size inb_S2x576_S1x576_0_0, w0⟩] : List (View.Piece (Elt F) S2x576 .f32)), y ∈ pc.1.set :=
  View.cover_of_tiledL (s := S2x576) _ (S1x576.size : Fin 2 → ℕ) (by sl_kernel_rfl) y

/-- A two-row view after one row was written to each of its rows. -/
theorem read_rows (v : View sig .tc .vmem S2x576 .f32) (f : v.ty.Contents (Elt F)) (w0 w1 : S1x576.Idx → Elt F .f32) (G : S2x576.Idx → Elt F .f32)
    (h0 : ∀ x, w0 x = G (ix2 0 (x 1))) (h1 : ∀ x, w1 x = G (ix2 1 (x 1))) :
    v.read (Elt F) (v.writes (Elt F) f [⟨Rect.unit ![1, 0] S1x576.size inb_S2x576_S1x576_1_0, w1⟩, ⟨Rect.unit ![0, 0] S1x576.size inb_S2x576_S1x576_0_0, w0⟩]) = G := by
  have e1 : ∀ x, w1 x = G ((Rect.unit (s := S2x576) ![1, 0] S1x576.size inb_S2x576_S1x576_1_0).emb x) := by
    intro x
    refine (h1 x).trans (congrArg G (funext fun a => Fin.ext ?_))
    fin_cases a
    · have h := (x 0).isLt; show 1 = 1 + 1 * (x 0).val; change (x 0).val < 1 at h; omega
    · show (x 1).val = 0 + 1 * (x 1).val; omega
  have e0 : ∀ x, w0 x = G ((Rect.unit (s := S2x576) ![0, 0] S1x576.size inb_S2x576_S1x576_0_0).emb x) := by
    intro x
    refine (h0 x).trans (congrArg G (funext fun a => Fin.ext ?_))
    fin_cases a
    · have h := (x 0).isLt; show 0 = 0 + 1 * (x 0).val; change (x 0).val < 1 at h; omega
    · show (x 1).val = 0 + 1 * (x 1).val; omega
  funext y
  refine View.read_writes_apply_of_pieces v f G _ ?_ y (rows_cover w0 w1 y)
  intro p hp
  rcases List.mem_cons.1 hp with rfl | hp
  · exact e1
  rcases List.mem_cons.1 hp with rfl | hp
  · exact e0
  exact absurd hp List.not_mem_nil

/-- The scratch is a whole buffer: reading it is its contents. -/
theorem scM_read (g : scM.view.ty.Contents (Elt F)) : scM.view.read (Elt F) g = g := rfl

/-- The scratch after both rows were written. -/
theorem rows_write (f : scM.view.ty.Contents (Elt F)) (w0 w1 : S1x576.Idx → Elt F .f32) (G : S2x576.Idx → Elt F .f32)
    (h0 : ∀ x, w0 x = G (ix2 0 (x 1))) (h1 : ∀ x, w1 x = G (ix2 1 (x 1))) :
    scM.view.writes (Elt F) f [⟨Rect.unit ![1, 0] S1x576.size inb_S2x576_S1x576_1_0, w1⟩, ⟨Rect.unit ![0, 0] S1x576.size inb_S2x576_S1x576_0_0, w0⟩] = G :=
  (scM_read _).symm.trans (read_rows scM.view f w0 w1 G h0 h1)

/-- The load of the whole scratch after both rows were written. -/
theorem rows_load (w0 w1 : S1x576.Idx → Elt F .f32) (G : S2x576.Idx → Elt F .f32)
    (h0 : ∀ x, w0 x = G (ix2 0 (x 1))) (h1 : ∀ x, w1 x = G (ix2 1 (x 1))) :
    scM.view.readCov [⟨Rect.unit ![1, 0] S1x576.size inb_S2x576_S1x576_1_0, w1⟩, ⟨Rect.unit ![0, 0] S1x576.size inb_S2x576_S1x576_0_0, w0⟩]
      (Rect.unit (s := S2x576) ![0, 0] S2x576.size inb_S2x576_S2x576_0_0).toLoadRect = G := by
  funext j
  rw [View.readCov_eq_canon']
  rw [← View.read_writes_junk_eq_canon scM.view, read_rows scM.view _ w0 w1 G h0 h1]
  refine congrArg G (funext fun a => Fin.ext ?_)
  fin_cases a
  · show 0 + 1 * (j 0).val = (j 0).val; omega
  · show 0 + 1 * (j 1).val = (j 1).val; omega

theorem chk1_of (i : grid0.Coords) (v : BitVec 32) (h : v.toNat < 96) : k0_chk1 i v := by
  have e : ∀ a, k0_off1 v a + S1x1x576.size a ≤ S30x192x576.size a := by
    intro a
    fin_cases a
    · show 29 + 1 ≤ 30; omega
    · show (0#32 + v).toNat + 1 ≤ 192; rw [BitVec.toNat_add]; simp; omega
    · show 0 + 576 ≤ 576; omega
  exact ⟨fun _ => e, fun _ => e⟩

theorem chk2_of (i : grid0.Coords) (v : BitVec 32) (h : v.toNat < 96) : k0_chk2 i v := by
  have e : ∀ a, k0_off2 v a + S1x1x576.size a ≤ S30x192x576.size a := by
    intro a
    fin_cases a
    · show 29 + 1 ≤ 30; omega
    · show (96#32 + v).toNat + 1 ≤ 192; rw [BitVec.toNat_add]; simp; omega
    · show 0 + 576 ≤ 576; omega
  exact fun _ => e

theorem kernelRunA (c : Dev nD) (i : grid0.Coords) (arg3 : Memref sig .tc .vmem S1x576 .f32) (harg3 : arg3.IsWhole)
    (arg4 : Memref sig .tc .vmem S576x8192 .i8) (harg4 : arg4.IsWhole) (arg5 : Memref sig .tc .vmem S1x8192 .f32) (harg5 : arg5.IsWhole)
    (arg6 : Memref sig .tc .vmem S2x8192 .f32) (harg6 : arg6.IsWhole) (hc : cond0 i)
    (x3 : Vec F S1x576 .f32) (x4 : Vec F S576x8192 .i8) (x5 : Vec F S1x8192 .f32)
    (ft : Buf (Elt F) (tbM.view.loc (c : Thread nD τ))) (fh : Buf (Elt F) (hbM.view.loc (c : Thread nD τ)))
    (hr : ∀ x : S2.Idx, (ft x : BitVec 32).toNat < 96)
    (W : Waits sig Unit) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, hbPt c scM d)
        ∗ semVal ((c : Thread nD τ), SemLoc.dma cc0_scratch1.sem) 0 ∗ hbPt c hbM fh ∗ tbPt c tbM ft
        ∗ owes (c : Thread nD τ) 0 W
        ∗ (iprop(owns (c : Thread nD τ) arg3 fullShare x3 ∗ owns (c : Thread nD τ) arg4 fullShare x4 ∗ owns (c : Thread nD τ) arg5 fullShare x5
            ∗ owns (c : Thread nD τ) arg6 fullShare (k0_pay1 (rowsOf ft fh) x3 x4 x5) ∗ hbPt c scM (rowsOf ft fh)
            ∗ semVal ((c : Thread nD τ), SemLoc.dma cc0_scratch1.sem) 0 ∗ hbPt c hbM fh ∗ tbPt c tbM ft
            ∗ ∃ W', owes (c : Thread nD τ) 0 W') -∗ K ⟨⟩))
      ⊢ wp frame (wpE (defs₀ (F := F)) Variants.none c none) Set.univ
          (cc0_logits i tbM (Memref.isWhole_whole _) hbM (Memref.isWhole_whole _) arg3 harg3 arg4 harg4 arg5 harg5 arg6 harg6
            scM (Memref.isWhole_whole _) cc0_scratch1) K := by
  simp only [cc0_logits_eq_skeleton]; unfold cc0_logits_skel
  unfold owns
  iintro ⟨⟨%f3, %hf3, H3⟩, ⟨%f4, %hf4, H4⟩, ⟨%f5, %hf5, H5⟩, ⟨%d6, %f6, -, H6⟩, ⟨%fs, HS⟩, Hq, Hh, Ht, HW, Hk⟩
  obtain rfl := harg3.eq_unread hf3
  obtain rfl := harg4.eq_unread hf4
  obtain rfl := harg5.eq_unread hf5
  ihave Hh' := (pointsTo_share (PosShare.mem_left_op_right fullShare)).1 $$ Hh
  icases Hh' with ⟨Hh1, Hh2⟩
  have plan : Transfers.BatchOf (c : Thread nD τ) (SemLoc.dma (sig := sig) cc0_scratch1.sem) 2 (windows := true) := trivial
  sl_exec (disch := first | sl_exact hc | exact chk1_of i _ (hr _) | exact chk2_of i _ (hr _))
  sl_step
  have e0 : ∀ x, kernelRunA.sl.dma2 c i hc ft fh hr x = rowsOf ft fh (ix2 0 (x 1)) := by
    intro x
    have hx := hr (ix1 0)
    unfold kernelRunA.sl.dma2
    refine (row_read fh (k0_off1 (kernelRunA.sl.r c ft)) _ ⟨(ft (ix1 0) : BitVec 32).toNat, by omega⟩ rfl ?_ rfl _ _ x).trans ?_
    · show (0#32 + kernelRunA.sl.r c ft).toNat = (ft (ix1 0) : BitVec 32).toNat
      rw [BitVec.zero_add]
      refine congrArg (fun y => (ft y : BitVec 32).toNat) (funext fun a => Fin.ext ?_)
      fin_cases a
      rfl
    · refine congrArg fh (congrArg (fun n => ix3 _ n _) (Fin.ext ?_))
      show (ft (ix1 0) : BitVec 32).toNat = (96 * 0 + (ft (ix1 0) : BitVec 32).toNat) % 192
      omega
  have e1 : ∀ x, kernelRunA.sl.dma3 c i hc ft fh hr x = rowsOf ft fh (ix2 1 (x 1)) := by
    intro x
    have hx := hr (ix1 1)
    unfold kernelRunA.sl.dma3
    refine (row_read fh (k0_off2 (kernelRunA.sl.r_1 c ft)) _ ⟨96 + (ft (ix1 1) : BitVec 32).toNat, by omega⟩ rfl ?_ rfl _ _ x).trans ?_
    · have e : kernelRunA.sl.r_1 c ft = (ft (ix1 1) : BitVec 32) := by
        refine congrArg (fun y => (ft y : BitVec 32)) (funext fun a => Fin.ext ?_)
        fin_cases a
        rfl
      show (96#32 + kernelRunA.sl.r_1 c ft).toNat = 96 + (ft (ix1 1) : BitVec 32).toNat
      rw [e, BitVec.toNat_add]
      show (96 + (ft (ix1 1) : BitVec 32).toNat) % 4294967296 = _
      omega
    · refine congrArg fh (congrArg (fun n => ix3 _ n _) (Fin.ext ?_))
      show 96 + (ft (ix1 1) : BitVec 32).toNat = (96 * 1 + (ft (ix1 1) : BitVec 32).toNat) % 192
      omega
  have hrows : scM.view.writes (Elt F) fs
      [⟨Rect.unit ![1, 0] S1x576.size inb_S2x576_S1x576_1_0, kernelRunA.sl.dma3 c i hc ft fh hr⟩,
        ⟨Rect.unit ![0, 0] S1x576.size inb_S2x576_S1x576_0_0, kernelRunA.sl.dma2 c i hc ft fh hr⟩] = rowsOf ft fh := by
    exact rows_write fs _ _ _ e0 e1
  have hv3 : kernelRunA.sl.v3 c i hc ft fh hr = rowsOf ft fh := by
    unfold kernelRunA.sl.v3
    exact rows_load _ _ _ e0 e1
  rw [hrows, hv3, readAt_all harg3, readAt_all harg4, readAt_all harg5]
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro; exact read_store_all _ _ _ _
  isplitl [HS]; · iexact HS
  isplitl [Hq]; · iexact Hq
  isplitl [Hh1 Hh2]
  · iapply (pointsTo_share (PosShare.mem_left_op_right fullShare)).2
    isplitl [Hh1]; · iexact Hh1
    iexact Hh2
  isplitl [Ht]; · iexact Ht
  iexists _; iexact HW

end Cert.HeadIdeal.Hand

end
-- ==== Proof.HeadIdealBodyB.lean ====
module

public import proofs.«01_k».proof.Proof.HeadIdealBodyA

@[expose] public section

set_option maxRecDepth 16384

noncomputable section

namespace Cert.HeadIdeal.Hand

open Cert.HeadIdeal Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

variable {F : FTy → Type} [FloatOps F]

local notation "𝕄" => MT nD τ sig Unit (Elt F) ℕ (Pipeline.UD sig nD τ) ℕ

/-- A load of the whole scratch reads its contents. -/
theorem readAt_scM (X : S2x576.Idx → Elt F .f32) :
    View.readAt (Elt F) scM.view (Rect.unit (s := S2x576) ![0, 0] S2x576.size inb_S2x576_S2x576_0_0).toLoadRect X = X := by
  funext x
  refine congrArg X (funext fun a => Fin.ext ?_)
  fin_cases a
  · show 0 + 1 * (x 0).val = (x 0).val; omega
  · show 0 + 1 * (x 1).val = (x 1).val; omega

/-- The body at a later point: the scratch keeps the rows, and the output is this block's logits. -/
theorem kernelRunB (c : Dev nD) (i : grid0.Coords) (arg3 : Memref sig .tc .vmem S1x576 .f32) (harg3 : arg3.IsWhole)
    (arg4 : Memref sig .tc .vmem S576x8192 .i8) (harg4 : arg4.IsWhole) (arg5 : Memref sig .tc .vmem S1x8192 .f32) (harg5 : arg5.IsWhole)
    (arg6 : Memref sig .tc .vmem S2x8192 .f32) (harg6 : arg6.IsWhole) (hc : ¬cond0 i)
    (x3 : Vec F S1x576 .f32) (x4 : Vec F S576x8192 .i8) (x5 : Vec F S1x8192 .f32) (xs : S2x576.Idx → Elt F .f32) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ hbPt c scM xs
        ∗ (iprop(owns (c : Thread nD τ) arg3 fullShare x3 ∗ owns (c : Thread nD τ) arg4 fullShare x4 ∗ owns (c : Thread nD τ) arg5 fullShare x5
            ∗ owns (c : Thread nD τ) arg6 fullShare (k0_pay1 xs x3 x4 x5) ∗ hbPt c scM xs) -∗ K ⟨⟩))
      ⊢ wp frame (wpE (defs₀ (F := F)) Variants.none c none) Set.univ
          (cc0_logits i tbM (Memref.isWhole_whole _) hbM (Memref.isWhole_whole _) arg3 harg3 arg4 harg4 arg5 harg5 arg6 harg6
            scM (Memref.isWhole_whole _) cc0_scratch1) K := by
  simp only [cc0_logits_eq_skeleton]; unfold cc0_logits_skel
  unfold owns
  iintro ⟨⟨%f3, %hf3, H3⟩, ⟨%f4, %hf4, H4⟩, ⟨%f5, %hf5, H5⟩, ⟨%d6, %f6, -, H6⟩, HS, Hk⟩
  obtain rfl := harg3.eq_unread hf3
  obtain rfl := harg4.eq_unread hf4
  obtain rfl := harg5.eq_unread hf5
  sl_exec (disch := sl_exact hc)
  sl_step
  rw [readAt_scM, readAt_all harg3, readAt_all harg4, readAt_all harg5]
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro; exact read_store_all _ _ _ _
  iexact HS

end Cert.HeadIdeal.Hand

end
-- ==== Proof.HeadIdealRun.lean ====
module

public import proofs.«01_k».proof.Proof.HeadIdealBodyB
public import Idealize.ShloMosaic.Lib.Claim
public import Idealize.ShloMosaic.Lib.Pipeline.ValueKit.Geometry

@[expose] public section

set_option maxRecDepth 16384

noncomputable section

namespace Cert.HeadIdeal.Hand

open Cert.HeadIdeal Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The table's words are row numbers of a sequence. -/
def InRange : Prop := ∀ x : S2.Idx, (m (((0 : Dev nD) : Thread nD τ).loc main_arg0) x : BitVec 32).toNat < 96

/-- The rows the kernel keeps in its scratch. -/
def rows (c : Dev nD) : S2x576.Idx → Elt F .f32 := rowsOf (tbl m 0) (V m c main_arg1)

/-- The region's invariant: before the first point the scratch at anything; afterwards the two rows. -/
def Phi (c : Dev nD) : ℕ → sProp 𝕄
  | 0 => iprop(Pipeline.ΦD osem0 spec0 H0 (V m) c ∗ Pipeline.ΦT pre0 (tbl m) c)
  | _ + 1 => iprop((hbPt c scM (rows m c) ∗ (∃ r, prngReg c r) ∗ semVal ((c : Thread nD τ), SemLoc.dma cc0_scratch1.sem) 0
      ∗ hbPt c hbM (V m c main_arg1)) ∗ tbPt c tbM (tbl m 0))

theorem Phi_pos (c : Dev nD) (n : ℕ) (h : n ≠ 0) : Phi m c n
    = iprop((hbPt c scM (rows m c) ∗ (∃ r, prngReg c r) ∗ semVal ((c : Thread nD τ), SemLoc.dma cc0_scratch1.sem) 0
      ∗ hbPt c hbM (V m c main_arg1)) ∗ tbPt c tbM (tbl m 0)) := by
  cases n with
  | zero => exact absurd rfl h
  | succ n => rfl

/-- The block of logits computed at point `t`. -/
def outBlk (c : Dev nD) (t : Fin (cfgM m).N) : FVec F S2x8192 .f32 :=
  k0_pay1 (rows m c) (iblk m c 0 t) (iblk m c 1 t) (iblk m c 2 t)

/-- The proof data: each input's buffer at its block, the output's at the block's logits. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ t := Phi m c t.val
  q _ := fullShare
  owed _ := 0

theorem A_eq (c : Dev nD) (w : Fin (cfgM m).W) : (dats m 0 c).A w = V m c (Pipeline.arrRef spec0 w) := by
  dsimp only [dats]
theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = outBlk m c t := by dsimp only [dats]; try rfl
theorem before0 (c : Dev nD) (t : Fin (cfgM m).N) (d) : (dats m 0 c).before 0 t d = iblk m c 0 t :=
  before_of m (dats m 0 c) 0 (Or.inl rfl) (A_eq m c 0) (after0 m c) t d
theorem before1 (c : Dev nD) (t : Fin (cfgM m).N) (d) : (dats m 0 c).before 1 t d = iblk m c 1 t :=
  before_of m (dats m 0 c) 1 (Or.inr (Or.inl rfl)) (A_eq m c 1) (after1 m c) t d
theorem before2 (c : Dev nD) (t : Fin (cfgM m).N) (d) : (dats m 0 c).before 2 t d = iblk m c 2 t :=
  before_of m (dats m 0 c) 2 (Or.inr (Or.inr rfl)) (A_eq m c 2) (after2 m c) t d

theorem Phi_castSucc (c : Dev nD) (t : Fin (cfgM m).N) : (dats m 0 c).Φ t.castSucc = Phi m c t.val := by
  dsimp only [dats]; rfl

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

theorem sound_body (hO : InRange m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2]
  rw [show (dats m 0 c).owesAt () t.succ = (dats m 0 c).owesAt () t.castSucc from rfl, after0, after1, after2, after3]
  rw [show (dats m 0 c).Φ t.succ = Phi m c (t.val + 1) from rfl, Phi_pos m c (t.val + 1) (Nat.succ_ne_zero _)]
  by_cases h0 : t.val = 0
  · rw [Phi_castSucc m c t, h0, show Phi m c 0 = iprop(Pipeline.ΦD osem0 spec0 H0 (V m) c ∗ Pipeline.ΦT pre0 (tbl m) c) from rfl,
      PhiT_eq, PhiD_eq]
    simp only [scM, owns_whole]
    unfold Dat.owesAt Pipeline.owesWithin
    rw [show (dats m 0 c).owed t.castSucc = 0 from rfl]
    iintro ⟨⟨⟨⟨%ds, HS⟩, Hg, Hq, Hh⟩, HT⟩, ⟨%W, %hW, HO⟩, ⟨%d0, H0⟩, ⟨%d1, H1⟩, ⟨%d2, H2⟩, ⟨%d3, H3⟩⟩
    iapply (kernelRunA c (grid0.coords t) (ms0 m t) (hs0 m t) (ms1 m t) (hs1 m t) (ms2 m t) (hs2 m t) (ms3 m t) (hs3 m t)
      ((hcond0 t).mpr h0) (iblk m c 0 t) (iblk m c 1 t) (iblk m c 2 t) (tbl m 0) (V m c main_arg1) hO W _)
    isplitl [H0]; · iexact H0
    isplitl [H1]; · iexact H1
    isplitl [H2]; · iexact H2
    isplitl [H3]; · iexists _; iexact H3
    isplitl [HS]; · iexists _; iexact HS
    isplitl [Hq]; · iexact Hq
    isplitl [Hh]; · iexact Hh
    isplitl [HT]; · iexact HT
    isplitl [HO]; · iexact HO
    iintro ⟨H0, H1, H2, H3, HS, Hq, Hh, HT, ⟨%W', HO⟩⟩
    isplitl [HS Hg Hq Hh HT]
    · isplitl [HS Hg Hq Hh]
      · isplitl [HS]; · iexact HS
        isplitl [Hg]; · iexact Hg
        isplitl [Hq]; · iexact Hq
        iexact Hh
      iexact HT
    isplitl [HO]
    · iexists W'; isplitr; · ipureintro; exact fun _ _ => Or.inl trivial
      iexact HO
    isplitl [H0]; · iexact H0
    isplitl [H1]; · iexact H1
    isplitl [H2]; · iexact H2
    iexact H3
  · rw [Phi_castSucc m c t, Phi_pos m c _ h0]
    iintro ⟨⟨⟨HS, Hg, Hq, Hh⟩, HT⟩, HO, ⟨%d0, H0⟩, ⟨%d1, H1⟩, ⟨%d2, H2⟩, ⟨%d3, H3⟩⟩
    iapply (kernelRunB c (grid0.coords t) (ms0 m t) (hs0 m t) (ms1 m t) (hs1 m t) (ms2 m t) (hs2 m t) (ms3 m t) (hs3 m t)
      (fun h => h0 ((hcond0 t).mp h)) (iblk m c 0 t) (iblk m c 1 t) (iblk m c 2 t) (rows m c) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg Hq Hh HT]
    · isplitl [HS Hg Hq Hh]
      · isplitl [HS]; · iexact HS
        isplitl [Hg]; · iexact Hg
        isplitl [Hq]; · iexact Hq
        iexact Hh
      iexact HT
    isplitl [HO]; · iexact HO
    isplitl [H0]; · iexact H0
    isplitl [H1]; · iexact H1
    isplitl [H2]; · iexact H2
    iexact H3

theorem body_obligation (hO : InRange m) (c : Dev nD) : BodyObligation (dats (F := F) m 0 c) (defs₀ (F := F)) Variants.none () Set.univ := fun t => by
  rw [bigSep_W0, bigSep_W0, defs₀_row m]
  exact triple_restated (sound_body m hO c t) rfl .rfl fun _ => .rfl

theorem hin (c : Dev nD) : iprop(Pipeline.ΦD osem0 spec0 H0 (V m) c ∗ Pipeline.ΦT pre0 (tbl m) c) ⊢ (dats m 0 c).Φ 0 := by
  rw [show (dats m 0 c).Φ 0 = iprop(Pipeline.ΦD osem0 spec0 H0 (V m) c ∗ Pipeline.ΦT pre0 (tbl m) c) from rfl]

theorem hout (c : Dev nD) : (dats m 0 c).Φ (Fin.last (cfgM m).N) ⊢ Pipeline.ΦD osem0 spec0 H0 (V m) c := by
  rw [show (dats m 0 c).Φ (Fin.last (cfgM m).N) = Phi m c (Fin.last (cfgM m).N).val from rfl,
    Phi_pos m c _ (by rw [Fin.val_last]; have : (cfgM m).N = 6 := N_0; omega), PhiD_eq]
  simp only [scM, owns_whole]
  iintro ⟨⟨HS, Hg, Hq, Hh⟩, -⟩
  isplitl [HS]; · iexists _; iexact HS
  isplitl [Hg]; · iexact Hg
  isplitl [Hq]; · iexact Hq
  iexact Hh

set_option backward.isDefEq.respectTransparency.types false in
/-- The run: every array as the proof data say, every other buffer unchanged, every semaphore at zero. -/
theorem run_main (hO : InRange m) : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m hO c).loose) (hshare := fun c => (dats m 0 c).share_full fun _ => rfl)
    (howed := fun _ _ => rfl) (V := V m) (hmain := hmain m Variants.none) (hA := A_eq m) (hpf := V_pre m) (hin := hin m) (hout := hout m)

/-- The arguments end unchanged. -/
theorem args_of {r : PUnit × MemSt nD τ sig (Elt F)} (h : Pipeline.FramePost (Pipeline.pin pcfgs fun _ => adm m) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c).2 main_arg0 (by decide : main_arg0 ∈ Pipeline.restRefs sig spec0), (h c).2 main_arg1 (by decide : main_arg1 ∈ Pipeline.restRefs sig spec0),
    ((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2))⟩

/-- The frame. -/
theorem frame_run (hO : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of m h.1, h.2⟩) (run_main m ρ hO)

end Cert.HeadIdeal.Hand

end
-- ==== Proof.HeadPre.lean ====
/-
  What the precondition says: each row number is one of its sequence's 96 rows.
-/
module

public import proofs.«01_k».proof.Pre_in_range
public import Idealize.ShloMosaic.Lib.ReduceAll

@[expose] public section

noncomputable section

namespace Cert.Pre_in_range.Hand

open Cert.Pre_in_range
open Idealize.ShloMosaic

variable [Facts] {F : FTy → Type} [FloatOps F]

/-- A result of rank 0 has one index. -/
instance : Subsingleton S_.Idx := ⟨fun a b => funext fun i => i.elim0⟩

/-- The precondition, read off: as signed numbers the row numbers lie in `[0, 96)`, so as naturals below 96. -/
theorem toNat_lt (a0 : IVec S2 32) (a1 : FVec F S30x192x576 .f32) (a2 : FVec F S1x576 .f32) (a3 : IVec S576x49152 8) (a4 : FVec F S1x49152 .f32)
    (h : fn a0 a1 a2 a3 a4 = fun _ => 1#1) (x : S2.Idx) : (a0 x).toNat < 96 := by
  have e := Host.reduce_andi_all _ _ _ _ _ (congrFun h (fun i => i.elim0)) x
  have e1 : IntOp.andi (IntOp.cmpi .sge (a0 x) 0#32) (IntOp.cmpi .slt (a0 x) 96#32) = 1#1 := e
  have e2 : IntOp.cmpi .sge (a0 x) 0#32 = 1#1 ∧ IntOp.cmpi .slt (a0 x) 96#32 = 1#1 := by
    revert e1
    generalize IntOp.cmpi .sge (a0 x) 0#32 = p
    generalize IntOp.cmpi .slt (a0 x) 96#32 = q
    revert p q
    decide
  have l := IntOp.cmpi_sge.1 e2.1
  have u := IntOp.cmpi_slt.1 e2.2
  rw [show (0#32 : BitVec 32).toInt = 0 from rfl] at l
  rw [show (96#32 : BitVec 32).toInt = 96 from rfl] at u
  have := (a0 x).isLt
  rw [BitVec.toInt_eq_toNat_cond] at l u
  split at l <;> omega

end Cert.Pre_in_range.Hand

end
-- ==== Proof.HeadValue.lean ====
/-
  The logits the kernel leaves, as one formula over the extended reals: the normalised rows times the int8 columns of the
  embedding, times the column's scale.
-/
module

public import proofs.«01_k».proof.Proof.HeadIdealRun
public import Idealize.ShloMosaic.Lib.Pointwise.Contract
public import Idealize.ShloMosaic.Lib.ValueIdx

@[expose] public section

set_option maxRecDepth 16384

noncomputable section

namespace Cert.HeadIdeal.Hand

open Cert.HeadIdeal Cert.HeadIdeal.Gen
open Idealize.ShloMosaic Idealize.ShloMosaic.TcCoe Idealize.ShloMosaic.Tactic
open Idealize.SL.Sem
open Idealize.ShloMosaic.Pipeline (Dat Cfg Window)

/-- The rows after the final norm, as the product takes them. -/
def hid (v3 : Vec Ideal S2x576 .f32) (v4 : Vec Ideal S1x576 .f32) : FVec Ideal S2x576 .bf16 :=
  truncf .bf16 (mulf (divf v3 (broadcastTo S2x576 (sqrt (addf (divf (shapeCast S2x1
    (multiReduction .add [1] S2 (mulf v3 v3) 0x00000000#32 reduces_S2x576_S2 (.inl rfl) rfl) shapeCasts_S2_S2x1)
    (broadcast S2x1 (Scalar.ofBits .f32 0x44100000#32))) (broadcast S2x1 (Scalar.ofBits .f32 0x3727C5AC#32)))) broadcasts_S2x1_S2x576))
    (broadcastTo S2x576 v4 broadcasts_S1x576_S2x576)) bitsLt_bf16_f32

/-- One logit: row `b` of the normed rows against one column of the embedding and its scale. -/
def logit (h : FVec Ideal S2x576 .bf16) (w : Fin 576 → BitVec 8) (s : EReal) (b : Fin 2) : EReal :=
  (Ideal.ofBits .f32 0x00000000#32 + ∑ k : Fin 576, h (ix2 b k) * (FloatOps.sitofp .bf16 (w k) : Ideal .bf16)) * s

theorem logit_congr {h h' : FVec Ideal S2x576 .bf16} {w w' : Fin 576 → BitVec 8} {s s' : EReal} (b : Fin 2) (hh : h = h') (hw : w = w') (hs : s = s') :
    logit h w s b = logit h' w' s' b := by
  subst hh hw hs; rfl

/-- The payload at an index. -/
theorem pay_apply (v3 : Vec Ideal S2x576 .f32) (v4 : Vec Ideal S1x576 .f32) (v18 : Vec Ideal S576x8192 .i8) (v21 : Vec Ideal S1x8192 .f32)
    (b : Fin 2) (j : Fin 8192) :
    k0_pay1 v3 v4 v18 v21 (ix2 b j) = logit (hid v3 v4) (fun k => v18 (ix2 k j)) (v21 (ix2 0 j)) b := by
  have e1 : matmul dot_S2x576_S576x8192_S2x8192_1_0_0_1_n_n none (hid v3 v4) (sitofp .bf16 v18) (constant S2x8192 .f32 0x00000000#32) (ix2 b j)
      = Ideal.ofBits .f32 0x00000000#32 + ∑ k : Fin 576, hid v3 v4 (ix2 b k) * (FloatOps.sitofp .bf16 (v18 (ix2 k j)) : Ideal .bf16) := by
    refine (Ideal.matmul_apply₁_of dot_S2x576_S576x8192_S2x8192_1_0_0_1_n_n (a := 1) rfl (K := 576) rfl (hid v3 v4) (sitofp (F := Ideal) .bf16 v18 : FVec Ideal S576x8192 .bf16) _ (ix2 b j)
      (fun k => ix2 b k) (fun k => ix2 k j) ?_ ?_).trans rfl
    · intro k; funext a; fin_cases a <;> rfl
    · intro k; funext a; fin_cases a <;> rfl
  have e2 : broadcastTo S2x8192 v21 broadcasts_S1x8192_S2x8192 (ix2 b j) = v21 (ix2 0 j) := by
    show v21 _ = v21 _
    refine congrArg v21 (funext fun a => Fin.ext ?_)
    fin_cases a <;> rfl
  show matmul dot_S2x576_S576x8192_S2x8192_1_0_0_1_n_n none (hid v3 v4) (sitofp .bf16 v18) (constant S2x8192 .f32 0x00000000#32) (ix2 b j)
      * broadcastTo S2x8192 v21 broadcasts_S1x8192_S2x8192 (ix2 b j) = _
  rw [e1, e2]
  rfl

variable (m : (ℓ : Loc nD τ sig) → Buf (Elt Ideal) ℓ)

/-- The result: every logit. -/
def logits (rows : S2x576.Idx → EReal) (g : S1x576.Idx → EReal) (w : S576x49152.Idx → BitVec 8) (s : S1x49152.Idx → EReal) : S2x49152.Idx → EReal :=
  fun i => logit (hid rows g) (fun k => w (ix2 k (i 1))) (s (ix2 0 (i 1))) (i 0)

theorem logits_congr {r r' : S2x576.Idx → EReal} {g g' : S1x576.Idx → EReal} {w w' : S576x49152.Idx → BitVec 8} {s s' : S1x49152.Idx → EReal}
    (hr : r = r') (hg : g = g') (hw : w = w') (hs : s = s') : logits r g w s = logits r' g' w' s' := by
  subst hr hg hw hs; rfl

/-- Some contents of the table: a window's geometry is the same at all of them. -/
def adm0 : (pcfg0 (F := Ideal)).Adm := ⟨fun | ⟨0, _⟩ => fun _ => (0#32 : BitVec 32), trivial⟩

/-- The output's blocks cover the result. -/
theorem covers3 : ((cfgM m).win 3).Covers := (by decide +kernel : (win0 adm0 3).Covers)

theorem index0 (t : Fin (cfgM m).N) : ((cfgM m).win 0).index t = ![0, 0] :=
  (by decide +kernel : ∀ t : Fin grid0.N, (win0 adm0 0).index t = ![0, 0]) t
theorem index1 (t : Fin (cfgM m).N) : ((cfgM m).win 1).index t = ![0, t.val] :=
  (by decide +kernel : ∀ t : Fin grid0.N, (win0 adm0 1).index t = ![0, t.val]) t
theorem index2 (t : Fin (cfgM m).N) : ((cfgM m).win 2).index t = ![0, t.val] :=
  (by decide +kernel : ∀ t : Fin grid0.N, (win0 adm0 2).index t = ![0, t.val]) t
theorem index3 (t : Fin (cfgM m).N) : ((cfgM m).win 3).index t = ![0, t.val] :=
  (by decide +kernel : ∀ t : Fin grid0.N, (win0 adm0 3).index t = ![0, t.val]) t

/-- The column a block's lane is at. -/
def col (t : Fin 6) (j : Fin 8192) : Fin 49152 := ⟨t.val * 8192 + j.val, by omega⟩

/-- The norm's block is the norm. -/
theorem iblk0_apply (c : Dev nD) (t : Fin (cfgM m).N) (y : S1x576.Idx) : iblk m c 0 t y = m (((c : Dev nD) : Thread nD τ).loc main_arg2) y := by
  have hemb : (((cfgM m).win 0).blk t).view.emb y = y := by
    blk_ext [index0 m]
  exact congrArg _ hemb

/-- The embedding's block is a run of columns. -/
theorem iblk1_apply (c : Dev nD) (t : Fin (cfgM m).N) (k : Fin 576) (j : Fin 8192) :
    iblk m c 1 t (ix2 k j) = m (((c : Dev nD) : Thread nD τ).loc main_arg3) (ix2 k (col t j)) := by
  have hemb : (((cfgM m).win 1).blk t).view.emb (ix2 k j) = ix2 k (col t j) := by
    blk_ext [index1 m]
    rfl
  exact congrArg _ hemb

/-- The scale's block is the same run. -/
theorem iblk2_apply (c : Dev nD) (t : Fin (cfgM m).N) (j : Fin 8192) :
    iblk m c 2 t (ix2 0 j) = m (((c : Dev nD) : Thread nD τ).loc main_arg4) (ix2 0 (col t j)) := by
  have hemb : (((cfgM m).win 2).blk t).view.emb (ix2 0 j) = ix2 0 (col t j) := by
    blk_ext [index2 m]
    rfl
  exact congrArg _ hemb

/-- The kernel's result. -/
theorem arr3 (c : Dev nD) : (dats m 0 c).arrAt 3 (cfgM m).N
    = logits (rows m c) (m (((c : Dev nD) : Thread nD τ).loc main_arg2)) (m (((c : Dev nD) : Thread nD τ).loc main_arg3))
        (m (((c : Dev nD) : Thread nD τ).loc main_arg4)) := by
  refine (dats m 0 c).arrAt_eq_of_covers 3 _ (covers3 m) fun t hf y => ?_
  blk_simp
  rw [after3]
  suffices key : ∀ (b : Fin 2) (j : Fin 8192), outBlk m c t (ix2 b j)
      = logits (rows m c) (m ((c : Thread nD τ).loc main_arg2)) (m ((c : Thread nD τ).loc main_arg3)) (m ((c : Thread nD τ).loc main_arg4))
          ((((cfgM m).win 3).blk t).view.emb (ix2 b j)) by
    exact (congrArg (outBlk m c t) (eq_ix2 y)).trans ((key _ _).trans (congrArg (fun z => logits _ _ _ _ ((((cfgM m).win 3).blk t).view.emb z)) (eq_ix2 y).symm))
  intro b j
  have hemb : (((cfgM m).win 3).blk t).view.emb (ix2 b j) = ix2 b (col t j) := by
    blk_ext [index3 m]
    rfl
  rw [hemb]
  unfold outBlk
  refine (pay_apply _ _ _ _ b j).trans ?_
  have h0 : iblk m c 0 t = m ((c : Thread nD τ).loc main_arg2) := funext (iblk0_apply m c t)
  have h1 : (fun k => iblk m c 1 t (ix2 k j)) = fun k => m ((c : Thread nD τ).loc main_arg3) (ix2 k (col t j)) := funext fun k => iblk1_apply m c t k j
  exact logit_congr b (congrArg (hid (rows m c)) h0) h1 (iblk2_apply m c t j)

end Cert.HeadIdeal.Hand

end
-- ==== Proof.HeadRef.lean ====
/-
  The reference's side: the rows its host code gathers, and its one block of logits as the same formula.
-/
module

public import proofs.«01_k».proof.Proof.HeadValue
public import proofs.«01_k».proof.Proof.Gen.HeadRefIdeal.Value
public import Idealize.ShloMosaic.Lib.Claim
public import Idealize.ShloMosaic.Lib.Pipeline.ValueKit.Acc

@[expose] public section

set_option maxRecDepth 16384

noncomputable section

namespace Cert.HeadRefIdeal.Hand

open Cert.HeadRefIdeal Cert.HeadRefIdeal.Gen
open Idealize.ShloMosaic Idealize.ShloMosaic.TcCoe Idealize.ShloMosaic.Tactic
open Idealize.SL.Sem
open Idealize.ShloMosaic.Pipeline (Dat Cfg Window)

/-- The gather read at an index: the row its two start indices name, each read signed and clamped. -/
theorem gather_apply {α : Type} (x : S2x96x576.Idx → α) (idx : IVec S2x2 32) (b : Fin 2) (d : Fin 576) :
    Host.gather gather_S2x96x576_S2x2_S2x576_1_01_n_n_01_1_11576 x idx (ix2 b d)
      = x (ix3 ⟨min (idx (ix2 b 0)).toInt.toNat 1, by omega⟩ ⟨min (idx (ix2 b 1)).toInt.toNat 95, by omega⟩ d) := by
  unfold Host.gather
  congr 1
  funext a
  refine Fin.ext ?_
  show GatherDims.start gather_S2x96x576_S2x2_S2x576_1_01_n_n_01_1_11576 (ix2 b d) idx a
    + GatherDims.batchCoord gather_S2x96x576_S2x2_S2x576_1_01_n_n_01_1_11576 (ix2 b d) a
    + GatherDims.offCoord gather_S2x96x576_S2x2_S2x576_1_01_n_n_01_1_11576 (ix2 b d) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rw [GatherDims.batchCoord_eq_zero _ _ _ List.not_mem_nil]
  rcases h012 with rfl | rfl | rfl
  · rw [GatherDims.offCoord_eq_zero _ _ _ (fun h => ((GatherDims.mem_sKept _ _).mp h).1 (by decide : (0 : Fin 3) ∈ [(0 : Fin 3), 1]))]
    unfold GatherDims.start
    rw [dif_pos (show (0 : Fin 3) ∈ gather_S2x96x576_S2x2_S2x576_1_01_n_n_01_1_11576.startIndexMap from by decide)]
    rw [show GatherDims.siIdx gather_S2x96x576_S2x2_S2x576_1_01_n_n_01_1_11576 (ix2 b d) ⟨List.idxOf (0 : Fin 3) gather_S2x96x576_S2x2_S2x576_1_01_n_n_01_1_11576.startIndexMap, _⟩ = ix2 b 0 from by
      funext k; fin_cases k <;> rfl]
    rfl
  · rw [GatherDims.offCoord_eq_zero _ _ _ (fun h => ((GatherDims.mem_sKept _ _).mp h).1 (by decide : (1 : Fin 3) ∈ [(0 : Fin 3), 1]))]
    unfold GatherDims.start
    rw [dif_pos (show (1 : Fin 3) ∈ gather_S2x96x576_S2x2_S2x576_1_01_n_n_01_1_11576.startIndexMap from by decide)]
    rw [show GatherDims.siIdx gather_S2x96x576_S2x2_S2x576_1_01_n_n_01_1_11576 (ix2 b d) ⟨List.idxOf (1 : Fin 3) gather_S2x96x576_S2x2_S2x576_1_01_n_n_01_1_11576.startIndexMap, _⟩ = ix2 b 1 from by
      funext k; fin_cases k <;> rfl]
    rfl
  · unfold GatherDims.start
    rw [dif_neg (show ¬ (2 : Fin 3) ∈ gather_S2x96x576_S2x2_S2x576_1_01_n_n_01_1_11576.startIndexMap from by decide)]
    unfold GatherDims.offCoord
    rw [dif_pos (show (2 : Fin 3) ∈ gather_S2x96x576_S2x2_S2x576_1_01_n_n_01_1_11576.sKept from by decide)]
    simp only [Nat.zero_add]
    rfl

variable (m : (ℓ : Loc nD τ sig) → Buf (Elt Ideal) ℓ)

/-- A row number as the host indexes with it: negative ones count from the end. -/
def wrapped (n : BitVec 32) (a : S2.Idx → BitVec 32) : IVec S2 32 :=
  select (cmpi .slt a (broadcastInDim S2 ![] bcast_S_S2 (constantI S_ 32 0#32)))
    (addi a (broadcastInDim S2 ![] bcast_S_S2 (constantI S_ 32 n))) a

/-- The rows the host gathers, as its operations compose. -/
theorem V_rows (c : Dev nD) : V m c main_v17
    = Host.gather gather_S2x96x576_S2x2_S2x576_1_01_n_n_01_1_11576
        (shapeCast S2x96x576 (shapeCast S192x576 (extractStridedSlice S1x192x576 ![29, 0, 0] (m (c, main_arg1))
          slices_S30x192x576_S1x192x576_29_0_0) shapeCasts_S1x192x576_S192x576) shapeCasts_S192x576_S2x96x576)
        (concatenate S2x2 1 [⟨S2x1, broadcastInDim S2x1 ![0] bcast_S2_S2x1_0 (wrapped 2#32 (iotaInDim S2 32 0))⟩,
          ⟨S2x1, broadcastInDim S2x1 ![0] bcast_S2_S2x1_0 (wrapped 96#32 (m (c, main_arg0)))⟩] concatenates_S2x1_S2x1_S2x2_d1) := by
  show StableHlo.after hostOps0 (fun b => m (c, b)) main_v17 = _
  unfold hostOps0
  after_results_simp
  rfl

/-- A row number already in range is itself. -/
theorem wrapped_apply (n : BitVec 32) (a : S2.Idx → BitVec 32) (x : S2.Idx) (h : (a x).toNat < 96) : wrapped n a x = a x := by
  have hc : IntOp.cmpi .slt (a x) 0#32 ≠ 1#1 := by
    intro h'
    have l := IntOp.cmpi_slt.1 h'
    rw [show (0#32 : BitVec 32).toInt = 0 from rfl, BitVec.toInt_eq_toNat_cond] at l
    split at l <;> omega
  show (if IntOp.cmpi .slt (a x) 0#32 = 1#1 then _ else a x) = a x
  rw [if_neg hc]

/-- A vector as a column, read at a row. -/
theorem col_apply {α : Type} (w : S2.Idx → α) (b : Fin 2) : broadcastInDim S2x1 ![0] bcast_S2_S2x1_0 w (ix2 b 0) = w (ix1 b) := by
  show w _ = w _
  refine congrArg w (funext fun a => Fin.ext ?_)
  match a with
  | ⟨0, _⟩ => rfl

/-- Two columns side by side, read at the left one and -/
theorem cols_left {α : Type} (x y : S2x1.Idx → α) (b : Fin 2) :
    concatenate S2x2 1 [⟨S2x1, x⟩, ⟨S2x1, y⟩] concatenates_S2x1_S2x1_S2x2_d1 (ix2 b 0) = x (ix2 b 0) := by
  refine concatenate_pair_apply_left (t := S2x2) (s₁ := S2x1) (s₂ := S2x1) 1 x y _ (ix2 b 0) rfl (ix2 b 0) fun a => ?_
  match a with
  | ⟨0, _⟩ => rfl
  | ⟨1, _⟩ => rfl

/-- at the right one. -/
theorem cols_right {α : Type} (x y : S2x1.Idx → α) (b : Fin 2) :
    concatenate S2x2 1 [⟨S2x1, x⟩, ⟨S2x1, y⟩] concatenates_S2x1_S2x1_S2x2_d1 (ix2 b 1) = y (ix2 b 0) := by
  refine concatenate_pair_apply_right (t := S2x2) (s₁ := S2x1) (s₂ := S2x1) 1 x y _ (ix2 b 1) rfl rfl (ix2 b 0) (fun a h => ?_) ?_
  · match a, h with
    | ⟨0, _⟩, _ => rfl
    | ⟨1, _⟩, h => exact absurd rfl h
  · rfl

/-- So the host gathers, for each sequence, the row its number names. -/
theorem rows_eq (c : Dev nD) (hr : ∀ x : S2.Idx, (m (c, main_arg0) x : BitVec 32).toNat < 96) (b : Fin 2) (d : Fin 576) :
    V m c main_v17 (ix2 b d) = Cert.HeadIdeal.Hand.rowsOf (F := Ideal) (m (c, main_arg0)) (m (c, main_arg1)) (ix2 b d) := by
  rw [V_rows]
  refine (gather_apply _ _ b d).trans ?_
  have e0 : concatenate S2x2 1 [⟨S2x1, broadcastInDim S2x1 ![0] bcast_S2_S2x1_0 (wrapped 2#32 (iotaInDim S2 32 0))⟩,
      ⟨S2x1, broadcastInDim S2x1 ![0] bcast_S2_S2x1_0 (wrapped 96#32 (m (c, main_arg0)))⟩] concatenates_S2x1_S2x1_S2x2_d1 (ix2 b 0)
      = BitVec.ofNat 32 b.val := by
    rw [cols_left, col_apply]
    fin_cases b <;> rfl
  have e1 : concatenate S2x2 1 [⟨S2x1, broadcastInDim S2x1 ![0] bcast_S2_S2x1_0 (wrapped 2#32 (iotaInDim S2 32 0))⟩,
      ⟨S2x1, broadcastInDim S2x1 ![0] bcast_S2_S2x1_0 (wrapped 96#32 (m (c, main_arg0)))⟩] concatenates_S2x1_S2x1_S2x2_d1 (ix2 b 1)
      = m (c, main_arg0) (ix1 b) := by
    rw [cols_right, col_apply]
    exact wrapped_apply _ _ _ (hr (ix1 b))
  have hb : b.val < 2 := b.isLt
  have hd : d.val < 576 := d.isLt
  have hn := hr (ix1 b)
  have t0 : min (BitVec.ofNat 32 b.val).toInt.toNat 1 = b.val :=
    (by decide : ∀ b : Fin 2, min (BitVec.ofNat 32 b.val).toInt.toNat 1 = b.val) b
  have t1 : min (m (c, main_arg0) (ix1 b) : BitVec 32).toInt.toNat 95 = (m (c, main_arg0) (ix1 b) : BitVec 32).toNat := by
    rw [BitVec.toInt_eq_toNat_cond]; split <;> omega
  simp only [e0, e1, t0, t1]
  refine (shapeCast_apply _ _ _ (ix2 ⟨96 * b.val + (m (c, main_arg0) (ix1 b) : BitVec 32).toNat, by omega⟩ d) ?_).trans ?_
  · rw [Shape.rowMajor_val_two, Shape.rowMajor_val_three]
    show (96 * b.val + (m (c, main_arg0) (ix1 b) : BitVec 32).toNat) * 576 + d.val = (b.val * 96 + (m (c, main_arg0) (ix1 b) : BitVec 32).toNat) * 576 + d.val
    omega
  refine (shapeCast_apply _ _ _ (ix3 0 ⟨96 * b.val + (m (c, main_arg0) (ix1 b) : BitVec 32).toNat, by omega⟩ d) ?_).trans ?_
  · rw [Shape.rowMajor_val_two, Shape.rowMajor_val_three]
    show (0 * 192 + _) * 576 + d.val = (96 * b.val + (m (c, main_arg0) (ix1 b) : BitVec 32).toNat) * 576 + d.val
    rw [Nat.zero_mul, Nat.zero_add]
    rfl
  show m (c, main_arg1) _ = m (c, main_arg1) _
  refine congrArg (m (c, main_arg1)) (funext fun a => Fin.ext ?_)
  fin_cases a
  · rfl
  · show 0 + (96 * b.val + (m (c, main_arg0) (ix1 b) : BitVec 32).toNat) = (96 * b.val + (m (c, main_arg0) (ix1 b) : BitVec 32).toNat) % 192
    omega
  · show 0 + d.val = d.val
    omega

open Cert.HeadIdeal.Hand (hid logit logits)

/-- The reference's payload at an index. -/
theorem pay_apply (v0 : Vec Ideal S2x576 .f32) (v12 : Vec Ideal S1x576 .f32) (v16 : Vec Ideal S576x49152 .i8) (v19 : Vec Ideal S1x49152 .f32)
    (b : Fin 2) (j : Fin 49152) :
    k0_pay1 v0 v12 v16 v19 (ix2 b j) = logits v0 v12 v16 v19 (ix2 b j) := by
  have e0 : (shapeCast S2x576 v0 shapeCasts_S2x576_S2x576 : Vec Ideal S2x576 .f32) = v0 := shapeCast_self _ _
  have e1 : matmul dot_S2x576_S576x49152_S2x49152_1_0_0_1_n_n none (hid v0 v12) (sitofp .bf16 v16) (constant S2x49152 .f32 0x00000000#32) (ix2 b j)
      = Ideal.ofBits .f32 0x00000000#32 + ∑ k : Fin 576, hid v0 v12 (ix2 b k) * (FloatOps.sitofp .bf16 (v16 (ix2 k j)) : Ideal .bf16) := by
    refine (Ideal.matmul_apply₁_of dot_S2x576_S576x49152_S2x49152_1_0_0_1_n_n (a := 1) rfl (K := 576) rfl (hid v0 v12)
      (sitofp (F := Ideal) .bf16 v16 : FVec Ideal S576x49152 .bf16) _ (ix2 b j) (fun k => ix2 b k) (fun k => ix2 k j) ?_ ?_).trans rfl
    · intro k; funext a; fin_cases a <;> rfl
    · intro k; funext a; fin_cases a <;> rfl
  have e2 : broadcastTo S2x49152 v19 broadcasts_S1x49152_S2x49152 (ix2 b j) = v19 (ix2 0 j) := by
    show v19 _ = v19 _
    refine congrArg v19 (funext fun a => Fin.ext ?_)
    fin_cases a <;> rfl
  unfold k0_pay1
  simp only [e0]
  show matmul dot_S2x576_S576x49152_S2x49152_1_0_0_1_n_n none (hid v0 v12) (sitofp .bf16 v16) (constant S2x49152 .f32 0x00000000#32) (ix2 b j)
      * broadcastTo S2x49152 v19 broadcasts_S1x49152_S2x49152 (ix2 b j) = _
  rw [e1, e2]
  rfl

/-- At the grid's one point every window is its whole array. -/
theorem read_whole (t : Fin cfg0.N) : (cfg0.win 0).index t = ![0, 0] ∧ (cfg0.win 1).index t = ![0, 0] ∧ (cfg0.win 2).index t = ![0, 0]
    ∧ (cfg0.win 3).index t = ![0, 0] ∧ (cfg0.win 4).index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0]) t

theorem iblk0 (c : Dev nD) (t : Fin cfg0.N) : iblk m c 0 t = V m c main_v17 :=
  funext fun y => congrArg (V m c main_v17) (show ((cfg0.win 0).blk t).view.emb y = y by blk_ext [(read_whole t).1])
theorem iblk1 (c : Dev nD) (t : Fin cfg0.N) : iblk m c 1 t = m (c, main_arg2) :=
  (funext fun y => congrArg (V m c main_arg2) (show ((cfg0.win 1).blk t).view.emb y = y by blk_ext [(read_whole t).2.1])).trans (V_main_arg2 m c)
theorem iblk2 (c : Dev nD) (t : Fin cfg0.N) : iblk m c 2 t = m (c, main_arg3) :=
  (funext fun y => congrArg (V m c main_arg3) (show ((cfg0.win 2).blk t).view.emb y = y by blk_ext [(read_whole t).2.2.1])).trans (V_main_arg3 m c)
theorem iblk3 (c : Dev nD) (t : Fin cfg0.N) : iblk m c 3 t = m (c, main_arg4) :=
  (funext fun y => congrArg (V m c main_arg4) (show ((cfg0.win 3).blk t).view.emb y = y by blk_ext [(read_whole t).2.2.2.1])).trans (V_main_arg4 m c)

/-- The reference's result. -/
theorem arr4 (c : Dev nD) : (dats m 0 c).arrAt 4 cfg0.N
    = logits (V m c main_v17) (m (c, main_arg2)) (m (c, main_arg3)) (m (c, main_arg4)) := by
  refine (dats m 0 c).arrAt_eq_of_covers 4 _ (by decide +kernel) fun t hf y => ?_
  have hemb : ((cfg0.win 4).blk t).view.emb y = y := by blk_ext [(read_whole t).2.2.2.2]
  rw [hemb]
  blk_simp
  rw [after0_4]
  frame_out
  refine (congrArg _ (eq_ix2 y)).trans ((pay_apply _ _ _ _ _ _).trans ?_)
  rw [iblk0, iblk1, iblk2, iblk3]
  exact congrArg _ (eq_ix2 y).symm

end Cert.HeadRefIdeal.Hand

end
-- ==== Proof.lean ====
/- The certificate of the layers' call and of the head call: each terminates without fault and leaves its arguments and its semaphores
   as they were, over the machine's words and over the extended reals, and over the extended reals each leaves its reference's results.
   The mathematics is in proof/Proof/.
   The layers: LayersSpec and LayersChain (one layer and the thirty, as plain mathematics), LayersRun and LayersIdealRun (the run),
   LayersIdealVecA … LayersIdealProj (what one layer's body computes), LayersIdealChain and LayersIdealValue (what the kernel leaves),
   LayersRefStep … LayersRefIter (what the reference leaves), LayersPre (what the precondition says), LayersEq (the two side by side).
   The head: HeadRun and HeadIdealRun (the run), HeadValue (what the kernel leaves), HeadRef (what the reference leaves), HeadPre
   (what the precondition says). -/
module

public import proofs.«01_k».proof.Proof.Gen.Layers
public import proofs.«01_k».proof.Proof.Gen.Layers.Skeleton
public import proofs.«01_k».proof.Proof.Gen.Layers.Launch
public import proofs.«01_k».proof.Proof.Gen.Pre_counted
public import proofs.«01_k».proof.Proof.Gen.LayersIdeal.Skeleton
public import proofs.«01_k».proof.Proof.Gen.LayersIdeal.Launch
public import proofs.«01_k».proof.Proof.Gen.LayersRefIdeal.Run
public import proofs.«01_k».proof.Defs
public import proofs.«01_k».proof.Proof.Gen.Head
public import proofs.«01_k».proof.Proof.Gen.Head.Skeleton
public import proofs.«01_k».proof.Proof.Gen.Head.Launch
public import proofs.«01_k».proof.Proof.Gen.Head.Flash
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Flash
public import proofs.«01_k».proof.Proof.Gen.HeadRefIdeal
public import proofs.«01_k».proof.Proof.Gen.HeadRefIdeal.Skeleton
public import proofs.«01_k».proof.Proof.Gen.HeadRefIdeal.Launch
public import proofs.«01_k».proof.Proof.Gen.HeadRefIdeal.Points
public import proofs.«01_k».proof.Proof.Gen.HeadRefIdeal.Frame
public import proofs.«01_k».proof.Proof.Gen.HeadRefIdeal.Value
public import proofs.«01_k».proof.Proof.Gen.Pre_in_range
public import proofs.«01_k».proof.Proof.LayersFrame
public import proofs.«01_k».proof.Proof.LayersIdealFrame
public import proofs.«01_k».proof.Proof.LayersPre
public import proofs.«01_k».proof.Proof.LayersEq
public import proofs.«01_k».proof.Proof.HeadRun
public import proofs.«01_k».proof.Proof.HeadIdealRun
public import proofs.«01_k».proof.Proof.HeadPre
public import proofs.«01_k».proof.Proof.HeadValue
public import proofs.«01_k».proof.Proof.HeadRef
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The precondition on words. -/
theorem range_bits (m : (ℓ : Loc Cert.Head.nD Cert.Head.τ Cert.Head.sig) → Buf (Elt Bits) ℓ) (h : Cert.Pre_Head m) : Cert.Head.Hand.InRange m :=
  fun x => Cert.Pre_in_range.Hand.toNat_lt _ _ _ _ _ (h 0) x

/-- The precondition over the extended reals. -/
theorem range_ideal (m : (ℓ : Loc Cert.HeadIdeal.nD Cert.HeadIdeal.τ Cert.HeadIdeal.sig) → Buf (Elt Ideal) ℓ) (h : Cert.Pre_HeadIdeal m) :
    Cert.HeadIdeal.Hand.InRange m :=
  fun x => Cert.Pre_in_range.Hand.toNat_lt _ _ _ _ _ (h 0) x

/-- Kernel and reference leave the same logits. -/
theorem algebraic : Cert.algebraic_HeadIdeal_HeadRefIdeal := by
  intro m g m' g' hpre hargs
  have hr := range_ideal m hpre
  refine ⟨fun c => (Cert.HeadIdeal.Hand.dats m 0 c).arrAt 3 (Cert.HeadIdeal.Hand.cfgM m).N,
    (θ_run _ _ _).mono (fun r h c => ⟨(h.1 c).1 3, Cert.HeadIdeal.Hand.args_of m h.1 c⟩) (Cert.HeadIdeal.Hand.run_main m g hr),
    (θ_run _ _ _).mono (fun r h c => ⟨(h c).1.trans ?_, (h c).2⟩) (Cert.HeadRefIdeal.Value.run_blocks m' g')⟩
  obtain ⟨h0, h1, h2, h3, h4⟩ := hargs c
  refine (Cert.HeadRefIdeal.Hand.arr4 m' c).trans (Eq.trans ?_ (Cert.HeadIdeal.Hand.arr3 m c).symm)
  have hc : c = 0 := Subsingleton.elim _ _
  subst hc
  have hrows : Cert.HeadRefIdeal.Gen.V m' 0 Cert.HeadRefIdeal.main_v17 = Cert.HeadIdeal.Hand.rows m 0 := by
    funext y
    rw [eq_ix2 y]
    refine (Cert.HeadRefIdeal.Hand.rows_eq m' 0 (fun x => ?_) _ _).trans ?_
    · exact (congrArg (fun a : Cert.HeadIdeal.S2.Idx → BitVec 32 => (a x).toNat) h0).trans_lt (hr x)
    · exact congrArg₂ (fun a b => Cert.HeadIdeal.Hand.rowsOf (F := Ideal) a b _) h0 h1
  exact Cert.HeadIdeal.Hand.logits_congr hrows h2 h3 h4

/-- The layers' precondition over the extended reals. -/
theorem counted_ideal (m : (ℓ : Loc Cert.LayersIdeal.nD Cert.LayersIdeal.τ Cert.LayersIdeal.sig) → Buf (Elt Ideal) ℓ)
    (h : Cert.Pre_LayersIdeal_counted m) (c : Dev Cert.LayersIdeal.nD) (b : Fin 2) : 0 ≤ ((Cert.LayersIdeal.Hand.kargs m c).len b).toInt :=
  Cert.Pre_counted.Hand.nonneg _ _ _ _ _ _ _ _ _ _ _ _ _ _ _ _ _ _ (h c) (ix1 b)

/-- The layers' reference terminates and leaves its arguments and its semaphores (it has none) as they were. -/
theorem frame_layers_ref : Cert.quiescent_LayersRefIdeal := fun m g _ =>
  (θ_run _ _ _).mono (fun r h => ⟨fun c => (h c).2.2.2.2.2.2, sem_eq_zero_of_no_sems rfl r.2⟩) (Cert.LayersRefIdeal.Value.run m g)

/-- Kernel and reference leave the same six arrays after the layers. -/
theorem algebraic_layers : Cert.algebraic_LayersIdeal_LayersRefIdeal_pre_counted := by
  intro m g m' g' hpre hargs
  have hpos := counted_ideal m hpre
  refine ⟨fun c => (Cert.LayersIdeal.Hand.dats m 0 c).arrAt 17 (Cert.LayersIdeal.Hand.cfgM m).N,
    fun c => (Cert.LayersIdeal.Hand.dats m 0 c).arrAt 18 (Cert.LayersIdeal.Hand.cfgM m).N,
    fun c => (Cert.LayersIdeal.Hand.dats m 0 c).arrAt 19 (Cert.LayersIdeal.Hand.cfgM m).N,
    fun c => (Cert.LayersIdeal.Hand.dats m 0 c).arrAt 20 (Cert.LayersIdeal.Hand.cfgM m).N,
    fun c => (Cert.LayersIdeal.Hand.dats m 0 c).arrAt 21 (Cert.LayersIdeal.Hand.cfgM m).N,
    fun c => (Cert.LayersIdeal.Hand.dats m 0 c).arrAt 22 (Cert.LayersIdeal.Hand.cfgM m).N,
    (θ_run _ _ _).mono (fun r h c => ⟨(h.1 c).1 17, (h.1 c).1 18, (h.1 c).1 19, (h.1 c).1 20, (h.1 c).1 21, (h.1 c).1 22,
      Cert.LayersIdeal.Hand.args_of m h.1 c⟩) (Cert.LayersIdeal.Hand.run_main m g),
    (θ_run _ _ _).mono (fun r h c => ?_) (Cert.LayersRefIdeal.Value.run m' g')⟩
  obtain ⟨e24, e25, e28, e29, e32, e33, ea⟩ := h c
  obtain ⟨h0, h1, h2, h3, h4, h5, h6, h7, h8, h9, h10, h11, h12, h13, h14, h15, h16, h17⟩ := hargs c
  have hA : Cert.LayersRefIdeal.Hand.args m' c = Cert.LayersIdeal.Hand.kargs m c := Cert.LayersRefIdeal.Hand.args_ext
      (congrArg (fun (a : Cert.LayersIdeal.S2.Idx → BitVec 32) b => a (ix1 b)) h0)
      (congrArg (fun (a : FVec Ideal Cert.LayersIdeal.S192x576 .f32) q k => a (ix2 q k)) h1)
      (congrArg (fun (a : FVec Ideal Cert.LayersIdeal.S2x96x32 .f32) b s d => a (ix3 b s d)) h2)
      (congrArg (fun (a : FVec Ideal Cert.LayersIdeal.S2x96x32 .f32) b s d => a (ix3 b s d)) h3)
      (congrArg (fun (a : IVec Cert.LayersIdeal.S30x2x3x2048x64 8) n b k t d => a (ix5 n b k t d)) h4)
      (congrArg (fun (a : FVec Ideal Cert.LayersIdeal.S30x2x3x2048 .f32) n b k t => a (ix4 n b k t)) h5)
      (congrArg (fun (a : IVec Cert.LayersIdeal.S30x2x3x2048x64 8) n b k t d => a (ix5 n b k t d)) h6)
      (congrArg (fun (a : FVec Ideal Cert.LayersIdeal.S30x2x3x2048 .f32) n b k t => a (ix4 n b k t)) h7)
      (congrArg (fun (a : FVec Ideal Cert.LayersIdeal.S30x576 .f32) n k => a (ix2 n k)) h8)
      (congrArg (fun (a : FVec Ideal Cert.LayersIdeal.S30x576 .f32) n k => a (ix2 n k)) h9)
      (congrArg (fun (a : IVec Cert.LayersIdeal.S30x576x960 8) n k l => a (ix3 n k l)) h10)
      (congrArg (fun (a : FVec Ideal Cert.LayersIdeal.S30x960 .f32) n k => a (ix2 n k)) h11)
      (congrArg (fun (a : IVec Cert.LayersIdeal.S30x9x64x576 8) n h d l => a (ix4 n h d l)) h12)
      (congrArg (fun (a : FVec Ideal Cert.LayersIdeal.S30x576 .f32) n k => a (ix2 n k)) h13)
      (congrArg (fun (a : IVec Cert.LayersIdeal.S30x576x3072 8) n k l => a (ix3 n k l)) h14)
      (congrArg (fun (a : FVec Ideal Cert.LayersIdeal.S30x3072 .f32) n k => a (ix2 n k)) h15)
      (congrArg (fun (a : IVec Cert.LayersIdeal.S30x1536x576 8) n k l => a (ix3 n k l)) h16)
      (congrArg (fun (a : FVec Ideal Cert.LayersIdeal.S30x576 .f32) n k => a (ix2 n k)) h17)
  exact ⟨e24.trans ((Cert.LayersRefIdeal.Hand.v24_arr m' c).trans ((congrArg Cert.LayersIdeal.Hand.resA hA).trans (Cert.LayersIdeal.Hand.arr17 m c (hpos c)).symm)),
    e25.trans ((Cert.LayersRefIdeal.Hand.v25_arr m' c).trans ((congrArg Cert.LayersIdeal.Hand.oA hA).trans (Cert.LayersIdeal.Hand.arr18 m c (hpos c)).symm)),
    e28.trans ((Cert.LayersRefIdeal.Hand.v28_arr m' c).trans ((congrArg Cert.LayersIdeal.Hand.kcA hA).trans (Cert.LayersIdeal.Hand.arr19 m c (hpos c)).symm)),
    e29.trans ((Cert.LayersRefIdeal.Hand.v29_arr m' c).trans ((congrArg Cert.LayersIdeal.Hand.kcsA hA).trans (Cert.LayersIdeal.Hand.arr20 m c (hpos c)).symm)),
    e32.trans ((Cert.LayersRefIdeal.Hand.v32_arr m' c).trans ((congrArg Cert.LayersIdeal.Hand.vcA hA).trans (Cert.LayersIdeal.Hand.arr21 m c (hpos c)).symm)),
    e33.trans ((Cert.LayersRefIdeal.Hand.v33_arr m' c).trans ((congrArg Cert.LayersIdeal.Hand.vcsA hA).trans (Cert.LayersIdeal.Hand.arr22 m c (hpos c)).symm)), ea⟩

theorem claim : Cert.Claim := ⟨Cert.Layers.Gen.facts, Cert.LayersIdeal.Gen.facts, Cert.LayersRefIdeal.Gen.facts,
  Cert.Head.Gen.facts, Cert.HeadIdeal.Gen.facts, Cert.HeadRefIdeal.Gen.facts, Cert.Pre_counted.Gen.facts, Cert.Pre_in_range.Gen.facts,
  fun m ρ _ => Cert.Layers.Hand.frame_run m ρ,
  fun m ρ _ => Cert.LayersIdeal.Hand.frame_run m ρ,
  fun m ρ _ => Cert.LayersIdeal.Hand.frame_run m ρ,
  frame_layers_ref,
  fun m ρ _ => frame_layers_ref m ρ trivial,
  fun m ρ h => Cert.Head.Hand.frame_run m ρ (range_bits m h),
  fun m ρ h => Cert.HeadIdeal.Hand.frame_run m ρ (range_ideal m h),
  fun m ρ _ => Cert.HeadRefIdeal.Gen.frame m ρ,
  fun m ρ _ => Cert.HeadRefIdeal.Gen.frame m ρ,
  trivial,
  algebraic_layers,
  trivial,
  algebraic⟩

end Cert.Proof

end
